-- ==== Defs.lean ====
def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInReferenceIdeal (m : (ℓ : Loc Cert.AttnInReferenceIdeal.nD Cert.AttnInReferenceIdeal.τ Cert.AttnInReferenceIdeal.sig) → Buf (Elt Ideal) ℓ) : Prop :=
  True

def Pre_AttnWgrad (m : (ℓ : Loc Cert.AttnWgrad.nD Cert.AttnWgrad.τ Cert.AttnWgrad.sig) → Buf (Elt Bits) ℓ) : Prop :=
  True

def Pre_AttnWgradIdeal (m : (ℓ : Loc Cert.AttnWgradIdeal.nD Cert.AttnWgradIdeal.τ Cert.AttnWgradIdeal.sig) → Buf (Elt Ideal) ℓ) : Prop :=
  True

def Pre_AttnWgradReferenceIdeal (m : (ℓ : Loc Cert.AttnWgradReferenceIdeal.nD Cert.AttnWgradReferenceIdeal.τ Cert.AttnWgradReferenceIdeal.sig) → Buf (Elt Ideal) ℓ) : Prop :=
  True

def Pre_AttnDgrad (m : (ℓ : Loc Cert.AttnDgrad.nD Cert.AttnDgrad.τ Cert.AttnDgrad.sig) → Buf (Elt Bits) ℓ) : Prop :=
  True

def Pre_AttnDgradIdeal (m : (ℓ : Loc Cert.AttnDgradIdeal.nD Cert.AttnDgradIdeal.τ Cert.AttnDgradIdeal.sig) → Buf (Elt Ideal) ℓ) : Prop :=
  True

def Pre_AttnDgradReferenceIdeal (m : (ℓ : Loc Cert.AttnDgradReferenceIdeal.nD Cert.AttnDgradReferenceIdeal.τ Cert.AttnDgradReferenceIdeal.sig) → Buf (Elt Ideal) ℓ) : Prop :=
  True

def Pre_ConvAb (m : (ℓ : Loc Cert.ConvAb.nD Cert.ConvAb.τ Cert.ConvAb.sig) → Buf (Elt Bits) ℓ) : Prop :=
  True

def Pre_ConvAbIdeal (m : (ℓ : Loc Cert.ConvAbIdeal.nD Cert.ConvAbIdeal.τ Cert.ConvAbIdeal.sig) → Buf (Elt Ideal) ℓ) : Prop :=
  True

def Pre_ConvAbReferenceIdeal (m : (ℓ : Loc Cert.ConvAbReferenceIdeal.nD Cert.ConvAbReferenceIdeal.τ Cert.ConvAbReferenceIdeal.sig) → Buf (Elt Ideal) ℓ) : Prop :=
  True

def Pre_ConvZ (m : (ℓ : Loc Cert.ConvZ.nD Cert.ConvZ.τ Cert.ConvZ.sig) → Buf (Elt Bits) ℓ) : Prop :=
  True

def Pre_ConvZIdeal (m : (ℓ : Loc Cert.ConvZIdeal.nD Cert.ConvZIdeal.τ Cert.ConvZIdeal.sig) → Buf (Elt Ideal) ℓ) : Prop :=
  True

def Pre_ConvZReferenceIdeal (m : (ℓ : Loc Cert.ConvZReferenceIdeal.nD Cert.ConvZReferenceIdeal.τ Cert.ConvZReferenceIdeal.sig) → Buf (Elt Ideal) ℓ) : Prop :=
  True

def Pre_OutDgrad (m : (ℓ : Loc Cert.OutDgrad.nD Cert.OutDgrad.τ Cert.OutDgrad.sig) → Buf (Elt Bits) ℓ) : Prop :=
  True

def Pre_OutDgradIdeal (m : (ℓ : Loc Cert.OutDgradIdeal.nD Cert.OutDgradIdeal.τ Cert.OutDgradIdeal.sig) → Buf (Elt Ideal) ℓ) : Prop :=
  True

def Pre_OutDgradReferenceIdeal (m : (ℓ : Loc Cert.OutDgradReferenceIdeal.nD Cert.OutDgradReferenceIdeal.τ Cert.OutDgradReferenceIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradReferenceIdeal (m : (ℓ : Loc Cert.OutWgradReferenceIdeal.nD Cert.OutWgradReferenceIdeal.τ Cert.OutWgradReferenceIdeal.sig) → Buf (Elt Ideal) ℓ) : Prop :=
  True

def Pre_AbWgrad (m : (ℓ : Loc Cert.AbWgrad.nD Cert.AbWgrad.τ Cert.AbWgrad.sig) → Buf (Elt Bits) ℓ) : Prop :=
  True

def Pre_AbWgradIdeal (m : (ℓ : Loc Cert.AbWgradIdeal.nD Cert.AbWgradIdeal.τ Cert.AbWgradIdeal.sig) → Buf (Elt Ideal) ℓ) : Prop :=
  True

def Pre_AbWgradReferenceIdeal (m : (ℓ : Loc Cert.AbWgradReferenceIdeal.nD Cert.AbWgradReferenceIdeal.τ Cert.AbWgradReferenceIdeal.sig) → Buf (Elt Ideal) ℓ) : Prop :=
  True

def Pre_GateWgrad (m : (ℓ : Loc Cert.GateWgrad.nD Cert.GateWgrad.τ Cert.GateWgrad.sig) → Buf (Elt Bits) ℓ) : Prop :=
  True

def Pre_GateWgradIdeal (m : (ℓ : Loc Cert.GateWgradIdeal.nD Cert.GateWgradIdeal.τ Cert.GateWgradIdeal.sig) → Buf (Elt Ideal) ℓ) : Prop :=
  True

def Pre_GateWgradReferenceIdeal (m : (ℓ : Loc Cert.GateWgradReferenceIdeal.nD Cert.GateWgradReferenceIdeal.τ Cert.GateWgradReferenceIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdReferenceIdeal (m : (ℓ : Loc Cert.GateFwdReferenceIdeal.nD Cert.GateFwdReferenceIdeal.τ Cert.GateFwdReferenceIdeal.sig) → Buf (Elt Ideal) ℓ) : Prop :=
  True

def Pre_PostFwd (m : (ℓ : Loc Cert.PostFwd.nD Cert.PostFwd.τ Cert.PostFwd.sig) → Buf (Elt Bits) ℓ) : Prop :=
  True

def Pre_PostFwdIdeal (m : (ℓ : Loc Cert.PostFwdIdeal.nD Cert.PostFwdIdeal.τ Cert.PostFwdIdeal.sig) → Buf (Elt Ideal) ℓ) : Prop :=
  True

def Pre_PostFwdReferenceIdeal (m : (ℓ : Loc Cert.PostFwdReferenceIdeal.nD Cert.PostFwdReferenceIdeal.τ Cert.PostFwdReferenceIdeal.sig) → Buf (Elt Ideal) ℓ) : Prop :=
  True

def Pre_ConvDgrad (m : (ℓ : Loc Cert.ConvDgrad.nD Cert.ConvDgrad.τ Cert.ConvDgrad.sig) → Buf (Elt Bits) ℓ) : Prop :=
  True

def Pre_ConvDgradIdeal (m : (ℓ : Loc Cert.ConvDgradIdeal.nD Cert.ConvDgradIdeal.τ Cert.ConvDgradIdeal.sig) → Buf (Elt Ideal) ℓ) : Prop :=
  True

def Pre_ConvDgradReferenceIdeal (m : (ℓ : Loc Cert.ConvDgradReferenceIdeal.nD Cert.ConvDgradReferenceIdeal.τ Cert.ConvDgradReferenceIdeal.sig) → Buf (Elt Ideal) ℓ) : Prop :=
  True

def Pre_PlePost (m : (ℓ : Loc Cert.PlePost.nD Cert.PlePost.τ Cert.PlePost.sig) → Buf (Elt Bits) ℓ) : Prop :=
  True

def Pre_PlePostIdeal (m : (ℓ : Loc Cert.PlePostIdeal.nD Cert.PlePostIdeal.τ Cert.PlePostIdeal.sig) → Buf (Elt Ideal) ℓ) : Prop :=
  True

def Pre_PlePostReferenceIdeal (m : (ℓ : Loc Cert.PlePostReferenceIdeal.nD Cert.PlePostReferenceIdeal.τ Cert.PlePostReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormReferenceIdeal (m : (ℓ : Loc Cert.AdamNormReferenceIdeal.nD Cert.AdamNormReferenceIdeal.τ Cert.AdamNormReferenceIdeal.sig) → Buf (Elt Ideal) ℓ) : Prop :=
  True

def Pre_AdamAttnIn (m : (ℓ : Loc Cert.AdamAttnIn.nD Cert.AdamAttnIn.τ Cert.AdamAttnIn.sig) → Buf (Elt Bits) ℓ) : Prop :=
  True

def Pre_AdamAttnInIdeal (m : (ℓ : Loc Cert.AdamAttnInIdeal.nD Cert.AdamAttnInIdeal.τ Cert.AdamAttnInIdeal.sig) → Buf (Elt Ideal) ℓ) : Prop :=
  True

def Pre_AdamAttnInReferenceIdeal (m : (ℓ : Loc Cert.AdamAttnInReferenceIdeal.nD Cert.AdamAttnInReferenceIdeal.τ Cert.AdamAttnInReferenceIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamConvIn (m : (ℓ : Loc Cert.AdamConvIn.nD Cert.AdamConvIn.τ Cert.AdamConvIn.sig) → Buf (Elt Bits) ℓ) : Prop :=
  True

def Pre_AdamConvInIdeal (m : (ℓ : Loc Cert.AdamConvInIdeal.nD Cert.AdamConvInIdeal.τ Cert.AdamConvInIdeal.sig) → Buf (Elt Ideal) ℓ) : Prop :=
  True

def Pre_AdamConvInReferenceIdeal (m : (ℓ : Loc Cert.AdamConvInReferenceIdeal.nD Cert.AdamConvInReferenceIdeal.τ Cert.AdamConvInReferenceIdeal.sig) → Buf (Elt Ideal) ℓ) : Prop :=
  True

def Pre_AdamConvTaps (m : (ℓ : Loc Cert.AdamConvTaps.nD Cert.AdamConvTaps.τ Cert.AdamConvTaps.sig) → Buf (Elt Bits) ℓ) : Prop :=
  True

def Pre_AdamConvTapsIdeal (m : (ℓ : Loc Cert.AdamConvTapsIdeal.nD Cert.AdamConvTapsIdeal.τ Cert.AdamConvTapsIdeal.sig) → Buf (Elt Ideal) ℓ) : Prop :=
  True

def Pre_AdamConvTapsReferenceIdeal (m : (ℓ : Loc Cert.AdamConvTapsReferenceIdeal.nD Cert.AdamConvTapsReferenceIdeal.τ Cert.AdamConvTapsReferenceIdeal.sig) → Buf (Elt Ideal) ℓ) : Prop :=
  True

def Pre_AdamConvRow (m : (ℓ : Loc Cert.AdamConvRow.nD Cert.AdamConvRow.τ Cert.AdamConvRow.sig) → Buf (Elt Bits) ℓ) : Prop :=
  True

def Pre_AdamConvRowIdeal (m : (ℓ : Loc Cert.AdamConvRowIdeal.nD Cert.AdamConvRowIdeal.τ Cert.AdamConvRowIdeal.sig) → Buf (Elt Ideal) ℓ) : Prop :=
  True

def Pre_AdamConvRowReferenceIdeal (m : (ℓ : Loc Cert.AdamConvRowReferenceIdeal.nD Cert.AdamConvRowReferenceIdeal.τ Cert.AdamConvRowReferenceIdeal.sig) → Buf (Elt Ideal) ℓ) : Prop :=
  True

def Pre_AdamPleProj (m : (ℓ : Loc Cert.AdamPleProj.nD Cert.AdamPleProj.τ Cert.AdamPleProj.sig) → Buf (Elt Bits) ℓ) : Prop :=
  True

def Pre_AdamPleProjIdeal (m : (ℓ : Loc Cert.AdamPleProjIdeal.nD Cert.AdamPleProjIdeal.τ Cert.AdamPleProjIdeal.sig) → Buf (Elt Ideal) ℓ) : Prop :=
  True

def Pre_AdamPleProjReferenceIdeal (m : (ℓ : Loc Cert.AdamPleProjReferenceIdeal.nD Cert.AdamPleProjReferenceIdeal.τ Cert.AdamPleProjReferenceIdeal.sig) → Buf (Elt Ideal) ℓ) : Prop :=
  True

def Pre_AdamPleGate (m : (ℓ : Loc Cert.AdamPleGate.nD Cert.AdamPleGate.τ Cert.AdamPleGate.sig) → Buf (Elt Bits) ℓ) : Prop :=
  True

def Pre_AdamPleGateIdeal (m : (ℓ : Loc Cert.AdamPleGateIdeal.nD Cert.AdamPleGateIdeal.τ Cert.AdamPleGateIdeal.sig) → Buf (Elt Ideal) ℓ) : Prop :=
  True

def Pre_AdamPleGateReferenceIdeal (m : (ℓ : Loc Cert.AdamPleGateReferenceIdeal.nD Cert.AdamPleGateReferenceIdeal.τ Cert.AdamPleGateReferenceIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjReferenceIdeal (m : (ℓ : Loc Cert.PleProjReferenceIdeal.nD Cert.PleProjReferenceIdeal.τ Cert.PleProjReferenceIdeal.sig) → Buf (Elt Ideal) ℓ) : Prop :=
  True

def Pre_PleWgrad (m : (ℓ : Loc Cert.PleWgrad.nD Cert.PleWgrad.τ Cert.PleWgrad.sig) → Buf (Elt Bits) ℓ) : Prop :=
  True

def Pre_PleWgradIdeal (m : (ℓ : Loc Cert.PleWgradIdeal.nD Cert.PleWgradIdeal.τ Cert.PleWgradIdeal.sig) → Buf (Elt Ideal) ℓ) : Prop :=
  True

def Pre_PleWgradReferenceIdeal (m : (ℓ : Loc Cert.PleWgradReferenceIdeal.nD Cert.PleWgradReferenceIdeal.τ Cert.PleWgradReferenceIdeal.sig) → Buf (Elt Ideal) ℓ) : Prop :=
  True

def Pre_RmsNorm (m : (ℓ : Loc Cert.RmsNorm.nD Cert.RmsNorm.τ Cert.RmsNorm.sig) → Buf (Elt Bits) ℓ) : Prop :=
  True

def Pre_RmsNormIdeal (m : (ℓ : Loc Cert.RmsNormIdeal.nD Cert.RmsNormIdeal.τ Cert.RmsNormIdeal.sig) → Buf (Elt Ideal) ℓ) : Prop :=
  True

def Pre_RmsNormReferenceIdeal (m : (ℓ : Loc Cert.RmsNormReferenceIdeal.nD Cert.RmsNormReferenceIdeal.τ Cert.RmsNormReferenceIdeal.sig) → Buf (Elt Ideal) ℓ) : Prop :=
  True

def Pre_LossSum (m : (ℓ : Loc Cert.LossSum.nD Cert.LossSum.τ Cert.LossSum.sig) → Buf (Elt Bits) ℓ) : Prop :=
  True

def Pre_LossSumIdeal (m : (ℓ : Loc Cert.LossSumIdeal.nD Cert.LossSumIdeal.τ Cert.LossSumIdeal.sig) → Buf (Elt Ideal) ℓ) : Prop :=
  True

def Pre_LossSumReferenceIdeal (m : (ℓ : Loc Cert.LossSumReferenceIdeal.nD Cert.LossSumReferenceIdeal.τ Cert.LossSumReferenceIdeal.sig) → Buf (Elt Ideal) ℓ) : Prop :=
  True

def Pre_AttnCombine (m : (ℓ : Loc Cert.AttnCombine.nD Cert.AttnCombine.τ Cert.AttnCombine.sig) → Buf (Elt Bits) ℓ) : Prop :=
  True

def Pre_AttnCombineIdeal (m : (ℓ : Loc Cert.AttnCombineIdeal.nD Cert.AttnCombineIdeal.τ Cert.AttnCombineIdeal.sig) → Buf (Elt Ideal) ℓ) : Prop :=
  True

def Pre_AttnCombineIdeal_finite_logsums [hPre_finite_logsums : Cert.Pre_finite_logsums.Facts] (m : (ℓ : Loc Cert.AttnCombineIdeal.nD Cert.AttnCombineIdeal.τ Cert.AttnCombineIdeal.sig) → Buf (Elt Ideal) ℓ) : Prop :=
  ∀ c : Dev Cert.AttnCombineIdeal.nD,
    (Cert.Pre_finite_logsums.fn (F := Ideal) (m ((c.tc : Thread Cert.AttnCombineIdeal.nD Cert.AttnCombineIdeal.τ).loc Cert.AttnCombineIdeal.main_arg0)) (m ((c.tc : Thread Cert.AttnCombineIdeal.nD Cert.AttnCombineIdeal.τ).loc Cert.AttnCombineIdeal.main_arg1)) (m ((c.tc : Thread Cert.AttnCombineIdeal.nD Cert.AttnCombineIdeal.τ).loc Cert.AttnCombineIdeal.main_arg2)) (m ((c.tc : Thread Cert.AttnCombineIdeal.nD Cert.AttnCombineIdeal.τ).loc Cert.AttnCombineIdeal.main_arg3)) (m ((c.tc : Thread Cert.AttnCombineIdeal.nD Cert.AttnCombineIdeal.τ).loc Cert.AttnCombineIdeal.main_arg4)) (m ((c.tc : Thread Cert.AttnCombineIdeal.nD Cert.AttnCombineIdeal.τ).loc Cert.AttnCombineIdeal.main_arg5)) (m ((c.tc : Thread Cert.AttnCombineIdeal.nD Cert.AttnCombineIdeal.τ).loc Cert.AttnCombineIdeal.main_arg6))).1 = (fun _ => 1#1)
    ∧ (Cert.Pre_finite_logsums.fn (F := Ideal) (m ((c.tc : Thread Cert.AttnCombineIdeal.nD Cert.AttnCombineIdeal.τ).loc Cert.AttnCombineIdeal.main_arg0)) (m ((c.tc : Thread Cert.AttnCombineIdeal.nD Cert.AttnCombineIdeal.τ).loc Cert.AttnCombineIdeal.main_arg1)) (m ((c.tc : Thread Cert.AttnCombineIdeal.nD Cert.AttnCombineIdeal.τ).loc Cert.AttnCombineIdeal.main_arg2)) (m ((c.tc : Thread Cert.AttnCombineIdeal.nD Cert.AttnCombineIdeal.τ).loc Cert.AttnCombineIdeal.main_arg3)) (m ((c.tc : Thread Cert.AttnCombineIdeal.nD Cert.AttnCombineIdeal.τ).loc Cert.AttnCombineIdeal.main_arg4)) (m ((c.tc : Thread Cert.AttnCombineIdeal.nD Cert.AttnCombineIdeal.τ).loc Cert.AttnCombineIdeal.main_arg5)) (m ((c.tc : Thread Cert.AttnCombineIdeal.nD Cert.AttnCombineIdeal.τ).loc Cert.AttnCombineIdeal.main_arg6))).2.1 = (fun _ => 1#1)
    ∧ (Cert.Pre_finite_logsums.fn (F := Ideal) (m ((c.tc : Thread Cert.AttnCombineIdeal.nD Cert.AttnCombineIdeal.τ).loc Cert.AttnCombineIdeal.main_arg0)) (m ((c.tc : Thread Cert.AttnCombineIdeal.nD Cert.AttnCombineIdeal.τ).loc Cert.AttnCombineIdeal.main_arg1)) (m ((c.tc : Thread Cert.AttnCombineIdeal.nD Cert.AttnCombineIdeal.τ).loc Cert.AttnCombineIdeal.main_arg2)) (m ((c.tc : Thread Cert.AttnCombineIdeal.nD Cert.AttnCombineIdeal.τ).loc Cert.AttnCombineIdeal.main_arg3)) (m ((c.tc : Thread Cert.AttnCombineIdeal.nD Cert.AttnCombineIdeal.τ).loc Cert.AttnCombineIdeal.main_arg4)) (m ((c.tc : Thread Cert.AttnCombineIdeal.nD Cert.AttnCombineIdeal.τ).loc Cert.AttnCombineIdeal.main_arg5)) (m ((c.tc : Thread Cert.AttnCombineIdeal.nD Cert.AttnCombineIdeal.τ).loc Cert.AttnCombineIdeal.main_arg6))).2.2 = (fun _ => 1#1)

def Pre_AttnCombineReferenceIdeal (m : (ℓ : Loc Cert.AttnCombineReferenceIdeal.nD Cert.AttnCombineReferenceIdeal.τ Cert.AttnCombineReferenceIdeal.sig) → Buf (Elt Ideal) ℓ) : Prop :=
  True

def Pre_AttnCombineReferenceIdeal_finite_logsums [hPre_finite_logsums : Cert.Pre_finite_logsums.Facts] (m : (ℓ : Loc Cert.AttnCombineReferenceIdeal.nD Cert.AttnCombineReferenceIdeal.τ Cert.AttnCombineReferenceIdeal.sig) → Buf (Elt Ideal) ℓ) : Prop :=
  ∀ c : Dev Cert.AttnCombineReferenceIdeal.nD,
    (Cert.Pre_finite_logsums.fn (F := Ideal) (m ((c.tc : Thread Cert.AttnCombineReferenceIdeal.nD Cert.AttnCombineReferenceIdeal.τ).loc Cert.AttnCombineReferenceIdeal.main_arg0)) (m ((c.tc : Thread Cert.AttnCombineReferenceIdeal.nD Cert.AttnCombineReferenceIdeal.τ).loc Cert.AttnCombineReferenceIdeal.main_arg1)) (m ((c.tc : Thread Cert.AttnCombineReferenceIdeal.nD Cert.AttnCombineReferenceIdeal.τ).loc Cert.AttnCombineReferenceIdeal.main_arg2)) (m ((c.tc : Thread Cert.AttnCombineReferenceIdeal.nD Cert.AttnCombineReferenceIdeal.τ).loc Cert.AttnCombineReferenceIdeal.main_arg3)) (m ((c.tc : Thread Cert.AttnCombineReferenceIdeal.nD Cert.AttnCombineReferenceIdeal.τ).loc Cert.AttnCombineReferenceIdeal.main_arg4)) (m ((c.tc : Thread Cert.AttnCombineReferenceIdeal.nD Cert.AttnCombineReferenceIdeal.τ).loc Cert.AttnCombineReferenceIdeal.main_arg5)) (m ((c.tc : Thread Cert.AttnCombineReferenceIdeal.nD Cert.AttnCombineReferenceIdeal.τ).loc Cert.AttnCombineReferenceIdeal.main_arg6))).1 = (fun _ => 1#1)
    ∧ (Cert.Pre_finite_logsums.fn (F := Ideal) (m ((c.tc : Thread Cert.AttnCombineReferenceIdeal.nD Cert.AttnCombineReferenceIdeal.τ).loc Cert.AttnCombineReferenceIdeal.main_arg0)) (m ((c.tc : Thread Cert.AttnCombineReferenceIdeal.nD Cert.AttnCombineReferenceIdeal.τ).loc Cert.AttnCombineReferenceIdeal.main_arg1)) (m ((c.tc : Thread Cert.AttnCombineReferenceIdeal.nD Cert.AttnCombineReferenceIdeal.τ).loc Cert.AttnCombineReferenceIdeal.main_arg2)) (m ((c.tc : Thread Cert.AttnCombineReferenceIdeal.nD Cert.AttnCombineReferenceIdeal.τ).loc Cert.AttnCombineReferenceIdeal.main_arg3)) (m ((c.tc : Thread Cert.AttnCombineReferenceIdeal.nD Cert.AttnCombineReferenceIdeal.τ).loc Cert.AttnCombineReferenceIdeal.main_arg4)) (m ((c.tc : Thread Cert.AttnCombineReferenceIdeal.nD Cert.AttnCombineReferenceIdeal.τ).loc Cert.AttnCombineReferenceIdeal.main_arg5)) (m ((c.tc : Thread Cert.AttnCombineReferenceIdeal.nD Cert.AttnCombineReferenceIdeal.τ).loc Cert.AttnCombineReferenceIdeal.main_arg6))).2.1 = (fun _ => 1#1)
    ∧ (Cert.Pre_finite_logsums.fn (F := Ideal) (m ((c.tc : Thread Cert.AttnCombineReferenceIdeal.nD Cert.AttnCombineReferenceIdeal.τ).loc Cert.AttnCombineReferenceIdeal.main_arg0)) (m ((c.tc : Thread Cert.AttnCombineReferenceIdeal.nD Cert.AttnCombineReferenceIdeal.τ).loc Cert.AttnCombineReferenceIdeal.main_arg1)) (m ((c.tc : Thread Cert.AttnCombineReferenceIdeal.nD Cert.AttnCombineReferenceIdeal.τ).loc Cert.AttnCombineReferenceIdeal.main_arg2)) (m ((c.tc : Thread Cert.AttnCombineReferenceIdeal.nD Cert.AttnCombineReferenceIdeal.τ).loc Cert.AttnCombineReferenceIdeal.main_arg3)) (m ((c.tc : Thread Cert.AttnCombineReferenceIdeal.nD Cert.AttnCombineReferenceIdeal.τ).loc Cert.AttnCombineReferenceIdeal.main_arg4)) (m ((c.tc : Thread Cert.AttnCombineReferenceIdeal.nD Cert.AttnCombineReferenceIdeal.τ).loc Cert.AttnCombineReferenceIdeal.main_arg5)) (m ((c.tc : Thread Cert.AttnCombineReferenceIdeal.nD Cert.AttnCombineReferenceIdeal.τ).loc Cert.AttnCombineReferenceIdeal.main_arg6))).2.2 = (fun _ => 1#1)

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_finite_product [hPre_finite_product : Cert.Pre_finite_product.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_finite_product.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2))) = (fun _ => 1#1)

def Pre_GateBwdReferenceIdeal (m : (ℓ : Loc Cert.GateBwdReferenceIdeal.nD Cert.GateBwdReferenceIdeal.τ Cert.GateBwdReferenceIdeal.sig) → Buf (Elt Ideal) ℓ) : Prop :=
  True

def Pre_GateBwdReferenceIdeal_finite_product [hPre_finite_product : Cert.Pre_finite_product.Facts] (m : (ℓ : Loc Cert.GateBwdReferenceIdeal.nD Cert.GateBwdReferenceIdeal.τ Cert.GateBwdReferenceIdeal.sig) → Buf (Elt Ideal) ℓ) : Prop :=
  ∀ c : Dev Cert.GateBwdReferenceIdeal.nD,
    (Cert.Pre_finite_product.fn (F := Ideal) (m ((c.tc : Thread Cert.GateBwdReferenceIdeal.nD Cert.GateBwdReferenceIdeal.τ).loc Cert.GateBwdReferenceIdeal.main_arg0)) (m ((c.tc : Thread Cert.GateBwdReferenceIdeal.nD Cert.GateBwdReferenceIdeal.τ).loc Cert.GateBwdReferenceIdeal.main_arg1)) (m ((c.tc : Thread Cert.GateBwdReferenceIdeal.nD Cert.GateBwdReferenceIdeal.τ).loc Cert.GateBwdReferenceIdeal.main_arg2))) = (fun _ => 1#1)

def Pre_ConvNormBwd (m : (ℓ : Loc Cert.ConvNormBwd.nD Cert.ConvNormBwd.τ Cert.ConvNormBwd.sig) → Buf (Elt Bits) ℓ) : Prop :=
  True

def Pre_ConvNormBwdIdeal (m : (ℓ : Loc Cert.ConvNormBwdIdeal.nD Cert.ConvNormBwdIdeal.τ Cert.ConvNormBwdIdeal.sig) → Buf (Elt Ideal) ℓ) : Prop :=
  True

def Pre_ConvNormBwdIdeal_finite_rows [hPre_finite_rows : Cert.Pre_finite_rows.Facts] (m : (ℓ : Loc Cert.ConvNormBwdIdeal.nD Cert.ConvNormBwdIdeal.τ Cert.ConvNormBwdIdeal.sig) → Buf (Elt Ideal) ℓ) : Prop :=
  ∀ c : Dev Cert.ConvNormBwdIdeal.nD,
    (Cert.Pre_finite_rows.fn (F := Ideal) (m ((c.tc : Thread Cert.ConvNormBwdIdeal.nD Cert.ConvNormBwdIdeal.τ).loc Cert.ConvNormBwdIdeal.main_arg0)) (m ((c.tc : Thread Cert.ConvNormBwdIdeal.nD Cert.ConvNormBwdIdeal.τ).loc Cert.ConvNormBwdIdeal.main_arg1)) (m ((c.tc : Thread Cert.ConvNormBwdIdeal.nD Cert.ConvNormBwdIdeal.τ).loc Cert.ConvNormBwdIdeal.main_arg2)) (m ((c.tc : Thread Cert.ConvNormBwdIdeal.nD Cert.ConvNormBwdIdeal.τ).loc Cert.ConvNormBwdIdeal.main_arg3)) (m ((c.tc : Thread Cert.ConvNormBwdIdeal.nD Cert.ConvNormBwdIdeal.τ).loc Cert.ConvNormBwdIdeal.main_arg4))).1 = (fun _ => 1#1)
    ∧ (Cert.Pre_finite_rows.fn (F := Ideal) (m ((c.tc : Thread Cert.ConvNormBwdIdeal.nD Cert.ConvNormBwdIdeal.τ).loc Cert.ConvNormBwdIdeal.main_arg0)) (m ((c.tc : Thread Cert.ConvNormBwdIdeal.nD Cert.ConvNormBwdIdeal.τ).loc Cert.ConvNormBwdIdeal.main_arg1)) (m ((c.tc : Thread Cert.ConvNormBwdIdeal.nD Cert.ConvNormBwdIdeal.τ).loc Cert.ConvNormBwdIdeal.main_arg2)) (m ((c.tc : Thread Cert.ConvNormBwdIdeal.nD Cert.ConvNormBwdIdeal.τ).loc Cert.ConvNormBwdIdeal.main_arg3)) (m ((c.tc : Thread Cert.ConvNormBwdIdeal.nD Cert.ConvNormBwdIdeal.τ).loc Cert.ConvNormBwdIdeal.main_arg4))).2.1 = (fun _ => 1#1)
    ∧ (Cert.Pre_finite_rows.fn (F := Ideal) (m ((c.tc : Thread Cert.ConvNormBwdIdeal.nD Cert.ConvNormBwdIdeal.τ).loc Cert.ConvNormBwdIdeal.main_arg0)) (m ((c.tc : Thread Cert.ConvNormBwdIdeal.nD Cert.ConvNormBwdIdeal.τ).loc Cert.ConvNormBwdIdeal.main_arg1)) (m ((c.tc : Thread Cert.ConvNormBwdIdeal.nD Cert.ConvNormBwdIdeal.τ).loc Cert.ConvNormBwdIdeal.main_arg2)) (m ((c.tc : Thread Cert.ConvNormBwdIdeal.nD Cert.ConvNormBwdIdeal.τ).loc Cert.ConvNormBwdIdeal.main_arg3)) (m ((c.tc : Thread Cert.ConvNormBwdIdeal.nD Cert.ConvNormBwdIdeal.τ).loc Cert.ConvNormBwdIdeal.main_arg4))).2.2.1 = (fun _ => 1#1)
    ∧ (Cert.Pre_finite_rows.fn (F := Ideal) (m ((c.tc : Thread Cert.ConvNormBwdIdeal.nD Cert.ConvNormBwdIdeal.τ).loc Cert.ConvNormBwdIdeal.main_arg0)) (m ((c.tc : Thread Cert.ConvNormBwdIdeal.nD Cert.ConvNormBwdIdeal.τ).loc Cert.ConvNormBwdIdeal.main_arg1)) (m ((c.tc : Thread Cert.ConvNormBwdIdeal.nD Cert.ConvNormBwdIdeal.τ).loc Cert.ConvNormBwdIdeal.main_arg2)) (m ((c.tc : Thread Cert.ConvNormBwdIdeal.nD Cert.ConvNormBwdIdeal.τ).loc Cert.ConvNormBwdIdeal.main_arg3)) (m ((c.tc : Thread Cert.ConvNormBwdIdeal.nD Cert.ConvNormBwdIdeal.τ).loc Cert.ConvNormBwdIdeal.main_arg4))).2.2.2.1 = (fun _ => 1#1)
    ∧ (Cert.Pre_finite_rows.fn (F := Ideal) (m ((c.tc : Thread Cert.ConvNormBwdIdeal.nD Cert.ConvNormBwdIdeal.τ).loc Cert.ConvNormBwdIdeal.main_arg0)) (m ((c.tc : Thread Cert.ConvNormBwdIdeal.nD Cert.ConvNormBwdIdeal.τ).loc Cert.ConvNormBwdIdeal.main_arg1)) (m ((c.tc : Thread Cert.ConvNormBwdIdeal.nD Cert.ConvNormBwdIdeal.τ).loc Cert.ConvNormBwdIdeal.main_arg2)) (m ((c.tc : Thread Cert.ConvNormBwdIdeal.nD Cert.ConvNormBwdIdeal.τ).loc Cert.ConvNormBwdIdeal.main_arg3)) (m ((c.tc : Thread Cert.ConvNormBwdIdeal.nD Cert.ConvNormBwdIdeal.τ).loc Cert.ConvNormBwdIdeal.main_arg4))).2.2.2.2 = (fun _ => 1#1)

def Pre_ConvNormBwdReferenceIdeal (m : (ℓ : Loc Cert.ConvNormBwdReferenceIdeal.nD Cert.ConvNormBwdReferenceIdeal.τ Cert.ConvNormBwdReferenceIdeal.sig) → Buf (Elt Ideal) ℓ) : Prop :=
  True

def Pre_ConvNormBwdReferenceIdeal_finite_rows [hPre_finite_rows : Cert.Pre_finite_rows.Facts] (m : (ℓ : Loc Cert.ConvNormBwdReferenceIdeal.nD Cert.ConvNormBwdReferenceIdeal.τ Cert.ConvNormBwdReferenceIdeal.sig) → Buf (Elt Ideal) ℓ) : Prop :=
  ∀ c : Dev Cert.ConvNormBwdReferenceIdeal.nD,
    (Cert.Pre_finite_rows.fn (F := Ideal) (m ((c.tc : Thread Cert.ConvNormBwdReferenceIdeal.nD Cert.ConvNormBwdReferenceIdeal.τ).loc Cert.ConvNormBwdReferenceIdeal.main_arg0)) (m ((c.tc : Thread Cert.ConvNormBwdReferenceIdeal.nD Cert.ConvNormBwdReferenceIdeal.τ).loc Cert.ConvNormBwdReferenceIdeal.main_arg1)) (m ((c.tc : Thread Cert.ConvNormBwdReferenceIdeal.nD Cert.ConvNormBwdReferenceIdeal.τ).loc Cert.ConvNormBwdReferenceIdeal.main_arg2)) (m ((c.tc : Thread Cert.ConvNormBwdReferenceIdeal.nD Cert.ConvNormBwdReferenceIdeal.τ).loc Cert.ConvNormBwdReferenceIdeal.main_arg3)) (m ((c.tc : Thread Cert.ConvNormBwdReferenceIdeal.nD Cert.ConvNormBwdReferenceIdeal.τ).loc Cert.ConvNormBwdReferenceIdeal.main_arg4))).1 = (fun _ => 1#1)
    ∧ (Cert.Pre_finite_rows.fn (F := Ideal) (m ((c.tc : Thread Cert.ConvNormBwdReferenceIdeal.nD Cert.ConvNormBwdReferenceIdeal.τ).loc Cert.ConvNormBwdReferenceIdeal.main_arg0)) (m ((c.tc : Thread Cert.ConvNormBwdReferenceIdeal.nD Cert.ConvNormBwdReferenceIdeal.τ).loc Cert.ConvNormBwdReferenceIdeal.main_arg1)) (m ((c.tc : Thread Cert.ConvNormBwdReferenceIdeal.nD Cert.ConvNormBwdReferenceIdeal.τ).loc Cert.ConvNormBwdReferenceIdeal.main_arg2)) (m ((c.tc : Thread Cert.ConvNormBwdReferenceIdeal.nD Cert.ConvNormBwdReferenceIdeal.τ).loc Cert.ConvNormBwdReferenceIdeal.main_arg3)) (m ((c.tc : Thread Cert.ConvNormBwdReferenceIdeal.nD Cert.ConvNormBwdReferenceIdeal.τ).loc Cert.ConvNormBwdReferenceIdeal.main_arg4))).2.1 = (fun _ => 1#1)
    ∧ (Cert.Pre_finite_rows.fn (F := Ideal) (m ((c.tc : Thread Cert.ConvNormBwdReferenceIdeal.nD Cert.ConvNormBwdReferenceIdeal.τ).loc Cert.ConvNormBwdReferenceIdeal.main_arg0)) (m ((c.tc : Thread Cert.ConvNormBwdReferenceIdeal.nD Cert.ConvNormBwdReferenceIdeal.τ).loc Cert.ConvNormBwdReferenceIdeal.main_arg1)) (m ((c.tc : Thread Cert.ConvNormBwdReferenceIdeal.nD Cert.ConvNormBwdReferenceIdeal.τ).loc Cert.ConvNormBwdReferenceIdeal.main_arg2)) (m ((c.tc : Thread Cert.ConvNormBwdReferenceIdeal.nD Cert.ConvNormBwdReferenceIdeal.τ).loc Cert.ConvNormBwdReferenceIdeal.main_arg3)) (m ((c.tc : Thread Cert.ConvNormBwdReferenceIdeal.nD Cert.ConvNormBwdReferenceIdeal.τ).loc Cert.ConvNormBwdReferenceIdeal.main_arg4))).2.2.1 = (fun _ => 1#1)
    ∧ (Cert.Pre_finite_rows.fn (F := Ideal) (m ((c.tc : Thread Cert.ConvNormBwdReferenceIdeal.nD Cert.ConvNormBwdReferenceIdeal.τ).loc Cert.ConvNormBwdReferenceIdeal.main_arg0)) (m ((c.tc : Thread Cert.ConvNormBwdReferenceIdeal.nD Cert.ConvNormBwdReferenceIdeal.τ).loc Cert.ConvNormBwdReferenceIdeal.main_arg1)) (m ((c.tc : Thread Cert.ConvNormBwdReferenceIdeal.nD Cert.ConvNormBwdReferenceIdeal.τ).loc Cert.ConvNormBwdReferenceIdeal.main_arg2)) (m ((c.tc : Thread Cert.ConvNormBwdReferenceIdeal.nD Cert.ConvNormBwdReferenceIdeal.τ).loc Cert.ConvNormBwdReferenceIdeal.main_arg3)) (m ((c.tc : Thread Cert.ConvNormBwdReferenceIdeal.nD Cert.ConvNormBwdReferenceIdeal.τ).loc Cert.ConvNormBwdReferenceIdeal.main_arg4))).2.2.2.1 = (fun _ => 1#1)
    ∧ (Cert.Pre_finite_rows.fn (F := Ideal) (m ((c.tc : Thread Cert.ConvNormBwdReferenceIdeal.nD Cert.ConvNormBwdReferenceIdeal.τ).loc Cert.ConvNormBwdReferenceIdeal.main_arg0)) (m ((c.tc : Thread Cert.ConvNormBwdReferenceIdeal.nD Cert.ConvNormBwdReferenceIdeal.τ).loc Cert.ConvNormBwdReferenceIdeal.main_arg1)) (m ((c.tc : Thread Cert.ConvNormBwdReferenceIdeal.nD Cert.ConvNormBwdReferenceIdeal.τ).loc Cert.ConvNormBwdReferenceIdeal.main_arg2)) (m ((c.tc : Thread Cert.ConvNormBwdReferenceIdeal.nD Cert.ConvNormBwdReferenceIdeal.τ).loc Cert.ConvNormBwdReferenceIdeal.main_arg3)) (m ((c.tc : Thread Cert.ConvNormBwdReferenceIdeal.nD Cert.ConvNormBwdReferenceIdeal.τ).loc Cert.ConvNormBwdReferenceIdeal.main_arg4))).2.2.2.2 = (fun _ => 1#1)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ r.2.sem = fun _ => 0)

def quiescent_AttnInReferenceIdeal [hAttnInReferenceIdeal : Cert.AttnInReferenceIdeal.Facts] : Prop :=
  ∀ (m : (ℓ : Loc Cert.AttnInReferenceIdeal.nD Cert.AttnInReferenceIdeal.τ Cert.AttnInReferenceIdeal.sig) → Buf (Elt Ideal) ℓ) (g : Dev Cert.AttnInReferenceIdeal.nD → PrngReg), Pre_AttnInReferenceIdeal m →
    θ_run (Cert.AttnInReferenceIdeal.defs (F := Ideal)) (onTc (τ := Cert.AttnInReferenceIdeal.τ) (Cert.AttnInReferenceIdeal.main (F := Ideal))) ⟨m, fun _ => 0, g⟩ (fun r => (∀ c : Dev Cert.AttnInReferenceIdeal.nD,
      r.2.mem ((c.tc : Thread Cert.AttnInReferenceIdeal.nD Cert.AttnInReferenceIdeal.τ).loc Cert.AttnInReferenceIdeal.main_arg0) = m ((c.tc : Thread Cert.AttnInReferenceIdeal.nD Cert.AttnInReferenceIdeal.τ).loc Cert.AttnInReferenceIdeal.main_arg0)
      ∧ r.2.mem ((c.tc : Thread Cert.AttnInReferenceIdeal.nD Cert.AttnInReferenceIdeal.τ).loc Cert.AttnInReferenceIdeal.main_arg1) = m ((c.tc : Thread Cert.AttnInReferenceIdeal.nD Cert.AttnInReferenceIdeal.τ).loc Cert.AttnInReferenceIdeal.main_arg1))
      ∧ r.2.sem = fun _ => 0)

def quiescent_AttnWgrad [hAttnWgrad : Cert.AttnWgrad.Facts] : Prop :=
  ∀ (m : (ℓ : Loc Cert.AttnWgrad.nD Cert.AttnWgrad.τ Cert.AttnWgrad.sig) → Buf (Elt Bits) ℓ) (g : Dev Cert.AttnWgrad.nD → PrngReg), Pre_AttnWgrad m →
    θ_run (Cert.AttnWgrad.defs (F := Bits)) (onTc (τ := Cert.AttnWgrad.τ) (Cert.AttnWgrad.main (F := Bits))) ⟨m, fun _ => 0, g⟩ (fun r => (∀ c : Dev Cert.AttnWgrad.nD,
      r.2.mem ((c.tc : Thread Cert.AttnWgrad.nD Cert.AttnWgrad.τ).loc Cert.AttnWgrad.main_arg0) = m ((c.tc : Thread Cert.AttnWgrad.nD Cert.AttnWgrad.τ).loc Cert.AttnWgrad.main_arg0)
      ∧ r.2.mem ((c.tc : Thread Cert.AttnWgrad.nD Cert.AttnWgrad.τ).loc Cert.AttnWgrad.main_arg1) = m ((c.tc : Thread Cert.AttnWgrad.nD Cert.AttnWgrad.τ).loc Cert.AttnWgrad.main_arg1))
      ∧ r.2.sem = fun _ => 0)

def quiescent_AttnWgradIdeal [hAttnWgradIdeal : Cert.AttnWgradIdeal.Facts] : Prop :=
  ∀ (m : (ℓ : Loc Cert.AttnWgradIdeal.nD Cert.AttnWgradIdeal.τ Cert.AttnWgradIdeal.sig) → Buf (Elt Ideal) ℓ) (g : Dev Cert.AttnWgradIdeal.nD → PrngReg), Pre_AttnWgradIdeal m →
    θ_run (Cert.AttnWgradIdeal.defs (F := Ideal)) (onTc (τ := Cert.AttnWgradIdeal.τ) (Cert.AttnWgradIdeal.main (F := Ideal))) ⟨m, fun _ => 0, g⟩ (fun r => (∀ c : Dev Cert.AttnWgradIdeal.nD,
      r.2.mem ((c.tc : Thread Cert.AttnWgradIdeal.nD Cert.AttnWgradIdeal.τ).loc Cert.AttnWgradIdeal.main_arg0) = m ((c.tc : Thread Cert.AttnWgradIdeal.nD Cert.AttnWgradIdeal.τ).loc Cert.AttnWgradIdeal.main_arg0)
      ∧ r.2.mem ((c.tc : Thread Cert.AttnWgradIdeal.nD Cert.AttnWgradIdeal.τ).loc Cert.AttnWgradIdeal.main_arg1) = m ((c.tc : Thread Cert.AttnWgradIdeal.nD Cert.AttnWgradIdeal.τ).loc Cert.AttnWgradIdeal.main_arg1))
      ∧ r.2.sem = fun _ => 0)

def quiescent_AttnWgradReferenceIdeal [hAttnWgradReferenceIdeal : Cert.AttnWgradReferenceIdeal.Facts] : Prop :=
  ∀ (m : (ℓ : Loc Cert.AttnWgradReferenceIdeal.nD Cert.AttnWgradReferenceIdeal.τ Cert.AttnWgradReferenceIdeal.sig) → Buf (Elt Ideal) ℓ) (g : Dev Cert.AttnWgradReferenceIdeal.nD → PrngReg), Pre_AttnWgradReferenceIdeal m →
    θ_run (Cert.AttnWgradReferenceIdeal.defs (F := Ideal)) (onTc (τ := Cert.AttnWgradReferenceIdeal.τ) (Cert.AttnWgradReferenceIdeal.main (F := Ideal))) ⟨m, fun _ => 0, g⟩ (fun r => (∀ c : Dev Cert.AttnWgradReferenceIdeal.nD,
      r.2.mem ((c.tc : Thread Cert.AttnWgradReferenceIdeal.nD Cert.AttnWgradReferenceIdeal.τ).loc Cert.AttnWgradReferenceIdeal.main_arg0) = m ((c.tc : Thread Cert.AttnWgradReferenceIdeal.nD Cert.AttnWgradReferenceIdeal.τ).loc Cert.AttnWgradReferenceIdeal.main_arg0)
      ∧ r.2.mem ((c.tc : Thread Cert.AttnWgradReferenceIdeal.nD Cert.AttnWgradReferenceIdeal.τ).loc Cert.AttnWgradReferenceIdeal.main_arg1) = m ((c.tc : Thread Cert.AttnWgradReferenceIdeal.nD Cert.AttnWgradReferenceIdeal.τ).loc Cert.AttnWgradReferenceIdeal.main_arg1))
      ∧ r.2.sem = fun _ => 0)

def quiescent_AttnDgrad [hAttnDgrad : Cert.AttnDgrad.Facts] : Prop :=
  ∀ (m : (ℓ : Loc Cert.AttnDgrad.nD Cert.AttnDgrad.τ Cert.AttnDgrad.sig) → Buf (Elt Bits) ℓ) (g : Dev Cert.AttnDgrad.nD → PrngReg), Pre_AttnDgrad m →
    θ_run (Cert.AttnDgrad.defs (F := Bits)) (onTc (τ := Cert.AttnDgrad.τ) (Cert.AttnDgrad.main (F := Bits))) ⟨m, fun _ => 0, g⟩ (fun r => (∀ c : Dev Cert.AttnDgrad.nD,
      r.2.mem ((c.tc : Thread Cert.AttnDgrad.nD Cert.AttnDgrad.τ).loc Cert.AttnDgrad.main_arg0) = m ((c.tc : Thread Cert.AttnDgrad.nD Cert.AttnDgrad.τ).loc Cert.AttnDgrad.main_arg0)
      ∧ r.2.mem ((c.tc : Thread Cert.AttnDgrad.nD Cert.AttnDgrad.τ).loc Cert.AttnDgrad.main_arg1) = m ((c.tc : Thread Cert.AttnDgrad.nD Cert.AttnDgrad.τ).loc Cert.AttnDgrad.main_arg1)
      ∧ r.2.mem ((c.tc : Thread Cert.AttnDgrad.nD Cert.AttnDgrad.τ).loc Cert.AttnDgrad.main_arg2) = m ((c.tc : Thread Cert.AttnDgrad.nD Cert.AttnDgrad.τ).loc Cert.AttnDgrad.main_arg2)
      ∧ r.2.mem ((c.tc : Thread Cert.AttnDgrad.nD Cert.AttnDgrad.τ).loc Cert.AttnDgrad.main_arg3) = m ((c.tc : Thread Cert.AttnDgrad.nD Cert.AttnDgrad.τ).loc Cert.AttnDgrad.main_arg3)
      ∧ r.2.mem ((c.tc : Thread Cert.AttnDgrad.nD Cert.AttnDgrad.τ).loc Cert.AttnDgrad.main_arg4) = m ((c.tc : Thread Cert.AttnDgrad.nD Cert.AttnDgrad.τ).loc Cert.AttnDgrad.main_arg4))
      ∧ r.2.sem = fun _ => 0)

def quiescent_AttnDgradIdeal [hAttnDgradIdeal : Cert.AttnDgradIdeal.Facts] : Prop :=
  ∀ (m : (ℓ : Loc Cert.AttnDgradIdeal.nD Cert.AttnDgradIdeal.τ Cert.AttnDgradIdeal.sig) → Buf (Elt Ideal) ℓ) (g : Dev Cert.AttnDgradIdeal.nD → PrngReg), Pre_AttnDgradIdeal m →
    θ_run (Cert.AttnDgradIdeal.defs (F := Ideal)) (onTc (τ := Cert.AttnDgradIdeal.τ) (Cert.AttnDgradIdeal.main (F := Ideal))) ⟨m, fun _ => 0, g⟩ (fun r => (∀ c : Dev Cert.AttnDgradIdeal.nD,
      r.2.mem ((c.tc : Thread Cert.AttnDgradIdeal.nD Cert.AttnDgradIdeal.τ).loc Cert.AttnDgradIdeal.main_arg0) = m ((c.tc : Thread Cert.AttnDgradIdeal.nD Cert.AttnDgradIdeal.τ).loc Cert.AttnDgradIdeal.main_arg0)
      ∧ r.2.mem ((c.tc : Thread Cert.AttnDgradIdeal.nD Cert.AttnDgradIdeal.τ).loc Cert.AttnDgradIdeal.main_arg1) = m ((c.tc : Thread Cert.AttnDgradIdeal.nD Cert.AttnDgradIdeal.τ).loc Cert.AttnDgradIdeal.main_arg1)
      ∧ r.2.mem ((c.tc : Thread Cert.AttnDgradIdeal.nD Cert.AttnDgradIdeal.τ).loc Cert.AttnDgradIdeal.main_arg2) = m ((c.tc : Thread Cert.AttnDgradIdeal.nD Cert.AttnDgradIdeal.τ).loc Cert.AttnDgradIdeal.main_arg2)
      ∧ r.2.mem ((c.tc : Thread Cert.AttnDgradIdeal.nD Cert.AttnDgradIdeal.τ).loc Cert.AttnDgradIdeal.main_arg3) = m ((c.tc : Thread Cert.AttnDgradIdeal.nD Cert.AttnDgradIdeal.τ).loc Cert.AttnDgradIdeal.main_arg3)
      ∧ r.2.mem ((c.tc : Thread Cert.AttnDgradIdeal.nD Cert.AttnDgradIdeal.τ).loc Cert.AttnDgradIdeal.main_arg4) = m ((c.tc : Thread Cert.AttnDgradIdeal.nD Cert.AttnDgradIdeal.τ).loc Cert.AttnDgradIdeal.main_arg4))
      ∧ r.2.sem = fun _ => 0)

def quiescent_AttnDgradReferenceIdeal [hAttnDgradReferenceIdeal : Cert.AttnDgradReferenceIdeal.Facts] : Prop :=
  ∀ (m : (ℓ : Loc Cert.AttnDgradReferenceIdeal.nD Cert.AttnDgradReferenceIdeal.τ Cert.AttnDgradReferenceIdeal.sig) → Buf (Elt Ideal) ℓ) (g : Dev Cert.AttnDgradReferenceIdeal.nD → PrngReg), Pre_AttnDgradReferenceIdeal m →
    θ_run (Cert.AttnDgradReferenceIdeal.defs (F := Ideal)) (onTc (τ := Cert.AttnDgradReferenceIdeal.τ) (Cert.AttnDgradReferenceIdeal.main (F := Ideal))) ⟨m, fun _ => 0, g⟩ (fun r => (∀ c : Dev Cert.AttnDgradReferenceIdeal.nD,
      r.2.mem ((c.tc : Thread Cert.AttnDgradReferenceIdeal.nD Cert.AttnDgradReferenceIdeal.τ).loc Cert.AttnDgradReferenceIdeal.main_arg0) = m ((c.tc : Thread Cert.AttnDgradReferenceIdeal.nD Cert.AttnDgradReferenceIdeal.τ).loc Cert.AttnDgradReferenceIdeal.main_arg0)
      ∧ r.2.mem ((c.tc : Thread Cert.AttnDgradReferenceIdeal.nD Cert.AttnDgradReferenceIdeal.τ).loc Cert.AttnDgradReferenceIdeal.main_arg1) = m ((c.tc : Thread Cert.AttnDgradReferenceIdeal.nD Cert.AttnDgradReferenceIdeal.τ).loc Cert.AttnDgradReferenceIdeal.main_arg1)
      ∧ r.2.mem ((c.tc : Thread Cert.AttnDgradReferenceIdeal.nD Cert.AttnDgradReferenceIdeal.τ).loc Cert.AttnDgradReferenceIdeal.main_arg2) = m ((c.tc : Thread Cert.AttnDgradReferenceIdeal.nD Cert.AttnDgradReferenceIdeal.τ).loc Cert.AttnDgradReferenceIdeal.main_arg2)
      ∧ r.2.mem ((c.tc : Thread Cert.AttnDgradReferenceIdeal.nD Cert.AttnDgradReferenceIdeal.τ).loc Cert.AttnDgradReferenceIdeal.main_arg3) = m ((c.tc : Thread Cert.AttnDgradReferenceIdeal.nD Cert.AttnDgradReferenceIdeal.τ).loc Cert.AttnDgradReferenceIdeal.main_arg3)
      ∧ r.2.mem ((c.tc : Thread Cert.AttnDgradReferenceIdeal.nD Cert.AttnDgradReferenceIdeal.τ).loc Cert.AttnDgradReferenceIdeal.main_arg4) = m ((c.tc : Thread Cert.AttnDgradReferenceIdeal.nD Cert.AttnDgradReferenceIdeal.τ).loc Cert.AttnDgradReferenceIdeal.main_arg4))
      ∧ r.2.sem = fun _ => 0)

def quiescent_ConvAb [hConvAb : Cert.ConvAb.Facts] : Prop :=
  ∀ (m : (ℓ : Loc Cert.ConvAb.nD Cert.ConvAb.τ Cert.ConvAb.sig) → Buf (Elt Bits) ℓ) (g : Dev Cert.ConvAb.nD → PrngReg), Pre_ConvAb m →
    θ_run (Cert.ConvAb.defs (F := Bits)) (onTc (τ := Cert.ConvAb.τ) (Cert.ConvAb.main (F := Bits))) ⟨m, fun _ => 0, g⟩ (fun r => (∀ c : Dev Cert.ConvAb.nD,
      r.2.mem ((c.tc : Thread Cert.ConvAb.nD Cert.ConvAb.τ).loc Cert.ConvAb.main_arg0) = m ((c.tc : Thread Cert.ConvAb.nD Cert.ConvAb.τ).loc Cert.ConvAb.main_arg0)
      ∧ r.2.mem ((c.tc : Thread Cert.ConvAb.nD Cert.ConvAb.τ).loc Cert.ConvAb.main_arg1) = m ((c.tc : Thread Cert.ConvAb.nD Cert.ConvAb.τ).loc Cert.ConvAb.main_arg1))
      ∧ r.2.sem = fun _ => 0)

def quiescent_ConvAbIdeal [hConvAbIdeal : Cert.ConvAbIdeal.Facts] : Prop :=
  ∀ (m : (ℓ : Loc Cert.ConvAbIdeal.nD Cert.ConvAbIdeal.τ Cert.ConvAbIdeal.sig) → Buf (Elt Ideal) ℓ) (g : Dev Cert.ConvAbIdeal.nD → PrngReg), Pre_ConvAbIdeal m →
    θ_run (Cert.ConvAbIdeal.defs (F := Ideal)) (onTc (τ := Cert.ConvAbIdeal.τ) (Cert.ConvAbIdeal.main (F := Ideal))) ⟨m, fun _ => 0, g⟩ (fun r => (∀ c : Dev Cert.ConvAbIdeal.nD,
      r.2.mem ((c.tc : Thread Cert.ConvAbIdeal.nD Cert.ConvAbIdeal.τ).loc Cert.ConvAbIdeal.main_arg0) = m ((c.tc : Thread Cert.ConvAbIdeal.nD Cert.ConvAbIdeal.τ).loc Cert.ConvAbIdeal.main_arg0)
      ∧ r.2.mem ((c.tc : Thread Cert.ConvAbIdeal.nD Cert.ConvAbIdeal.τ).loc Cert.ConvAbIdeal.main_arg1) = m ((c.tc : Thread Cert.ConvAbIdeal.nD Cert.ConvAbIdeal.τ).loc Cert.ConvAbIdeal.main_arg1))
      ∧ r.2.sem = fun _ => 0)

def quiescent_ConvAbReferenceIdeal [hConvAbReferenceIdeal : Cert.ConvAbReferenceIdeal.Facts] : Prop :=
  ∀ (m : (ℓ : Loc Cert.ConvAbReferenceIdeal.nD Cert.ConvAbReferenceIdeal.τ Cert.ConvAbReferenceIdeal.sig) → Buf (Elt Ideal) ℓ) (g : Dev Cert.ConvAbReferenceIdeal.nD → PrngReg), Pre_ConvAbReferenceIdeal m →
    θ_run (Cert.ConvAbReferenceIdeal.defs (F := Ideal)) (onTc (τ := Cert.ConvAbReferenceIdeal.τ) (Cert.ConvAbReferenceIdeal.main (F := Ideal))) ⟨m, fun _ => 0, g⟩ (fun r => (∀ c : Dev Cert.ConvAbReferenceIdeal.nD,
      r.2.mem ((c.tc : Thread Cert.ConvAbReferenceIdeal.nD Cert.ConvAbReferenceIdeal.τ).loc Cert.ConvAbReferenceIdeal.main_arg0) = m ((c.tc : Thread Cert.ConvAbReferenceIdeal.nD Cert.ConvAbReferenceIdeal.τ).loc Cert.ConvAbReferenceIdeal.main_arg0)
      ∧ r.2.mem ((c.tc : Thread Cert.ConvAbReferenceIdeal.nD Cert.ConvAbReferenceIdeal.τ).loc Cert.ConvAbReferenceIdeal.main_arg1) = m ((c.tc : Thread Cert.ConvAbReferenceIdeal.nD Cert.ConvAbReferenceIdeal.τ).loc Cert.ConvAbReferenceIdeal.main_arg1))
      ∧ r.2.sem = fun _ => 0)

def quiescent_ConvZ [hConvZ : Cert.ConvZ.Facts] : Prop :=
  ∀ (m : (ℓ : Loc Cert.ConvZ.nD Cert.ConvZ.τ Cert.ConvZ.sig) → Buf (Elt Bits) ℓ) (g : Dev Cert.ConvZ.nD → PrngReg), Pre_ConvZ m →
    θ_run (Cert.ConvZ.defs (F := Bits)) (onTc (τ := Cert.ConvZ.τ) (Cert.ConvZ.main (F := Bits))) ⟨m, fun _ => 0, g⟩ (fun r => (∀ c : Dev Cert.ConvZ.nD,
      r.2.mem ((c.tc : Thread Cert.ConvZ.nD Cert.ConvZ.τ).loc Cert.ConvZ.main_arg0) = m ((c.tc : Thread Cert.ConvZ.nD Cert.ConvZ.τ).loc Cert.ConvZ.main_arg0)
      ∧ r.2.mem ((c.tc : Thread Cert.ConvZ.nD Cert.ConvZ.τ).loc Cert.ConvZ.main_arg1) = m ((c.tc : Thread Cert.ConvZ.nD Cert.ConvZ.τ).loc Cert.ConvZ.main_arg1))
      ∧ r.2.sem = fun _ => 0)

def quiescent_ConvZIdeal [hConvZIdeal : Cert.ConvZIdeal.Facts] : Prop :=
  ∀ (m : (ℓ : Loc Cert.ConvZIdeal.nD Cert.ConvZIdeal.τ Cert.ConvZIdeal.sig) → Buf (Elt Ideal) ℓ) (g : Dev Cert.ConvZIdeal.nD → PrngReg), Pre_ConvZIdeal m →
    θ_run (Cert.ConvZIdeal.defs (F := Ideal)) (onTc (τ := Cert.ConvZIdeal.τ) (Cert.ConvZIdeal.main (F := Ideal))) ⟨m, fun _ => 0, g⟩ (fun r => (∀ c : Dev Cert.ConvZIdeal.nD,
      r.2.mem ((c.tc : Thread Cert.ConvZIdeal.nD Cert.ConvZIdeal.τ).loc Cert.ConvZIdeal.main_arg0) = m ((c.tc : Thread Cert.ConvZIdeal.nD Cert.ConvZIdeal.τ).loc Cert.ConvZIdeal.main_arg0)
      ∧ r.2.mem ((c.tc : Thread Cert.ConvZIdeal.nD Cert.ConvZIdeal.τ).loc Cert.ConvZIdeal.main_arg1) = m ((c.tc : Thread Cert.ConvZIdeal.nD Cert.ConvZIdeal.τ).loc Cert.ConvZIdeal.main_arg1))
      ∧ r.2.sem = fun _ => 0)

def quiescent_ConvZReferenceIdeal [hConvZReferenceIdeal : Cert.ConvZReferenceIdeal.Facts] : Prop :=
  ∀ (m : (ℓ : Loc Cert.ConvZReferenceIdeal.nD Cert.ConvZReferenceIdeal.τ Cert.ConvZReferenceIdeal.sig) → Buf (Elt Ideal) ℓ) (g : Dev Cert.ConvZReferenceIdeal.nD → PrngReg), Pre_ConvZReferenceIdeal m →
    θ_run (Cert.ConvZReferenceIdeal.defs (F := Ideal)) (onTc (τ := Cert.ConvZReferenceIdeal.τ) (Cert.ConvZReferenceIdeal.main (F := Ideal))) ⟨m, fun _ => 0, g⟩ (fun r => (∀ c : Dev Cert.ConvZReferenceIdeal.nD,
      r.2.mem ((c.tc : Thread Cert.ConvZReferenceIdeal.nD Cert.ConvZReferenceIdeal.τ).loc Cert.ConvZReferenceIdeal.main_arg0) = m ((c.tc : Thread Cert.ConvZReferenceIdeal.nD Cert.ConvZReferenceIdeal.τ).loc Cert.ConvZReferenceIdeal.main_arg0)
      ∧ r.2.mem ((c.tc : Thread Cert.ConvZReferenceIdeal.nD Cert.ConvZReferenceIdeal.τ).loc Cert.ConvZReferenceIdeal.main_arg1) = m ((c.tc : Thread Cert.ConvZReferenceIdeal.nD Cert.ConvZReferenceIdeal.τ).loc Cert.ConvZReferenceIdeal.main_arg1))
      ∧ r.2.sem = fun _ => 0)

def quiescent_OutDgrad [hOutDgrad : Cert.OutDgrad.Facts] : Prop :=
  ∀ (m : (ℓ : Loc Cert.OutDgrad.nD Cert.OutDgrad.τ Cert.OutDgrad.sig) → Buf (Elt Bits) ℓ) (g : Dev Cert.OutDgrad.nD → PrngReg), Pre_OutDgrad m →
    θ_run (Cert.OutDgrad.defs (F := Bits)) (onTc (τ := Cert.OutDgrad.τ) (Cert.OutDgrad.main (F := Bits))) ⟨m, fun _ => 0, g⟩ (fun r => (∀ c : Dev Cert.OutDgrad.nD,
      r.2.mem ((c.tc : Thread Cert.OutDgrad.nD Cert.OutDgrad.τ).loc Cert.OutDgrad.main_arg0) = m ((c.tc : Thread Cert.OutDgrad.nD Cert.OutDgrad.τ).loc Cert.OutDgrad.main_arg0)
      ∧ r.2.mem ((c.tc : Thread Cert.OutDgrad.nD Cert.OutDgrad.τ).loc Cert.OutDgrad.main_arg1) = m ((c.tc : Thread Cert.OutDgrad.nD Cert.OutDgrad.τ).loc Cert.OutDgrad.main_arg1))
      ∧ r.2.sem = fun _ => 0)

def quiescent_OutDgradIdeal [hOutDgradIdeal : Cert.OutDgradIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg), Pre_OutDgradIdeal m →
    θ_run (Cert.OutDgradIdeal.defs (F := Ideal)) (onTc (τ := Cert.OutDgradIdeal.τ) (Cert.OutDgradIdeal.main (F := Ideal))) ⟨m, fun _ => 0, g⟩ (fun r => (∀ c : Dev Cert.OutDgradIdeal.nD,
      r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
      ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ r.2.sem = fun _ => 0)

def quiescent_OutDgradReferenceIdeal [hOutDgradReferenceIdeal : Cert.OutDgradReferenceIdeal.Facts] : Prop :=
  ∀ (m : (ℓ : Loc Cert.OutDgradReferenceIdeal.nD Cert.OutDgradReferenceIdeal.τ Cert.OutDgradReferenceIdeal.sig) → Buf (Elt Ideal) ℓ) (g : Dev Cert.OutDgradReferenceIdeal.nD → PrngReg), Pre_OutDgradReferenceIdeal m →
    θ_run (Cert.OutDgradReferenceIdeal.defs (F := Ideal)) (onTc (τ := Cert.OutDgradReferenceIdeal.τ) (Cert.OutDgradReferenceIdeal.main (F := Ideal))) ⟨m, fun _ => 0, g⟩ (fun r => (∀ c : Dev Cert.OutDgradReferenceIdeal.nD,
      r.2.mem ((c.tc : Thread Cert.OutDgradReferenceIdeal.nD Cert.OutDgradReferenceIdeal.τ).loc Cert.OutDgradReferenceIdeal.main_arg0) = m ((c.tc : Thread Cert.OutDgradReferenceIdeal.nD Cert.OutDgradReferenceIdeal.τ).loc Cert.OutDgradReferenceIdeal.main_arg0)
      ∧ r.2.mem ((c.tc : Thread Cert.OutDgradReferenceIdeal.nD Cert.OutDgradReferenceIdeal.τ).loc Cert.OutDgradReferenceIdeal.main_arg1) = m ((c.tc : Thread Cert.OutDgradReferenceIdeal.nD Cert.OutDgradReferenceIdeal.τ).loc Cert.OutDgradReferenceIdeal.main_arg1))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWgradReferenceIdeal [hOutWgradReferenceIdeal : Cert.OutWgradReferenceIdeal.Facts] : Prop :=
  ∀ (m : (ℓ : Loc Cert.OutWgradReferenceIdeal.nD Cert.OutWgradReferenceIdeal.τ Cert.OutWgradReferenceIdeal.sig) → Buf (Elt Ideal) ℓ) (g : Dev Cert.OutWgradReferenceIdeal.nD → PrngReg), Pre_OutWgradReferenceIdeal m →
    θ_run (Cert.OutWgradReferenceIdeal.defs (F := Ideal)) (onTc (τ := Cert.OutWgradReferenceIdeal.τ) (Cert.OutWgradReferenceIdeal.main (F := Ideal))) ⟨m, fun _ => 0, g⟩ (fun r => (∀ c : Dev Cert.OutWgradReferenceIdeal.nD,
      r.2.mem ((c.tc : Thread Cert.OutWgradReferenceIdeal.nD Cert.OutWgradReferenceIdeal.τ).loc Cert.OutWgradReferenceIdeal.main_arg0) = m ((c.tc : Thread Cert.OutWgradReferenceIdeal.nD Cert.OutWgradReferenceIdeal.τ).loc Cert.OutWgradReferenceIdeal.main_arg0)
      ∧ r.2.mem ((c.tc : Thread Cert.OutWgradReferenceIdeal.nD Cert.OutWgradReferenceIdeal.τ).loc Cert.OutWgradReferenceIdeal.main_arg1) = m ((c.tc : Thread Cert.OutWgradReferenceIdeal.nD Cert.OutWgradReferenceIdeal.τ).loc Cert.OutWgradReferenceIdeal.main_arg1))
      ∧ r.2.sem = fun _ => 0)

def quiescent_AbWgrad [hAbWgrad : Cert.AbWgrad.Facts] : Prop :=
  ∀ (m : (ℓ : Loc Cert.AbWgrad.nD Cert.AbWgrad.τ Cert.AbWgrad.sig) → Buf (Elt Bits) ℓ) (g : Dev Cert.AbWgrad.nD → PrngReg), Pre_AbWgrad m →
    θ_run (Cert.AbWgrad.defs (F := Bits)) (onTc (τ := Cert.AbWgrad.τ) (Cert.AbWgrad.main (F := Bits))) ⟨m, fun _ => 0, g⟩ (fun r => (∀ c : Dev Cert.AbWgrad.nD,
      r.2.mem ((c.tc : Thread Cert.AbWgrad.nD Cert.AbWgrad.τ).loc Cert.AbWgrad.main_arg0) = m ((c.tc : Thread Cert.AbWgrad.nD Cert.AbWgrad.τ).loc Cert.AbWgrad.main_arg0)
      ∧ r.2.mem ((c.tc : Thread Cert.AbWgrad.nD Cert.AbWgrad.τ).loc Cert.AbWgrad.main_arg1) = m ((c.tc : Thread Cert.AbWgrad.nD Cert.AbWgrad.τ).loc Cert.AbWgrad.main_arg1))
      ∧ r.2.sem = fun _ => 0)

def quiescent_AbWgradIdeal [hAbWgradIdeal : Cert.AbWgradIdeal.Facts] : Prop :=
  ∀ (m : (ℓ : Loc Cert.AbWgradIdeal.nD Cert.AbWgradIdeal.τ Cert.AbWgradIdeal.sig) → Buf (Elt Ideal) ℓ) (g : Dev Cert.AbWgradIdeal.nD → PrngReg), Pre_AbWgradIdeal m →
    θ_run (Cert.AbWgradIdeal.defs (F := Ideal)) (onTc (τ := Cert.AbWgradIdeal.τ) (Cert.AbWgradIdeal.main (F := Ideal))) ⟨m, fun _ => 0, g⟩ (fun r => (∀ c : Dev Cert.AbWgradIdeal.nD,
      r.2.mem ((c.tc : Thread Cert.AbWgradIdeal.nD Cert.AbWgradIdeal.τ).loc Cert.AbWgradIdeal.main_arg0) = m ((c.tc : Thread Cert.AbWgradIdeal.nD Cert.AbWgradIdeal.τ).loc Cert.AbWgradIdeal.main_arg0)
      ∧ r.2.mem ((c.tc : Thread Cert.AbWgradIdeal.nD Cert.AbWgradIdeal.τ).loc Cert.AbWgradIdeal.main_arg1) = m ((c.tc : Thread Cert.AbWgradIdeal.nD Cert.AbWgradIdeal.τ).loc Cert.AbWgradIdeal.main_arg1))
      ∧ r.2.sem = fun _ => 0)

def quiescent_AbWgradReferenceIdeal [hAbWgradReferenceIdeal : Cert.AbWgradReferenceIdeal.Facts] : Prop :=
  ∀ (m : (ℓ : Loc Cert.AbWgradReferenceIdeal.nD Cert.AbWgradReferenceIdeal.τ Cert.AbWgradReferenceIdeal.sig) → Buf (Elt Ideal) ℓ) (g : Dev Cert.AbWgradReferenceIdeal.nD → PrngReg), Pre_AbWgradReferenceIdeal m →
    θ_run (Cert.AbWgradReferenceIdeal.defs (F := Ideal)) (onTc (τ := Cert.AbWgradReferenceIdeal.τ) (Cert.AbWgradReferenceIdeal.main (F := Ideal))) ⟨m, fun _ => 0, g⟩ (fun r => (∀ c : Dev Cert.AbWgradReferenceIdeal.nD,
      r.2.mem ((c.tc : Thread Cert.AbWgradReferenceIdeal.nD Cert.AbWgradReferenceIdeal.τ).loc Cert.AbWgradReferenceIdeal.main_arg0) = m ((c.tc : Thread Cert.AbWgradReferenceIdeal.nD Cert.AbWgradReferenceIdeal.τ).loc Cert.AbWgradReferenceIdeal.main_arg0)
      ∧ r.2.mem ((c.tc : Thread Cert.AbWgradReferenceIdeal.nD Cert.AbWgradReferenceIdeal.τ).loc Cert.AbWgradReferenceIdeal.main_arg1) = m ((c.tc : Thread Cert.AbWgradReferenceIdeal.nD Cert.AbWgradReferenceIdeal.τ).loc Cert.AbWgradReferenceIdeal.main_arg1))
      ∧ r.2.sem = fun _ => 0)

def quiescent_GateWgrad [hGateWgrad : Cert.GateWgrad.Facts] : Prop :=
  ∀ (m : (ℓ : Loc Cert.GateWgrad.nD Cert.GateWgrad.τ Cert.GateWgrad.sig) → Buf (Elt Bits) ℓ) (g : Dev Cert.GateWgrad.nD → PrngReg), Pre_GateWgrad m →
    θ_run (Cert.GateWgrad.defs (F := Bits)) (onTc (τ := Cert.GateWgrad.τ) (Cert.GateWgrad.main (F := Bits))) ⟨m, fun _ => 0, g⟩ (fun r => (∀ c : Dev Cert.GateWgrad.nD,
      r.2.mem ((c.tc : Thread Cert.GateWgrad.nD Cert.GateWgrad.τ).loc Cert.GateWgrad.main_arg0) = m ((c.tc : Thread Cert.GateWgrad.nD Cert.GateWgrad.τ).loc Cert.GateWgrad.main_arg0)
      ∧ r.2.mem ((c.tc : Thread Cert.GateWgrad.nD Cert.GateWgrad.τ).loc Cert.GateWgrad.main_arg1) = m ((c.tc : Thread Cert.GateWgrad.nD Cert.GateWgrad.τ).loc Cert.GateWgrad.main_arg1))
      ∧ r.2.sem = fun _ => 0)

def quiescent_GateWgradIdeal [hGateWgradIdeal : Cert.GateWgradIdeal.Facts] : Prop :=
  ∀ (m : (ℓ : Loc Cert.GateWgradIdeal.nD Cert.GateWgradIdeal.τ Cert.GateWgradIdeal.sig) → Buf (Elt Ideal) ℓ) (g : Dev Cert.GateWgradIdeal.nD → PrngReg), Pre_GateWgradIdeal m →
    θ_run (Cert.GateWgradIdeal.defs (F := Ideal)) (onTc (τ := Cert.GateWgradIdeal.τ) (Cert.GateWgradIdeal.main (F := Ideal))) ⟨m, fun _ => 0, g⟩ (fun r => (∀ c : Dev Cert.GateWgradIdeal.nD,
      r.2.mem ((c.tc : Thread Cert.GateWgradIdeal.nD Cert.GateWgradIdeal.τ).loc Cert.GateWgradIdeal.main_arg0) = m ((c.tc : Thread Cert.GateWgradIdeal.nD Cert.GateWgradIdeal.τ).loc Cert.GateWgradIdeal.main_arg0)
      ∧ r.2.mem ((c.tc : Thread Cert.GateWgradIdeal.nD Cert.GateWgradIdeal.τ).loc Cert.GateWgradIdeal.main_arg1) = m ((c.tc : Thread Cert.GateWgradIdeal.nD Cert.GateWgradIdeal.τ).loc Cert.GateWgradIdeal.main_arg1))
      ∧ r.2.sem = fun _ => 0)

def quiescent_GateWgradReferenceIdeal [hGateWgradReferenceIdeal : Cert.GateWgradReferenceIdeal.Facts] : Prop :=
  ∀ (m : (ℓ : Loc Cert.GateWgradReferenceIdeal.nD Cert.GateWgradReferenceIdeal.τ Cert.GateWgradReferenceIdeal.sig) → Buf (Elt Ideal) ℓ) (g : Dev Cert.GateWgradReferenceIdeal.nD → PrngReg), Pre_GateWgradReferenceIdeal m →
    θ_run (Cert.GateWgradReferenceIdeal.defs (F := Ideal)) (onTc (τ := Cert.GateWgradReferenceIdeal.τ) (Cert.GateWgradReferenceIdeal.main (F := Ideal))) ⟨m, fun _ => 0, g⟩ (fun r => (∀ c : Dev Cert.GateWgradReferenceIdeal.nD,
      r.2.mem ((c.tc : Thread Cert.GateWgradReferenceIdeal.nD Cert.GateWgradReferenceIdeal.τ).loc Cert.GateWgradReferenceIdeal.main_arg0) = m ((c.tc : Thread Cert.GateWgradReferenceIdeal.nD Cert.GateWgradReferenceIdeal.τ).loc Cert.GateWgradReferenceIdeal.main_arg0)
      ∧ r.2.mem ((c.tc : Thread Cert.GateWgradReferenceIdeal.nD Cert.GateWgradReferenceIdeal.τ).loc Cert.GateWgradReferenceIdeal.main_arg1) = m ((c.tc : Thread Cert.GateWgradReferenceIdeal.nD Cert.GateWgradReferenceIdeal.τ).loc Cert.GateWgradReferenceIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ r.2.sem = fun _ => 0)

def quiescent_GateFwdReferenceIdeal [hGateFwdReferenceIdeal : Cert.GateFwdReferenceIdeal.Facts] : Prop :=
  ∀ (m : (ℓ : Loc Cert.GateFwdReferenceIdeal.nD Cert.GateFwdReferenceIdeal.τ Cert.GateFwdReferenceIdeal.sig) → Buf (Elt Ideal) ℓ) (g : Dev Cert.GateFwdReferenceIdeal.nD → PrngReg), Pre_GateFwdReferenceIdeal m →
    θ_run (Cert.GateFwdReferenceIdeal.defs (F := Ideal)) (onTc (τ := Cert.GateFwdReferenceIdeal.τ) (Cert.GateFwdReferenceIdeal.main (F := Ideal))) ⟨m, fun _ => 0, g⟩ (fun r => (∀ c : Dev Cert.GateFwdReferenceIdeal.nD,
      r.2.mem ((c.tc : Thread Cert.GateFwdReferenceIdeal.nD Cert.GateFwdReferenceIdeal.τ).loc Cert.GateFwdReferenceIdeal.main_arg0) = m ((c.tc : Thread Cert.GateFwdReferenceIdeal.nD Cert.GateFwdReferenceIdeal.τ).loc Cert.GateFwdReferenceIdeal.main_arg0)
      ∧ r.2.mem ((c.tc : Thread Cert.GateFwdReferenceIdeal.nD Cert.GateFwdReferenceIdeal.τ).loc Cert.GateFwdReferenceIdeal.main_arg1) = m ((c.tc : Thread Cert.GateFwdReferenceIdeal.nD Cert.GateFwdReferenceIdeal.τ).loc Cert.GateFwdReferenceIdeal.main_arg1)
      ∧ r.2.mem ((c.tc : Thread Cert.GateFwdReferenceIdeal.nD Cert.GateFwdReferenceIdeal.τ).loc Cert.GateFwdReferenceIdeal.main_arg2) = m ((c.tc : Thread Cert.GateFwdReferenceIdeal.nD Cert.GateFwdReferenceIdeal.τ).loc Cert.GateFwdReferenceIdeal.main_arg2))
      ∧ r.2.sem = fun _ => 0)

def quiescent_PostFwd [hPostFwd : Cert.PostFwd.Facts] : Prop :=
  ∀ (m : (ℓ : Loc Cert.PostFwd.nD Cert.PostFwd.τ Cert.PostFwd.sig) → Buf (Elt Bits) ℓ) (g : Dev Cert.PostFwd.nD → PrngReg), Pre_PostFwd m →
    θ_run (Cert.PostFwd.defs (F := Bits)) (onTc (τ := Cert.PostFwd.τ) (Cert.PostFwd.main (F := Bits))) ⟨m, fun _ => 0, g⟩ (fun r => (∀ c : Dev Cert.PostFwd.nD,
      r.2.mem ((c.tc : Thread Cert.PostFwd.nD Cert.PostFwd.τ).loc Cert.PostFwd.main_arg0) = m ((c.tc : Thread Cert.PostFwd.nD Cert.PostFwd.τ).loc Cert.PostFwd.main_arg0)
      ∧ r.2.mem ((c.tc : Thread Cert.PostFwd.nD Cert.PostFwd.τ).loc Cert.PostFwd.main_arg1) = m ((c.tc : Thread Cert.PostFwd.nD Cert.PostFwd.τ).loc Cert.PostFwd.main_arg1)
      ∧ r.2.mem ((c.tc : Thread Cert.PostFwd.nD Cert.PostFwd.τ).loc Cert.PostFwd.main_arg2) = m ((c.tc : Thread Cert.PostFwd.nD Cert.PostFwd.τ).loc Cert.PostFwd.main_arg2)
      ∧ r.2.mem ((c.tc : Thread Cert.PostFwd.nD Cert.PostFwd.τ).loc Cert.PostFwd.main_arg3) = m ((c.tc : Thread Cert.PostFwd.nD Cert.PostFwd.τ).loc Cert.PostFwd.main_arg3))
      ∧ r.2.sem = fun _ => 0)

def quiescent_PostFwdIdeal [hPostFwdIdeal : Cert.PostFwdIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg), Pre_PostFwdIdeal m →
    θ_run (Cert.PostFwdIdeal.defs (F := Ideal)) (onTc (τ := Cert.PostFwdIdeal.τ) (Cert.PostFwdIdeal.main (F := Ideal))) ⟨m, fun _ => 0, g⟩ (fun r => (∀ c : Dev Cert.PostFwdIdeal.nD,
      r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
      ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
      ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2)
      ∧ r.2.mem ((c.tc : Thread Cert.PostFwdIdeal.nD Cert.PostFwdIdeal.τ).loc Cert.PostFwdIdeal.main_arg3) = m ((c.tc : Thread Cert.PostFwdIdeal.nD Cert.PostFwdIdeal.τ).loc Cert.PostFwdIdeal.main_arg3))
      ∧ r.2.sem = fun _ => 0)

def quiescent_PostFwdReferenceIdeal [hPostFwdReferenceIdeal : Cert.PostFwdReferenceIdeal.Facts] : Prop :=
  ∀ (m : (ℓ : Loc Cert.PostFwdReferenceIdeal.nD Cert.PostFwdReferenceIdeal.τ Cert.PostFwdReferenceIdeal.sig) → Buf (Elt Ideal) ℓ) (g : Dev Cert.PostFwdReferenceIdeal.nD → PrngReg), Pre_PostFwdReferenceIdeal m →
    θ_run (Cert.PostFwdReferenceIdeal.defs (F := Ideal)) (onTc (τ := Cert.PostFwdReferenceIdeal.τ) (Cert.PostFwdReferenceIdeal.main (F := Ideal))) ⟨m, fun _ => 0, g⟩ (fun r => (∀ c : Dev Cert.PostFwdReferenceIdeal.nD,
      r.2.mem ((c.tc : Thread Cert.PostFwdReferenceIdeal.nD Cert.PostFwdReferenceIdeal.τ).loc Cert.PostFwdReferenceIdeal.main_arg0) = m ((c.tc : Thread Cert.PostFwdReferenceIdeal.nD Cert.PostFwdReferenceIdeal.τ).loc Cert.PostFwdReferenceIdeal.main_arg0)
      ∧ r.2.mem ((c.tc : Thread Cert.PostFwdReferenceIdeal.nD Cert.PostFwdReferenceIdeal.τ).loc Cert.PostFwdReferenceIdeal.main_arg1) = m ((c.tc : Thread Cert.PostFwdReferenceIdeal.nD Cert.PostFwdReferenceIdeal.τ).loc Cert.PostFwdReferenceIdeal.main_arg1)
      ∧ r.2.mem ((c.tc : Thread Cert.PostFwdReferenceIdeal.nD Cert.PostFwdReferenceIdeal.τ).loc Cert.PostFwdReferenceIdeal.main_arg2) = m ((c.tc : Thread Cert.PostFwdReferenceIdeal.nD Cert.PostFwdReferenceIdeal.τ).loc Cert.PostFwdReferenceIdeal.main_arg2)
      ∧ r.2.mem ((c.tc : Thread Cert.PostFwdReferenceIdeal.nD Cert.PostFwdReferenceIdeal.τ).loc Cert.PostFwdReferenceIdeal.main_arg3) = m ((c.tc : Thread Cert.PostFwdReferenceIdeal.nD Cert.PostFwdReferenceIdeal.τ).loc Cert.PostFwdReferenceIdeal.main_arg3))
      ∧ r.2.sem = fun _ => 0)

def quiescent_ConvDgrad [hConvDgrad : Cert.ConvDgrad.Facts] : Prop :=
  ∀ (m : (ℓ : Loc Cert.ConvDgrad.nD Cert.ConvDgrad.τ Cert.ConvDgrad.sig) → Buf (Elt Bits) ℓ) (g : Dev Cert.ConvDgrad.nD → PrngReg), Pre_ConvDgrad m →
    θ_run (Cert.ConvDgrad.defs (F := Bits)) (onTc (τ := Cert.ConvDgrad.τ) (Cert.ConvDgrad.main (F := Bits))) ⟨m, fun _ => 0, g⟩ (fun r => (∀ c : Dev Cert.ConvDgrad.nD,
      r.2.mem ((c.tc : Thread Cert.ConvDgrad.nD Cert.ConvDgrad.τ).loc Cert.ConvDgrad.main_arg0) = m ((c.tc : Thread Cert.ConvDgrad.nD Cert.ConvDgrad.τ).loc Cert.ConvDgrad.main_arg0)
      ∧ r.2.mem ((c.tc : Thread Cert.ConvDgrad.nD Cert.ConvDgrad.τ).loc Cert.ConvDgrad.main_arg1) = m ((c.tc : Thread Cert.ConvDgrad.nD Cert.ConvDgrad.τ).loc Cert.ConvDgrad.main_arg1)
      ∧ r.2.mem ((c.tc : Thread Cert.ConvDgrad.nD Cert.ConvDgrad.τ).loc Cert.ConvDgrad.main_arg2) = m ((c.tc : Thread Cert.ConvDgrad.nD Cert.ConvDgrad.τ).loc Cert.ConvDgrad.main_arg2)
      ∧ r.2.mem ((c.tc : Thread Cert.ConvDgrad.nD Cert.ConvDgrad.τ).loc Cert.ConvDgrad.main_arg3) = m ((c.tc : Thread Cert.ConvDgrad.nD Cert.ConvDgrad.τ).loc Cert.ConvDgrad.main_arg3)
      ∧ r.2.mem ((c.tc : Thread Cert.ConvDgrad.nD Cert.ConvDgrad.τ).loc Cert.ConvDgrad.main_arg4) = m ((c.tc : Thread Cert.ConvDgrad.nD Cert.ConvDgrad.τ).loc Cert.ConvDgrad.main_arg4)
      ∧ r.2.mem ((c.tc : Thread Cert.ConvDgrad.nD Cert.ConvDgrad.τ).loc Cert.ConvDgrad.main_arg5) = m ((c.tc : Thread Cert.ConvDgrad.nD Cert.ConvDgrad.τ).loc Cert.ConvDgrad.main_arg5))
      ∧ r.2.sem = fun _ => 0)

def quiescent_ConvDgradIdeal [hConvDgradIdeal : Cert.ConvDgradIdeal.Facts] : Prop :=
  ∀ (m : (ℓ : Loc Cert.ConvDgradIdeal.nD Cert.ConvDgradIdeal.τ Cert.ConvDgradIdeal.sig) → Buf (Elt Ideal) ℓ) (g : Dev Cert.ConvDgradIdeal.nD → PrngReg), Pre_ConvDgradIdeal m →
    θ_run (Cert.ConvDgradIdeal.defs (F := Ideal)) (onTc (τ := Cert.ConvDgradIdeal.τ) (Cert.ConvDgradIdeal.main (F := Ideal))) ⟨m, fun _ => 0, g⟩ (fun r => (∀ c : Dev Cert.ConvDgradIdeal.nD,
      r.2.mem ((c.tc : Thread Cert.ConvDgradIdeal.nD Cert.ConvDgradIdeal.τ).loc Cert.ConvDgradIdeal.main_arg0) = m ((c.tc : Thread Cert.ConvDgradIdeal.nD Cert.ConvDgradIdeal.τ).loc Cert.ConvDgradIdeal.main_arg0)
      ∧ r.2.mem ((c.tc : Thread Cert.ConvDgradIdeal.nD Cert.ConvDgradIdeal.τ).loc Cert.ConvDgradIdeal.main_arg1) = m ((c.tc : Thread Cert.ConvDgradIdeal.nD Cert.ConvDgradIdeal.τ).loc Cert.ConvDgradIdeal.main_arg1)
      ∧ r.2.mem ((c.tc : Thread Cert.ConvDgradIdeal.nD Cert.ConvDgradIdeal.τ).loc Cert.ConvDgradIdeal.main_arg2) = m ((c.tc : Thread Cert.ConvDgradIdeal.nD Cert.ConvDgradIdeal.τ).loc Cert.ConvDgradIdeal.main_arg2)
      ∧ r.2.mem ((c.tc : Thread Cert.ConvDgradIdeal.nD Cert.ConvDgradIdeal.τ).loc Cert.ConvDgradIdeal.main_arg3) = m ((c.tc : Thread Cert.ConvDgradIdeal.nD Cert.ConvDgradIdeal.τ).loc Cert.ConvDgradIdeal.main_arg3)
      ∧ r.2.mem ((c.tc : Thread Cert.ConvDgradIdeal.nD Cert.ConvDgradIdeal.τ).loc Cert.ConvDgradIdeal.main_arg4) = m ((c.tc : Thread Cert.ConvDgradIdeal.nD Cert.ConvDgradIdeal.τ).loc Cert.ConvDgradIdeal.main_arg4)
      ∧ r.2.mem ((c.tc : Thread Cert.ConvDgradIdeal.nD Cert.ConvDgradIdeal.τ).loc Cert.ConvDgradIdeal.main_arg5) = m ((c.tc : Thread Cert.ConvDgradIdeal.nD Cert.ConvDgradIdeal.τ).loc Cert.ConvDgradIdeal.main_arg5))
      ∧ r.2.sem = fun _ => 0)

def quiescent_ConvDgradReferenceIdeal [hConvDgradReferenceIdeal : Cert.ConvDgradReferenceIdeal.Facts] : Prop :=
  ∀ (m : (ℓ : Loc Cert.ConvDgradReferenceIdeal.nD Cert.ConvDgradReferenceIdeal.τ Cert.ConvDgradReferenceIdeal.sig) → Buf (Elt Ideal) ℓ) (g : Dev Cert.ConvDgradReferenceIdeal.nD → PrngReg), Pre_ConvDgradReferenceIdeal m →
    θ_run (Cert.ConvDgradReferenceIdeal.defs (F := Ideal)) (onTc (τ := Cert.ConvDgradReferenceIdeal.τ) (Cert.ConvDgradReferenceIdeal.main (F := Ideal))) ⟨m, fun _ => 0, g⟩ (fun r => (∀ c : Dev Cert.ConvDgradReferenceIdeal.nD,
      r.2.mem ((c.tc : Thread Cert.ConvDgradReferenceIdeal.nD Cert.ConvDgradReferenceIdeal.τ).loc Cert.ConvDgradReferenceIdeal.main_arg0) = m ((c.tc : Thread Cert.ConvDgradReferenceIdeal.nD Cert.ConvDgradReferenceIdeal.τ).loc Cert.ConvDgradReferenceIdeal.main_arg0)
      ∧ r.2.mem ((c.tc : Thread Cert.ConvDgradReferenceIdeal.nD Cert.ConvDgradReferenceIdeal.τ).loc Cert.ConvDgradReferenceIdeal.main_arg1) = m ((c.tc : Thread Cert.ConvDgradReferenceIdeal.nD Cert.ConvDgradReferenceIdeal.τ).loc Cert.ConvDgradReferenceIdeal.main_arg1)
      ∧ r.2.mem ((c.tc : Thread Cert.ConvDgradReferenceIdeal.nD Cert.ConvDgradReferenceIdeal.τ).loc Cert.ConvDgradReferenceIdeal.main_arg2) = m ((c.tc : Thread Cert.ConvDgradReferenceIdeal.nD Cert.ConvDgradReferenceIdeal.τ).loc Cert.ConvDgradReferenceIdeal.main_arg2)
      ∧ r.2.mem ((c.tc : Thread Cert.ConvDgradReferenceIdeal.nD Cert.ConvDgradReferenceIdeal.τ).loc Cert.ConvDgradReferenceIdeal.main_arg3) = m ((c.tc : Thread Cert.ConvDgradReferenceIdeal.nD Cert.ConvDgradReferenceIdeal.τ).loc Cert.ConvDgradReferenceIdeal.main_arg3)
      ∧ r.2.mem ((c.tc : Thread Cert.ConvDgradReferenceIdeal.nD Cert.ConvDgradReferenceIdeal.τ).loc Cert.ConvDgradReferenceIdeal.main_arg4) = m ((c.tc : Thread Cert.ConvDgradReferenceIdeal.nD Cert.ConvDgradReferenceIdeal.τ).loc Cert.ConvDgradReferenceIdeal.main_arg4)
      ∧ r.2.mem ((c.tc : Thread Cert.ConvDgradReferenceIdeal.nD Cert.ConvDgradReferenceIdeal.τ).loc Cert.ConvDgradReferenceIdeal.main_arg5) = m ((c.tc : Thread Cert.ConvDgradReferenceIdeal.nD Cert.ConvDgradReferenceIdeal.τ).loc Cert.ConvDgradReferenceIdeal.main_arg5))
      ∧ r.2.sem = fun _ => 0)

def quiescent_PlePost [hPlePost : Cert.PlePost.Facts] : Prop :=
  ∀ (m : (ℓ : Loc Cert.PlePost.nD Cert.PlePost.τ Cert.PlePost.sig) → Buf (Elt Bits) ℓ) (g : Dev Cert.PlePost.nD → PrngReg), Pre_PlePost m →
    θ_run (Cert.PlePost.defs (F := Bits)) (onTc (τ := Cert.PlePost.τ) (Cert.PlePost.main (F := Bits))) ⟨m, fun _ => 0, g⟩ (fun r => (∀ c : Dev Cert.PlePost.nD,
      r.2.mem ((c.tc : Thread Cert.PlePost.nD Cert.PlePost.τ).loc Cert.PlePost.main_arg0) = m ((c.tc : Thread Cert.PlePost.nD Cert.PlePost.τ).loc Cert.PlePost.main_arg0)
      ∧ r.2.mem ((c.tc : Thread Cert.PlePost.nD Cert.PlePost.τ).loc Cert.PlePost.main_arg1) = m ((c.tc : Thread Cert.PlePost.nD Cert.PlePost.τ).loc Cert.PlePost.main_arg1)
      ∧ r.2.mem ((c.tc : Thread Cert.PlePost.nD Cert.PlePost.τ).loc Cert.PlePost.main_arg2) = m ((c.tc : Thread Cert.PlePost.nD Cert.PlePost.τ).loc Cert.PlePost.main_arg2)
      ∧ r.2.mem ((c.tc : Thread Cert.PlePost.nD Cert.PlePost.τ).loc Cert.PlePost.main_arg3) = m ((c.tc : Thread Cert.PlePost.nD Cert.PlePost.τ).loc Cert.PlePost.main_arg3)
      ∧ r.2.mem ((c.tc : Thread Cert.PlePost.nD Cert.PlePost.τ).loc Cert.PlePost.main_arg4) = m ((c.tc : Thread Cert.PlePost.nD Cert.PlePost.τ).loc Cert.PlePost.main_arg4)
      ∧ r.2.mem ((c.tc : Thread Cert.PlePost.nD Cert.PlePost.τ).loc Cert.PlePost.main_arg5) = m ((c.tc : Thread Cert.PlePost.nD Cert.PlePost.τ).loc Cert.PlePost.main_arg5))
      ∧ r.2.sem = fun _ => 0)

def quiescent_PlePostIdeal [hPlePostIdeal : Cert.PlePostIdeal.Facts] : Prop :=
  ∀ (m : (ℓ : Loc Cert.PlePostIdeal.nD Cert.PlePostIdeal.τ Cert.PlePostIdeal.sig) → Buf (Elt Ideal) ℓ) (g : Dev Cert.PlePostIdeal.nD → PrngReg), Pre_PlePostIdeal m →
    θ_run (Cert.PlePostIdeal.defs (F := Ideal)) (onTc (τ := Cert.PlePostIdeal.τ) (Cert.PlePostIdeal.main (F := Ideal))) ⟨m, fun _ => 0, g⟩ (fun r => (∀ c : Dev Cert.PlePostIdeal.nD,
      r.2.mem ((c.tc : Thread Cert.PlePostIdeal.nD Cert.PlePostIdeal.τ).loc Cert.PlePostIdeal.main_arg0) = m ((c.tc : Thread Cert.PlePostIdeal.nD Cert.PlePostIdeal.τ).loc Cert.PlePostIdeal.main_arg0)
      ∧ r.2.mem ((c.tc : Thread Cert.PlePostIdeal.nD Cert.PlePostIdeal.τ).loc Cert.PlePostIdeal.main_arg1) = m ((c.tc : Thread Cert.PlePostIdeal.nD Cert.PlePostIdeal.τ).loc Cert.PlePostIdeal.main_arg1)
      ∧ r.2.mem ((c.tc : Thread Cert.PlePostIdeal.nD Cert.PlePostIdeal.τ).loc Cert.PlePostIdeal.main_arg2) = m ((c.tc : Thread Cert.PlePostIdeal.nD Cert.PlePostIdeal.τ).loc Cert.PlePostIdeal.main_arg2)
      ∧ r.2.mem ((c.tc : Thread Cert.PlePostIdeal.nD Cert.PlePostIdeal.τ).loc Cert.PlePostIdeal.main_arg3) = m ((c.tc : Thread Cert.PlePostIdeal.nD Cert.PlePostIdeal.τ).loc Cert.PlePostIdeal.main_arg3)
      ∧ r.2.mem ((c.tc : Thread Cert.PlePostIdeal.nD Cert.PlePostIdeal.τ).loc Cert.PlePostIdeal.main_arg4) = m ((c.tc : Thread Cert.PlePostIdeal.nD Cert.PlePostIdeal.τ).loc Cert.PlePostIdeal.main_arg4)
      ∧ r.2.mem ((c.tc : Thread Cert.PlePostIdeal.nD Cert.PlePostIdeal.τ).loc Cert.PlePostIdeal.main_arg5) = m ((c.tc : Thread Cert.PlePostIdeal.nD Cert.PlePostIdeal.τ).loc Cert.PlePostIdeal.main_arg5))
      ∧ r.2.sem = fun _ => 0)

def quiescent_PlePostReferenceIdeal [hPlePostReferenceIdeal : Cert.PlePostReferenceIdeal.Facts] : Prop :=
  ∀ (m : (ℓ : Loc Cert.PlePostReferenceIdeal.nD Cert.PlePostReferenceIdeal.τ Cert.PlePostReferenceIdeal.sig) → Buf (Elt Ideal) ℓ) (g : Dev Cert.PlePostReferenceIdeal.nD → PrngReg), Pre_PlePostReferenceIdeal m →
    θ_run (Cert.PlePostReferenceIdeal.defs (F := Ideal)) (onTc (τ := Cert.PlePostReferenceIdeal.τ) (Cert.PlePostReferenceIdeal.main (F := Ideal))) ⟨m, fun _ => 0, g⟩ (fun r => (∀ c : Dev Cert.PlePostReferenceIdeal.nD,
      r.2.mem ((c.tc : Thread Cert.PlePostReferenceIdeal.nD Cert.PlePostReferenceIdeal.τ).loc Cert.PlePostReferenceIdeal.main_arg0) = m ((c.tc : Thread Cert.PlePostReferenceIdeal.nD Cert.PlePostReferenceIdeal.τ).loc Cert.PlePostReferenceIdeal.main_arg0)
      ∧ r.2.mem ((c.tc : Thread Cert.PlePostReferenceIdeal.nD Cert.PlePostReferenceIdeal.τ).loc Cert.PlePostReferenceIdeal.main_arg1) = m ((c.tc : Thread Cert.PlePostReferenceIdeal.nD Cert.PlePostReferenceIdeal.τ).loc Cert.PlePostReferenceIdeal.main_arg1)
      ∧ r.2.mem ((c.tc : Thread Cert.PlePostReferenceIdeal.nD Cert.PlePostReferenceIdeal.τ).loc Cert.PlePostReferenceIdeal.main_arg2) = m ((c.tc : Thread Cert.PlePostReferenceIdeal.nD Cert.PlePostReferenceIdeal.τ).loc Cert.PlePostReferenceIdeal.main_arg2)
      ∧ r.2.mem ((c.tc : Thread Cert.PlePostReferenceIdeal.nD Cert.PlePostReferenceIdeal.τ).loc Cert.PlePostReferenceIdeal.main_arg3) = m ((c.tc : Thread Cert.PlePostReferenceIdeal.nD Cert.PlePostReferenceIdeal.τ).loc Cert.PlePostReferenceIdeal.main_arg3)
      ∧ r.2.mem ((c.tc : Thread Cert.PlePostReferenceIdeal.nD Cert.PlePostReferenceIdeal.τ).loc Cert.PlePostReferenceIdeal.main_arg4) = m ((c.tc : Thread Cert.PlePostReferenceIdeal.nD Cert.PlePostReferenceIdeal.τ).loc Cert.PlePostReferenceIdeal.main_arg4)
      ∧ r.2.mem ((c.tc : Thread Cert.PlePostReferenceIdeal.nD Cert.PlePostReferenceIdeal.τ).loc Cert.PlePostReferenceIdeal.main_arg5) = m ((c.tc : Thread Cert.PlePostReferenceIdeal.nD Cert.PlePostReferenceIdeal.τ).loc Cert.PlePostReferenceIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormReferenceIdeal [hAdamNormReferenceIdeal : Cert.AdamNormReferenceIdeal.Facts] : Prop :=
  ∀ (m : (ℓ : Loc Cert.AdamNormReferenceIdeal.nD Cert.AdamNormReferenceIdeal.τ Cert.AdamNormReferenceIdeal.sig) → Buf (Elt Ideal) ℓ) (g : Dev Cert.AdamNormReferenceIdeal.nD → PrngReg), Pre_AdamNormReferenceIdeal m →
    θ_run (Cert.AdamNormReferenceIdeal.defs (F := Ideal)) (onTc (τ := Cert.AdamNormReferenceIdeal.τ) (Cert.AdamNormReferenceIdeal.main (F := Ideal))) ⟨m, fun _ => 0, g⟩ (fun r => (∀ c : Dev Cert.AdamNormReferenceIdeal.nD,
      r.2.mem ((c.tc : Thread Cert.AdamNormReferenceIdeal.nD Cert.AdamNormReferenceIdeal.τ).loc Cert.AdamNormReferenceIdeal.main_arg0) = m ((c.tc : Thread Cert.AdamNormReferenceIdeal.nD Cert.AdamNormReferenceIdeal.τ).loc Cert.AdamNormReferenceIdeal.main_arg0)
      ∧ r.2.mem ((c.tc : Thread Cert.AdamNormReferenceIdeal.nD Cert.AdamNormReferenceIdeal.τ).loc Cert.AdamNormReferenceIdeal.main_arg1) = m ((c.tc : Thread Cert.AdamNormReferenceIdeal.nD Cert.AdamNormReferenceIdeal.τ).loc Cert.AdamNormReferenceIdeal.main_arg1)
      ∧ r.2.mem ((c.tc : Thread Cert.AdamNormReferenceIdeal.nD Cert.AdamNormReferenceIdeal.τ).loc Cert.AdamNormReferenceIdeal.main_arg2) = m ((c.tc : Thread Cert.AdamNormReferenceIdeal.nD Cert.AdamNormReferenceIdeal.τ).loc Cert.AdamNormReferenceIdeal.main_arg2)
      ∧ r.2.mem ((c.tc : Thread Cert.AdamNormReferenceIdeal.nD Cert.AdamNormReferenceIdeal.τ).loc Cert.AdamNormReferenceIdeal.main_arg3) = m ((c.tc : Thread Cert.AdamNormReferenceIdeal.nD Cert.AdamNormReferenceIdeal.τ).loc Cert.AdamNormReferenceIdeal.main_arg3))
      ∧ r.2.sem = fun _ => 0)

def quiescent_AdamAttnIn [hAdamAttnIn : Cert.AdamAttnIn.Facts] : Prop :=
  ∀ (m : (ℓ : Loc Cert.AdamAttnIn.nD Cert.AdamAttnIn.τ Cert.AdamAttnIn.sig) → Buf (Elt Bits) ℓ) (g : Dev Cert.AdamAttnIn.nD → PrngReg), Pre_AdamAttnIn m →
    θ_run (Cert.AdamAttnIn.defs (F := Bits)) (onTc (τ := Cert.AdamAttnIn.τ) (Cert.AdamAttnIn.main (F := Bits))) ⟨m, fun _ => 0, g⟩ (fun r => (∀ c : Dev Cert.AdamAttnIn.nD,
      r.2.mem ((c.tc : Thread Cert.AdamAttnIn.nD Cert.AdamAttnIn.τ).loc Cert.AdamAttnIn.main_arg0) = m ((c.tc : Thread Cert.AdamAttnIn.nD Cert.AdamAttnIn.τ).loc Cert.AdamAttnIn.main_arg0)
      ∧ r.2.mem ((c.tc : Thread Cert.AdamAttnIn.nD Cert.AdamAttnIn.τ).loc Cert.AdamAttnIn.main_arg1) = m ((c.tc : Thread Cert.AdamAttnIn.nD Cert.AdamAttnIn.τ).loc Cert.AdamAttnIn.main_arg1)
      ∧ r.2.mem ((c.tc : Thread Cert.AdamAttnIn.nD Cert.AdamAttnIn.τ).loc Cert.AdamAttnIn.main_arg2) = m ((c.tc : Thread Cert.AdamAttnIn.nD Cert.AdamAttnIn.τ).loc Cert.AdamAttnIn.main_arg2)
      ∧ r.2.mem ((c.tc : Thread Cert.AdamAttnIn.nD Cert.AdamAttnIn.τ).loc Cert.AdamAttnIn.main_arg3) = m ((c.tc : Thread Cert.AdamAttnIn.nD Cert.AdamAttnIn.τ).loc Cert.AdamAttnIn.main_arg3))
      ∧ r.2.sem = fun _ => 0)

def quiescent_AdamAttnInIdeal [hAdamAttnInIdeal : Cert.AdamAttnInIdeal.Facts] : Prop :=
  ∀ (m : (ℓ : Loc Cert.AdamAttnInIdeal.nD Cert.AdamAttnInIdeal.τ Cert.AdamAttnInIdeal.sig) → Buf (Elt Ideal) ℓ) (g : Dev Cert.AdamAttnInIdeal.nD → PrngReg), Pre_AdamAttnInIdeal m →
    θ_run (Cert.AdamAttnInIdeal.defs (F := Ideal)) (onTc (τ := Cert.AdamAttnInIdeal.τ) (Cert.AdamAttnInIdeal.main (F := Ideal))) ⟨m, fun _ => 0, g⟩ (fun r => (∀ c : Dev Cert.AdamAttnInIdeal.nD,
      r.2.mem ((c.tc : Thread Cert.AdamAttnInIdeal.nD Cert.AdamAttnInIdeal.τ).loc Cert.AdamAttnInIdeal.main_arg0) = m ((c.tc : Thread Cert.AdamAttnInIdeal.nD Cert.AdamAttnInIdeal.τ).loc Cert.AdamAttnInIdeal.main_arg0)
      ∧ r.2.mem ((c.tc : Thread Cert.AdamAttnInIdeal.nD Cert.AdamAttnInIdeal.τ).loc Cert.AdamAttnInIdeal.main_arg1) = m ((c.tc : Thread Cert.AdamAttnInIdeal.nD Cert.AdamAttnInIdeal.τ).loc Cert.AdamAttnInIdeal.main_arg1)
      ∧ r.2.mem ((c.tc : Thread Cert.AdamAttnInIdeal.nD Cert.AdamAttnInIdeal.τ).loc Cert.AdamAttnInIdeal.main_arg2) = m ((c.tc : Thread Cert.AdamAttnInIdeal.nD Cert.AdamAttnInIdeal.τ).loc Cert.AdamAttnInIdeal.main_arg2)
      ∧ r.2.mem ((c.tc : Thread Cert.AdamAttnInIdeal.nD Cert.AdamAttnInIdeal.τ).loc Cert.AdamAttnInIdeal.main_arg3) = m ((c.tc : Thread Cert.AdamAttnInIdeal.nD Cert.AdamAttnInIdeal.τ).loc Cert.AdamAttnInIdeal.main_arg3))
      ∧ r.2.sem = fun _ => 0)

def quiescent_AdamAttnInReferenceIdeal [hAdamAttnInReferenceIdeal : Cert.AdamAttnInReferenceIdeal.Facts] : Prop :=
  ∀ (m : (ℓ : Loc Cert.AdamAttnInReferenceIdeal.nD Cert.AdamAttnInReferenceIdeal.τ Cert.AdamAttnInReferenceIdeal.sig) → Buf (Elt Ideal) ℓ) (g : Dev Cert.AdamAttnInReferenceIdeal.nD → PrngReg), Pre_AdamAttnInReferenceIdeal m →
    θ_run (Cert.AdamAttnInReferenceIdeal.defs (F := Ideal)) (onTc (τ := Cert.AdamAttnInReferenceIdeal.τ) (Cert.AdamAttnInReferenceIdeal.main (F := Ideal))) ⟨m, fun _ => 0, g⟩ (fun r => (∀ c : Dev Cert.AdamAttnInReferenceIdeal.nD,
      r.2.mem ((c.tc : Thread Cert.AdamAttnInReferenceIdeal.nD Cert.AdamAttnInReferenceIdeal.τ).loc Cert.AdamAttnInReferenceIdeal.main_arg0) = m ((c.tc : Thread Cert.AdamAttnInReferenceIdeal.nD Cert.AdamAttnInReferenceIdeal.τ).loc Cert.AdamAttnInReferenceIdeal.main_arg0)
      ∧ r.2.mem ((c.tc : Thread Cert.AdamAttnInReferenceIdeal.nD Cert.AdamAttnInReferenceIdeal.τ).loc Cert.AdamAttnInReferenceIdeal.main_arg1) = m ((c.tc : Thread Cert.AdamAttnInReferenceIdeal.nD Cert.AdamAttnInReferenceIdeal.τ).loc Cert.AdamAttnInReferenceIdeal.main_arg1)
      ∧ r.2.mem ((c.tc : Thread Cert.AdamAttnInReferenceIdeal.nD Cert.AdamAttnInReferenceIdeal.τ).loc Cert.AdamAttnInReferenceIdeal.main_arg2) = m ((c.tc : Thread Cert.AdamAttnInReferenceIdeal.nD Cert.AdamAttnInReferenceIdeal.τ).loc Cert.AdamAttnInReferenceIdeal.main_arg2)
      ∧ r.2.mem ((c.tc : Thread Cert.AdamAttnInReferenceIdeal.nD Cert.AdamAttnInReferenceIdeal.τ).loc Cert.AdamAttnInReferenceIdeal.main_arg3) = m ((c.tc : Thread Cert.AdamAttnInReferenceIdeal.nD Cert.AdamAttnInReferenceIdeal.τ).loc Cert.AdamAttnInReferenceIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3))
      ∧ r.2.sem = fun _ => 0)

def quiescent_AdamConvIn [hAdamConvIn : Cert.AdamConvIn.Facts] : Prop :=
  ∀ (m : (ℓ : Loc Cert.AdamConvIn.nD Cert.AdamConvIn.τ Cert.AdamConvIn.sig) → Buf (Elt Bits) ℓ) (g : Dev Cert.AdamConvIn.nD → PrngReg), Pre_AdamConvIn m →
    θ_run (Cert.AdamConvIn.defs (F := Bits)) (onTc (τ := Cert.AdamConvIn.τ) (Cert.AdamConvIn.main (F := Bits))) ⟨m, fun _ => 0, g⟩ (fun r => (∀ c : Dev Cert.AdamConvIn.nD,
      r.2.mem ((c.tc : Thread Cert.AdamConvIn.nD Cert.AdamConvIn.τ).loc Cert.AdamConvIn.main_arg0) = m ((c.tc : Thread Cert.AdamConvIn.nD Cert.AdamConvIn.τ).loc Cert.AdamConvIn.main_arg0)
      ∧ r.2.mem ((c.tc : Thread Cert.AdamConvIn.nD Cert.AdamConvIn.τ).loc Cert.AdamConvIn.main_arg1) = m ((c.tc : Thread Cert.AdamConvIn.nD Cert.AdamConvIn.τ).loc Cert.AdamConvIn.main_arg1)
      ∧ r.2.mem ((c.tc : Thread Cert.AdamConvIn.nD Cert.AdamConvIn.τ).loc Cert.AdamConvIn.main_arg2) = m ((c.tc : Thread Cert.AdamConvIn.nD Cert.AdamConvIn.τ).loc Cert.AdamConvIn.main_arg2)
      ∧ r.2.mem ((c.tc : Thread Cert.AdamConvIn.nD Cert.AdamConvIn.τ).loc Cert.AdamConvIn.main_arg3) = m ((c.tc : Thread Cert.AdamConvIn.nD Cert.AdamConvIn.τ).loc Cert.AdamConvIn.main_arg3))
      ∧ r.2.sem = fun _ => 0)

def quiescent_AdamConvInIdeal [hAdamConvInIdeal : Cert.AdamConvInIdeal.Facts] : Prop :=
  ∀ (m : (ℓ : Loc Cert.AdamConvInIdeal.nD Cert.AdamConvInIdeal.τ Cert.AdamConvInIdeal.sig) → Buf (Elt Ideal) ℓ) (g : Dev Cert.AdamConvInIdeal.nD → PrngReg), Pre_AdamConvInIdeal m →
    θ_run (Cert.AdamConvInIdeal.defs (F := Ideal)) (onTc (τ := Cert.AdamConvInIdeal.τ) (Cert.AdamConvInIdeal.main (F := Ideal))) ⟨m, fun _ => 0, g⟩ (fun r => (∀ c : Dev Cert.AdamConvInIdeal.nD,
      r.2.mem ((c.tc : Thread Cert.AdamConvInIdeal.nD Cert.AdamConvInIdeal.τ).loc Cert.AdamConvInIdeal.main_arg0) = m ((c.tc : Thread Cert.AdamConvInIdeal.nD Cert.AdamConvInIdeal.τ).loc Cert.AdamConvInIdeal.main_arg0)
      ∧ r.2.mem ((c.tc : Thread Cert.AdamConvInIdeal.nD Cert.AdamConvInIdeal.τ).loc Cert.AdamConvInIdeal.main_arg1) = m ((c.tc : Thread Cert.AdamConvInIdeal.nD Cert.AdamConvInIdeal.τ).loc Cert.AdamConvInIdeal.main_arg1)
      ∧ r.2.mem ((c.tc : Thread Cert.AdamConvInIdeal.nD Cert.AdamConvInIdeal.τ).loc Cert.AdamConvInIdeal.main_arg2) = m ((c.tc : Thread Cert.AdamConvInIdeal.nD Cert.AdamConvInIdeal.τ).loc Cert.AdamConvInIdeal.main_arg2)
      ∧ r.2.mem ((c.tc : Thread Cert.AdamConvInIdeal.nD Cert.AdamConvInIdeal.τ).loc Cert.AdamConvInIdeal.main_arg3) = m ((c.tc : Thread Cert.AdamConvInIdeal.nD Cert.AdamConvInIdeal.τ).loc Cert.AdamConvInIdeal.main_arg3))
      ∧ r.2.sem = fun _ => 0)

def quiescent_AdamConvInReferenceIdeal [hAdamConvInReferenceIdeal : Cert.AdamConvInReferenceIdeal.Facts] : Prop :=
  ∀ (m : (ℓ : Loc Cert.AdamConvInReferenceIdeal.nD Cert.AdamConvInReferenceIdeal.τ Cert.AdamConvInReferenceIdeal.sig) → Buf (Elt Ideal) ℓ) (g : Dev Cert.AdamConvInReferenceIdeal.nD → PrngReg), Pre_AdamConvInReferenceIdeal m →
    θ_run (Cert.AdamConvInReferenceIdeal.defs (F := Ideal)) (onTc (τ := Cert.AdamConvInReferenceIdeal.τ) (Cert.AdamConvInReferenceIdeal.main (F := Ideal))) ⟨m, fun _ => 0, g⟩ (fun r => (∀ c : Dev Cert.AdamConvInReferenceIdeal.nD,
      r.2.mem ((c.tc : Thread Cert.AdamConvInReferenceIdeal.nD Cert.AdamConvInReferenceIdeal.τ).loc Cert.AdamConvInReferenceIdeal.main_arg0) = m ((c.tc : Thread Cert.AdamConvInReferenceIdeal.nD Cert.AdamConvInReferenceIdeal.τ).loc Cert.AdamConvInReferenceIdeal.main_arg0)
      ∧ r.2.mem ((c.tc : Thread Cert.AdamConvInReferenceIdeal.nD Cert.AdamConvInReferenceIdeal.τ).loc Cert.AdamConvInReferenceIdeal.main_arg1) = m ((c.tc : Thread Cert.AdamConvInReferenceIdeal.nD Cert.AdamConvInReferenceIdeal.τ).loc Cert.AdamConvInReferenceIdeal.main_arg1)
      ∧ r.2.mem ((c.tc : Thread Cert.AdamConvInReferenceIdeal.nD Cert.AdamConvInReferenceIdeal.τ).loc Cert.AdamConvInReferenceIdeal.main_arg2) = m ((c.tc : Thread Cert.AdamConvInReferenceIdeal.nD Cert.AdamConvInReferenceIdeal.τ).loc Cert.AdamConvInReferenceIdeal.main_arg2)
      ∧ r.2.mem ((c.tc : Thread Cert.AdamConvInReferenceIdeal.nD Cert.AdamConvInReferenceIdeal.τ).loc Cert.AdamConvInReferenceIdeal.main_arg3) = m ((c.tc : Thread Cert.AdamConvInReferenceIdeal.nD Cert.AdamConvInReferenceIdeal.τ).loc Cert.AdamConvInReferenceIdeal.main_arg3))
      ∧ r.2.sem = fun _ => 0)

def quiescent_AdamConvTaps [hAdamConvTaps : Cert.AdamConvTaps.Facts] : Prop :=
  ∀ (m : (ℓ : Loc Cert.AdamConvTaps.nD Cert.AdamConvTaps.τ Cert.AdamConvTaps.sig) → Buf (Elt Bits) ℓ) (g : Dev Cert.AdamConvTaps.nD → PrngReg), Pre_AdamConvTaps m →
    θ_run (Cert.AdamConvTaps.defs (F := Bits)) (onTc (τ := Cert.AdamConvTaps.τ) (Cert.AdamConvTaps.main (F := Bits))) ⟨m, fun _ => 0, g⟩ (fun r => (∀ c : Dev Cert.AdamConvTaps.nD,
      r.2.mem ((c.tc : Thread Cert.AdamConvTaps.nD Cert.AdamConvTaps.τ).loc Cert.AdamConvTaps.main_arg0) = m ((c.tc : Thread Cert.AdamConvTaps.nD Cert.AdamConvTaps.τ).loc Cert.AdamConvTaps.main_arg0)
      ∧ r.2.mem ((c.tc : Thread Cert.AdamConvTaps.nD Cert.AdamConvTaps.τ).loc Cert.AdamConvTaps.main_arg1) = m ((c.tc : Thread Cert.AdamConvTaps.nD Cert.AdamConvTaps.τ).loc Cert.AdamConvTaps.main_arg1)
      ∧ r.2.mem ((c.tc : Thread Cert.AdamConvTaps.nD Cert.AdamConvTaps.τ).loc Cert.AdamConvTaps.main_arg2) = m ((c.tc : Thread Cert.AdamConvTaps.nD Cert.AdamConvTaps.τ).loc Cert.AdamConvTaps.main_arg2)
      ∧ r.2.mem ((c.tc : Thread Cert.AdamConvTaps.nD Cert.AdamConvTaps.τ).loc Cert.AdamConvTaps.main_arg3) = m ((c.tc : Thread Cert.AdamConvTaps.nD Cert.AdamConvTaps.τ).loc Cert.AdamConvTaps.main_arg3))
      ∧ r.2.sem = fun _ => 0)

def quiescent_AdamConvTapsIdeal [hAdamConvTapsIdeal : Cert.AdamConvTapsIdeal.Facts] : Prop :=
  ∀ (m : (ℓ : Loc Cert.AdamConvTapsIdeal.nD Cert.AdamConvTapsIdeal.τ Cert.AdamConvTapsIdeal.sig) → Buf (Elt Ideal) ℓ) (g : Dev Cert.AdamConvTapsIdeal.nD → PrngReg), Pre_AdamConvTapsIdeal m →
    θ_run (Cert.AdamConvTapsIdeal.defs (F := Ideal)) (onTc (τ := Cert.AdamConvTapsIdeal.τ) (Cert.AdamConvTapsIdeal.main (F := Ideal))) ⟨m, fun _ => 0, g⟩ (fun r => (∀ c : Dev Cert.AdamConvTapsIdeal.nD,
      r.2.mem ((c.tc : Thread Cert.AdamConvTapsIdeal.nD Cert.AdamConvTapsIdeal.τ).loc Cert.AdamConvTapsIdeal.main_arg0) = m ((c.tc : Thread Cert.AdamConvTapsIdeal.nD Cert.AdamConvTapsIdeal.τ).loc Cert.AdamConvTapsIdeal.main_arg0)
      ∧ r.2.mem ((c.tc : Thread Cert.AdamConvTapsIdeal.nD Cert.AdamConvTapsIdeal.τ).loc Cert.AdamConvTapsIdeal.main_arg1) = m ((c.tc : Thread Cert.AdamConvTapsIdeal.nD Cert.AdamConvTapsIdeal.τ).loc Cert.AdamConvTapsIdeal.main_arg1)
      ∧ r.2.mem ((c.tc : Thread Cert.AdamConvTapsIdeal.nD Cert.AdamConvTapsIdeal.τ).loc Cert.AdamConvTapsIdeal.main_arg2) = m ((c.tc : Thread Cert.AdamConvTapsIdeal.nD Cert.AdamConvTapsIdeal.τ).loc Cert.AdamConvTapsIdeal.main_arg2)
      ∧ r.2.mem ((c.tc : Thread Cert.AdamConvTapsIdeal.nD Cert.AdamConvTapsIdeal.τ).loc Cert.AdamConvTapsIdeal.main_arg3) = m ((c.tc : Thread Cert.AdamConvTapsIdeal.nD Cert.AdamConvTapsIdeal.τ).loc Cert.AdamConvTapsIdeal.main_arg3))
      ∧ r.2.sem = fun _ => 0)

def quiescent_AdamConvTapsReferenceIdeal [hAdamConvTapsReferenceIdeal : Cert.AdamConvTapsReferenceIdeal.Facts] : Prop :=
  ∀ (m : (ℓ : Loc Cert.AdamConvTapsReferenceIdeal.nD Cert.AdamConvTapsReferenceIdeal.τ Cert.AdamConvTapsReferenceIdeal.sig) → Buf (Elt Ideal) ℓ) (g : Dev Cert.AdamConvTapsReferenceIdeal.nD → PrngReg), Pre_AdamConvTapsReferenceIdeal m →
    θ_run (Cert.AdamConvTapsReferenceIdeal.defs (F := Ideal)) (onTc (τ := Cert.AdamConvTapsReferenceIdeal.τ) (Cert.AdamConvTapsReferenceIdeal.main (F := Ideal))) ⟨m, fun _ => 0, g⟩ (fun r => (∀ c : Dev Cert.AdamConvTapsReferenceIdeal.nD,
      r.2.mem ((c.tc : Thread Cert.AdamConvTapsReferenceIdeal.nD Cert.AdamConvTapsReferenceIdeal.τ).loc Cert.AdamConvTapsReferenceIdeal.main_arg0) = m ((c.tc : Thread Cert.AdamConvTapsReferenceIdeal.nD Cert.AdamConvTapsReferenceIdeal.τ).loc Cert.AdamConvTapsReferenceIdeal.main_arg0)
      ∧ r.2.mem ((c.tc : Thread Cert.AdamConvTapsReferenceIdeal.nD Cert.AdamConvTapsReferenceIdeal.τ).loc Cert.AdamConvTapsReferenceIdeal.main_arg1) = m ((c.tc : Thread Cert.AdamConvTapsReferenceIdeal.nD Cert.AdamConvTapsReferenceIdeal.τ).loc Cert.AdamConvTapsReferenceIdeal.main_arg1)
      ∧ r.2.mem ((c.tc : Thread Cert.AdamConvTapsReferenceIdeal.nD Cert.AdamConvTapsReferenceIdeal.τ).loc Cert.AdamConvTapsReferenceIdeal.main_arg2) = m ((c.tc : Thread Cert.AdamConvTapsReferenceIdeal.nD Cert.AdamConvTapsReferenceIdeal.τ).loc Cert.AdamConvTapsReferenceIdeal.main_arg2)
      ∧ r.2.mem ((c.tc : Thread Cert.AdamConvTapsReferenceIdeal.nD Cert.AdamConvTapsReferenceIdeal.τ).loc Cert.AdamConvTapsReferenceIdeal.main_arg3) = m ((c.tc : Thread Cert.AdamConvTapsReferenceIdeal.nD Cert.AdamConvTapsReferenceIdeal.τ).loc Cert.AdamConvTapsReferenceIdeal.main_arg3))
      ∧ r.2.sem = fun _ => 0)

def quiescent_AdamConvRow [hAdamConvRow : Cert.AdamConvRow.Facts] : Prop :=
  ∀ (m : (ℓ : Loc Cert.AdamConvRow.nD Cert.AdamConvRow.τ Cert.AdamConvRow.sig) → Buf (Elt Bits) ℓ) (g : Dev Cert.AdamConvRow.nD → PrngReg), Pre_AdamConvRow m →
    θ_run (Cert.AdamConvRow.defs (F := Bits)) (onTc (τ := Cert.AdamConvRow.τ) (Cert.AdamConvRow.main (F := Bits))) ⟨m, fun _ => 0, g⟩ (fun r => (∀ c : Dev Cert.AdamConvRow.nD,
      r.2.mem ((c.tc : Thread Cert.AdamConvRow.nD Cert.AdamConvRow.τ).loc Cert.AdamConvRow.main_arg0) = m ((c.tc : Thread Cert.AdamConvRow.nD Cert.AdamConvRow.τ).loc Cert.AdamConvRow.main_arg0)
      ∧ r.2.mem ((c.tc : Thread Cert.AdamConvRow.nD Cert.AdamConvRow.τ).loc Cert.AdamConvRow.main_arg1) = m ((c.tc : Thread Cert.AdamConvRow.nD Cert.AdamConvRow.τ).loc Cert.AdamConvRow.main_arg1)
      ∧ r.2.mem ((c.tc : Thread Cert.AdamConvRow.nD Cert.AdamConvRow.τ).loc Cert.AdamConvRow.main_arg2) = m ((c.tc : Thread Cert.AdamConvRow.nD Cert.AdamConvRow.τ).loc Cert.AdamConvRow.main_arg2)
      ∧ r.2.mem ((c.tc : Thread Cert.AdamConvRow.nD Cert.AdamConvRow.τ).loc Cert.AdamConvRow.main_arg3) = m ((c.tc : Thread Cert.AdamConvRow.nD Cert.AdamConvRow.τ).loc Cert.AdamConvRow.main_arg3))
      ∧ r.2.sem = fun _ => 0)

def quiescent_AdamConvRowIdeal [hAdamConvRowIdeal : Cert.AdamConvRowIdeal.Facts] : Prop :=
  ∀ (m : (ℓ : Loc Cert.AdamConvRowIdeal.nD Cert.AdamConvRowIdeal.τ Cert.AdamConvRowIdeal.sig) → Buf (Elt Ideal) ℓ) (g : Dev Cert.AdamConvRowIdeal.nD → PrngReg), Pre_AdamConvRowIdeal m →
    θ_run (Cert.AdamConvRowIdeal.defs (F := Ideal)) (onTc (τ := Cert.AdamConvRowIdeal.τ) (Cert.AdamConvRowIdeal.main (F := Ideal))) ⟨m, fun _ => 0, g⟩ (fun r => (∀ c : Dev Cert.AdamConvRowIdeal.nD,
      r.2.mem ((c.tc : Thread Cert.AdamConvRowIdeal.nD Cert.AdamConvRowIdeal.τ).loc Cert.AdamConvRowIdeal.main_arg0) = m ((c.tc : Thread Cert.AdamConvRowIdeal.nD Cert.AdamConvRowIdeal.τ).loc Cert.AdamConvRowIdeal.main_arg0)
      ∧ r.2.mem ((c.tc : Thread Cert.AdamConvRowIdeal.nD Cert.AdamConvRowIdeal.τ).loc Cert.AdamConvRowIdeal.main_arg1) = m ((c.tc : Thread Cert.AdamConvRowIdeal.nD Cert.AdamConvRowIdeal.τ).loc Cert.AdamConvRowIdeal.main_arg1)
      ∧ r.2.mem ((c.tc : Thread Cert.AdamConvRowIdeal.nD Cert.AdamConvRowIdeal.τ).loc Cert.AdamConvRowIdeal.main_arg2) = m ((c.tc : Thread Cert.AdamConvRowIdeal.nD Cert.AdamConvRowIdeal.τ).loc Cert.AdamConvRowIdeal.main_arg2)
      ∧ r.2.mem ((c.tc : Thread Cert.AdamConvRowIdeal.nD Cert.AdamConvRowIdeal.τ).loc Cert.AdamConvRowIdeal.main_arg3) = m ((c.tc : Thread Cert.AdamConvRowIdeal.nD Cert.AdamConvRowIdeal.τ).loc Cert.AdamConvRowIdeal.main_arg3))
      ∧ r.2.sem = fun _ => 0)

def quiescent_AdamConvRowReferenceIdeal [hAdamConvRowReferenceIdeal : Cert.AdamConvRowReferenceIdeal.Facts] : Prop :=
  ∀ (m : (ℓ : Loc Cert.AdamConvRowReferenceIdeal.nD Cert.AdamConvRowReferenceIdeal.τ Cert.AdamConvRowReferenceIdeal.sig) → Buf (Elt Ideal) ℓ) (g : Dev Cert.AdamConvRowReferenceIdeal.nD → PrngReg), Pre_AdamConvRowReferenceIdeal m →
    θ_run (Cert.AdamConvRowReferenceIdeal.defs (F := Ideal)) (onTc (τ := Cert.AdamConvRowReferenceIdeal.τ) (Cert.AdamConvRowReferenceIdeal.main (F := Ideal))) ⟨m, fun _ => 0, g⟩ (fun r => (∀ c : Dev Cert.AdamConvRowReferenceIdeal.nD,
      r.2.mem ((c.tc : Thread Cert.AdamConvRowReferenceIdeal.nD Cert.AdamConvRowReferenceIdeal.τ).loc Cert.AdamConvRowReferenceIdeal.main_arg0) = m ((c.tc : Thread Cert.AdamConvRowReferenceIdeal.nD Cert.AdamConvRowReferenceIdeal.τ).loc Cert.AdamConvRowReferenceIdeal.main_arg0)
      ∧ r.2.mem ((c.tc : Thread Cert.AdamConvRowReferenceIdeal.nD Cert.AdamConvRowReferenceIdeal.τ).loc Cert.AdamConvRowReferenceIdeal.main_arg1) = m ((c.tc : Thread Cert.AdamConvRowReferenceIdeal.nD Cert.AdamConvRowReferenceIdeal.τ).loc Cert.AdamConvRowReferenceIdeal.main_arg1)
      ∧ r.2.mem ((c.tc : Thread Cert.AdamConvRowReferenceIdeal.nD Cert.AdamConvRowReferenceIdeal.τ).loc Cert.AdamConvRowReferenceIdeal.main_arg2) = m ((c.tc : Thread Cert.AdamConvRowReferenceIdeal.nD Cert.AdamConvRowReferenceIdeal.τ).loc Cert.AdamConvRowReferenceIdeal.main_arg2)
      ∧ r.2.mem ((c.tc : Thread Cert.AdamConvRowReferenceIdeal.nD Cert.AdamConvRowReferenceIdeal.τ).loc Cert.AdamConvRowReferenceIdeal.main_arg3) = m ((c.tc : Thread Cert.AdamConvRowReferenceIdeal.nD Cert.AdamConvRowReferenceIdeal.τ).loc Cert.AdamConvRowReferenceIdeal.main_arg3))
      ∧ r.2.sem = fun _ => 0)

def quiescent_AdamPleProj [hAdamPleProj : Cert.AdamPleProj.Facts] : Prop :=
  ∀ (m : (ℓ : Loc Cert.AdamPleProj.nD Cert.AdamPleProj.τ Cert.AdamPleProj.sig) → Buf (Elt Bits) ℓ) (g : Dev Cert.AdamPleProj.nD → PrngReg), Pre_AdamPleProj m →
    θ_run (Cert.AdamPleProj.defs (F := Bits)) (onTc (τ := Cert.AdamPleProj.τ) (Cert.AdamPleProj.main (F := Bits))) ⟨m, fun _ => 0, g⟩ (fun r => (∀ c : Dev Cert.AdamPleProj.nD,
      r.2.mem ((c.tc : Thread Cert.AdamPleProj.nD Cert.AdamPleProj.τ).loc Cert.AdamPleProj.main_arg0) = m ((c.tc : Thread Cert.AdamPleProj.nD Cert.AdamPleProj.τ).loc Cert.AdamPleProj.main_arg0)
      ∧ r.2.mem ((c.tc : Thread Cert.AdamPleProj.nD Cert.AdamPleProj.τ).loc Cert.AdamPleProj.main_arg1) = m ((c.tc : Thread Cert.AdamPleProj.nD Cert.AdamPleProj.τ).loc Cert.AdamPleProj.main_arg1)
      ∧ r.2.mem ((c.tc : Thread Cert.AdamPleProj.nD Cert.AdamPleProj.τ).loc Cert.AdamPleProj.main_arg2) = m ((c.tc : Thread Cert.AdamPleProj.nD Cert.AdamPleProj.τ).loc Cert.AdamPleProj.main_arg2)
      ∧ r.2.mem ((c.tc : Thread Cert.AdamPleProj.nD Cert.AdamPleProj.τ).loc Cert.AdamPleProj.main_arg3) = m ((c.tc : Thread Cert.AdamPleProj.nD Cert.AdamPleProj.τ).loc Cert.AdamPleProj.main_arg3))
      ∧ r.2.sem = fun _ => 0)

def quiescent_AdamPleProjIdeal [hAdamPleProjIdeal : Cert.AdamPleProjIdeal.Facts] : Prop :=
  ∀ (m : (ℓ : Loc Cert.AdamPleProjIdeal.nD Cert.AdamPleProjIdeal.τ Cert.AdamPleProjIdeal.sig) → Buf (Elt Ideal) ℓ) (g : Dev Cert.AdamPleProjIdeal.nD → PrngReg), Pre_AdamPleProjIdeal m →
    θ_run (Cert.AdamPleProjIdeal.defs (F := Ideal)) (onTc (τ := Cert.AdamPleProjIdeal.τ) (Cert.AdamPleProjIdeal.main (F := Ideal))) ⟨m, fun _ => 0, g⟩ (fun r => (∀ c : Dev Cert.AdamPleProjIdeal.nD,
      r.2.mem ((c.tc : Thread Cert.AdamPleProjIdeal.nD Cert.AdamPleProjIdeal.τ).loc Cert.AdamPleProjIdeal.main_arg0) = m ((c.tc : Thread Cert.AdamPleProjIdeal.nD Cert.AdamPleProjIdeal.τ).loc Cert.AdamPleProjIdeal.main_arg0)
      ∧ r.2.mem ((c.tc : Thread Cert.AdamPleProjIdeal.nD Cert.AdamPleProjIdeal.τ).loc Cert.AdamPleProjIdeal.main_arg1) = m ((c.tc : Thread Cert.AdamPleProjIdeal.nD Cert.AdamPleProjIdeal.τ).loc Cert.AdamPleProjIdeal.main_arg1)
      ∧ r.2.mem ((c.tc : Thread Cert.AdamPleProjIdeal.nD Cert.AdamPleProjIdeal.τ).loc Cert.AdamPleProjIdeal.main_arg2) = m ((c.tc : Thread Cert.AdamPleProjIdeal.nD Cert.AdamPleProjIdeal.τ).loc Cert.AdamPleProjIdeal.main_arg2)
      ∧ r.2.mem ((c.tc : Thread Cert.AdamPleProjIdeal.nD Cert.AdamPleProjIdeal.τ).loc Cert.AdamPleProjIdeal.main_arg3) = m ((c.tc : Thread Cert.AdamPleProjIdeal.nD Cert.AdamPleProjIdeal.τ).loc Cert.AdamPleProjIdeal.main_arg3))
      ∧ r.2.sem = fun _ => 0)

def quiescent_AdamPleProjReferenceIdeal [hAdamPleProjReferenceIdeal : Cert.AdamPleProjReferenceIdeal.Facts] : Prop :=
  ∀ (m : (ℓ : Loc Cert.AdamPleProjReferenceIdeal.nD Cert.AdamPleProjReferenceIdeal.τ Cert.AdamPleProjReferenceIdeal.sig) → Buf (Elt Ideal) ℓ) (g : Dev Cert.AdamPleProjReferenceIdeal.nD → PrngReg), Pre_AdamPleProjReferenceIdeal m →
    θ_run (Cert.AdamPleProjReferenceIdeal.defs (F := Ideal)) (onTc (τ := Cert.AdamPleProjReferenceIdeal.τ) (Cert.AdamPleProjReferenceIdeal.main (F := Ideal))) ⟨m, fun _ => 0, g⟩ (fun r => (∀ c : Dev Cert.AdamPleProjReferenceIdeal.nD,
      r.2.mem ((c.tc : Thread Cert.AdamPleProjReferenceIdeal.nD Cert.AdamPleProjReferenceIdeal.τ).loc Cert.AdamPleProjReferenceIdeal.main_arg0) = m ((c.tc : Thread Cert.AdamPleProjReferenceIdeal.nD Cert.AdamPleProjReferenceIdeal.τ).loc Cert.AdamPleProjReferenceIdeal.main_arg0)
      ∧ r.2.mem ((c.tc : Thread Cert.AdamPleProjReferenceIdeal.nD Cert.AdamPleProjReferenceIdeal.τ).loc Cert.AdamPleProjReferenceIdeal.main_arg1) = m ((c.tc : Thread Cert.AdamPleProjReferenceIdeal.nD Cert.AdamPleProjReferenceIdeal.τ).loc Cert.AdamPleProjReferenceIdeal.main_arg1)
      ∧ r.2.mem ((c.tc : Thread Cert.AdamPleProjReferenceIdeal.nD Cert.AdamPleProjReferenceIdeal.τ).loc Cert.AdamPleProjReferenceIdeal.main_arg2) = m ((c.tc : Thread Cert.AdamPleProjReferenceIdeal.nD Cert.AdamPleProjReferenceIdeal.τ).loc Cert.AdamPleProjReferenceIdeal.main_arg2)
      ∧ r.2.mem ((c.tc : Thread Cert.AdamPleProjReferenceIdeal.nD Cert.AdamPleProjReferenceIdeal.τ).loc Cert.AdamPleProjReferenceIdeal.main_arg3) = m ((c.tc : Thread Cert.AdamPleProjReferenceIdeal.nD Cert.AdamPleProjReferenceIdeal.τ).loc Cert.AdamPleProjReferenceIdeal.main_arg3))
      ∧ r.2.sem = fun _ => 0)

def quiescent_AdamPleGate [hAdamPleGate : Cert.AdamPleGate.Facts] : Prop :=
  ∀ (m : (ℓ : Loc Cert.AdamPleGate.nD Cert.AdamPleGate.τ Cert.AdamPleGate.sig) → Buf (Elt Bits) ℓ) (g : Dev Cert.AdamPleGate.nD → PrngReg), Pre_AdamPleGate m →
    θ_run (Cert.AdamPleGate.defs (F := Bits)) (onTc (τ := Cert.AdamPleGate.τ) (Cert.AdamPleGate.main (F := Bits))) ⟨m, fun _ => 0, g⟩ (fun r => (∀ c : Dev Cert.AdamPleGate.nD,
      r.2.mem ((c.tc : Thread Cert.AdamPleGate.nD Cert.AdamPleGate.τ).loc Cert.AdamPleGate.main_arg0) = m ((c.tc : Thread Cert.AdamPleGate.nD Cert.AdamPleGate.τ).loc Cert.AdamPleGate.main_arg0)
      ∧ r.2.mem ((c.tc : Thread Cert.AdamPleGate.nD Cert.AdamPleGate.τ).loc Cert.AdamPleGate.main_arg1) = m ((c.tc : Thread Cert.AdamPleGate.nD Cert.AdamPleGate.τ).loc Cert.AdamPleGate.main_arg1)
      ∧ r.2.mem ((c.tc : Thread Cert.AdamPleGate.nD Cert.AdamPleGate.τ).loc Cert.AdamPleGate.main_arg2) = m ((c.tc : Thread Cert.AdamPleGate.nD Cert.AdamPleGate.τ).loc Cert.AdamPleGate.main_arg2)
      ∧ r.2.mem ((c.tc : Thread Cert.AdamPleGate.nD Cert.AdamPleGate.τ).loc Cert.AdamPleGate.main_arg3) = m ((c.tc : Thread Cert.AdamPleGate.nD Cert.AdamPleGate.τ).loc Cert.AdamPleGate.main_arg3))
      ∧ r.2.sem = fun _ => 0)

def quiescent_AdamPleGateIdeal [hAdamPleGateIdeal : Cert.AdamPleGateIdeal.Facts] : Prop :=
  ∀ (m : (ℓ : Loc Cert.AdamPleGateIdeal.nD Cert.AdamPleGateIdeal.τ Cert.AdamPleGateIdeal.sig) → Buf (Elt Ideal) ℓ) (g : Dev Cert.AdamPleGateIdeal.nD → PrngReg), Pre_AdamPleGateIdeal m →
    θ_run (Cert.AdamPleGateIdeal.defs (F := Ideal)) (onTc (τ := Cert.AdamPleGateIdeal.τ) (Cert.AdamPleGateIdeal.main (F := Ideal))) ⟨m, fun _ => 0, g⟩ (fun r => (∀ c : Dev Cert.AdamPleGateIdeal.nD,
      r.2.mem ((c.tc : Thread Cert.AdamPleGateIdeal.nD Cert.AdamPleGateIdeal.τ).loc Cert.AdamPleGateIdeal.main_arg0) = m ((c.tc : Thread Cert.AdamPleGateIdeal.nD Cert.AdamPleGateIdeal.τ).loc Cert.AdamPleGateIdeal.main_arg0)
      ∧ r.2.mem ((c.tc : Thread Cert.AdamPleGateIdeal.nD Cert.AdamPleGateIdeal.τ).loc Cert.AdamPleGateIdeal.main_arg1) = m ((c.tc : Thread Cert.AdamPleGateIdeal.nD Cert.AdamPleGateIdeal.τ).loc Cert.AdamPleGateIdeal.main_arg1)
      ∧ r.2.mem ((c.tc : Thread Cert.AdamPleGateIdeal.nD Cert.AdamPleGateIdeal.τ).loc Cert.AdamPleGateIdeal.main_arg2) = m ((c.tc : Thread Cert.AdamPleGateIdeal.nD Cert.AdamPleGateIdeal.τ).loc Cert.AdamPleGateIdeal.main_arg2)
      ∧ r.2.mem ((c.tc : Thread Cert.AdamPleGateIdeal.nD Cert.AdamPleGateIdeal.τ).loc Cert.AdamPleGateIdeal.main_arg3) = m ((c.tc : Thread Cert.AdamPleGateIdeal.nD Cert.AdamPleGateIdeal.τ).loc Cert.AdamPleGateIdeal.main_arg3))
      ∧ r.2.sem = fun _ => 0)

def quiescent_AdamPleGateReferenceIdeal [hAdamPleGateReferenceIdeal : Cert.AdamPleGateReferenceIdeal.Facts] : Prop :=
  ∀ (m : (ℓ : Loc Cert.AdamPleGateReferenceIdeal.nD Cert.AdamPleGateReferenceIdeal.τ Cert.AdamPleGateReferenceIdeal.sig) → Buf (Elt Ideal) ℓ) (g : Dev Cert.AdamPleGateReferenceIdeal.nD → PrngReg), Pre_AdamPleGateReferenceIdeal m →
    θ_run (Cert.AdamPleGateReferenceIdeal.defs (F := Ideal)) (onTc (τ := Cert.AdamPleGateReferenceIdeal.τ) (Cert.AdamPleGateReferenceIdeal.main (F := Ideal))) ⟨m, fun _ => 0, g⟩ (fun r => (∀ c : Dev Cert.AdamPleGateReferenceIdeal.nD,
      r.2.mem ((c.tc : Thread Cert.AdamPleGateReferenceIdeal.nD Cert.AdamPleGateReferenceIdeal.τ).loc Cert.AdamPleGateReferenceIdeal.main_arg0) = m ((c.tc : Thread Cert.AdamPleGateReferenceIdeal.nD Cert.AdamPleGateReferenceIdeal.τ).loc Cert.AdamPleGateReferenceIdeal.main_arg0)
      ∧ r.2.mem ((c.tc : Thread Cert.AdamPleGateReferenceIdeal.nD Cert.AdamPleGateReferenceIdeal.τ).loc Cert.AdamPleGateReferenceIdeal.main_arg1) = m ((c.tc : Thread Cert.AdamPleGateReferenceIdeal.nD Cert.AdamPleGateReferenceIdeal.τ).loc Cert.AdamPleGateReferenceIdeal.main_arg1)
      ∧ r.2.mem ((c.tc : Thread Cert.AdamPleGateReferenceIdeal.nD Cert.AdamPleGateReferenceIdeal.τ).loc Cert.AdamPleGateReferenceIdeal.main_arg2) = m ((c.tc : Thread Cert.AdamPleGateReferenceIdeal.nD Cert.AdamPleGateReferenceIdeal.τ).loc Cert.AdamPleGateReferenceIdeal.main_arg2)
      ∧ r.2.mem ((c.tc : Thread Cert.AdamPleGateReferenceIdeal.nD Cert.AdamPleGateReferenceIdeal.τ).loc Cert.AdamPleGateReferenceIdeal.main_arg3) = m ((c.tc : Thread Cert.AdamPleGateReferenceIdeal.nD Cert.AdamPleGateReferenceIdeal.τ).loc Cert.AdamPleGateReferenceIdeal.main_arg3))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjReferenceIdeal [hPleProjReferenceIdeal : Cert.PleProjReferenceIdeal.Facts] : Prop :=
  ∀ (m : (ℓ : Loc Cert.PleProjReferenceIdeal.nD Cert.PleProjReferenceIdeal.τ Cert.PleProjReferenceIdeal.sig) → Buf (Elt Ideal) ℓ) (g : Dev Cert.PleProjReferenceIdeal.nD → PrngReg), Pre_PleProjReferenceIdeal m →
    θ_run (Cert.PleProjReferenceIdeal.defs (F := Ideal)) (onTc (τ := Cert.PleProjReferenceIdeal.τ) (Cert.PleProjReferenceIdeal.main (F := Ideal))) ⟨m, fun _ => 0, g⟩ (fun r => (∀ c : Dev Cert.PleProjReferenceIdeal.nD,
      r.2.mem ((c.tc : Thread Cert.PleProjReferenceIdeal.nD Cert.PleProjReferenceIdeal.τ).loc Cert.PleProjReferenceIdeal.main_arg0) = m ((c.tc : Thread Cert.PleProjReferenceIdeal.nD Cert.PleProjReferenceIdeal.τ).loc Cert.PleProjReferenceIdeal.main_arg0)
      ∧ r.2.mem ((c.tc : Thread Cert.PleProjReferenceIdeal.nD Cert.PleProjReferenceIdeal.τ).loc Cert.PleProjReferenceIdeal.main_arg1) = m ((c.tc : Thread Cert.PleProjReferenceIdeal.nD Cert.PleProjReferenceIdeal.τ).loc Cert.PleProjReferenceIdeal.main_arg1))
      ∧ r.2.sem = fun _ => 0)

def quiescent_PleWgrad [hPleWgrad : Cert.PleWgrad.Facts] : Prop :=
  ∀ (m : (ℓ : Loc Cert.PleWgrad.nD Cert.PleWgrad.τ Cert.PleWgrad.sig) → Buf (Elt Bits) ℓ) (g : Dev Cert.PleWgrad.nD → PrngReg), Pre_PleWgrad m →
    θ_run (Cert.PleWgrad.defs (F := Bits)) (onTc (τ := Cert.PleWgrad.τ) (Cert.PleWgrad.main (F := Bits))) ⟨m, fun _ => 0, g⟩ (fun r => (∀ c : Dev Cert.PleWgrad.nD,
      r.2.mem ((c.tc : Thread Cert.PleWgrad.nD Cert.PleWgrad.τ).loc Cert.PleWgrad.main_arg0) = m ((c.tc : Thread Cert.PleWgrad.nD Cert.PleWgrad.τ).loc Cert.PleWgrad.main_arg0)
      ∧ r.2.mem ((c.tc : Thread Cert.PleWgrad.nD Cert.PleWgrad.τ).loc Cert.PleWgrad.main_arg1) = m ((c.tc : Thread Cert.PleWgrad.nD Cert.PleWgrad.τ).loc Cert.PleWgrad.main_arg1))
      ∧ r.2.sem = fun _ => 0)

def quiescent_PleWgradIdeal [hPleWgradIdeal : Cert.PleWgradIdeal.Facts] : Prop :=
  ∀ (m : (ℓ : Loc Cert.PleWgradIdeal.nD Cert.PleWgradIdeal.τ Cert.PleWgradIdeal.sig) → Buf (Elt Ideal) ℓ) (g : Dev Cert.PleWgradIdeal.nD → PrngReg), Pre_PleWgradIdeal m →
    θ_run (Cert.PleWgradIdeal.defs (F := Ideal)) (onTc (τ := Cert.PleWgradIdeal.τ) (Cert.PleWgradIdeal.main (F := Ideal))) ⟨m, fun _ => 0, g⟩ (fun r => (∀ c : Dev Cert.PleWgradIdeal.nD,
      r.2.mem ((c.tc : Thread Cert.PleWgradIdeal.nD Cert.PleWgradIdeal.τ).loc Cert.PleWgradIdeal.main_arg0) = m ((c.tc : Thread Cert.PleWgradIdeal.nD Cert.PleWgradIdeal.τ).loc Cert.PleWgradIdeal.main_arg0)
      ∧ r.2.mem ((c.tc : Thread Cert.PleWgradIdeal.nD Cert.PleWgradIdeal.τ).loc Cert.PleWgradIdeal.main_arg1) = m ((c.tc : Thread Cert.PleWgradIdeal.nD Cert.PleWgradIdeal.τ).loc Cert.PleWgradIdeal.main_arg1))
      ∧ r.2.sem = fun _ => 0)

def quiescent_PleWgradReferenceIdeal [hPleWgradReferenceIdeal : Cert.PleWgradReferenceIdeal.Facts] : Prop :=
  ∀ (m : (ℓ : Loc Cert.PleWgradReferenceIdeal.nD Cert.PleWgradReferenceIdeal.τ Cert.PleWgradReferenceIdeal.sig) → Buf (Elt Ideal) ℓ) (g : Dev Cert.PleWgradReferenceIdeal.nD → PrngReg), Pre_PleWgradReferenceIdeal m →
    θ_run (Cert.PleWgradReferenceIdeal.defs (F := Ideal)) (onTc (τ := Cert.PleWgradReferenceIdeal.τ) (Cert.PleWgradReferenceIdeal.main (F := Ideal))) ⟨m, fun _ => 0, g⟩ (fun r => (∀ c : Dev Cert.PleWgradReferenceIdeal.nD,
      r.2.mem ((c.tc : Thread Cert.PleWgradReferenceIdeal.nD Cert.PleWgradReferenceIdeal.τ).loc Cert.PleWgradReferenceIdeal.main_arg0) = m ((c.tc : Thread Cert.PleWgradReferenceIdeal.nD Cert.PleWgradReferenceIdeal.τ).loc Cert.PleWgradReferenceIdeal.main_arg0)
      ∧ r.2.mem ((c.tc : Thread Cert.PleWgradReferenceIdeal.nD Cert.PleWgradReferenceIdeal.τ).loc Cert.PleWgradReferenceIdeal.main_arg1) = m ((c.tc : Thread Cert.PleWgradReferenceIdeal.nD Cert.PleWgradReferenceIdeal.τ).loc Cert.PleWgradReferenceIdeal.main_arg1))
      ∧ r.2.sem = fun _ => 0)

def quiescent_RmsNorm [hRmsNorm : Cert.RmsNorm.Facts] : Prop :=
  ∀ (m : (ℓ : Loc Cert.RmsNorm.nD Cert.RmsNorm.τ Cert.RmsNorm.sig) → Buf (Elt Bits) ℓ) (g : Dev Cert.RmsNorm.nD → PrngReg), Pre_RmsNorm m →
    θ_run (Cert.RmsNorm.defs (F := Bits)) (onTc (τ := Cert.RmsNorm.τ) (Cert.RmsNorm.main (F := Bits))) ⟨m, fun _ => 0, g⟩ (fun r => (∀ c : Dev Cert.RmsNorm.nD,
      r.2.mem ((c.tc : Thread Cert.RmsNorm.nD Cert.RmsNorm.τ).loc Cert.RmsNorm.main_arg0) = m ((c.tc : Thread Cert.RmsNorm.nD Cert.RmsNorm.τ).loc Cert.RmsNorm.main_arg0)
      ∧ r.2.mem ((c.tc : Thread Cert.RmsNorm.nD Cert.RmsNorm.τ).loc Cert.RmsNorm.main_arg1) = m ((c.tc : Thread Cert.RmsNorm.nD Cert.RmsNorm.τ).loc Cert.RmsNorm.main_arg1))
      ∧ r.2.sem = fun _ => 0)

def quiescent_RmsNormIdeal [hRmsNormIdeal : Cert.RmsNormIdeal.Facts] : Prop :=
  ∀ (m : (ℓ : Loc Cert.RmsNormIdeal.nD Cert.RmsNormIdeal.τ Cert.RmsNormIdeal.sig) → Buf (Elt Ideal) ℓ) (g : Dev Cert.RmsNormIdeal.nD → PrngReg), Pre_RmsNormIdeal m →
    θ_run (Cert.RmsNormIdeal.defs (F := Ideal)) (onTc (τ := Cert.RmsNormIdeal.τ) (Cert.RmsNormIdeal.main (F := Ideal))) ⟨m, fun _ => 0, g⟩ (fun r => (∀ c : Dev Cert.RmsNormIdeal.nD,
      r.2.mem ((c.tc : Thread Cert.RmsNormIdeal.nD Cert.RmsNormIdeal.τ).loc Cert.RmsNormIdeal.main_arg0) = m ((c.tc : Thread Cert.RmsNormIdeal.nD Cert.RmsNormIdeal.τ).loc Cert.RmsNormIdeal.main_arg0)
      ∧ r.2.mem ((c.tc : Thread Cert.RmsNormIdeal.nD Cert.RmsNormIdeal.τ).loc Cert.RmsNormIdeal.main_arg1) = m ((c.tc : Thread Cert.RmsNormIdeal.nD Cert.RmsNormIdeal.τ).loc Cert.RmsNormIdeal.main_arg1))
      ∧ r.2.sem = fun _ => 0)

def quiescent_RmsNormReferenceIdeal [hRmsNormReferenceIdeal : Cert.RmsNormReferenceIdeal.Facts] : Prop :=
  ∀ (m : (ℓ : Loc Cert.RmsNormReferenceIdeal.nD Cert.RmsNormReferenceIdeal.τ Cert.RmsNormReferenceIdeal.sig) → Buf (Elt Ideal) ℓ) (g : Dev Cert.RmsNormReferenceIdeal.nD → PrngReg), Pre_RmsNormReferenceIdeal m →
    θ_run (Cert.RmsNormReferenceIdeal.defs (F := Ideal)) (onTc (τ := Cert.RmsNormReferenceIdeal.τ) (Cert.RmsNormReferenceIdeal.main (F := Ideal))) ⟨m, fun _ => 0, g⟩ (fun r => (∀ c : Dev Cert.RmsNormReferenceIdeal.nD,
      r.2.mem ((c.tc : Thread Cert.RmsNormReferenceIdeal.nD Cert.RmsNormReferenceIdeal.τ).loc Cert.RmsNormReferenceIdeal.main_arg0) = m ((c.tc : Thread Cert.RmsNormReferenceIdeal.nD Cert.RmsNormReferenceIdeal.τ).loc Cert.RmsNormReferenceIdeal.main_arg0)
      ∧ r.2.mem ((c.tc : Thread Cert.RmsNormReferenceIdeal.nD Cert.RmsNormReferenceIdeal.τ).loc Cert.RmsNormReferenceIdeal.main_arg1) = m ((c.tc : Thread Cert.RmsNormReferenceIdeal.nD Cert.RmsNormReferenceIdeal.τ).loc Cert.RmsNormReferenceIdeal.main_arg1))
      ∧ r.2.sem = fun _ => 0)

def quiescent_LossSum [hLossSum : Cert.LossSum.Facts] : Prop :=
  ∀ (m : (ℓ : Loc Cert.LossSum.nD Cert.LossSum.τ Cert.LossSum.sig) → Buf (Elt Bits) ℓ) (g : Dev Cert.LossSum.nD → PrngReg), Pre_LossSum m →
    θ_run (Cert.LossSum.defs (F := Bits)) (onTc (τ := Cert.LossSum.τ) (Cert.LossSum.main (F := Bits))) ⟨m, fun _ => 0, g⟩ (fun r => (∀ c : Dev Cert.LossSum.nD,
      r.2.mem ((c.tc : Thread Cert.LossSum.nD Cert.LossSum.τ).loc Cert.LossSum.main_arg0) = m ((c.tc : Thread Cert.LossSum.nD Cert.LossSum.τ).loc Cert.LossSum.main_arg0)
      ∧ r.2.mem ((c.tc : Thread Cert.LossSum.nD Cert.LossSum.τ).loc Cert.LossSum.main_arg1) = m ((c.tc : Thread Cert.LossSum.nD Cert.LossSum.τ).loc Cert.LossSum.main_arg1))
      ∧ r.2.sem = fun _ => 0)

def quiescent_LossSumIdeal [hLossSumIdeal : Cert.LossSumIdeal.Facts] : Prop :=
  ∀ (m : (ℓ : Loc Cert.LossSumIdeal.nD Cert.LossSumIdeal.τ Cert.LossSumIdeal.sig) → Buf (Elt Ideal) ℓ) (g : Dev Cert.LossSumIdeal.nD → PrngReg), Pre_LossSumIdeal m →
    θ_run (Cert.LossSumIdeal.defs (F := Ideal)) (onTc (τ := Cert.LossSumIdeal.τ) (Cert.LossSumIdeal.main (F := Ideal))) ⟨m, fun _ => 0, g⟩ (fun r => (∀ c : Dev Cert.LossSumIdeal.nD,
      r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0)
      ∧ r.2.mem ((c.tc : Thread Cert.LossSumIdeal.nD Cert.LossSumIdeal.τ).loc Cert.LossSumIdeal.main_arg1) = m ((c.tc : Thread Cert.LossSumIdeal.nD Cert.LossSumIdeal.τ).loc Cert.LossSumIdeal.main_arg1))
      ∧ r.2.sem = fun _ => 0)

def quiescent_LossSumReferenceIdeal [hLossSumReferenceIdeal : Cert.LossSumReferenceIdeal.Facts] : Prop :=
  ∀ (m : (ℓ : Loc Cert.LossSumReferenceIdeal.nD Cert.LossSumReferenceIdeal.τ Cert.LossSumReferenceIdeal.sig) → Buf (Elt Ideal) ℓ) (g : Dev Cert.LossSumReferenceIdeal.nD → PrngReg), Pre_LossSumReferenceIdeal m →
    θ_run (Cert.LossSumReferenceIdeal.defs (F := Ideal)) (onTc (τ := Cert.LossSumReferenceIdeal.τ) (Cert.LossSumReferenceIdeal.main (F := Ideal))) ⟨m, fun _ => 0, g⟩ (fun r => (∀ c : Dev Cert.LossSumReferenceIdeal.nD,
      r.2.mem ((c.tc : Thread Cert.LossSumReferenceIdeal.nD Cert.LossSumReferenceIdeal.τ).loc Cert.LossSumReferenceIdeal.main_arg0) = m ((c.tc : Thread Cert.LossSumReferenceIdeal.nD Cert.LossSumReferenceIdeal.τ).loc Cert.LossSumReferenceIdeal.main_arg0)
      ∧ r.2.mem ((c.tc : Thread Cert.LossSumReferenceIdeal.nD Cert.LossSumReferenceIdeal.τ).loc Cert.LossSumReferenceIdeal.main_arg1) = m ((c.tc : Thread Cert.LossSumReferenceIdeal.nD Cert.LossSumReferenceIdeal.τ).loc Cert.LossSumReferenceIdeal.main_arg1))
      ∧ r.2.sem = fun _ => 0)

def quiescent_AttnCombine [hAttnCombine : Cert.AttnCombine.Facts] : Prop :=
  ∀ (m : (ℓ : Loc Cert.AttnCombine.nD Cert.AttnCombine.τ Cert.AttnCombine.sig) → Buf (Elt Bits) ℓ) (g : Dev Cert.AttnCombine.nD → PrngReg), Pre_AttnCombine m →
    θ_run (Cert.AttnCombine.defs (F := Bits)) (onTc (τ := Cert.AttnCombine.τ) (Cert.AttnCombine.main (F := Bits))) ⟨m, fun _ => 0, g⟩ (fun r => (∀ c : Dev Cert.AttnCombine.nD,
      r.2.mem ((c.tc : Thread Cert.AttnCombine.nD Cert.AttnCombine.τ).loc Cert.AttnCombine.main_arg0) = m ((c.tc : Thread Cert.AttnCombine.nD Cert.AttnCombine.τ).loc Cert.AttnCombine.main_arg0)
      ∧ r.2.mem ((c.tc : Thread Cert.AttnCombine.nD Cert.AttnCombine.τ).loc Cert.AttnCombine.main_arg1) = m ((c.tc : Thread Cert.AttnCombine.nD Cert.AttnCombine.τ).loc Cert.AttnCombine.main_arg1)
      ∧ r.2.mem ((c.tc : Thread Cert.AttnCombine.nD Cert.AttnCombine.τ).loc Cert.AttnCombine.main_arg2) = m ((c.tc : Thread Cert.AttnCombine.nD Cert.AttnCombine.τ).loc Cert.AttnCombine.main_arg2)
      ∧ r.2.mem ((c.tc : Thread Cert.AttnCombine.nD Cert.AttnCombine.τ).loc Cert.AttnCombine.main_arg3) = m ((c.tc : Thread Cert.AttnCombine.nD Cert.AttnCombine.τ).loc Cert.AttnCombine.main_arg3)
      ∧ r.2.mem ((c.tc : Thread Cert.AttnCombine.nD Cert.AttnCombine.τ).loc Cert.AttnCombine.main_arg4) = m ((c.tc : Thread Cert.AttnCombine.nD Cert.AttnCombine.τ).loc Cert.AttnCombine.main_arg4)
      ∧ r.2.mem ((c.tc : Thread Cert.AttnCombine.nD Cert.AttnCombine.τ).loc Cert.AttnCombine.main_arg5) = m ((c.tc : Thread Cert.AttnCombine.nD Cert.AttnCombine.τ).loc Cert.AttnCombine.main_arg5)
      ∧ r.2.mem ((c.tc : Thread Cert.AttnCombine.nD Cert.AttnCombine.τ).loc Cert.AttnCombine.main_arg6) = m ((c.tc : Thread Cert.AttnCombine.nD Cert.AttnCombine.τ).loc Cert.AttnCombine.main_arg6))
      ∧ r.2.sem = fun _ => 0)

def quiescent_AttnCombineIdeal [hAttnCombineIdeal : Cert.AttnCombineIdeal.Facts] : Prop :=
  ∀ (m : (ℓ : Loc Cert.AttnCombineIdeal.nD Cert.AttnCombineIdeal.τ Cert.AttnCombineIdeal.sig) → Buf (Elt Ideal) ℓ) (g : Dev Cert.AttnCombineIdeal.nD → PrngReg), Pre_AttnCombineIdeal m →
    θ_run (Cert.AttnCombineIdeal.defs (F := Ideal)) (onTc (τ := Cert.AttnCombineIdeal.τ) (Cert.AttnCombineIdeal.main (F := Ideal))) ⟨m, fun _ => 0, g⟩ (fun r => (∀ c : Dev Cert.AttnCombineIdeal.nD,
      r.2.mem ((c.tc : Thread Cert.AttnCombineIdeal.nD Cert.AttnCombineIdeal.τ).loc Cert.AttnCombineIdeal.main_arg0) = m ((c.tc : Thread Cert.AttnCombineIdeal.nD Cert.AttnCombineIdeal.τ).loc Cert.AttnCombineIdeal.main_arg0)
      ∧ r.2.mem ((c.tc : Thread Cert.AttnCombineIdeal.nD Cert.AttnCombineIdeal.τ).loc Cert.AttnCombineIdeal.main_arg1) = m ((c.tc : Thread Cert.AttnCombineIdeal.nD Cert.AttnCombineIdeal.τ).loc Cert.AttnCombineIdeal.main_arg1)
      ∧ r.2.mem ((c.tc : Thread Cert.AttnCombineIdeal.nD Cert.AttnCombineIdeal.τ).loc Cert.AttnCombineIdeal.main_arg2) = m ((c.tc : Thread Cert.AttnCombineIdeal.nD Cert.AttnCombineIdeal.τ).loc Cert.AttnCombineIdeal.main_arg2)
      ∧ r.2.mem ((c.tc : Thread Cert.AttnCombineIdeal.nD Cert.AttnCombineIdeal.τ).loc Cert.AttnCombineIdeal.main_arg3) = m ((c.tc : Thread Cert.AttnCombineIdeal.nD Cert.AttnCombineIdeal.τ).loc Cert.AttnCombineIdeal.main_arg3)
      ∧ r.2.mem ((c.tc : Thread Cert.AttnCombineIdeal.nD Cert.AttnCombineIdeal.τ).loc Cert.AttnCombineIdeal.main_arg4) = m ((c.tc : Thread Cert.AttnCombineIdeal.nD Cert.AttnCombineIdeal.τ).loc Cert.AttnCombineIdeal.main_arg4)
      ∧ r.2.mem ((c.tc : Thread Cert.AttnCombineIdeal.nD Cert.AttnCombineIdeal.τ).loc Cert.AttnCombineIdeal.main_arg5) = m ((c.tc : Thread Cert.AttnCombineIdeal.nD Cert.AttnCombineIdeal.τ).loc Cert.AttnCombineIdeal.main_arg5)
      ∧ r.2.mem ((c.tc : Thread Cert.AttnCombineIdeal.nD Cert.AttnCombineIdeal.τ).loc Cert.AttnCombineIdeal.main_arg6) = m ((c.tc : Thread Cert.AttnCombineIdeal.nD Cert.AttnCombineIdeal.τ).loc Cert.AttnCombineIdeal.main_arg6))
      ∧ r.2.sem = fun _ => 0)

def quiescent_AttnCombineIdeal_pre_finite_logsums [hAttnCombineIdeal : Cert.AttnCombineIdeal.Facts] [hPre_finite_logsums : Cert.Pre_finite_logsums.Facts] : Prop :=
  ∀ (m : (ℓ : Loc Cert.AttnCombineIdeal.nD Cert.AttnCombineIdeal.τ Cert.AttnCombineIdeal.sig) → Buf (Elt Ideal) ℓ) (g : Dev Cert.AttnCombineIdeal.nD → PrngReg), Pre_AttnCombineIdeal_finite_logsums m →
    θ_run (Cert.AttnCombineIdeal.defs (F := Ideal)) (onTc (τ := Cert.AttnCombineIdeal.τ) (Cert.AttnCombineIdeal.main (F := Ideal))) ⟨m, fun _ => 0, g⟩ (fun r => (∀ c : Dev Cert.AttnCombineIdeal.nD,
      r.2.mem ((c.tc : Thread Cert.AttnCombineIdeal.nD Cert.AttnCombineIdeal.τ).loc Cert.AttnCombineIdeal.main_arg0) = m ((c.tc : Thread Cert.AttnCombineIdeal.nD Cert.AttnCombineIdeal.τ).loc Cert.AttnCombineIdeal.main_arg0)
      ∧ r.2.mem ((c.tc : Thread Cert.AttnCombineIdeal.nD Cert.AttnCombineIdeal.τ).loc Cert.AttnCombineIdeal.main_arg1) = m ((c.tc : Thread Cert.AttnCombineIdeal.nD Cert.AttnCombineIdeal.τ).loc Cert.AttnCombineIdeal.main_arg1)
      ∧ r.2.mem ((c.tc : Thread Cert.AttnCombineIdeal.nD Cert.AttnCombineIdeal.τ).loc Cert.AttnCombineIdeal.main_arg2) = m ((c.tc : Thread Cert.AttnCombineIdeal.nD Cert.AttnCombineIdeal.τ).loc Cert.AttnCombineIdeal.main_arg2)
      ∧ r.2.mem ((c.tc : Thread Cert.AttnCombineIdeal.nD Cert.AttnCombineIdeal.τ).loc Cert.AttnCombineIdeal.main_arg3) = m ((c.tc : Thread Cert.AttnCombineIdeal.nD Cert.AttnCombineIdeal.τ).loc Cert.AttnCombineIdeal.main_arg3)
      ∧ r.2.mem ((c.tc : Thread Cert.AttnCombineIdeal.nD Cert.AttnCombineIdeal.τ).loc Cert.AttnCombineIdeal.main_arg4) = m ((c.tc : Thread Cert.AttnCombineIdeal.nD Cert.AttnCombineIdeal.τ).loc Cert.AttnCombineIdeal.main_arg4)
      ∧ r.2.mem ((c.tc : Thread Cert.AttnCombineIdeal.nD Cert.AttnCombineIdeal.τ).loc Cert.AttnCombineIdeal.main_arg5) = m ((c.tc : Thread Cert.AttnCombineIdeal.nD Cert.AttnCombineIdeal.τ).loc Cert.AttnCombineIdeal.main_arg5)
      ∧ r.2.mem ((c.tc : Thread Cert.AttnCombineIdeal.nD Cert.AttnCombineIdeal.τ).loc Cert.AttnCombineIdeal.main_arg6) = m ((c.tc : Thread Cert.AttnCombineIdeal.nD Cert.AttnCombineIdeal.τ).loc Cert.AttnCombineIdeal.main_arg6))
      ∧ r.2.sem = fun _ => 0)

def quiescent_AttnCombineReferenceIdeal [hAttnCombineReferenceIdeal : Cert.AttnCombineReferenceIdeal.Facts] : Prop :=
  ∀ (m : (ℓ : Loc Cert.AttnCombineReferenceIdeal.nD Cert.AttnCombineReferenceIdeal.τ Cert.AttnCombineReferenceIdeal.sig) → Buf (Elt Ideal) ℓ) (g : Dev Cert.AttnCombineReferenceIdeal.nD → PrngReg), Pre_AttnCombineReferenceIdeal m →
    θ_run (Cert.AttnCombineReferenceIdeal.defs (F := Ideal)) (onTc (τ := Cert.AttnCombineReferenceIdeal.τ) (Cert.AttnCombineReferenceIdeal.main (F := Ideal))) ⟨m, fun _ => 0, g⟩ (fun r => (∀ c : Dev Cert.AttnCombineReferenceIdeal.nD,
      r.2.mem ((c.tc : Thread Cert.AttnCombineReferenceIdeal.nD Cert.AttnCombineReferenceIdeal.τ).loc Cert.AttnCombineReferenceIdeal.main_arg0) = m ((c.tc : Thread Cert.AttnCombineReferenceIdeal.nD Cert.AttnCombineReferenceIdeal.τ).loc Cert.AttnCombineReferenceIdeal.main_arg0)
      ∧ r.2.mem ((c.tc : Thread Cert.AttnCombineReferenceIdeal.nD Cert.AttnCombineReferenceIdeal.τ).loc Cert.AttnCombineReferenceIdeal.main_arg1) = m ((c.tc : Thread Cert.AttnCombineReferenceIdeal.nD Cert.AttnCombineReferenceIdeal.τ).loc Cert.AttnCombineReferenceIdeal.main_arg1)
      ∧ r.2.mem ((c.tc : Thread Cert.AttnCombineReferenceIdeal.nD Cert.AttnCombineReferenceIdeal.τ).loc Cert.AttnCombineReferenceIdeal.main_arg2) = m ((c.tc : Thread Cert.AttnCombineReferenceIdeal.nD Cert.AttnCombineReferenceIdeal.τ).loc Cert.AttnCombineReferenceIdeal.main_arg2)
      ∧ r.2.mem ((c.tc : Thread Cert.AttnCombineReferenceIdeal.nD Cert.AttnCombineReferenceIdeal.τ).loc Cert.AttnCombineReferenceIdeal.main_arg3) = m ((c.tc : Thread Cert.AttnCombineReferenceIdeal.nD Cert.AttnCombineReferenceIdeal.τ).loc Cert.AttnCombineReferenceIdeal.main_arg3)
      ∧ r.2.mem ((c.tc : Thread Cert.AttnCombineReferenceIdeal.nD Cert.AttnCombineReferenceIdeal.τ).loc Cert.AttnCombineReferenceIdeal.main_arg4) = m ((c.tc : Thread Cert.AttnCombineReferenceIdeal.nD Cert.AttnCombineReferenceIdeal.τ).loc Cert.AttnCombineReferenceIdeal.main_arg4)
      ∧ r.2.mem ((c.tc : Thread Cert.AttnCombineReferenceIdeal.nD Cert.AttnCombineReferenceIdeal.τ).loc Cert.AttnCombineReferenceIdeal.main_arg5) = m ((c.tc : Thread Cert.AttnCombineReferenceIdeal.nD Cert.AttnCombineReferenceIdeal.τ).loc Cert.AttnCombineReferenceIdeal.main_arg5)
      ∧ r.2.mem ((c.tc : Thread Cert.AttnCombineReferenceIdeal.nD Cert.AttnCombineReferenceIdeal.τ).loc Cert.AttnCombineReferenceIdeal.main_arg6) = m ((c.tc : Thread Cert.AttnCombineReferenceIdeal.nD Cert.AttnCombineReferenceIdeal.τ).loc Cert.AttnCombineReferenceIdeal.main_arg6))
      ∧ r.2.sem = fun _ => 0)

def quiescent_AttnCombineReferenceIdeal_pre_finite_logsums [hAttnCombineReferenceIdeal : Cert.AttnCombineReferenceIdeal.Facts] [hPre_finite_logsums : Cert.Pre_finite_logsums.Facts] : Prop :=
  ∀ (m : (ℓ : Loc Cert.AttnCombineReferenceIdeal.nD Cert.AttnCombineReferenceIdeal.τ Cert.AttnCombineReferenceIdeal.sig) → Buf (Elt Ideal) ℓ) (g : Dev Cert.AttnCombineReferenceIdeal.nD → PrngReg), Pre_AttnCombineReferenceIdeal_finite_logsums m →
    θ_run (Cert.AttnCombineReferenceIdeal.defs (F := Ideal)) (onTc (τ := Cert.AttnCombineReferenceIdeal.τ) (Cert.AttnCombineReferenceIdeal.main (F := Ideal))) ⟨m, fun _ => 0, g⟩ (fun r => (∀ c : Dev Cert.AttnCombineReferenceIdeal.nD,
      r.2.mem ((c.tc : Thread Cert.AttnCombineReferenceIdeal.nD Cert.AttnCombineReferenceIdeal.τ).loc Cert.AttnCombineReferenceIdeal.main_arg0) = m ((c.tc : Thread Cert.AttnCombineReferenceIdeal.nD Cert.AttnCombineReferenceIdeal.τ).loc Cert.AttnCombineReferenceIdeal.main_arg0)
      ∧ r.2.mem ((c.tc : Thread Cert.AttnCombineReferenceIdeal.nD Cert.AttnCombineReferenceIdeal.τ).loc Cert.AttnCombineReferenceIdeal.main_arg1) = m ((c.tc : Thread Cert.AttnCombineReferenceIdeal.nD Cert.AttnCombineReferenceIdeal.τ).loc Cert.AttnCombineReferenceIdeal.main_arg1)
      ∧ r.2.mem ((c.tc : Thread Cert.AttnCombineReferenceIdeal.nD Cert.AttnCombineReferenceIdeal.τ).loc Cert.AttnCombineReferenceIdeal.main_arg2) = m ((c.tc : Thread Cert.AttnCombineReferenceIdeal.nD Cert.AttnCombineReferenceIdeal.τ).loc Cert.AttnCombineReferenceIdeal.main_arg2)
      ∧ r.2.mem ((c.tc : Thread Cert.AttnCombineReferenceIdeal.nD Cert.AttnCombineReferenceIdeal.τ).loc Cert.AttnCombineReferenceIdeal.main_arg3) = m ((c.tc : Thread Cert.AttnCombineReferenceIdeal.nD Cert.AttnCombineReferenceIdeal.τ).loc Cert.AttnCombineReferenceIdeal.main_arg3)
      ∧ r.2.mem ((c.tc : Thread Cert.AttnCombineReferenceIdeal.nD Cert.AttnCombineReferenceIdeal.τ).loc Cert.AttnCombineReferenceIdeal.main_arg4) = m ((c.tc : Thread Cert.AttnCombineReferenceIdeal.nD Cert.AttnCombineReferenceIdeal.τ).loc Cert.AttnCombineReferenceIdeal.main_arg4)
      ∧ r.2.mem ((c.tc : Thread Cert.AttnCombineReferenceIdeal.nD Cert.AttnCombineReferenceIdeal.τ).loc Cert.AttnCombineReferenceIdeal.main_arg5) = m ((c.tc : Thread Cert.AttnCombineReferenceIdeal.nD Cert.AttnCombineReferenceIdeal.τ).loc Cert.AttnCombineReferenceIdeal.main_arg5)
      ∧ r.2.mem ((c.tc : Thread Cert.AttnCombineReferenceIdeal.nD Cert.AttnCombineReferenceIdeal.τ).loc Cert.AttnCombineReferenceIdeal.main_arg6) = m ((c.tc : Thread Cert.AttnCombineReferenceIdeal.nD Cert.AttnCombineReferenceIdeal.τ).loc Cert.AttnCombineReferenceIdeal.main_arg6))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdIdeal_pre_finite_product [hGateBwdIdeal : Cert.GateBwdIdeal.Facts] [hPre_finite_product : Cert.Pre_finite_product.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_finite_product m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdReferenceIdeal [hGateBwdReferenceIdeal : Cert.GateBwdReferenceIdeal.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2))
      ∧ r.2.sem = fun _ => 0)

def quiescent_GateBwdReferenceIdeal_pre_finite_product [hGateBwdReferenceIdeal : Cert.GateBwdReferenceIdeal.Facts] [hPre_finite_product : Cert.Pre_finite_product.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal_finite_product m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2))
      ∧ r.2.sem = fun _ => 0)

def quiescent_ConvNormBwd [hConvNormBwd : Cert.ConvNormBwd.Facts] : Prop :=
  ∀ (m : (ℓ : Loc Cert.ConvNormBwd.nD Cert.ConvNormBwd.τ Cert.ConvNormBwd.sig) → Buf (Elt Bits) ℓ) (g : Dev Cert.ConvNormBwd.nD → PrngReg), Pre_ConvNormBwd m →
    θ_run (Cert.ConvNormBwd.defs (F := Bits)) (onTc (τ := Cert.ConvNormBwd.τ) (Cert.ConvNormBwd.main (F := Bits))) ⟨m, fun _ => 0, g⟩ (fun r => (∀ c : Dev Cert.ConvNormBwd.nD,
      r.2.mem ((c.tc : Thread Cert.ConvNormBwd.nD Cert.ConvNormBwd.τ).loc Cert.ConvNormBwd.main_arg0) = m ((c.tc : Thread Cert.ConvNormBwd.nD Cert.ConvNormBwd.τ).loc Cert.ConvNormBwd.main_arg0)
      ∧ r.2.mem ((c.tc : Thread Cert.ConvNormBwd.nD Cert.ConvNormBwd.τ).loc Cert.ConvNormBwd.main_arg1) = m ((c.tc : Thread Cert.ConvNormBwd.nD Cert.ConvNormBwd.τ).loc Cert.ConvNormBwd.main_arg1)
      ∧ r.2.mem ((c.tc : Thread Cert.ConvNormBwd.nD Cert.ConvNormBwd.τ).loc Cert.ConvNormBwd.main_arg2) = m ((c.tc : Thread Cert.ConvNormBwd.nD Cert.ConvNormBwd.τ).loc Cert.ConvNormBwd.main_arg2)
      ∧ r.2.mem ((c.tc : Thread Cert.ConvNormBwd.nD Cert.ConvNormBwd.τ).loc Cert.ConvNormBwd.main_arg3) = m ((c.tc : Thread Cert.ConvNormBwd.nD Cert.ConvNormBwd.τ).loc Cert.ConvNormBwd.main_arg3)
      ∧ r.2.mem ((c.tc : Thread Cert.ConvNormBwd.nD Cert.ConvNormBwd.τ).loc Cert.ConvNormBwd.main_arg4) = m ((c.tc : Thread Cert.ConvNormBwd.nD Cert.ConvNormBwd.τ).loc Cert.ConvNormBwd.main_arg4))
      ∧ r.2.sem = fun _ => 0)

def quiescent_ConvNormBwdIdeal [hConvNormBwdIdeal : Cert.ConvNormBwdIdeal.Facts] : Prop :=
  ∀ (m : (ℓ : Loc Cert.ConvNormBwdIdeal.nD Cert.ConvNormBwdIdeal.τ Cert.ConvNormBwdIdeal.sig) → Buf (Elt Ideal) ℓ) (g : Dev Cert.ConvNormBwdIdeal.nD → PrngReg), Pre_ConvNormBwdIdeal m →
    θ_run (Cert.ConvNormBwdIdeal.defs (F := Ideal)) (onTc (τ := Cert.ConvNormBwdIdeal.τ) (Cert.ConvNormBwdIdeal.main (F := Ideal))) ⟨m, fun _ => 0, g⟩ (fun r => (∀ c : Dev Cert.ConvNormBwdIdeal.nD,
      r.2.mem ((c.tc : Thread Cert.ConvNormBwdIdeal.nD Cert.ConvNormBwdIdeal.τ).loc Cert.ConvNormBwdIdeal.main_arg0) = m ((c.tc : Thread Cert.ConvNormBwdIdeal.nD Cert.ConvNormBwdIdeal.τ).loc Cert.ConvNormBwdIdeal.main_arg0)
      ∧ r.2.mem ((c.tc : Thread Cert.ConvNormBwdIdeal.nD Cert.ConvNormBwdIdeal.τ).loc Cert.ConvNormBwdIdeal.main_arg1) = m ((c.tc : Thread Cert.ConvNormBwdIdeal.nD Cert.ConvNormBwdIdeal.τ).loc Cert.ConvNormBwdIdeal.main_arg1)
      ∧ r.2.mem ((c.tc : Thread Cert.ConvNormBwdIdeal.nD Cert.ConvNormBwdIdeal.τ).loc Cert.ConvNormBwdIdeal.main_arg2) = m ((c.tc : Thread Cert.ConvNormBwdIdeal.nD Cert.ConvNormBwdIdeal.τ).loc Cert.ConvNormBwdIdeal.main_arg2)
      ∧ r.2.mem ((c.tc : Thread Cert.ConvNormBwdIdeal.nD Cert.ConvNormBwdIdeal.τ).loc Cert.ConvNormBwdIdeal.main_arg3) = m ((c.tc : Thread Cert.ConvNormBwdIdeal.nD Cert.ConvNormBwdIdeal.τ).loc Cert.ConvNormBwdIdeal.main_arg3)
      ∧ r.2.mem ((c.tc : Thread Cert.ConvNormBwdIdeal.nD Cert.ConvNormBwdIdeal.τ).loc Cert.ConvNormBwdIdeal.main_arg4) = m ((c.tc : Thread Cert.ConvNormBwdIdeal.nD Cert.ConvNormBwdIdeal.τ).loc Cert.ConvNormBwdIdeal.main_arg4))
      ∧ r.2.sem = fun _ => 0)

def quiescent_ConvNormBwdIdeal_pre_finite_rows [hConvNormBwdIdeal : Cert.ConvNormBwdIdeal.Facts] [hPre_finite_rows : Cert.Pre_finite_rows.Facts] : Prop :=
  ∀ (m : (ℓ : Loc Cert.ConvNormBwdIdeal.nD Cert.ConvNormBwdIdeal.τ Cert.ConvNormBwdIdeal.sig) → Buf (Elt Ideal) ℓ) (g : Dev Cert.ConvNormBwdIdeal.nD → PrngReg), Pre_ConvNormBwdIdeal_finite_rows m →
    θ_run (Cert.ConvNormBwdIdeal.defs (F := Ideal)) (onTc (τ := Cert.ConvNormBwdIdeal.τ) (Cert.ConvNormBwdIdeal.main (F := Ideal))) ⟨m, fun _ => 0, g⟩ (fun r => (∀ c : Dev Cert.ConvNormBwdIdeal.nD,
      r.2.mem ((c.tc : Thread Cert.ConvNormBwdIdeal.nD Cert.ConvNormBwdIdeal.τ).loc Cert.ConvNormBwdIdeal.main_arg0) = m ((c.tc : Thread Cert.ConvNormBwdIdeal.nD Cert.ConvNormBwdIdeal.τ).loc Cert.ConvNormBwdIdeal.main_arg0)
      ∧ r.2.mem ((c.tc : Thread Cert.ConvNormBwdIdeal.nD Cert.ConvNormBwdIdeal.τ).loc Cert.ConvNormBwdIdeal.main_arg1) = m ((c.tc : Thread Cert.ConvNormBwdIdeal.nD Cert.ConvNormBwdIdeal.τ).loc Cert.ConvNormBwdIdeal.main_arg1)
      ∧ r.2.mem ((c.tc : Thread Cert.ConvNormBwdIdeal.nD Cert.ConvNormBwdIdeal.τ).loc Cert.ConvNormBwdIdeal.main_arg2) = m ((c.tc : Thread Cert.ConvNormBwdIdeal.nD Cert.ConvNormBwdIdeal.τ).loc Cert.ConvNormBwdIdeal.main_arg2)
      ∧ r.2.mem ((c.tc : Thread Cert.ConvNormBwdIdeal.nD Cert.ConvNormBwdIdeal.τ).loc Cert.ConvNormBwdIdeal.main_arg3) = m ((c.tc : Thread Cert.ConvNormBwdIdeal.nD Cert.ConvNormBwdIdeal.τ).loc Cert.ConvNormBwdIdeal.main_arg3)
      ∧ r.2.mem ((c.tc : Thread Cert.ConvNormBwdIdeal.nD Cert.ConvNormBwdIdeal.τ).loc Cert.ConvNormBwdIdeal.main_arg4) = m ((c.tc : Thread Cert.ConvNormBwdIdeal.nD Cert.ConvNormBwdIdeal.τ).loc Cert.ConvNormBwdIdeal.main_arg4))
      ∧ r.2.sem = fun _ => 0)

def quiescent_ConvNormBwdReferenceIdeal [hConvNormBwdReferenceIdeal : Cert.ConvNormBwdReferenceIdeal.Facts] : Prop :=
  ∀ (m : (ℓ : Loc Cert.ConvNormBwdReferenceIdeal.nD Cert.ConvNormBwdReferenceIdeal.τ Cert.ConvNormBwdReferenceIdeal.sig) → Buf (Elt Ideal) ℓ) (g : Dev Cert.ConvNormBwdReferenceIdeal.nD → PrngReg), Pre_ConvNormBwdReferenceIdeal m →
    θ_run (Cert.ConvNormBwdReferenceIdeal.defs (F := Ideal)) (onTc (τ := Cert.ConvNormBwdReferenceIdeal.τ) (Cert.ConvNormBwdReferenceIdeal.main (F := Ideal))) ⟨m, fun _ => 0, g⟩ (fun r => (∀ c : Dev Cert.ConvNormBwdReferenceIdeal.nD,
      r.2.mem ((c.tc : Thread Cert.ConvNormBwdReferenceIdeal.nD Cert.ConvNormBwdReferenceIdeal.τ).loc Cert.ConvNormBwdReferenceIdeal.main_arg0) = m ((c.tc : Thread Cert.ConvNormBwdReferenceIdeal.nD Cert.ConvNormBwdReferenceIdeal.τ).loc Cert.ConvNormBwdReferenceIdeal.main_arg0)
      ∧ r.2.mem ((c.tc : Thread Cert.ConvNormBwdReferenceIdeal.nD Cert.ConvNormBwdReferenceIdeal.τ).loc Cert.ConvNormBwdReferenceIdeal.main_arg1) = m ((c.tc : Thread Cert.ConvNormBwdReferenceIdeal.nD Cert.ConvNormBwdReferenceIdeal.τ).loc Cert.ConvNormBwdReferenceIdeal.main_arg1)
      ∧ r.2.mem ((c.tc : Thread Cert.ConvNormBwdReferenceIdeal.nD Cert.ConvNormBwdReferenceIdeal.τ).loc Cert.ConvNormBwdReferenceIdeal.main_arg2) = m ((c.tc : Thread Cert.ConvNormBwdReferenceIdeal.nD Cert.ConvNormBwdReferenceIdeal.τ).loc Cert.ConvNormBwdReferenceIdeal.main_arg2)
      ∧ r.2.mem ((c.tc : Thread Cert.ConvNormBwdReferenceIdeal.nD Cert.ConvNormBwdReferenceIdeal.τ).loc Cert.ConvNormBwdReferenceIdeal.main_arg3) = m ((c.tc : Thread Cert.ConvNormBwdReferenceIdeal.nD Cert.ConvNormBwdReferenceIdeal.τ).loc Cert.ConvNormBwdReferenceIdeal.main_arg3)
      ∧ r.2.mem ((c.tc : Thread Cert.ConvNormBwdReferenceIdeal.nD Cert.ConvNormBwdReferenceIdeal.τ).loc Cert.ConvNormBwdReferenceIdeal.main_arg4) = m ((c.tc : Thread Cert.ConvNormBwdReferenceIdeal.nD Cert.ConvNormBwdReferenceIdeal.τ).loc Cert.ConvNormBwdReferenceIdeal.main_arg4))
      ∧ r.2.sem = fun _ => 0)

def quiescent_ConvNormBwdReferenceIdeal_pre_finite_rows [hConvNormBwdReferenceIdeal : Cert.ConvNormBwdReferenceIdeal.Facts] [hPre_finite_rows : Cert.Pre_finite_rows.Facts] : Prop :=
  ∀ (m : (ℓ : Loc Cert.ConvNormBwdReferenceIdeal.nD Cert.ConvNormBwdReferenceIdeal.τ Cert.ConvNormBwdReferenceIdeal.sig) → Buf (Elt Ideal) ℓ) (g : Dev Cert.ConvNormBwdReferenceIdeal.nD → PrngReg), Pre_ConvNormBwdReferenceIdeal_finite_rows m →
    θ_run (Cert.ConvNormBwdReferenceIdeal.defs (F := Ideal)) (onTc (τ := Cert.ConvNormBwdReferenceIdeal.τ) (Cert.ConvNormBwdReferenceIdeal.main (F := Ideal))) ⟨m, fun _ => 0, g⟩ (fun r => (∀ c : Dev Cert.ConvNormBwdReferenceIdeal.nD,
      r.2.mem ((c.tc : Thread Cert.ConvNormBwdReferenceIdeal.nD Cert.ConvNormBwdReferenceIdeal.τ).loc Cert.ConvNormBwdReferenceIdeal.main_arg0) = m ((c.tc : Thread Cert.ConvNormBwdReferenceIdeal.nD Cert.ConvNormBwdReferenceIdeal.τ).loc Cert.ConvNormBwdReferenceIdeal.main_arg0)
      ∧ r.2.mem ((c.tc : Thread Cert.ConvNormBwdReferenceIdeal.nD Cert.ConvNormBwdReferenceIdeal.τ).loc Cert.ConvNormBwdReferenceIdeal.main_arg1) = m ((c.tc : Thread Cert.ConvNormBwdReferenceIdeal.nD Cert.ConvNormBwdReferenceIdeal.τ).loc Cert.ConvNormBwdReferenceIdeal.main_arg1)
      ∧ r.2.mem ((c.tc : Thread Cert.ConvNormBwdReferenceIdeal.nD Cert.ConvNormBwdReferenceIdeal.τ).loc Cert.ConvNormBwdReferenceIdeal.main_arg2) = m ((c.tc : Thread Cert.ConvNormBwdReferenceIdeal.nD Cert.ConvNormBwdReferenceIdeal.τ).loc Cert.ConvNormBwdReferenceIdeal.main_arg2)
      ∧ r.2.mem ((c.tc : Thread Cert.ConvNormBwdReferenceIdeal.nD Cert.ConvNormBwdReferenceIdeal.τ).loc Cert.ConvNormBwdReferenceIdeal.main_arg3) = m ((c.tc : Thread Cert.ConvNormBwdReferenceIdeal.nD Cert.ConvNormBwdReferenceIdeal.τ).loc Cert.ConvNormBwdReferenceIdeal.main_arg3)
      ∧ r.2.mem ((c.tc : Thread Cert.ConvNormBwdReferenceIdeal.nD Cert.ConvNormBwdReferenceIdeal.τ).loc Cert.ConvNormBwdReferenceIdeal.main_arg4) = m ((c.tc : Thread Cert.ConvNormBwdReferenceIdeal.nD Cert.ConvNormBwdReferenceIdeal.τ).loc Cert.ConvNormBwdReferenceIdeal.main_arg4))
      ∧ r.2.sem = fun _ => 0)

def preserves_AttnIn_AttnInIdeal : Prop :=
  True

def algebraic_AttnInIdeal_AttnInReferenceIdeal [hAttnInIdeal : Cert.AttnInIdeal.Facts] [hAttnInReferenceIdeal : Cert.AttnInReferenceIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInReferenceIdeal.nD Cert.AttnInReferenceIdeal.τ Cert.AttnInReferenceIdeal.sig) → Buf (Elt Ideal) ℓ) (g' : Dev Cert.AttnInReferenceIdeal.nD → PrngReg), Pre_AttnInIdeal m →
    (∀ c : Dev Cert.AttnInIdeal.nD,
      m' ((c.tc : Thread Cert.AttnInReferenceIdeal.nD Cert.AttnInReferenceIdeal.τ).loc Cert.AttnInReferenceIdeal.main_arg0) = m ((c.tc : Thread Cert.AttnInIdeal.nD Cert.AttnInIdeal.τ).loc Cert.AttnInIdeal.main_arg0)
      ∧ m' ((c.tc : Thread Cert.AttnInReferenceIdeal.nD Cert.AttnInReferenceIdeal.τ).loc Cert.AttnInReferenceIdeal.main_arg1) = m ((c.tc : Thread Cert.AttnInIdeal.nD Cert.AttnInIdeal.τ).loc Cert.AttnInIdeal.main_arg1)) →
    ∃ (v0 : (c : Dev Cert.AttnInIdeal.nD) → Buf (Elt Ideal) ((c.tc : Thread Cert.AttnInIdeal.nD Cert.AttnInIdeal.τ).loc Cert.AttnInIdeal.main_v0)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v0) = v0 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1))
      ∧ θ_run (Cert.AttnInReferenceIdeal.defs (F := Ideal)) (onTc (τ := Cert.AttnInReferenceIdeal.τ) (Cert.AttnInReferenceIdeal.main (F := Ideal))) ⟨m', fun _ => 0, g'⟩ (fun r => ∀ c : Dev Cert.AttnInReferenceIdeal.nD,
          r.2.mem ((c.tc : Thread Cert.AttnInReferenceIdeal.nD Cert.AttnInReferenceIdeal.τ).loc Cert.AttnInReferenceIdeal.main_v2) = v0 c
          ∧ r.2.mem ((c.tc : Thread Cert.AttnInReferenceIdeal.nD Cert.AttnInReferenceIdeal.τ).loc Cert.AttnInReferenceIdeal.main_arg0) = m' ((c.tc : Thread Cert.AttnInReferenceIdeal.nD Cert.AttnInReferenceIdeal.τ).loc Cert.AttnInReferenceIdeal.main_arg0)
          ∧ r.2.mem ((c.tc : Thread Cert.AttnInReferenceIdeal.nD Cert.AttnInReferenceIdeal.τ).loc Cert.AttnInReferenceIdeal.main_arg1) = m' ((c.tc : Thread Cert.AttnInReferenceIdeal.nD Cert.AttnInReferenceIdeal.τ).loc Cert.AttnInReferenceIdeal.main_arg1))

def preserves_AttnWgrad_AttnWgradIdeal : Prop :=
  True

def algebraic_AttnWgradIdeal_AttnWgradReferenceIdeal [hAttnWgradIdeal : Cert.AttnWgradIdeal.Facts] [hAttnWgradReferenceIdeal : Cert.AttnWgradReferenceIdeal.Facts] : Prop :=
  ∀ (m : (ℓ : Loc Cert.AttnWgradIdeal.nD Cert.AttnWgradIdeal.τ Cert.AttnWgradIdeal.sig) → Buf (Elt Ideal) ℓ) (g : Dev Cert.AttnWgradIdeal.nD → PrngReg)
    (m' : (ℓ : Loc Cert.AttnWgradReferenceIdeal.nD Cert.AttnWgradReferenceIdeal.τ Cert.AttnWgradReferenceIdeal.sig) → Buf (Elt Ideal) ℓ) (g' : Dev Cert.AttnWgradReferenceIdeal.nD → PrngReg), Pre_AttnWgradIdeal m →
    (∀ c : Dev Cert.AttnWgradIdeal.nD,
      m' ((c.tc : Thread Cert.AttnWgradReferenceIdeal.nD Cert.AttnWgradReferenceIdeal.τ).loc Cert.AttnWgradReferenceIdeal.main_arg0) = m ((c.tc : Thread Cert.AttnWgradIdeal.nD Cert.AttnWgradIdeal.τ).loc Cert.AttnWgradIdeal.main_arg0)
      ∧ m' ((c.tc : Thread Cert.AttnWgradReferenceIdeal.nD Cert.AttnWgradReferenceIdeal.τ).loc Cert.AttnWgradReferenceIdeal.main_arg1) = m ((c.tc : Thread Cert.AttnWgradIdeal.nD Cert.AttnWgradIdeal.τ).loc Cert.AttnWgradIdeal.main_arg1)) →
    ∃ (v0 : (c : Dev Cert.AttnWgradIdeal.nD) → Buf (Elt Ideal) ((c.tc : Thread Cert.AttnWgradIdeal.nD Cert.AttnWgradIdeal.τ).loc Cert.AttnWgradIdeal.main_v0)),
      θ_run (Cert.AttnWgradIdeal.defs (F := Ideal)) (onTc (τ := Cert.AttnWgradIdeal.τ) (Cert.AttnWgradIdeal.main (F := Ideal))) ⟨m, fun _ => 0, g⟩ (fun r => ∀ c : Dev Cert.AttnWgradIdeal.nD,
          r.2.mem ((c.tc : Thread Cert.AttnWgradIdeal.nD Cert.AttnWgradIdeal.τ).loc Cert.AttnWgradIdeal.main_v0) = v0 c
          ∧ r.2.mem ((c.tc : Thread Cert.AttnWgradIdeal.nD Cert.AttnWgradIdeal.τ).loc Cert.AttnWgradIdeal.main_arg0) = m ((c.tc : Thread Cert.AttnWgradIdeal.nD Cert.AttnWgradIdeal.τ).loc Cert.AttnWgradIdeal.main_arg0)
          ∧ r.2.mem ((c.tc : Thread Cert.AttnWgradIdeal.nD Cert.AttnWgradIdeal.τ).loc Cert.AttnWgradIdeal.main_arg1) = m ((c.tc : Thread Cert.AttnWgradIdeal.nD Cert.AttnWgradIdeal.τ).loc Cert.AttnWgradIdeal.main_arg1))
      ∧ θ_run (Cert.AttnWgradReferenceIdeal.defs (F := Ideal)) (onTc (τ := Cert.AttnWgradReferenceIdeal.τ) (Cert.AttnWgradReferenceIdeal.main (F := Ideal))) ⟨m', fun _ => 0, g'⟩ (fun r => ∀ c : Dev Cert.AttnWgradReferenceIdeal.nD,
          r.2.mem ((c.tc : Thread Cert.AttnWgradReferenceIdeal.nD Cert.AttnWgradReferenceIdeal.τ).loc Cert.AttnWgradReferenceIdeal.main_v4) = v0 c
          ∧ r.2.mem ((c.tc : Thread Cert.AttnWgradReferenceIdeal.nD Cert.AttnWgradReferenceIdeal.τ).loc Cert.AttnWgradReferenceIdeal.main_arg0) = m' ((c.tc : Thread Cert.AttnWgradReferenceIdeal.nD Cert.AttnWgradReferenceIdeal.τ).loc Cert.AttnWgradReferenceIdeal.main_arg0)
          ∧ r.2.mem ((c.tc : Thread Cert.AttnWgradReferenceIdeal.nD Cert.AttnWgradReferenceIdeal.τ).loc Cert.AttnWgradReferenceIdeal.main_arg1) = m' ((c.tc : Thread Cert.AttnWgradReferenceIdeal.nD Cert.AttnWgradReferenceIdeal.τ).loc Cert.AttnWgradReferenceIdeal.main_arg1))

def preserves_AttnDgrad_AttnDgradIdeal : Prop :=
  True

def algebraic_AttnDgradIdeal_AttnDgradReferenceIdeal [hAttnDgradIdeal : Cert.AttnDgradIdeal.Facts] [hAttnDgradReferenceIdeal : Cert.AttnDgradReferenceIdeal.Facts] : Prop :=
  ∀ (m : (ℓ : Loc Cert.AttnDgradIdeal.nD Cert.AttnDgradIdeal.τ Cert.AttnDgradIdeal.sig) → Buf (Elt Ideal) ℓ) (g : Dev Cert.AttnDgradIdeal.nD → PrngReg)
    (m' : (ℓ : Loc Cert.AttnDgradReferenceIdeal.nD Cert.AttnDgradReferenceIdeal.τ Cert.AttnDgradReferenceIdeal.sig) → Buf (Elt Ideal) ℓ) (g' : Dev Cert.AttnDgradReferenceIdeal.nD → PrngReg), Pre_AttnDgradIdeal m →
    (∀ c : Dev Cert.AttnDgradIdeal.nD,
      m' ((c.tc : Thread Cert.AttnDgradReferenceIdeal.nD Cert.AttnDgradReferenceIdeal.τ).loc Cert.AttnDgradReferenceIdeal.main_arg0) = m ((c.tc : Thread Cert.AttnDgradIdeal.nD Cert.AttnDgradIdeal.τ).loc Cert.AttnDgradIdeal.main_arg0)
      ∧ m' ((c.tc : Thread Cert.AttnDgradReferenceIdeal.nD Cert.AttnDgradReferenceIdeal.τ).loc Cert.AttnDgradReferenceIdeal.main_arg1) = m ((c.tc : Thread Cert.AttnDgradIdeal.nD Cert.AttnDgradIdeal.τ).loc Cert.AttnDgradIdeal.main_arg1)
      ∧ m' ((c.tc : Thread Cert.AttnDgradReferenceIdeal.nD Cert.AttnDgradReferenceIdeal.τ).loc Cert.AttnDgradReferenceIdeal.main_arg2) = m ((c.tc : Thread Cert.AttnDgradIdeal.nD Cert.AttnDgradIdeal.τ).loc Cert.AttnDgradIdeal.main_arg2)
      ∧ m' ((c.tc : Thread Cert.AttnDgradReferenceIdeal.nD Cert.AttnDgradReferenceIdeal.τ).loc Cert.AttnDgradReferenceIdeal.main_arg3) = m ((c.tc : Thread Cert.AttnDgradIdeal.nD Cert.AttnDgradIdeal.τ).loc Cert.AttnDgradIdeal.main_arg3)
      ∧ m' ((c.tc : Thread Cert.AttnDgradReferenceIdeal.nD Cert.AttnDgradReferenceIdeal.τ).loc Cert.AttnDgradReferenceIdeal.main_arg4) = m ((c.tc : Thread Cert.AttnDgradIdeal.nD Cert.AttnDgradIdeal.τ).loc Cert.AttnDgradIdeal.main_arg4)) →
    ∃ (v0 : (c : Dev Cert.AttnDgradIdeal.nD) → Buf (Elt Ideal) ((c.tc : Thread Cert.AttnDgradIdeal.nD Cert.AttnDgradIdeal.τ).loc Cert.AttnDgradIdeal.main_v0_0)) (v1 : (c : Dev Cert.AttnDgradIdeal.nD) → Buf (Elt Ideal) ((c.tc : Thread Cert.AttnDgradIdeal.nD Cert.AttnDgradIdeal.τ).loc Cert.AttnDgradIdeal.main_v0_1)),
      θ_run (Cert.AttnDgradIdeal.defs (F := Ideal)) (onTc (τ := Cert.AttnDgradIdeal.τ) (Cert.AttnDgradIdeal.main (F := Ideal))) ⟨m, fun _ => 0, g⟩ (fun r => ∀ c : Dev Cert.AttnDgradIdeal.nD,
          r.2.mem ((c.tc : Thread Cert.AttnDgradIdeal.nD Cert.AttnDgradIdeal.τ).loc Cert.AttnDgradIdeal.main_v0_0) = v0 c
          ∧ r.2.mem ((c.tc : Thread Cert.AttnDgradIdeal.nD Cert.AttnDgradIdeal.τ).loc Cert.AttnDgradIdeal.main_v0_1) = v1 c
          ∧ r.2.mem ((c.tc : Thread Cert.AttnDgradIdeal.nD Cert.AttnDgradIdeal.τ).loc Cert.AttnDgradIdeal.main_arg0) = m ((c.tc : Thread Cert.AttnDgradIdeal.nD Cert.AttnDgradIdeal.τ).loc Cert.AttnDgradIdeal.main_arg0)
          ∧ r.2.mem ((c.tc : Thread Cert.AttnDgradIdeal.nD Cert.AttnDgradIdeal.τ).loc Cert.AttnDgradIdeal.main_arg1) = m ((c.tc : Thread Cert.AttnDgradIdeal.nD Cert.AttnDgradIdeal.τ).loc Cert.AttnDgradIdeal.main_arg1)
          ∧ r.2.mem ((c.tc : Thread Cert.AttnDgradIdeal.nD Cert.AttnDgradIdeal.τ).loc Cert.AttnDgradIdeal.main_arg2) = m ((c.tc : Thread Cert.AttnDgradIdeal.nD Cert.AttnDgradIdeal.τ).loc Cert.AttnDgradIdeal.main_arg2)
          ∧ r.2.mem ((c.tc : Thread Cert.AttnDgradIdeal.nD Cert.AttnDgradIdeal.τ).loc Cert.AttnDgradIdeal.main_arg3) = m ((c.tc : Thread Cert.AttnDgradIdeal.nD Cert.AttnDgradIdeal.τ).loc Cert.AttnDgradIdeal.main_arg3)
          ∧ r.2.mem ((c.tc : Thread Cert.AttnDgradIdeal.nD Cert.AttnDgradIdeal.τ).loc Cert.AttnDgradIdeal.main_arg4) = m ((c.tc : Thread Cert.AttnDgradIdeal.nD Cert.AttnDgradIdeal.τ).loc Cert.AttnDgradIdeal.main_arg4))
      ∧ θ_run (Cert.AttnDgradReferenceIdeal.defs (F := Ideal)) (onTc (τ := Cert.AttnDgradReferenceIdeal.τ) (Cert.AttnDgradReferenceIdeal.main (F := Ideal))) ⟨m', fun _ => 0, g'⟩ (fun r => ∀ c : Dev Cert.AttnDgradReferenceIdeal.nD,
          r.2.mem ((c.tc : Thread Cert.AttnDgradReferenceIdeal.nD Cert.AttnDgradReferenceIdeal.τ).loc Cert.AttnDgradReferenceIdeal.main_v37) = v0 c
          ∧ r.2.mem ((c.tc : Thread Cert.AttnDgradReferenceIdeal.nD Cert.AttnDgradReferenceIdeal.τ).loc Cert.AttnDgradReferenceIdeal.main_v22) = v1 c
          ∧ r.2.mem ((c.tc : Thread Cert.AttnDgradReferenceIdeal.nD Cert.AttnDgradReferenceIdeal.τ).loc Cert.AttnDgradReferenceIdeal.main_arg0) = m' ((c.tc : Thread Cert.AttnDgradReferenceIdeal.nD Cert.AttnDgradReferenceIdeal.τ).loc Cert.AttnDgradReferenceIdeal.main_arg0)
          ∧ r.2.mem ((c.tc : Thread Cert.AttnDgradReferenceIdeal.nD Cert.AttnDgradReferenceIdeal.τ).loc Cert.AttnDgradReferenceIdeal.main_arg1) = m' ((c.tc : Thread Cert.AttnDgradReferenceIdeal.nD Cert.AttnDgradReferenceIdeal.τ).loc Cert.AttnDgradReferenceIdeal.main_arg1)
          ∧ r.2.mem ((c.tc : Thread Cert.AttnDgradReferenceIdeal.nD Cert.AttnDgradReferenceIdeal.τ).loc Cert.AttnDgradReferenceIdeal.main_arg2) = m' ((c.tc : Thread Cert.AttnDgradReferenceIdeal.nD Cert.AttnDgradReferenceIdeal.τ).loc Cert.AttnDgradReferenceIdeal.main_arg2)
          ∧ r.2.mem ((c.tc : Thread Cert.AttnDgradReferenceIdeal.nD Cert.AttnDgradReferenceIdeal.τ).loc Cert.AttnDgradReferenceIdeal.main_arg3) = m' ((c.tc : Thread Cert.AttnDgradReferenceIdeal.nD Cert.AttnDgradReferenceIdeal.τ).loc Cert.AttnDgradReferenceIdeal.main_arg3)
          ∧ r.2.mem ((c.tc : Thread Cert.AttnDgradReferenceIdeal.nD Cert.AttnDgradReferenceIdeal.τ).loc Cert.AttnDgradReferenceIdeal.main_arg4) = m' ((c.tc : Thread Cert.AttnDgradReferenceIdeal.nD Cert.AttnDgradReferenceIdeal.τ).loc Cert.AttnDgradReferenceIdeal.main_arg4))

def preserves_ConvAb_ConvAbIdeal : Prop :=
  True

def algebraic_ConvAbIdeal_ConvAbReferenceIdeal [hConvAbIdeal : Cert.ConvAbIdeal.Facts] [hConvAbReferenceIdeal : Cert.ConvAbReferenceIdeal.Facts] : Prop :=
  ∀ (m : (ℓ : Loc Cert.ConvAbIdeal.nD Cert.ConvAbIdeal.τ Cert.ConvAbIdeal.sig) → Buf (Elt Ideal) ℓ) (g : Dev Cert.ConvAbIdeal.nD → PrngReg)
    (m' : (ℓ : Loc Cert.ConvAbReferenceIdeal.nD Cert.ConvAbReferenceIdeal.τ Cert.ConvAbReferenceIdeal.sig) → Buf (Elt Ideal) ℓ) (g' : Dev Cert.ConvAbReferenceIdeal.nD → PrngReg), Pre_ConvAbIdeal m →
    (∀ c : Dev Cert.ConvAbIdeal.nD,
      m' ((c.tc : Thread Cert.ConvAbReferenceIdeal.nD Cert.ConvAbReferenceIdeal.τ).loc Cert.ConvAbReferenceIdeal.main_arg0) = m ((c.tc : Thread Cert.ConvAbIdeal.nD Cert.ConvAbIdeal.τ).loc Cert.ConvAbIdeal.main_arg0)
      ∧ m' ((c.tc : Thread Cert.ConvAbReferenceIdeal.nD Cert.ConvAbReferenceIdeal.τ).loc Cert.ConvAbReferenceIdeal.main_arg1) = m ((c.tc : Thread Cert.ConvAbIdeal.nD Cert.ConvAbIdeal.τ).loc Cert.ConvAbIdeal.main_arg1)) →
    ∃ (v0 : (c : Dev Cert.ConvAbIdeal.nD) → Buf (Elt Ideal) ((c.tc : Thread Cert.ConvAbIdeal.nD Cert.ConvAbIdeal.τ).loc Cert.ConvAbIdeal.main_v0)),
      θ_run (Cert.ConvAbIdeal.defs (F := Ideal)) (onTc (τ := Cert.ConvAbIdeal.τ) (Cert.ConvAbIdeal.main (F := Ideal))) ⟨m, fun _ => 0, g⟩ (fun r => ∀ c : Dev Cert.ConvAbIdeal.nD,
          r.2.mem ((c.tc : Thread Cert.ConvAbIdeal.nD Cert.ConvAbIdeal.τ).loc Cert.ConvAbIdeal.main_v0) = v0 c
          ∧ r.2.mem ((c.tc : Thread Cert.ConvAbIdeal.nD Cert.ConvAbIdeal.τ).loc Cert.ConvAbIdeal.main_arg0) = m ((c.tc : Thread Cert.ConvAbIdeal.nD Cert.ConvAbIdeal.τ).loc Cert.ConvAbIdeal.main_arg0)
          ∧ r.2.mem ((c.tc : Thread Cert.ConvAbIdeal.nD Cert.ConvAbIdeal.τ).loc Cert.ConvAbIdeal.main_arg1) = m ((c.tc : Thread Cert.ConvAbIdeal.nD Cert.ConvAbIdeal.τ).loc Cert.ConvAbIdeal.main_arg1))
      ∧ θ_run (Cert.ConvAbReferenceIdeal.defs (F := Ideal)) (onTc (τ := Cert.ConvAbReferenceIdeal.τ) (Cert.ConvAbReferenceIdeal.main (F := Ideal))) ⟨m', fun _ => 0, g'⟩ (fun r => ∀ c : Dev Cert.ConvAbReferenceIdeal.nD,
          r.2.mem ((c.tc : Thread Cert.ConvAbReferenceIdeal.nD Cert.ConvAbReferenceIdeal.τ).loc Cert.ConvAbReferenceIdeal.main_v3) = v0 c
          ∧ r.2.mem ((c.tc : Thread Cert.ConvAbReferenceIdeal.nD Cert.ConvAbReferenceIdeal.τ).loc Cert.ConvAbReferenceIdeal.main_arg0) = m' ((c.tc : Thread Cert.ConvAbReferenceIdeal.nD Cert.ConvAbReferenceIdeal.τ).loc Cert.ConvAbReferenceIdeal.main_arg0)
          ∧ r.2.mem ((c.tc : Thread Cert.ConvAbReferenceIdeal.nD Cert.ConvAbReferenceIdeal.τ).loc Cert.ConvAbReferenceIdeal.main_arg1) = m' ((c.tc : Thread Cert.ConvAbReferenceIdeal.nD Cert.ConvAbReferenceIdeal.τ).loc Cert.ConvAbReferenceIdeal.main_arg1))

def preserves_ConvZ_ConvZIdeal : Prop :=
  True

def algebraic_ConvZIdeal_ConvZReferenceIdeal [hConvZIdeal : Cert.ConvZIdeal.Facts] [hConvZReferenceIdeal : Cert.ConvZReferenceIdeal.Facts] : Prop :=
  ∀ (m : (ℓ : Loc Cert.ConvZIdeal.nD Cert.ConvZIdeal.τ Cert.ConvZIdeal.sig) → Buf (Elt Ideal) ℓ) (g : Dev Cert.ConvZIdeal.nD → PrngReg)
    (m' : (ℓ : Loc Cert.ConvZReferenceIdeal.nD Cert.ConvZReferenceIdeal.τ Cert.ConvZReferenceIdeal.sig) → Buf (Elt Ideal) ℓ) (g' : Dev Cert.ConvZReferenceIdeal.nD → PrngReg), Pre_ConvZIdeal m →
    (∀ c : Dev Cert.ConvZIdeal.nD,
      m' ((c.tc : Thread Cert.ConvZReferenceIdeal.nD Cert.ConvZReferenceIdeal.τ).loc Cert.ConvZReferenceIdeal.main_arg0) = m ((c.tc : Thread Cert.ConvZIdeal.nD Cert.ConvZIdeal.τ).loc Cert.ConvZIdeal.main_arg0)
      ∧ m' ((c.tc : Thread Cert.ConvZReferenceIdeal.nD Cert.ConvZReferenceIdeal.τ).loc Cert.ConvZReferenceIdeal.main_arg1) = m ((c.tc : Thread Cert.ConvZIdeal.nD Cert.ConvZIdeal.τ).loc Cert.ConvZIdeal.main_arg1)) →
    ∃ (v0 : (c : Dev Cert.ConvZIdeal.nD) → Buf (Elt Ideal) ((c.tc : Thread Cert.ConvZIdeal.nD Cert.ConvZIdeal.τ).loc Cert.ConvZIdeal.main_v0)),
      θ_run (Cert.ConvZIdeal.defs (F := Ideal)) (onTc (τ := Cert.ConvZIdeal.τ) (Cert.ConvZIdeal.main (F := Ideal))) ⟨m, fun _ => 0, g⟩ (fun r => ∀ c : Dev Cert.ConvZIdeal.nD,
          r.2.mem ((c.tc : Thread Cert.ConvZIdeal.nD Cert.ConvZIdeal.τ).loc Cert.ConvZIdeal.main_v0) = v0 c
          ∧ r.2.mem ((c.tc : Thread Cert.ConvZIdeal.nD Cert.ConvZIdeal.τ).loc Cert.ConvZIdeal.main_arg0) = m ((c.tc : Thread Cert.ConvZIdeal.nD Cert.ConvZIdeal.τ).loc Cert.ConvZIdeal.main_arg0)
          ∧ r.2.mem ((c.tc : Thread Cert.ConvZIdeal.nD Cert.ConvZIdeal.τ).loc Cert.ConvZIdeal.main_arg1) = m ((c.tc : Thread Cert.ConvZIdeal.nD Cert.ConvZIdeal.τ).loc Cert.ConvZIdeal.main_arg1))
      ∧ θ_run (Cert.ConvZReferenceIdeal.defs (F := Ideal)) (onTc (τ := Cert.ConvZReferenceIdeal.τ) (Cert.ConvZReferenceIdeal.main (F := Ideal))) ⟨m', fun _ => 0, g'⟩ (fun r => ∀ c : Dev Cert.ConvZReferenceIdeal.nD,
          r.2.mem ((c.tc : Thread Cert.ConvZReferenceIdeal.nD Cert.ConvZReferenceIdeal.τ).loc Cert.ConvZReferenceIdeal.main_v3) = v0 c
          ∧ r.2.mem ((c.tc : Thread Cert.ConvZReferenceIdeal.nD Cert.ConvZReferenceIdeal.τ).loc Cert.ConvZReferenceIdeal.main_arg0) = m' ((c.tc : Thread Cert.ConvZReferenceIdeal.nD Cert.ConvZReferenceIdeal.τ).loc Cert.ConvZReferenceIdeal.main_arg0)
          ∧ r.2.mem ((c.tc : Thread Cert.ConvZReferenceIdeal.nD Cert.ConvZReferenceIdeal.τ).loc Cert.ConvZReferenceIdeal.main_arg1) = m' ((c.tc : Thread Cert.ConvZReferenceIdeal.nD Cert.ConvZReferenceIdeal.τ).loc Cert.ConvZReferenceIdeal.main_arg1))

def preserves_OutDgrad_OutDgradIdeal : Prop :=
  True

def algebraic_OutDgradIdeal_OutDgradReferenceIdeal [hOutDgradIdeal : Cert.OutDgradIdeal.Facts] [hOutDgradReferenceIdeal : Cert.OutDgradReferenceIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg)
    (m' : (ℓ : Loc Cert.OutDgradReferenceIdeal.nD Cert.OutDgradReferenceIdeal.τ Cert.OutDgradReferenceIdeal.sig) → Buf (Elt Ideal) ℓ) (g' : Dev Cert.OutDgradReferenceIdeal.nD → PrngReg), Pre_OutDgradIdeal m →
    (∀ c : Dev Cert.OutDgradIdeal.nD,
      m' ((c.tc : Thread Cert.OutDgradReferenceIdeal.nD Cert.OutDgradReferenceIdeal.τ).loc Cert.OutDgradReferenceIdeal.main_arg0) = m ((c.tc : Thread Cert.OutDgradIdeal.nD Cert.OutDgradIdeal.τ).loc Cert.OutDgradIdeal.main_arg0)
      ∧ m' ((c.tc : Thread Cert.OutDgradReferenceIdeal.nD Cert.OutDgradReferenceIdeal.τ).loc Cert.OutDgradReferenceIdeal.main_arg1) = m ((c.tc : Thread Cert.OutDgradIdeal.nD Cert.OutDgradIdeal.τ).loc Cert.OutDgradIdeal.main_arg1)) →
    ∃ (v0 : (c : Dev Cert.OutDgradIdeal.nD) → Buf (Elt Ideal) ((c.tc : Thread Cert.OutDgradIdeal.nD Cert.OutDgradIdeal.τ).loc Cert.OutDgradIdeal.main_v0)),
      θ_run (Cert.OutDgradIdeal.defs (F := Ideal)) (onTc (τ := Cert.OutDgradIdeal.τ) (Cert.OutDgradIdeal.main (F := Ideal))) ⟨m, fun _ => 0, g⟩ (fun r => ∀ c : Dev Cert.OutDgradIdeal.nD,
          r.2.mem ((c.tc : Thread Cert.OutDgradIdeal.nD Cert.OutDgradIdeal.τ).loc Cert.OutDgradIdeal.main_v0) = v0 c
          ∧ r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
          ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ θ_run (Cert.OutDgradReferenceIdeal.defs (F := Ideal)) (onTc (τ := Cert.OutDgradReferenceIdeal.τ) (Cert.OutDgradReferenceIdeal.main (F := Ideal))) ⟨m', fun _ => 0, g'⟩ (fun r => ∀ c : Dev Cert.OutDgradReferenceIdeal.nD,
          r.2.mem ((c.tc : Thread Cert.OutDgradReferenceIdeal.nD Cert.OutDgradReferenceIdeal.τ).loc Cert.OutDgradReferenceIdeal.main_v6) = v0 c
          ∧ r.2.mem ((c.tc : Thread Cert.OutDgradReferenceIdeal.nD Cert.OutDgradReferenceIdeal.τ).loc Cert.OutDgradReferenceIdeal.main_arg0) = m' ((c.tc : Thread Cert.OutDgradReferenceIdeal.nD Cert.OutDgradReferenceIdeal.τ).loc Cert.OutDgradReferenceIdeal.main_arg0)
          ∧ r.2.mem ((c.tc : Thread Cert.OutDgradReferenceIdeal.nD Cert.OutDgradReferenceIdeal.τ).loc Cert.OutDgradReferenceIdeal.main_arg1) = m' ((c.tc : Thread Cert.OutDgradReferenceIdeal.nD Cert.OutDgradReferenceIdeal.τ).loc Cert.OutDgradReferenceIdeal.main_arg1))

def preserves_OutWgrad_OutWgradIdeal : Prop :=
  True

def algebraic_OutWgradIdeal_OutWgradReferenceIdeal [hOutWgradIdeal : Cert.OutWgradIdeal.Facts] [hOutWgradReferenceIdeal : Cert.OutWgradReferenceIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradReferenceIdeal.nD Cert.OutWgradReferenceIdeal.τ Cert.OutWgradReferenceIdeal.sig) → Buf (Elt Ideal) ℓ) (g' : Dev Cert.OutWgradReferenceIdeal.nD → PrngReg), Pre_OutWgradIdeal m →
    (∀ c : Dev Cert.OutWgradIdeal.nD,
      m' ((c.tc : Thread Cert.OutWgradReferenceIdeal.nD Cert.OutWgradReferenceIdeal.τ).loc Cert.OutWgradReferenceIdeal.main_arg0) = m ((c.tc : Thread Cert.OutWgradIdeal.nD Cert.OutWgradIdeal.τ).loc Cert.OutWgradIdeal.main_arg0)
      ∧ m' ((c.tc : Thread Cert.OutWgradReferenceIdeal.nD Cert.OutWgradReferenceIdeal.τ).loc Cert.OutWgradReferenceIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v0)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWgradReferenceIdeal.defs (F := Ideal)) (onTc (τ := Cert.OutWgradReferenceIdeal.τ) (Cert.OutWgradReferenceIdeal.main (F := Ideal))) ⟨m', fun _ => 0, g'⟩ (fun r => ∀ c : Dev Cert.OutWgradReferenceIdeal.nD,
          r.2.mem ((c.tc : Thread Cert.OutWgradReferenceIdeal.nD Cert.OutWgradReferenceIdeal.τ).loc Cert.OutWgradReferenceIdeal.main_v5) = v0 c
          ∧ r.2.mem ((c.tc : Thread Cert.OutWgradReferenceIdeal.nD Cert.OutWgradReferenceIdeal.τ).loc Cert.OutWgradReferenceIdeal.main_arg0) = m' ((c.tc : Thread Cert.OutWgradReferenceIdeal.nD Cert.OutWgradReferenceIdeal.τ).loc Cert.OutWgradReferenceIdeal.main_arg0)
          ∧ r.2.mem ((c.tc : Thread Cert.OutWgradReferenceIdeal.nD Cert.OutWgradReferenceIdeal.τ).loc Cert.OutWgradReferenceIdeal.main_arg1) = m' ((c.tc : Thread Cert.OutWgradReferenceIdeal.nD Cert.OutWgradReferenceIdeal.τ).loc Cert.OutWgradReferenceIdeal.main_arg1))

def preserves_AbWgrad_AbWgradIdeal : Prop :=
  True

def algebraic_AbWgradIdeal_AbWgradReferenceIdeal [hAbWgradIdeal : Cert.AbWgradIdeal.Facts] [hAbWgradReferenceIdeal : Cert.AbWgradReferenceIdeal.Facts] : Prop :=
  ∀ (m : (ℓ : Loc Cert.AbWgradIdeal.nD Cert.AbWgradIdeal.τ Cert.AbWgradIdeal.sig) → Buf (Elt Ideal) ℓ) (g : Dev Cert.AbWgradIdeal.nD → PrngReg)
    (m' : (ℓ : Loc Cert.AbWgradReferenceIdeal.nD Cert.AbWgradReferenceIdeal.τ Cert.AbWgradReferenceIdeal.sig) → Buf (Elt Ideal) ℓ) (g' : Dev Cert.AbWgradReferenceIdeal.nD → PrngReg), Pre_AbWgradIdeal m →
    (∀ c : Dev Cert.AbWgradIdeal.nD,
      m' ((c.tc : Thread Cert.AbWgradReferenceIdeal.nD Cert.AbWgradReferenceIdeal.τ).loc Cert.AbWgradReferenceIdeal.main_arg0) = m ((c.tc : Thread Cert.AbWgradIdeal.nD Cert.AbWgradIdeal.τ).loc Cert.AbWgradIdeal.main_arg0)
      ∧ m' ((c.tc : Thread Cert.AbWgradReferenceIdeal.nD Cert.AbWgradReferenceIdeal.τ).loc Cert.AbWgradReferenceIdeal.main_arg1) = m ((c.tc : Thread Cert.AbWgradIdeal.nD Cert.AbWgradIdeal.τ).loc Cert.AbWgradIdeal.main_arg1)) →
    ∃ (v0 : (c : Dev Cert.AbWgradIdeal.nD) → Buf (Elt Ideal) ((c.tc : Thread Cert.AbWgradIdeal.nD Cert.AbWgradIdeal.τ).loc Cert.AbWgradIdeal.main_v0)),
      θ_run (Cert.AbWgradIdeal.defs (F := Ideal)) (onTc (τ := Cert.AbWgradIdeal.τ) (Cert.AbWgradIdeal.main (F := Ideal))) ⟨m, fun _ => 0, g⟩ (fun r => ∀ c : Dev Cert.AbWgradIdeal.nD,
          r.2.mem ((c.tc : Thread Cert.AbWgradIdeal.nD Cert.AbWgradIdeal.τ).loc Cert.AbWgradIdeal.main_v0) = v0 c
          ∧ r.2.mem ((c.tc : Thread Cert.AbWgradIdeal.nD Cert.AbWgradIdeal.τ).loc Cert.AbWgradIdeal.main_arg0) = m ((c.tc : Thread Cert.AbWgradIdeal.nD Cert.AbWgradIdeal.τ).loc Cert.AbWgradIdeal.main_arg0)
          ∧ r.2.mem ((c.tc : Thread Cert.AbWgradIdeal.nD Cert.AbWgradIdeal.τ).loc Cert.AbWgradIdeal.main_arg1) = m ((c.tc : Thread Cert.AbWgradIdeal.nD Cert.AbWgradIdeal.τ).loc Cert.AbWgradIdeal.main_arg1))
      ∧ θ_run (Cert.AbWgradReferenceIdeal.defs (F := Ideal)) (onTc (τ := Cert.AbWgradReferenceIdeal.τ) (Cert.AbWgradReferenceIdeal.main (F := Ideal))) ⟨m', fun _ => 0, g'⟩ (fun r => ∀ c : Dev Cert.AbWgradReferenceIdeal.nD,
          r.2.mem ((c.tc : Thread Cert.AbWgradReferenceIdeal.nD Cert.AbWgradReferenceIdeal.τ).loc Cert.AbWgradReferenceIdeal.main_v5) = v0 c
          ∧ r.2.mem ((c.tc : Thread Cert.AbWgradReferenceIdeal.nD Cert.AbWgradReferenceIdeal.τ).loc Cert.AbWgradReferenceIdeal.main_arg0) = m' ((c.tc : Thread Cert.AbWgradReferenceIdeal.nD Cert.AbWgradReferenceIdeal.τ).loc Cert.AbWgradReferenceIdeal.main_arg0)
          ∧ r.2.mem ((c.tc : Thread Cert.AbWgradReferenceIdeal.nD Cert.AbWgradReferenceIdeal.τ).loc Cert.AbWgradReferenceIdeal.main_arg1) = m' ((c.tc : Thread Cert.AbWgradReferenceIdeal.nD Cert.AbWgradReferenceIdeal.τ).loc Cert.AbWgradReferenceIdeal.main_arg1))

def preserves_GateWgrad_GateWgradIdeal : Prop :=
  True

def algebraic_GateWgradIdeal_GateWgradReferenceIdeal [hGateWgradIdeal : Cert.GateWgradIdeal.Facts] [hGateWgradReferenceIdeal : Cert.GateWgradReferenceIdeal.Facts] : Prop :=
  ∀ (m : (ℓ : Loc Cert.GateWgradIdeal.nD Cert.GateWgradIdeal.τ Cert.GateWgradIdeal.sig) → Buf (Elt Ideal) ℓ) (g : Dev Cert.GateWgradIdeal.nD → PrngReg)
    (m' : (ℓ : Loc Cert.GateWgradReferenceIdeal.nD Cert.GateWgradReferenceIdeal.τ Cert.GateWgradReferenceIdeal.sig) → Buf (Elt Ideal) ℓ) (g' : Dev Cert.GateWgradReferenceIdeal.nD → PrngReg), Pre_GateWgradIdeal m →
    (∀ c : Dev Cert.GateWgradIdeal.nD,
      m' ((c.tc : Thread Cert.GateWgradReferenceIdeal.nD Cert.GateWgradReferenceIdeal.τ).loc Cert.GateWgradReferenceIdeal.main_arg0) = m ((c.tc : Thread Cert.GateWgradIdeal.nD Cert.GateWgradIdeal.τ).loc Cert.GateWgradIdeal.main_arg0)
      ∧ m' ((c.tc : Thread Cert.GateWgradReferenceIdeal.nD Cert.GateWgradReferenceIdeal.τ).loc Cert.GateWgradReferenceIdeal.main_arg1) = m ((c.tc : Thread Cert.GateWgradIdeal.nD Cert.GateWgradIdeal.τ).loc Cert.GateWgradIdeal.main_arg1)) →
    ∃ (v0 : (c : Dev Cert.GateWgradIdeal.nD) → Buf (Elt Ideal) ((c.tc : Thread Cert.GateWgradIdeal.nD Cert.GateWgradIdeal.τ).loc Cert.GateWgradIdeal.main_v0)),
      θ_run (Cert.GateWgradIdeal.defs (F := Ideal)) (onTc (τ := Cert.GateWgradIdeal.τ) (Cert.GateWgradIdeal.main (F := Ideal))) ⟨m, fun _ => 0, g⟩ (fun r => ∀ c : Dev Cert.GateWgradIdeal.nD,
          r.2.mem ((c.tc : Thread Cert.GateWgradIdeal.nD Cert.GateWgradIdeal.τ).loc Cert.GateWgradIdeal.main_v0) = v0 c
          ∧ r.2.mem ((c.tc : Thread Cert.GateWgradIdeal.nD Cert.GateWgradIdeal.τ).loc Cert.GateWgradIdeal.main_arg0) = m ((c.tc : Thread Cert.GateWgradIdeal.nD Cert.GateWgradIdeal.τ).loc Cert.GateWgradIdeal.main_arg0)
          ∧ r.2.mem ((c.tc : Thread Cert.GateWgradIdeal.nD Cert.GateWgradIdeal.τ).loc Cert.GateWgradIdeal.main_arg1) = m ((c.tc : Thread Cert.GateWgradIdeal.nD Cert.GateWgradIdeal.τ).loc Cert.GateWgradIdeal.main_arg1))
      ∧ θ_run (Cert.GateWgradReferenceIdeal.defs (F := Ideal)) (onTc (τ := Cert.GateWgradReferenceIdeal.τ) (Cert.GateWgradReferenceIdeal.main (F := Ideal))) ⟨m', fun _ => 0, g'⟩ (fun r => ∀ c : Dev Cert.GateWgradReferenceIdeal.nD,
          r.2.mem ((c.tc : Thread Cert.GateWgradReferenceIdeal.nD Cert.GateWgradReferenceIdeal.τ).loc Cert.GateWgradReferenceIdeal.main_v4) = v0 c
          ∧ r.2.mem ((c.tc : Thread Cert.GateWgradReferenceIdeal.nD Cert.GateWgradReferenceIdeal.τ).loc Cert.GateWgradReferenceIdeal.main_arg0) = m' ((c.tc : Thread Cert.GateWgradReferenceIdeal.nD Cert.GateWgradReferenceIdeal.τ).loc Cert.GateWgradReferenceIdeal.main_arg0)
          ∧ r.2.mem ((c.tc : Thread Cert.GateWgradReferenceIdeal.nD Cert.GateWgradReferenceIdeal.τ).loc Cert.GateWgradReferenceIdeal.main_arg1) = m' ((c.tc : Thread Cert.GateWgradReferenceIdeal.nD Cert.GateWgradReferenceIdeal.τ).loc Cert.GateWgradReferenceIdeal.main_arg1))

def preserves_GateFwd_GateFwdIdeal : Prop :=
  True

def algebraic_GateFwdIdeal_GateFwdReferenceIdeal [hGateFwdIdeal : Cert.GateFwdIdeal.Facts] [hGateFwdReferenceIdeal : Cert.GateFwdReferenceIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdReferenceIdeal.nD Cert.GateFwdReferenceIdeal.τ Cert.GateFwdReferenceIdeal.sig) → Buf (Elt Ideal) ℓ) (g' : Dev Cert.GateFwdReferenceIdeal.nD → PrngReg), Pre_GateFwdIdeal m →
    (∀ c : Dev Cert.GateFwdIdeal.nD,
      m' ((c.tc : Thread Cert.GateFwdReferenceIdeal.nD Cert.GateFwdReferenceIdeal.τ).loc Cert.GateFwdReferenceIdeal.main_arg0) = m ((c.tc : Thread Cert.GateFwdIdeal.nD Cert.GateFwdIdeal.τ).loc Cert.GateFwdIdeal.main_arg0)
      ∧ m' ((c.tc : Thread Cert.GateFwdReferenceIdeal.nD Cert.GateFwdReferenceIdeal.τ).loc Cert.GateFwdReferenceIdeal.main_arg1) = m ((c.tc : Thread Cert.GateFwdIdeal.nD Cert.GateFwdIdeal.τ).loc Cert.GateFwdIdeal.main_arg1)
      ∧ m' ((c.tc : Thread Cert.GateFwdReferenceIdeal.nD Cert.GateFwdReferenceIdeal.τ).loc Cert.GateFwdReferenceIdeal.main_arg2) = m ((c.tc : Thread Cert.GateFwdIdeal.nD Cert.GateFwdIdeal.τ).loc Cert.GateFwdIdeal.main_arg2)) →
    ∃ (v0 : (c : Dev Cert.GateFwdIdeal.nD) → Buf (Elt Ideal) ((c.tc : Thread Cert.GateFwdIdeal.nD Cert.GateFwdIdeal.τ).loc Cert.GateFwdIdeal.main_v0_0)) (v1 : (c : Dev Cert.GateFwdIdeal.nD) → Buf (Elt Ideal) ((c.tc : Thread Cert.GateFwdIdeal.nD Cert.GateFwdIdeal.τ).loc Cert.GateFwdIdeal.main_v0_1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0_0) = v0 c
          ∧ r.2.mem ((c.tc : Thread Cert.GateFwdIdeal.nD Cert.GateFwdIdeal.τ).loc Cert.GateFwdIdeal.main_v0_1) = v1 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ θ_run (Cert.GateFwdReferenceIdeal.defs (F := Ideal)) (onTc (τ := Cert.GateFwdReferenceIdeal.τ) (Cert.GateFwdReferenceIdeal.main (F := Ideal))) ⟨m', fun _ => 0, g'⟩ (fun r => ∀ c : Dev Cert.GateFwdReferenceIdeal.nD,
          r.2.mem ((c.tc : Thread Cert.GateFwdReferenceIdeal.nD Cert.GateFwdReferenceIdeal.τ).loc Cert.GateFwdReferenceIdeal.main_v1) = v0 c
          ∧ r.2.mem ((c.tc : Thread Cert.GateFwdReferenceIdeal.nD Cert.GateFwdReferenceIdeal.τ).loc Cert.GateFwdReferenceIdeal.main_v9) = v1 c
          ∧ r.2.mem ((c.tc : Thread Cert.GateFwdReferenceIdeal.nD Cert.GateFwdReferenceIdeal.τ).loc Cert.GateFwdReferenceIdeal.main_arg0) = m' ((c.tc : Thread Cert.GateFwdReferenceIdeal.nD Cert.GateFwdReferenceIdeal.τ).loc Cert.GateFwdReferenceIdeal.main_arg0)
          ∧ r.2.mem ((c.tc : Thread Cert.GateFwdReferenceIdeal.nD Cert.GateFwdReferenceIdeal.τ).loc Cert.GateFwdReferenceIdeal.main_arg1) = m' ((c.tc : Thread Cert.GateFwdReferenceIdeal.nD Cert.GateFwdReferenceIdeal.τ).loc Cert.GateFwdReferenceIdeal.main_arg1)
          ∧ r.2.mem ((c.tc : Thread Cert.GateFwdReferenceIdeal.nD Cert.GateFwdReferenceIdeal.τ).loc Cert.GateFwdReferenceIdeal.main_arg2) = m' ((c.tc : Thread Cert.GateFwdReferenceIdeal.nD Cert.GateFwdReferenceIdeal.τ).loc Cert.GateFwdReferenceIdeal.main_arg2))

def preserves_PostFwd_PostFwdIdeal : Prop :=
  True

def algebraic_PostFwdIdeal_PostFwdReferenceIdeal [hPostFwdIdeal : Cert.PostFwdIdeal.Facts] [hPostFwdReferenceIdeal : Cert.PostFwdReferenceIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg)
    (m' : (ℓ : Loc Cert.PostFwdReferenceIdeal.nD Cert.PostFwdReferenceIdeal.τ Cert.PostFwdReferenceIdeal.sig) → Buf (Elt Ideal) ℓ) (g' : Dev Cert.PostFwdReferenceIdeal.nD → PrngReg), Pre_PostFwdIdeal m →
    (∀ c : Dev Cert.PostFwdIdeal.nD,
      m' ((c.tc : Thread Cert.PostFwdReferenceIdeal.nD Cert.PostFwdReferenceIdeal.τ).loc Cert.PostFwdReferenceIdeal.main_arg0) = m ((c.tc : Thread Cert.PostFwdIdeal.nD Cert.PostFwdIdeal.τ).loc Cert.PostFwdIdeal.main_arg0)
      ∧ m' ((c.tc : Thread Cert.PostFwdReferenceIdeal.nD Cert.PostFwdReferenceIdeal.τ).loc Cert.PostFwdReferenceIdeal.main_arg1) = m ((c.tc : Thread Cert.PostFwdIdeal.nD Cert.PostFwdIdeal.τ).loc Cert.PostFwdIdeal.main_arg1)
      ∧ m' ((c.tc : Thread Cert.PostFwdReferenceIdeal.nD Cert.PostFwdReferenceIdeal.τ).loc Cert.PostFwdReferenceIdeal.main_arg2) = m ((c.tc : Thread Cert.PostFwdIdeal.nD Cert.PostFwdIdeal.τ).loc Cert.PostFwdIdeal.main_arg2)
      ∧ m' ((c.tc : Thread Cert.PostFwdReferenceIdeal.nD Cert.PostFwdReferenceIdeal.τ).loc Cert.PostFwdReferenceIdeal.main_arg3) = m ((c.tc : Thread Cert.PostFwdIdeal.nD Cert.PostFwdIdeal.τ).loc Cert.PostFwdIdeal.main_arg3)) →
    ∃ (v0 : (c : Dev Cert.PostFwdIdeal.nD) → Buf (Elt Ideal) ((c.tc : Thread Cert.PostFwdIdeal.nD Cert.PostFwdIdeal.τ).loc Cert.PostFwdIdeal.main_v0_0)) (v1 : (c : Dev Cert.PostFwdIdeal.nD) → Buf (Elt Ideal) ((c.tc : Thread Cert.PostFwdIdeal.nD Cert.PostFwdIdeal.τ).loc Cert.PostFwdIdeal.main_v0_1)),
      θ_run (Cert.PostFwdIdeal.defs (F := Ideal)) (onTc (τ := Cert.PostFwdIdeal.τ) (Cert.PostFwdIdeal.main (F := Ideal))) ⟨m, fun _ => 0, g⟩ (fun r => ∀ c : Dev Cert.PostFwdIdeal.nD,
          r.2.mem ((c.tc : Thread Cert.PostFwdIdeal.nD Cert.PostFwdIdeal.τ).loc Cert.PostFwdIdeal.main_v0_0) = v0 c
          ∧ r.2.mem ((c.tc : Thread Cert.PostFwdIdeal.nD Cert.PostFwdIdeal.τ).loc Cert.PostFwdIdeal.main_v0_1) = v1 c
          ∧ r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
          ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
          ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2)
          ∧ r.2.mem ((c.tc : Thread Cert.PostFwdIdeal.nD Cert.PostFwdIdeal.τ).loc Cert.PostFwdIdeal.main_arg3) = m ((c.tc : Thread Cert.PostFwdIdeal.nD Cert.PostFwdIdeal.τ).loc Cert.PostFwdIdeal.main_arg3))
      ∧ θ_run (Cert.PostFwdReferenceIdeal.defs (F := Ideal)) (onTc (τ := Cert.PostFwdReferenceIdeal.τ) (Cert.PostFwdReferenceIdeal.main (F := Ideal))) ⟨m', fun _ => 0, g'⟩ (fun r => ∀ c : Dev Cert.PostFwdReferenceIdeal.nD,
          r.2.mem ((c.tc : Thread Cert.PostFwdReferenceIdeal.nD Cert.PostFwdReferenceIdeal.τ).loc Cert.PostFwdReferenceIdeal.main_v2) = v0 c
          ∧ r.2.mem ((c.tc : Thread Cert.PostFwdReferenceIdeal.nD Cert.PostFwdReferenceIdeal.τ).loc Cert.PostFwdReferenceIdeal.main_v15) = v1 c
          ∧ r.2.mem ((c.tc : Thread Cert.PostFwdReferenceIdeal.nD Cert.PostFwdReferenceIdeal.τ).loc Cert.PostFwdReferenceIdeal.main_arg0) = m' ((c.tc : Thread Cert.PostFwdReferenceIdeal.nD Cert.PostFwdReferenceIdeal.τ).loc Cert.PostFwdReferenceIdeal.main_arg0)
          ∧ r.2.mem ((c.tc : Thread Cert.PostFwdReferenceIdeal.nD Cert.PostFwdReferenceIdeal.τ).loc Cert.PostFwdReferenceIdeal.main_arg1) = m' ((c.tc : Thread Cert.PostFwdReferenceIdeal.nD Cert.PostFwdReferenceIdeal.τ).loc Cert.PostFwdReferenceIdeal.main_arg1)
          ∧ r.2.mem ((c.tc : Thread Cert.PostFwdReferenceIdeal.nD Cert.PostFwdReferenceIdeal.τ).loc Cert.PostFwdReferenceIdeal.main_arg2) = m' ((c.tc : Thread Cert.PostFwdReferenceIdeal.nD Cert.PostFwdReferenceIdeal.τ).loc Cert.PostFwdReferenceIdeal.main_arg2)
          ∧ r.2.mem ((c.tc : Thread Cert.PostFwdReferenceIdeal.nD Cert.PostFwdReferenceIdeal.τ).loc Cert.PostFwdReferenceIdeal.main_arg3) = m' ((c.tc : Thread Cert.PostFwdReferenceIdeal.nD Cert.PostFwdReferenceIdeal.τ).loc Cert.PostFwdReferenceIdeal.main_arg3))

def preserves_ConvDgrad_ConvDgradIdeal : Prop :=
  True

def algebraic_ConvDgradIdeal_ConvDgradReferenceIdeal [hConvDgradIdeal : Cert.ConvDgradIdeal.Facts] [hConvDgradReferenceIdeal : Cert.ConvDgradReferenceIdeal.Facts] : Prop :=
  ∀ (m : (ℓ : Loc Cert.ConvDgradIdeal.nD Cert.ConvDgradIdeal.τ Cert.ConvDgradIdeal.sig) → Buf (Elt Ideal) ℓ) (g : Dev Cert.ConvDgradIdeal.nD → PrngReg)
    (m' : (ℓ : Loc Cert.ConvDgradReferenceIdeal.nD Cert.ConvDgradReferenceIdeal.τ Cert.ConvDgradReferenceIdeal.sig) → Buf (Elt Ideal) ℓ) (g' : Dev Cert.ConvDgradReferenceIdeal.nD → PrngReg), Pre_ConvDgradIdeal m →
    (∀ c : Dev Cert.ConvDgradIdeal.nD,
      m' ((c.tc : Thread Cert.ConvDgradReferenceIdeal.nD Cert.ConvDgradReferenceIdeal.τ).loc Cert.ConvDgradReferenceIdeal.main_arg0) = m ((c.tc : Thread Cert.ConvDgradIdeal.nD Cert.ConvDgradIdeal.τ).loc Cert.ConvDgradIdeal.main_arg0)
      ∧ m' ((c.tc : Thread Cert.ConvDgradReferenceIdeal.nD Cert.ConvDgradReferenceIdeal.τ).loc Cert.ConvDgradReferenceIdeal.main_arg1) = m ((c.tc : Thread Cert.ConvDgradIdeal.nD Cert.ConvDgradIdeal.τ).loc Cert.ConvDgradIdeal.main_arg1)
      ∧ m' ((c.tc : Thread Cert.ConvDgradReferenceIdeal.nD Cert.ConvDgradReferenceIdeal.τ).loc Cert.ConvDgradReferenceIdeal.main_arg2) = m ((c.tc : Thread Cert.ConvDgradIdeal.nD Cert.ConvDgradIdeal.τ).loc Cert.ConvDgradIdeal.main_arg2)
      ∧ m' ((c.tc : Thread Cert.ConvDgradReferenceIdeal.nD Cert.ConvDgradReferenceIdeal.τ).loc Cert.ConvDgradReferenceIdeal.main_arg3) = m ((c.tc : Thread Cert.ConvDgradIdeal.nD Cert.ConvDgradIdeal.τ).loc Cert.ConvDgradIdeal.main_arg3)
      ∧ m' ((c.tc : Thread Cert.ConvDgradReferenceIdeal.nD Cert.ConvDgradReferenceIdeal.τ).loc Cert.ConvDgradReferenceIdeal.main_arg4) = m ((c.tc : Thread Cert.ConvDgradIdeal.nD Cert.ConvDgradIdeal.τ).loc Cert.ConvDgradIdeal.main_arg4)
      ∧ m' ((c.tc : Thread Cert.ConvDgradReferenceIdeal.nD Cert.ConvDgradReferenceIdeal.τ).loc Cert.ConvDgradReferenceIdeal.main_arg5) = m ((c.tc : Thread Cert.ConvDgradIdeal.nD Cert.ConvDgradIdeal.τ).loc Cert.ConvDgradIdeal.main_arg5)) →
    ∃ (v0 : (c : Dev Cert.ConvDgradIdeal.nD) → Buf (Elt Ideal) ((c.tc : Thread Cert.ConvDgradIdeal.nD Cert.ConvDgradIdeal.τ).loc Cert.ConvDgradIdeal.main_v0_0)) (v1 : (c : Dev Cert.ConvDgradIdeal.nD) → Buf (Elt Ideal) ((c.tc : Thread Cert.ConvDgradIdeal.nD Cert.ConvDgradIdeal.τ).loc Cert.ConvDgradIdeal.main_v0_1)),
      θ_run (Cert.ConvDgradIdeal.defs (F := Ideal)) (onTc (τ := Cert.ConvDgradIdeal.τ) (Cert.ConvDgradIdeal.main (F := Ideal))) ⟨m, fun _ => 0, g⟩ (fun r => ∀ c : Dev Cert.ConvDgradIdeal.nD,
          r.2.mem ((c.tc : Thread Cert.ConvDgradIdeal.nD Cert.ConvDgradIdeal.τ).loc Cert.ConvDgradIdeal.main_v0_0) = v0 c
          ∧ r.2.mem ((c.tc : Thread Cert.ConvDgradIdeal.nD Cert.ConvDgradIdeal.τ).loc Cert.ConvDgradIdeal.main_v0_1) = v1 c
          ∧ r.2.mem ((c.tc : Thread Cert.ConvDgradIdeal.nD Cert.ConvDgradIdeal.τ).loc Cert.ConvDgradIdeal.main_arg0) = m ((c.tc : Thread Cert.ConvDgradIdeal.nD Cert.ConvDgradIdeal.τ).loc Cert.ConvDgradIdeal.main_arg0)
          ∧ r.2.mem ((c.tc : Thread Cert.ConvDgradIdeal.nD Cert.ConvDgradIdeal.τ).loc Cert.ConvDgradIdeal.main_arg1) = m ((c.tc : Thread Cert.ConvDgradIdeal.nD Cert.ConvDgradIdeal.τ).loc Cert.ConvDgradIdeal.main_arg1)
          ∧ r.2.mem ((c.tc : Thread Cert.ConvDgradIdeal.nD Cert.ConvDgradIdeal.τ).loc Cert.ConvDgradIdeal.main_arg2) = m ((c.tc : Thread Cert.ConvDgradIdeal.nD Cert.ConvDgradIdeal.τ).loc Cert.ConvDgradIdeal.main_arg2)
          ∧ r.2.mem ((c.tc : Thread Cert.ConvDgradIdeal.nD Cert.ConvDgradIdeal.τ).loc Cert.ConvDgradIdeal.main_arg3) = m ((c.tc : Thread Cert.ConvDgradIdeal.nD Cert.ConvDgradIdeal.τ).loc Cert.ConvDgradIdeal.main_arg3)
          ∧ r.2.mem ((c.tc : Thread Cert.ConvDgradIdeal.nD Cert.ConvDgradIdeal.τ).loc Cert.ConvDgradIdeal.main_arg4) = m ((c.tc : Thread Cert.ConvDgradIdeal.nD Cert.ConvDgradIdeal.τ).loc Cert.ConvDgradIdeal.main_arg4)
          ∧ r.2.mem ((c.tc : Thread Cert.ConvDgradIdeal.nD Cert.ConvDgradIdeal.τ).loc Cert.ConvDgradIdeal.main_arg5) = m ((c.tc : Thread Cert.ConvDgradIdeal.nD Cert.ConvDgradIdeal.τ).loc Cert.ConvDgradIdeal.main_arg5))
      ∧ θ_run (Cert.ConvDgradReferenceIdeal.defs (F := Ideal)) (onTc (τ := Cert.ConvDgradReferenceIdeal.τ) (Cert.ConvDgradReferenceIdeal.main (F := Ideal))) ⟨m', fun _ => 0, g'⟩ (fun r => ∀ c : Dev Cert.ConvDgradReferenceIdeal.nD,
          r.2.mem ((c.tc : Thread Cert.ConvDgradReferenceIdeal.nD Cert.ConvDgradReferenceIdeal.τ).loc Cert.ConvDgradReferenceIdeal.main_v39) = v0 c
          ∧ r.2.mem ((c.tc : Thread Cert.ConvDgradReferenceIdeal.nD Cert.ConvDgradReferenceIdeal.τ).loc Cert.ConvDgradReferenceIdeal.main_v24) = v1 c
          ∧ r.2.mem ((c.tc : Thread Cert.ConvDgradReferenceIdeal.nD Cert.ConvDgradReferenceIdeal.τ).loc Cert.ConvDgradReferenceIdeal.main_arg0) = m' ((c.tc : Thread Cert.ConvDgradReferenceIdeal.nD Cert.ConvDgradReferenceIdeal.τ).loc Cert.ConvDgradReferenceIdeal.main_arg0)
          ∧ r.2.mem ((c.tc : Thread Cert.ConvDgradReferenceIdeal.nD Cert.ConvDgradReferenceIdeal.τ).loc Cert.ConvDgradReferenceIdeal.main_arg1) = m' ((c.tc : Thread Cert.ConvDgradReferenceIdeal.nD Cert.ConvDgradReferenceIdeal.τ).loc Cert.ConvDgradReferenceIdeal.main_arg1)
          ∧ r.2.mem ((c.tc : Thread Cert.ConvDgradReferenceIdeal.nD Cert.ConvDgradReferenceIdeal.τ).loc Cert.ConvDgradReferenceIdeal.main_arg2) = m' ((c.tc : Thread Cert.ConvDgradReferenceIdeal.nD Cert.ConvDgradReferenceIdeal.τ).loc Cert.ConvDgradReferenceIdeal.main_arg2)
          ∧ r.2.mem ((c.tc : Thread Cert.ConvDgradReferenceIdeal.nD Cert.ConvDgradReferenceIdeal.τ).loc Cert.ConvDgradReferenceIdeal.main_arg3) = m' ((c.tc : Thread Cert.ConvDgradReferenceIdeal.nD Cert.ConvDgradReferenceIdeal.τ).loc Cert.ConvDgradReferenceIdeal.main_arg3)
          ∧ r.2.mem ((c.tc : Thread Cert.ConvDgradReferenceIdeal.nD Cert.ConvDgradReferenceIdeal.τ).loc Cert.ConvDgradReferenceIdeal.main_arg4) = m' ((c.tc : Thread Cert.ConvDgradReferenceIdeal.nD Cert.ConvDgradReferenceIdeal.τ).loc Cert.ConvDgradReferenceIdeal.main_arg4)
          ∧ r.2.mem ((c.tc : Thread Cert.ConvDgradReferenceIdeal.nD Cert.ConvDgradReferenceIdeal.τ).loc Cert.ConvDgradReferenceIdeal.main_arg5) = m' ((c.tc : Thread Cert.ConvDgradReferenceIdeal.nD Cert.ConvDgradReferenceIdeal.τ).loc Cert.ConvDgradReferenceIdeal.main_arg5))

def preserves_PlePost_PlePostIdeal : Prop :=
  True

def algebraic_PlePostIdeal_PlePostReferenceIdeal [hPlePostIdeal : Cert.PlePostIdeal.Facts] [hPlePostReferenceIdeal : Cert.PlePostReferenceIdeal.Facts] : Prop :=
  ∀ (m : (ℓ : Loc Cert.PlePostIdeal.nD Cert.PlePostIdeal.τ Cert.PlePostIdeal.sig) → Buf (Elt Ideal) ℓ) (g : Dev Cert.PlePostIdeal.nD → PrngReg)
    (m' : (ℓ : Loc Cert.PlePostReferenceIdeal.nD Cert.PlePostReferenceIdeal.τ Cert.PlePostReferenceIdeal.sig) → Buf (Elt Ideal) ℓ) (g' : Dev Cert.PlePostReferenceIdeal.nD → PrngReg), Pre_PlePostIdeal m →
    (∀ c : Dev Cert.PlePostIdeal.nD,
      m' ((c.tc : Thread Cert.PlePostReferenceIdeal.nD Cert.PlePostReferenceIdeal.τ).loc Cert.PlePostReferenceIdeal.main_arg0) = m ((c.tc : Thread Cert.PlePostIdeal.nD Cert.PlePostIdeal.τ).loc Cert.PlePostIdeal.main_arg0)
      ∧ m' ((c.tc : Thread Cert.PlePostReferenceIdeal.nD Cert.PlePostReferenceIdeal.τ).loc Cert.PlePostReferenceIdeal.main_arg1) = m ((c.tc : Thread Cert.PlePostIdeal.nD Cert.PlePostIdeal.τ).loc Cert.PlePostIdeal.main_arg1)
      ∧ m' ((c.tc : Thread Cert.PlePostReferenceIdeal.nD Cert.PlePostReferenceIdeal.τ).loc Cert.PlePostReferenceIdeal.main_arg2) = m ((c.tc : Thread Cert.PlePostIdeal.nD Cert.PlePostIdeal.τ).loc Cert.PlePostIdeal.main_arg2)
      ∧ m' ((c.tc : Thread Cert.PlePostReferenceIdeal.nD Cert.PlePostReferenceIdeal.τ).loc Cert.PlePostReferenceIdeal.main_arg3) = m ((c.tc : Thread Cert.PlePostIdeal.nD Cert.PlePostIdeal.τ).loc Cert.PlePostIdeal.main_arg3)
      ∧ m' ((c.tc : Thread Cert.PlePostReferenceIdeal.nD Cert.PlePostReferenceIdeal.τ).loc Cert.PlePostReferenceIdeal.main_arg4) = m ((c.tc : Thread Cert.PlePostIdeal.nD Cert.PlePostIdeal.τ).loc Cert.PlePostIdeal.main_arg4)
      ∧ m' ((c.tc : Thread Cert.PlePostReferenceIdeal.nD Cert.PlePostReferenceIdeal.τ).loc Cert.PlePostReferenceIdeal.main_arg5) = m ((c.tc : Thread Cert.PlePostIdeal.nD Cert.PlePostIdeal.τ).loc Cert.PlePostIdeal.main_arg5)) →
    ∃ (v0 : (c : Dev Cert.PlePostIdeal.nD) → Buf (Elt Ideal) ((c.tc : Thread Cert.PlePostIdeal.nD Cert.PlePostIdeal.τ).loc Cert.PlePostIdeal.main_v0_0)) (v1 : (c : Dev Cert.PlePostIdeal.nD) → Buf (Elt Ideal) ((c.tc : Thread Cert.PlePostIdeal.nD Cert.PlePostIdeal.τ).loc Cert.PlePostIdeal.main_v0_1)) (v2 : (c : Dev Cert.PlePostIdeal.nD) → Buf (Elt Ideal) ((c.tc : Thread Cert.PlePostIdeal.nD Cert.PlePostIdeal.τ).loc Cert.PlePostIdeal.main_v0_2)) (v3 : (c : Dev Cert.PlePostIdeal.nD) → Buf (Elt Ideal) ((c.tc : Thread Cert.PlePostIdeal.nD Cert.PlePostIdeal.τ).loc Cert.PlePostIdeal.main_v0_3)) (v4 : (c : Dev Cert.PlePostIdeal.nD) → Buf (Elt Ideal) ((c.tc : Thread Cert.PlePostIdeal.nD Cert.PlePostIdeal.τ).loc Cert.PlePostIdeal.main_v0_4)),
      θ_run (Cert.PlePostIdeal.defs (F := Ideal)) (onTc (τ := Cert.PlePostIdeal.τ) (Cert.PlePostIdeal.main (F := Ideal))) ⟨m, fun _ => 0, g⟩ (fun r => ∀ c : Dev Cert.PlePostIdeal.nD,
          r.2.mem ((c.tc : Thread Cert.PlePostIdeal.nD Cert.PlePostIdeal.τ).loc Cert.PlePostIdeal.main_v0_0) = v0 c
          ∧ r.2.mem ((c.tc : Thread Cert.PlePostIdeal.nD Cert.PlePostIdeal.τ).loc Cert.PlePostIdeal.main_v0_1) = v1 c
          ∧ r.2.mem ((c.tc : Thread Cert.PlePostIdeal.nD Cert.PlePostIdeal.τ).loc Cert.PlePostIdeal.main_v0_2) = v2 c
          ∧ r.2.mem ((c.tc : Thread Cert.PlePostIdeal.nD Cert.PlePostIdeal.τ).loc Cert.PlePostIdeal.main_v0_3) = v3 c
          ∧ r.2.mem ((c.tc : Thread Cert.PlePostIdeal.nD Cert.PlePostIdeal.τ).loc Cert.PlePostIdeal.main_v0_4) = v4 c
          ∧ r.2.mem ((c.tc : Thread Cert.PlePostIdeal.nD Cert.PlePostIdeal.τ).loc Cert.PlePostIdeal.main_arg0) = m ((c.tc : Thread Cert.PlePostIdeal.nD Cert.PlePostIdeal.τ).loc Cert.PlePostIdeal.main_arg0)
          ∧ r.2.mem ((c.tc : Thread Cert.PlePostIdeal.nD Cert.PlePostIdeal.τ).loc Cert.PlePostIdeal.main_arg1) = m ((c.tc : Thread Cert.PlePostIdeal.nD Cert.PlePostIdeal.τ).loc Cert.PlePostIdeal.main_arg1)
          ∧ r.2.mem ((c.tc : Thread Cert.PlePostIdeal.nD Cert.PlePostIdeal.τ).loc Cert.PlePostIdeal.main_arg2) = m ((c.tc : Thread Cert.PlePostIdeal.nD Cert.PlePostIdeal.τ).loc Cert.PlePostIdeal.main_arg2)
          ∧ r.2.mem ((c.tc : Thread Cert.PlePostIdeal.nD Cert.PlePostIdeal.τ).loc Cert.PlePostIdeal.main_arg3) = m ((c.tc : Thread Cert.PlePostIdeal.nD Cert.PlePostIdeal.τ).loc Cert.PlePostIdeal.main_arg3)
          ∧ r.2.mem ((c.tc : Thread Cert.PlePostIdeal.nD Cert.PlePostIdeal.τ).loc Cert.PlePostIdeal.main_arg4) = m ((c.tc : Thread Cert.PlePostIdeal.nD Cert.PlePostIdeal.τ).loc Cert.PlePostIdeal.main_arg4)
          ∧ r.2.mem ((c.tc : Thread Cert.PlePostIdeal.nD Cert.PlePostIdeal.τ).loc Cert.PlePostIdeal.main_arg5) = m ((c.tc : Thread Cert.PlePostIdeal.nD Cert.PlePostIdeal.τ).loc Cert.PlePostIdeal.main_arg5))
      ∧ θ_run (Cert.PlePostReferenceIdeal.defs (F := Ideal)) (onTc (τ := Cert.PlePostReferenceIdeal.τ) (Cert.PlePostReferenceIdeal.main (F := Ideal))) ⟨m', fun _ => 0, g'⟩ (fun r => ∀ c : Dev Cert.PlePostReferenceIdeal.nD,
          r.2.mem ((c.tc : Thread Cert.PlePostReferenceIdeal.nD Cert.PlePostReferenceIdeal.τ).loc Cert.PlePostReferenceIdeal.main_v54) = v0 c
          ∧ r.2.mem ((c.tc : Thread Cert.PlePostReferenceIdeal.nD Cert.PlePostReferenceIdeal.τ).loc Cert.PlePostReferenceIdeal.main_v55) = v1 c
          ∧ r.2.mem ((c.tc : Thread Cert.PlePostReferenceIdeal.nD Cert.PlePostReferenceIdeal.τ).loc Cert.PlePostReferenceIdeal.main_v19) = v2 c
          ∧ r.2.mem ((c.tc : Thread Cert.PlePostReferenceIdeal.nD Cert.PlePostReferenceIdeal.τ).loc Cert.PlePostReferenceIdeal.main_v56) = v3 c
          ∧ r.2.mem ((c.tc : Thread Cert.PlePostReferenceIdeal.nD Cert.PlePostReferenceIdeal.τ).loc Cert.PlePostReferenceIdeal.main_v39) = v4 c
          ∧ r.2.mem ((c.tc : Thread Cert.PlePostReferenceIdeal.nD Cert.PlePostReferenceIdeal.τ).loc Cert.PlePostReferenceIdeal.main_arg0) = m' ((c.tc : Thread Cert.PlePostReferenceIdeal.nD Cert.PlePostReferenceIdeal.τ).loc Cert.PlePostReferenceIdeal.main_arg0)
          ∧ r.2.mem ((c.tc : Thread Cert.PlePostReferenceIdeal.nD Cert.PlePostReferenceIdeal.τ).loc Cert.PlePostReferenceIdeal.main_arg1) = m' ((c.tc : Thread Cert.PlePostReferenceIdeal.nD Cert.PlePostReferenceIdeal.τ).loc Cert.PlePostReferenceIdeal.main_arg1)
          ∧ r.2.mem ((c.tc : Thread Cert.PlePostReferenceIdeal.nD Cert.PlePostReferenceIdeal.τ).loc Cert.PlePostReferenceIdeal.main_arg2) = m' ((c.tc : Thread Cert.PlePostReferenceIdeal.nD Cert.PlePostReferenceIdeal.τ).loc Cert.PlePostReferenceIdeal.main_arg2)
          ∧ r.2.mem ((c.tc : Thread Cert.PlePostReferenceIdeal.nD Cert.PlePostReferenceIdeal.τ).loc Cert.PlePostReferenceIdeal.main_arg3) = m' ((c.tc : Thread Cert.PlePostReferenceIdeal.nD Cert.PlePostReferenceIdeal.τ).loc Cert.PlePostReferenceIdeal.main_arg3)
          ∧ r.2.mem ((c.tc : Thread Cert.PlePostReferenceIdeal.nD Cert.PlePostReferenceIdeal.τ).loc Cert.PlePostReferenceIdeal.main_arg4) = m' ((c.tc : Thread Cert.PlePostReferenceIdeal.nD Cert.PlePostReferenceIdeal.τ).loc Cert.PlePostReferenceIdeal.main_arg4)
          ∧ r.2.mem ((c.tc : Thread Cert.PlePostReferenceIdeal.nD Cert.PlePostReferenceIdeal.τ).loc Cert.PlePostReferenceIdeal.main_arg5) = m' ((c.tc : Thread Cert.PlePostReferenceIdeal.nD Cert.PlePostReferenceIdeal.τ).loc Cert.PlePostReferenceIdeal.main_arg5))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v3) = v0 c
          ∧ r.2.mem ((c.tc : Thread Cert.LossReferenceIdeal.nD Cert.LossReferenceIdeal.τ).loc Cert.LossReferenceIdeal.main_v18) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_AdamNorm_AdamNormIdeal : Prop :=
  True

def algebraic_AdamNormIdeal_AdamNormReferenceIdeal [hAdamNormIdeal : Cert.AdamNormIdeal.Facts] [hAdamNormReferenceIdeal : Cert.AdamNormReferenceIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormReferenceIdeal.nD Cert.AdamNormReferenceIdeal.τ Cert.AdamNormReferenceIdeal.sig) → Buf (Elt Ideal) ℓ) (g' : Dev Cert.AdamNormReferenceIdeal.nD → PrngReg), Pre_AdamNormIdeal m →
    (∀ c : Dev Cert.AdamNormIdeal.nD,
      m' ((c.tc : Thread Cert.AdamNormReferenceIdeal.nD Cert.AdamNormReferenceIdeal.τ).loc Cert.AdamNormReferenceIdeal.main_arg0) = m ((c.tc : Thread Cert.AdamNormIdeal.nD Cert.AdamNormIdeal.τ).loc Cert.AdamNormIdeal.main_arg0)
      ∧ m' ((c.tc : Thread Cert.AdamNormReferenceIdeal.nD Cert.AdamNormReferenceIdeal.τ).loc Cert.AdamNormReferenceIdeal.main_arg1) = m ((c.tc : Thread Cert.AdamNormIdeal.nD Cert.AdamNormIdeal.τ).loc Cert.AdamNormIdeal.main_arg1)
      ∧ m' ((c.tc : Thread Cert.AdamNormReferenceIdeal.nD Cert.AdamNormReferenceIdeal.τ).loc Cert.AdamNormReferenceIdeal.main_arg2) = m ((c.tc : Thread Cert.AdamNormIdeal.nD Cert.AdamNormIdeal.τ).loc Cert.AdamNormIdeal.main_arg2)
      ∧ m' ((c.tc : Thread Cert.AdamNormReferenceIdeal.nD Cert.AdamNormReferenceIdeal.τ).loc Cert.AdamNormReferenceIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormReferenceIdeal.defs (F := Ideal)) (onTc (τ := Cert.AdamNormReferenceIdeal.τ) (Cert.AdamNormReferenceIdeal.main (F := Ideal))) ⟨m', fun _ => 0, g'⟩ (fun r => ∀ c : Dev Cert.AdamNormReferenceIdeal.nD,
          r.2.mem ((c.tc : Thread Cert.AdamNormReferenceIdeal.nD Cert.AdamNormReferenceIdeal.τ).loc Cert.AdamNormReferenceIdeal.main_v23) = v0 c
          ∧ r.2.mem ((c.tc : Thread Cert.AdamNormReferenceIdeal.nD Cert.AdamNormReferenceIdeal.τ).loc Cert.AdamNormReferenceIdeal.main_v4) = v1 c
          ∧ r.2.mem ((c.tc : Thread Cert.AdamNormReferenceIdeal.nD Cert.AdamNormReferenceIdeal.τ).loc Cert.AdamNormReferenceIdeal.main_v10) = v2 c
          ∧ r.2.mem ((c.tc : Thread Cert.AdamNormReferenceIdeal.nD Cert.AdamNormReferenceIdeal.τ).loc Cert.AdamNormReferenceIdeal.main_arg0) = m' ((c.tc : Thread Cert.AdamNormReferenceIdeal.nD Cert.AdamNormReferenceIdeal.τ).loc Cert.AdamNormReferenceIdeal.main_arg0)
          ∧ r.2.mem ((c.tc : Thread Cert.AdamNormReferenceIdeal.nD Cert.AdamNormReferenceIdeal.τ).loc Cert.AdamNormReferenceIdeal.main_arg1) = m' ((c.tc : Thread Cert.AdamNormReferenceIdeal.nD Cert.AdamNormReferenceIdeal.τ).loc Cert.AdamNormReferenceIdeal.main_arg1)
          ∧ r.2.mem ((c.tc : Thread Cert.AdamNormReferenceIdeal.nD Cert.AdamNormReferenceIdeal.τ).loc Cert.AdamNormReferenceIdeal.main_arg2) = m' ((c.tc : Thread Cert.AdamNormReferenceIdeal.nD Cert.AdamNormReferenceIdeal.τ).loc Cert.AdamNormReferenceIdeal.main_arg2)
          ∧ r.2.mem ((c.tc : Thread Cert.AdamNormReferenceIdeal.nD Cert.AdamNormReferenceIdeal.τ).loc Cert.AdamNormReferenceIdeal.main_arg3) = m' ((c.tc : Thread Cert.AdamNormReferenceIdeal.nD Cert.AdamNormReferenceIdeal.τ).loc Cert.AdamNormReferenceIdeal.main_arg3))

def preserves_AdamAttnIn_AdamAttnInIdeal : Prop :=
  True

def algebraic_AdamAttnInIdeal_AdamAttnInReferenceIdeal [hAdamAttnInIdeal : Cert.AdamAttnInIdeal.Facts] [hAdamAttnInReferenceIdeal : Cert.AdamAttnInReferenceIdeal.Facts] : Prop :=
  ∀ (m : (ℓ : Loc Cert.AdamAttnInIdeal.nD Cert.AdamAttnInIdeal.τ Cert.AdamAttnInIdeal.sig) → Buf (Elt Ideal) ℓ) (g : Dev Cert.AdamAttnInIdeal.nD → PrngReg)
    (m' : (ℓ : Loc Cert.AdamAttnInReferenceIdeal.nD Cert.AdamAttnInReferenceIdeal.τ Cert.AdamAttnInReferenceIdeal.sig) → Buf (Elt Ideal) ℓ) (g' : Dev Cert.AdamAttnInReferenceIdeal.nD → PrngReg), Pre_AdamAttnInIdeal m →
    (∀ c : Dev Cert.AdamAttnInIdeal.nD,
      m' ((c.tc : Thread Cert.AdamAttnInReferenceIdeal.nD Cert.AdamAttnInReferenceIdeal.τ).loc Cert.AdamAttnInReferenceIdeal.main_arg0) = m ((c.tc : Thread Cert.AdamAttnInIdeal.nD Cert.AdamAttnInIdeal.τ).loc Cert.AdamAttnInIdeal.main_arg0)
      ∧ m' ((c.tc : Thread Cert.AdamAttnInReferenceIdeal.nD Cert.AdamAttnInReferenceIdeal.τ).loc Cert.AdamAttnInReferenceIdeal.main_arg1) = m ((c.tc : Thread Cert.AdamAttnInIdeal.nD Cert.AdamAttnInIdeal.τ).loc Cert.AdamAttnInIdeal.main_arg1)
      ∧ m' ((c.tc : Thread Cert.AdamAttnInReferenceIdeal.nD Cert.AdamAttnInReferenceIdeal.τ).loc Cert.AdamAttnInReferenceIdeal.main_arg2) = m ((c.tc : Thread Cert.AdamAttnInIdeal.nD Cert.AdamAttnInIdeal.τ).loc Cert.AdamAttnInIdeal.main_arg2)
      ∧ m' ((c.tc : Thread Cert.AdamAttnInReferenceIdeal.nD Cert.AdamAttnInReferenceIdeal.τ).loc Cert.AdamAttnInReferenceIdeal.main_arg3) = m ((c.tc : Thread Cert.AdamAttnInIdeal.nD Cert.AdamAttnInIdeal.τ).loc Cert.AdamAttnInIdeal.main_arg3)) →
    ∃ (v0 : (c : Dev Cert.AdamAttnInIdeal.nD) → Buf (Elt Ideal) ((c.tc : Thread Cert.AdamAttnInIdeal.nD Cert.AdamAttnInIdeal.τ).loc Cert.AdamAttnInIdeal.main_v0_0)) (v1 : (c : Dev Cert.AdamAttnInIdeal.nD) → Buf (Elt Ideal) ((c.tc : Thread Cert.AdamAttnInIdeal.nD Cert.AdamAttnInIdeal.τ).loc Cert.AdamAttnInIdeal.main_v0_1)) (v2 : (c : Dev Cert.AdamAttnInIdeal.nD) → Buf (Elt Ideal) ((c.tc : Thread Cert.AdamAttnInIdeal.nD Cert.AdamAttnInIdeal.τ).loc Cert.AdamAttnInIdeal.main_v0_2)),
      θ_run (Cert.AdamAttnInIdeal.defs (F := Ideal)) (onTc (τ := Cert.AdamAttnInIdeal.τ) (Cert.AdamAttnInIdeal.main (F := Ideal))) ⟨m, fun _ => 0, g⟩ (fun r => ∀ c : Dev Cert.AdamAttnInIdeal.nD,
          r.2.mem ((c.tc : Thread Cert.AdamAttnInIdeal.nD Cert.AdamAttnInIdeal.τ).loc Cert.AdamAttnInIdeal.main_v0_0) = v0 c
          ∧ r.2.mem ((c.tc : Thread Cert.AdamAttnInIdeal.nD Cert.AdamAttnInIdeal.τ).loc Cert.AdamAttnInIdeal.main_v0_1) = v1 c
          ∧ r.2.mem ((c.tc : Thread Cert.AdamAttnInIdeal.nD Cert.AdamAttnInIdeal.τ).loc Cert.AdamAttnInIdeal.main_v0_2) = v2 c
          ∧ r.2.mem ((c.tc : Thread Cert.AdamAttnInIdeal.nD Cert.AdamAttnInIdeal.τ).loc Cert.AdamAttnInIdeal.main_arg0) = m ((c.tc : Thread Cert.AdamAttnInIdeal.nD Cert.AdamAttnInIdeal.τ).loc Cert.AdamAttnInIdeal.main_arg0)
          ∧ r.2.mem ((c.tc : Thread Cert.AdamAttnInIdeal.nD Cert.AdamAttnInIdeal.τ).loc Cert.AdamAttnInIdeal.main_arg1) = m ((c.tc : Thread Cert.AdamAttnInIdeal.nD Cert.AdamAttnInIdeal.τ).loc Cert.AdamAttnInIdeal.main_arg1)
          ∧ r.2.mem ((c.tc : Thread Cert.AdamAttnInIdeal.nD Cert.AdamAttnInIdeal.τ).loc Cert.AdamAttnInIdeal.main_arg2) = m ((c.tc : Thread Cert.AdamAttnInIdeal.nD Cert.AdamAttnInIdeal.τ).loc Cert.AdamAttnInIdeal.main_arg2)
          ∧ r.2.mem ((c.tc : Thread Cert.AdamAttnInIdeal.nD Cert.AdamAttnInIdeal.τ).loc Cert.AdamAttnInIdeal.main_arg3) = m ((c.tc : Thread Cert.AdamAttnInIdeal.nD Cert.AdamAttnInIdeal.τ).loc Cert.AdamAttnInIdeal.main_arg3))
      ∧ θ_run (Cert.AdamAttnInReferenceIdeal.defs (F := Ideal)) (onTc (τ := Cert.AdamAttnInReferenceIdeal.τ) (Cert.AdamAttnInReferenceIdeal.main (F := Ideal))) ⟨m', fun _ => 0, g'⟩ (fun r => ∀ c : Dev Cert.AdamAttnInReferenceIdeal.nD,
          r.2.mem ((c.tc : Thread Cert.AdamAttnInReferenceIdeal.nD Cert.AdamAttnInReferenceIdeal.τ).loc Cert.AdamAttnInReferenceIdeal.main_v23) = v0 c
          ∧ r.2.mem ((c.tc : Thread Cert.AdamAttnInReferenceIdeal.nD Cert.AdamAttnInReferenceIdeal.τ).loc Cert.AdamAttnInReferenceIdeal.main_v4) = v1 c
          ∧ r.2.mem ((c.tc : Thread Cert.AdamAttnInReferenceIdeal.nD Cert.AdamAttnInReferenceIdeal.τ).loc Cert.AdamAttnInReferenceIdeal.main_v10) = v2 c
          ∧ r.2.mem ((c.tc : Thread Cert.AdamAttnInReferenceIdeal.nD Cert.AdamAttnInReferenceIdeal.τ).loc Cert.AdamAttnInReferenceIdeal.main_arg0) = m' ((c.tc : Thread Cert.AdamAttnInReferenceIdeal.nD Cert.AdamAttnInReferenceIdeal.τ).loc Cert.AdamAttnInReferenceIdeal.main_arg0)
          ∧ r.2.mem ((c.tc : Thread Cert.AdamAttnInReferenceIdeal.nD Cert.AdamAttnInReferenceIdeal.τ).loc Cert.AdamAttnInReferenceIdeal.main_arg1) = m' ((c.tc : Thread Cert.AdamAttnInReferenceIdeal.nD Cert.AdamAttnInReferenceIdeal.τ).loc Cert.AdamAttnInReferenceIdeal.main_arg1)
          ∧ r.2.mem ((c.tc : Thread Cert.AdamAttnInReferenceIdeal.nD Cert.AdamAttnInReferenceIdeal.τ).loc Cert.AdamAttnInReferenceIdeal.main_arg2) = m' ((c.tc : Thread Cert.AdamAttnInReferenceIdeal.nD Cert.AdamAttnInReferenceIdeal.τ).loc Cert.AdamAttnInReferenceIdeal.main_arg2)
          ∧ r.2.mem ((c.tc : Thread Cert.AdamAttnInReferenceIdeal.nD Cert.AdamAttnInReferenceIdeal.τ).loc Cert.AdamAttnInReferenceIdeal.main_arg3) = m' ((c.tc : Thread Cert.AdamAttnInReferenceIdeal.nD Cert.AdamAttnInReferenceIdeal.τ).loc Cert.AdamAttnInReferenceIdeal.main_arg3))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v23) = v0 c
          ∧ r.2.mem ((c.tc : Thread Cert.AdamOutReferenceIdeal.nD Cert.AdamOutReferenceIdeal.τ).loc Cert.AdamOutReferenceIdeal.main_v4) = v1 c
          ∧ r.2.mem ((c.tc : Thread Cert.AdamOutReferenceIdeal.nD Cert.AdamOutReferenceIdeal.τ).loc Cert.AdamOutReferenceIdeal.main_v10) = v2 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3))

def preserves_AdamConvIn_AdamConvInIdeal : Prop :=
  True

def algebraic_AdamConvInIdeal_AdamConvInReferenceIdeal [hAdamConvInIdeal : Cert.AdamConvInIdeal.Facts] [hAdamConvInReferenceIdeal : Cert.AdamConvInReferenceIdeal.Facts] : Prop :=
  ∀ (m : (ℓ : Loc Cert.AdamConvInIdeal.nD Cert.AdamConvInIdeal.τ Cert.AdamConvInIdeal.sig) → Buf (Elt Ideal) ℓ) (g : Dev Cert.AdamConvInIdeal.nD → PrngReg)
    (m' : (ℓ : Loc Cert.AdamConvInReferenceIdeal.nD Cert.AdamConvInReferenceIdeal.τ Cert.AdamConvInReferenceIdeal.sig) → Buf (Elt Ideal) ℓ) (g' : Dev Cert.AdamConvInReferenceIdeal.nD → PrngReg), Pre_AdamConvInIdeal m →
    (∀ c : Dev Cert.AdamConvInIdeal.nD,
      m' ((c.tc : Thread Cert.AdamConvInReferenceIdeal.nD Cert.AdamConvInReferenceIdeal.τ).loc Cert.AdamConvInReferenceIdeal.main_arg0) = m ((c.tc : Thread Cert.AdamConvInIdeal.nD Cert.AdamConvInIdeal.τ).loc Cert.AdamConvInIdeal.main_arg0)
      ∧ m' ((c.tc : Thread Cert.AdamConvInReferenceIdeal.nD Cert.AdamConvInReferenceIdeal.τ).loc Cert.AdamConvInReferenceIdeal.main_arg1) = m ((c.tc : Thread Cert.AdamConvInIdeal.nD Cert.AdamConvInIdeal.τ).loc Cert.AdamConvInIdeal.main_arg1)
      ∧ m' ((c.tc : Thread Cert.AdamConvInReferenceIdeal.nD Cert.AdamConvInReferenceIdeal.τ).loc Cert.AdamConvInReferenceIdeal.main_arg2) = m ((c.tc : Thread Cert.AdamConvInIdeal.nD Cert.AdamConvInIdeal.τ).loc Cert.AdamConvInIdeal.main_arg2)
      ∧ m' ((c.tc : Thread Cert.AdamConvInReferenceIdeal.nD Cert.AdamConvInReferenceIdeal.τ).loc Cert.AdamConvInReferenceIdeal.main_arg3) = m ((c.tc : Thread Cert.AdamConvInIdeal.nD Cert.AdamConvInIdeal.τ).loc Cert.AdamConvInIdeal.main_arg3)) →
    ∃ (v0 : (c : Dev Cert.AdamConvInIdeal.nD) → Buf (Elt Ideal) ((c.tc : Thread Cert.AdamConvInIdeal.nD Cert.AdamConvInIdeal.τ).loc Cert.AdamConvInIdeal.main_v0_0)) (v1 : (c : Dev Cert.AdamConvInIdeal.nD) → Buf (Elt Ideal) ((c.tc : Thread Cert.AdamConvInIdeal.nD Cert.AdamConvInIdeal.τ).loc Cert.AdamConvInIdeal.main_v0_1)) (v2 : (c : Dev Cert.AdamConvInIdeal.nD) → Buf (Elt Ideal) ((c.tc : Thread Cert.AdamConvInIdeal.nD Cert.AdamConvInIdeal.τ).loc Cert.AdamConvInIdeal.main_v0_2)),
      θ_run (Cert.AdamConvInIdeal.defs (F := Ideal)) (onTc (τ := Cert.AdamConvInIdeal.τ) (Cert.AdamConvInIdeal.main (F := Ideal))) ⟨m, fun _ => 0, g⟩ (fun r => ∀ c : Dev Cert.AdamConvInIdeal.nD,
          r.2.mem ((c.tc : Thread Cert.AdamConvInIdeal.nD Cert.AdamConvInIdeal.τ).loc Cert.AdamConvInIdeal.main_v0_0) = v0 c
          ∧ r.2.mem ((c.tc : Thread Cert.AdamConvInIdeal.nD Cert.AdamConvInIdeal.τ).loc Cert.AdamConvInIdeal.main_v0_1) = v1 c
          ∧ r.2.mem ((c.tc : Thread Cert.AdamConvInIdeal.nD Cert.AdamConvInIdeal.τ).loc Cert.AdamConvInIdeal.main_v0_2) = v2 c
          ∧ r.2.mem ((c.tc : Thread Cert.AdamConvInIdeal.nD Cert.AdamConvInIdeal.τ).loc Cert.AdamConvInIdeal.main_arg0) = m ((c.tc : Thread Cert.AdamConvInIdeal.nD Cert.AdamConvInIdeal.τ).loc Cert.AdamConvInIdeal.main_arg0)
          ∧ r.2.mem ((c.tc : Thread Cert.AdamConvInIdeal.nD Cert.AdamConvInIdeal.τ).loc Cert.AdamConvInIdeal.main_arg1) = m ((c.tc : Thread Cert.AdamConvInIdeal.nD Cert.AdamConvInIdeal.τ).loc Cert.AdamConvInIdeal.main_arg1)
          ∧ r.2.mem ((c.tc : Thread Cert.AdamConvInIdeal.nD Cert.AdamConvInIdeal.τ).loc Cert.AdamConvInIdeal.main_arg2) = m ((c.tc : Thread Cert.AdamConvInIdeal.nD Cert.AdamConvInIdeal.τ).loc Cert.AdamConvInIdeal.main_arg2)
          ∧ r.2.mem ((c.tc : Thread Cert.AdamConvInIdeal.nD Cert.AdamConvInIdeal.τ).loc Cert.AdamConvInIdeal.main_arg3) = m ((c.tc : Thread Cert.AdamConvInIdeal.nD Cert.AdamConvInIdeal.τ).loc Cert.AdamConvInIdeal.main_arg3))
      ∧ θ_run (Cert.AdamConvInReferenceIdeal.defs (F := Ideal)) (onTc (τ := Cert.AdamConvInReferenceIdeal.τ) (Cert.AdamConvInReferenceIdeal.main (F := Ideal))) ⟨m', fun _ => 0, g'⟩ (fun r => ∀ c : Dev Cert.AdamConvInReferenceIdeal.nD,
          r.2.mem ((c.tc : Thread Cert.AdamConvInReferenceIdeal.nD Cert.AdamConvInReferenceIdeal.τ).loc Cert.AdamConvInReferenceIdeal.main_v23) = v0 c
          ∧ r.2.mem ((c.tc : Thread Cert.AdamConvInReferenceIdeal.nD Cert.AdamConvInReferenceIdeal.τ).loc Cert.AdamConvInReferenceIdeal.main_v4) = v1 c
          ∧ r.2.mem ((c.tc : Thread Cert.AdamConvInReferenceIdeal.nD Cert.AdamConvInReferenceIdeal.τ).loc Cert.AdamConvInReferenceIdeal.main_v10) = v2 c
          ∧ r.2.mem ((c.tc : Thread Cert.AdamConvInReferenceIdeal.nD Cert.AdamConvInReferenceIdeal.τ).loc Cert.AdamConvInReferenceIdeal.main_arg0) = m' ((c.tc : Thread Cert.AdamConvInReferenceIdeal.nD Cert.AdamConvInReferenceIdeal.τ).loc Cert.AdamConvInReferenceIdeal.main_arg0)
          ∧ r.2.mem ((c.tc : Thread Cert.AdamConvInReferenceIdeal.nD Cert.AdamConvInReferenceIdeal.τ).loc Cert.AdamConvInReferenceIdeal.main_arg1) = m' ((c.tc : Thread Cert.AdamConvInReferenceIdeal.nD Cert.AdamConvInReferenceIdeal.τ).loc Cert.AdamConvInReferenceIdeal.main_arg1)
          ∧ r.2.mem ((c.tc : Thread Cert.AdamConvInReferenceIdeal.nD Cert.AdamConvInReferenceIdeal.τ).loc Cert.AdamConvInReferenceIdeal.main_arg2) = m' ((c.tc : Thread Cert.AdamConvInReferenceIdeal.nD Cert.AdamConvInReferenceIdeal.τ).loc Cert.AdamConvInReferenceIdeal.main_arg2)
          ∧ r.2.mem ((c.tc : Thread Cert.AdamConvInReferenceIdeal.nD Cert.AdamConvInReferenceIdeal.τ).loc Cert.AdamConvInReferenceIdeal.main_arg3) = m' ((c.tc : Thread Cert.AdamConvInReferenceIdeal.nD Cert.AdamConvInReferenceIdeal.τ).loc Cert.AdamConvInReferenceIdeal.main_arg3))

def preserves_AdamConvTaps_AdamConvTapsIdeal : Prop :=
  True

def algebraic_AdamConvTapsIdeal_AdamConvTapsReferenceIdeal [hAdamConvTapsIdeal : Cert.AdamConvTapsIdeal.Facts] [hAdamConvTapsReferenceIdeal : Cert.AdamConvTapsReferenceIdeal.Facts] : Prop :=
  ∀ (m : (ℓ : Loc Cert.AdamConvTapsIdeal.nD Cert.AdamConvTapsIdeal.τ Cert.AdamConvTapsIdeal.sig) → Buf (Elt Ideal) ℓ) (g : Dev Cert.AdamConvTapsIdeal.nD → PrngReg)
    (m' : (ℓ : Loc Cert.AdamConvTapsReferenceIdeal.nD Cert.AdamConvTapsReferenceIdeal.τ Cert.AdamConvTapsReferenceIdeal.sig) → Buf (Elt Ideal) ℓ) (g' : Dev Cert.AdamConvTapsReferenceIdeal.nD → PrngReg), Pre_AdamConvTapsIdeal m →
    (∀ c : Dev Cert.AdamConvTapsIdeal.nD,
      m' ((c.tc : Thread Cert.AdamConvTapsReferenceIdeal.nD Cert.AdamConvTapsReferenceIdeal.τ).loc Cert.AdamConvTapsReferenceIdeal.main_arg0) = m ((c.tc : Thread Cert.AdamConvTapsIdeal.nD Cert.AdamConvTapsIdeal.τ).loc Cert.AdamConvTapsIdeal.main_arg0)
      ∧ m' ((c.tc : Thread Cert.AdamConvTapsReferenceIdeal.nD Cert.AdamConvTapsReferenceIdeal.τ).loc Cert.AdamConvTapsReferenceIdeal.main_arg1) = m ((c.tc : Thread Cert.AdamConvTapsIdeal.nD Cert.AdamConvTapsIdeal.τ).loc Cert.AdamConvTapsIdeal.main_arg1)
      ∧ m' ((c.tc : Thread Cert.AdamConvTapsReferenceIdeal.nD Cert.AdamConvTapsReferenceIdeal.τ).loc Cert.AdamConvTapsReferenceIdeal.main_arg2) = m ((c.tc : Thread Cert.AdamConvTapsIdeal.nD Cert.AdamConvTapsIdeal.τ).loc Cert.AdamConvTapsIdeal.main_arg2)
      ∧ m' ((c.tc : Thread Cert.AdamConvTapsReferenceIdeal.nD Cert.AdamConvTapsReferenceIdeal.τ).loc Cert.AdamConvTapsReferenceIdeal.main_arg3) = m ((c.tc : Thread Cert.AdamConvTapsIdeal.nD Cert.AdamConvTapsIdeal.τ).loc Cert.AdamConvTapsIdeal.main_arg3)) →
    ∃ (v0 : (c : Dev Cert.AdamConvTapsIdeal.nD) → Buf (Elt Ideal) ((c.tc : Thread Cert.AdamConvTapsIdeal.nD Cert.AdamConvTapsIdeal.τ).loc Cert.AdamConvTapsIdeal.main_v0_0)) (v1 : (c : Dev Cert.AdamConvTapsIdeal.nD) → Buf (Elt Ideal) ((c.tc : Thread Cert.AdamConvTapsIdeal.nD Cert.AdamConvTapsIdeal.τ).loc Cert.AdamConvTapsIdeal.main_v0_1)) (v2 : (c : Dev Cert.AdamConvTapsIdeal.nD) → Buf (Elt Ideal) ((c.tc : Thread Cert.AdamConvTapsIdeal.nD Cert.AdamConvTapsIdeal.τ).loc Cert.AdamConvTapsIdeal.main_v0_2)),
      θ_run (Cert.AdamConvTapsIdeal.defs (F := Ideal)) (onTc (τ := Cert.AdamConvTapsIdeal.τ) (Cert.AdamConvTapsIdeal.main (F := Ideal))) ⟨m, fun _ => 0, g⟩ (fun r => ∀ c : Dev Cert.AdamConvTapsIdeal.nD,
          r.2.mem ((c.tc : Thread Cert.AdamConvTapsIdeal.nD Cert.AdamConvTapsIdeal.τ).loc Cert.AdamConvTapsIdeal.main_v0_0) = v0 c
          ∧ r.2.mem ((c.tc : Thread Cert.AdamConvTapsIdeal.nD Cert.AdamConvTapsIdeal.τ).loc Cert.AdamConvTapsIdeal.main_v0_1) = v1 c
          ∧ r.2.mem ((c.tc : Thread Cert.AdamConvTapsIdeal.nD Cert.AdamConvTapsIdeal.τ).loc Cert.AdamConvTapsIdeal.main_v0_2) = v2 c
          ∧ r.2.mem ((c.tc : Thread Cert.AdamConvTapsIdeal.nD Cert.AdamConvTapsIdeal.τ).loc Cert.AdamConvTapsIdeal.main_arg0) = m ((c.tc : Thread Cert.AdamConvTapsIdeal.nD Cert.AdamConvTapsIdeal.τ).loc Cert.AdamConvTapsIdeal.main_arg0)
          ∧ r.2.mem ((c.tc : Thread Cert.AdamConvTapsIdeal.nD Cert.AdamConvTapsIdeal.τ).loc Cert.AdamConvTapsIdeal.main_arg1) = m ((c.tc : Thread Cert.AdamConvTapsIdeal.nD Cert.AdamConvTapsIdeal.τ).loc Cert.AdamConvTapsIdeal.main_arg1)
          ∧ r.2.mem ((c.tc : Thread Cert.AdamConvTapsIdeal.nD Cert.AdamConvTapsIdeal.τ).loc Cert.AdamConvTapsIdeal.main_arg2) = m ((c.tc : Thread Cert.AdamConvTapsIdeal.nD Cert.AdamConvTapsIdeal.τ).loc Cert.AdamConvTapsIdeal.main_arg2)
          ∧ r.2.mem ((c.tc : Thread Cert.AdamConvTapsIdeal.nD Cert.AdamConvTapsIdeal.τ).loc Cert.AdamConvTapsIdeal.main_arg3) = m ((c.tc : Thread Cert.AdamConvTapsIdeal.nD Cert.AdamConvTapsIdeal.τ).loc Cert.AdamConvTapsIdeal.main_arg3))
      ∧ θ_run (Cert.AdamConvTapsReferenceIdeal.defs (F := Ideal)) (onTc (τ := Cert.AdamConvTapsReferenceIdeal.τ) (Cert.AdamConvTapsReferenceIdeal.main (F := Ideal))) ⟨m', fun _ => 0, g'⟩ (fun r => ∀ c : Dev Cert.AdamConvTapsReferenceIdeal.nD,
          r.2.mem ((c.tc : Thread Cert.AdamConvTapsReferenceIdeal.nD Cert.AdamConvTapsReferenceIdeal.τ).loc Cert.AdamConvTapsReferenceIdeal.main_v23) = v0 c
          ∧ r.2.mem ((c.tc : Thread Cert.AdamConvTapsReferenceIdeal.nD Cert.AdamConvTapsReferenceIdeal.τ).loc Cert.AdamConvTapsReferenceIdeal.main_v4) = v1 c
          ∧ r.2.mem ((c.tc : Thread Cert.AdamConvTapsReferenceIdeal.nD Cert.AdamConvTapsReferenceIdeal.τ).loc Cert.AdamConvTapsReferenceIdeal.main_v10) = v2 c
          ∧ r.2.mem ((c.tc : Thread Cert.AdamConvTapsReferenceIdeal.nD Cert.AdamConvTapsReferenceIdeal.τ).loc Cert.AdamConvTapsReferenceIdeal.main_arg0) = m' ((c.tc : Thread Cert.AdamConvTapsReferenceIdeal.nD Cert.AdamConvTapsReferenceIdeal.τ).loc Cert.AdamConvTapsReferenceIdeal.main_arg0)
          ∧ r.2.mem ((c.tc : Thread Cert.AdamConvTapsReferenceIdeal.nD Cert.AdamConvTapsReferenceIdeal.τ).loc Cert.AdamConvTapsReferenceIdeal.main_arg1) = m' ((c.tc : Thread Cert.AdamConvTapsReferenceIdeal.nD Cert.AdamConvTapsReferenceIdeal.τ).loc Cert.AdamConvTapsReferenceIdeal.main_arg1)
          ∧ r.2.mem ((c.tc : Thread Cert.AdamConvTapsReferenceIdeal.nD Cert.AdamConvTapsReferenceIdeal.τ).loc Cert.AdamConvTapsReferenceIdeal.main_arg2) = m' ((c.tc : Thread Cert.AdamConvTapsReferenceIdeal.nD Cert.AdamConvTapsReferenceIdeal.τ).loc Cert.AdamConvTapsReferenceIdeal.main_arg2)
          ∧ r.2.mem ((c.tc : Thread Cert.AdamConvTapsReferenceIdeal.nD Cert.AdamConvTapsReferenceIdeal.τ).loc Cert.AdamConvTapsReferenceIdeal.main_arg3) = m' ((c.tc : Thread Cert.AdamConvTapsReferenceIdeal.nD Cert.AdamConvTapsReferenceIdeal.τ).loc Cert.AdamConvTapsReferenceIdeal.main_arg3))

def preserves_AdamConvRow_AdamConvRowIdeal : Prop :=
  True

def algebraic_AdamConvRowIdeal_AdamConvRowReferenceIdeal [hAdamConvRowIdeal : Cert.AdamConvRowIdeal.Facts] [hAdamConvRowReferenceIdeal : Cert.AdamConvRowReferenceIdeal.Facts] : Prop :=
  ∀ (m : (ℓ : Loc Cert.AdamConvRowIdeal.nD Cert.AdamConvRowIdeal.τ Cert.AdamConvRowIdeal.sig) → Buf (Elt Ideal) ℓ) (g : Dev Cert.AdamConvRowIdeal.nD → PrngReg)
    (m' : (ℓ : Loc Cert.AdamConvRowReferenceIdeal.nD Cert.AdamConvRowReferenceIdeal.τ Cert.AdamConvRowReferenceIdeal.sig) → Buf (Elt Ideal) ℓ) (g' : Dev Cert.AdamConvRowReferenceIdeal.nD → PrngReg), Pre_AdamConvRowIdeal m →
    (∀ c : Dev Cert.AdamConvRowIdeal.nD,
      m' ((c.tc : Thread Cert.AdamConvRowReferenceIdeal.nD Cert.AdamConvRowReferenceIdeal.τ).loc Cert.AdamConvRowReferenceIdeal.main_arg0) = m ((c.tc : Thread Cert.AdamConvRowIdeal.nD Cert.AdamConvRowIdeal.τ).loc Cert.AdamConvRowIdeal.main_arg0)
      ∧ m' ((c.tc : Thread Cert.AdamConvRowReferenceIdeal.nD Cert.AdamConvRowReferenceIdeal.τ).loc Cert.AdamConvRowReferenceIdeal.main_arg1) = m ((c.tc : Thread Cert.AdamConvRowIdeal.nD Cert.AdamConvRowIdeal.τ).loc Cert.AdamConvRowIdeal.main_arg1)
      ∧ m' ((c.tc : Thread Cert.AdamConvRowReferenceIdeal.nD Cert.AdamConvRowReferenceIdeal.τ).loc Cert.AdamConvRowReferenceIdeal.main_arg2) = m ((c.tc : Thread Cert.AdamConvRowIdeal.nD Cert.AdamConvRowIdeal.τ).loc Cert.AdamConvRowIdeal.main_arg2)
      ∧ m' ((c.tc : Thread Cert.AdamConvRowReferenceIdeal.nD Cert.AdamConvRowReferenceIdeal.τ).loc Cert.AdamConvRowReferenceIdeal.main_arg3) = m ((c.tc : Thread Cert.AdamConvRowIdeal.nD Cert.AdamConvRowIdeal.τ).loc Cert.AdamConvRowIdeal.main_arg3)) →
    ∃ (v0 : (c : Dev Cert.AdamConvRowIdeal.nD) → Buf (Elt Ideal) ((c.tc : Thread Cert.AdamConvRowIdeal.nD Cert.AdamConvRowIdeal.τ).loc Cert.AdamConvRowIdeal.main_v0_0)) (v1 : (c : Dev Cert.AdamConvRowIdeal.nD) → Buf (Elt Ideal) ((c.tc : Thread Cert.AdamConvRowIdeal.nD Cert.AdamConvRowIdeal.τ).loc Cert.AdamConvRowIdeal.main_v0_1)) (v2 : (c : Dev Cert.AdamConvRowIdeal.nD) → Buf (Elt Ideal) ((c.tc : Thread Cert.AdamConvRowIdeal.nD Cert.AdamConvRowIdeal.τ).loc Cert.AdamConvRowIdeal.main_v0_2)),
      θ_run (Cert.AdamConvRowIdeal.defs (F := Ideal)) (onTc (τ := Cert.AdamConvRowIdeal.τ) (Cert.AdamConvRowIdeal.main (F := Ideal))) ⟨m, fun _ => 0, g⟩ (fun r => ∀ c : Dev Cert.AdamConvRowIdeal.nD,
          r.2.mem ((c.tc : Thread Cert.AdamConvRowIdeal.nD Cert.AdamConvRowIdeal.τ).loc Cert.AdamConvRowIdeal.main_v0_0) = v0 c
          ∧ r.2.mem ((c.tc : Thread Cert.AdamConvRowIdeal.nD Cert.AdamConvRowIdeal.τ).loc Cert.AdamConvRowIdeal.main_v0_1) = v1 c
          ∧ r.2.mem ((c.tc : Thread Cert.AdamConvRowIdeal.nD Cert.AdamConvRowIdeal.τ).loc Cert.AdamConvRowIdeal.main_v0_2) = v2 c
          ∧ r.2.mem ((c.tc : Thread Cert.AdamConvRowIdeal.nD Cert.AdamConvRowIdeal.τ).loc Cert.AdamConvRowIdeal.main_arg0) = m ((c.tc : Thread Cert.AdamConvRowIdeal.nD Cert.AdamConvRowIdeal.τ).loc Cert.AdamConvRowIdeal.main_arg0)
          ∧ r.2.mem ((c.tc : Thread Cert.AdamConvRowIdeal.nD Cert.AdamConvRowIdeal.τ).loc Cert.AdamConvRowIdeal.main_arg1) = m ((c.tc : Thread Cert.AdamConvRowIdeal.nD Cert.AdamConvRowIdeal.τ).loc Cert.AdamConvRowIdeal.main_arg1)
          ∧ r.2.mem ((c.tc : Thread Cert.AdamConvRowIdeal.nD Cert.AdamConvRowIdeal.τ).loc Cert.AdamConvRowIdeal.main_arg2) = m ((c.tc : Thread Cert.AdamConvRowIdeal.nD Cert.AdamConvRowIdeal.τ).loc Cert.AdamConvRowIdeal.main_arg2)
          ∧ r.2.mem ((c.tc : Thread Cert.AdamConvRowIdeal.nD Cert.AdamConvRowIdeal.τ).loc Cert.AdamConvRowIdeal.main_arg3) = m ((c.tc : Thread Cert.AdamConvRowIdeal.nD Cert.AdamConvRowIdeal.τ).loc Cert.AdamConvRowIdeal.main_arg3))
      ∧ θ_run (Cert.AdamConvRowReferenceIdeal.defs (F := Ideal)) (onTc (τ := Cert.AdamConvRowReferenceIdeal.τ) (Cert.AdamConvRowReferenceIdeal.main (F := Ideal))) ⟨m', fun _ => 0, g'⟩ (fun r => ∀ c : Dev Cert.AdamConvRowReferenceIdeal.nD,
          r.2.mem ((c.tc : Thread Cert.AdamConvRowReferenceIdeal.nD Cert.AdamConvRowReferenceIdeal.τ).loc Cert.AdamConvRowReferenceIdeal.main_v23) = v0 c
          ∧ r.2.mem ((c.tc : Thread Cert.AdamConvRowReferenceIdeal.nD Cert.AdamConvRowReferenceIdeal.τ).loc Cert.AdamConvRowReferenceIdeal.main_v4) = v1 c
          ∧ r.2.mem ((c.tc : Thread Cert.AdamConvRowReferenceIdeal.nD Cert.AdamConvRowReferenceIdeal.τ).loc Cert.AdamConvRowReferenceIdeal.main_v10) = v2 c
          ∧ r.2.mem ((c.tc : Thread Cert.AdamConvRowReferenceIdeal.nD Cert.AdamConvRowReferenceIdeal.τ).loc Cert.AdamConvRowReferenceIdeal.main_arg0) = m' ((c.tc : Thread Cert.AdamConvRowReferenceIdeal.nD Cert.AdamConvRowReferenceIdeal.τ).loc Cert.AdamConvRowReferenceIdeal.main_arg0)
          ∧ r.2.mem ((c.tc : Thread Cert.AdamConvRowReferenceIdeal.nD Cert.AdamConvRowReferenceIdeal.τ).loc Cert.AdamConvRowReferenceIdeal.main_arg1) = m' ((c.tc : Thread Cert.AdamConvRowReferenceIdeal.nD Cert.AdamConvRowReferenceIdeal.τ).loc Cert.AdamConvRowReferenceIdeal.main_arg1)
          ∧ r.2.mem ((c.tc : Thread Cert.AdamConvRowReferenceIdeal.nD Cert.AdamConvRowReferenceIdeal.τ).loc Cert.AdamConvRowReferenceIdeal.main_arg2) = m' ((c.tc : Thread Cert.AdamConvRowReferenceIdeal.nD Cert.AdamConvRowReferenceIdeal.τ).loc Cert.AdamConvRowReferenceIdeal.main_arg2)
          ∧ r.2.mem ((c.tc : Thread Cert.AdamConvRowReferenceIdeal.nD Cert.AdamConvRowReferenceIdeal.τ).loc Cert.AdamConvRowReferenceIdeal.main_arg3) = m' ((c.tc : Thread Cert.AdamConvRowReferenceIdeal.nD Cert.AdamConvRowReferenceIdeal.τ).loc Cert.AdamConvRowReferenceIdeal.main_arg3))

def preserves_AdamPleProj_AdamPleProjIdeal : Prop :=
  True

def algebraic_AdamPleProjIdeal_AdamPleProjReferenceIdeal [hAdamPleProjIdeal : Cert.AdamPleProjIdeal.Facts] [hAdamPleProjReferenceIdeal : Cert.AdamPleProjReferenceIdeal.Facts] : Prop :=
  ∀ (m : (ℓ : Loc Cert.AdamPleProjIdeal.nD Cert.AdamPleProjIdeal.τ Cert.AdamPleProjIdeal.sig) → Buf (Elt Ideal) ℓ) (g : Dev Cert.AdamPleProjIdeal.nD → PrngReg)
    (m' : (ℓ : Loc Cert.AdamPleProjReferenceIdeal.nD Cert.AdamPleProjReferenceIdeal.τ Cert.AdamPleProjReferenceIdeal.sig) → Buf (Elt Ideal) ℓ) (g' : Dev Cert.AdamPleProjReferenceIdeal.nD → PrngReg), Pre_AdamPleProjIdeal m →
    (∀ c : Dev Cert.AdamPleProjIdeal.nD,
      m' ((c.tc : Thread Cert.AdamPleProjReferenceIdeal.nD Cert.AdamPleProjReferenceIdeal.τ).loc Cert.AdamPleProjReferenceIdeal.main_arg0) = m ((c.tc : Thread Cert.AdamPleProjIdeal.nD Cert.AdamPleProjIdeal.τ).loc Cert.AdamPleProjIdeal.main_arg0)
      ∧ m' ((c.tc : Thread Cert.AdamPleProjReferenceIdeal.nD Cert.AdamPleProjReferenceIdeal.τ).loc Cert.AdamPleProjReferenceIdeal.main_arg1) = m ((c.tc : Thread Cert.AdamPleProjIdeal.nD Cert.AdamPleProjIdeal.τ).loc Cert.AdamPleProjIdeal.main_arg1)
      ∧ m' ((c.tc : Thread Cert.AdamPleProjReferenceIdeal.nD Cert.AdamPleProjReferenceIdeal.τ).loc Cert.AdamPleProjReferenceIdeal.main_arg2) = m ((c.tc : Thread Cert.AdamPleProjIdeal.nD Cert.AdamPleProjIdeal.τ).loc Cert.AdamPleProjIdeal.main_arg2)
      ∧ m' ((c.tc : Thread Cert.AdamPleProjReferenceIdeal.nD Cert.AdamPleProjReferenceIdeal.τ).loc Cert.AdamPleProjReferenceIdeal.main_arg3) = m ((c.tc : Thread Cert.AdamPleProjIdeal.nD Cert.AdamPleProjIdeal.τ).loc Cert.AdamPleProjIdeal.main_arg3)) →
    ∃ (v0 : (c : Dev Cert.AdamPleProjIdeal.nD) → Buf (Elt Ideal) ((c.tc : Thread Cert.AdamPleProjIdeal.nD Cert.AdamPleProjIdeal.τ).loc Cert.AdamPleProjIdeal.main_v0_0)) (v1 : (c : Dev Cert.AdamPleProjIdeal.nD) → Buf (Elt Ideal) ((c.tc : Thread Cert.AdamPleProjIdeal.nD Cert.AdamPleProjIdeal.τ).loc Cert.AdamPleProjIdeal.main_v0_1)) (v2 : (c : Dev Cert.AdamPleProjIdeal.nD) → Buf (Elt Ideal) ((c.tc : Thread Cert.AdamPleProjIdeal.nD Cert.AdamPleProjIdeal.τ).loc Cert.AdamPleProjIdeal.main_v0_2)),
      θ_run (Cert.AdamPleProjIdeal.defs (F := Ideal)) (onTc (τ := Cert.AdamPleProjIdeal.τ) (Cert.AdamPleProjIdeal.main (F := Ideal))) ⟨m, fun _ => 0, g⟩ (fun r => ∀ c : Dev Cert.AdamPleProjIdeal.nD,
          r.2.mem ((c.tc : Thread Cert.AdamPleProjIdeal.nD Cert.AdamPleProjIdeal.τ).loc Cert.AdamPleProjIdeal.main_v0_0) = v0 c
          ∧ r.2.mem ((c.tc : Thread Cert.AdamPleProjIdeal.nD Cert.AdamPleProjIdeal.τ).loc Cert.AdamPleProjIdeal.main_v0_1) = v1 c
          ∧ r.2.mem ((c.tc : Thread Cert.AdamPleProjIdeal.nD Cert.AdamPleProjIdeal.τ).loc Cert.AdamPleProjIdeal.main_v0_2) = v2 c
          ∧ r.2.mem ((c.tc : Thread Cert.AdamPleProjIdeal.nD Cert.AdamPleProjIdeal.τ).loc Cert.AdamPleProjIdeal.main_arg0) = m ((c.tc : Thread Cert.AdamPleProjIdeal.nD Cert.AdamPleProjIdeal.τ).loc Cert.AdamPleProjIdeal.main_arg0)
          ∧ r.2.mem ((c.tc : Thread Cert.AdamPleProjIdeal.nD Cert.AdamPleProjIdeal.τ).loc Cert.AdamPleProjIdeal.main_arg1) = m ((c.tc : Thread Cert.AdamPleProjIdeal.nD Cert.AdamPleProjIdeal.τ).loc Cert.AdamPleProjIdeal.main_arg1)
          ∧ r.2.mem ((c.tc : Thread Cert.AdamPleProjIdeal.nD Cert.AdamPleProjIdeal.τ).loc Cert.AdamPleProjIdeal.main_arg2) = m ((c.tc : Thread Cert.AdamPleProjIdeal.nD Cert.AdamPleProjIdeal.τ).loc Cert.AdamPleProjIdeal.main_arg2)
          ∧ r.2.mem ((c.tc : Thread Cert.AdamPleProjIdeal.nD Cert.AdamPleProjIdeal.τ).loc Cert.AdamPleProjIdeal.main_arg3) = m ((c.tc : Thread Cert.AdamPleProjIdeal.nD Cert.AdamPleProjIdeal.τ).loc Cert.AdamPleProjIdeal.main_arg3))
      ∧ θ_run (Cert.AdamPleProjReferenceIdeal.defs (F := Ideal)) (onTc (τ := Cert.AdamPleProjReferenceIdeal.τ) (Cert.AdamPleProjReferenceIdeal.main (F := Ideal))) ⟨m', fun _ => 0, g'⟩ (fun r => ∀ c : Dev Cert.AdamPleProjReferenceIdeal.nD,
          r.2.mem ((c.tc : Thread Cert.AdamPleProjReferenceIdeal.nD Cert.AdamPleProjReferenceIdeal.τ).loc Cert.AdamPleProjReferenceIdeal.main_v23) = v0 c
          ∧ r.2.mem ((c.tc : Thread Cert.AdamPleProjReferenceIdeal.nD Cert.AdamPleProjReferenceIdeal.τ).loc Cert.AdamPleProjReferenceIdeal.main_v4) = v1 c
          ∧ r.2.mem ((c.tc : Thread Cert.AdamPleProjReferenceIdeal.nD Cert.AdamPleProjReferenceIdeal.τ).loc Cert.AdamPleProjReferenceIdeal.main_v10) = v2 c
          ∧ r.2.mem ((c.tc : Thread Cert.AdamPleProjReferenceIdeal.nD Cert.AdamPleProjReferenceIdeal.τ).loc Cert.AdamPleProjReferenceIdeal.main_arg0) = m' ((c.tc : Thread Cert.AdamPleProjReferenceIdeal.nD Cert.AdamPleProjReferenceIdeal.τ).loc Cert.AdamPleProjReferenceIdeal.main_arg0)
          ∧ r.2.mem ((c.tc : Thread Cert.AdamPleProjReferenceIdeal.nD Cert.AdamPleProjReferenceIdeal.τ).loc Cert.AdamPleProjReferenceIdeal.main_arg1) = m' ((c.tc : Thread Cert.AdamPleProjReferenceIdeal.nD Cert.AdamPleProjReferenceIdeal.τ).loc Cert.AdamPleProjReferenceIdeal.main_arg1)
          ∧ r.2.mem ((c.tc : Thread Cert.AdamPleProjReferenceIdeal.nD Cert.AdamPleProjReferenceIdeal.τ).loc Cert.AdamPleProjReferenceIdeal.main_arg2) = m' ((c.tc : Thread Cert.AdamPleProjReferenceIdeal.nD Cert.AdamPleProjReferenceIdeal.τ).loc Cert.AdamPleProjReferenceIdeal.main_arg2)
          ∧ r.2.mem ((c.tc : Thread Cert.AdamPleProjReferenceIdeal.nD Cert.AdamPleProjReferenceIdeal.τ).loc Cert.AdamPleProjReferenceIdeal.main_arg3) = m' ((c.tc : Thread Cert.AdamPleProjReferenceIdeal.nD Cert.AdamPleProjReferenceIdeal.τ).loc Cert.AdamPleProjReferenceIdeal.main_arg3))

def preserves_AdamPleGate_AdamPleGateIdeal : Prop :=
  True

def algebraic_AdamPleGateIdeal_AdamPleGateReferenceIdeal [hAdamPleGateIdeal : Cert.AdamPleGateIdeal.Facts] [hAdamPleGateReferenceIdeal : Cert.AdamPleGateReferenceIdeal.Facts] : Prop :=
  ∀ (m : (ℓ : Loc Cert.AdamPleGateIdeal.nD Cert.AdamPleGateIdeal.τ Cert.AdamPleGateIdeal.sig) → Buf (Elt Ideal) ℓ) (g : Dev Cert.AdamPleGateIdeal.nD → PrngReg)
    (m' : (ℓ : Loc Cert.AdamPleGateReferenceIdeal.nD Cert.AdamPleGateReferenceIdeal.τ Cert.AdamPleGateReferenceIdeal.sig) → Buf (Elt Ideal) ℓ) (g' : Dev Cert.AdamPleGateReferenceIdeal.nD → PrngReg), Pre_AdamPleGateIdeal m →
    (∀ c : Dev Cert.AdamPleGateIdeal.nD,
      m' ((c.tc : Thread Cert.AdamPleGateReferenceIdeal.nD Cert.AdamPleGateReferenceIdeal.τ).loc Cert.AdamPleGateReferenceIdeal.main_arg0) = m ((c.tc : Thread Cert.AdamPleGateIdeal.nD Cert.AdamPleGateIdeal.τ).loc Cert.AdamPleGateIdeal.main_arg0)
      ∧ m' ((c.tc : Thread Cert.AdamPleGateReferenceIdeal.nD Cert.AdamPleGateReferenceIdeal.τ).loc Cert.AdamPleGateReferenceIdeal.main_arg1) = m ((c.tc : Thread Cert.AdamPleGateIdeal.nD Cert.AdamPleGateIdeal.τ).loc Cert.AdamPleGateIdeal.main_arg1)
      ∧ m' ((c.tc : Thread Cert.AdamPleGateReferenceIdeal.nD Cert.AdamPleGateReferenceIdeal.τ).loc Cert.AdamPleGateReferenceIdeal.main_arg2) = m ((c.tc : Thread Cert.AdamPleGateIdeal.nD Cert.AdamPleGateIdeal.τ).loc Cert.AdamPleGateIdeal.main_arg2)
      ∧ m' ((c.tc : Thread Cert.AdamPleGateReferenceIdeal.nD Cert.AdamPleGateReferenceIdeal.τ).loc Cert.AdamPleGateReferenceIdeal.main_arg3) = m ((c.tc : Thread Cert.AdamPleGateIdeal.nD Cert.AdamPleGateIdeal.τ).loc Cert.AdamPleGateIdeal.main_arg3)) →
    ∃ (v0 : (c : Dev Cert.AdamPleGateIdeal.nD) → Buf (Elt Ideal) ((c.tc : Thread Cert.AdamPleGateIdeal.nD Cert.AdamPleGateIdeal.τ).loc Cert.AdamPleGateIdeal.main_v0_0)) (v1 : (c : Dev Cert.AdamPleGateIdeal.nD) → Buf (Elt Ideal) ((c.tc : Thread Cert.AdamPleGateIdeal.nD Cert.AdamPleGateIdeal.τ).loc Cert.AdamPleGateIdeal.main_v0_1)) (v2 : (c : Dev Cert.AdamPleGateIdeal.nD) → Buf (Elt Ideal) ((c.tc : Thread Cert.AdamPleGateIdeal.nD Cert.AdamPleGateIdeal.τ).loc Cert.AdamPleGateIdeal.main_v0_2)),
      θ_run (Cert.AdamPleGateIdeal.defs (F := Ideal)) (onTc (τ := Cert.AdamPleGateIdeal.τ) (Cert.AdamPleGateIdeal.main (F := Ideal))) ⟨m, fun _ => 0, g⟩ (fun r => ∀ c : Dev Cert.AdamPleGateIdeal.nD,
          r.2.mem ((c.tc : Thread Cert.AdamPleGateIdeal.nD Cert.AdamPleGateIdeal.τ).loc Cert.AdamPleGateIdeal.main_v0_0) = v0 c
          ∧ r.2.mem ((c.tc : Thread Cert.AdamPleGateIdeal.nD Cert.AdamPleGateIdeal.τ).loc Cert.AdamPleGateIdeal.main_v0_1) = v1 c
          ∧ r.2.mem ((c.tc : Thread Cert.AdamPleGateIdeal.nD Cert.AdamPleGateIdeal.τ).loc Cert.AdamPleGateIdeal.main_v0_2) = v2 c
          ∧ r.2.mem ((c.tc : Thread Cert.AdamPleGateIdeal.nD Cert.AdamPleGateIdeal.τ).loc Cert.AdamPleGateIdeal.main_arg0) = m ((c.tc : Thread Cert.AdamPleGateIdeal.nD Cert.AdamPleGateIdeal.τ).loc Cert.AdamPleGateIdeal.main_arg0)
          ∧ r.2.mem ((c.tc : Thread Cert.AdamPleGateIdeal.nD Cert.AdamPleGateIdeal.τ).loc Cert.AdamPleGateIdeal.main_arg1) = m ((c.tc : Thread Cert.AdamPleGateIdeal.nD Cert.AdamPleGateIdeal.τ).loc Cert.AdamPleGateIdeal.main_arg1)
          ∧ r.2.mem ((c.tc : Thread Cert.AdamPleGateIdeal.nD Cert.AdamPleGateIdeal.τ).loc Cert.AdamPleGateIdeal.main_arg2) = m ((c.tc : Thread Cert.AdamPleGateIdeal.nD Cert.AdamPleGateIdeal.τ).loc Cert.AdamPleGateIdeal.main_arg2)
          ∧ r.2.mem ((c.tc : Thread Cert.AdamPleGateIdeal.nD Cert.AdamPleGateIdeal.τ).loc Cert.AdamPleGateIdeal.main_arg3) = m ((c.tc : Thread Cert.AdamPleGateIdeal.nD Cert.AdamPleGateIdeal.τ).loc Cert.AdamPleGateIdeal.main_arg3))
      ∧ θ_run (Cert.AdamPleGateReferenceIdeal.defs (F := Ideal)) (onTc (τ := Cert.AdamPleGateReferenceIdeal.τ) (Cert.AdamPleGateReferenceIdeal.main (F := Ideal))) ⟨m', fun _ => 0, g'⟩ (fun r => ∀ c : Dev Cert.AdamPleGateReferenceIdeal.nD,
          r.2.mem ((c.tc : Thread Cert.AdamPleGateReferenceIdeal.nD Cert.AdamPleGateReferenceIdeal.τ).loc Cert.AdamPleGateReferenceIdeal.main_v23) = v0 c
          ∧ r.2.mem ((c.tc : Thread Cert.AdamPleGateReferenceIdeal.nD Cert.AdamPleGateReferenceIdeal.τ).loc Cert.AdamPleGateReferenceIdeal.main_v4) = v1 c
          ∧ r.2.mem ((c.tc : Thread Cert.AdamPleGateReferenceIdeal.nD Cert.AdamPleGateReferenceIdeal.τ).loc Cert.AdamPleGateReferenceIdeal.main_v10) = v2 c
          ∧ r.2.mem ((c.tc : Thread Cert.AdamPleGateReferenceIdeal.nD Cert.AdamPleGateReferenceIdeal.τ).loc Cert.AdamPleGateReferenceIdeal.main_arg0) = m' ((c.tc : Thread Cert.AdamPleGateReferenceIdeal.nD Cert.AdamPleGateReferenceIdeal.τ).loc Cert.AdamPleGateReferenceIdeal.main_arg0)
          ∧ r.2.mem ((c.tc : Thread Cert.AdamPleGateReferenceIdeal.nD Cert.AdamPleGateReferenceIdeal.τ).loc Cert.AdamPleGateReferenceIdeal.main_arg1) = m' ((c.tc : Thread Cert.AdamPleGateReferenceIdeal.nD Cert.AdamPleGateReferenceIdeal.τ).loc Cert.AdamPleGateReferenceIdeal.main_arg1)
          ∧ r.2.mem ((c.tc : Thread Cert.AdamPleGateReferenceIdeal.nD Cert.AdamPleGateReferenceIdeal.τ).loc Cert.AdamPleGateReferenceIdeal.main_arg2) = m' ((c.tc : Thread Cert.AdamPleGateReferenceIdeal.nD Cert.AdamPleGateReferenceIdeal.τ).loc Cert.AdamPleGateReferenceIdeal.main_arg2)
          ∧ r.2.mem ((c.tc : Thread Cert.AdamPleGateReferenceIdeal.nD Cert.AdamPleGateReferenceIdeal.τ).loc Cert.AdamPleGateReferenceIdeal.main_arg3) = m' ((c.tc : Thread Cert.AdamPleGateReferenceIdeal.nD Cert.AdamPleGateReferenceIdeal.τ).loc Cert.AdamPleGateReferenceIdeal.main_arg3))

def preserves_PleProj_PleProjIdeal : Prop :=
  True

def algebraic_PleProjIdeal_PleProjReferenceIdeal [hPleProjIdeal : Cert.PleProjIdeal.Facts] [hPleProjReferenceIdeal : Cert.PleProjReferenceIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjReferenceIdeal.nD Cert.PleProjReferenceIdeal.τ Cert.PleProjReferenceIdeal.sig) → Buf (Elt Ideal) ℓ) (g' : Dev Cert.PleProjReferenceIdeal.nD → PrngReg), Pre_PleProjIdeal m →
    (∀ c : Dev Cert.PleProjIdeal.nD,
      m' ((c.tc : Thread Cert.PleProjReferenceIdeal.nD Cert.PleProjReferenceIdeal.τ).loc Cert.PleProjReferenceIdeal.main_arg0) = m ((c.tc : Thread Cert.PleProjIdeal.nD Cert.PleProjIdeal.τ).loc Cert.PleProjIdeal.main_arg0)
      ∧ m' ((c.tc : Thread Cert.PleProjReferenceIdeal.nD Cert.PleProjReferenceIdeal.τ).loc Cert.PleProjReferenceIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v0)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v0) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjReferenceIdeal.defs (F := Ideal)) (onTc (τ := Cert.PleProjReferenceIdeal.τ) (Cert.PleProjReferenceIdeal.main (F := Ideal))) ⟨m', fun _ => 0, g'⟩ (fun r => ∀ c : Dev Cert.PleProjReferenceIdeal.nD,
          r.2.mem ((c.tc : Thread Cert.PleProjReferenceIdeal.nD Cert.PleProjReferenceIdeal.τ).loc Cert.PleProjReferenceIdeal.main_v1) = v0 c
          ∧ r.2.mem ((c.tc : Thread Cert.PleProjReferenceIdeal.nD Cert.PleProjReferenceIdeal.τ).loc Cert.PleProjReferenceIdeal.main_arg0) = m' ((c.tc : Thread Cert.PleProjReferenceIdeal.nD Cert.PleProjReferenceIdeal.τ).loc Cert.PleProjReferenceIdeal.main_arg0)
          ∧ r.2.mem ((c.tc : Thread Cert.PleProjReferenceIdeal.nD Cert.PleProjReferenceIdeal.τ).loc Cert.PleProjReferenceIdeal.main_arg1) = m' ((c.tc : Thread Cert.PleProjReferenceIdeal.nD Cert.PleProjReferenceIdeal.τ).loc Cert.PleProjReferenceIdeal.main_arg1))

def preserves_PleWgrad_PleWgradIdeal : Prop :=
  True

def algebraic_PleWgradIdeal_PleWgradReferenceIdeal [hPleWgradIdeal : Cert.PleWgradIdeal.Facts] [hPleWgradReferenceIdeal : Cert.PleWgradReferenceIdeal.Facts] : Prop :=
  ∀ (m : (ℓ : Loc Cert.PleWgradIdeal.nD Cert.PleWgradIdeal.τ Cert.PleWgradIdeal.sig) → Buf (Elt Ideal) ℓ) (g : Dev Cert.PleWgradIdeal.nD → PrngReg)
    (m' : (ℓ : Loc Cert.PleWgradReferenceIdeal.nD Cert.PleWgradReferenceIdeal.τ Cert.PleWgradReferenceIdeal.sig) → Buf (Elt Ideal) ℓ) (g' : Dev Cert.PleWgradReferenceIdeal.nD → PrngReg), Pre_PleWgradIdeal m →
    (∀ c : Dev Cert.PleWgradIdeal.nD,
      m' ((c.tc : Thread Cert.PleWgradReferenceIdeal.nD Cert.PleWgradReferenceIdeal.τ).loc Cert.PleWgradReferenceIdeal.main_arg0) = m ((c.tc : Thread Cert.PleWgradIdeal.nD Cert.PleWgradIdeal.τ).loc Cert.PleWgradIdeal.main_arg0)
      ∧ m' ((c.tc : Thread Cert.PleWgradReferenceIdeal.nD Cert.PleWgradReferenceIdeal.τ).loc Cert.PleWgradReferenceIdeal.main_arg1) = m ((c.tc : Thread Cert.PleWgradIdeal.nD Cert.PleWgradIdeal.τ).loc Cert.PleWgradIdeal.main_arg1)) →
    ∃ (v0 : (c : Dev Cert.PleWgradIdeal.nD) → Buf (Elt Ideal) ((c.tc : Thread Cert.PleWgradIdeal.nD Cert.PleWgradIdeal.τ).loc Cert.PleWgradIdeal.main_v0)),
      θ_run (Cert.PleWgradIdeal.defs (F := Ideal)) (onTc (τ := Cert.PleWgradIdeal.τ) (Cert.PleWgradIdeal.main (F := Ideal))) ⟨m, fun _ => 0, g⟩ (fun r => ∀ c : Dev Cert.PleWgradIdeal.nD,
          r.2.mem ((c.tc : Thread Cert.PleWgradIdeal.nD Cert.PleWgradIdeal.τ).loc Cert.PleWgradIdeal.main_v0) = v0 c
          ∧ r.2.mem ((c.tc : Thread Cert.PleWgradIdeal.nD Cert.PleWgradIdeal.τ).loc Cert.PleWgradIdeal.main_arg0) = m ((c.tc : Thread Cert.PleWgradIdeal.nD Cert.PleWgradIdeal.τ).loc Cert.PleWgradIdeal.main_arg0)
          ∧ r.2.mem ((c.tc : Thread Cert.PleWgradIdeal.nD Cert.PleWgradIdeal.τ).loc Cert.PleWgradIdeal.main_arg1) = m ((c.tc : Thread Cert.PleWgradIdeal.nD Cert.PleWgradIdeal.τ).loc Cert.PleWgradIdeal.main_arg1))
      ∧ θ_run (Cert.PleWgradReferenceIdeal.defs (F := Ideal)) (onTc (τ := Cert.PleWgradReferenceIdeal.τ) (Cert.PleWgradReferenceIdeal.main (F := Ideal))) ⟨m', fun _ => 0, g'⟩ (fun r => ∀ c : Dev Cert.PleWgradReferenceIdeal.nD,
          r.2.mem ((c.tc : Thread Cert.PleWgradReferenceIdeal.nD Cert.PleWgradReferenceIdeal.τ).loc Cert.PleWgradReferenceIdeal.main_v4) = v0 c
          ∧ r.2.mem ((c.tc : Thread Cert.PleWgradReferenceIdeal.nD Cert.PleWgradReferenceIdeal.τ).loc Cert.PleWgradReferenceIdeal.main_arg0) = m' ((c.tc : Thread Cert.PleWgradReferenceIdeal.nD Cert.PleWgradReferenceIdeal.τ).loc Cert.PleWgradReferenceIdeal.main_arg0)
          ∧ r.2.mem ((c.tc : Thread Cert.PleWgradReferenceIdeal.nD Cert.PleWgradReferenceIdeal.τ).loc Cert.PleWgradReferenceIdeal.main_arg1) = m' ((c.tc : Thread Cert.PleWgradReferenceIdeal.nD Cert.PleWgradReferenceIdeal.τ).loc Cert.PleWgradReferenceIdeal.main_arg1))

def preserves_RmsNorm_RmsNormIdeal : Prop :=
  True

def algebraic_RmsNormIdeal_RmsNormReferenceIdeal [hRmsNormIdeal : Cert.RmsNormIdeal.Facts] [hRmsNormReferenceIdeal : Cert.RmsNormReferenceIdeal.Facts] : Prop :=
  ∀ (m : (ℓ : Loc Cert.RmsNormIdeal.nD Cert.RmsNormIdeal.τ Cert.RmsNormIdeal.sig) → Buf (Elt Ideal) ℓ) (g : Dev Cert.RmsNormIdeal.nD → PrngReg)
    (m' : (ℓ : Loc Cert.RmsNormReferenceIdeal.nD Cert.RmsNormReferenceIdeal.τ Cert.RmsNormReferenceIdeal.sig) → Buf (Elt Ideal) ℓ) (g' : Dev Cert.RmsNormReferenceIdeal.nD → PrngReg), Pre_RmsNormIdeal m →
    (∀ c : Dev Cert.RmsNormIdeal.nD,
      m' ((c.tc : Thread Cert.RmsNormReferenceIdeal.nD Cert.RmsNormReferenceIdeal.τ).loc Cert.RmsNormReferenceIdeal.main_arg0) = m ((c.tc : Thread Cert.RmsNormIdeal.nD Cert.RmsNormIdeal.τ).loc Cert.RmsNormIdeal.main_arg0)
      ∧ m' ((c.tc : Thread Cert.RmsNormReferenceIdeal.nD Cert.RmsNormReferenceIdeal.τ).loc Cert.RmsNormReferenceIdeal.main_arg1) = m ((c.tc : Thread Cert.RmsNormIdeal.nD Cert.RmsNormIdeal.τ).loc Cert.RmsNormIdeal.main_arg1)) →
    ∃ (v0 : (c : Dev Cert.RmsNormIdeal.nD) → Buf (Elt Ideal) ((c.tc : Thread Cert.RmsNormIdeal.nD Cert.RmsNormIdeal.τ).loc Cert.RmsNormIdeal.main_v0)),
      θ_run (Cert.RmsNormIdeal.defs (F := Ideal)) (onTc (τ := Cert.RmsNormIdeal.τ) (Cert.RmsNormIdeal.main (F := Ideal))) ⟨m, fun _ => 0, g⟩ (fun r => ∀ c : Dev Cert.RmsNormIdeal.nD,
          r.2.mem ((c.tc : Thread Cert.RmsNormIdeal.nD Cert.RmsNormIdeal.τ).loc Cert.RmsNormIdeal.main_v0) = v0 c
          ∧ r.2.mem ((c.tc : Thread Cert.RmsNormIdeal.nD Cert.RmsNormIdeal.τ).loc Cert.RmsNormIdeal.main_arg0) = m ((c.tc : Thread Cert.RmsNormIdeal.nD Cert.RmsNormIdeal.τ).loc Cert.RmsNormIdeal.main_arg0)
          ∧ r.2.mem ((c.tc : Thread Cert.RmsNormIdeal.nD Cert.RmsNormIdeal.τ).loc Cert.RmsNormIdeal.main_arg1) = m ((c.tc : Thread Cert.RmsNormIdeal.nD Cert.RmsNormIdeal.τ).loc Cert.RmsNormIdeal.main_arg1))
      ∧ θ_run (Cert.RmsNormReferenceIdeal.defs (F := Ideal)) (onTc (τ := Cert.RmsNormReferenceIdeal.τ) (Cert.RmsNormReferenceIdeal.main (F := Ideal))) ⟨m', fun _ => 0, g'⟩ (fun r => ∀ c : Dev Cert.RmsNormReferenceIdeal.nD,
          r.2.mem ((c.tc : Thread Cert.RmsNormReferenceIdeal.nD Cert.RmsNormReferenceIdeal.τ).loc Cert.RmsNormReferenceIdeal.main_v12) = v0 c
          ∧ r.2.mem ((c.tc : Thread Cert.RmsNormReferenceIdeal.nD Cert.RmsNormReferenceIdeal.τ).loc Cert.RmsNormReferenceIdeal.main_arg0) = m' ((c.tc : Thread Cert.RmsNormReferenceIdeal.nD Cert.RmsNormReferenceIdeal.τ).loc Cert.RmsNormReferenceIdeal.main_arg0)
          ∧ r.2.mem ((c.tc : Thread Cert.RmsNormReferenceIdeal.nD Cert.RmsNormReferenceIdeal.τ).loc Cert.RmsNormReferenceIdeal.main_arg1) = m' ((c.tc : Thread Cert.RmsNormReferenceIdeal.nD Cert.RmsNormReferenceIdeal.τ).loc Cert.RmsNormReferenceIdeal.main_arg1))

def preserves_LossSum_LossSumIdeal : Prop :=
  True

def algebraic_LossSumIdeal_LossSumReferenceIdeal [hLossSumIdeal : Cert.LossSumIdeal.Facts] [hLossSumReferenceIdeal : Cert.LossSumReferenceIdeal.Facts] : Prop :=
  ∀ (m : (ℓ : Loc Cert.LossSumIdeal.nD Cert.LossSumIdeal.τ Cert.LossSumIdeal.sig) → Buf (Elt Ideal) ℓ) (g : Dev Cert.LossSumIdeal.nD → PrngReg)
    (m' : (ℓ : Loc Cert.LossSumReferenceIdeal.nD Cert.LossSumReferenceIdeal.τ Cert.LossSumReferenceIdeal.sig) → Buf (Elt Ideal) ℓ) (g' : Dev Cert.LossSumReferenceIdeal.nD → PrngReg), Pre_LossSumIdeal m →
    (∀ c : Dev Cert.LossSumIdeal.nD,
      m ((c.tc : Thread Cert.LossSumIdeal.nD Cert.LossSumIdeal.τ).loc Cert.LossSumIdeal.main_arg0) = Layout.block ⟨2, ![8192, 1024]⟩ ⟨2, ![65536, 1024]⟩ 0 8 c (m' (((0 : Dev Cert.LossSumReferenceIdeal.nD).tc : Thread Cert.LossSumReferenceIdeal.nD Cert.LossSumReferenceIdeal.τ).loc Cert.LossSumReferenceIdeal.main_arg0))
      ∧ m ((c.tc : Thread Cert.LossSumIdeal.nD Cert.LossSumIdeal.τ).loc Cert.LossSumIdeal.main_arg1) = Layout.block ⟨2, ![8192, 1024]⟩ ⟨2, ![65536, 1024]⟩ 0 8 c (m' (((0 : Dev Cert.LossSumReferenceIdeal.nD).tc : Thread Cert.LossSumReferenceIdeal.nD Cert.LossSumReferenceIdeal.τ).loc Cert.LossSumReferenceIdeal.main_arg1))) →
    ∃ (v0 : Buf (Elt Ideal) (((0 : Dev Cert.LossSumReferenceIdeal.nD).tc : Thread Cert.LossSumReferenceIdeal.nD Cert.LossSumReferenceIdeal.τ).loc Cert.LossSumReferenceIdeal.main_v6)),
      θ_run (Cert.LossSumIdeal.defs (F := Ideal)) (onTc (τ := Cert.LossSumIdeal.τ) (Cert.LossSumIdeal.main (F := Ideal))) ⟨m, fun _ => 0, g⟩ (fun r => ∀ c : Dev Cert.LossSumIdeal.nD,
          r.2.mem ((c.tc : Thread Cert.LossSumIdeal.nD Cert.LossSumIdeal.τ).loc Cert.LossSumIdeal.main_v4) = v0
          ∧ r.2.mem ((c.tc : Thread Cert.LossSumIdeal.nD Cert.LossSumIdeal.τ).loc Cert.LossSumIdeal.main_arg0) = m ((c.tc : Thread Cert.LossSumIdeal.nD Cert.LossSumIdeal.τ).loc Cert.LossSumIdeal.main_arg0)
          ∧ r.2.mem ((c.tc : Thread Cert.LossSumIdeal.nD Cert.LossSumIdeal.τ).loc Cert.LossSumIdeal.main_arg1) = m ((c.tc : Thread Cert.LossSumIdeal.nD Cert.LossSumIdeal.τ).loc Cert.LossSumIdeal.main_arg1))
      ∧ θ_run (Cert.LossSumReferenceIdeal.defs (F := Ideal)) (onTc (τ := Cert.LossSumReferenceIdeal.τ) (Cert.LossSumReferenceIdeal.main (F := Ideal))) ⟨m', fun _ => 0, g'⟩ (fun r =>
          r.2.mem (((0 : Dev Cert.LossSumReferenceIdeal.nD).tc : Thread Cert.LossSumReferenceIdeal.nD Cert.LossSumReferenceIdeal.τ).loc Cert.LossSumReferenceIdeal.main_v6) = v0
          ∧ r.2.mem (((0 : Dev Cert.LossSumReferenceIdeal.nD).tc : Thread Cert.LossSumReferenceIdeal.nD Cert.LossSumReferenceIdeal.τ).loc Cert.LossSumReferenceIdeal.main_arg0) = m' (((0 : Dev Cert.LossSumReferenceIdeal.nD).tc : Thread Cert.LossSumReferenceIdeal.nD Cert.LossSumReferenceIdeal.τ).loc Cert.LossSumReferenceIdeal.main_arg0)
          ∧ r.2.mem (((0 : Dev Cert.LossSumReferenceIdeal.nD).tc : Thread Cert.LossSumReferenceIdeal.nD Cert.LossSumReferenceIdeal.τ).loc Cert.LossSumReferenceIdeal.main_arg1) = m' (((0 : Dev Cert.LossSumReferenceIdeal.nD).tc : Thread Cert.LossSumReferenceIdeal.nD Cert.LossSumReferenceIdeal.τ).loc Cert.LossSumReferenceIdeal.main_arg1))

def preserves_AttnCombine_AttnCombineIdeal : Prop :=
  True

def algebraic_AttnCombineIdeal_AttnCombineReferenceIdeal_pre_finite_logsums [hAttnCombineIdeal : Cert.AttnCombineIdeal.Facts] [hAttnCombineReferenceIdeal : Cert.AttnCombineReferenceIdeal.Facts] [hPre_finite_logsums : Cert.Pre_finite_logsums.Facts] : Prop :=
  ∀ (m : (ℓ : Loc Cert.AttnCombineIdeal.nD Cert.AttnCombineIdeal.τ Cert.AttnCombineIdeal.sig) → Buf (Elt Ideal) ℓ) (g : Dev Cert.AttnCombineIdeal.nD → PrngReg)
    (m' : (ℓ : Loc Cert.AttnCombineReferenceIdeal.nD Cert.AttnCombineReferenceIdeal.τ Cert.AttnCombineReferenceIdeal.sig) → Buf (Elt Ideal) ℓ) (g' : Dev Cert.AttnCombineReferenceIdeal.nD → PrngReg), Pre_AttnCombineIdeal_finite_logsums m →
    (∀ c : Dev Cert.AttnCombineIdeal.nD,
      m' ((c.tc : Thread Cert.AttnCombineReferenceIdeal.nD Cert.AttnCombineReferenceIdeal.τ).loc Cert.AttnCombineReferenceIdeal.main_arg0) = m ((c.tc : Thread Cert.AttnCombineIdeal.nD Cert.AttnCombineIdeal.τ).loc Cert.AttnCombineIdeal.main_arg0)
      ∧ m' ((c.tc : Thread Cert.AttnCombineReferenceIdeal.nD Cert.AttnCombineReferenceIdeal.τ).loc Cert.AttnCombineReferenceIdeal.main_arg1) = m ((c.tc : Thread Cert.AttnCombineIdeal.nD Cert.AttnCombineIdeal.τ).loc Cert.AttnCombineIdeal.main_arg1)
      ∧ m' ((c.tc : Thread Cert.AttnCombineReferenceIdeal.nD Cert.AttnCombineReferenceIdeal.τ).loc Cert.AttnCombineReferenceIdeal.main_arg2) = m ((c.tc : Thread Cert.AttnCombineIdeal.nD Cert.AttnCombineIdeal.τ).loc Cert.AttnCombineIdeal.main_arg2)
      ∧ m' ((c.tc : Thread Cert.AttnCombineReferenceIdeal.nD Cert.AttnCombineReferenceIdeal.τ).loc Cert.AttnCombineReferenceIdeal.main_arg3) = m ((c.tc : Thread Cert.AttnCombineIdeal.nD Cert.AttnCombineIdeal.τ).loc Cert.AttnCombineIdeal.main_arg3)
      ∧ m' ((c.tc : Thread Cert.AttnCombineReferenceIdeal.nD Cert.AttnCombineReferenceIdeal.τ).loc Cert.AttnCombineReferenceIdeal.main_arg4) = m ((c.tc : Thread Cert.AttnCombineIdeal.nD Cert.AttnCombineIdeal.τ).loc Cert.AttnCombineIdeal.main_arg4)
      ∧ m' ((c.tc : Thread Cert.AttnCombineReferenceIdeal.nD Cert.AttnCombineReferenceIdeal.τ).loc Cert.AttnCombineReferenceIdeal.main_arg5) = m ((c.tc : Thread Cert.AttnCombineIdeal.nD Cert.AttnCombineIdeal.τ).loc Cert.AttnCombineIdeal.main_arg5)
      ∧ m' ((c.tc : Thread Cert.AttnCombineReferenceIdeal.nD Cert.AttnCombineReferenceIdeal.τ).loc Cert.AttnCombineReferenceIdeal.main_arg6) = m ((c.tc : Thread Cert.AttnCombineIdeal.nD Cert.AttnCombineIdeal.τ).loc Cert.AttnCombineIdeal.main_arg6)) →
    ∃ (v0 : (c : Dev Cert.AttnCombineIdeal.nD) → Buf (Elt Ideal) ((c.tc : Thread Cert.AttnCombineIdeal.nD Cert.AttnCombineIdeal.τ).loc Cert.AttnCombineIdeal.main_v0_0)) (v1 : (c : Dev Cert.AttnCombineIdeal.nD) → Buf (Elt Ideal) ((c.tc : Thread Cert.AttnCombineIdeal.nD Cert.AttnCombineIdeal.τ).loc Cert.AttnCombineIdeal.main_v0_1)) (v2 : (c : Dev Cert.AttnCombineIdeal.nD) → Buf (Elt Ideal) ((c.tc : Thread Cert.AttnCombineIdeal.nD Cert.AttnCombineIdeal.τ).loc Cert.AttnCombineIdeal.main_v0_2)),
      θ_run (Cert.AttnCombineIdeal.defs (F := Ideal)) (onTc (τ := Cert.AttnCombineIdeal.τ) (Cert.AttnCombineIdeal.main (F := Ideal))) ⟨m, fun _ => 0, g⟩ (fun r => ∀ c : Dev Cert.AttnCombineIdeal.nD,
          r.2.mem ((c.tc : Thread Cert.AttnCombineIdeal.nD Cert.AttnCombineIdeal.τ).loc Cert.AttnCombineIdeal.main_v0_0) = v0 c
          ∧ r.2.mem ((c.tc : Thread Cert.AttnCombineIdeal.nD Cert.AttnCombineIdeal.τ).loc Cert.AttnCombineIdeal.main_v0_1) = v1 c
          ∧ r.2.mem ((c.tc : Thread Cert.AttnCombineIdeal.nD Cert.AttnCombineIdeal.τ).loc Cert.AttnCombineIdeal.main_v0_2) = v2 c
          ∧ r.2.mem ((c.tc : Thread Cert.AttnCombineIdeal.nD Cert.AttnCombineIdeal.τ).loc Cert.AttnCombineIdeal.main_arg0) = m ((c.tc : Thread Cert.AttnCombineIdeal.nD Cert.AttnCombineIdeal.τ).loc Cert.AttnCombineIdeal.main_arg0)
          ∧ r.2.mem ((c.tc : Thread Cert.AttnCombineIdeal.nD Cert.AttnCombineIdeal.τ).loc Cert.AttnCombineIdeal.main_arg1) = m ((c.tc : Thread Cert.AttnCombineIdeal.nD Cert.AttnCombineIdeal.τ).loc Cert.AttnCombineIdeal.main_arg1)
          ∧ r.2.mem ((c.tc : Thread Cert.AttnCombineIdeal.nD Cert.AttnCombineIdeal.τ).loc Cert.AttnCombineIdeal.main_arg2) = m ((c.tc : Thread Cert.AttnCombineIdeal.nD Cert.AttnCombineIdeal.τ).loc Cert.AttnCombineIdeal.main_arg2)
          ∧ r.2.mem ((c.tc : Thread Cert.AttnCombineIdeal.nD Cert.AttnCombineIdeal.τ).loc Cert.AttnCombineIdeal.main_arg3) = m ((c.tc : Thread Cert.AttnCombineIdeal.nD Cert.AttnCombineIdeal.τ).loc Cert.AttnCombineIdeal.main_arg3)
          ∧ r.2.mem ((c.tc : Thread Cert.AttnCombineIdeal.nD Cert.AttnCombineIdeal.τ).loc Cert.AttnCombineIdeal.main_arg4) = m ((c.tc : Thread Cert.AttnCombineIdeal.nD Cert.AttnCombineIdeal.τ).loc Cert.AttnCombineIdeal.main_arg4)
          ∧ r.2.mem ((c.tc : Thread Cert.AttnCombineIdeal.nD Cert.AttnCombineIdeal.τ).loc Cert.AttnCombineIdeal.main_arg5) = m ((c.tc : Thread Cert.AttnCombineIdeal.nD Cert.AttnCombineIdeal.τ).loc Cert.AttnCombineIdeal.main_arg5)
          ∧ r.2.mem ((c.tc : Thread Cert.AttnCombineIdeal.nD Cert.AttnCombineIdeal.τ).loc Cert.AttnCombineIdeal.main_arg6) = m ((c.tc : Thread Cert.AttnCombineIdeal.nD Cert.AttnCombineIdeal.τ).loc Cert.AttnCombineIdeal.main_arg6))
      ∧ θ_run (Cert.AttnCombineReferenceIdeal.defs (F := Ideal)) (onTc (τ := Cert.AttnCombineReferenceIdeal.τ) (Cert.AttnCombineReferenceIdeal.main (F := Ideal))) ⟨m', fun _ => 0, g'⟩ (fun r => ∀ c : Dev Cert.AttnCombineReferenceIdeal.nD,
          r.2.mem ((c.tc : Thread Cert.AttnCombineReferenceIdeal.nD Cert.AttnCombineReferenceIdeal.τ).loc Cert.AttnCombineReferenceIdeal.main_v24) = v0 c
          ∧ r.2.mem ((c.tc : Thread Cert.AttnCombineReferenceIdeal.nD Cert.AttnCombineReferenceIdeal.τ).loc Cert.AttnCombineReferenceIdeal.main_v20) = v1 c
          ∧ r.2.mem ((c.tc : Thread Cert.AttnCombineReferenceIdeal.nD Cert.AttnCombineReferenceIdeal.τ).loc Cert.AttnCombineReferenceIdeal.main_v27) = v2 c
          ∧ r.2.mem ((c.tc : Thread Cert.AttnCombineReferenceIdeal.nD Cert.AttnCombineReferenceIdeal.τ).loc Cert.AttnCombineReferenceIdeal.main_arg0) = m' ((c.tc : Thread Cert.AttnCombineReferenceIdeal.nD Cert.AttnCombineReferenceIdeal.τ).loc Cert.AttnCombineReferenceIdeal.main_arg0)
          ∧ r.2.mem ((c.tc : Thread Cert.AttnCombineReferenceIdeal.nD Cert.AttnCombineReferenceIdeal.τ).loc Cert.AttnCombineReferenceIdeal.main_arg1) = m' ((c.tc : Thread Cert.AttnCombineReferenceIdeal.nD Cert.AttnCombineReferenceIdeal.τ).loc Cert.AttnCombineReferenceIdeal.main_arg1)
          ∧ r.2.mem ((c.tc : Thread Cert.AttnCombineReferenceIdeal.nD Cert.AttnCombineReferenceIdeal.τ).loc Cert.AttnCombineReferenceIdeal.main_arg2) = m' ((c.tc : Thread Cert.AttnCombineReferenceIdeal.nD Cert.AttnCombineReferenceIdeal.τ).loc Cert.AttnCombineReferenceIdeal.main_arg2)
          ∧ r.2.mem ((c.tc : Thread Cert.AttnCombineReferenceIdeal.nD Cert.AttnCombineReferenceIdeal.τ).loc Cert.AttnCombineReferenceIdeal.main_arg3) = m' ((c.tc : Thread Cert.AttnCombineReferenceIdeal.nD Cert.AttnCombineReferenceIdeal.τ).loc Cert.AttnCombineReferenceIdeal.main_arg3)
          ∧ r.2.mem ((c.tc : Thread Cert.AttnCombineReferenceIdeal.nD Cert.AttnCombineReferenceIdeal.τ).loc Cert.AttnCombineReferenceIdeal.main_arg4) = m' ((c.tc : Thread Cert.AttnCombineReferenceIdeal.nD Cert.AttnCombineReferenceIdeal.τ).loc Cert.AttnCombineReferenceIdeal.main_arg4)
          ∧ r.2.mem ((c.tc : Thread Cert.AttnCombineReferenceIdeal.nD Cert.AttnCombineReferenceIdeal.τ).loc Cert.AttnCombineReferenceIdeal.main_arg5) = m' ((c.tc : Thread Cert.AttnCombineReferenceIdeal.nD Cert.AttnCombineReferenceIdeal.τ).loc Cert.AttnCombineReferenceIdeal.main_arg5)
          ∧ r.2.mem ((c.tc : Thread Cert.AttnCombineReferenceIdeal.nD Cert.AttnCombineReferenceIdeal.τ).loc Cert.AttnCombineReferenceIdeal.main_arg6) = m' ((c.tc : Thread Cert.AttnCombineReferenceIdeal.nD Cert.AttnCombineReferenceIdeal.τ).loc Cert.AttnCombineReferenceIdeal.main_arg6))

def preserves_GateBwd_GateBwdIdeal : Prop :=
  True

def algebraic_GateBwdIdeal_GateBwdReferenceIdeal_pre_finite_product [hGateBwdIdeal : Cert.GateBwdIdeal.Facts] [hGateBwdReferenceIdeal : Cert.GateBwdReferenceIdeal.Facts] [hPre_finite_product : Cert.Pre_finite_product.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdReferenceIdeal.nD Cert.GateBwdReferenceIdeal.τ Cert.GateBwdReferenceIdeal.sig) → Buf (Elt Ideal) ℓ) (g' : Dev Cert.GateBwdReferenceIdeal.nD → PrngReg), Pre_GateBwdIdeal_finite_product m →
    (∀ c : Dev Cert.GateBwdIdeal.nD,
      m' ((c.tc : Thread Cert.GateBwdReferenceIdeal.nD Cert.GateBwdReferenceIdeal.τ).loc Cert.GateBwdReferenceIdeal.main_arg0) = m ((c.tc : Thread Cert.GateBwdIdeal.nD Cert.GateBwdIdeal.τ).loc Cert.GateBwdIdeal.main_arg0)
      ∧ m' ((c.tc : Thread Cert.GateBwdReferenceIdeal.nD Cert.GateBwdReferenceIdeal.τ).loc Cert.GateBwdReferenceIdeal.main_arg1) = m ((c.tc : Thread Cert.GateBwdIdeal.nD Cert.GateBwdIdeal.τ).loc Cert.GateBwdIdeal.main_arg1)
      ∧ m' ((c.tc : Thread Cert.GateBwdReferenceIdeal.nD Cert.GateBwdReferenceIdeal.τ).loc Cert.GateBwdReferenceIdeal.main_arg2) = m ((c.tc : Thread Cert.GateBwdIdeal.nD Cert.GateBwdIdeal.τ).loc Cert.GateBwdIdeal.main_arg2)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ θ_run (Cert.GateBwdReferenceIdeal.defs (F := Ideal)) (onTc (τ := Cert.GateBwdReferenceIdeal.τ) (Cert.GateBwdReferenceIdeal.main (F := Ideal))) ⟨m', fun _ => 0, g'⟩ (fun r => ∀ c : Dev Cert.GateBwdReferenceIdeal.nD,
          r.2.mem ((c.tc : Thread Cert.GateBwdReferenceIdeal.nD Cert.GateBwdReferenceIdeal.τ).loc Cert.GateBwdReferenceIdeal.main_v4) = v0 c
          ∧ r.2.mem ((c.tc : Thread Cert.GateBwdReferenceIdeal.nD Cert.GateBwdReferenceIdeal.τ).loc Cert.GateBwdReferenceIdeal.main_v5) = v1 c
          ∧ r.2.mem ((c.tc : Thread Cert.GateBwdReferenceIdeal.nD Cert.GateBwdReferenceIdeal.τ).loc Cert.GateBwdReferenceIdeal.main_arg0) = m' ((c.tc : Thread Cert.GateBwdReferenceIdeal.nD Cert.GateBwdReferenceIdeal.τ).loc Cert.GateBwdReferenceIdeal.main_arg0)
          ∧ r.2.mem ((c.tc : Thread Cert.GateBwdReferenceIdeal.nD Cert.GateBwdReferenceIdeal.τ).loc Cert.GateBwdReferenceIdeal.main_arg1) = m' ((c.tc : Thread Cert.GateBwdReferenceIdeal.nD Cert.GateBwdReferenceIdeal.τ).loc Cert.GateBwdReferenceIdeal.main_arg1)
          ∧ r.2.mem ((c.tc : Thread Cert.GateBwdReferenceIdeal.nD Cert.GateBwdReferenceIdeal.τ).loc Cert.GateBwdReferenceIdeal.main_arg2) = m' ((c.tc : Thread Cert.GateBwdReferenceIdeal.nD Cert.GateBwdReferenceIdeal.τ).loc Cert.GateBwdReferenceIdeal.main_arg2))

def preserves_ConvNormBwd_ConvNormBwdIdeal : Prop :=
  True

def algebraic_ConvNormBwdIdeal_ConvNormBwdReferenceIdeal_pre_finite_rows [hConvNormBwdIdeal : Cert.ConvNormBwdIdeal.Facts] [hConvNormBwdReferenceIdeal : Cert.ConvNormBwdReferenceIdeal.Facts] [hPre_finite_rows : Cert.Pre_finite_rows.Facts] : Prop :=
  ∀ (m : (ℓ : Loc Cert.ConvNormBwdIdeal.nD Cert.ConvNormBwdIdeal.τ Cert.ConvNormBwdIdeal.sig) → Buf (Elt Ideal) ℓ) (g : Dev Cert.ConvNormBwdIdeal.nD → PrngReg)
    (m' : (ℓ : Loc Cert.ConvNormBwdReferenceIdeal.nD Cert.ConvNormBwdReferenceIdeal.τ Cert.ConvNormBwdReferenceIdeal.sig) → Buf (Elt Ideal) ℓ) (g' : Dev Cert.ConvNormBwdReferenceIdeal.nD → PrngReg), Pre_ConvNormBwdIdeal_finite_rows m →
    (∀ c : Dev Cert.ConvNormBwdIdeal.nD,
      m' ((c.tc : Thread Cert.ConvNormBwdReferenceIdeal.nD Cert.ConvNormBwdReferenceIdeal.τ).loc Cert.ConvNormBwdReferenceIdeal.main_arg0) = m ((c.tc : Thread Cert.ConvNormBwdIdeal.nD Cert.ConvNormBwdIdeal.τ).loc Cert.ConvNormBwdIdeal.main_arg0)
      ∧ m' ((c.tc : Thread Cert.ConvNormBwdReferenceIdeal.nD Cert.ConvNormBwdReferenceIdeal.τ).loc Cert.ConvNormBwdReferenceIdeal.main_arg1) = m ((c.tc : Thread Cert.ConvNormBwdIdeal.nD Cert.ConvNormBwdIdeal.τ).loc Cert.ConvNormBwdIdeal.main_arg1)
      ∧ m' ((c.tc : Thread Cert.ConvNormBwdReferenceIdeal.nD Cert.ConvNormBwdReferenceIdeal.τ).loc Cert.ConvNormBwdReferenceIdeal.main_arg2) = m ((c.tc : Thread Cert.ConvNormBwdIdeal.nD Cert.ConvNormBwdIdeal.τ).loc Cert.ConvNormBwdIdeal.main_arg2)
      ∧ m' ((c.tc : Thread Cert.ConvNormBwdReferenceIdeal.nD Cert.ConvNormBwdReferenceIdeal.τ).loc Cert.ConvNormBwdReferenceIdeal.main_arg3) = m ((c.tc : Thread Cert.ConvNormBwdIdeal.nD Cert.ConvNormBwdIdeal.τ).loc Cert.ConvNormBwdIdeal.main_arg3)
      ∧ m' ((c.tc : Thread Cert.ConvNormBwdReferenceIdeal.nD Cert.ConvNormBwdReferenceIdeal.τ).loc Cert.ConvNormBwdReferenceIdeal.main_arg4) = m ((c.tc : Thread Cert.ConvNormBwdIdeal.nD Cert.ConvNormBwdIdeal.τ).loc Cert.ConvNormBwdIdeal.main_arg4)) →
    ∃ (v0 : (c : Dev Cert.ConvNormBwdIdeal.nD) → Buf (Elt Ideal) ((c.tc : Thread Cert.ConvNormBwdIdeal.nD Cert.ConvNormBwdIdeal.τ).loc Cert.ConvNormBwdIdeal.main_v0_0)) (v1 : (c : Dev Cert.ConvNormBwdIdeal.nD) → Buf (Elt Ideal) ((c.tc : Thread Cert.ConvNormBwdIdeal.nD Cert.ConvNormBwdIdeal.τ).loc Cert.ConvNormBwdIdeal.main_v0_1)) (v2 : (c : Dev Cert.ConvNormBwdIdeal.nD) → Buf (Elt Ideal) ((c.tc : Thread Cert.ConvNormBwdIdeal.nD Cert.ConvNormBwdIdeal.τ).loc Cert.ConvNormBwdIdeal.main_v0_2)) (v3 : (c : Dev Cert.ConvNormBwdIdeal.nD) → Buf (Elt Ideal) ((c.tc : Thread Cert.ConvNormBwdIdeal.nD Cert.ConvNormBwdIdeal.τ).loc Cert.ConvNormBwdIdeal.main_v0_3)),
      θ_run (Cert.ConvNormBwdIdeal.defs (F := Ideal)) (onTc (τ := Cert.ConvNormBwdIdeal.τ) (Cert.ConvNormBwdIdeal.main (F := Ideal))) ⟨m, fun _ => 0, g⟩ (fun r => ∀ c : Dev Cert.ConvNormBwdIdeal.nD,
          r.2.mem ((c.tc : Thread Cert.ConvNormBwdIdeal.nD Cert.ConvNormBwdIdeal.τ).loc Cert.ConvNormBwdIdeal.main_v0_0) = v0 c
          ∧ r.2.mem ((c.tc : Thread Cert.ConvNormBwdIdeal.nD Cert.ConvNormBwdIdeal.τ).loc Cert.ConvNormBwdIdeal.main_v0_1) = v1 c
          ∧ r.2.mem ((c.tc : Thread Cert.ConvNormBwdIdeal.nD Cert.ConvNormBwdIdeal.τ).loc Cert.ConvNormBwdIdeal.main_v0_2) = v2 c
          ∧ r.2.mem ((c.tc : Thread Cert.ConvNormBwdIdeal.nD Cert.ConvNormBwdIdeal.τ).loc Cert.ConvNormBwdIdeal.main_v0_3) = v3 c
          ∧ r.2.mem ((c.tc : Thread Cert.ConvNormBwdIdeal.nD Cert.ConvNormBwdIdeal.τ).loc Cert.ConvNormBwdIdeal.main_arg0) = m ((c.tc : Thread Cert.ConvNormBwdIdeal.nD Cert.ConvNormBwdIdeal.τ).loc Cert.ConvNormBwdIdeal.main_arg0)
          ∧ r.2.mem ((c.tc : Thread Cert.ConvNormBwdIdeal.nD Cert.ConvNormBwdIdeal.τ).loc Cert.ConvNormBwdIdeal.main_arg1) = m ((c.tc : Thread Cert.ConvNormBwdIdeal.nD Cert.ConvNormBwdIdeal.τ).loc Cert.ConvNormBwdIdeal.main_arg1)
          ∧ r.2.mem ((c.tc : Thread Cert.ConvNormBwdIdeal.nD Cert.ConvNormBwdIdeal.τ).loc Cert.ConvNormBwdIdeal.main_arg2) = m ((c.tc : Thread Cert.ConvNormBwdIdeal.nD Cert.ConvNormBwdIdeal.τ).loc Cert.ConvNormBwdIdeal.main_arg2)
          ∧ r.2.mem ((c.tc : Thread Cert.ConvNormBwdIdeal.nD Cert.ConvNormBwdIdeal.τ).loc Cert.ConvNormBwdIdeal.main_arg3) = m ((c.tc : Thread Cert.ConvNormBwdIdeal.nD Cert.ConvNormBwdIdeal.τ).loc Cert.ConvNormBwdIdeal.main_arg3)
          ∧ r.2.mem ((c.tc : Thread Cert.ConvNormBwdIdeal.nD Cert.ConvNormBwdIdeal.τ).loc Cert.ConvNormBwdIdeal.main_arg4) = m ((c.tc : Thread Cert.ConvNormBwdIdeal.nD Cert.ConvNormBwdIdeal.τ).loc Cert.ConvNormBwdIdeal.main_arg4))
      ∧ θ_run (Cert.ConvNormBwdReferenceIdeal.defs (F := Ideal)) (onTc (τ := Cert.ConvNormBwdReferenceIdeal.τ) (Cert.ConvNormBwdReferenceIdeal.main (F := Ideal))) ⟨m', fun _ => 0, g'⟩ (fun r => ∀ c : Dev Cert.ConvNormBwdReferenceIdeal.nD,
          r.2.mem ((c.tc : Thread Cert.ConvNormBwdReferenceIdeal.nD Cert.ConvNormBwdReferenceIdeal.τ).loc Cert.ConvNormBwdReferenceIdeal.main_v66) = v0 c
          ∧ r.2.mem ((c.tc : Thread Cert.ConvNormBwdReferenceIdeal.nD Cert.ConvNormBwdReferenceIdeal.τ).loc Cert.ConvNormBwdReferenceIdeal.main_v34) = v1 c
          ∧ r.2.mem ((c.tc : Thread Cert.ConvNormBwdReferenceIdeal.nD Cert.ConvNormBwdReferenceIdeal.τ).loc Cert.ConvNormBwdReferenceIdeal.main_v40) = v2 c
          ∧ r.2.mem ((c.tc : Thread Cert.ConvNormBwdReferenceIdeal.nD Cert.ConvNormBwdReferenceIdeal.τ).loc Cert.ConvNormBwdReferenceIdeal.main_v37) = v3 c
          ∧ r.2.mem ((c.tc : Thread Cert.ConvNormBwdReferenceIdeal.nD Cert.ConvNormBwdReferenceIdeal.τ).loc Cert.ConvNormBwdReferenceIdeal.main_arg0) = m' ((c.tc : Thread Cert.ConvNormBwdReferenceIdeal.nD Cert.ConvNormBwdReferenceIdeal.τ).loc Cert.ConvNormBwdReferenceIdeal.main_arg0)
          ∧ r.2.mem ((c.tc : Thread Cert.ConvNormBwdReferenceIdeal.nD Cert.ConvNormBwdReferenceIdeal.τ).loc Cert.ConvNormBwdReferenceIdeal.main_arg1) = m' ((c.tc : Thread Cert.ConvNormBwdReferenceIdeal.nD Cert.ConvNormBwdReferenceIdeal.τ).loc Cert.ConvNormBwdReferenceIdeal.main_arg1)
          ∧ r.2.mem ((c.tc : Thread Cert.ConvNormBwdReferenceIdeal.nD Cert.ConvNormBwdReferenceIdeal.τ).loc Cert.ConvNormBwdReferenceIdeal.main_arg2) = m' ((c.tc : Thread Cert.ConvNormBwdReferenceIdeal.nD Cert.ConvNormBwdReferenceIdeal.τ).loc Cert.ConvNormBwdReferenceIdeal.main_arg2)
          ∧ r.2.mem ((c.tc : Thread Cert.ConvNormBwdReferenceIdeal.nD Cert.ConvNormBwdReferenceIdeal.τ).loc Cert.ConvNormBwdReferenceIdeal.main_arg3) = m' ((c.tc : Thread Cert.ConvNormBwdReferenceIdeal.nD Cert.ConvNormBwdReferenceIdeal.τ).loc Cert.ConvNormBwdReferenceIdeal.main_arg3)
          ∧ r.2.mem ((c.tc : Thread Cert.ConvNormBwdReferenceIdeal.nD Cert.ConvNormBwdReferenceIdeal.τ).loc Cert.ConvNormBwdReferenceIdeal.main_arg4) = m' ((c.tc : Thread Cert.ConvNormBwdReferenceIdeal.nD Cert.ConvNormBwdReferenceIdeal.τ).loc Cert.ConvNormBwdReferenceIdeal.main_arg4))

def Claim : Prop :=
  ∃ (hAttnIn : Cert.AttnIn.Facts) (hAttnInIdeal : Cert.AttnInIdeal.Facts) (hAttnInReferenceIdeal : Cert.AttnInReferenceIdeal.Facts) (hAttnWgrad : Cert.AttnWgrad.Facts) (hAttnWgradIdeal : Cert.AttnWgradIdeal.Facts) (hAttnWgradReferenceIdeal : Cert.AttnWgradReferenceIdeal.Facts) (hAttnDgrad : Cert.AttnDgrad.Facts) (hAttnDgradIdeal : Cert.AttnDgradIdeal.Facts) (hAttnDgradReferenceIdeal : Cert.AttnDgradReferenceIdeal.Facts) (hConvAb : Cert.ConvAb.Facts) (hConvAbIdeal : Cert.ConvAbIdeal.Facts) (hConvAbReferenceIdeal : Cert.ConvAbReferenceIdeal.Facts) (hConvZ : Cert.ConvZ.Facts) (hConvZIdeal : Cert.ConvZIdeal.Facts) (hConvZReferenceIdeal : Cert.ConvZReferenceIdeal.Facts) (hOutDgrad : Cert.OutDgrad.Facts) (hOutDgradIdeal : Cert.OutDgradIdeal.Facts) (hOutDgradReferenceIdeal : Cert.OutDgradReferenceIdeal.Facts) (hOutWgrad : Cert.OutWgrad.Facts) (hOutWgradIdeal : Cert.OutWgradIdeal.Facts) (hOutWgradReferenceIdeal : Cert.OutWgradReferenceIdeal.Facts) (hAbWgrad : Cert.AbWgrad.Facts) (hAbWgradIdeal : Cert.AbWgradIdeal.Facts) (hAbWgradReferenceIdeal : Cert.AbWgradReferenceIdeal.Facts) (hGateWgrad : Cert.GateWgrad.Facts) (hGateWgradIdeal : Cert.GateWgradIdeal.Facts) (hGateWgradReferenceIdeal : Cert.GateWgradReferenceIdeal.Facts) (hGateFwd : Cert.GateFwd.Facts) (hGateFwdIdeal : Cert.GateFwdIdeal.Facts) (hGateFwdReferenceIdeal : Cert.GateFwdReferenceIdeal.Facts) (hPostFwd : Cert.PostFwd.Facts) (hPostFwdIdeal : Cert.PostFwdIdeal.Facts) (hPostFwdReferenceIdeal : Cert.PostFwdReferenceIdeal.Facts) (hConvDgrad : Cert.ConvDgrad.Facts) (hConvDgradIdeal : Cert.ConvDgradIdeal.Facts) (hConvDgradReferenceIdeal : Cert.ConvDgradReferenceIdeal.Facts) (hPlePost : Cert.PlePost.Facts) (hPlePostIdeal : Cert.PlePostIdeal.Facts) (hPlePostReferenceIdeal : Cert.PlePostReferenceIdeal.Facts) (hLoss : Cert.Loss.Facts) (hLossIdeal : Cert.LossIdeal.Facts) (hLossReferenceIdeal : Cert.LossReferenceIdeal.Facts) (hAdamNorm : Cert.AdamNorm.Facts) (hAdamNormIdeal : Cert.AdamNormIdeal.Facts) (hAdamNormReferenceIdeal : Cert.AdamNormReferenceIdeal.Facts) (hAdamAttnIn : Cert.AdamAttnIn.Facts) (hAdamAttnInIdeal : Cert.AdamAttnInIdeal.Facts) (hAdamAttnInReferenceIdeal : Cert.AdamAttnInReferenceIdeal.Facts) (hAdamOut : Cert.AdamOut.Facts) (hAdamOutIdeal : Cert.AdamOutIdeal.Facts) (hAdamOutReferenceIdeal : Cert.AdamOutReferenceIdeal.Facts) (hAdamConvIn : Cert.AdamConvIn.Facts) (hAdamConvInIdeal : Cert.AdamConvInIdeal.Facts) (hAdamConvInReferenceIdeal : Cert.AdamConvInReferenceIdeal.Facts) (hAdamConvTaps : Cert.AdamConvTaps.Facts) (hAdamConvTapsIdeal : Cert.AdamConvTapsIdeal.Facts) (hAdamConvTapsReferenceIdeal : Cert.AdamConvTapsReferenceIdeal.Facts) (hAdamConvRow : Cert.AdamConvRow.Facts) (hAdamConvRowIdeal : Cert.AdamConvRowIdeal.Facts) (hAdamConvRowReferenceIdeal : Cert.AdamConvRowReferenceIdeal.Facts) (hAdamPleProj : Cert.AdamPleProj.Facts) (hAdamPleProjIdeal : Cert.AdamPleProjIdeal.Facts) (hAdamPleProjReferenceIdeal : Cert.AdamPleProjReferenceIdeal.Facts) (hAdamPleGate : Cert.AdamPleGate.Facts) (hAdamPleGateIdeal : Cert.AdamPleGateIdeal.Facts) (hAdamPleGateReferenceIdeal : Cert.AdamPleGateReferenceIdeal.Facts) (hPleProj : Cert.PleProj.Facts) (hPleProjIdeal : Cert.PleProjIdeal.Facts) (hPleProjReferenceIdeal : Cert.PleProjReferenceIdeal.Facts) (hPleWgrad : Cert.PleWgrad.Facts) (hPleWgradIdeal : Cert.PleWgradIdeal.Facts) (hPleWgradReferenceIdeal : Cert.PleWgradReferenceIdeal.Facts) (hRmsNorm : Cert.RmsNorm.Facts) (hRmsNormIdeal : Cert.RmsNormIdeal.Facts) (hRmsNormReferenceIdeal : Cert.RmsNormReferenceIdeal.Facts) (hLossSum : Cert.LossSum.Facts) (hLossSumIdeal : Cert.LossSumIdeal.Facts) (hLossSumReferenceIdeal : Cert.LossSumReferenceIdeal.Facts) (hAttnCombine : Cert.AttnCombine.Facts) (hAttnCombineIdeal : Cert.AttnCombineIdeal.Facts) (hAttnCombineReferenceIdeal : Cert.AttnCombineReferenceIdeal.Facts) (hGateBwd : Cert.GateBwd.Facts) (hGateBwdIdeal : Cert.GateBwdIdeal.Facts) (hGateBwdReferenceIdeal : Cert.GateBwdReferenceIdeal.Facts) (hConvNormBwd : Cert.ConvNormBwd.Facts) (hConvNormBwdIdeal : Cert.ConvNormBwdIdeal.Facts) (hConvNormBwdReferenceIdeal : Cert.ConvNormBwdReferenceIdeal.Facts) (hPre_finite_logsums : Cert.Pre_finite_logsums.Facts) (hPre_finite_product : Cert.Pre_finite_product.Facts) (hPre_finite_rows : Cert.Pre_finite_rows.Facts),
    quiescent_AttnIn (hAttnIn := hAttnIn)
    ∧ quiescent_AttnInIdeal (hAttnInIdeal := hAttnInIdeal)
    ∧ quiescent_AttnInReferenceIdeal (hAttnInReferenceIdeal := hAttnInReferenceIdeal)
    ∧ quiescent_AttnWgrad (hAttnWgrad := hAttnWgrad)
    ∧ quiescent_AttnWgradIdeal (hAttnWgradIdeal := hAttnWgradIdeal)
    ∧ quiescent_AttnWgradReferenceIdeal (hAttnWgradReferenceIdeal := hAttnWgradReferenceIdeal)
    ∧ quiescent_AttnDgrad (hAttnDgrad := hAttnDgrad)
    ∧ quiescent_AttnDgradIdeal (hAttnDgradIdeal := hAttnDgradIdeal)
    ∧ quiescent_AttnDgradReferenceIdeal (hAttnDgradReferenceIdeal := hAttnDgradReferenceIdeal)
    ∧ quiescent_ConvAb (hConvAb := hConvAb)
    ∧ quiescent_ConvAbIdeal (hConvAbIdeal := hConvAbIdeal)
    ∧ quiescent_ConvAbReferenceIdeal (hConvAbReferenceIdeal := hConvAbReferenceIdeal)
    ∧ quiescent_ConvZ (hConvZ := hConvZ)
    ∧ quiescent_ConvZIdeal (hConvZIdeal := hConvZIdeal)
    ∧ quiescent_ConvZReferenceIdeal (hConvZReferenceIdeal := hConvZReferenceIdeal)
    ∧ quiescent_OutDgrad (hOutDgrad := hOutDgrad)
    ∧ quiescent_OutDgradIdeal (hOutDgradIdeal := hOutDgradIdeal)
    ∧ quiescent_OutDgradReferenceIdeal (hOutDgradReferenceIdeal := hOutDgradReferenceIdeal)
    ∧ quiescent_OutWgrad (hOutWgrad := hOutWgrad)
    ∧ quiescent_OutWgradIdeal (hOutWgradIdeal := hOutWgradIdeal)
    ∧ quiescent_OutWgradReferenceIdeal (hOutWgradReferenceIdeal := hOutWgradReferenceIdeal)
    ∧ quiescent_AbWgrad (hAbWgrad := hAbWgrad)
    ∧ quiescent_AbWgradIdeal (hAbWgradIdeal := hAbWgradIdeal)
    ∧ quiescent_AbWgradReferenceIdeal (hAbWgradReferenceIdeal := hAbWgradReferenceIdeal)
    ∧ quiescent_GateWgrad (hGateWgrad := hGateWgrad)
    ∧ quiescent_GateWgradIdeal (hGateWgradIdeal := hGateWgradIdeal)
    ∧ quiescent_GateWgradReferenceIdeal (hGateWgradReferenceIdeal := hGateWgradReferenceIdeal)
    ∧ quiescent_GateFwd (hGateFwd := hGateFwd)
    ∧ quiescent_GateFwdIdeal (hGateFwdIdeal := hGateFwdIdeal)
    ∧ quiescent_GateFwdReferenceIdeal (hGateFwdReferenceIdeal := hGateFwdReferenceIdeal)
    ∧ quiescent_PostFwd (hPostFwd := hPostFwd)
    ∧ quiescent_PostFwdIdeal (hPostFwdIdeal := hPostFwdIdeal)
    ∧ quiescent_PostFwdReferenceIdeal (hPostFwdReferenceIdeal := hPostFwdReferenceIdeal)
    ∧ quiescent_ConvDgrad (hConvDgrad := hConvDgrad)
    ∧ quiescent_ConvDgradIdeal (hConvDgradIdeal := hConvDgradIdeal)
    ∧ quiescent_ConvDgradReferenceIdeal (hConvDgradReferenceIdeal := hConvDgradReferenceIdeal)
    ∧ quiescent_PlePost (hPlePost := hPlePost)
    ∧ quiescent_PlePostIdeal (hPlePostIdeal := hPlePostIdeal)
    ∧ quiescent_PlePostReferenceIdeal (hPlePostReferenceIdeal := hPlePostReferenceIdeal)
    ∧ quiescent_Loss (hLoss := hLoss)
    ∧ quiescent_LossIdeal (hLossIdeal := hLossIdeal)
    ∧ quiescent_LossReferenceIdeal (hLossReferenceIdeal := hLossReferenceIdeal)
    ∧ quiescent_AdamNorm (hAdamNorm := hAdamNorm)
    ∧ quiescent_AdamNormIdeal (hAdamNormIdeal := hAdamNormIdeal)
    ∧ quiescent_AdamNormReferenceIdeal (hAdamNormReferenceIdeal := hAdamNormReferenceIdeal)
    ∧ quiescent_AdamAttnIn (hAdamAttnIn := hAdamAttnIn)
    ∧ quiescent_AdamAttnInIdeal (hAdamAttnInIdeal := hAdamAttnInIdeal)
    ∧ quiescent_AdamAttnInReferenceIdeal (hAdamAttnInReferenceIdeal := hAdamAttnInReferenceIdeal)
    ∧ quiescent_AdamOut (hAdamOut := hAdamOut)
    ∧ quiescent_AdamOutIdeal (hAdamOutIdeal := hAdamOutIdeal)
    ∧ quiescent_AdamOutReferenceIdeal (hAdamOutReferenceIdeal := hAdamOutReferenceIdeal)
    ∧ quiescent_AdamConvIn (hAdamConvIn := hAdamConvIn)
    ∧ quiescent_AdamConvInIdeal (hAdamConvInIdeal := hAdamConvInIdeal)
    ∧ quiescent_AdamConvInReferenceIdeal (hAdamConvInReferenceIdeal := hAdamConvInReferenceIdeal)
    ∧ quiescent_AdamConvTaps (hAdamConvTaps := hAdamConvTaps)
    ∧ quiescent_AdamConvTapsIdeal (hAdamConvTapsIdeal := hAdamConvTapsIdeal)
    ∧ quiescent_AdamConvTapsReferenceIdeal (hAdamConvTapsReferenceIdeal := hAdamConvTapsReferenceIdeal)
    ∧ quiescent_AdamConvRow (hAdamConvRow := hAdamConvRow)
    ∧ quiescent_AdamConvRowIdeal (hAdamConvRowIdeal := hAdamConvRowIdeal)
    ∧ quiescent_AdamConvRowReferenceIdeal (hAdamConvRowReferenceIdeal := hAdamConvRowReferenceIdeal)
    ∧ quiescent_AdamPleProj (hAdamPleProj := hAdamPleProj)
    ∧ quiescent_AdamPleProjIdeal (hAdamPleProjIdeal := hAdamPleProjIdeal)
    ∧ quiescent_AdamPleProjReferenceIdeal (hAdamPleProjReferenceIdeal := hAdamPleProjReferenceIdeal)
    ∧ quiescent_AdamPleGate (hAdamPleGate := hAdamPleGate)
    ∧ quiescent_AdamPleGateIdeal (hAdamPleGateIdeal := hAdamPleGateIdeal)
    ∧ quiescent_AdamPleGateReferenceIdeal (hAdamPleGateReferenceIdeal := hAdamPleGateReferenceIdeal)
    ∧ quiescent_PleProj (hPleProj := hPleProj)
    ∧ quiescent_PleProjIdeal (hPleProjIdeal := hPleProjIdeal)
    ∧ quiescent_PleProjReferenceIdeal (hPleProjReferenceIdeal := hPleProjReferenceIdeal)
    ∧ quiescent_PleWgrad (hPleWgrad := hPleWgrad)
    ∧ quiescent_PleWgradIdeal (hPleWgradIdeal := hPleWgradIdeal)
    ∧ quiescent_PleWgradReferenceIdeal (hPleWgradReferenceIdeal := hPleWgradReferenceIdeal)
    ∧ quiescent_RmsNorm (hRmsNorm := hRmsNorm)
    ∧ quiescent_RmsNormIdeal (hRmsNormIdeal := hRmsNormIdeal)
    ∧ quiescent_RmsNormReferenceIdeal (hRmsNormReferenceIdeal := hRmsNormReferenceIdeal)
    ∧ quiescent_LossSum (hLossSum := hLossSum)
    ∧ quiescent_LossSumIdeal (hLossSumIdeal := hLossSumIdeal)
    ∧ quiescent_LossSumReferenceIdeal (hLossSumReferenceIdeal := hLossSumReferenceIdeal)
    ∧ quiescent_AttnCombine (hAttnCombine := hAttnCombine)
    ∧ quiescent_AttnCombineIdeal (hAttnCombineIdeal := hAttnCombineIdeal)
    ∧ quiescent_AttnCombineIdeal_pre_finite_logsums (hAttnCombineIdeal := hAttnCombineIdeal) (hPre_finite_logsums := hPre_finite_logsums)
    ∧ quiescent_AttnCombineReferenceIdeal (hAttnCombineReferenceIdeal := hAttnCombineReferenceIdeal)
    ∧ quiescent_AttnCombineReferenceIdeal_pre_finite_logsums (hAttnCombineReferenceIdeal := hAttnCombineReferenceIdeal) (hPre_finite_logsums := hPre_finite_logsums)
    ∧ quiescent_GateBwd (hGateBwd := hGateBwd)
    ∧ quiescent_GateBwdIdeal (hGateBwdIdeal := hGateBwdIdeal)
    ∧ quiescent_GateBwdIdeal_pre_finite_product (hGateBwdIdeal := hGateBwdIdeal) (hPre_finite_product := hPre_finite_product)
    ∧ quiescent_GateBwdReferenceIdeal (hGateBwdReferenceIdeal := hGateBwdReferenceIdeal)
    ∧ quiescent_GateBwdReferenceIdeal_pre_finite_product (hGateBwdReferenceIdeal := hGateBwdReferenceIdeal) (hPre_finite_product := hPre_finite_product)
    ∧ quiescent_ConvNormBwd (hConvNormBwd := hConvNormBwd)
    ∧ quiescent_ConvNormBwdIdeal (hConvNormBwdIdeal := hConvNormBwdIdeal)
    ∧ quiescent_ConvNormBwdIdeal_pre_finite_rows (hConvNormBwdIdeal := hConvNormBwdIdeal) (hPre_finite_rows := hPre_finite_rows)
    ∧ quiescent_ConvNormBwdReferenceIdeal (hConvNormBwdReferenceIdeal := hConvNormBwdReferenceIdeal)
    ∧ quiescent_ConvNormBwdReferenceIdeal_pre_finite_rows (hConvNormBwdReferenceIdeal := hConvNormBwdReferenceIdeal) (hPre_finite_rows := hPre_finite_rows)
    ∧ preserves_AttnIn_AttnInIdeal
    ∧ algebraic_AttnInIdeal_AttnInReferenceIdeal (hAttnInIdeal := hAttnInIdeal) (hAttnInReferenceIdeal := hAttnInReferenceIdeal)
    ∧ preserves_AttnWgrad_AttnWgradIdeal
    ∧ algebraic_AttnWgradIdeal_AttnWgradReferenceIdeal (hAttnWgradIdeal := hAttnWgradIdeal) (hAttnWgradReferenceIdeal := hAttnWgradReferenceIdeal)
    ∧ preserves_AttnDgrad_AttnDgradIdeal
    ∧ algebraic_AttnDgradIdeal_AttnDgradReferenceIdeal (hAttnDgradIdeal := hAttnDgradIdeal) (hAttnDgradReferenceIdeal := hAttnDgradReferenceIdeal)
    ∧ preserves_ConvAb_ConvAbIdeal
    ∧ algebraic_ConvAbIdeal_ConvAbReferenceIdeal (hConvAbIdeal := hConvAbIdeal) (hConvAbReferenceIdeal := hConvAbReferenceIdeal)
    ∧ preserves_ConvZ_ConvZIdeal
    ∧ algebraic_ConvZIdeal_ConvZReferenceIdeal (hConvZIdeal := hConvZIdeal) (hConvZReferenceIdeal := hConvZReferenceIdeal)
    ∧ preserves_OutDgrad_OutDgradIdeal
    ∧ algebraic_OutDgradIdeal_OutDgradReferenceIdeal (hOutDgradIdeal := hOutDgradIdeal) (hOutDgradReferenceIdeal := hOutDgradReferenceIdeal)
    ∧ preserves_OutWgrad_OutWgradIdeal
    ∧ algebraic_OutWgradIdeal_OutWgradReferenceIdeal (hOutWgradIdeal := hOutWgradIdeal) (hOutWgradReferenceIdeal := hOutWgradReferenceIdeal)
    ∧ preserves_AbWgrad_AbWgradIdeal
    ∧ algebraic_AbWgradIdeal_AbWgradReferenceIdeal (hAbWgradIdeal := hAbWgradIdeal) (hAbWgradReferenceIdeal := hAbWgradReferenceIdeal)
    ∧ preserves_GateWgrad_GateWgradIdeal
    ∧ algebraic_GateWgradIdeal_GateWgradReferenceIdeal (hGateWgradIdeal := hGateWgradIdeal) (hGateWgradReferenceIdeal := hGateWgradReferenceIdeal)
    ∧ preserves_GateFwd_GateFwdIdeal
    ∧ algebraic_GateFwdIdeal_GateFwdReferenceIdeal (hGateFwdIdeal := hGateFwdIdeal) (hGateFwdReferenceIdeal := hGateFwdReferenceIdeal)
    ∧ preserves_PostFwd_PostFwdIdeal
    ∧ algebraic_PostFwdIdeal_PostFwdReferenceIdeal (hPostFwdIdeal := hPostFwdIdeal) (hPostFwdReferenceIdeal := hPostFwdReferenceIdeal)
    ∧ preserves_ConvDgrad_ConvDgradIdeal
    ∧ algebraic_ConvDgradIdeal_ConvDgradReferenceIdeal (hConvDgradIdeal := hConvDgradIdeal) (hConvDgradReferenceIdeal := hConvDgradReferenceIdeal)
    ∧ preserves_PlePost_PlePostIdeal
    ∧ algebraic_PlePostIdeal_PlePostReferenceIdeal (hPlePostIdeal := hPlePostIdeal) (hPlePostReferenceIdeal := hPlePostReferenceIdeal)
    ∧ preserves_Loss_LossIdeal
    ∧ algebraic_LossIdeal_LossReferenceIdeal (hLossIdeal := hLossIdeal) (hLossReferenceIdeal := hLossReferenceIdeal)
    ∧ preserves_AdamNorm_AdamNormIdeal
    ∧ algebraic_AdamNormIdeal_AdamNormReferenceIdeal (hAdamNormIdeal := hAdamNormIdeal) (hAdamNormReferenceIdeal := hAdamNormReferenceIdeal)
    ∧ preserves_AdamAttnIn_AdamAttnInIdeal
    ∧ algebraic_AdamAttnInIdeal_AdamAttnInReferenceIdeal (hAdamAttnInIdeal := hAdamAttnInIdeal) (hAdamAttnInReferenceIdeal := hAdamAttnInReferenceIdeal)
    ∧ preserves_AdamOut_AdamOutIdeal
    ∧ algebraic_AdamOutIdeal_AdamOutReferenceIdeal (hAdamOutIdeal := hAdamOutIdeal) (hAdamOutReferenceIdeal := hAdamOutReferenceIdeal)
    ∧ preserves_AdamConvIn_AdamConvInIdeal
    ∧ algebraic_AdamConvInIdeal_AdamConvInReferenceIdeal (hAdamConvInIdeal := hAdamConvInIdeal) (hAdamConvInReferenceIdeal := hAdamConvInReferenceIdeal)
    ∧ preserves_AdamConvTaps_AdamConvTapsIdeal
    ∧ algebraic_AdamConvTapsIdeal_AdamConvTapsReferenceIdeal (hAdamConvTapsIdeal := hAdamConvTapsIdeal) (hAdamConvTapsReferenceIdeal := hAdamConvTapsReferenceIdeal)
    ∧ preserves_AdamConvRow_AdamConvRowIdeal
    ∧ algebraic_AdamConvRowIdeal_AdamConvRowReferenceIdeal (hAdamConvRowIdeal := hAdamConvRowIdeal) (hAdamConvRowReferenceIdeal := hAdamConvRowReferenceIdeal)
    ∧ preserves_AdamPleProj_AdamPleProjIdeal
    ∧ algebraic_AdamPleProjIdeal_AdamPleProjReferenceIdeal (hAdamPleProjIdeal := hAdamPleProjIdeal) (hAdamPleProjReferenceIdeal := hAdamPleProjReferenceIdeal)
    ∧ preserves_AdamPleGate_AdamPleGateIdeal
    ∧ algebraic_AdamPleGateIdeal_AdamPleGateReferenceIdeal (hAdamPleGateIdeal := hAdamPleGateIdeal) (hAdamPleGateReferenceIdeal := hAdamPleGateReferenceIdeal)
    ∧ preserves_PleProj_PleProjIdeal
    ∧ algebraic_PleProjIdeal_PleProjReferenceIdeal (hPleProjIdeal := hPleProjIdeal) (hPleProjReferenceIdeal := hPleProjReferenceIdeal)
    ∧ preserves_PleWgrad_PleWgradIdeal
    ∧ algebraic_PleWgradIdeal_PleWgradReferenceIdeal (hPleWgradIdeal := hPleWgradIdeal) (hPleWgradReferenceIdeal := hPleWgradReferenceIdeal)
    ∧ preserves_RmsNorm_RmsNormIdeal
    ∧ algebraic_RmsNormIdeal_RmsNormReferenceIdeal (hRmsNormIdeal := hRmsNormIdeal) (hRmsNormReferenceIdeal := hRmsNormReferenceIdeal)
    ∧ preserves_LossSum_LossSumIdeal
    ∧ algebraic_LossSumIdeal_LossSumReferenceIdeal (hLossSumIdeal := hLossSumIdeal) (hLossSumReferenceIdeal := hLossSumReferenceIdeal)
    ∧ preserves_AttnCombine_AttnCombineIdeal
    ∧ algebraic_AttnCombineIdeal_AttnCombineReferenceIdeal_pre_finite_logsums (hAttnCombineIdeal := hAttnCombineIdeal) (hAttnCombineReferenceIdeal := hAttnCombineReferenceIdeal) (hPre_finite_logsums := hPre_finite_logsums)
    ∧ preserves_GateBwd_GateBwdIdeal
    ∧ algebraic_GateBwdIdeal_GateBwdReferenceIdeal_pre_finite_product (hGateBwdIdeal := hGateBwdIdeal) (hGateBwdReferenceIdeal := hGateBwdReferenceIdeal) (hPre_finite_product := hPre_finite_product)
    ∧ preserves_ConvNormBwd_ConvNormBwdIdeal
    ∧ algebraic_ConvNormBwdIdeal_ConvNormBwdReferenceIdeal_pre_finite_rows (hConvNormBwdIdeal := hConvNormBwdIdeal) (hConvNormBwdReferenceIdeal := hConvNormBwdReferenceIdeal) (hPre_finite_rows := hPre_finite_rows)
-- ==== Pre_finite_logsums.lean ====
abbrev S8192x1024 : Shape := ⟨2, ![8192, 1024]⟩
abbrev S8192x10240 : Shape := ⟨2, ![8192, 10240]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8192x1024 .f32) (main_arg5 : FVec F S8192x1024 .f32) (main_arg6 : FVec F S8192x10240 .f32) : IVec S_ 1 × IVec S_ 1 × IVec S_ 1 :=
  let main_v0 : FVec F S8192x1024 .f32 := Host.absf main_arg3
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg4
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S8192x1024 .f32 := Host.absf main_arg5
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  (main_v3, main_v7, main_v11)
-- ==== Pre_finite_product.lean ====
abbrev S8192x1024 : Shape := ⟨2, ![8192, 1024]⟩
abbrev S8192x10240 : Shape := ⟨2, ![8192, 10240]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : FVec F S8192x10240 .f32) : IVec S_ 1 :=
  let main_v0 : FVec F S8192x1024 .f32 := mulf main_arg0 main_arg1
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  main_v4
-- ==== Pre_finite_rows.lean ====
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v4 : IVec S_ 1) (main_v8 : IVec S_ 1) (main_v12 : IVec S_ 1) (main_v15 : IVec S1x1024 1) (main_c_5 : IVec S_ 1) : IVec S_ 1 × IVec S_ 1 × IVec S_ 1 × IVec S_ 1 × IVec S_ 1 :=
  let main_v16 : IVec S_ 1 := (fun x v => Host.reduce IntOp.andi x v reducesTo_S1x1024_S_d0_1 h_S_) main_v15 main_c_5
  let main_v17 : FVec F S1x1024 .f32 := Host.absf main_arg4
  let main_cst_6 : FVec F S_ .f32 := constant S_ .f32 0x7F800000#32
  let main_v18 : FVec F S1x1024 .f32 := broadcastInDim S1x1024 ![] bcast_S_S1x1024 main_cst_6
  let main_v19 : IVec S1x1024 1 := cmpf .olt main_v17 main_v18
  let main_c_7 : IVec S_ 1 := constantI S_ 1 1#1
  let main_v20 : IVec S_ 1 := (fun x v => Host.reduce IntOp.andi x v reducesTo_S1x1024_S_d0_1 h_S_) main_v19 main_c_7
  (main_v4, main_v8, main_v12, main_v16, main_v20)

def fn {F : FTy → Type} [FloatOps F] (main_arg0 : FVec F S8192x1024 .f32) (main_arg1 : FVec F S8192x1024 .bf16) (main_arg2 : FVec F S8192x1024 .f32) (main_arg3 : FVec F S1x1024 .f32) (main_arg4 : FVec F S1x1024 .f32) : IVec S_ 1 × IVec S_ 1 × IVec S_ 1 × IVec S_ 1 × IVec S_ 1 :=
  let main_v0 : FVec F S8192x1024 .f32 := (extf .f32 · bitsLt_bf16_f32) main_arg1
  let main_v1 : FVec F S8192x1024 .f32 := Host.absf main_arg0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := Host.absf main_v0
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : FVec F S1x1024 .f32 := Host.absf main_arg3
  let main_cst_4 : FVec F S_ .f32 := constant S_ .f32 0x7F800000#32
  let main_v14 : FVec F S1x1024 .f32 := broadcastInDim S1x1024 ![] bcast_S_S1x1024 main_cst_4
  let main_v15 : IVec S1x1024 1 := cmpf .olt main_v13 main_v14
  let main_c_5 : IVec S_ 1 := constantI S_ 1 1#1
  fn_part1 (F := F) main_arg4 main_v4 main_v8 main_v12 main_v15 main_c_5
-- ==== AttnIn.lean ====
abbrev S8192x1024 : Shape := ⟨2, ![8192, 1024]⟩
abbrev S1024x10240 : Shape := ⟨2, ![1024, 10240]⟩
abbrev S8192x10240 : Shape := ⟨2, ![8192, 10240]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x10240, .bf16⟩
  | .hbm, ⟨2, _⟩ => ⟨S8192x10240, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInReferenceIdeal.lean ====
abbrev S8192x1024 : Shape := ⟨2, ![8192, 1024]⟩
abbrev S1024x10240 : Shape := ⟨2, ![1024, 10240]⟩
abbrev S8192x10240 : Shape := ⟨2, ![8192, 10240]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10240, .bf16⟩
  | .hbm, ⟨2, _⟩ => ⟨S8192x1024, .f32⟩
  | .hbm, ⟨3, _⟩ => ⟨S1024x10240, .f32⟩
  | .hbm, ⟨4, _⟩ => ⟨S8192x10240, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttnWgrad.lean ====
abbrev S8192x1024 : Shape := ⟨2, ![8192, 1024]⟩
abbrev S8192x10240 : Shape := ⟨2, ![8192, 10240]⟩
abbrev S1024x10240 : Shape := ⟨2, ![1024, 10240]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x10240, .f32⟩
  | .hbm, ⟨2, _⟩ => ⟨S1024x10240, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 10, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnWgradReferenceIdeal.lean ====
abbrev S8192x1024 : Shape := ⟨2, ![8192, 1024]⟩
abbrev S8192x10240 : Shape := ⟨2, ![8192, 10240]⟩
abbrev S_ : Shape := ⟨0, ![]⟩
abbrev S1024x10240 : Shape := ⟨2, ![1024, 10240]⟩
abbrev S10240x1024 : Shape := ⟨2, ![10240, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x10240, .f32⟩
  | .hbm, ⟨2, _⟩ => ⟨S_, .f32⟩
  | .hbm, ⟨3, _⟩ => ⟨S1024x10240, .f32⟩
  | .hbm, ⟨4, _⟩ => ⟨S8192x1024, .f32⟩
  | .hbm, ⟨5, _⟩ => ⟨S8192x10240, .f32⟩
  | .hbm, ⟨6, _⟩ => ⟨S10240x1024, .f32⟩
  | .hbm, ⟨7, _⟩ => ⟨S1024x10240, .f32⟩
  | .hbm, ⟨8, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnDgrad.lean ====
abbrev S8192x10240 : Shape := ⟨2, ![8192, 10240]⟩
abbrev S1024x10240 : Shape := ⟨2, ![1024, 10240]⟩
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x10240, .f32⟩
  | .hbm, ⟨1, _⟩ => ⟨S1024x10240, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 10], ![false, false]⟩

def k0_cond4 (i : grid0.Coords) : BitVec 1 :=
  let arg1 : BitVec 32 := BitVec.ofNat 32 (i 1).val
  let c9_i32_9 : BitVec 32 := 9#32
  let v17 : BitVec 1 := Scalar.cmpi .eq arg1 c9_i32_9
  let v18 : BitVec 32 := Scalar.extui v17
  let c0_i32_10 : BitVec 32 := 0#32
  let v19 : BitVec 1 := Scalar.cmpi .ne v18 c0_i32_10
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== AttnDgradReferenceIdeal.lean ====
abbrev S8192x10240 : Shape := ⟨2, ![8192, 10240]⟩
abbrev S1024x10240 : Shape := ⟨2, ![1024, 10240]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x10240, .f32⟩
  | .hbm, ⟨1, _⟩ => ⟨S1024x10240, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x10240, .f32⟩
  | .hbm, ⟨28, _⟩ => ⟨S8192x10240, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== ConvAb.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvAbReferenceIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ConvZ.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvZReferenceIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutDgrad.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDgradReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutWgrad.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWgradReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AbWgrad.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbWgradReferenceIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateWgrad.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateWgradReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateFwd.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateFwdReferenceIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== PostFwd.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostFwdReferenceIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== ConvDgrad.lean ====
abbrev S8192x2048 : Shape := ⟨2, ![8192, 2048]⟩
abbrev S1024x2048 : Shape := ⟨2, ![1024, 2048]⟩
abbrev S8192x1024 : Shape := ⟨2, ![8192, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ConvDgradReferenceIdeal.lean ====
abbrev S8192x2048 : Shape := ⟨2, ![8192, 2048]⟩
abbrev S1024x2048 : Shape := ⟨2, ![1024, 2048]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x2048, .f32⟩
  | .hbm, ⟨29, _⟩ => ⟨S8192x2048, .f32⟩
  | .hbm, ⟨30, _⟩ => ⟨S8192x2048, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== PlePost.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .hbm, ⟨5, _⟩ => ⟨S1x1024, .f32⟩
  | .hbm, ⟨6, _⟩ => ⟨S8192x1024, .bf16⟩
  | .hbm, ⟨7, _⟩ => ⟨S8192x1024, .bf16⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PlePostReferenceIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S1024x1024, .f32⟩
  | .hbm, ⟨25, _⟩ => ⟨S8192x1024, .f32⟩
  | .hbm, ⟨26, _⟩ => ⟨S1024x1024, .f32⟩
  | .hbm, ⟨27, _⟩ => ⟨S1024x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .bf16⟩
  | .hbm, ⟨74, _⟩ => ⟨S8192x1024, .bf16⟩
  | .hbm, ⟨75, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Loss.lean ====
abbrev S8192x1024 : Shape := ⟨2, ![8192, 1024]⟩
abbrev S1x1 : Shape := ⟨2, ![1, 1]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossReferenceIdeal.lean ====
abbrev S8192x1024 : Shape := ⟨2, ![8192, 1024]⟩
abbrev S_ : Shape := ⟨0, ![]⟩
abbrev S1x1 : Shape := ⟨2, ![1, 1]⟩
abbrev S8192 : Shape := ⟨1, ![8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S1x1, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S8192x1024, .f32⟩
  | .hbm, ⟨29, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_cst_6 : Ref sig .tc := ⟨.hbm, 22, rfl⟩
abbrev main_v13 : Ref sig .tc := ⟨.hbm, 23, rfl⟩
abbrev main_v14 : Ref sig .tc := ⟨.hbm, 24, rfl⟩
abbrev main_cst_7 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== AdamNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormReferenceIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAttnIn.lean ====
abbrev S2048x2560 : Shape := ⟨2, ![2048, 2560]⟩
abbrev S64x2560 : Shape := ⟨2, ![64, 2560]⟩

abbrev nBuf : Space → Nat
  | .hbm => 7
  | .vmem => 14
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S2048x2560, .f32⟩
  | .hbm, ⟨3, _⟩ => ⟨S2048x2560, .f32⟩
  | .hbm, ⟨4, _⟩ => ⟨S2048x2560, .f32⟩
  | .hbm, ⟨5, _⟩ => ⟨S2048x2560, .f32⟩
  | .hbm, ⟨6, _⟩ => ⟨S2048x2560, .f32⟩
  | .local _ .vmem, ⟨0, _⟩ => ⟨S64x2560, .f32⟩
  | .local _ .vmem, ⟨1, _⟩ => ⟨S64x2560, .f32⟩
  | .local _ .vmem, ⟨2, _⟩ => ⟨S64x2560, .f32⟩
  | .local _ .vmem, ⟨3, _⟩ => ⟨S64x2560, .f32⟩
  | .local _ .vmem, ⟨4, _⟩ => ⟨S64x2560, .f32⟩
  | .local _ .vmem, ⟨5, _⟩ => ⟨S64x2560, .f32⟩
  | .local _ .vmem, ⟨6, _⟩ => ⟨S64x2560, .f32⟩
  | .local _ .vmem, ⟨7, _⟩ => ⟨S64x2560, .f32⟩
  | .local _ .vmem, ⟨8, _⟩ => ⟨S64x2560, .f32⟩
  | .local _ .vmem, ⟨9, _⟩ => ⟨S64x2560, .f32⟩
  | .local _ .vmem, ⟨10, _⟩ => ⟨S64x2560, .f32⟩
  | .local _ .vmem, ⟨11, _⟩ => ⟨S64x2560, .f32⟩
  | .local _ .vmem, ⟨12, _⟩ => ⟨S64x2560, .f32⟩
  | .local _ .vmem, ⟨13, _⟩ => ⟨S64x2560, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAttnInIdeal.lean ====
abbrev S2048x2560 : Shape := ⟨2, ![2048, 2560]⟩
abbrev S64x2560 : Shape := ⟨2, ![64, 2560]⟩

abbrev nBuf : Space → Nat
  | .hbm => 7
  | .vmem => 14
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S2048x2560, .f32⟩
  | .hbm, ⟨3, _⟩ => ⟨S2048x2560, .f32⟩
  | .hbm, ⟨4, _⟩ => ⟨S2048x2560, .f32⟩
  | .hbm, ⟨5, _⟩ => ⟨S2048x2560, .f32⟩
  | .hbm, ⟨6, _⟩ => ⟨S2048x2560, .f32⟩
  | .local _ .vmem, ⟨0, _⟩ => ⟨S64x2560, .f32⟩
  | .local _ .vmem, ⟨1, _⟩ => ⟨S64x2560, .f32⟩
  | .local _ .vmem, ⟨2, _⟩ => ⟨S64x2560, .f32⟩
  | .local _ .vmem, ⟨3, _⟩ => ⟨S64x2560, .f32⟩
  | .local _ .vmem, ⟨4, _⟩ => ⟨S64x2560, .f32⟩
  | .local _ .vmem, ⟨5, _⟩ => ⟨S64x2560, .f32⟩
  | .local _ .vmem, ⟨6, _⟩ => ⟨S64x2560, .f32⟩
  | .local _ .vmem, ⟨7, _⟩ => ⟨S64x2560, .f32⟩
  | .local _ .vmem, ⟨8, _⟩ => ⟨S64x2560, .f32⟩
  | .local _ .vmem, ⟨9, _⟩ => ⟨S64x2560, .f32⟩
  | .local _ .vmem, ⟨10, _⟩ => ⟨S64x2560, .f32⟩
  | .local _ .vmem, ⟨11, _⟩ => ⟨S64x2560, .f32⟩
  | .local _ .vmem, ⟨12, _⟩ => ⟨S64x2560, .f32⟩
  | .local _ .vmem, ⟨13, _⟩ => ⟨S64x2560, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAttnInReferenceIdeal.lean ====
abbrev S2048x2560 : Shape := ⟨2, ![2048, 2560]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S2048x2560, .f32⟩
  | .hbm, ⟨2, _⟩ => ⟨S2048x2560, .f32⟩
  | .hbm, ⟨3, _⟩ => ⟨S2048x2560, .f32⟩
  | .hbm, ⟨4, _⟩ => ⟨S_, .f32⟩
  | .hbm, ⟨5, _⟩ => ⟨S2048x2560, .f32⟩
  | .hbm, ⟨6, _⟩ => ⟨S2048x2560, .f32⟩
  | .hbm, ⟨7, _⟩ => ⟨S_, .f32⟩
  | .hbm, ⟨8, _⟩ => ⟨S2048x2560, .f32⟩
  | .hbm, ⟨9, _⟩ => ⟨S2048x2560, .f32⟩
  | .hbm, ⟨10, _⟩ => ⟨S2048x2560, .f32⟩
  | .hbm, ⟨11, _⟩ => ⟨S_, .f32⟩
  | .hbm, ⟨12, _⟩ => ⟨S2048x2560, .f32⟩
  | .hbm, ⟨13, _⟩ => ⟨S2048x2560, .f32⟩
  | .hbm, ⟨14, _⟩ => ⟨S2048x2560, .f32⟩
  | .hbm, ⟨15, _⟩ => ⟨S_, .f32⟩
  | .hbm, ⟨16, _⟩ => ⟨S2048x2560, .f32⟩
  | .hbm, ⟨17, _⟩ => ⟨S2048x2560, .f32⟩
  | .hbm, ⟨18, _⟩ => ⟨S2048x2560, .f32⟩
  | .hbm, ⟨19, _⟩ => ⟨S_, .f32⟩
  | .hbm, ⟨20, _⟩ => ⟨S2048x2560, .f32⟩
  | .hbm, ⟨21, _⟩ => ⟨S2048x2560, .f32⟩
  | .hbm, ⟨22, _⟩ => ⟨S_, .f32⟩
  | .hbm, ⟨23, _⟩ => ⟨S2048x2560, .f32⟩
  | .hbm, ⟨24, _⟩ => ⟨S2048x2560, .f32⟩
  | .hbm, ⟨25, _⟩ => ⟨S2048x2560, .f32⟩
  | .hbm, ⟨26, _⟩ => ⟨S_, .f32⟩
  | .hbm, ⟨27, _⟩ => ⟨S2048x2560, .f32⟩
  | .hbm, ⟨28, _⟩ => ⟨S2048x2560, .f32⟩
  | .hbm, ⟨29, _⟩ => ⟨S2048x2560, .f32⟩
  | .hbm, ⟨30, _⟩ => ⟨S_, .f32⟩
  | .hbm, ⟨31, _⟩ => ⟨S2048x2560, .f32⟩
  | .hbm, ⟨32, _⟩ => ⟨S2048x2560, .f32⟩
  | .hbm, ⟨33, _⟩ => ⟨S2048x2560, .f32⟩
  | .hbm, ⟨34, _⟩ => ⟨S_, .f32⟩
  | .hbm, ⟨35, _⟩ => ⟨S2048x2560, .f32⟩
  | .hbm, ⟨36, _⟩ => ⟨S2048x2560, .f32⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutReferenceIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvIn.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamConvInIdeal.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamConvInReferenceIdeal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvTaps.lean ====
abbrev S62x256 : Shape := ⟨2, ![62, 256]⟩

abbrev nBuf : Space → Nat
  | .hbm => 7
  | .vmem => 7
  | .smem => 0
  | _ => 0

abbrev bufTy : (tb : Table) → Fin (tcTables nBuf tb) → BufTy
  | .hbm, ⟨0, _⟩ => ⟨S62x256, .f32⟩
  | .hbm, ⟨1, _⟩ => ⟨S62x256, .f32⟩
  | .hbm, ⟨2, _⟩ => ⟨S62x256, .f32⟩
  | .hbm, ⟨3, _⟩ => ⟨S62x256, .f32⟩
  | .hbm, ⟨4, _⟩ => ⟨S62x256, .f32⟩
  | .hbm, ⟨5, _⟩ => ⟨S62x256, .f32⟩
  | .hbm, ⟨6, _⟩ => ⟨S62x256, .f32⟩
  | .local _ .vmem, ⟨0, _⟩ => ⟨S62x256, .f32⟩
  | .local _ .vmem, ⟨1, _⟩ => ⟨S62x256, .f32⟩
  | .local _ .vmem, ⟨2, _⟩ => ⟨S62x256, .f32⟩
  | .local _ .vmem, ⟨3, _⟩ => ⟨S62x256, .f32⟩
  | .local _ .vmem, ⟨4, _⟩ => ⟨S62x256, .f32⟩
  | .local _ .vmem, ⟨5, _⟩ => ⟨S62x256, .f32⟩
  | .local _ .vmem, ⟨6, _⟩ => ⟨S62x256, .f32⟩
  | _, _ => ⟨S62x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvTapsIdeal.lean ====
abbrev S62x256 : Shape := ⟨2, ![62, 256]⟩

abbrev nBuf : Space → Nat
  | .hbm => 7
  | .vmem => 7
  | .smem => 0
  | _ => 0

abbrev bufTy : (tb : Table) → Fin (tcTables nBuf tb) → BufTy
  | .hbm, ⟨0, _⟩ => ⟨S62x256, .f32⟩
  | .hbm, ⟨1, _⟩ => ⟨S62x256, .f32⟩
  | .hbm, ⟨2, _⟩ => ⟨S62x256, .f32⟩
  | .hbm, ⟨3, _⟩ => ⟨S62x256, .f32⟩
  | .hbm, ⟨4, _⟩ => ⟨S62x256, .f32⟩
  | .hbm, ⟨5, _⟩ => ⟨S62x256, .f32⟩
  | .hbm, ⟨6, _⟩ => ⟨S62x256, .f32⟩
  | .local _ .vmem, ⟨0, _⟩ => ⟨S62x256, .f32⟩
  | .local _ .vmem, ⟨1, _⟩ => ⟨S62x256, .f32⟩
  | .local _ .vmem, ⟨2, _⟩ => ⟨S62x256, .f32⟩
  | .local _ .vmem, ⟨3, _⟩ => ⟨S62x256, .f32⟩
  | .local _ .vmem, ⟨4, _⟩ => ⟨S62x256, .f32⟩
  | .local _ .vmem, ⟨5, _⟩ => ⟨S62x256, .f32⟩
  | .local _ .vmem, ⟨6, _⟩ => ⟨S62x256, .f32⟩
  | _, _ => ⟨S62x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvTapsReferenceIdeal.lean ====
abbrev S62x256 : Shape := ⟨2, ![62, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S62x256, .f32⟩
  | .hbm, ⟨1, _⟩ => ⟨S62x256, .f32⟩
  | .hbm, ⟨2, _⟩ => ⟨S62x256, .f32⟩
  | .hbm, ⟨3, _⟩ => ⟨S62x256, .f32⟩
  | .hbm, ⟨4, _⟩ => ⟨S_, .f32⟩
  | .hbm, ⟨5, _⟩ => ⟨S62x256, .f32⟩
  | .hbm, ⟨6, _⟩ => ⟨S62x256, .f32⟩
  | .hbm, ⟨7, _⟩ => ⟨S_, .f32⟩
  | .hbm, ⟨8, _⟩ => ⟨S62x256, .f32⟩
  | .hbm, ⟨9, _⟩ => ⟨S62x256, .f32⟩
  | .hbm, ⟨10, _⟩ => ⟨S62x256, .f32⟩
  | .hbm, ⟨11, _⟩ => ⟨S_, .f32⟩
  | .hbm, ⟨12, _⟩ => ⟨S62x256, .f32⟩
  | .hbm, ⟨13, _⟩ => ⟨S62x256, .f32⟩
  | .hbm, ⟨14, _⟩ => ⟨S62x256, .f32⟩
  | .hbm, ⟨15, _⟩ => ⟨S_, .f32⟩
  | .hbm, ⟨16, _⟩ => ⟨S62x256, .f32⟩
  | .hbm, ⟨17, _⟩ => ⟨S62x256, .f32⟩
  | .hbm, ⟨18, _⟩ => ⟨S62x256, .f32⟩
  | .hbm, ⟨19, _⟩ => ⟨S_, .f32⟩
  | .hbm, ⟨20, _⟩ => ⟨S62x256, .f32⟩
  | .hbm, ⟨21, _⟩ => ⟨S62x256, .f32⟩
  | .hbm, ⟨22, _⟩ => ⟨S_, .f32⟩
  | .hbm, ⟨23, _⟩ => ⟨S62x256, .f32⟩
  | .hbm, ⟨24, _⟩ => ⟨S62x256, .f32⟩
  | .hbm, ⟨25, _⟩ => ⟨S62x256, .f32⟩
  | .hbm, ⟨26, _⟩ => ⟨S_, .f32⟩
  | .hbm, ⟨27, _⟩ => ⟨S62x256, .f32⟩
  | .hbm, ⟨28, _⟩ => ⟨S62x256, .f32⟩
  | .hbm, ⟨29, _⟩ => ⟨S62x256, .f32⟩
  | .hbm, ⟨30, _⟩ => ⟨S_, .f32⟩
  | .hbm, ⟨31, _⟩ => ⟨S62x256, .f32⟩
  | .hbm, ⟨32, _⟩ => ⟨S62x256, .f32⟩
  | .hbm, ⟨33, _⟩ => ⟨S62x256, .f32⟩
  | .hbm, ⟨34, _⟩ => ⟨S_, .f32⟩
  | .hbm, ⟨35, _⟩ => ⟨S62x256, .f32⟩
  | .hbm, ⟨36, _⟩ => ⟨S62x256, .f32⟩
  | _, _ => ⟨S62x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvRow.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRowIdeal.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRowReferenceIdeal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPleProj.lean ====
abbrev S1024x256 : Shape := ⟨2, ![1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPleProjIdeal.lean ====
abbrev S1024x256 : Shape := ⟨2, ![1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPleProjReferenceIdeal.lean ====
abbrev S1024x256 : Shape := ⟨2, ![1024, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S_, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPleGate.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPleGateReferenceIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PleProj.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S8192x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjReferenceIdeal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S256x1024, .f32⟩
  | .hbm, ⟨3, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== PleWgrad.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PleWgradReferenceIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S1024x256, .f32⟩
  | .hbm, ⟨7, _⟩ => ⟨S256x1024, .f32⟩
  | .hbm, ⟨8, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RmsNorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsNormReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== LossSum.lean ====
abbrev S8192x1024 : Shape := ⟨2, ![8192, 1024]⟩
abbrev S1x1 : Shape := ⟨2, ![1, 1]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩
abbrev S_ : Shape := ⟨0, ![]⟩

abbrev nBuf : Space → Nat
  | .hbm => 16
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | _ => false

abbrev sig : RefSig :=
  ofTc nBuf bufTy 1 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v4_s0 : Ref sig .tc := ⟨.hbm, 8, rfl⟩
abbrev main_v4_s1 : Ref sig .tc := ⟨.hbm, 9, rfl⟩
abbrev main_v4_s2 : Ref sig .tc := ⟨.hbm, 10, rfl⟩
abbrev main_v4_s3 : Ref sig .tc := ⟨.hbm, 11, rfl⟩
abbrev main_v4_s4 : Ref sig .tc := ⟨.hbm, 12, rfl⟩
abbrev main_v4_s5 : Ref sig .tc := ⟨.hbm, 13, rfl⟩
abbrev main_v4_s6 : Ref sig .tc := ⟨.hbm, 14, rfl⟩
abbrev main_v4_s7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev ar0_recv : DmaSem sig := 7
abbrev ar0_send : DmaSem sig := 8
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v4_s0 | 1 => main_v4_s1 | 2 => main_v4_s2 | 3 => main_v4_s3 | 4 => main_v4_s4 | 5 => main_v4_s5 | 6 => main_v4_s6 | 7 => main_v4_s7 | ⟨_ + 8, h⟩ => absurd h (Nat.not_lt.2 (Nat.le_add_left _ _))

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossSumReferenceIdeal.lean ====
abbrev S65536x1024 : Shape := ⟨2, ![65536, 1024]⟩
abbrev S_ : Shape := ⟨0, ![]⟩
abbrev S65536 : Shape := ⟨1, ![65536]⟩

abbrev nBuf : Space → Nat
  | .hbm => 13
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x1024, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S_, .f32⟩
  | .hbm, ⟨7, _⟩ => ⟨S65536, .f32⟩
  | .hbm, ⟨8, _⟩ => ⟨S65536, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== AttnCombine.lean ====
abbrev S8192x1024 : Shape := ⟨2, ![8192, 1024]⟩
abbrev S8192x10240 : Shape := ⟨2, ![8192, 10240]⟩
abbrev S512x1024 : Shape := ⟨2, ![512, 1024]⟩

abbrev nBuf : Space → Nat
  | .hbm => 10
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x10240, .f32⟩
  | .hbm, ⟨7, _⟩ => ⟨S8192x1024, .bf16⟩
  | .hbm, ⟨8, _⟩ => ⟨S8192x1024, .f32⟩
  | .hbm, ⟨9, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnCombineReferenceIdeal.lean ====
abbrev S8192x1024 : Shape := ⟨2, ![8192, 1024]⟩
abbrev S8192x10240 : Shape := ⟨2, ![8192, 10240]⟩
abbrev S1x8192x1024 : Shape := ⟨3, ![1, 8192, 1024]⟩
abbrev S3x8192x1024 : Shape := ⟨3, ![3, 8192, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x10240, .f32⟩
  | .hbm, ⟨7, _⟩ => ⟨S1x8192x1024, .f32⟩
  | .hbm, ⟨8, _⟩ => ⟨S1x8192x1024, .f32⟩
  | .hbm, ⟨9, _⟩ => ⟨S1x8192x1024, .f32⟩
  | .hbm, ⟨10, _⟩ => ⟨S3x8192x1024, .f32⟩
  | .hbm, ⟨11, _⟩ => ⟨S1x8192x1024, .f32⟩
  | .hbm, ⟨12, _⟩ => ⟨S1x8192x1024, .f32⟩
  | .hbm, ⟨13, _⟩ => ⟨S1x8192x1024, .f32⟩
  | .hbm, ⟨14, _⟩ => ⟨S3x8192x1024, .f32⟩
  | .hbm, ⟨15, _⟩ => ⟨S_, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S1x8192x1024, .f32⟩
  | .hbm, ⟨21, _⟩ => ⟨S3x8192x1024, .f32⟩
  | .hbm, ⟨22, _⟩ => ⟨S3x8192x1024, .f32⟩
  | .hbm, ⟨23, _⟩ => ⟨S3x8192x1024, .f32⟩
  | .hbm, ⟨24, _⟩ => ⟨S_, .f32⟩
  | .hbm, ⟨25, _⟩ => ⟨S8192x1024, .f32⟩
  | .hbm, ⟨26, _⟩ => ⟨S1x8192x1024, .f32⟩
  | .hbm, ⟨27, _⟩ => ⟨S3x8192x1024, .f32⟩
  | .hbm, ⟨28, _⟩ => ⟨S3x8192x1024, .f32⟩
  | .hbm, ⟨29, _⟩ => ⟨S3x8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | .hbm, ⟨44, _⟩ => ⟨S3x8192x1024, .f32⟩
  | .hbm, ⟨45, _⟩ => ⟨S_, .f32⟩
  | .hbm, ⟨46, _⟩ => ⟨S8192x1024, .f32⟩
  | .hbm, ⟨47, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== GateBwd.lean ====
abbrev S8192x1024 : Shape := ⟨2, ![8192, 1024]⟩
abbrev S8192x10240 : Shape := ⟨2, ![8192, 10240]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x10240, .f32⟩
  | .hbm, ⟨3, _⟩ => ⟨S8192x1024, .f32⟩
  | .hbm, ⟨4, _⟩ => ⟨S8192x10240, .f32⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateBwdReferenceIdeal.lean ====
abbrev S8192x1024 : Shape := ⟨2, ![8192, 1024]⟩
abbrev S8192x10240 : Shape := ⟨2, ![8192, 10240]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x10240, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩

abbrev nD : Nat := 1
abbrev τ : Topo := Topo.v7x

variable {F : FTy → Type} [FloatOps F]
-- ==== ConvNormBwd.lean ====
abbrev S8192x1024 : Shape := ⟨2, ![8192, 1024]⟩
abbrev S1x1024 : Shape := ⟨2, ![1, 1024]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ConvNormBwdReferenceIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .bf16⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S8192x1, .f32⟩
  | .hbm, ⟨94, _⟩ => ⟨S8192x1024, .f32⟩
  | .hbm, ⟨95, _⟩ => ⟨S_, .f32⟩
  | .hbm, ⟨96, _⟩ => ⟨S8192, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S_, .f32⟩
  | .hbm, ⟨107, _⟩ => ⟨S8192, .f32⟩
  | .hbm, ⟨108, _⟩ => ⟨S8192x1, .f32⟩
  | .hbm, ⟨109, _⟩ => ⟨S8192x1024, .f32⟩
  | .hbm, ⟨110, _⟩ => ⟨S8192x1, .f32⟩
  | .hbm, ⟨111, _⟩ => ⟨S_, .f32⟩
  | .hbm, ⟨112, _⟩ => ⟨S8192x1, .f32⟩
  | .hbm, ⟨113, _⟩ => ⟨S8192x1, .f32⟩
  | .hbm, ⟨114, _⟩ => ⟨S_, .f32⟩
  | .hbm, ⟨115, _⟩ => ⟨S8192, .f32⟩
  | .hbm, ⟨116, _⟩ => ⟨S8192x1024, .f32⟩
  | .hbm, ⟨117, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v27_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v27_1 : Ref sig .tc := ⟨.hbm, 50, rfl⟩
abbrev main_v27_0 : Ref sig .tc := ⟨.hbm, 51, rfl⟩
abbrev main_v28 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_v29_2 : Ref sig .tc := ⟨.hbm, 60, rfl⟩
abbrev main_call1_cst_1 : Ref sig .tc := ⟨.hbm, 61, rfl⟩
abbrev main_call1_v6 : Ref sig .tc := ⟨.hbm, 62, rfl⟩
abbrev main_call1_v7 : Ref sig .tc := ⟨.hbm, 63, rfl⟩
abbrev main_v29_1 : Ref sig .tc := ⟨.hbm, 64, rfl⟩
abbrev main_v29_0 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v33 : Ref sig .tc := ⟨.hbm, 72, rfl⟩
abbrev main_v34 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v35 : Ref sig .tc := ⟨.hbm, 77, rfl⟩
abbrev main_cst_6 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_7 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_8 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_9 : Ref sig .tc := ⟨.hbm, 95, rfl⟩
abbrev main_v50 : Ref sig .tc := ⟨.hbm, 96, rfl⟩
abbrev main_v51 : Ref sig .tc := ⟨.hbm, 97, rfl⟩
abbrev main_cst_10 : Ref sig .tc := ⟨.hbm, 98, rfl⟩
abbrev main_v52 : Ref sig .tc := ⟨.hbm, 99, rfl⟩
abbrev main_v53 : Ref sig .tc := ⟨.hbm, 100, rfl⟩
abbrev main_cst_11 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_12 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_13 : Ref sig .tc := ⟨.hbm, 111, rfl⟩
abbrev main_v62 : Ref sig .tc := ⟨.hbm, 112, rfl⟩
abbrev main_v63 : Ref sig .tc := ⟨.hbm, 113, rfl⟩
abbrev main_cst_14 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩

abbrev nD : Nat := 1
abbrev τ : Topo := Topo.v7x

variable {F : FTy → Type} [FloatOps F]
-- ==== Proof.AttnInValue.lean ====
/- The input projection of the attention: the array the tiled product writes, entry by entry, is the product of
   the two argument arrays. -/
module

public import proofs.«01_k».proof.Defs
public import proofs.«01_k».proof.Proof.Gen.AttnInIdeal.Value
public import proofs.«01_k».proof.Proof.Gen.AttnInReferenceIdeal.Run
public import proofs.«01_k».proof.Proof.Gen.AttnInReferenceIdeal.Read
public import Idealize.ShloMosaic.Lib.Pipeline.ValueKit.Geometry
public import Idealize.ShloMosaic.Lib.Pipeline.ValueKit.Acc
public import Idealize.ShloMosaic.Lib.Pointwise

@[expose] public section

noncomputable section

namespace Cert.AttnInIdeal.Hand

open Cert.AttnInIdeal Cert.AttnInIdeal.Gen Idealize.ShloMosaic Idealize.ShloMosaic.TcCoe Idealize.SL.Sem

variable (m : (ℓ : Loc nD τ sig) → Buf (Elt Ideal) ℓ) (ρ : Dev nD → PrngReg)

/-- One tile's product at an entry. -/
theorem tile_apply (a b : Vec Ideal S1024x1024 .bf16) (y : S1024x1024.Idx) :
    k0_pay1 (F := Ideal) a b y = ∑ k : Fin 1024, a (ix2 (y 0) k) * b (ix2 k (y 1)) := by
  pointwise [k0_pay1]

/-- Where the three windows sit at a point: the row block, the column block, and both. -/
theorem places : ∀ t : Fin cfg0.N, win0_0.index t = ![t.val / 10, 0] ∧ win0_1.index t = ![0, t.val % 10]
    ∧ win0_2.index t = ![t.val / 10, t.val % 10] :=
  (by decide +kernel : ∀ t : Fin grid0.N, _)

/-- After the run the output array is the product of the argument arrays. -/
theorem final (c : Dev nD) : (dats m 0 c).arrAt 2 cfg0.N
    = Cert.AttnInReferenceIdeal.Read.val_main_v2 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := places t
  blk_simp
  rw [after0_2]
  frame_out
  rw [tile_apply, Cert.AttnInReferenceIdeal.Read.val_main_v2_apply]
  refine Fin.sum_fin_congr fun k => ?_
  rw [Cert.AttnInReferenceIdeal.Read.val_main_v0_apply, Cert.AttnInReferenceIdeal.Read.val_main_v1_apply]
  congr 1
  · blk_ext [iblk, V, e0, e2]
  · blk_ext [iblk, V, e1, e2]

/-- The kernel and the plain product end with equal arrays. -/
theorem equal : Cert.algebraic_AttnInIdeal_AttnInReferenceIdeal (hAttnInIdeal := Cert.AttnInIdeal.Gen.facts)
    (hAttnInReferenceIdeal := Cert.AttnInReferenceIdeal.Gen.facts) := by
  intro m g m' g' _ hargs
  refine ⟨fun c => Cert.AttnInReferenceIdeal.Read.val_main_v2 (F := Ideal) (m ((c : Thread nD τ).loc main_arg0)) (m ((c : Thread nD τ).loc main_arg1)), ?_, ?_⟩
  · refine (θ_run defs _ _).mono (fun r h c => ?_) (Cert.AttnInIdeal.Value.run_blocks m g)
    exact ⟨(h c).1.trans (final m c), (h c).2⟩
  · refine (θ_run Cert.AttnInReferenceIdeal.defs _ _).mono (fun r h c => ?_) (Cert.AttnInReferenceIdeal.Value.run m' g')
    refine ⟨(h c).1.trans ?_, (h c).2⟩
    rw [(hargs c).1, (hargs c).2]
    rfl

end Cert.AttnInIdeal.Hand

end
-- ==== Proof.Logistic.lean ====
/- The logistic function on the extended reals. -/
module

public import Idealize.ShloMosaic.PureOps
public import Idealize.ShloMosaic.Lib.IdealHost

@[expose] public section

noncomputable section

namespace Cert.Logistic

open Idealize.ShloMosaic

/-- The logistic function, as both programs write it. -/
abbrev logistic (z : EReal) : EReal := Ideal.div 1 (1 + (FloatOps.exp (-z : Ideal .f32) : Ideal .f32))

end Cert.Logistic

end
-- ==== Proof.GateBwdValue.lean ====
/- The gradient through the attention's gate: each array the rows' kernel writes is, at every entry it writes, the derivative of the
   gated output, whenever the products of the cotangent and the ungated output are finite. The second array is read where it is
   written, in its last block of columns. -/
module

public import proofs.«01_k».proof.Defs
public import proofs.«01_k».proof.Proof.Logistic
public import proofs.«01_k».proof.Proof.Gen.GateBwdIdeal.Frame
public import proofs.«01_k».proof.Proof.Gen.GateBwdReferenceIdeal.Run
public import proofs.«01_k».proof.Proof.Gen.GateBwdReferenceIdeal.Read
public import proofs.«01_k».proof.Proof.Gen.Pre_finite_product
public import Idealize.ShloMosaic.Lib.Pipeline.ValueKit.Geometry
public import Idealize.ShloMosaic.Lib.Pipeline.ValueKit.Partial
public import Idealize.ShloMosaic.Lib.Pipeline.ValueKit.Acc
public import Idealize.ShloMosaic.Lib.Pointwise
public import Idealize.ShloMosaic.Lib.ReduceAll
public import Idealize.ShloMosaic.PureOps.Ideal.Laws

@[expose] public section

noncomputable section

namespace Cert.GateBwdIdeal.Hand

open Cert.GateBwdIdeal Cert.GateBwdIdeal.Gen Cert.GateBwdReferenceIdeal.Read Cert.Logistic Idealize.ShloMosaic Idealize.ShloMosaic.TcCoe Idealize.SL.Sem

/-! ## On the extended reals -/

/-- The logistic of a real is a real; at the two infinities it is one and zero. -/
theorem logistic_real (z : ℝ) : ∃ s : ℝ, logistic (z : EReal) = s := by
  refine ⟨1 * (1 / (1 + Real.exp (-z))), ?_⟩
  have h : (1 + Real.exp (-z)) ≠ 0 := by positivity
  show Ideal.div 1 (1 + Ideal.exp (-(z : EReal))) = _
  rw [← EReal.coe_neg, Ideal.exp_coe, ← EReal.coe_one, ← EReal.coe_add, Ideal.div_coe h, ← EReal.coe_mul]

theorem logistic_top : logistic ⊤ = 1 := by
  show Ideal.div 1 (1 + Ideal.exp (-⊤)) = 1
  rw [EReal.neg_top, Ideal.exp_bot, add_zero, ← EReal.coe_one, Ideal.div_coe one_ne_zero, ← EReal.coe_mul]
  norm_num

theorem logistic_bot : logistic ⊥ = 0 := by
  show Ideal.div 1 (1 + Ideal.exp (-⊥)) = 0
  rw [EReal.neg_bot, Ideal.exp_top, show (1 : EReal) + ⊤ = ⊤ from rfl]
  simp [Ideal.div]

/-- The derivative of the gate, gathered into one product and as the product rule's sum. -/
theorem gathered (a b z : EReal) (h : ∃ r : ℝ, a * b = r) : a * b * logistic z * (1 + z * (1 - logistic z))
    = a * b * logistic z + z * (a * b) * (logistic z * (1 - logistic z)) := by
  obtain ⟨p, hp⟩ := h
  rw [hp]
  induction z with
  | coe z =>
    obtain ⟨s, hs⟩ := logistic_real z
    rw [hs]
    norm_cast
    ring
  | top =>
    rw [logistic_top, show (1 : EReal) - 1 = 0 from by rw [← EReal.coe_one, ← EReal.coe_sub, sub_self, EReal.coe_zero]]
    simp
  | bot =>
    rw [logistic_bot]
    simp

/-- An extended real of magnitude below infinity is a real. -/
theorem real_of_lt (x : EReal) (h : max x (-x) < ⊤) : ∃ r : ℝ, x = r := by
  induction x with
  | bot => simp at h
  | top => simp at h
  | coe r => exact ⟨r, rfl⟩

theorem inf_eq : Ideal.ofBits .f32 0x7F800000#32 = ⊤ := by simp [Ideal.ofBits, Ideal.ieee]

/-- The product of two arrays' entries is a real. -/
abbrev RealProduct (x0 x1 : Vec Ideal S8192x1024 .f32) (i : S8192x1024.Idx) : Prop := ∃ r : ℝ, x0 i * x1 i = r

/-- What the hypothesis says of its arguments. -/
theorem finite_args [Cert.Pre_finite_product.Facts] (x0 x1 : Vec Ideal S8192x1024 .f32) (x2 : Vec Ideal S8192x10240 .f32)
    (h : Cert.Pre_finite_product.fn (F := Ideal) x0 x1 x2 = fun _ => 1#1) (i : S8192x1024.Idx) : RealProduct x0 x1 i := by
  simp only [Cert.Pre_finite_product.fn] at h
  haveI : Subsingleton Pre_finite_product.S_.Idx := ⟨fun a b => funext fun k => k.elim0⟩
  have e := Host.reduce_andi_all _ _ _ _ (fun k => k.elim0) (congrFun h _) i
  refine real_of_lt _ ?_
  change BitVec.ofBool (decide (max (x0 i * x1 i) (-(x0 i * x1 i)) < Ideal.ofBits .f32 0x7F800000#32)) = 1#1 at e
  rw [inf_eq] at e
  by_contra hn
  rw [decide_eq_false hn] at e
  exact absurd e (by decide)

/-! ## The kernel's block -/

theorem out_apply (a z : Vec Ideal S512x1024 .f32) (y : S512x1024.Idx) :
    k0_pay2 (F := Ideal) a z y = a y * (z y * logistic (z y)) := by
  unfold k0_pay2 k0_pay1
  pointwise []
  rw [zero_sub, mul_assoc]
  rfl

theorem gate_apply (a z o : Vec Ideal S512x1024 .f32) (y : S512x1024.Idx) :
    k0_pay3 (F := Ideal) a z o y = a y * o y * logistic (z y) * (1 + z y * (1 - logistic (z y))) := by
  unfold k0_pay3 k0_pay1
  pointwise []
  rw [zero_sub]
  rfl

/-! ## The reference's arrays -/

variable (x0 x1 : Vec Ideal S8192x1024 .f32) (x2 : Vec Ideal S8192x10240 .f32) (i : S8192x1024.Idx)

/-- The logistic of the gate's columns. -/
theorem sigma_apply : val_main_v1_2 (F := Ideal) x2 i = logistic (x2 (idx_main_v0 i)) := by
  rw [val_main_v1_2_apply, val_main_call0_v4_apply, val_main_call0_cst_0_apply, val_main_call0_v3_apply, val_main_call0_v2_apply,
    val_main_call0_cst_apply, val_main_call0_v1_apply, val_main_call0_v0_apply, val_main_v0_apply,
    show (FloatOps.ofBits .f32 0x3F800000#32 : Ideal .f32) = 1 from Ideal.ofBits_one_f32]
  rfl

/-- The gradient of the ungated output. -/
theorem first_apply : val_main_v4 (F := Ideal) x0 x2 i = x0 i * (x2 (idx_main_v0 i) * logistic (x2 (idx_main_v0 i))) := by
  rw [val_main_v4_apply, val_main_v1_0_apply, sigma_apply, val_main_v0_apply]
  rfl

/-- The gradient of the gate, as the product rule's sum. -/
theorem second_apply : val_main_v5 (F := Ideal) x0 x1 x2 i = x0 i * x1 i * logistic (x2 (idx_main_v0 i))
    + x2 (idx_main_v0 i) * (x0 i * x1 i) * (logistic (x2 (idx_main_v0 i)) * (1 - logistic (x2 (idx_main_v0 i)))) := by
  rw [val_main_v5_apply, val_main_call1_v1_apply, val_main_call1_v2_apply, val_main_call1_v0_apply, val_main_v3_apply,
    val_main_v1_1_apply, val_main_call0_v7_apply, val_main_call0_v6_apply, val_main_call0_cst_1_apply, sigma_apply, val_main_v0_apply,
    show (FloatOps.ofBits .f32 0x3F800000#32 : Ideal .f32) = 1 from Ideal.ofBits_one_f32, mul_comm (x0 i) (x1 i)]
  rfl

/-! ## The arrays after the run -/

variable (m : (ℓ : Loc nD τ sig) → Buf (Elt Ideal) ℓ)

/-- Where the windows sit at a point: the block of rows, the gate's in the tenth column block. -/
theorem places : ∀ t : Fin cfg0.N, win0_0.index t = ![t.val, 0] ∧ win0_1.index t = ![t.val, 0] ∧ win0_2.index t = ![t.val, 9]
    ∧ win0_3.index t = ![t.val, 0] ∧ win0_4.index t = ![t.val, 9] :=
  (by decide +kernel : ∀ t : Fin grid0.N, _)

/-- What the hypothesis says of the two arrays. -/
theorem finite (hm : Cert.Pre_GateBwdIdeal_finite_product (hPre_finite_product := Cert.Pre_finite_product.Gen.facts) m) (c : Dev nD)
    (i : S8192x1024.Idx) : RealProduct (m ((c : Thread nD τ).loc main_arg0)) (m ((c : Thread nD τ).loc main_arg1)) i :=
  letI := Cert.Pre_finite_product.Gen.facts
  finite_args _ _ _ (hm c) i

/-- The second result: the gradient of the gate. -/
abbrev gate (c : Dev nD) : Vec Ideal S8192x1024 .f32 :=
  val_main_v5 (F := Ideal) (m ((c : Thread nD τ).loc main_arg0)) (m ((c : Thread nD τ).loc main_arg1)) (m ((c : Thread nD τ).loc main_arg2))

/-- A place of the wide array, seen in its last block of columns. -/
abbrev narrow (j : S8192x10240.Idx) : S8192x1024.Idx := fun a => match a with
  | ⟨0, _⟩ => ⟨(j 0).val, (j 0).isLt⟩
  | ⟨1, _⟩ => ⟨(j 1).val - 9216, by have h : (j 1).val < 10240 := (j 1).isLt; show (j 1).val - 9216 < 1024; omega⟩

theorem narrow_idx (i : S8192x1024.Idx) : narrow (idx_main_v0 i) = i :=
  funext fun a => Fin.ext (by
    match a with
    | ⟨0, _⟩ => rfl
    | ⟨1, _⟩ => show 9216 + (i 1).val - 9216 = (i 1).val; omega)

/-- After the run the first array is the gradient of the ungated output. -/
theorem final_o (c : Dev nD) : (dats m 0 c).arrAt 3 cfg0.N
      = val_main_v4 (F := Ideal) (m ((c : Thread nD τ).loc main_arg0)) (m ((c : Thread nD τ).loc main_arg2)) := by
  refine (dats m 0 c).arrAt_eq_of_covers 3 _ (by decide +kernel) fun t hf y => ?_
  obtain ⟨e0, _, e2, e3, _⟩ := places t
  have h0 : (((cfg0.win 3).blk t).view.emb y 0 : Fin 8192).val = t.val * 512 + (y 0).val := by blk_simp [e3]
  have h1 : (((cfg0.win 3).blk t).view.emb y 1 : Fin 1024).val = (y 1).val := by blk_simp [e3]
  generalize ((cfg0.win 3).blk t).view.emb y = i at h0 h1
  blk_simp
  rw [after0_3]
  unfold out0_3
  frame_out
  have ha : iblk m c 0 t y = (m ((c : Thread nD τ).loc main_arg0) : Vec Ideal S8192x1024 .f32) i := by
    blk_ext [iblk, V, e0, h0, h1]
  have hz : iblk m c 2 t y = (m ((c : Thread nD τ).loc main_arg2) : Vec Ideal S8192x10240 .f32) (idx_main_v0 i) := by
    blk_ext [iblk, V, e2, h0, h1]
  rw [out_apply, first_apply, ha, hz]

/-- After the run the second array is, in its last block of columns, the gradient of the gate. -/
theorem final_z (hm : Cert.Pre_GateBwdIdeal_finite_product (hPre_finite_product := Cert.Pre_finite_product.Gen.facts) m) (c : Dev nD)
    (i : S8192x1024.Idx) : ((dats m 0 c).arrAt 4 cfg0.N : Vec Ideal S8192x10240 .f32) (idx_main_v0 i) = gate m c i := by
  refine ((dats m 0 c).arrAt_apply_of_coversWhere 4 (fun j => gate m c (narrow j)) (P := fun j => (j 1 : Fin 10240).val / 1024 = 9)
    (fun β => β (1 : Fin 2) = 9) (by decide +kernel) (fun t hf y => ?_) (fun j => Iff.rfl) (idx_main_v0 i)).trans ?_
  · obtain ⟨e0, e1, e2, _, e4⟩ := places t
    have h0 : (((cfg0.win 4).blk t).view.emb y 0 : Fin 8192).val = t.val * 512 + (y 0).val := by blk_simp [e4]
    have h1 : (((cfg0.win 4).blk t).view.emb y 1 : Fin 10240).val = 9 * 1024 + (y 1).val := by blk_simp [e4]
    generalize ((cfg0.win 4).blk t).view.emb y = j at h0 h1
    have n0 : (narrow j 0).val = t.val * 512 + (y 0).val := h0
    have n1 : (narrow j 1).val = (y 1).val := by show (j 1).val - 9216 = (y 1).val; omega
    generalize narrow j = i at n0 n1
    blk_simp
    rw [after0_4]
    unfold out0_4
    frame_out
    have ha : iblk m c 0 t y = (m ((c : Thread nD τ).loc main_arg0) : Vec Ideal S8192x1024 .f32) i := by
      blk_ext [iblk, V, e0, n0, n1]
    have ho : iblk m c 1 t y = (m ((c : Thread nD τ).loc main_arg1) : Vec Ideal S8192x1024 .f32) i := by
      blk_ext [iblk, V, e1, n0, n1]
    have hz : iblk m c 2 t y = (m ((c : Thread nD τ).loc main_arg2) : Vec Ideal S8192x10240 .f32) (idx_main_v0 i) := by
      blk_ext [iblk, V, e2, n0, n1]
    rw [gate_apply, ha, ho, hz]
    refine Eq.trans ?_ (second_apply _ _ _ i).symm
    exact gathered _ _ _ (finite m hm c i)
  · have h : (i 1).val < 1024 := (i 1).isLt
    have h9 : (idx_main_v0 i 1 : Fin 10240).val / 1024 = 9 := by show (9216 + (i 1).val) / 1024 = 9; omega
    exact (if_pos h9).trans (congrArg (gate m c) (narrow_idx i))

/-- Every run ends with the first array at the gradient of the ungated output, the slice at that of the gate, and the arguments as
    they were. -/
theorem run_value (hm : Cert.Pre_GateBwdIdeal_finite_product (hPre_finite_product := Cert.Pre_finite_product.Gen.facts) m)
    (g : Dev nD → PrngReg) : θ_run (defs (F := Ideal)) (onTc (τ := τ) (main (F := Ideal))) ⟨m, fun _ => 0, g⟩ (fun r => ∀ c : Dev nD,
      r.2.mem ((c.tc : Thread nD τ).loc main_v0_0)
        = val_main_v4 (F := Ideal) (m ((c : Thread nD τ).loc main_arg0)) (m ((c : Thread nD τ).loc main_arg2))
      ∧ r.2.mem ((c.tc : Thread nD τ).loc main_v1) = gate m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (θ_run_and (run_main m g) (unchanged m g))
  refine ⟨((h.1 c).1 3).trans (final_o m c), ((h.1 c).2 main_v1 (by decide)).trans ?_, h.2 c⟩
  unfold Pipeline.afterTail₀
  have e : Pipeline.withArrays (cfgs 0).spec c (V0 m c) (fun w => (dats m 0 c).arrAt w (cfgs 0).N) (Proc.devRef .tc main_v0_1)
      = (dats m 0 c).arrAt 4 cfg0.N :=
    Pipeline.withArrays_arr spec0 launch0.win.arr_inj c (V0 m c) (fun w => (dats m 0 c).arrAt w cfg0.N) 4
  generalize Pipeline.withArrays (cfgs 0).spec c (V0 m c) (fun w => (dats m 0 c).arrAt w (cfgs 0).N) = W at e
  rw [show StableHlo.after [hostOps1 (F := Ideal)].flatten W (Proc.devRef .tc main_v1)
    = extractStridedSlice S8192x1024 ![0, 9216] (W (Proc.devRef .tc main_v0_1) : Vec Ideal S8192x10240 .f32) slices_S8192x10240_S8192x1024_0_9216 from by
      show StableHlo.after hostOps1 W (Proc.devRef .tc main_v1) = _; after_results, e]
  funext i
  rw [← final_z m hm c i]
  exact val_main_v0_apply _ i

/-- The kernel and the derivative end with equal arrays. -/
theorem equal : Cert.algebraic_GateBwdIdeal_GateBwdReferenceIdeal_pre_finite_product
    (hGateBwdIdeal := Cert.GateBwdIdeal.Gen.facts) (hGateBwdReferenceIdeal := Cert.GateBwdReferenceIdeal.Gen.facts)
    (hPre_finite_product := Cert.Pre_finite_product.Gen.facts) := by
  intro m g m' g' hm hargs
  refine ⟨fun c => val_main_v4 (F := Ideal) (m ((c : Thread nD τ).loc main_arg0)) (m ((c : Thread nD τ).loc main_arg2)),
    fun c => gate m c, run_value m hm g, ?_⟩
  refine (θ_run Cert.GateBwdReferenceIdeal.defs _ _).mono (fun r h c => ?_) (Cert.GateBwdReferenceIdeal.Value.run m' g')
  obtain ⟨a0, a1, a2⟩ := hargs c
  refine ⟨(h c).1.trans ?_, (h c).2.1.trans ?_, (h c).2.2⟩
  · rw [val_main_v4_eq, a0, a2]
  · rw [val_main_v5_eq, a0, a1, a2]

end Cert.GateBwdIdeal.Hand

end
-- ==== Proof.NormGrad.lean ====
/- The derivative of a row's root-mean-square norm: the form with a mean of products, and the form that
   differentiates the reciprocal root, are equal on all extended reals. -/
module

public import Idealize.ShloMosaic.PureOps
public import Idealize.ShloMosaic.Lib.IdealHost
public import Idealize.ShloMosaic.Lib.Pointwise

@[expose] public section

noncomputable section

namespace Cert.NormGrad

open Idealize.ShloMosaic

/-- The width of a row, as the programs write it. -/
abbrev width : EReal := Ideal.ofBits .f32 0x44800000#32

theorem width_eq : width = ((1024 : ℝ) : EReal) := by
  simp [width, Ideal.ofBits, Ideal.ieee]
  rw [← EReal.coe_mul]
  norm_num

theorem half_eq : Ideal.ofBits .f32 0xBF000000#32 = ((-(1 / 2) : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem eps_pos : ∃ e : ℝ, 0 < e ∧ Ideal.ofBits .f32 0x358637BD#32 = (e : EReal) := by
  refine ⟨_, ?_, by simp only [Ideal.ofBits, Ideal.ieee]; rfl⟩
  simp

/-- A row's mean square with the small constant added. -/
abbrev meanSq (x : Fin 1024 → EReal) : EReal :=
  Ideal.div (∑ k, x k * x k) width + Ideal.ofBits .f32 0x358637BD#32

/-- The factor that norms a row. -/
abbrev scale (x : Fin 1024 → EReal) : EReal := Ideal.rsqrt (meanSq x)

theorem sq_nonneg (a : EReal) : 0 ≤ a * a := by
  rcases le_total 0 a with h | h
  · exact mul_nonneg h h
  · have h' : 0 ≤ -a := EReal.neg_nonneg.mpr h
    have := mul_nonneg h' h'
    rwa [neg_mul_neg] at this

theorem div_width (a : EReal) : Ideal.div a width = a * (((1024 : ℝ)⁻¹ : ℝ) : EReal) := by
  rw [width_eq]
  unfold Ideal.div
  rw [if_neg (by exact_mod_cast (by norm_num : (1024 : ℝ) ≠ 0)), EReal.coe_inv]

/-- A mean square is infinite or a positive real. -/
theorem meanSq_cases (x : Fin 1024 → EReal) : meanSq x = ⊤ ∨ ∃ v : ℝ, 0 < v ∧ meanSq x = (v : EReal) := by
  obtain ⟨e, he, hb⟩ := eps_pos
  have h0 : 0 ≤ Ideal.div (∑ k, x k * x k) width := by
    rw [div_width]
    exact mul_nonneg (Finset.sum_nonneg fun k _ => sq_nonneg (x k)) (by exact_mod_cast (by norm_num : (0 : ℝ) ≤ (1024 : ℝ)⁻¹))
  unfold meanSq
  rw [hb]
  generalize Ideal.div (∑ k, x k * x k) width = s at h0
  induction s with
  | bot => exact absurd h0 (by simp)
  | top => exact .inl (EReal.top_add_coe e)
  | coe s => exact .inr ⟨s + e, add_pos_of_nonneg_of_pos (by exact_mod_cast h0) he, (EReal.coe_add s e).symm⟩

/-- A nonnegative real factor moves into a sum. -/
theorem sum_mul_real {n : ℕ} (a : Fin n → EReal) (r : ℝ) (hr : 0 ≤ r) : ∑ k, a k * (r : EReal) = (∑ k, a k) * (r : EReal) := by
  induction n with
  | zero => simp
  | succ n ih =>
    rw [Fin.sum_univ_succ, Fin.sum_univ_succ, ih, EReal.right_distrib_of_nonneg_of_ne_top (by exact_mod_cast hr) (EReal.coe_ne_top r)]

/-- The two forms of the derivative at a column. -/
theorem grad_eq (x d : Fin 1024 → EReal) (c : Fin 1024) :
    scale x * (d c - x c * scale x * Ideal.div (∑ k, d k * (x k * scale x)) width)
      = d c * scale x + Ideal.div ((∑ k, x k * d k) * (Ideal.ofBits .f32 0xBF000000#32 * Ideal.div (scale x) (meanSq x))) width
          * (Ideal.ofBits .f32 0x40000000#32 * x c) := by
  rw [half_eq, two_eq, div_width, div_width]
  rcases meanSq_cases x with h | ⟨v, hv, h⟩
  · have hs : scale x = 0 := by rw [scale, h, Ideal.rsqrt_top]
    rw [hs]
    simp [Ideal.div, h]
  · have hs : scale x = (((Real.sqrt v)⁻¹ : ℝ) : EReal) := by
      rw [scale, h, Ideal.rsqrt_coe, if_neg (not_lt.mpr hv.le), if_neg hv.ne']
    rw [h, hs]
    have hr : 0 < (Real.sqrt v)⁻¹ := inv_pos.mpr (Real.sqrt_pos.mpr hv)
    have hrr : (Real.sqrt v)⁻¹ * (Real.sqrt v)⁻¹ = v⁻¹ := by rw [← mul_inv, Real.mul_self_sqrt hv.le]
    have hd : Ideal.div (((Real.sqrt v)⁻¹ : ℝ) : EReal) (v : EReal) = (((Real.sqrt v)⁻¹ * v⁻¹ : ℝ) : EReal) := by
      unfold Ideal.div
      rw [if_neg (by exact_mod_cast hv.ne'), EReal.coe_mul, EReal.coe_inv v]
    rw [hd]
    generalize (Real.sqrt v)⁻¹ = r at hr hrr
    have hsum : ∑ k, d k * (x k * (r : EReal)) = (∑ k, x k * d k) * (r : EReal) := by
      rw [← sum_mul_real _ r hr.le]
      exact Finset.sum_congr rfl fun k _ => by ac_rfl
    rw [hsum]
    generalize ∑ k, x k * d k = S
    rw [sub_eq_add_neg, EReal.left_distrib_of_nonneg_of_ne_top (by exact_mod_cast hr.le) (EReal.coe_ne_top r), mul_comm (r : EReal) (d c)]
    congr 1
    have e1 : (r : EReal) * -(x c * r * (S * r * (((1024 : ℝ)⁻¹ : ℝ) : EReal))) = -(S * x c * ((r * r * r * (1024 : ℝ)⁻¹ : ℝ) : EReal)) := by
      rw [mul_neg]
      congr 1
      push_cast
      ac_rfl
    have e2 : S * (((-(1 / 2) : ℝ) : EReal) * ((r * v⁻¹ : ℝ) : EReal)) * (((1024 : ℝ)⁻¹ : ℝ) : EReal) * (((2 : ℝ) : EReal) * x c)
        = S * x c * ((-(1 / 2) * (r * v⁻¹) * (1024 : ℝ)⁻¹ * 2 : ℝ) : EReal) := by
      rw [EReal.coe_mul _ (2 : ℝ), EReal.coe_mul _ (1024 : ℝ)⁻¹, EReal.coe_mul (-(1 / 2)) _]
      ac_rfl
    rw [e1, e2, ← mul_neg, ← EReal.coe_neg]
    congr 2
    rw [← hrr]
    ring

end Cert.NormGrad

end
-- ==== Proof.LayerNormGrad.lean ====
/- A row through a layer norm and two gates, and its derivative, on extended reals: the gathered form the kernel computes and the
   product rule's sums are equal at real rows. -/
module

public import proofs.«01_k».proof.Proof.NormGrad
public import proofs.«01_k».proof.Proof.Logistic
public import Idealize.ShloMosaic.PureOps.Ideal.Laws

@[expose] public section

noncomputable section

namespace Cert.LayerNormGrad

open Cert.NormGrad Cert.Logistic Idealize.ShloMosaic

/-! ## The formulas of a row -/

/-- A row less its mean. -/
abbrev center (x : Fin 1024 → EReal) (k : Fin 1024) : EReal := x k - Ideal.div (∑ j, x j) width

/-- A row's variance with the small constant added. -/
abbrev variance (x : Fin 1024 → EReal) : EReal :=
  Ideal.div (∑ j, center x j * center x j) width + Ideal.ofBits .f32 0x3727C5AC#32

/-- The factor that norms a row. -/
abbrev factor (x : Fin 1024 → EReal) : EReal := Ideal.rsqrt (variance x)

/-- A normed entry. -/
abbrev normed (x : Fin 1024 → EReal) (k : Fin 1024) : EReal := center x k * factor x

/-- A normed entry with its weight and bias. -/
abbrev affine (x g b : Fin 1024 → EReal) (k : Fin 1024) : EReal := normed x k * g k + b k

/-- The gradient of the second gate's argument. -/
def gateGrad (d z x g b : Fin 1024 → EReal) (k : Fin 1024) : EReal :=
  d k * affine x g b k * logistic (affine x g b k) * logistic (z k) * (1 + z k * (1 - logistic (z k)))

/-- The gradient of the normed row with its weight and bias. -/
def affineGrad (d z x g b : Fin 1024 → EReal) (k : Fin 1024) : EReal :=
  d k * z k * logistic (z k) * logistic (affine x g b k) * (1 + affine x g b k * (1 - logistic (affine x g b k)))

/-- The gradient of the row, from that of the normed one. -/
def rowGrad (x n : Fin 1024 → EReal) (k : Fin 1024) : EReal :=
  factor x * (n k - Ideal.div (∑ j, n j) width - normed x k * Ideal.div (∑ j, n j * normed x j) width)

/-! ## At reals -/

/-- An extended real is a real. -/
abbrev IsReal (a : EReal) : Prop := ∃ r : ℝ, a = r

theorem isReal_mul {a b : EReal} (ha : IsReal a) (hb : IsReal b) : IsReal (a * b) := by
  obtain ⟨r, rfl⟩ := ha
  obtain ⟨s, rfl⟩ := hb
  exact ⟨r * s, (EReal.coe_mul r s).symm⟩

theorem isReal_add {a b : EReal} (ha : IsReal a) (hb : IsReal b) : IsReal (a + b) := by
  obtain ⟨r, rfl⟩ := ha
  obtain ⟨s, rfl⟩ := hb
  exact ⟨r + s, (EReal.coe_add r s).symm⟩

theorem isReal_sub {a b : EReal} (ha : IsReal a) (hb : IsReal b) : IsReal (a - b) := by
  obtain ⟨r, rfl⟩ := ha
  obtain ⟨s, rfl⟩ := hb
  exact ⟨r - s, (EReal.coe_sub r s).symm⟩

theorem isReal_one : IsReal 1 := ⟨1, EReal.coe_one.symm⟩

theorem isReal_logistic {z : EReal} (h : IsReal z) : IsReal (logistic z) := by
  obtain ⟨z, rfl⟩ := h
  refine ⟨1 * (1 / (1 + Real.exp (-z))), ?_⟩
  have h : (1 + Real.exp (-z)) ≠ 0 := by positivity
  show Ideal.div 1 (1 + Ideal.exp (-(z : EReal))) = _
  rw [← EReal.coe_neg, Ideal.exp_coe, ← EReal.coe_one, ← EReal.coe_add, Ideal.div_coe h, ← EReal.coe_mul]

/-- A finite sum of reals. -/
theorem sum_coe {n : ℕ} (f : Fin n → ℝ) : ∑ k, (f k : EReal) = ((∑ k, f k : ℝ) : EReal) :=
  (map_sum (⟨⟨Real.toEReal, EReal.coe_zero⟩, EReal.coe_add⟩ : ℝ →+ EReal) f Finset.univ).symm

theorem eps_real : ∃ e : ℝ, 0 < e ∧ Ideal.ofBits .f32 0x3727C5AC#32 = (e : EReal) := by
  refine ⟨_, ?_, by simp only [Ideal.ofBits, Ideal.ieee]; rfl⟩
  simp

/-- A real row's centered entries are reals that sum to zero, and its variance and factor are positive reals. -/
theorem row_real (x : Fin 1024 → EReal) (hx : ∀ k, IsReal (x k)) : ∃ (C : Fin 1024 → ℝ) (v s : ℝ), (∀ k, center x k = (C k : EReal))
    ∧ ∑ k, C k = 0 ∧ v ≠ 0 ∧ variance x = (v : EReal) ∧ factor x = (s : EReal) ∧ s * s = v⁻¹ := by
  choose X hX using hx
  have hc : ∀ k, center x k = ((X k - (∑ j, X j) * (1024 : ℝ)⁻¹ : ℝ) : EReal) := fun k => by
    simp only [center, div_width, hX, sum_coe]
    rw [← EReal.coe_mul, ← EReal.coe_sub]
  obtain ⟨e, he, hb⟩ := eps_real
  have hv : variance x = ((((∑ k, (X k - (∑ j, X j) * (1024 : ℝ)⁻¹) * (X k - (∑ j, X j) * (1024 : ℝ)⁻¹)) * (1024 : ℝ)⁻¹ + e : ℝ)) : EReal) := by
    unfold variance
    simp only [hc, div_width, hb, ← EReal.coe_mul, sum_coe, ← EReal.coe_add]
  have hp : 0 < (∑ k, (X k - (∑ j, X j) * (1024 : ℝ)⁻¹) * (X k - (∑ j, X j) * (1024 : ℝ)⁻¹)) * (1024 : ℝ)⁻¹ + e :=
    add_pos_of_nonneg_of_pos (mul_nonneg (Finset.sum_nonneg fun k _ => mul_self_nonneg _) (by norm_num)) he
  generalize (∑ k, (X k - (∑ j, X j) * (1024 : ℝ)⁻¹) * (X k - (∑ j, X j) * (1024 : ℝ)⁻¹)) * (1024 : ℝ)⁻¹ + e = v at hv hp
  refine ⟨fun k => X k - (∑ j, X j) * (1024 : ℝ)⁻¹, v, (Real.sqrt v)⁻¹, hc, ?_, hp.ne', hv, ?_, ?_⟩
  · rw [Finset.sum_sub_distrib, Finset.sum_const, Finset.card_univ, Fintype.card_fin, nsmul_eq_mul]
    push_cast
    ring
  · rw [factor, hv, Ideal.rsqrt_coe, if_neg (not_lt.mpr hp.le), if_neg hp.ne']
  · rw [← mul_inv, Real.mul_self_sqrt hp.le]

variable {d z x g b : Fin 1024 → EReal}

theorem isReal_affine (hx : ∀ k, IsReal (x k)) (hg : ∀ k, IsReal (g k)) (hb : ∀ k, IsReal (b k)) (k : Fin 1024) :
    IsReal (affine x g b k) := by
  obtain ⟨C, _, s, hc, _, _, _, hs, _⟩ := row_real x hx
  exact isReal_add (isReal_mul (isReal_mul ⟨C k, hc k⟩ ⟨s, hs⟩) (hg k)) (hb k)

theorem isReal_affineGrad (hd : ∀ k, IsReal (d k)) (hz : ∀ k, IsReal (z k)) (hx : ∀ k, IsReal (x k)) (hg : ∀ k, IsReal (g k))
    (hb : ∀ k, IsReal (b k)) (k : Fin 1024) : IsReal (affineGrad d z x g b k) := by
  have ha := isReal_affine hx hg hb k
  have hs := isReal_logistic ha
  exact isReal_mul (isReal_mul (isReal_mul (isReal_mul (hd k) (hz k)) (isReal_logistic (hz k))) hs)
    (isReal_add isReal_one (isReal_mul ha (isReal_sub isReal_one hs)))

/-- The derivative of a gate, gathered into one product and as the product rule's sum. -/
theorem gathered {p a : EReal} (hp : IsReal p) (ha : IsReal a) : p * logistic a * (1 + a * (1 - logistic a))
    = p * logistic a + a * p * (logistic a * (1 - logistic a)) := by
  obtain ⟨s, hs⟩ := isReal_logistic ha
  obtain ⟨p, rfl⟩ := hp
  obtain ⟨a, rfl⟩ := ha
  rw [hs]
  norm_cast
  ring

theorem gateGrad_eq (hd : ∀ k, IsReal (d k)) (hz : ∀ k, IsReal (z k)) (hx : ∀ k, IsReal (x k)) (hg : ∀ k, IsReal (g k))
    (hb : ∀ k, IsReal (b k)) (k : Fin 1024) : gateGrad d z x g b k
      = affine x g b k * logistic (affine x g b k) * d k * logistic (z k)
        + z k * (affine x g b k * logistic (affine x g b k) * d k) * (logistic (z k) * (1 - logistic (z k))) := by
  have ha := isReal_affine hx hg hb k
  rw [← gathered (isReal_mul (isReal_mul ha (isReal_logistic ha)) (hd k)) (hz k), gateGrad,
    show d k * affine x g b k * logistic (affine x g b k) = affine x g b k * logistic (affine x g b k) * d k from by
      rw [mul_assoc, mul_comm]]

theorem affineGrad_eq (hd : ∀ k, IsReal (d k)) (hz : ∀ k, IsReal (z k)) (hx : ∀ k, IsReal (x k)) (hg : ∀ k, IsReal (g k))
    (hb : ∀ k, IsReal (b k)) (k : Fin 1024) : affineGrad d z x g b k
      = d k * (z k * logistic (z k)) * logistic (affine x g b k)
        + affine x g b k * (d k * (z k * logistic (z k))) * (logistic (affine x g b k) * (1 - logistic (affine x g b k))) := by
  rw [← gathered (isReal_mul (hd k) (isReal_mul (hz k) (isReal_logistic (hz k)))) (isReal_affine hx hg hb k), affineGrad,
    mul_assoc (d k) (z k)]

/-- The derivative's second term before its mean: the factor's part. -/
abbrev slope (x n : Fin 1024 → EReal) : EReal :=
  Ideal.div ((∑ j, center x j * n j) * (Ideal.ofBits .f32 0xBF000000#32 * Ideal.div (factor x) (variance x))) width

/-- The two forms of the row's derivative. -/
theorem rowGrad_eq (x n : Fin 1024 → EReal) (hx : ∀ k, IsReal (x k)) (hn : ∀ k, IsReal (n k)) (k : Fin 1024) : rowGrad x n k
    = n k * factor x + slope x n * (Ideal.ofBits .f32 0x40000000#32 * center x k)
      + Ideal.div ((∑ j, -(n j * factor x)) + ∑ j, -(slope x n * (Ideal.ofBits .f32 0x40000000#32 * center x j))) width := by
  obtain ⟨C, v, s, hc, h0, hv, hV, hs, hss⟩ := row_real x hx
  choose N hN using hn
  have hd : Ideal.div (s : EReal) (v : EReal) = ((s * v⁻¹ : ℝ) : EReal) := by
    unfold Ideal.div
    rw [if_neg (by exact_mod_cast hv), EReal.coe_mul, EReal.coe_inv v]
  have hS : slope x n = (((∑ j, C j * N j) * (-(1 / 2) * (s * v⁻¹)) * (1024 : ℝ)⁻¹ : ℝ) : EReal) := by
    unfold slope
    rw [hs, hV, hd, half_eq, div_width]
    simp only [hc, hN, ← EReal.coe_mul, sum_coe]
  rw [rowGrad, hS]
  unfold normed
  rw [hs, two_eq, div_width, div_width, div_width]
  simp only [hc, hN, ← EReal.coe_mul, ← EReal.coe_neg, sum_coe, ← EReal.coe_add, ← EReal.coe_sub]
  congr 1
  have e1 : ∑ j, N j * (C j * s) = (∑ j, C j * N j) * s := by
    rw [Finset.sum_mul]
    exact Finset.sum_congr rfl fun j _ => by ring
  have e2 : ∑ j, -(N j * s) = -((∑ j, N j) * s) := by
    rw [Finset.sum_mul, Finset.sum_neg_distrib]
  have e3 : ∀ w : ℝ, ∑ j, -(w * (2 * C j)) = 0 := fun w => by
    rw [Finset.sum_neg_distrib, ← Finset.mul_sum, ← Finset.mul_sum, h0]
    ring
  rw [e1, e2, e3, ← hss]
  ring

end Cert.LayerNormGrad

end
-- ==== Proof.ConvNormBwdValue.lean ====
/- The gradient through the convolution's layer norm and its two gates: each array the rows' kernel writes is, entry by entry, that of
   the plain formula's derivative, whenever the arguments are finite. -/
module

public import proofs.«01_k».proof.Defs
public import proofs.«01_k».proof.Proof.LayerNormGrad
public import proofs.«01_k».proof.Proof.Gen.ConvNormBwdIdeal.Value
public import proofs.«01_k».proof.Proof.Gen.ConvNormBwdReferenceIdeal.Run
public import proofs.«01_k».proof.Proof.Gen.ConvNormBwdReferenceIdeal.Read
public import proofs.«01_k».proof.Proof.Gen.Pre_finite_rows
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.Pipeline.ReadBack
public import Idealize.ShloMosaic.Lib.Pointwise
public import Idealize.ShloMosaic.Lib.ReduceAll
public import Idealize.ShloMosaic.PureOps.Ideal.Laws

@[expose] public section

noncomputable section

namespace Cert.ConvNormBwdIdeal.Hand

open Cert.ConvNormBwdIdeal Cert.ConvNormBwdIdeal.Gen Cert.ConvNormBwdReferenceIdeal.Read Cert.NormGrad Cert.LayerNormGrad Cert.Logistic Idealize.ShloMosaic Idealize.ShloMosaic.TcCoe Idealize.SL.Sem

/-! ## The kernel's quarter of a block -/

section
variable (d : Vec Ideal S128x1024 .f32) (z : Vec Ideal S128x1024 .bf16) (x : Vec Ideal S128x1024 .f32) (g b : Vec Ideal S1x1024 .f32)

/-- A row of a quarter. -/
abbrev row (r : Fin 128) (k : Fin 1024) : EReal := x (ix2 r k)

/-- A row of a quarter of the gate's argument. -/
abbrev row16 (r : Fin 128) (k : Fin 1024) : EReal := z (ix2 r k)

/-- The single row of a vector. -/
abbrev only (k : Fin 1024) : EReal := g (ix2 0 k)

theorem center_apply (r : Fin 128) (k : Fin 1024) : k0_pay49 (F := Ideal) x (ix2 r k) = center (row x r) k := by
  unfold k0_pay49
  pointwise []

theorem factor_apply (y : S128x1.Idx) : k0_pay50 (F := Ideal) x y = factor (row x (y 0)) := by
  unfold k0_pay50
  pointwise [center_apply]

theorem normed_apply (r : Fin 128) (k : Fin 1024) : k0_pay51 (F := Ideal) x (ix2 r k) = normed (row x r) k := by
  unfold k0_pay51
  pointwise [center_apply, factor_apply]

theorem affine_apply (r : Fin 128) (k : Fin 1024) :
    k0_pay52 (F := Ideal) x g b (ix2 r k) = affine (row x r) (only g) (only b) k := by
  unfold k0_pay52
  pointwise [normed_apply]

theorem sigma_apply (r : Fin 128) (k : Fin 1024) :
    k0_pay53 (F := Ideal) x g b (ix2 r k) = logistic (affine (row x r) (only g) (only b) k) := by
  unfold k0_pay53
  pointwise [affine_apply]
  rw [zero_sub]
  rfl

theorem sigma16_apply (r : Fin 128) (k : Fin 1024) : k0_pay55 (F := Ideal) z (ix2 r k) = logistic (row16 z r k) := by
  unfold k0_pay55 k0_pay54
  pointwise []
  rw [zero_sub]
  rfl

/-- The quarter's gradient of the second gate's argument. -/
abbrev dz : Vec Ideal S128x1024 .bf16 := k0_pay56 (F := Ideal) (k0_pay52 x g b) (k0_pay53 x g b) z d

/-- The quarter's gradient of the normed rows. -/
abbrev dn : Vec Ideal S128x1024 .f32 := k0_pay57 (F := Ideal) (k0_pay52 x g b) (k0_pay53 x g b) z d

theorem dz_apply (r : Fin 128) (k : Fin 1024) :
    dz d z x g b (ix2 r k) = gateGrad (row d r) (row16 z r) (row x r) (only g) (only b) k := by
  unfold dz k0_pay56 k0_pay54
  pointwise [affine_apply, sigma_apply, sigma16_apply]
  rfl

theorem dn_apply (r : Fin 128) (k : Fin 1024) :
    dn d z x g b (ix2 r k) = affineGrad (row d r) (row16 z r) (row x r) (only g) (only b) k := by
  unfold dn k0_pay57 k0_pay54
  pointwise [affine_apply, sigma_apply, sigma16_apply]
  rfl

/-- The quarter's gradient of the rows. -/
abbrev du : Vec Ideal S128x1024 .f32 := k0_pay2 (F := Ideal) (k0_pay50 x) (k0_pay51 x) (dn d z x g b) g

theorem du_apply (r : Fin 128) (k : Fin 1024) : du d z x g b (ix2 r k)
    = rowGrad (row x r) (fun j => affineGrad (row d r) (row16 z r) (row x r) (only g) (only b) j * only g j) k := by
  unfold du k0_pay2
  pointwise [dn_apply, normed_apply, factor_apply]
  rfl

/-- The weights' sum with the quarter's rows added. -/
abbrev addG (s : Vec Ideal S1x1024 .f32) : Vec Ideal S1x1024 .f32 :=
  k0_pay58 (F := Ideal) (k0_pay51 x) (k0_pay52 x g b) (k0_pay53 x g b) z d s

/-- The biases' sum with the quarter's rows added. -/
abbrev addB (s : Vec Ideal S1x1024 .f32) : Vec Ideal S1x1024 .f32 :=
  k0_pay1 (F := Ideal) (k0_pay59 s) (k0_pay60 (k0_pay52 x g b) (k0_pay53 x g b) z d)

theorem addG_apply (s : Vec Ideal S1x1024 .f32) (y : S1x1024.Idx) : addG d z x g b s y = s y
    + ∑ r : Fin 128, affineGrad (row d r) (row16 z r) (row x r) (only g) (only b) (y 1) * normed (row x r) (y 1) := by
  unfold addG k0_pay58
  pointwise [dn_apply, normed_apply]

theorem addB_apply (s : Vec Ideal S1x1024 .f32) (y : S1x1024.Idx) : addB d z x g b s y = s y
    + ∑ r : Fin 128, affineGrad (row d r) (row16 z r) (row x r) (only g) (only b) (y 1) := by
  unfold addB k0_pay1 k0_pay59 k0_pay60
  pointwise [dn_apply]

theorem zeroG_apply (y : S1x1024.Idx) : k0_pay3 (F := Ideal) y = 0 := by
  pointwise [k0_pay3]

theorem zeroB_apply (y : S1x1024.Idx) : k0_pay4 (F := Ideal) y = 0 := by
  pointwise [k0_pay4]

/-- The four quarters write the sums in turn. -/
theorem addG_first (s : Vec Ideal S1x1024 .f32) : k0_pay15 (F := Ideal) (k0_pay7 x) (k0_pay8 x g b) (k0_pay9 x g b) (k0_pay10 z) (k0_pay11 z)
    (FloatOps.ofBits FTy.f32 1065353216#32) d s = addG d z x g b s := rfl

theorem addG_second (s : Vec Ideal S1x1024 .f32) :
    k0_pay28 (F := Ideal) (k0_pay20 x) (k0_pay27 (k0_pay21 x g) b z d) s = addG d z x g b s := rfl

theorem addG_third (s : Vec Ideal S1x1024 .f32) : k0_pay43 (F := Ideal) (k0_pay34 x (k0_pay31 x)) (k0_pay35 x (k0_pay31 x) g b)
    (k0_pay36 x (k0_pay31 x) g b) (k0_pay37 z) (k0_pay38 z) d s = addG d z x g b s := rfl

theorem addB_first (s : Vec Ideal S1x1024 .f32) : k0_pay16 (F := Ideal) (k0_pay8 x g b) (k0_pay9 x g b) (k0_pay10 z) (k0_pay11 z)
    (FloatOps.ofBits FTy.f32 1065353216#32) d s = addB d z x g b s := rfl

theorem addB_second (s : Vec Ideal S1x1024 .f32) :
    k0_pay29 (F := Ideal) (k0_pay27 (k0_pay21 x g) b z d) s = addB d z x g b s := rfl

theorem addB_third (s : Vec Ideal S1x1024 .f32) : k0_pay44 (F := Ideal) (k0_pay35 x (k0_pay31 x) g b)
    (k0_pay36 x (k0_pay31 x) g b) (k0_pay37 z) (k0_pay38 z) d s = addB d z x g b s := rfl

end

/-! ## The reference's arrays -/

section
variable (x0 : Vec Ideal S8192x1024 .f32) (x1 : Vec Ideal S8192x1024 .bf16) (x2 : Vec Ideal S8192x1024 .f32) (x3 x4 : Vec Ideal S1x1024 .f32)

/-- A row of a whole array. -/
abbrev rowOf (p : Fin 8192) (k : Fin 1024) : EReal := x0 (ix2 p k)

/-- A row of the gate's whole argument. -/
abbrev rowOf16 (p : Fin 8192) (k : Fin 1024) : EReal := x1 (ix2 p k)

/-- The gradient of a normed row with its weights and biases. -/
abbrev afterNorm (p : Fin 8192) : Fin 1024 → EReal := affineGrad (rowOf x0 p) (rowOf16 x1 p) (rowOf x2 p) (only x3) (only x4)

/-- The gradient of a normed row. -/
abbrev beforeNorm (p : Fin 8192) (k : Fin 1024) : EReal := afterNorm x0 x1 x2 x3 x4 p k * only x3 k

theorem zero_bits : (FloatOps.ofBits .f32 0x00000000#32 : Ideal .f32) = 0 := Ideal.ofBits_zero_f32

theorem one_bits : (FloatOps.ofBits .f32 0x3F800000#32 : Ideal .f32) = 1 := Ideal.ofBits_one_f32

theorem reference_center (p : Fin 8192) (k : Fin 1024) : val_main_v14 (F := Ideal) x2 (ix2 p k) = center (rowOf x2 p) k := by
  have e : ∀ j, idx_main_v0 (idx_main_v1 (idx_main_v13 (ix2 p k))) j = ix2 p j := fun j => funext fun a => by
    match a with
    | 0 => rfl
    | 1 => rfl
  simp only [val_main_v14_apply, val_main_v13_apply, val_main_v3_apply, val_main_v2_apply, val_main_v1_apply, val_main_v0_apply,
    val_main_cst_apply, val_main_cst_0_apply, e]
  rw [zero_bits, zero_add]
  rfl

theorem reference_center' (p : Fin 8192) (k : Fin 1024) : val_main_v5 (F := Ideal) x2 (ix2 p k) = center (rowOf x2 p) k :=
  reference_center x2 p k

theorem variance_at (i : Cert.ConvNormBwdReferenceIdeal.S8192x1.Idx) (p : Fin 8192) (e : ∀ j, idx_main_v9 (idx_main_v10 i) j = ix2 p j) :
    val_main_v16 (F := Ideal) x2 i = variance (rowOf x2 p) := by
  simp only [val_main_v16_apply, val_main_v15_apply, val_main_v12_apply, val_main_v11_apply, val_main_v10_apply, val_main_v9_apply,
    val_main_v6_apply, val_main_cst_2_apply, val_main_cst_3_apply, val_main_cst_4_apply, e, reference_center']
  rw [zero_bits, zero_add]
  rfl

theorem reference_variance (i : Cert.ConvNormBwdReferenceIdeal.S8192x1.Idx) : val_main_v16 (F := Ideal) x2 i = variance (rowOf x2 (i 0)) :=
  variance_at x2 i (i 0) fun j => funext fun a => by
    match a with
    | 0 => rfl
    | 1 => rfl

theorem reference_factor (i : Cert.ConvNormBwdReferenceIdeal.S8192x1.Idx) : val_main_v17 (F := Ideal) x2 i = factor (rowOf x2 (i 0)) := by
  rw [val_main_v17_apply, reference_variance]
  rfl

theorem reference_normed (p : Fin 8192) (k : Fin 1024) : val_main_v22 (F := Ideal) x2 (ix2 p k) = normed (rowOf x2 p) k := by
  rw [val_main_v22_apply, val_main_v21_apply, reference_center, reference_factor]
  rfl

theorem reference_affine (p : Fin 8192) (k : Fin 1024) :
    val_main_v26 (F := Ideal) x2 x3 x4 (ix2 p k) = affine (rowOf x2 p) (only x3) (only x4) k := by
  have e : idx_main_v23 (ix2 p k) = ix2 0 k := funext fun a => by
    match a with
    | 0 => rfl
    | 1 => rfl
  have e' : idx_main_v25 (ix2 p k) = ix2 0 k := funext fun a => by
    match a with
    | 0 => rfl
    | 1 => rfl
  rw [val_main_v26_apply, val_main_v25_apply, val_main_v24_apply, val_main_v23_apply, reference_normed, e, e']
  rfl

theorem reference_sigma (p : Fin 8192) (k : Fin 1024) :
    val_main_v27_2 (F := Ideal) x2 x3 x4 (ix2 p k) = logistic (affine (rowOf x2 p) (only x3) (only x4) k) := by
  rw [val_main_v27_2_apply, val_main_call0_v4_apply, val_main_call0_cst_0_apply, val_main_call0_v3_apply, val_main_call0_v2_apply,
    val_main_call0_cst_apply, val_main_call0_v1_apply, val_main_call0_v0_apply, reference_affine, one_bits]
  rfl

theorem reference_sigma16 (p : Fin 8192) (k : Fin 1024) : val_main_v29_2 (F := Ideal) x1 (ix2 p k) = logistic (rowOf16 x1 p k) := by
  rw [val_main_v29_2_apply, val_main_call1_v4_apply, val_main_call1_cst_0_apply, val_main_call1_v3_apply, val_main_call1_v2_apply,
    val_main_call1_cst_apply, val_main_call1_v1_apply, val_main_call1_v0_apply, val_main_v28_apply, one_bits]
  rfl

/-- The single row of column sums over the rows. -/
theorem reference_db (q : Fin 1024) : val_main_v37 (F := Ideal) x0 x1 x2 x3 x4 (ix2 0 q)
    = ∑ r : Fin 8192, val_main_v35 (F := Ideal) x0 x1 x2 x3 x4 (ix2 r q) := by
  have e : ∀ k, idx_main_v36 (idx_main_v37 (ix2 0 q)) k = ix2 k q := fun k => funext fun a => by
    match a with
    | 0 => rfl
    | 1 => exact Fin.ext (by show 0 * 1024 + q.val = q.val; omega)
  rw [val_main_v37_apply, val_main_v36_apply, val_main_cst_6_apply, zero_bits, zero_add]
  exact Fin.sum_fin_congr fun r => by rw [e]

theorem reference_dg (q : Fin 1024) : val_main_v40 (F := Ideal) x0 x1 x2 x3 x4 (ix2 0 q)
    = ∑ r : Fin 8192, val_main_v35 (F := Ideal) x0 x1 x2 x3 x4 (ix2 r q) * normed (rowOf x2 r) q := by
  have e : ∀ k, idx_main_v39 (idx_main_v40 (ix2 0 q)) k = ix2 k q := fun k => funext fun a => by
    match a with
    | 0 => rfl
    | 1 => exact Fin.ext (by show 0 * 1024 + q.val = q.val; omega)
  rw [val_main_v40_apply, val_main_v39_apply, val_main_cst_7_apply, zero_bits, zero_add]
  refine Fin.sum_fin_congr fun r => ?_
  rw [e, val_main_v38_apply, reference_normed]
  exact mul_comm _ _

variable (hd : ∀ i, IsReal (x0 i)) (hz : ∀ i, IsReal (x1 i)) (hx : ∀ i, IsReal (x2 i)) (hg : ∀ i, IsReal (x3 i)) (hb : ∀ i, IsReal (x4 i))

include hd hz hx hg hb

theorem reference_dz (p : Fin 8192) (k : Fin 1024) : val_main_v34 (F := Ideal) x0 x1 x2 x3 x4 (ix2 p k)
    = gateGrad (rowOf x0 p) (rowOf16 x1 p) (rowOf x2 p) (only x3) (only x4) k := by
  rw [gateGrad_eq (fun k => hd (ix2 p k)) (fun k => hz (ix2 p k)) (fun k => hx (ix2 p k)) (fun k => hg (ix2 0 k)) (fun k => hb (ix2 0 k)) k,
    val_main_v34_apply, val_main_v33_apply, val_main_call2_v1_apply, val_main_call2_v2_apply, val_main_call2_v0_apply, val_main_v29_1_apply,
    val_main_call1_v7_apply, val_main_call1_v6_apply, val_main_call1_cst_1_apply, val_main_v31_apply, val_main_v28_apply, val_main_v27_0_apply,
    reference_affine, reference_sigma, reference_sigma16, one_bits]
  rfl

theorem reference_after (p : Fin 8192) (k : Fin 1024) : val_main_v35 (F := Ideal) x0 x1 x2 x3 x4 (ix2 p k) = afterNorm x0 x1 x2 x3 x4 p k := by
  rw [afterNorm, affineGrad_eq (fun k => hd (ix2 p k)) (fun k => hz (ix2 p k)) (fun k => hx (ix2 p k)) (fun k => hg (ix2 0 k)) (fun k => hb (ix2 0 k)) k,
    val_main_v35_apply, val_main_call3_v1_apply, val_main_call3_v2_apply, val_main_call3_v0_apply, val_main_v27_1_apply,
    val_main_call0_v7_apply, val_main_call0_v6_apply, val_main_call0_cst_1_apply, val_main_v32_apply, val_main_v29_0_apply, val_main_v28_apply,
    reference_affine, reference_sigma, reference_sigma16, one_bits]
  rfl

theorem reference_before (p : Fin 8192) (k : Fin 1024) : val_main_v42 (F := Ideal) x0 x1 x2 x3 x4 (ix2 p k) = beforeNorm x0 x1 x2 x3 x4 p k := by
  have e : idx_main_v41 (ix2 p k) = ix2 0 k := funext fun a => by
    match a with
    | 0 => rfl
    | 1 => rfl
  rw [val_main_v42_apply, val_main_v41_apply, reference_after x0 x1 x2 x3 x4 hd hz hx hg hb, e]
  rfl

theorem reference_first (p : Fin 8192) (k : Fin 1024) : val_main_v47 (F := Ideal) x0 x1 x2 x3 x4 (ix2 p k)
    = beforeNorm x0 x1 x2 x3 x4 p k * factor (rowOf x2 p) := by
  rw [val_main_v47_apply, val_main_v46_apply, reference_before x0 x1 x2 x3 x4 hd hz hx hg hb, reference_factor]
  rfl

theorem reference_slope (p : Fin 8192) (k : Fin 1024) : val_main_v55 (F := Ideal) x0 x1 x2 x3 x4 (ix2 p k)
    = slope (rowOf x2 p) (beforeNorm x0 x1 x2 x3 x4 p) := by
  have e : ∀ s j, idx_main_v44 (idx_main_v45 (idx_main_v54 (idx_main_v55 (ix2 p k)) s)) j = ix2 p j := fun s j => funext fun a => by
    match a with
    | 0 => exact Fin.ext (by have h : s.val < 1 := s.isLt; show p.val * 1 + s.val = p.val; omega)
    | 1 => rfl
  simp only [val_main_v55_apply, val_main_v54_apply, val_main_v53_apply, val_main_v52_apply, val_main_v48_apply, val_main_v45_apply,
    val_main_v44_apply, val_main_v43_apply, val_main_v20_apply, val_main_v19_apply, val_main_v18_apply, val_main_cst_5_apply,
    val_main_cst_8_apply, val_main_cst_10_apply, val_main_cst_11_apply, e, reference_center, reference_factor, reference_variance,
    reference_before x0 x1 x2 x3 x4 hd hz hx hg hb]
  rw [zero_bits, zero_add, zero_add, Fin.sum_univ_one]
  rfl

theorem reference_second (p : Fin 8192) (k : Fin 1024) : val_main_v56 (F := Ideal) x0 x1 x2 x3 x4 (ix2 p k)
    = slope (rowOf x2 p) (beforeNorm x0 x1 x2 x3 x4 p) * (Ideal.ofBits .f32 0x40000000#32 * center (rowOf x2 p) k) := by
  rw [val_main_v56_apply, reference_slope x0 x1 x2 x3 x4 hd hz hx hg hb, val_main_v8_apply, val_main_v7_apply, val_main_cst_1_apply,
    reference_center']
  rfl

theorem reference_du (p : Fin 8192) (k : Fin 1024) : val_main_v66 (F := Ideal) x0 x1 x2 x3 x4 (ix2 p k)
    = rowGrad (rowOf x2 p) (beforeNorm x0 x1 x2 x3 x4 p) k := by
  have e : ∀ s j, idx_main_v50 (idx_main_v51 (idx_main_v64 (idx_main_v65 (ix2 p k)) s)) j = ix2 p j := fun s j => funext fun a => by
    match a with
    | 0 => exact Fin.ext (by have h : s.val < 1 := s.isLt; show p.val * 1 + s.val = p.val; omega)
    | 1 => rfl
  have e' : ∀ s j, idx_main_v58 (idx_main_v59 (idx_main_v64 (idx_main_v65 (ix2 p k)) s)) j = ix2 p j := e
  rw [rowGrad_eq _ _ (fun k => hx (ix2 p k)) (fun j => isReal_mul (isReal_affineGrad (fun k => hd (ix2 p k)) (fun k => hz (ix2 p k))
    (fun k => hx (ix2 p k)) (fun k => hg (ix2 0 k)) (fun k => hb (ix2 0 k)) j) (hg (ix2 0 j))) k]
  simp only [val_main_v66_apply, val_main_v65_apply, val_main_v64_apply, val_main_v63_apply, val_main_v62_apply, val_main_v61_apply,
    val_main_v60_apply, val_main_v59_apply, val_main_v58_apply, val_main_v57_apply, val_main_v51_apply, val_main_v50_apply, val_main_v49_apply,
    val_main_cst_9_apply, val_main_cst_12_apply, val_main_cst_13_apply, val_main_cst_14_apply, e, e',
    reference_first x0 x1 x2 x3 x4 hd hz hx hg hb, reference_second x0 x1 x2 x3 x4 hd hz hx hg hb]
  rw [zero_bits, zero_add, zero_add, zero_add, Fin.sum_univ_one]
  rfl

end

/-! ## The hypothesis -/

/-- An extended real of magnitude below infinity is a real. -/
theorem real_of_lt (x : EReal) (h : max x (-x) < ⊤) : IsReal x := by
  induction x with
  | bot => simp at h
  | top => simp at h
  | coe r => exact ⟨r, rfl⟩

theorem inf_eq : Ideal.ofBits .f32 0x7F800000#32 = ⊤ := by simp [Ideal.ofBits, Ideal.ieee]

/-- What the hypothesis says of one array: every entry is a real. -/
theorem finite_of {s : Shape} {x : Vec Ideal s .f32} {h1} {ds} {h2 : s.ReducesTo ds Pre_finite_rows.S_} {h3}
    (h : Host.reduce IntOp.andi (cmpf .olt (Host.absf x) (broadcastInDim s ![] h1
      (constant (F := Ideal) Pre_finite_rows.S_ .f32 0x7F800000#32))) (constantI Pre_finite_rows.S_ 1 1#1) h2 h3 = fun _ => 1#1)
    (i : s.Idx) : IsReal (x i) := by
  haveI : Subsingleton Pre_finite_rows.S_.Idx := ⟨fun a b => funext fun k => k.elim0⟩
  have e := Host.reduce_andi_all _ _ h2 h3 (fun k => k.elim0) (congrFun h _) i
  refine real_of_lt _ ?_
  rw [show cmpf .olt (Host.absf x) (broadcastInDim s ![] h1 (constant (F := Ideal) Pre_finite_rows.S_ .f32 0x7F800000#32)) i
    = BitVec.ofBool (decide (max (x i) (-(x i)) < Ideal.ofBits .f32 0x7F800000#32)) from rfl, inf_eq] at e
  by_contra hn
  rw [decide_eq_false hn] at e
  exact absurd e (by decide)

/-- What the hypothesis says of its arguments. -/
theorem finite_args [Cert.Pre_finite_rows.Facts] (x0 : Vec Ideal S8192x1024 .f32) (x1 : Vec Ideal S8192x1024 .bf16) (x2 : Vec Ideal S8192x1024 .f32)
    (x3 x4 : Vec Ideal S1x1024 .f32)
    (h0 : (Cert.Pre_finite_rows.fn (F := Ideal) x0 x1 x2 x3 x4).1 = fun _ => 1#1)
    (h1 : (Cert.Pre_finite_rows.fn (F := Ideal) x0 x1 x2 x3 x4).2.1 = fun _ => 1#1)
    (h2 : (Cert.Pre_finite_rows.fn (F := Ideal) x0 x1 x2 x3 x4).2.2.1 = fun _ => 1#1)
    (h3 : (Cert.Pre_finite_rows.fn (F := Ideal) x0 x1 x2 x3 x4).2.2.2.1 = fun _ => 1#1)
    (h4 : (Cert.Pre_finite_rows.fn (F := Ideal) x0 x1 x2 x3 x4).2.2.2.2 = fun _ => 1#1) :
    (∀ i, IsReal (x0 i)) ∧ (∀ i, IsReal (x1 i)) ∧ (∀ i, IsReal (x2 i)) ∧ (∀ i, IsReal (x3 i)) ∧ ∀ i, IsReal (x4 i) := by
  simp only [Cert.Pre_finite_rows.fn, Cert.Pre_finite_rows.fn_part1] at h0 h1 h2 h3 h4
  exact ⟨finite_of h0, finite_of h1, finite_of h2, finite_of h3, finite_of h4⟩

/-! ## The arrays after the run -/

variable (m : (ℓ : Loc nD τ sig) → Buf (Elt Ideal) ℓ)

/-- The five arguments. -/
abbrev X0 (c : Dev nD) : Vec Ideal S8192x1024 .f32 := m ((c : Thread nD τ).loc main_arg0)
@[inherit_doc X0] abbrev X1 (c : Dev nD) : Vec Ideal S8192x1024 .bf16 := m ((c : Thread nD τ).loc main_arg1)
@[inherit_doc X0] abbrev X2 (c : Dev nD) : Vec Ideal S8192x1024 .f32 := m ((c : Thread nD τ).loc main_arg2)
@[inherit_doc X0] abbrev X3 (c : Dev nD) : Vec Ideal S1x1024 .f32 := m ((c : Thread nD τ).loc main_arg3)
@[inherit_doc X0] abbrev X4 (c : Dev nD) : Vec Ideal S1x1024 .f32 := m ((c : Thread nD τ).loc main_arg4)

/-- The hypothesis of the run. -/
abbrev Finite : Prop := Cert.Pre_ConvNormBwdIdeal_finite_rows (hPre_finite_rows := Cert.Pre_finite_rows.Gen.facts) m

theorem finite (hm : Finite m) (c : Dev nD) : (∀ i, IsReal (X0 m c i)) ∧ (∀ i, IsReal (X1 m c i)) ∧ (∀ i, IsReal (X2 m c i))
    ∧ (∀ i, IsReal (X3 m c i)) ∧ ∀ i, IsReal (X4 m c i) :=
  letI := Cert.Pre_finite_rows.Gen.facts
  finite_args _ _ _ _ _ (hm c).1 (hm c).2.1 (hm c).2.2.1 (hm c).2.2.2.1 (hm c).2.2.2.2

/-- Where the windows sit at a point: the block of rows, or the whole array. -/
theorem places : ∀ t : Fin cfg0.N, (win0_0.index t = ![t.val, 0] ∧ win0_1.index t = ![t.val, 0] ∧ win0_2.index t = ![t.val, 0]
    ∧ win0_3.index t = ![0, 0] ∧ win0_4.index t = ![0, 0]) ∧ win0_5.index t = ![t.val, 0] ∧ win0_6.index t = ![t.val, 0]
    ∧ win0_7.index t = ![0, 0] ∧ win0_8.index t = ![0, 0] :=
  (by decide +kernel : ∀ t : Fin grid0.N, _)

/-- The rows of a block from a given one on. -/
abbrev quarter {e : EltTy} (X : Vec Ideal S512x1024 e) (o : Nat) (h : ∀ a, (![o, 0] : Fin 2 → Nat) a + S128x1024.size a ≤ S512x1024.size a) :
    Vec Ideal S128x1024 e :=
  View.ld X (Rect.unit (s := S512x1024) ![o, 0] S128x1024.size h)

section
variable (c : Dev nD) (t : Fin cfg0.N) (o : Nat) (h : ∀ a, (![o, 0] : Fin 2 → Nat) a + S128x1024.size a ≤ S512x1024.size a)

theorem quarter_apply {e : EltTy} (X : Vec Ideal S512x1024 e) (r : Fin 128) (k : Fin 1024) (i : Fin 512) (hi : i.val = o + r.val) :
    quarter X o h (ix2 r k) = X (ix2 i k) :=
  View.ld_unit_apply_of X ![o, 0] S128x1024.size h (ix2 r k) (ix2 i k) fun a => by
    match a with
    | 0 => exact hi
    | 1 => exact (Nat.zero_add _).symm

/-- The blocks' rows are the whole arrays' rows at their places. -/
theorem rows_at (r : Fin 128) (p : Fin 8192) (hp : p.val = t.val * 512 + (o + r.val)) :
    row (quarter (iblk m c 0 t : Vec Ideal S512x1024 .f32) o h) r = rowOf (X0 m c) p
      ∧ row16 (quarter (iblk m c 1 t : Vec Ideal S512x1024 .bf16) o h) r = rowOf16 (X1 m c) p
      ∧ row (quarter (iblk m c 2 t : Vec Ideal S512x1024 .f32) o h) r = rowOf (X2 m c) p := by
  obtain ⟨⟨e0, e1, e2, _⟩, _⟩ := places t
  have ho : o + 128 ≤ 512 := h 0
  have hr : o + r.val < 512 := by have := r.isLt; omega
  refine ⟨funext fun k => ?_, funext fun k => ?_, funext fun k => ?_⟩
  · refine (quarter_apply o h _ r k ⟨o + r.val, hr⟩ rfl).trans ?_
    blk_ext [iblk, V, e0, hp]
  · refine (quarter_apply o h _ r k ⟨o + r.val, hr⟩ rfl).trans ?_
    blk_ext [iblk, V, e1, hp]
  · refine (quarter_apply o h _ r k ⟨o + r.val, hr⟩ rfl).trans ?_
    blk_ext [iblk, V, e2, hp]

theorem only_at : only (iblk m c 3 t : Vec Ideal S1x1024 .f32) = only (X3 m c) ∧ only (iblk m c 4 t : Vec Ideal S1x1024 .f32) = only (X4 m c) := by
  obtain ⟨⟨_, _, _, e3, e4⟩, _⟩ := places t
  refine ⟨funext fun k => ?_, funext fun k => ?_⟩
  · show (iblk m c 3 t : Vec Ideal S1x1024 .f32) (ix2 0 k) = (m ((c : Thread nD τ).loc main_arg3) : Vec Ideal S1x1024 .f32) (ix2 0 k)
    blk_ext [iblk, V, e3]
  · show (iblk m c 4 t : Vec Ideal S1x1024 .f32) (ix2 0 k) = (m ((c : Thread nD τ).loc main_arg4) : Vec Ideal S1x1024 .f32) (ix2 0 k)
    blk_ext [iblk, V, e4]

/-- A quarter's gradient of the second gate's argument is the whole one at its place. -/
theorem dz_at (hm : Finite m) (x : S128x1024.Idx) (p : Fin 8192) (k : Fin 1024) (hp : p.val = t.val * 512 + (o + (x 0).val))
    (hk : k.val = (x 1).val) : dz (quarter (iblk m c 0 t : Vec Ideal S512x1024 .f32) o h) (quarter (iblk m c 1 t : Vec Ideal S512x1024 .bf16) o h)
      (quarter (iblk m c 2 t : Vec Ideal S512x1024 .f32) o h) (iblk m c 3 t) (iblk m c 4 t) x
      = val_main_v34 (F := Ideal) (X0 m c) (X1 m c) (X2 m c) (X3 m c) (X4 m c) (ix2 p k) := by
  obtain ⟨hd, hz, hx, hg, hb⟩ := finite m hm c
  obtain ⟨r, k', rfl⟩ : ∃ (r : Fin 128) (k' : Fin 1024), x = ix2 r k' := ⟨x 0, x 1, funext fun a => by
    match a with
    | 0 => rfl
    | 1 => rfl⟩
  obtain rfl : k = k' := Fin.ext hk
  obtain ⟨r0, r1, r2⟩ := rows_at m c t o h r p hp
  obtain ⟨g, b⟩ := only_at m c t
  rw [dz_apply, reference_dz _ _ _ _ _ hd hz hx hg hb, r0, r1, r2, g, b]

/-- A quarter's gradient of the rows is the whole one at its place. -/
theorem du_at (hm : Finite m) (x : S128x1024.Idx) (p : Fin 8192) (k : Fin 1024) (hp : p.val = t.val * 512 + (o + (x 0).val))
    (hk : k.val = (x 1).val) : du (quarter (iblk m c 0 t : Vec Ideal S512x1024 .f32) o h) (quarter (iblk m c 1 t : Vec Ideal S512x1024 .bf16) o h)
      (quarter (iblk m c 2 t : Vec Ideal S512x1024 .f32) o h) (iblk m c 3 t) (iblk m c 4 t) x
      = val_main_v66 (F := Ideal) (X0 m c) (X1 m c) (X2 m c) (X3 m c) (X4 m c) (ix2 p k) := by
  obtain ⟨hd, hz, hx, hg, hb⟩ := finite m hm c
  obtain ⟨r, k', rfl⟩ : ∃ (r : Fin 128) (k' : Fin 1024), x = ix2 r k' := ⟨x 0, x 1, funext fun a => by
    match a with
    | 0 => rfl
    | 1 => rfl⟩
  obtain rfl : k = k' := Fin.ext hk
  obtain ⟨r0, r1, r2⟩ := rows_at m c t o h r p hp
  obtain ⟨g, b⟩ := only_at m c t
  rw [du_apply, reference_du _ _ _ _ _ hd hz hx hg hb, r0, r1, r2, g, b]

/-- A place among the rows of a point. -/
abbrev place (t : Fin cfg0.N) (r : Fin 512) : Fin 8192 :=
  ⟨t.val * 512 + r.val, by have h : t.val < 16 := t.isLt; have := r.isLt; omega⟩

/-- What a row adds to the biases' sum. -/
abbrev rowB (p : Fin 8192) (k : Fin 1024) : EReal := afterNorm (X0 m c) (X1 m c) (X2 m c) (X3 m c) (X4 m c) p k

/-- What a row adds to the weights' sum. -/
abbrev rowG (p : Fin 8192) (k : Fin 1024) : EReal := rowB m c p k * normed (rowOf (X2 m c) p) k

/-- A row of a block from a given one on. -/
abbrev within (r : Fin 128) : Fin 512 := ⟨o + r.val, by have := h 0; have : o + 128 ≤ 512 := this; have := r.isLt; omega⟩

theorem addG_at (s : Vec Ideal S1x1024 .f32) (y : S1x1024.Idx) :
    addG (quarter (iblk m c 0 t : Vec Ideal S512x1024 .f32) o h) (quarter (iblk m c 1 t : Vec Ideal S512x1024 .bf16) o h)
      (quarter (iblk m c 2 t : Vec Ideal S512x1024 .f32) o h) (iblk m c 3 t) (iblk m c 4 t) s y
      = s y + ∑ r : Fin 128, rowG m c (place t (within o h r)) (y 1) := by
  obtain ⟨g, b⟩ := only_at m c t
  rw [addG_apply]
  refine congrArg (s y + ·) (Fin.sum_fin_congr fun r => ?_)
  obtain ⟨r0, r1, r2⟩ := rows_at m c t o h r (place t (within o h r)) rfl
  rw [r0, r1, r2, g, b]

theorem addB_at (s : Vec Ideal S1x1024 .f32) (y : S1x1024.Idx) :
    addB (quarter (iblk m c 0 t : Vec Ideal S512x1024 .f32) o h) (quarter (iblk m c 1 t : Vec Ideal S512x1024 .bf16) o h)
      (quarter (iblk m c 2 t : Vec Ideal S512x1024 .f32) o h) (iblk m c 3 t) (iblk m c 4 t) s y
      = s y + ∑ r : Fin 128, rowB m c (place t (within o h r)) (y 1) := by
  obtain ⟨g, b⟩ := only_at m c t
  rw [addB_apply]
  refine congrArg (s y + ·) (Fin.sum_fin_congr fun r => ?_)
  obtain ⟨r0, r1, r2⟩ := rows_at m c t o h r (place t (within o h r)) rfl
  rw [r0, r1, r2, g, b]

end

/-- Four quarters' sums are the block's. -/
theorem four (f : Fin 512 → EReal) (s : EReal) (h0 h1 h2 h3) : s + ∑ r : Fin 128, f (within 0 h0 r) + ∑ r : Fin 128, f (within 128 h1 r)
    + ∑ r : Fin 128, f (within 256 h2 r) + ∑ r : Fin 128, f (within 384 h3 r) = s + ∑ r : Fin 512, f r := by
  have e : ∑ q : Fin 4, ∑ r : Fin 128, f ⟨q.val * 128 + r.val, by have := q.isLt; have := r.isLt; omega⟩ = ∑ r : Fin 512, f r :=
    Fin.sum_mul_add_congr fun q r hl => rfl
  rw [← e, Fin.sum_univ_four, ← add_assoc, ← add_assoc, ← add_assoc]
  rfl

/-- After the run the first array is the gradient of the rows. -/
theorem final_du (hm : Finite m) (c : Dev nD) : (dats m 0 c).arrAt 5 cfg0.N
    = val_main_v66 (F := Ideal) (X0 m c) (X1 m c) (X2 m c) (X3 m c) (X4 m c) := by
  refine (dats m 0 c).arrAt_eq_of_covers 5 _ (by decide +kernel) fun t hf y => ?_
  obtain ⟨_, e5, _⟩ := places t
  have h0 : (((cfg0.win 5).blk t).view.emb y 0 : Fin 8192).val = t.val * 512 + (y 0).val := by blk_simp [e5]
  have h1 : (((cfg0.win 5).blk t).view.emb y 1 : Fin 1024).val = (y 1).val := by blk_simp [e5]
  generalize ((cfg0.win 5).blk t).view.emb y = i at h0 h1
  obtain ⟨p, q, rfl⟩ : ∃ (p : Fin 8192) (q : Fin 1024), i = ix2 p q := ⟨i 0, i 1, funext fun a => by
    match a with
    | 0 => rfl
    | 1 => rfl⟩
  replace h0 : p.val = t.val * 512 + (y 0).val := h0
  replace h1 : q.val = (y 1).val := h1
  blk_simp
  rw [after0_5]
  show (outsAt0 m c t.val t.isLt).1 y = _
  have hA : ∀ (o : Nat) (h) (x : S128x1024.Idx), (y 0).val = o + (x 0).val → (y 1).val = (x 1).val → _ :=
    fun o h x k0 k1 => du_at m c t o h hm x p q (h0.trans (congrArg (t.val * 512 + ·) k0)) (h1.trans k1)
  by_cases h : t.val % 16 = 0
  · rw [outsAt0_A m c t h]
    frame_out
    canon_tiles x h
    · exact hA 384 _ x h0 h1
    · exact hA 256 _ x h0 h1
    · exact hA 128 _ x h0 h1
    · exact hA 0 _ x (h0.trans (Nat.zero_add _).symm) h1
  · rw [outsAt0_B m c t h]
    frame_out
    canon_tiles x h
    · exact hA 384 _ x h0 h1
    · exact hA 256 _ x h0 h1
    · exact hA 128 _ x h0 h1
    · exact hA 0 _ x (h0.trans (Nat.zero_add _).symm) h1

/-- After the run the second array is the gradient of the second gate's argument. -/
theorem final_dz (hm : Finite m) (c : Dev nD) : (dats m 0 c).arrAt 6 cfg0.N
    = val_main_v34 (F := Ideal) (X0 m c) (X1 m c) (X2 m c) (X3 m c) (X4 m c) := by
  refine (dats m 0 c).arrAt_eq_of_covers 6 _ (by decide +kernel) fun t hf y => ?_
  obtain ⟨_, _, e6, _⟩ := places t
  have h0 : (((cfg0.win 6).blk t).view.emb y 0 : Fin 8192).val = t.val * 512 + (y 0).val := by blk_simp [e6]
  have h1 : (((cfg0.win 6).blk t).view.emb y 1 : Fin 1024).val = (y 1).val := by blk_simp [e6]
  generalize ((cfg0.win 6).blk t).view.emb y = i at h0 h1
  obtain ⟨p, q, rfl⟩ : ∃ (p : Fin 8192) (q : Fin 1024), i = ix2 p q := ⟨i 0, i 1, funext fun a => by
    match a with
    | 0 => rfl
    | 1 => rfl⟩
  replace h0 : p.val = t.val * 512 + (y 0).val := h0
  replace h1 : q.val = (y 1).val := h1
  blk_simp
  rw [after0_6]
  show (outsAt0 m c t.val t.isLt).2.1 y = _
  have hA : ∀ (o : Nat) (h) (x : S128x1024.Idx), (y 0).val = o + (x 0).val → (y 1).val = (x 1).val → _ :=
    fun o h x k0 k1 => dz_at m c t o h hm x p q (h0.trans (congrArg (t.val * 512 + ·) k0)) (h1.trans k1)
  by_cases h : t.val % 16 = 0
  · rw [outsAt0_A m c t h]
    frame_out
    canon_tiles x h
    · exact hA 384 _ x h0 h1
    · exact hA 256 _ x h0 h1
    · exact hA 128 _ x h0 h1
    · exact hA 0 _ x (h0.trans (Nat.zero_add _).symm) h1
  · rw [outsAt0_B m c t h]
    frame_out
    canon_tiles x h
    · exact hA 384 _ x h0 h1
    · exact hA 256 _ x h0 h1
    · exact hA 128 _ x h0 h1
    · exact hA 0 _ x (h0.trans (Nat.zero_add _).symm) h1

/-- What a point adds to the weights' sum. -/
abbrev partG (c : Dev nD) (t : Fin cfg0.N) (y : S1x1024.Idx) : EReal := ∑ r : Fin 512, rowG m c (place t r) (y 1)

/-- What a point adds to the biases' sum. -/
abbrev partB (c : Dev nD) (t : Fin cfg0.N) (y : S1x1024.Idx) : EReal := ∑ r : Fin 512, rowB m c (place t r) (y 1)

/-- The four quarters of a point's block, added in turn. -/
abbrev allG (c : Dev nD) (t : Fin cfg0.N) (s : Vec Ideal S1x1024 .f32) : Vec Ideal S1x1024 .f32 :=
  (addG (quarter (iblk m c 0 t : Vec Ideal S512x1024 .f32) 384 inb_S512x1024_S128x1024_384_0) (quarter (iblk m c 1 t : Vec Ideal S512x1024 .bf16) 384 inb_S512x1024_S128x1024_384_0)
      (quarter (iblk m c 2 t : Vec Ideal S512x1024 .f32) 384 inb_S512x1024_S128x1024_384_0) (iblk m c 3 t) (iblk m c 4 t) (addG (quarter (iblk m c 0 t : Vec Ideal S512x1024 .f32) 256 inb_S512x1024_S128x1024_256_0) (quarter (iblk m c 1 t : Vec Ideal S512x1024 .bf16) 256 inb_S512x1024_S128x1024_256_0)
      (quarter (iblk m c 2 t : Vec Ideal S512x1024 .f32) 256 inb_S512x1024_S128x1024_256_0) (iblk m c 3 t) (iblk m c 4 t) (addG (quarter (iblk m c 0 t : Vec Ideal S512x1024 .f32) 128 inb_S512x1024_S128x1024_128_0) (quarter (iblk m c 1 t : Vec Ideal S512x1024 .bf16) 128 inb_S512x1024_S128x1024_128_0)
      (quarter (iblk m c 2 t : Vec Ideal S512x1024 .f32) 128 inb_S512x1024_S128x1024_128_0) (iblk m c 3 t) (iblk m c 4 t) (addG (quarter (iblk m c 0 t : Vec Ideal S512x1024 .f32) 0 inb_S512x1024_S128x1024_0_0) (quarter (iblk m c 1 t : Vec Ideal S512x1024 .bf16) 0 inb_S512x1024_S128x1024_0_0)
      (quarter (iblk m c 2 t : Vec Ideal S512x1024 .f32) 0 inb_S512x1024_S128x1024_0_0) (iblk m c 3 t) (iblk m c 4 t) s))))

theorem allG_apply (c : Dev nD) (t : Fin cfg0.N) (s : Vec Ideal S1x1024 .f32) (y : S1x1024.Idx) : allG m c t s y = s y + partG m c t y := by
  rw [allG, addG_at, addG_at, addG_at, addG_at]
  exact four (fun r => rowG m c (place t r) (y 1)) (s y) _ _ _ _

theorem summedG_first (c : Dev nD) (t : Fin cfg0.N) (h : t.val % 16 = 0) (y : S1x1024.Idx) :
    (outsAt0 m c t.val t.isLt).2.2.1 y = 0 + partG m c t y := by
  rw [outsAt0_A m c t h]
  frame_out
  refine (allG_apply m c t (k0_pay3 (F := Ideal)) y).trans ?_
  rw [zeroG_apply]

theorem summedG_later (c : Dev nD) (t : Fin cfg0.N) (h : ¬t.val % 16 = 0) (y : S1x1024.Idx) : (outsAt0 m c t.val t.isLt).2.2.1 y
    = (outsAt0 m c (t.val - 1) (Nat.lt_of_le_of_lt (Nat.sub_le _ _) t.isLt)).2.2.1 y + partG m c t y := by
  rw [outsAt0_B m c t h]
  frame_out
  exact allG_apply m c t _ y

/-- The four quarters of a point's block, added in turn. -/
abbrev allB (c : Dev nD) (t : Fin cfg0.N) (s : Vec Ideal S1x1024 .f32) : Vec Ideal S1x1024 .f32 :=
  (addB (quarter (iblk m c 0 t : Vec Ideal S512x1024 .f32) 384 inb_S512x1024_S128x1024_384_0) (quarter (iblk m c 1 t : Vec Ideal S512x1024 .bf16) 384 inb_S512x1024_S128x1024_384_0)
      (quarter (iblk m c 2 t : Vec Ideal S512x1024 .f32) 384 inb_S512x1024_S128x1024_384_0) (iblk m c 3 t) (iblk m c 4 t) (addB (quarter (iblk m c 0 t : Vec Ideal S512x1024 .f32) 256 inb_S512x1024_S128x1024_256_0) (quarter (iblk m c 1 t : Vec Ideal S512x1024 .bf16) 256 inb_S512x1024_S128x1024_256_0)
      (quarter (iblk m c 2 t : Vec Ideal S512x1024 .f32) 256 inb_S512x1024_S128x1024_256_0) (iblk m c 3 t) (iblk m c 4 t) (addB (quarter (iblk m c 0 t : Vec Ideal S512x1024 .f32) 128 inb_S512x1024_S128x1024_128_0) (quarter (iblk m c 1 t : Vec Ideal S512x1024 .bf16) 128 inb_S512x1024_S128x1024_128_0)
      (quarter (iblk m c 2 t : Vec Ideal S512x1024 .f32) 128 inb_S512x1024_S128x1024_128_0) (iblk m c 3 t) (iblk m c 4 t) (addB (quarter (iblk m c 0 t : Vec Ideal S512x1024 .f32) 0 inb_S512x1024_S128x1024_0_0) (quarter (iblk m c 1 t : Vec Ideal S512x1024 .bf16) 0 inb_S512x1024_S128x1024_0_0)
      (quarter (iblk m c 2 t : Vec Ideal S512x1024 .f32) 0 inb_S512x1024_S128x1024_0_0) (iblk m c 3 t) (iblk m c 4 t) s))))

theorem allB_apply (c : Dev nD) (t : Fin cfg0.N) (s : Vec Ideal S1x1024 .f32) (y : S1x1024.Idx) : allB m c t s y = s y + partB m c t y := by
  rw [allB, addB_at, addB_at, addB_at, addB_at]
  exact four (fun r => rowB m c (place t r) (y 1)) (s y) _ _ _ _

theorem summedB_first (c : Dev nD) (t : Fin cfg0.N) (h : t.val % 16 = 0) (y : S1x1024.Idx) :
    (outsAt0 m c t.val t.isLt).2.2.2 y = 0 + partB m c t y := by
  rw [outsAt0_A m c t h]
  frame_out
  refine (allB_apply m c t (k0_pay4 (F := Ideal)) y).trans ?_
  rw [zeroB_apply]

theorem summedB_later (c : Dev nD) (t : Fin cfg0.N) (h : ¬t.val % 16 = 0) (y : S1x1024.Idx) : (outsAt0 m c t.val t.isLt).2.2.2 y
    = (outsAt0 m c (t.val - 1) (Nat.lt_of_le_of_lt (Nat.sub_le _ _) t.isLt)).2.2.2 y + partB m c t y := by
  rw [outsAt0_B m c t h]
  frame_out
  exact allB_apply m c t _ y

/-- After the run the first row of column sums is the reference's. -/
theorem final_dg (hm : Finite m) (c : Dev nD) : (dats m 0 c).arrAt 7 cfg0.N
    = val_main_v40 (F := Ideal) (X0 m c) (X1 m c) (X2 m c) (X3 m c) (X4 m c) := by
  obtain ⟨hd, hz, hx, hg, hb⟩ := finite m hm c
  refine (dats m 0 c).arrAt_eq_of_covers 7 _ (by decide +kernel) fun t hf y => ?_
  have hl : t.val % 16 = 15 := (flush0_7 t).mp hf
  obtain ⟨_, _, _, e7, _⟩ := places t
  have h1 : (((cfg0.win 7).blk t).view.emb y 1 : Fin 1024).val = (y 1).val := by blk_simp [e7]
  generalize ((cfg0.win 7).blk t).view.emb y = i at h1
  obtain ⟨q, rfl⟩ : ∃ q : Fin 1024, i = ix2 0 q := ⟨i 1, funext fun a => by
    match a with
    | 0 => exact Fin.ext (by have h : (i 0).val < 1 := (i 0).isLt; show (i 0).val = 0; omega)
    | 1 => rfl⟩
  have hq : (y 1 : Fin 1024) = q := Fin.ext h1.symm
  blk_simp
  rw [after0_7]
  refine (Pipeline.eq_sum_fin_of_reset_step_apply_of_flush (fun n h => (outsAt0 m c n h).2.2.1) 16 (fun _ => 0)
      (fun t y => partG m c t y) (summedG_first m c) (summedG_later m c) t hl y).trans ?_
  rw [zero_add, reference_dg]
  refine Fin.sum_mul_add_congr fun s r hr => ?_
  have hp := Pipeline.run_point_lt_of_flush t hl s
  have e : place ⟨16 * (t.val / 16) + s.val, hp⟩ r = ⟨s.val * 512 + r.val, hr⟩ := Fin.ext (by
    have : t.val < 16 := t.isLt
    show (16 * (t.val / 16) + s.val) * 512 + r.val = s.val * 512 + r.val
    omega)
  refine (congrArg (rowG m c (place ⟨16 * (t.val / 16) + s.val, hp⟩ r)) hq).trans ?_
  rw [e, reference_after _ _ _ _ _ hd hz hx hg hb]

/-- After the run the second row of column sums is the reference's. -/
theorem final_db (hm : Finite m) (c : Dev nD) : (dats m 0 c).arrAt 8 cfg0.N
    = val_main_v37 (F := Ideal) (X0 m c) (X1 m c) (X2 m c) (X3 m c) (X4 m c) := by
  obtain ⟨hd, hz, hx, hg, hb⟩ := finite m hm c
  refine (dats m 0 c).arrAt_eq_of_covers 8 _ (by decide +kernel) fun t hf y => ?_
  have hl : t.val % 16 = 15 := (flush0_8 t).mp hf
  obtain ⟨_, _, _, _, e8⟩ := places t
  have h1 : (((cfg0.win 8).blk t).view.emb y 1 : Fin 1024).val = (y 1).val := by blk_simp [e8]
  generalize ((cfg0.win 8).blk t).view.emb y = i at h1
  obtain ⟨q, rfl⟩ : ∃ q : Fin 1024, i = ix2 0 q := ⟨i 1, funext fun a => by
    match a with
    | 0 => exact Fin.ext (by have h : (i 0).val < 1 := (i 0).isLt; show (i 0).val = 0; omega)
    | 1 => rfl⟩
  have hq : (y 1 : Fin 1024) = q := Fin.ext h1.symm
  blk_simp
  rw [after0_8]
  refine (Pipeline.eq_sum_fin_of_reset_step_apply_of_flush (fun n h => (outsAt0 m c n h).2.2.2) 16 (fun _ => 0)
      (fun t y => partB m c t y) (summedB_first m c) (summedB_later m c) t hl y).trans ?_
  rw [zero_add, reference_db]
  refine Fin.sum_mul_add_congr fun s r hr => ?_
  have hp := Pipeline.run_point_lt_of_flush t hl s
  have e : place ⟨16 * (t.val / 16) + s.val, hp⟩ r = ⟨s.val * 512 + r.val, hr⟩ := Fin.ext (by
    have : t.val < 16 := t.isLt
    show (16 * (t.val / 16) + s.val) * 512 + r.val = s.val * 512 + r.val
    omega)
  refine (congrArg (rowB m c (place ⟨16 * (t.val / 16) + s.val, hp⟩ r)) hq).trans ?_
  rw [e, reference_after _ _ _ _ _ hd hz hx hg hb]

/-- The kernel and the plain formula end with equal arrays, whenever the arguments are finite. -/
theorem equal : Cert.algebraic_ConvNormBwdIdeal_ConvNormBwdReferenceIdeal_pre_finite_rows (hConvNormBwdIdeal := Cert.ConvNormBwdIdeal.Gen.facts)
    (hConvNormBwdReferenceIdeal := Cert.ConvNormBwdReferenceIdeal.Gen.facts) (hPre_finite_rows := Cert.Pre_finite_rows.Gen.facts) := by
  intro m g m' g' hm hargs
  refine ⟨fun c => val_main_v66 (F := Ideal) (X0 m c) (X1 m c) (X2 m c) (X3 m c) (X4 m c), fun c => val_main_v34 (F := Ideal) (X0 m c) (X1 m c) (X2 m c) (X3 m c) (X4 m c),
    fun c => val_main_v40 (F := Ideal) (X0 m c) (X1 m c) (X2 m c) (X3 m c) (X4 m c), fun c => val_main_v37 (F := Ideal) (X0 m c) (X1 m c) (X2 m c) (X3 m c) (X4 m c), ?_, ?_⟩
  · refine (θ_run defs _ _).mono (fun r h c => ?_) (Cert.ConvNormBwdIdeal.Value.run_blocks m g)
    obtain ⟨h1, h2, h3, h4, h5⟩ := h c
    exact ⟨h1.trans (final_du m hm c), h2.trans (final_dz m hm c), h3.trans (final_dg m hm c), h4.trans (final_db m hm c), h5⟩
  · refine (θ_run Cert.ConvNormBwdReferenceIdeal.defs _ _).mono (fun r h c => ?_) (Cert.ConvNormBwdReferenceIdeal.Value.run m' g')
    obtain ⟨a0, a1, a2, a3, a4⟩ := hargs c
    obtain ⟨h1, h2, h3, h4, h5⟩ := h c
    refine ⟨h1.trans ?_, h2.trans ?_, h3.trans ?_, h4.trans ?_, h5⟩ <;>
    · beta_reduce
      unfold X0 X1 X2 X3 X4
      rw [← a0, ← a1, ← a2, ← a3, ← a4]
      rfl

end Cert.ConvNormBwdIdeal.Hand

end
-- ==== Proof.AttnCombineValue.lean ====
/- The three groups' combination: each array the rows' kernel writes is, at every entry, the softmax-weighted sum, its gated rounding
   and the logarithm of the sum of exponentials, whenever the groups' logarithms are finite. -/
module

public import proofs.«01_k».proof.Defs
public import proofs.«01_k».proof.Proof.Logistic
public import proofs.«01_k».proof.Proof.Gen.AttnCombineIdeal.Value
public import proofs.«01_k».proof.Proof.Gen.AttnCombineReferenceIdeal.Run
public import proofs.«01_k».proof.Proof.Gen.AttnCombineReferenceIdeal.Read
public import proofs.«01_k».proof.Proof.Gen.Pre_finite_logsums
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.Pointwise
public import Idealize.ShloMosaic.Lib.ReduceAll
public import Idealize.ShloMosaic.PureOps.Ideal.Laws

@[expose] public section

noncomputable section

namespace Cert.AttnCombineIdeal.Hand

open Cert.AttnCombineIdeal Cert.AttnCombineIdeal.Gen Cert.AttnCombineReferenceIdeal.Read Cert.Logistic Idealize.ShloMosaic Idealize.ShloMosaic.TcCoe Idealize.SL.Sem

/-! ## On the extended reals -/

/-- Dividing a sum of three terms by a positive real divides each. -/
theorem share (a b c : ℝ) (ha : 0 < a) (hb : 0 < b) (hc : 0 < c) (x y z : EReal) :
    Ideal.div (a * x + b * y + c * z) (a + b + c)
      = Ideal.div a (a + b + c) * x + Ideal.div b (a + b + c) * y + Ideal.div c (a + b + c) * z := by
  have hs : (0 : ℝ) < a + b + c := by positivity
  have h0 : (0 : EReal) ≤ ((1 / (a + b + c) : ℝ) : EReal) := by exact_mod_cast (by positivity : (0 : ℝ) ≤ 1 / (a + b + c))
  have h1 : ((1 / (a + b + c) : ℝ) : EReal) ≠ ⊤ := EReal.coe_ne_top _
  rw [show ((a : EReal) + b + c) = ((a + b + c : ℝ) : EReal) by push_cast; rfl]
  simp only [Ideal.div_coe hs.ne']
  rw [EReal.right_distrib_of_nonneg_of_ne_top h0 h1, EReal.right_distrib_of_nonneg_of_ne_top h0 h1]
  simp only [mul_right_comm]

/-- The logarithm of a sum of exponentials, with any real taken out first. -/
theorem shift (a b c m : ℝ) :
    (m : EReal) + Ideal.log (Ideal.exp (a - m) + Ideal.exp (b - m) + Ideal.exp (c - m))
      = Ideal.log (Ideal.exp a + Ideal.exp b + Ideal.exp c) := by
  simp only [← EReal.coe_sub, Ideal.exp_coe, ← EReal.coe_add]
  have h1 : 0 < Real.exp (a - m) + Real.exp (b - m) + Real.exp (c - m) := by positivity
  have h2 : 0 < Real.exp a + Real.exp b + Real.exp c := by positivity
  rw [Ideal.log_coe, Ideal.log_coe, if_neg h1.not_ge, if_neg h2.not_ge, ← EReal.coe_add]
  congr 1
  rw [show Real.exp a + Real.exp b + Real.exp c = Real.exp m * (Real.exp (a - m) + Real.exp (b - m) + Real.exp (c - m)) by
    simp only [mul_add, ← Real.exp_add]; ring_nf]
  rw [Real.log_mul (Real.exp_pos m).ne' h1.ne', Real.log_exp]

/-- The largest of three reals is a real. -/
theorem largest (a b c : ℝ) : ∃ m : ℝ, max (max (a : EReal) b) c = m :=
  ⟨max (max a b) c, by rw [EReal.coe_strictMono.monotone.map_max, EReal.coe_strictMono.monotone.map_max]⟩

/-- An extended real of magnitude below infinity is a real. -/
theorem real_of_lt (x : EReal) (h : max x (-x) < ⊤) : ∃ r : ℝ, x = r := by
  induction x with
  | bot => simp at h
  | top => simp at h
  | coe r => exact ⟨r, rfl⟩

theorem inf_eq : Ideal.ofBits .f32 0x7F800000#32 = ⊤ := by simp [Ideal.ofBits, Ideal.ieee]

theorem neg_inf_eq : Ideal.ofBits .f32 0xFF800000#32 = ⊥ := by simp [Ideal.ofBits, Ideal.ieee]

/-- What the hypothesis says of one array: every entry is a real. -/
theorem finite_of {x : Vec Ideal Pre_finite_logsums.S8192x1024 .f32} {h1}
    {h2 : Pre_finite_logsums.S8192x1024.ReducesTo [0, 1] Pre_finite_logsums.S_} {h3}
    (h : Host.reduce IntOp.andi (cmpf .olt (Host.absf x) (broadcastInDim Pre_finite_logsums.S8192x1024 ![] h1
      (constant (F := Ideal) Pre_finite_logsums.S_ .f32 0x7F800000#32))) (constantI Pre_finite_logsums.S_ 1 1#1) h2 h3 = fun _ => 1#1)
    (i : Pre_finite_logsums.S8192x1024.Idx) : ∃ r : ℝ, x i = r := by
  haveI : Subsingleton Pre_finite_logsums.S_.Idx := ⟨fun a b => funext fun k => k.elim0⟩
  have e := Host.reduce_andi_all _ _ h2 h3 (fun k => k.elim0) (congrFun h _) i
  refine real_of_lt _ ?_
  rw [show cmpf .olt (Host.absf x) (broadcastInDim Pre_finite_logsums.S8192x1024 ![] h1
      (constant (F := Ideal) Pre_finite_logsums.S_ .f32 0x7F800000#32)) i
    = BitVec.ofBool (decide (max (x i) (-(x i)) < Ideal.ofBits .f32 0x7F800000#32)) from rfl, inf_eq] at e
  by_contra hn
  rw [decide_eq_false hn] at e
  exact absurd e (by decide)

/-- An array's entry is a real. -/
abbrev RealAt (x : Vec Ideal S8192x1024 .f32) (i : S8192x1024.Idx) : Prop := ∃ r : ℝ, x i = r

/-- What the hypothesis says of its arguments. -/
theorem finite_args [Cert.Pre_finite_logsums.Facts] (x0 x1 x2 x3 x4 x5 : Vec Ideal S8192x1024 .f32) (x6 : Vec Ideal S8192x10240 .f32)
    (h3 : (Cert.Pre_finite_logsums.fn (F := Ideal) x0 x1 x2 x3 x4 x5 x6).1 = fun _ => 1#1)
    (h4 : (Cert.Pre_finite_logsums.fn (F := Ideal) x0 x1 x2 x3 x4 x5 x6).2.1 = fun _ => 1#1)
    (h5 : (Cert.Pre_finite_logsums.fn (F := Ideal) x0 x1 x2 x3 x4 x5 x6).2.2 = fun _ => 1#1)
    (i : S8192x1024.Idx) : RealAt x3 i ∧ RealAt x4 i ∧ RealAt x5 i := by
  simp only [Cert.Pre_finite_logsums.fn] at h3 h4 h5
  exact ⟨finite_of h3 i, finite_of h4 i, finite_of h5 i⟩

/-! ## The kernel's block -/

theorem max_apply (a b c : Vec Ideal S512x1024 .f32) (y : S512x1024.Idx) :
    k0_pay2 (F := Ideal) a b c y = max (max (a y) (b y)) (c y) := rfl

theorem sum_apply (a b c : Vec Ideal S512x1024 .f32) (y : S512x1024.Idx) :
    k0_pay6 (F := Ideal) a b c y = Ideal.exp (a y - max (max (a y) (b y)) (c y)) + Ideal.exp (b y - max (max (a y) (b y)) (c y))
      + Ideal.exp (c y - max (max (a y) (b y)) (c y)) := rfl

theorem out_apply (a b c d e f : Vec Ideal S512x1024 .f32) (y : S512x1024.Idx) :
    k0_pay7 (F := Ideal) a b c d e f y = Ideal.div (Ideal.exp (a y - max (max (a y) (b y)) (c y)) * d y
      + Ideal.exp (b y - max (max (a y) (b y)) (c y)) * e y + Ideal.exp (c y - max (max (a y) (b y)) (c y)) * f y)
      (k0_pay6 (F := Ideal) a b c y) := rfl

theorem lse_apply (a b c : Vec Ideal S512x1024 .f32) (y : S512x1024.Idx) :
    k0_pay8 (F := Ideal) a b c y = max (max (a y) (b y)) (c y) + Ideal.log (k0_pay6 (F := Ideal) a b c y) := rfl

theorem gated_apply (a b c d e f z : Vec Ideal S512x1024 .f32) (y : S512x1024.Idx) :
    k0_pay1 (F := Ideal) (k0_pay9 (F := Ideal) a b c d e f z) y
      = k0_pay7 (F := Ideal) a b c d e f y * (z y * logistic (z y)) := by
  unfold k0_pay1 k0_pay9
  generalize k0_pay7 (F := Ideal) a b c d e f = p
  pointwise []
  rw [zero_sub, mul_assoc]
  rfl

/-! ## The reference's arrays -/

variable (x0 x1 x2 x3 x4 x5 : Vec Ideal S8192x1024 .f32) (i : S8192x1024.Idx)

/-- Three arrays stacked, at an entry. -/
theorem stack_apply (k : Fin 3) : val_main_v7 (F := Ideal) x3 x4 x5 (idx_main_v15 i k) = ![x3 i, x4 i, x5 i] k := by
  unfold val_main_v7
  concat_tiles j h
  · rw [val_main_v4_apply, show k = 0 from Fin.ext h]
    exact congrArg x3 (funext fun a => Fin.ext (by match a with | ⟨0, _⟩ => exact h1 | ⟨1, _⟩ => exact h2))
  · rw [val_main_v5_apply, show k = 1 from Fin.ext h]
    exact congrArg x4 (funext fun a => Fin.ext (by match a with | ⟨0, _⟩ => exact h1 | ⟨1, _⟩ => exact h2))
  · rw [val_main_v6_apply, show k = 2 from Fin.ext h]
    exact congrArg x5 (funext fun a => Fin.ext (by match a with | ⟨0, _⟩ => exact h1 | ⟨1, _⟩ => exact h2))

/-- The stacked outputs are stacked as the logarithms are. -/
theorem stack_out_apply (k : Fin 3) : val_main_v3 (F := Ideal) x0 x1 x2 (idx_main_v15 i k) = ![x0 i, x1 i, x2 i] k :=
  stack_apply x0 x1 x2 i k

/-- The largest of the three, as the softmax takes it. -/
theorem top_apply : val_main_v10 (F := Ideal) x3 x4 x5 i = max (max (x3 i) (x4 i)) (x5 i) := by
  have e : val_main_v8 (F := Ideal) x3 x4 x5 i = max (max (x3 i) (x4 i)) (x5 i) := by
    unfold val_main_v8
    rw [Host.reduce_eq_fold_single _ _ _ _ (by decide)]
    have hl : ∀ k : Fin 3, (val_main_v7 (F := Ideal) x3 x4 x5 ∘ Shape.Reduces.lift
        (by decide : AttnCombineReferenceIdeal.S3x8192x1024.Reduces [0] AttnCombineReferenceIdeal.S8192x1024) i) k = ![x3 i, x4 i, x5 i] k := by
      intro k
      rw [← stack_apply]
      exact congrArg (val_main_v7 (F := Ideal) x3 x4 x5)
        (funext fun a => Fin.ext (by match a with | ⟨0, _⟩ => rfl | ⟨1, _⟩ => rfl | ⟨2, _⟩ => rfl))
    refine (Finset.fold_congr fun k _ => hl k).trans ?_
    show Finset.fold max (Ideal.ofBits .f32 0xFF800000#32) ![x3 i, x4 i, x5 i] (Finset.univ : Finset (Fin 3)) = _
    rw [neg_inf_eq, show (Finset.univ : Finset (Fin 3)) = {0, 1, 2} from rfl,
      Finset.fold_insert (by decide), Finset.fold_insert (by decide), Finset.fold_singleton]
    show max (x3 i) (max (x4 i) (max (x5 i) ⊥)) = _
    rw [max_bot_right, max_assoc]
  rw [val_main_v10_apply, val_main_v9_apply, val_main_cst_0_apply, e]
  show max (Ideal.ofBits .f32 0xFF800000#32) _ = _
  rw [neg_inf_eq, max_bot_left]

/-- An exponential of the softmax. -/
theorem exp_apply (k : Fin 3) : val_main_v14 (F := Ideal) x3 x4 x5 (idx_main_v15 i k)
    = Ideal.exp (![x3 i, x4 i, x5 i] k - max (max (x3 i) (x4 i)) (x5 i)) := by
  rw [val_main_v14_apply, val_main_v13_apply, val_main_v12_apply, val_main_v11_apply, stack_apply,
    show idx_main_v11 (idx_main_v12 (idx_main_v15 i k)) = i from
      funext fun a => Fin.ext (by match a with | ⟨0, _⟩ => rfl | ⟨1, _⟩ => rfl), top_apply]
  rfl

/-- The softmax's sum. -/
theorem total_apply : val_main_v15 (F := Ideal) x3 x4 x5 i
    = Ideal.exp (x3 i - max (max (x3 i) (x4 i)) (x5 i)) + Ideal.exp (x4 i - max (max (x3 i) (x4 i)) (x5 i))
      + Ideal.exp (x5 i - max (max (x3 i) (x4 i)) (x5 i)) := by
  rw [val_main_v15_apply, val_main_cst_1_apply, show (FloatOps.ofBits .f32 0x00000000#32 : Ideal .f32) = 0 from Ideal.ofBits_zero_f32,
    zero_add, Fin.sum_univ_three]
  simp only [exp_apply]
  rfl

/-- The combined output. -/
theorem combined_apply : val_main_v20 (F := Ideal) x0 x1 x2 x3 x4 x5 i
    = Ideal.div (Ideal.exp (x3 i - max (max (x3 i) (x4 i)) (x5 i))) (val_main_v15 (F := Ideal) x3 x4 x5 i) * x0 i
      + Ideal.div (Ideal.exp (x4 i - max (max (x3 i) (x4 i)) (x5 i))) (val_main_v15 (F := Ideal) x3 x4 x5 i) * x1 i
      + Ideal.div (Ideal.exp (x5 i - max (max (x3 i) (x4 i)) (x5 i))) (val_main_v15 (F := Ideal) x3 x4 x5 i) * x2 i := by
  have e : ∀ k : Fin 3, val_main_v19 (F := Ideal) x0 x1 x2 x3 x4 x5 (idx_main_v20 i k)
      = Ideal.div (Ideal.exp (![x3 i, x4 i, x5 i] k - max (max (x3 i) (x4 i)) (x5 i))) (val_main_v15 (F := Ideal) x3 x4 x5 i)
        * ![x0 i, x1 i, x2 i] k := by
    intro k
    show val_main_v19 (F := Ideal) x0 x1 x2 x3 x4 x5 (idx_main_v15 i k) = _
    rw [val_main_v19_apply, val_main_v18_apply, val_main_v17_apply, val_main_v16_apply, exp_apply, stack_out_apply,
      show idx_main_v16 (idx_main_v17 (idx_main_v15 i k)) = i from
        funext fun a => Fin.ext (by match a with | ⟨0, _⟩ => rfl | ⟨1, _⟩ => rfl)]
    rfl
  rw [val_main_v20_apply, val_main_cst_2_apply, show (FloatOps.ofBits .f32 0x00000000#32 : Ideal .f32) = 0 from Ideal.ofBits_zero_f32,
    zero_add, Fin.sum_univ_three, e, e, e]
  rfl

/-- The logarithm of the sum of exponentials. -/
theorem logsum_apply : val_main_v27 (F := Ideal) x3 x4 x5 i
    = Ideal.log (Ideal.exp (x3 i) + Ideal.exp (x4 i) + Ideal.exp (x5 i)) := by
  have e : ∀ k : Fin 3, val_main_v25 (F := Ideal) x3 x4 x5 (idx_main_v26 i k) = Ideal.exp (![x3 i, x4 i, x5 i] k) := by
    intro k
    show val_main_v25 (F := Ideal) x3 x4 x5 (idx_main_v15 i k) = _
    rw [val_main_v25_apply, stack_apply]
    rfl
  rw [val_main_v27_apply, val_main_v26_apply, val_main_cst_3_apply,
    show (FloatOps.ofBits .f32 0x00000000#32 : Ideal .f32) = 0 from Ideal.ofBits_zero_f32, zero_add, Fin.sum_univ_three, e, e, e]
  rfl

/-- The gated output, from the combined one. -/
theorem rounded_apply (x6 : Vec Ideal S8192x10240 .f32) : val_main_v24 (F := Ideal) x0 x1 x2 x3 x4 x5 x6 i
    = val_main_v20 (F := Ideal) x0 x1 x2 x3 x4 x5 i * (x6 (idx_main_v21 i) * logistic (x6 (idx_main_v21 i))) := by
  rw [val_main_v24_apply, val_main_v23_apply, val_main_v22_apply, val_main_call0_v5_apply, val_main_call0_v4_apply,
    val_main_call0_cst_0_apply, val_main_call0_v3_apply, val_main_call0_v2_apply, val_main_call0_cst_apply, val_main_call0_v1_apply,
    val_main_call0_v0_apply, val_main_v21_apply, show (FloatOps.ofBits .f32 0x3F800000#32 : Ideal .f32) = 1 from Ideal.ofBits_one_f32]
  rfl

/-! ## The two agree at an entry where the logarithms are real -/

/-- The combined output of a block is the reference's. -/
theorem out_eq (a b c d e f : Vec Ideal S512x1024 .f32) (y : S512x1024.Idx) (ha : a y = x3 i) (hb : b y = x4 i) (hc : c y = x5 i)
    (hd : d y = x0 i) (he : e y = x1 i) (hf : f y = x2 i) (r3 : ∃ r : ℝ, x3 i = r) (r4 : ∃ r : ℝ, x4 i = r) (r5 : ∃ r : ℝ, x5 i = r) :
    k0_pay7 (F := Ideal) a b c d e f y = val_main_v20 (F := Ideal) x0 x1 x2 x3 x4 x5 i := by
  rw [out_apply, sum_apply, combined_apply, total_apply, ha, hb, hc, hd, he, hf]
  obtain ⟨r, hr⟩ := r3
  obtain ⟨s, hs⟩ := r4
  obtain ⟨t, ht⟩ := r5
  obtain ⟨M, hM⟩ := largest r s t
  rw [hr, hs, ht, hM]
  simp only [← EReal.coe_sub, Ideal.exp_coe]
  exact share _ _ _ (Real.exp_pos _) (Real.exp_pos _) (Real.exp_pos _) _ _ _

/-- The logarithm of a block is the reference's. -/
theorem lse_eq (a b c : Vec Ideal S512x1024 .f32) (y : S512x1024.Idx) (ha : a y = x3 i) (hb : b y = x4 i) (hc : c y = x5 i)
    (r3 : ∃ r : ℝ, x3 i = r) (r4 : ∃ r : ℝ, x4 i = r) (r5 : ∃ r : ℝ, x5 i = r) :
    k0_pay8 (F := Ideal) a b c y = val_main_v27 (F := Ideal) x3 x4 x5 i := by
  rw [lse_apply, sum_apply, logsum_apply, ha, hb, hc]
  obtain ⟨r, hr⟩ := r3
  obtain ⟨s, hs⟩ := r4
  obtain ⟨t, ht⟩ := r5
  obtain ⟨M, hM⟩ := largest r s t
  rw [hr, hs, ht, hM]
  exact shift _ _ _ _

/-! ## The arrays after the run -/

variable (m : (ℓ : Loc nD τ sig) → Buf (Elt Ideal) ℓ)

/-- Where the windows sit at a point: the block of rows, the last one in the tenth column block. -/
theorem places : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 9]
    ∧ win0_7.index t = ![t.val, 0] ∧ win0_8.index t = ![t.val, 0] ∧ win0_9.index t = ![t.val, 0] :=
  (by decide +kernel : ∀ t : Fin grid0.N, _)

/-- What the hypothesis says of the three arrays of logarithms. -/
theorem finite (hm : Cert.Pre_AttnCombineIdeal_finite_logsums (hPre_finite_logsums := Cert.Pre_finite_logsums.Gen.facts) m) (c : Dev nD)
    (i : S8192x1024.Idx) : RealAt (m ((c : Thread nD τ).loc main_arg3)) i ∧ RealAt (m ((c : Thread nD τ).loc main_arg4)) i
      ∧ RealAt (m ((c : Thread nD τ).loc main_arg5)) i :=
  letI := Cert.Pre_finite_logsums.Gen.facts
  finite_args _ _ _ _ _ _ _ (hm c).1 (hm c).2.1 (hm c).2.2 i

/-- A block's combined output at an entry is the reference's at the entry's place. -/
theorem out_place (hm : Cert.Pre_AttnCombineIdeal_finite_logsums (hPre_finite_logsums := Cert.Pre_finite_logsums.Gen.facts) m) (c : Dev nD)
    (t : Fin cfg0.N) (y : S512x1024.Idx) (i : S8192x1024.Idx) (h0 : (i 0).val = t.val * 512 + (y 0).val) (h1 : (i 1).val = (y 1).val) :
    k0_pay7 (F := Ideal) (iblk m c 3 t) (iblk m c 4 t) (iblk m c 5 t) (iblk m c 0 t) (iblk m c 1 t) (iblk m c 2 t) y
      = val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) i := by
  obtain ⟨e0, e1, e2, e3, e4, e5, _⟩ := places t
  obtain ⟨r3, r4, r5⟩ := finite m hm c i
  refine out_eq _ _ _ _ _ _ i _ _ _ _ _ _ y ?_ ?_ ?_ ?_ ?_ ?_ r3 r4 r5
  · blk_ext [iblk, V, e3, h0, h1]
  · blk_ext [iblk, V, e4, h0, h1]
  · blk_ext [iblk, V, e5, h0, h1]
  · blk_ext [iblk, V, e0, h0, h1]
  · blk_ext [iblk, V, e1, h0, h1]
  · blk_ext [iblk, V, e2, h0, h1]

/-- After the run the second output is the reference's combination. -/
theorem final_o (hm : Cert.Pre_AttnCombineIdeal_finite_logsums (hPre_finite_logsums := Cert.Pre_finite_logsums.Gen.facts) m) (c : Dev nD) :
    (dats m 0 c).arrAt 8 cfg0.N
      = val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 8 _ (by decide +kernel) fun t hf y => ?_
  obtain ⟨_, _, _, _, _, _, _, _, e8, _⟩ := places t
  blk_simp
  rw [after0_8]
  frame_out
  refine out_place m hm c t y _ ?_ ?_
  · blk_simp [e8]
  · blk_simp [e8]

/-- After the run the third output is the reference's logarithm. -/
theorem final_l (hm : Cert.Pre_AttnCombineIdeal_finite_logsums (hPre_finite_logsums := Cert.Pre_finite_logsums.Gen.facts) m) (c : Dev nD) :
    (dats m 0 c).arrAt 9 cfg0.N
      = val_main_v27 (F := Ideal) (m ((c : Thread nD τ).loc main_arg3)) (m ((c : Thread nD τ).loc main_arg4))
        (m ((c : Thread nD τ).loc main_arg5)) := by
  refine (dats m 0 c).arrAt_eq_of_covers 9 _ (by decide +kernel) fun t hf y => ?_
  obtain ⟨_, _, _, e3, e4, e5, _, _, _, e9⟩ := places t
  have h0 : (((cfg0.win 9).blk t).view.emb y 0 : Fin 8192).val = t.val * 512 + (y 0).val := by blk_simp [e9]
  have h1 : (((cfg0.win 9).blk t).view.emb y 1 : Fin 1024).val = (y 1).val := by blk_simp [e9]
  generalize ((cfg0.win 9).blk t).view.emb y = i at h0 h1
  obtain ⟨r3, r4, r5⟩ := finite m hm c i
  blk_simp
  rw [after0_9]
  frame_out
  refine lse_eq _ _ _ i _ _ _ y ?_ ?_ ?_ r3 r4 r5
  · blk_ext [iblk, V, e3, h0, h1]
  · blk_ext [iblk, V, e4, h0, h1]
  · blk_ext [iblk, V, e5, h0, h1]

/-- After the run the first output is the reference's gated one. -/
theorem final_a (hm : Cert.Pre_AttnCombineIdeal_finite_logsums (hPre_finite_logsums := Cert.Pre_finite_logsums.Gen.facts) m) (c : Dev nD) :
    (dats m 0 c).arrAt 7 cfg0.N
      = val_main_v24 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (dats m 0 c).arrAt_eq_of_covers 7 _ (by decide +kernel) fun t hf y => ?_
  obtain ⟨_, _, _, _, _, _, e6, e7, _⟩ := places t
  have h0 : (((cfg0.win 7).blk t).view.emb y 0 : Fin 8192).val = t.val * 512 + (y 0).val := by blk_simp [e7]
  have h1 : (((cfg0.win 7).blk t).view.emb y 1 : Fin 1024).val = (y 1).val := by blk_simp [e7]
  generalize ((cfg0.win 7).blk t).view.emb y = i at h0 h1
  blk_simp
  rw [after0_7]
  frame_out
  have hz : iblk m c 6 t y = (m ((c : Thread nD τ).loc main_arg6) : Vec Ideal S8192x10240 .f32) (idx_main_v21 i) := by
    blk_ext [iblk, V, e6, h0, h1]
  rw [gated_apply, rounded_apply, out_place m hm c t y i h0 h1, hz]

/-- The kernel and the plain formula end with equal arrays. -/
theorem equal : Cert.algebraic_AttnCombineIdeal_AttnCombineReferenceIdeal_pre_finite_logsums
    (hAttnCombineIdeal := Cert.AttnCombineIdeal.Gen.facts) (hAttnCombineReferenceIdeal := Cert.AttnCombineReferenceIdeal.Gen.facts)
    (hPre_finite_logsums := Cert.Pre_finite_logsums.Gen.facts) := by
  intro m g m' g' hm hargs
  refine ⟨fun c => val_main_v24 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)),
    fun c => val_main_v20 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)),
    fun c => val_main_v27 (F := Ideal) (m ((c : Thread nD τ).loc main_arg3)) (m ((c : Thread nD τ).loc main_arg4))
      (m ((c : Thread nD τ).loc main_arg5)), ?_, ?_⟩
  · refine (θ_run defs _ _).mono (fun r h c => ?_) (Cert.AttnCombineIdeal.Value.run_blocks m g)
    exact ⟨(h c).1.trans (final_a m hm c), (h c).2.1.trans (final_o m hm c), (h c).2.2.1.trans (final_l m hm c), (h c).2.2.2⟩
  · refine (θ_run Cert.AttnCombineReferenceIdeal.defs _ _).mono (fun r h c => ?_) (Cert.AttnCombineReferenceIdeal.Value.run m' g')
    obtain ⟨a0, a1, a2, a3, a4, a5, a6⟩ := hargs c
    refine ⟨(h c).1.trans ?_, (h c).2.1.trans ?_, (h c).2.2.1.trans ?_, (h c).2.2.2⟩
    · rw [val_main_v24_eq, a0, a1, a2, a3, a4, a5, a6]
    · rw [val_main_v20_eq, a0, a1, a2, a3, a4, a5]
    · rw [val_main_v27_eq, a3, a4, a5]

end Cert.AttnCombineIdeal.Hand

end
-- ==== Proof.AttnWgradValue.lean ====
/- The gradient of the attention's input weights: the accumulated tile products, entry by entry, are the product of
   the transposed saved rows and the gradient rows. -/
module

public import proofs.«01_k».proof.Defs
public import proofs.«01_k».proof.Proof.Gen.AttnWgradIdeal.Value
public import proofs.«01_k».proof.Proof.Gen.AttnWgradReferenceIdeal.Run
public import proofs.«01_k».proof.Proof.Gen.AttnWgradReferenceIdeal.Read
public import Idealize.ShloMosaic.Lib.Pipeline.ValueKit.Geometry
public import Idealize.ShloMosaic.Lib.Pipeline.ValueKit.Acc
public import Idealize.ShloMosaic.Lib.Pipeline.ReadBack
public import Idealize.ShloMosaic.Lib.Pointwise

@[expose] public section

noncomputable section

namespace Cert.AttnWgradIdeal.Hand

open Cert.AttnWgradIdeal Cert.AttnWgradIdeal.Gen Idealize.ShloMosaic Idealize.ShloMosaic.TcCoe Idealize.SL.Sem

variable (m : (ℓ : Loc nD τ sig) → Buf (Elt Ideal) ℓ) (ρ : Dev nD → PrngReg)

/-- The product of one pair of blocks at an entry. -/
abbrev part (a : Vec Ideal S2048x1024 .bf16) (b : Vec Ideal S2048x1024 .f32) (y : S1024x1024.Idx) : EReal :=
  ∑ k : Fin 2048, a (ix2 k (y 0)) * b (ix2 k (y 1))

theorem tile_apply (a : Vec Ideal S2048x1024 .bf16) (b : Vec Ideal S2048x1024 .f32) (y : S1024x1024.Idx) :
    k0_pay1 (F := Ideal) a b y = part a b y := by
  pointwise [k0_pay1]

theorem first_apply (a : Vec Ideal S2048x1024 .bf16) (b : Vec Ideal S2048x1024 .f32) (y : S1024x1024.Idx) :
    k0_pay2 (F := Ideal) a b y = part a b y := by
  unfold k0_pay2
  pointwise [tile_apply]

theorem later_apply (a : Vec Ideal S2048x1024 .bf16) (b : Vec Ideal S2048x1024 .f32) (s : Vec Ideal S1024x1024 .f32) (y : S1024x1024.Idx) :
    k0_pay3 (F := Ideal) a b s y = s y + part a b y := by
  unfold k0_pay3
  pointwise [tile_apply]

theorem last_apply (a : Vec Ideal S2048x1024 .bf16) (b : Vec Ideal S2048x1024 .f32) (s : Vec Ideal S1024x1024 .f32) (y : S1024x1024.Idx) :
    k0_pay4 (F := Ideal) a b s y = s y + part a b y := by
  unfold k0_pay4
  pointwise [tile_apply]

/-- Where the three windows sit at a point: the block of rows summed over, the column block, and the latter. -/
theorem places : ∀ t : Fin cfg0.N, win0_0.index t = ![t.val % 4, 0] ∧ win0_1.index t = ![t.val % 4, t.val / 4]
    ∧ win0_2.index t = ![0, t.val / 4] :=
  (by decide +kernel : ∀ t : Fin grid0.N, _)

/-- The block being summed after a point: the output's at the last point of a run, the carried one before. -/
def summed (c : Dev nD) (n : ℕ) (h : n < cfg0.N) : Vec Ideal S1024x1024 .f32 :=
  if n % 4 = 3 then (outsAt0 m c n h).1 else (outsAt0 m c n h).2

theorem summed_first (c : Dev nD) (t : Fin cfg0.N) (h : t.val % 4 = 0) (y : S1024x1024.Idx) :
    summed m c t.val t.isLt y = 0 + part (iblk m c 0 t) (iblk m c 1 t) y := by
  unfold summed
  rw [if_neg (by omega), outsAt0_A m c t h (by omega) (by omega)]
  frame_out
  rw [first_apply, zero_add]

theorem summed_later (c : Dev nD) (t : Fin cfg0.N) (h : ¬t.val % 4 = 0) (y : S1024x1024.Idx) :
    summed m c t.val t.isLt y = summed m c (t.val - 1) (Nat.lt_of_le_of_lt (Nat.sub_le _ _) t.isLt) y
      + part (iblk m c 0 t) (iblk m c 1 t) y := by
  unfold summed
  rw [if_neg (show ¬(t.val - 1) % 4 = 3 by omega)]
  by_cases h3 : t.val % 4 = 3
  · rw [if_pos h3, outsAt0_C m c t h (by omega) h3]
    frame_out
    rw [last_apply, read_unread_whole]
  · rw [if_neg h3, outsAt0_B m c t h (by omega) h3]
    frame_out
    rw [later_apply, read_unread_whole]

/-- After the run the output array is the product of the transposed first argument and the second. -/
theorem final (c : Dev nD) : (dats m 0 c).arrAt 2 cfg0.N
    = Cert.AttnWgradReferenceIdeal.Read.val_main_v4 (F := Ideal) (m ((c : Thread nD τ).loc main_arg0)) (m ((c : Thread nD τ).loc main_arg1)) := by
  refine (dats m 0 c).arrAt_eq_of_covers 2 _ (by decide +kernel) fun t hf y => ?_
  have hm : t.val % 4 = 3 := (flush0_2 t).mp hf
  blk_simp
  rw [after0_2]
  refine ((congrFun (if_pos hm : summed m c t.val t.isLt = (outsAt0 m c t.val t.isLt).1) y).symm.trans
    (Pipeline.eq_sum_fin_of_reset_step_apply_of_flush (fun n h => summed m c n h) 4 (fun _ => 0)
      (fun t y => part (iblk m c 0 t) (iblk m c 1 t) y) (summed_first m c) (summed_later m c) t hm y)).trans ?_
  rw [zero_add, Cert.AttnWgradReferenceIdeal.Read.val_main_v4_apply, Cert.AttnWgradReferenceIdeal.Read.val_main_v3_apply]
  refine Fin.sum_mul_add_congr fun s k hl => ?_
  obtain ⟨e0, e1, _⟩ := places ⟨4 * (t.val / 4) + s.val, Pipeline.run_point_lt_of_flush t hm s⟩
  obtain ⟨_, _, e2⟩ := places t
  rw [Cert.AttnWgradReferenceIdeal.Read.val_main_v1_apply]
  refine (mul_comm _ _).trans ?_
  congr 1
  · blk_ext [iblk, V, e1, e2]
  · blk_ext [iblk, V, e0, e2]

/-- The kernel and the plain product end with equal arrays. -/
theorem equal : Cert.algebraic_AttnWgradIdeal_AttnWgradReferenceIdeal (hAttnWgradIdeal := Cert.AttnWgradIdeal.Gen.facts)
    (hAttnWgradReferenceIdeal := Cert.AttnWgradReferenceIdeal.Gen.facts) := by
  intro m g m' g' _ hargs
  refine ⟨fun c => Cert.AttnWgradReferenceIdeal.Read.val_main_v4 (F := Ideal) (m ((c : Thread nD τ).loc main_arg0)) (m ((c : Thread nD τ).loc main_arg1)), ?_, ?_⟩
  · refine (θ_run defs _ _).mono (fun r h c => ?_) (Cert.AttnWgradIdeal.Value.run_blocks m g)
    exact ⟨(h c).1.trans (final m c), (h c).2⟩
  · refine (θ_run Cert.AttnWgradReferenceIdeal.defs _ _).mono (fun r h c => ?_) (Cert.AttnWgradReferenceIdeal.Value.run m' g')
    refine ⟨(h c).1.trans ?_, (h c).2⟩
    rw [(hargs c).1, (hargs c).2]
    rfl

end Cert.AttnWgradIdeal.Hand

end
-- ==== Proof.AttnDgradValue.lean ====
/- The gradient through the attention branch's input product, accumulated over its columns, and norm: both arrays the kernel writes, entry by entry, are
   those of the plain formula's derivative. -/
module

public import proofs.«01_k».proof.Defs
public import proofs.«01_k».proof.Proof.NormGrad
public import proofs.«01_k».proof.Proof.Gen.AttnDgradIdeal.Value
public import proofs.«01_k».proof.Proof.Gen.AttnDgradReferenceIdeal.Run
public import proofs.«01_k».proof.Proof.Gen.AttnDgradReferenceIdeal.Read
public import Idealize.ShloMosaic.Lib.Pipeline.ValueKit.Geometry
public import Idealize.ShloMosaic.Lib.Pipeline.ValueKit.Acc
public import Idealize.ShloMosaic.Lib.Pipeline.ReadBack
public import Idealize.ShloMosaic.Lib.Pointwise

@[expose] public section

noncomputable section

namespace Cert.AttnDgradIdeal.Hand

open Cert.AttnDgradIdeal Cert.AttnDgradIdeal.Gen Cert.AttnDgradReferenceIdeal.Read Cert.NormGrad Idealize.ShloMosaic Idealize.ShloMosaic.TcCoe Idealize.SL.Sem

variable (m : (ℓ : Loc nD τ sig) → Buf (Elt Ideal) ℓ) (ρ : Dev nD → PrngReg)

/-- The product of one pair of blocks at an entry. -/
abbrev tile (a : Vec Ideal S1024x1024 .f32) (b : Vec Ideal S1024x1024 .bf16) (y : S1024x1024.Idx) : EReal :=
  ∑ k : Fin 1024, a (ix2 (y 0) k) * b (ix2 (y 1) k)

theorem tile_apply (a : Vec Ideal S1024x1024 .f32) (b : Vec Ideal S1024x1024 .bf16) (y : S1024x1024.Idx) :
    k0_pay2 (F := Ideal) a b y = tile a b y := by
  pointwise [k0_pay2]

theorem first_apply (a : Vec Ideal S1024x1024 .f32) (b : Vec Ideal S1024x1024 .bf16) (y : S1024x1024.Idx) :
    k0_pay3 (F := Ideal) a b y = tile a b y := by
  unfold k0_pay3
  pointwise [tile_apply]

theorem later_apply (a : Vec Ideal S1024x1024 .f32) (b : Vec Ideal S1024x1024 .bf16) (s : Vec Ideal S1024x1024 .f32) (y : S1024x1024.Idx) :
    k0_pay4 (F := Ideal) a b s y = s y + tile a b y := by
  unfold k0_pay4
  pointwise [tile_apply]

theorem last_apply (a : Vec Ideal S1024x1024 .f32) (b : Vec Ideal S1024x1024 .bf16) (s : Vec Ideal S1024x1024 .f32) (y : S1024x1024.Idx) :
    k0_pay5 (F := Ideal) a b s y = s y + tile a b y := by
  unfold k0_pay5
  pointwise [tile_apply]

theorem scale_apply (x : Vec Ideal S1024x1024 .f32) (y : S1024x1.Idx) :
    k0_pay6 (F := Ideal) x y = scale (fun k => x (ix2 (y 0) k)) := by
  pointwise [k0_pay6]

/-- A normed entry. -/
abbrev normed (x : Vec Ideal S1024x1024 .f32) (y : S1024x1024.Idx) : EReal := x y * scale (fun k => x (ix2 (y 0) k))

theorem normed_apply (x : Vec Ideal S1024x1024 .f32) (y : S1024x1024.Idx) :
    k0_pay7 (F := Ideal) x y = x y * scale (fun k => x (ix2 (y 0) k)) := by
  unfold k0_pay7
  pointwise [scale_apply]

theorem zero_apply (y : S1x1024.Idx) : k0_pay1 (F := Ideal) y = 0 := by
  pointwise [k0_pay1]

/-- The sum over a block's rows added to what was there. -/
theorem sums_apply (a : Vec Ideal S1024x1024 .f32) (b : Vec Ideal S1024x1024 .bf16) (d x : Vec Ideal S1024x1024 .f32) (s : Vec Ideal S1x1024 .f32) (y : S1x1024.Idx) :
    k0_pay8 (F := Ideal) a b d x s y = s y + ∑ r : Fin 1024, k0_pay5 (F := Ideal) a b d (ix2 r (y 1)) * (x (ix2 r (y 1)) * scale (fun k => x (ix2 r k))) := by
  unfold k0_pay8
  generalize k0_pay5 (F := Ideal) a b d = p
  pointwise [normed_apply]

/-- The gradient of the rows at an entry. -/
theorem dx_apply (a : Vec Ideal S1024x1024 .f32) (b : Vec Ideal S1024x1024 .bf16) (d x : Vec Ideal S1024x1024 .f32) (g : Vec Ideal S1x1024 .f32)
    (e : Vec Ideal S1024x1024 .f32) (y : S1024x1024.Idx) :
    k0_pay9 (F := Ideal) a b d x g e y
      = e y + scale (fun k => x (ix2 (y 0) k)) * (k0_pay5 (F := Ideal) a b d y * g (ix2 0 (y 1)) - x y * scale (fun k => x (ix2 (y 0) k))
        * Ideal.div (∑ k, k0_pay5 (F := Ideal) a b d (ix2 (y 0) k) * g (ix2 0 k) * (x (ix2 (y 0) k) * scale (fun k => x (ix2 (y 0) k)))) width) := by
  unfold k0_pay9
  generalize k0_pay5 (F := Ideal) a b d = p
  pointwise [normed_apply, scale_apply]

/-- Where the windows sit at a point: the block of rows with the block of columns, or the whole array. -/
theorem places : ∀ t : Fin cfg0.N, win0_0.index t = ![t.val / 10, t.val % 10] ∧ win0_1.index t = ![0, t.val % 10] ∧ win0_2.index t = ![t.val / 10, 0]
    ∧ win0_3.index t = ![0, 0] ∧ win0_4.index t = ![t.val / 10, 0] ∧ win0_5.index t = ![t.val / 10, 0] ∧ win0_6.index t = ![0, 0] :=
  (by decide +kernel : ∀ t : Fin grid0.N, _)

section
variable (x0 : Vec Ideal S8192x10240 .f32) (x1 : Vec Ideal S1024x10240 .bf16) (x2 : Vec Ideal S8192x1024 .f32) (x3 : Vec Ideal S1x1024 .f32)
  (x4 : Vec Ideal S8192x1024 .f32)

theorem reference_meanSq (i : Cert.AttnDgradReferenceIdeal.S8192x1.Idx) : val_main_v8 (F := Ideal) x2 i = meanSq (fun k => x2 (ix2 (i 0) k)) := by
  have e : ∀ k, idx_main_v3 (idx_main_v4 i) k = ix2 (i 0) k := fun k => funext fun a => by
    match a with
    | 0 => rfl
    | 1 => rfl
  simp only [val_main_v8_apply, val_main_v7_apply, val_main_v6_apply, val_main_v5_apply, val_main_v4_apply, val_main_v3_apply, val_main_v0_apply,
    val_main_cst_0_apply, val_main_cst_1_apply, val_main_cst_2_apply, e]
  rw [show (FloatOps.ofBits .f32 0x00000000#32 : Ideal .f32) = 0 from Ideal.ofBits_zero_f32, zero_add]
  rfl

theorem reference_scale (i : Cert.AttnDgradReferenceIdeal.S8192x1.Idx) : val_main_v9 (F := Ideal) x2 i = scale (fun k => x2 (ix2 (i 0) k)) := by
  rw [val_main_v9_apply, reference_meanSq]
  rfl

/-- A row's part of the column sums. -/
abbrev summand (q : Fin 1024) (r : Fin 8192) : EReal :=
  val_main_v19 (F := Ideal) x0 x1 (ix2 r q) * (x2 (ix2 r q) * scale (fun k => x2 (ix2 r k)))

theorem reference_sums (q : Fin 1024) : val_main_v22 (F := Ideal) x0 x1 x2 (ix2 0 q)
    = ∑ r : Fin 8192, summand x0 x1 x2 q r := by
  have e : ∀ k, idx_main_v21 (idx_main_v22 (ix2 0 q)) k = ix2 k q := fun k => funext fun a => by
    match a with
    | 0 => rfl
    | 1 => exact Fin.ext (by show 0 * 1024 + q.val = q.val; omega)
  rw [val_main_v22_apply, val_main_v21_apply, val_main_cst_4_apply,
    show (FloatOps.ofBits .f32 0x00000000#32 : Ideal .f32) = 0 from Ideal.ofBits_zero_f32, zero_add]
  refine Fin.sum_fin_congr fun r => ?_
  rw [e, val_main_v20_apply, val_main_v14_apply, val_main_v13_apply, reference_scale]
  exact mul_comm _ _

theorem reference_dx (p : Fin 8192) (q : Fin 1024) : val_main_v37 (F := Ideal) x0 x1 x2 x3 x4 (ix2 p q)
    = x4 (ix2 p q) + scale (fun k => x2 (ix2 p k)) * (val_main_v19 (F := Ideal) x0 x1 (ix2 p q) * x3 (ix2 0 q) - x2 (ix2 p q) * scale (fun k => x2 (ix2 p k))
        * Ideal.div (∑ k, val_main_v19 (F := Ideal) x0 x1 (ix2 p k) * x3 (ix2 0 k) * (x2 (ix2 p k) * scale (fun k => x2 (ix2 p k)))) width) := by
  have e : ∀ s k, idx_main_v26 (idx_main_v27 (idx_main_v33 (idx_main_v34 (ix2 p q)) s)) k = ix2 p k := fun s k => funext fun a => by
    match a with
    | 0 => exact Fin.ext (by have h : s.val < 1 := s.isLt; show p.val * 1 + s.val = p.val; omega)
    | 1 => rfl
  have e' : ∀ j, idx_main_v23 j = ix2 0 (j 1) := fun j => funext fun a => by
    match a with
    | 0 => rfl
    | 1 => rfl
  rw [grad_eq (fun k => x2 (ix2 p k)) (fun k => val_main_v19 (F := Ideal) x0 x1 (ix2 p k) * x3 (ix2 0 k)) q]
  simp only [val_main_v37_apply, val_main_v36_apply, val_main_v35_apply, val_main_v34_apply, val_main_v33_apply, val_main_v32_apply, val_main_v31_apply,
    val_main_v30_apply, val_main_v29_apply, val_main_v28_apply, val_main_v27_apply, val_main_v26_apply, val_main_v25_apply, val_main_v24_apply,
    val_main_v23_apply, val_main_v12_apply, val_main_v11_apply, val_main_v10_apply, val_main_v2_apply, val_main_v1_apply, reference_scale, reference_meanSq,
    val_main_cst_apply, val_main_cst_3_apply, val_main_cst_5_apply, val_main_cst_6_apply, val_main_cst_7_apply, e, e']
  rw [show (FloatOps.ofBits .f32 0x00000000#32 : Ideal .f32) = 0 from Ideal.ofBits_zero_f32, zero_add, zero_add, Fin.sum_univ_one]
  rfl

end

/-- The gradient of the normed rows a point would finish: the carried sum and its own product. -/
abbrev whole (m : (ℓ : Loc nD τ sig) → Buf (Elt Ideal) ℓ) (c : Dev nD) (t : Fin cfg0.N) : Vec Ideal S1024x1024 .f32 :=
  k0_pay5 (F := Ideal) (iblk m c 0 t) (iblk m c 1 t) (outsAt0 m c (t.val - 1) (Nat.lt_of_le_of_lt (Nat.sub_le _ _) t.isLt)).2.2

/-- The block being summed after a point: the finished one at the last point of a run, the carried one before. -/
def summed (c : Dev nD) (n : ℕ) (h : n < cfg0.N) : Vec Ideal S1024x1024 .f32 :=
  if n % 10 = 9 then whole m c ⟨n, h⟩ else (outsAt0 m c n h).2.2

theorem summed_first (c : Dev nD) (t : Fin cfg0.N) (h : t.val % 10 = 0) (y : S1024x1024.Idx) :
    summed m c t.val t.isLt y = 0 + tile (iblk m c 0 t) (iblk m c 1 t) y := by
  unfold summed
  rw [if_neg (by omega)]
  by_cases h0 : t.val % 80 = 0
  · rw [outsAt0_A m c t h0 h (by omega) (by omega)]
    frame_out
    rw [first_apply, zero_add]
  · rw [outsAt0_D m c t h0 h (by omega) (by omega)]
    frame_out
    rw [first_apply, zero_add]

theorem summed_later (c : Dev nD) (t : Fin cfg0.N) (h : ¬t.val % 10 = 0) (y : S1024x1024.Idx) :
    summed m c t.val t.isLt y = summed m c (t.val - 1) (Nat.lt_of_le_of_lt (Nat.sub_le _ _) t.isLt) y
      + tile (iblk m c 0 t) (iblk m c 1 t) y := by
  unfold summed
  rw [if_neg (show ¬(t.val - 1) % 10 = 9 by omega)]
  by_cases h3 : t.val % 10 = 9
  · rw [if_pos h3]
    exact last_apply _ _ _ y
  · rw [if_neg h3, outsAt0_B m c t (by omega) h (by omega) h3]
    frame_out
    rw [later_apply, read_unread_whole]

/-- The finished block at an entry is the whole product at the entry's place. -/
theorem rows_at (c : Dev nD) (t : Fin cfg0.N) (hm : t.val % 10 = 9) (z : S1024x1024.Idx) (i : S8192x1024.Idx) (h0 : (i 0).val = t.val / 10 * 1024 + (z 0).val)
    (h1 : (i 1).val = (z 1).val) : whole m c t z = val_main_v19 (F := Ideal) (m ((c : Thread nD τ).loc main_arg0)) (m ((c : Thread nD τ).loc main_arg1)) i := by
  refine ((congrFun (if_pos hm : summed m c t.val t.isLt = whole m c t) z).symm.trans
    (Pipeline.eq_sum_fin_of_reset_step_apply_of_flush (fun n h => summed m c n h) 10 (fun _ => 0)
      (fun t y => tile (iblk m c 0 t) (iblk m c 1 t) y) (summed_first m c) (summed_later m c) t hm z)).trans ?_
  rw [zero_add, val_main_v19_apply]
  refine Fin.sum_mul_add_congr fun s k hl => ?_
  obtain ⟨e0, e1, _⟩ := places ⟨10 * (t.val / 10) + s.val, Pipeline.run_point_lt_of_flush t hm s⟩
  have hs : (10 * (t.val / 10) + s.val) / 10 = t.val / 10 := by omega
  have hs' : (10 * (t.val / 10) + s.val) % 10 = s.val := by omega
  simp only [hs, hs'] at e0 e1
  rw [val_main_v17_apply]
  congr 1
  · blk_ext [iblk, V, e0, h0]
  · blk_ext [iblk, V, e1, h1]

/-- A block of the saved rows at an entry is the whole array at the entry's place. -/
theorem saved_at (c : Dev nD) (t : Fin cfg0.N) (z : S1024x1024.Idx) (i : S8192x1024.Idx) (h0 : (i 0).val = t.val / 10 * 1024 + (z 0).val)
    (h1 : (i 1).val = (z 1).val) : (iblk m c 2 t : Vec Ideal S1024x1024 .f32) z = m ((c : Thread nD τ).loc main_arg2) i := by
  obtain ⟨_, _, e2, _⟩ := places t
  blk_ext [iblk, V, e2, h0, h1]

/-- After the run the first output is the reference's gradient of the rows. -/
theorem final_dx (c : Dev nD) : (dats m 0 c).arrAt 5 cfg0.N
    = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have hm : t.val % 10 = 9 := (flush0_5 t).mp hf
  obtain ⟨_, _, _, e3, e4, e5, _⟩ := places t
  have h0 : (((cfg0.win 5).blk t).view.emb y 0 : Fin 8192).val = t.val / 10 * 1024 + (y 0).val := by blk_simp [e5]
  have h1 : (((cfg0.win 5).blk t).view.emb y 1 : Fin 1024).val = (y 1).val := by blk_simp [e5]
  generalize ((cfg0.win 5).blk t).view.emb y = i at h0 h1
  blk_simp
  rw [after0_5]
  refine (show (outsAt0 m c t.val t.isLt).1 y = k0_pay9 (F := Ideal) (iblk m c 0 t) (iblk m c 1 t)
      (outsAt0 m c (t.val - 1) (Nat.lt_of_le_of_lt (Nat.sub_le _ _) t.isLt)).2.2 (iblk m c 2 t) (iblk m c 3 t) (iblk m c 4 t) y from ?_).trans ?_
  · rw [outsAt0_C m c t (by omega) (by omega) (by omega) hm]
    frame_out
    rw [read_unread_whole]
  obtain ⟨p, q, rfl⟩ : ∃ (p : Fin 8192) (q : Fin 1024), i = ix2 p q := ⟨i 0, i 1, funext fun a => by
    match a with
    | 0 => rfl
    | 1 => rfl⟩
  have er : ∀ k, whole m c t (ix2 (y 0) k)
      = val_main_v19 (F := Ideal) (m ((c : Thread nD τ).loc main_arg0)) (m ((c : Thread nD τ).loc main_arg1)) (ix2 p k) :=
    fun k => rows_at m c t hm (ix2 (y 0) k) (ix2 p k) h0 rfl
  have es : ∀ k, (iblk m c 2 t : Vec Ideal S1024x1024 .f32) (ix2 (y 0) k) = m ((c : Thread nD τ).loc main_arg2) (ix2 p k) :=
    fun k => saved_at m c t (ix2 (y 0) k) (ix2 p k) h0 rfl
  have eg : ∀ k k' : Fin 1024, k.val = k'.val → (iblk m c 3 t : Vec Ideal S1x1024 .f32) (ix2 0 k) = m ((c : Thread nD τ).loc main_arg3) (ix2 0 k') := fun k k' hk => by
    blk_ext [iblk, V, e3, hk]
  have er' := rows_at m c t hm y (ix2 p q) h0 h1
  unfold whole at er er'
  rw [dx_apply, reference_dx, er', saved_at m c t y (ix2 p q) h0 h1, eg (y 1) q h1.symm]
  simp only [er, es, eg _ _ rfl]
  congr 1
  blk_ext [iblk, V, e4, h0, h1]

/-- What a point adds to the column sums: a finished block's sums over its rows, and nothing at the other points. -/
def part (m : (ℓ : Loc nD τ sig) → Buf (Elt Ideal) ℓ) (c : Dev nD) (t : Fin cfg0.N) (y : S1x1024.Idx) : EReal :=
  if t.val % 10 = 9 then ∑ r : Fin 1024, whole m c t (ix2 r (y 1)) * normed (iblk m c 2 t) (ix2 r (y 1)) else 0

theorem columns_first (c : Dev nD) (t : Fin cfg0.N) (h : t.val % 80 = 0) (y : S1x1024.Idx) :
    (outsAt0 m c t.val t.isLt).2.1 y = 0 + part m c t y := by
  rw [part, if_neg (by omega), outsAt0_A m c t h (by omega) (by omega) (by omega)]
  frame_out
  rw [zero_apply, add_zero]

theorem columns_later (c : Dev nD) (t : Fin cfg0.N) (h : ¬t.val % 80 = 0) (y : S1x1024.Idx) :
    (outsAt0 m c t.val t.isLt).2.1 y = (outsAt0 m c (t.val - 1) (Nat.lt_of_le_of_lt (Nat.sub_le _ _) t.isLt)).2.1 y + part m c t y := by
  unfold part
  by_cases h1 : t.val % 10 = 0
  · rw [if_neg (by omega), outsAt0_D m c t h h1 (by omega) (by omega), add_zero]
    rfl
  · by_cases h3 : t.val % 10 = 9
    · rw [if_pos h3, outsAt0_C m c t h h1 (by omega) h3]
      frame_out
      rw [sums_apply, read_unread_whole]
      rfl
    · rw [if_neg h3, outsAt0_B m c t h h1 (by omega) h3, add_zero]
      rfl

/-- After the run the second output is the reference's gradient of the norm's factors. -/
theorem final_dg (c : Dev nD) : (dats m 0 c).arrAt 6 cfg0.N
    = val_main_v22 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have hm : t.val % 80 = 79 := (flush0_6 t).mp hf
  obtain ⟨_, _, _, _, _, _, e6⟩ := places t
  have h1 : (((cfg0.win 6).blk t).view.emb y 1 : Fin 1024).val = (y 1).val := by blk_simp [e6]
  generalize ((cfg0.win 6).blk t).view.emb y = i at h1
  obtain ⟨q, rfl⟩ : ∃ q : Fin 1024, i = ix2 0 q := ⟨i 1, funext fun a => by
    match a with
    | 0 => exact Fin.ext (by have h : (i 0).val < 1 := (i 0).isLt; show (i 0).val = 0; omega)
    | 1 => rfl⟩
  blk_simp
  rw [after0_6]
  refine (Pipeline.eq_sum_fin_of_reset_step_apply_of_flush (fun n h => (outsAt0 m c n h).2.1) 80 (fun _ => 0)
      (fun t y => part m c t y) (columns_first m c) (columns_later m c) t hm y).trans ?_
  rw [zero_add, reference_sums]
  have ht : t.val < 80 := t.isLt
  refine (Fin.sum_mul_add_fin 8 10 (fun s : Fin 80 => part m c ⟨80 * (t.val / 80) + s.val, Pipeline.run_point_lt_of_flush t hm s⟩ y)).symm.trans ?_
  refine (Fin.sum_fin_congr fun s => ?_).trans (Fin.sum_mul_add_fin 8 1024 (summand (m ((c : Thread nD τ).loc main_arg0)) (m ((c : Thread nD τ).loc main_arg1)) (m ((c : Thread nD τ).loc main_arg2)) q))
  refine (Finset.sum_eq_single (9 : Fin 10) (fun k _ hk => if_neg fun h => hk (Fin.ext ?_)) (fun h => absurd (Finset.mem_univ _) h)).trans ?_
  · have h' : (80 * (t.val / 80) + (s.val * 10 + k.val)) % 10 = 9 := h
    show k.val = 9
    omega
  have hs := s.isLt
  have hp : 80 * (t.val / 80) + (s.val * 10 + 9) < cfg0.N := Pipeline.run_point_lt_of_flush t hm ⟨s.val * 10 + 9, by omega⟩
  have h9 : (80 * (t.val / 80) + (s.val * 10 + 9)) % 10 = 9 := by omega
  refine (if_pos h9).trans (Fin.sum_fin_congr fun r => ?_)
  have hr : s.val * 1024 + r.val = (80 * (t.val / 80) + (s.val * 10 + 9)) / 10 * 1024 + r.val := by omega
  have hl : s.val * 1024 + r.val < 8192 := by omega
  refine (congrArg (· * _) (rows_at m c ⟨80 * (t.val / 80) + (s.val * 10 + 9), hp⟩ h9 (ix2 r (y 1)) (ix2 ⟨s.val * 1024 + r.val, hl⟩ q) hr h1)).trans ?_
  congr 1
  have hs : ∀ k k' : Fin 1024, k'.val = k.val → (iblk m c 2 ⟨80 * (t.val / 80) + (s.val * 10 + 9), hp⟩ : Vec Ideal S1024x1024 .f32) (ix2 r k)
      = m ((c : Thread nD τ).loc main_arg2) (ix2 ⟨s.val * 1024 + r.val, hl⟩ k') := fun k k' hk =>
    saved_at m c ⟨80 * (t.val / 80) + (s.val * 10 + 9), hp⟩ (ix2 r k) (ix2 ⟨s.val * 1024 + r.val, hl⟩ k') hr hk
  refine congrArg₂ (· * ·) (hs (y 1) q h1) (congrArg scale (funext fun k => hs k k rfl))

/-- The kernel and the plain formula end with equal arrays. -/
theorem equal : Cert.algebraic_AttnDgradIdeal_AttnDgradReferenceIdeal (hAttnDgradIdeal := Cert.AttnDgradIdeal.Gen.facts)
    (hAttnDgradReferenceIdeal := Cert.AttnDgradReferenceIdeal.Gen.facts) := by
  intro m g m' g' _ hargs
  refine ⟨fun c => val_main_v37 (F := Ideal) (m ((c : Thread nD τ).loc main_arg0)) (m ((c : Thread nD τ).loc main_arg1)) (m ((c : Thread nD τ).loc main_arg2))
        (m ((c : Thread nD τ).loc main_arg3)) (m ((c : Thread nD τ).loc main_arg4)),
    fun c => val_main_v22 (F := Ideal) (m ((c : Thread nD τ).loc main_arg0)) (m ((c : Thread nD τ).loc main_arg1)) (m ((c : Thread nD τ).loc main_arg2))
       , ?_, ?_⟩
  · refine (θ_run defs _ _).mono (fun r h c => ?_) (Cert.AttnDgradIdeal.Value.run_blocks m g)
    exact ⟨(h c).1.trans (final_dx m c), (h c).2.1.trans (final_dg m c), (h c).2.2⟩
  · refine (θ_run Cert.AttnDgradReferenceIdeal.defs _ _).mono (fun r h c => ?_) (Cert.AttnDgradReferenceIdeal.Value.run m' g')
    obtain ⟨a0, a1, a2, a3, a4⟩ := hargs c
    refine ⟨(h c).1.trans ?_, (h c).2.1.trans ?_, (h c).2.2⟩
    · rw [a0, a1, a2, a3, a4]
      rfl
    · rw [a0, a1, a2]
      rfl

end Cert.AttnDgradIdeal.Hand

end
-- ==== Proof.ConvAbValue.lean ====
/- The input projection of the convolution branch: the array the tiled product writes, entry by entry, is the product of
   the two argument arrays. -/
module

public import proofs.«01_k».proof.Defs
public import proofs.«01_k».proof.Proof.Gen.ConvAbIdeal.Value
public import proofs.«01_k».proof.Proof.Gen.ConvAbReferenceIdeal.Run
public import proofs.«01_k».proof.Proof.Gen.ConvAbReferenceIdeal.Read
public import Idealize.ShloMosaic.Lib.Pipeline.ValueKit.Geometry
public import Idealize.ShloMosaic.Lib.Pipeline.ValueKit.Acc
public import Idealize.ShloMosaic.Lib.Pointwise

@[expose] public section

noncomputable section

namespace Cert.ConvAbIdeal.Hand

open Cert.ConvAbIdeal Cert.ConvAbIdeal.Gen Idealize.ShloMosaic Idealize.ShloMosaic.TcCoe Idealize.SL.Sem

variable (m : (ℓ : Loc nD τ sig) → Buf (Elt Ideal) ℓ) (ρ : Dev nD → PrngReg)

/-- One tile's product at an entry. -/
theorem tile_apply (a b : Vec Ideal S1024x1024 .bf16) (y : S1024x1024.Idx) :
    k0_pay1 (F := Ideal) a b y = ∑ k : Fin 1024, a (ix2 (y 0) k) * b (ix2 k (y 1)) := by
  pointwise [k0_pay1]

/-- Where the three windows sit at a point: the row block, the column block, and both. -/
theorem places : ∀ t : Fin cfg0.N, win0_0.index t = ![t.val / 2, 0] ∧ win0_1.index t = ![0, t.val % 2]
    ∧ win0_2.index t = ![t.val / 2, t.val % 2] :=
  (by decide +kernel : ∀ t : Fin grid0.N, _)

/-- After the run the output array is the product of the argument arrays. -/
theorem final (c : Dev nD) : (dats m 0 c).arrAt 2 cfg0.N
    = Cert.ConvAbReferenceIdeal.Read.val_main_v3 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := places t
  blk_simp
  rw [after0_2]
  frame_out
  rw [tile_apply, Cert.ConvAbReferenceIdeal.Read.val_main_v3_apply, Cert.ConvAbReferenceIdeal.Read.val_main_v2_apply]
  refine Fin.sum_fin_congr fun k => ?_
  rw [Cert.ConvAbReferenceIdeal.Read.val_main_v0_apply, Cert.ConvAbReferenceIdeal.Read.val_main_v1_apply]
  congr 1
  · blk_ext [iblk, V, e0, e2]
  · blk_ext [iblk, V, e1, e2]

/-- The kernel and the plain product end with equal arrays. -/
theorem equal : Cert.algebraic_ConvAbIdeal_ConvAbReferenceIdeal (hConvAbIdeal := Cert.ConvAbIdeal.Gen.facts)
    (hConvAbReferenceIdeal := Cert.ConvAbReferenceIdeal.Gen.facts) := by
  intro m g m' g' _ hargs
  refine ⟨fun c => Cert.ConvAbReferenceIdeal.Read.val_main_v3 (F := Ideal) (m ((c : Thread nD τ).loc main_arg0)) (m ((c : Thread nD τ).loc main_arg1)), ?_, ?_⟩
  · refine (θ_run defs _ _).mono (fun r h c => ?_) (Cert.ConvAbIdeal.Value.run_blocks m g)
    exact ⟨(h c).1.trans (final m c), (h c).2⟩
  · refine (θ_run Cert.ConvAbReferenceIdeal.defs _ _).mono (fun r h c => ?_) (Cert.ConvAbReferenceIdeal.Value.run m' g')
    refine ⟨(h c).1.trans ?_, (h c).2⟩
    rw [(hargs c).1, (hargs c).2]
    rfl

end Cert.ConvAbIdeal.Hand

end
-- ==== Proof.ConvZValue.lean ====
/- The gate projection of the convolution branch: the array the tiled product writes, entry by entry, is the product of
   the two argument arrays. -/
module

public import proofs.«01_k».proof.Defs
public import proofs.«01_k».proof.Proof.Gen.ConvZIdeal.Value
public import proofs.«01_k».proof.Proof.Gen.ConvZReferenceIdeal.Run
public import proofs.«01_k».proof.Proof.Gen.ConvZReferenceIdeal.Read
public import Idealize.ShloMosaic.Lib.Pipeline.ValueKit.Geometry
public import Idealize.ShloMosaic.Lib.Pipeline.ValueKit.Acc
public import Idealize.ShloMosaic.Lib.Pointwise

@[expose] public section

noncomputable section

namespace Cert.ConvZIdeal.Hand

open Cert.ConvZIdeal Cert.ConvZIdeal.Gen Idealize.ShloMosaic Idealize.ShloMosaic.TcCoe Idealize.SL.Sem

variable (m : (ℓ : Loc nD τ sig) → Buf (Elt Ideal) ℓ) (ρ : Dev nD → PrngReg)

/-- One tile's product at an entry. -/
theorem tile_apply (a b : Vec Ideal S1024x1024 .bf16) (y : S1024x1024.Idx) :
    k0_pay1 (F := Ideal) a b y = ∑ k : Fin 1024, a (ix2 (y 0) k) * b (ix2 k (y 1)) := by
  pointwise [k0_pay1]

/-- Where the three windows sit at a point: the row block, the column block, and both. -/
theorem places : ∀ t : Fin cfg0.N, win0_0.index t = ![t.val, 0] ∧ win0_1.index t = ![0, 0]
    ∧ win0_2.index t = ![t.val, 0] :=
  (by decide +kernel : ∀ t : Fin grid0.N, _)

/-- After the run the output array is the product of the argument arrays. -/
theorem final (c : Dev nD) : (dats m 0 c).arrAt 2 cfg0.N
    = Cert.ConvZReferenceIdeal.Read.val_main_v3 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := places t
  blk_simp
  rw [after0_2]
  frame_out
  rw [tile_apply, Cert.ConvZReferenceIdeal.Read.val_main_v3_apply, Cert.ConvZReferenceIdeal.Read.val_main_v2_apply]
  refine Fin.sum_fin_congr fun k => ?_
  rw [Cert.ConvZReferenceIdeal.Read.val_main_v0_apply, Cert.ConvZReferenceIdeal.Read.val_main_v1_apply]
  congr 1
  · blk_ext [iblk, V, e0, e2]
  · blk_ext [iblk, V, e1, e2]

/-- The kernel and the plain product end with equal arrays. -/
theorem equal : Cert.algebraic_ConvZIdeal_ConvZReferenceIdeal (hConvZIdeal := Cert.ConvZIdeal.Gen.facts)
    (hConvZReferenceIdeal := Cert.ConvZReferenceIdeal.Gen.facts) := by
  intro m g m' g' _ hargs
  refine ⟨fun c => Cert.ConvZReferenceIdeal.Read.val_main_v3 (F := Ideal) (m ((c : Thread nD τ).loc main_arg0)) (m ((c : Thread nD τ).loc main_arg1)), ?_, ?_⟩
  · refine (θ_run defs _ _).mono (fun r h c => ?_) (Cert.ConvZIdeal.Value.run_blocks m g)
    exact ⟨(h c).1.trans (final m c), (h c).2⟩
  · refine (θ_run Cert.ConvZReferenceIdeal.defs _ _).mono (fun r h c => ?_) (Cert.ConvZReferenceIdeal.Value.run m' g')
    refine ⟨(h c).1.trans ?_, (h c).2⟩
    rw [(hargs c).1, (hargs c).2]
    rfl

end Cert.ConvZIdeal.Hand

end
-- ==== Proof.OutDgradValue.lean ====
/- The gradient of an output projection's input: the array the tiled product writes, entry by entry, is the product of
   the gradient rows and the transposed weights. -/
module

public import proofs.«01_k».proof.Defs
public import proofs.«01_k».proof.Proof.Gen.OutDgradIdeal.Value
public import proofs.«01_k».proof.Proof.Gen.OutDgradReferenceIdeal.Run
public import proofs.«01_k».proof.Proof.Gen.OutDgradReferenceIdeal.Read
public import Idealize.ShloMosaic.Lib.Pipeline.ValueKit.Geometry
public import Idealize.ShloMosaic.Lib.Pipeline.ValueKit.Acc
public import Idealize.ShloMosaic.Lib.Pointwise

@[expose] public section

noncomputable section

namespace Cert.OutDgradIdeal.Hand

open Cert.OutDgradIdeal Cert.OutDgradIdeal.Gen Idealize.ShloMosaic Idealize.ShloMosaic.TcCoe Idealize.SL.Sem

variable (m : (ℓ : Loc nD τ sig) → Buf (Elt Ideal) ℓ) (ρ : Dev nD → PrngReg)

/-- One tile's product at an entry. -/
theorem tile_apply (a b : Vec Ideal S1024x1024 .bf16) (y : S1024x1024.Idx) :
    k0_pay1 (F := Ideal) a b y = ∑ k : Fin 1024, a (ix2 (y 0) k) * b (ix2 (y 1) k) := by
  pointwise [k0_pay1]

/-- Where the three windows sit at a point: the row block, the column block, and both. -/
theorem places : ∀ t : Fin cfg0.N, win0_0.index t = ![t.val, 0] ∧ win0_1.index t = ![0, 0]
    ∧ win0_2.index t = ![t.val, 0] :=
  (by decide +kernel : ∀ t : Fin grid0.N, _)

/-- After the run the output array is the product of the first argument and the transposed second. -/
theorem final (c : Dev nD) : (dats m 0 c).arrAt 2 cfg0.N
    = Cert.OutDgradReferenceIdeal.Read.val_main_v6 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := places t
  blk_simp
  rw [after0_2]
  frame_out
  rw [tile_apply, Cert.OutDgradReferenceIdeal.Read.val_main_v6_apply]
  refine Fin.sum_fin_congr fun k => ?_
  rw [Cert.OutDgradReferenceIdeal.Read.val_main_v3_apply, Cert.OutDgradReferenceIdeal.Read.val_main_v1_apply]
  congr 1
  · blk_ext [iblk, V, e0, e2]
  · blk_ext [iblk, V, e1, e2]

/-- The kernel and the plain product end with equal arrays. -/
theorem equal : Cert.algebraic_OutDgradIdeal_OutDgradReferenceIdeal (hOutDgradIdeal := Cert.OutDgradIdeal.Gen.facts)
    (hOutDgradReferenceIdeal := Cert.OutDgradReferenceIdeal.Gen.facts) := by
  intro m g m' g' _ hargs
  refine ⟨fun c => Cert.OutDgradReferenceIdeal.Read.val_main_v6 (F := Ideal) (m ((c : Thread nD τ).loc main_arg0)) (m ((c : Thread nD τ).loc main_arg1)), ?_, ?_⟩
  · refine (θ_run defs _ _).mono (fun r h c => ?_) (Cert.OutDgradIdeal.Value.run_blocks m g)
    exact ⟨(h c).1.trans (final m c), (h c).2⟩
  · refine (θ_run Cert.OutDgradReferenceIdeal.defs _ _).mono (fun r h c => ?_) (Cert.OutDgradReferenceIdeal.Value.run m' g')
    refine ⟨(h c).1.trans ?_, (h c).2⟩
    rw [(hargs c).1, (hargs c).2]
    rfl

end Cert.OutDgradIdeal.Hand

end
-- ==== Proof.OutWgradValue.lean ====
/- The gradient of an output projection's weights: the accumulated tile products, entry by entry, are the product of
   the transposed inputs and the gradient rows. -/
module

public import proofs.«01_k».proof.Defs
public import proofs.«01_k».proof.Proof.Gen.OutWgradIdeal.Value
public import proofs.«01_k».proof.Proof.Gen.OutWgradReferenceIdeal.Run
public import proofs.«01_k».proof.Proof.Gen.OutWgradReferenceIdeal.Read
public import Idealize.ShloMosaic.Lib.Pipeline.ValueKit.Geometry
public import Idealize.ShloMosaic.Lib.Pipeline.ValueKit.Acc
public import Idealize.ShloMosaic.Lib.Pipeline.ReadBack
public import Idealize.ShloMosaic.Lib.Pointwise

@[expose] public section

noncomputable section

namespace Cert.OutWgradIdeal.Hand

open Cert.OutWgradIdeal Cert.OutWgradIdeal.Gen Idealize.ShloMosaic Idealize.ShloMosaic.TcCoe Idealize.SL.Sem

variable (m : (ℓ : Loc nD τ sig) → Buf (Elt Ideal) ℓ) (ρ : Dev nD → PrngReg)

/-- The product of one pair of blocks at an entry. -/
abbrev part (a : Vec Ideal S1024x1024 .bf16) (b : Vec Ideal S1024x1024 .bf16) (y : S1024x1024.Idx) : EReal :=
  ∑ k : Fin 1024, a (ix2 k (y 0)) * b (ix2 k (y 1))

theorem tile_apply (a : Vec Ideal S1024x1024 .bf16) (b : Vec Ideal S1024x1024 .bf16) (y : S1024x1024.Idx) :
    k0_pay1 (F := Ideal) a b y = part a b y := by
  pointwise [k0_pay1]

theorem first_apply (a : Vec Ideal S1024x1024 .bf16) (b : Vec Ideal S1024x1024 .bf16) (y : S1024x1024.Idx) :
    k0_pay2 (F := Ideal) a b y = part a b y := by
  unfold k0_pay2
  pointwise [tile_apply]

theorem later_apply (a : Vec Ideal S1024x1024 .bf16) (b : Vec Ideal S1024x1024 .bf16) (s : Vec Ideal S1024x1024 .f32) (y : S1024x1024.Idx) :
    k0_pay3 (F := Ideal) a b s y = s y + part a b y := by
  unfold k0_pay3
  pointwise [tile_apply]

theorem last_apply (a : Vec Ideal S1024x1024 .bf16) (b : Vec Ideal S1024x1024 .bf16) (s : Vec Ideal S1024x1024 .f32) (y : S1024x1024.Idx) :
    k0_pay4 (F := Ideal) a b s y = s y + part a b y := by
  unfold k0_pay4
  pointwise [tile_apply]

/-- Where the three windows sit at a point: the block of rows summed over, the column block, and the latter. -/
theorem places : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The block being summed after a point: the output's at the last point of a run, the carried one before. -/
def summed (c : Dev nD) (n : ℕ) (h : n < cfg0.N) : Vec Ideal S1024x1024 .f32 :=
  if n % 8 = 7 then (outsAt0 m c n h).1 else (outsAt0 m c n h).2

theorem summed_first (c : Dev nD) (t : Fin cfg0.N) (h : t.val % 8 = 0) (y : S1024x1024.Idx) :
    summed m c t.val t.isLt y = 0 + part (iblk m c 0 t) (iblk m c 1 t) y := by
  unfold summed
  rw [if_neg (by omega), outsAt0_A m c t h (by omega) (by omega)]
  frame_out
  rw [first_apply, zero_add]

theorem summed_later (c : Dev nD) (t : Fin cfg0.N) (h : ¬t.val % 8 = 0) (y : S1024x1024.Idx) :
    summed m c t.val t.isLt y = summed m c (t.val - 1) (Nat.lt_of_le_of_lt (Nat.sub_le _ _) t.isLt) y
      + part (iblk m c 0 t) (iblk m c 1 t) y := by
  unfold summed
  rw [if_neg (show ¬(t.val - 1) % 8 = 7 by omega)]
  by_cases h7 : t.val % 8 = 7
  · rw [if_pos h7, outsAt0_C m c t h (by omega) h7]
    frame_out
    rw [last_apply, read_unread_whole]
  · rw [if_neg h7, outsAt0_B m c t h (by omega) h7]
    frame_out
    rw [later_apply, read_unread_whole]

/-- After the run the output array is the product of the transposed first argument and the second. -/
theorem final (c : Dev nD) : (dats m 0 c).arrAt 2 cfg0.N
    = Cert.OutWgradReferenceIdeal.Read.val_main_v5 (F := Ideal) (m ((c : Thread nD τ).loc main_arg0)) (m ((c : Thread nD τ).loc main_arg1)) := by
  refine (dats m 0 c).arrAt_eq_of_covers 2 _ (by decide +kernel) fun t hf y => ?_
  have hm : t.val % 8 = 7 := (flush0_2 t).mp hf
  blk_simp
  rw [after0_2]
  refine ((congrFun (if_pos hm : summed m c t.val t.isLt = (outsAt0 m c t.val t.isLt).1) y).symm.trans
    (Pipeline.eq_sum_fin_of_reset_step_apply_of_flush (fun n h => summed m c n h) 8 (fun _ => 0)
      (fun t y => part (iblk m c 0 t) (iblk m c 1 t) y) (summed_first m c) (summed_later m c) t hm y)).trans ?_
  rw [zero_add, Cert.OutWgradReferenceIdeal.Read.val_main_v5_apply, Cert.OutWgradReferenceIdeal.Read.val_main_v4_apply]
  refine Fin.sum_mul_add_congr fun s k hl => ?_
  obtain ⟨e0, e1, _⟩ := places ⟨8 * (t.val / 8) + s.val, Pipeline.run_point_lt_of_flush t hm s⟩
  obtain ⟨_, _, e2⟩ := places t
  rw [Cert.OutWgradReferenceIdeal.Read.val_main_v1_apply, Cert.OutWgradReferenceIdeal.Read.val_main_v3_apply]
  refine (mul_comm _ _).trans ?_
  congr 1
  · blk_ext [iblk, V, e1, e2]
  · blk_ext [iblk, V, e0, e2]

/-- The kernel and the plain product end with equal arrays. -/
theorem equal : Cert.algebraic_OutWgradIdeal_OutWgradReferenceIdeal (hOutWgradIdeal := Cert.OutWgradIdeal.Gen.facts)
    (hOutWgradReferenceIdeal := Cert.OutWgradReferenceIdeal.Gen.facts) := by
  intro m g m' g' _ hargs
  refine ⟨fun c => Cert.OutWgradReferenceIdeal.Read.val_main_v5 (F := Ideal) (m ((c : Thread nD τ).loc main_arg0)) (m ((c : Thread nD τ).loc main_arg1)), ?_, ?_⟩
  · refine (θ_run defs _ _).mono (fun r h c => ?_) (Cert.OutWgradIdeal.Value.run_blocks m g)
    exact ⟨(h c).1.trans (final m c), (h c).2⟩
  · refine (θ_run Cert.OutWgradReferenceIdeal.defs _ _).mono (fun r h c => ?_) (Cert.OutWgradReferenceIdeal.Value.run m' g')
    refine ⟨(h c).1.trans ?_, (h c).2⟩
    rw [(hargs c).1, (hargs c).2]
    rfl

end Cert.OutWgradIdeal.Hand

end
-- ==== Proof.AbWgradValue.lean ====
/- The gradient of the convolution's input weights: the accumulated tile products, entry by entry, are the product of
   the transposed normed rows and the gradient rows. -/
module

public import proofs.«01_k».proof.Defs
public import proofs.«01_k».proof.Proof.Gen.AbWgradIdeal.Value
public import proofs.«01_k».proof.Proof.Gen.AbWgradReferenceIdeal.Run
public import proofs.«01_k».proof.Proof.Gen.AbWgradReferenceIdeal.Read
public import Idealize.ShloMosaic.Lib.Pipeline.ValueKit.Geometry
public import Idealize.ShloMosaic.Lib.Pipeline.ValueKit.Acc
public import Idealize.ShloMosaic.Lib.Pipeline.ReadBack
public import Idealize.ShloMosaic.Lib.Pointwise

@[expose] public section

noncomputable section

namespace Cert.AbWgradIdeal.Hand

open Cert.AbWgradIdeal Cert.AbWgradIdeal.Gen Idealize.ShloMosaic Idealize.ShloMosaic.TcCoe Idealize.SL.Sem

variable (m : (ℓ : Loc nD τ sig) → Buf (Elt Ideal) ℓ) (ρ : Dev nD → PrngReg)

/-- The product of one pair of blocks at an entry. -/
abbrev part (a : Vec Ideal S1024x1024 .bf16) (b : Vec Ideal S1024x1024 .bf16) (y : S1024x1024.Idx) : EReal :=
  ∑ k : Fin 1024, a (ix2 k (y 0)) * b (ix2 k (y 1))

theorem tile_apply (a : Vec Ideal S1024x1024 .bf16) (b : Vec Ideal S1024x1024 .bf16) (y : S1024x1024.Idx) :
    k0_pay1 (F := Ideal) a b y = part a b y := by
  pointwise [k0_pay1]

theorem first_apply (a : Vec Ideal S1024x1024 .bf16) (b : Vec Ideal S1024x1024 .bf16) (y : S1024x1024.Idx) :
    k0_pay2 (F := Ideal) a b y = part a b y := by
  unfold k0_pay2
  pointwise [tile_apply]

theorem later_apply (a : Vec Ideal S1024x1024 .bf16) (b : Vec Ideal S1024x1024 .bf16) (s : Vec Ideal S1024x1024 .f32) (y : S1024x1024.Idx) :
    k0_pay3 (F := Ideal) a b s y = s y + part a b y := by
  unfold k0_pay3
  pointwise [tile_apply]

theorem last_apply (a : Vec Ideal S1024x1024 .bf16) (b : Vec Ideal S1024x1024 .bf16) (s : Vec Ideal S1024x1024 .f32) (y : S1024x1024.Idx) :
    k0_pay4 (F := Ideal) a b s y = s y + part a b y := by
  unfold k0_pay4
  pointwise [tile_apply]

/-- Where the three windows sit at a point: the block of rows summed over, the column block, and the latter. -/
theorem places : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The block being summed after a point: the output's at the last point of a run, the carried one before. -/
def summed (c : Dev nD) (n : ℕ) (h : n < cfg0.N) : Vec Ideal S1024x1024 .f32 :=
  if n % 8 = 7 then (outsAt0 m c n h).1 else (outsAt0 m c n h).2

theorem summed_first (c : Dev nD) (t : Fin cfg0.N) (h : t.val % 8 = 0) (y : S1024x1024.Idx) :
    summed m c t.val t.isLt y = 0 + part (iblk m c 0 t) (iblk m c 1 t) y := by
  unfold summed
  rw [if_neg (by omega), outsAt0_A m c t h (by omega) (by omega)]
  frame_out
  rw [first_apply, zero_add]

theorem summed_later (c : Dev nD) (t : Fin cfg0.N) (h : ¬t.val % 8 = 0) (y : S1024x1024.Idx) :
    summed m c t.val t.isLt y = summed m c (t.val - 1) (Nat.lt_of_le_of_lt (Nat.sub_le _ _) t.isLt) y
      + part (iblk m c 0 t) (iblk m c 1 t) y := by
  unfold summed
  rw [if_neg (show ¬(t.val - 1) % 8 = 7 by omega)]
  by_cases h7 : t.val % 8 = 7
  · rw [if_pos h7, outsAt0_C m c t h (by omega) h7]
    frame_out
    rw [last_apply, read_unread_whole]
  · rw [if_neg h7, outsAt0_B m c t h (by omega) h7]
    frame_out
    rw [later_apply, read_unread_whole]

/-- After the run the output array is the product of the transposed first argument and the second. -/
theorem final (c : Dev nD) : (dats m 0 c).arrAt 2 cfg0.N
    = Cert.AbWgradReferenceIdeal.Read.val_main_v5 (F := Ideal) (m ((c : Thread nD τ).loc main_arg0)) (m ((c : Thread nD τ).loc main_arg1)) := by
  refine (dats m 0 c).arrAt_eq_of_covers 2 _ (by decide +kernel) fun t hf y => ?_
  have hm : t.val % 8 = 7 := (flush0_2 t).mp hf
  blk_simp
  rw [after0_2]
  refine ((congrFun (if_pos hm : summed m c t.val t.isLt = (outsAt0 m c t.val t.isLt).1) y).symm.trans
    (Pipeline.eq_sum_fin_of_reset_step_apply_of_flush (fun n h => summed m c n h) 8 (fun _ => 0)
      (fun t y => part (iblk m c 0 t) (iblk m c 1 t) y) (summed_first m c) (summed_later m c) t hm y)).trans ?_
  rw [zero_add, Cert.AbWgradReferenceIdeal.Read.val_main_v5_apply, Cert.AbWgradReferenceIdeal.Read.val_main_v4_apply]
  refine Fin.sum_mul_add_congr fun s k hl => ?_
  obtain ⟨e0, e1, _⟩ := places ⟨8 * (t.val / 8) + s.val, Pipeline.run_point_lt_of_flush t hm s⟩
  obtain ⟨_, _, e2⟩ := places t
  rw [Cert.AbWgradReferenceIdeal.Read.val_main_v1_apply, Cert.AbWgradReferenceIdeal.Read.val_main_v3_apply]
  refine (mul_comm _ _).trans ?_
  congr 1
  · blk_ext [iblk, V, e1, e2]
  · blk_ext [iblk, V, e0, e2]

/-- The kernel and the plain product end with equal arrays. -/
theorem equal : Cert.algebraic_AbWgradIdeal_AbWgradReferenceIdeal (hAbWgradIdeal := Cert.AbWgradIdeal.Gen.facts)
    (hAbWgradReferenceIdeal := Cert.AbWgradReferenceIdeal.Gen.facts) := by
  intro m g m' g' _ hargs
  refine ⟨fun c => Cert.AbWgradReferenceIdeal.Read.val_main_v5 (F := Ideal) (m ((c : Thread nD τ).loc main_arg0)) (m ((c : Thread nD τ).loc main_arg1)), ?_, ?_⟩
  · refine (θ_run defs _ _).mono (fun r h c => ?_) (Cert.AbWgradIdeal.Value.run_blocks m g)
    exact ⟨(h c).1.trans (final m c), (h c).2⟩
  · refine (θ_run Cert.AbWgradReferenceIdeal.defs _ _).mono (fun r h c => ?_) (Cert.AbWgradReferenceIdeal.Value.run m' g')
    refine ⟨(h c).1.trans ?_, (h c).2⟩
    rw [(hargs c).1, (hargs c).2]
    rfl

end Cert.AbWgradIdeal.Hand

end
-- ==== Proof.GateWgradValue.lean ====
/- The gradient of the gate's weights: the accumulated tile products, entry by entry, are the product of the
   transposed rows and the gradient of the gate's argument. -/
module

public import proofs.«01_k».proof.Defs
public import proofs.«01_k».proof.Proof.Gen.GateWgradIdeal.Value
public import proofs.«01_k».proof.Proof.Gen.GateWgradReferenceIdeal.Run
public import proofs.«01_k».proof.Proof.Gen.GateWgradReferenceIdeal.Read
public import Idealize.ShloMosaic.Lib.Pipeline.ValueKit.Geometry
public import Idealize.ShloMosaic.Lib.Pipeline.ValueKit.Acc
public import Idealize.ShloMosaic.Lib.Pipeline.ReadBack
public import Idealize.ShloMosaic.Lib.Pointwise

@[expose] public section

noncomputable section

namespace Cert.GateWgradIdeal.Hand

open Cert.GateWgradIdeal Cert.GateWgradIdeal.Gen Idealize.ShloMosaic Idealize.ShloMosaic.TcCoe Idealize.SL.Sem

variable (m : (ℓ : Loc nD τ sig) → Buf (Elt Ideal) ℓ) (ρ : Dev nD → PrngReg)

/-- The product of one pair of blocks at an entry. -/
abbrev part (a : Vec Ideal S1024x1024 .f32) (b : Vec Ideal S1024x1024 .bf16) (y : S1024x1024.Idx) : EReal :=
  ∑ k : Fin 1024, a (ix2 k (y 0)) * b (ix2 k (y 1))

theorem tile_apply (a : Vec Ideal S1024x1024 .f32) (b : Vec Ideal S1024x1024 .bf16) (y : S1024x1024.Idx) :
    k0_pay1 (F := Ideal) a b y = part a b y := by
  pointwise [k0_pay1]

theorem first_apply (a : Vec Ideal S1024x1024 .f32) (b : Vec Ideal S1024x1024 .bf16) (y : S1024x1024.Idx) :
    k0_pay2 (F := Ideal) a b y = part a b y := by
  unfold k0_pay2
  pointwise [tile_apply]

theorem later_apply (a : Vec Ideal S1024x1024 .f32) (b : Vec Ideal S1024x1024 .bf16) (s : Vec Ideal S1024x1024 .f32) (y : S1024x1024.Idx) :
    k0_pay3 (F := Ideal) a b s y = s y + part a b y := by
  unfold k0_pay3
  pointwise [tile_apply]

theorem last_apply (a : Vec Ideal S1024x1024 .f32) (b : Vec Ideal S1024x1024 .bf16) (s : Vec Ideal S1024x1024 .f32) (y : S1024x1024.Idx) :
    k0_pay4 (F := Ideal) a b s y = s y + part a b y := by
  unfold k0_pay4
  pointwise [tile_apply]

/-- Where the three windows sit at a point: the block of rows summed over, the column block, and the latter. -/
theorem places : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The block being summed after a point: the output's at the last point of a run, the carried one before. -/
def summed (c : Dev nD) (n : ℕ) (h : n < cfg0.N) : Vec Ideal S1024x1024 .f32 :=
  if n % 8 = 7 then (outsAt0 m c n h).1 else (outsAt0 m c n h).2

theorem summed_first (c : Dev nD) (t : Fin cfg0.N) (h : t.val % 8 = 0) (y : S1024x1024.Idx) :
    summed m c t.val t.isLt y = 0 + part (iblk m c 0 t) (iblk m c 1 t) y := by
  unfold summed
  rw [if_neg (by omega), outsAt0_A m c t h (by omega) (by omega)]
  frame_out
  rw [first_apply, zero_add]

theorem summed_later (c : Dev nD) (t : Fin cfg0.N) (h : ¬t.val % 8 = 0) (y : S1024x1024.Idx) :
    summed m c t.val t.isLt y = summed m c (t.val - 1) (Nat.lt_of_le_of_lt (Nat.sub_le _ _) t.isLt) y
      + part (iblk m c 0 t) (iblk m c 1 t) y := by
  unfold summed
  rw [if_neg (show ¬(t.val - 1) % 8 = 7 by omega)]
  by_cases h7 : t.val % 8 = 7
  · rw [if_pos h7, outsAt0_C m c t h (by omega) h7]
    frame_out
    rw [last_apply, read_unread_whole]
  · rw [if_neg h7, outsAt0_B m c t h (by omega) h7]
    frame_out
    rw [later_apply, read_unread_whole]

/-- After the run the output array is the product of the transposed first argument and the second. -/
theorem final (c : Dev nD) : (dats m 0 c).arrAt 2 cfg0.N
    = Cert.GateWgradReferenceIdeal.Read.val_main_v4 (F := Ideal) (m ((c : Thread nD τ).loc main_arg0)) (m ((c : Thread nD τ).loc main_arg1)) := by
  refine (dats m 0 c).arrAt_eq_of_covers 2 _ (by decide +kernel) fun t hf y => ?_
  have hm : t.val % 8 = 7 := (flush0_2 t).mp hf
  blk_simp
  rw [after0_2]
  refine ((congrFun (if_pos hm : summed m c t.val t.isLt = (outsAt0 m c t.val t.isLt).1) y).symm.trans
    (Pipeline.eq_sum_fin_of_reset_step_apply_of_flush (fun n h => summed m c n h) 8 (fun _ => 0)
      (fun t y => part (iblk m c 0 t) (iblk m c 1 t) y) (summed_first m c) (summed_later m c) t hm y)).trans ?_
  rw [zero_add, Cert.GateWgradReferenceIdeal.Read.val_main_v4_apply, Cert.GateWgradReferenceIdeal.Read.val_main_v3_apply]
  refine Fin.sum_mul_add_congr fun s k hl => ?_
  obtain ⟨e0, e1, _⟩ := places ⟨8 * (t.val / 8) + s.val, Pipeline.run_point_lt_of_flush t hm s⟩
  obtain ⟨_, _, e2⟩ := places t
  rw [Cert.GateWgradReferenceIdeal.Read.val_main_v2_apply]
  refine (mul_comm _ _).trans ?_
  congr 1
  · blk_ext [iblk, V, e1, e2]
  · blk_ext [iblk, V, e0, e2]

/-- The kernel and the plain product end with equal arrays. -/
theorem equal : Cert.algebraic_GateWgradIdeal_GateWgradReferenceIdeal (hGateWgradIdeal := Cert.GateWgradIdeal.Gen.facts)
    (hGateWgradReferenceIdeal := Cert.GateWgradReferenceIdeal.Gen.facts) := by
  intro m g m' g' _ hargs
  refine ⟨fun c => Cert.GateWgradReferenceIdeal.Read.val_main_v4 (F := Ideal) (m ((c : Thread nD τ).loc main_arg0)) (m ((c : Thread nD τ).loc main_arg1)), ?_, ?_⟩
  · refine (θ_run defs _ _).mono (fun r h c => ?_) (Cert.GateWgradIdeal.Value.run_blocks m g)
    exact ⟨(h c).1.trans (final m c), (h c).2⟩
  · refine (θ_run Cert.GateWgradReferenceIdeal.defs _ _).mono (fun r h c => ?_) (Cert.GateWgradReferenceIdeal.Value.run m' g')
    refine ⟨(h c).1.trans ?_, (h c).2⟩
    rw [(hargs c).1, (hargs c).2]
    rfl

end Cert.GateWgradIdeal.Hand

end
-- ==== Proof.GateFwdValue.lean ====
/- The gate's forward call: both arrays the rows' kernel writes, entry by entry, are those of the plain formula. -/
module

public import proofs.«01_k».proof.Defs
public import proofs.«01_k».proof.Proof.Logistic
public import proofs.«01_k».proof.Proof.Gen.GateFwdIdeal.Value
public import proofs.«01_k».proof.Proof.Gen.GateFwdReferenceIdeal.Run
public import proofs.«01_k».proof.Proof.Gen.GateFwdReferenceIdeal.Read
public import Idealize.ShloMosaic.Lib.Pipeline.ValueKit.Geometry
public import Idealize.ShloMosaic.Lib.Pipeline.ValueKit.Acc
public import Idealize.ShloMosaic.Lib.Pointwise

@[expose] public section

noncomputable section

namespace Cert.GateFwdIdeal.Hand

open Cert.GateFwdIdeal Cert.GateFwdIdeal.Gen Cert.GateFwdReferenceIdeal.Read Cert.Logistic Idealize.ShloMosaic Idealize.ShloMosaic.TcCoe Idealize.SL.Sem

variable (m : (ℓ : Loc nD τ sig) → Buf (Elt Ideal) ℓ) (ρ : Dev nD → PrngReg)

/-- One block of rows' product at an entry. -/
theorem rows_apply (a : Vec Ideal S512x1024 .f32) (b : Vec Ideal S1024x1024 .bf16) (y : S512x1024.Idx) :
    k0_pay1 (F := Ideal) a b y = ∑ k : Fin 1024, a (ix2 (y 0) k) * b (ix2 k (y 1)) := by
  pointwise [k0_pay1]

/-- The second output's block at an entry. -/
theorem gate_apply (a : Vec Ideal S512x1024 .f32) (b : Vec Ideal S1024x1024 .bf16) (e : Vec Ideal S512x1024 .f32) (y : S512x1024.Idx) :
    k0_pay2 (F := Ideal) a b e y = a y + e y * logistic (k0_pay1 (F := Ideal) a b y) := by
  unfold k0_pay2
  generalize k0_pay1 (F := Ideal) a b = p
  pointwise []
  rw [zero_sub]
  rfl

/-- The reference's second result at an entry, from its product. -/
theorem reference_apply (x0 : Vec Ideal S8192x1024 .f32) (x1 : Vec Ideal S1024x1024 .bf16) (x2 : Vec Ideal S8192x1024 .f32)
    (i : S8192x1024.Idx) :
    val_main_v9 (F := Ideal) x0 x1 x2 i = x0 i + x2 i * logistic (val_main_v1 (F := Ideal) x0 x1 i) := by
  simp only [val_main_v9_apply, val_main_v8_apply, val_main_v7_apply, val_main_v6_apply, val_main_v5_apply, val_main_v4_apply,
    val_main_v3_apply, val_main_v2_apply, val_main_cst_apply, val_main_cst_0_apply]
  rw [show (FloatOps.ofBits .f32 0x3F800000#32 : Ideal .f32) = 1 from Ideal.ofBits_one_f32]
  rfl

/-- Where the windows sit at a point: the block of rows, or the whole array. -/
theorem places : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- A block's product at an entry is the whole product at the entry's place. -/
theorem product_apply (c : Dev nD) (t : Fin cfg0.N) (z : S512x1024.Idx) (i : S8192x1024.Idx) (h0 : (i 0).val = t.val * 512 + (z 0).val)
    (h1 : (i 1).val = (z 1).val) : k0_pay1 (F := Ideal) (iblk m c 0 t) (iblk m c 1 t) z
      = val_main_v1 (F := Ideal) (m ((c : Thread nD τ).loc main_arg0)) (m ((c : Thread nD τ).loc main_arg1)) i := by
  obtain ⟨e0, e1, _⟩ := places t
  rw [rows_apply, val_main_v1_apply]
  refine Fin.sum_fin_congr fun k => ?_
  rw [val_main_v0_apply]
  congr 1
  · blk_ext [iblk, V, e0, h0]
  · blk_ext [iblk, V, e1, h1]

/-- After the run the first output is the reference's product. -/
theorem final_y (c : Dev nD) : (dats m 0 c).arrAt 3 cfg0.N
    = val_main_v1 (F := Ideal) (m ((c : Thread nD τ).loc main_arg0)) (m ((c : Thread nD τ).loc main_arg1)) := by
  refine (dats m 0 c).arrAt_eq_of_covers 3 _ (by decide +kernel) fun t hf y => ?_
  obtain ⟨_, _, _, e3, _⟩ := places t
  blk_simp
  rw [after0_3]
  frame_out
  refine product_apply m c t y _ ?_ ?_
  · blk_simp [e3]
  · blk_simp [e3]

/-- After the run the second output is the reference's. -/
theorem final_x (c : Dev nD) : (dats m 0 c).arrAt 4 cfg0.N
    = val_main_v9 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  obtain ⟨e0, _, e2, _, e4⟩ := places t
  have h0 : (((cfg0.win 4).blk t).view.emb y 0 : Fin 8192).val = t.val * 512 + (y 0).val := by blk_simp [e4]
  have h1 : (((cfg0.win 4).blk t).view.emb y 1 : Fin 1024).val = (y 1).val := by blk_simp [e4]
  generalize ((cfg0.win 4).blk t).view.emb y = i at h0 h1
  blk_simp
  rw [after0_4]
  frame_out
  rw [gate_apply, reference_apply, product_apply m c t y i h0 h1]
  congr 1
  · blk_ext [iblk, V, e0, h0, h1]
  · congr 1
    blk_ext [iblk, V, e2, h0, h1]

/-- The kernel and the plain formula end with equal arrays. -/
theorem equal : Cert.algebraic_GateFwdIdeal_GateFwdReferenceIdeal (hGateFwdIdeal := Cert.GateFwdIdeal.Gen.facts)
    (hGateFwdReferenceIdeal := Cert.GateFwdReferenceIdeal.Gen.facts) := by
  intro m g m' g' _ hargs
  refine ⟨fun c => val_main_v1 (F := Ideal) (m ((c : Thread nD τ).loc main_arg0)) (m ((c : Thread nD τ).loc main_arg1)),
    fun c => val_main_v9 (F := Ideal) (m ((c : Thread nD τ).loc main_arg0)) (m ((c : Thread nD τ).loc main_arg1))
      (m ((c : Thread nD τ).loc main_arg2)), ?_, ?_⟩
  · refine (θ_run defs _ _).mono (fun r h c => ?_) (Cert.GateFwdIdeal.Value.run_blocks m g)
    exact ⟨(h c).1.trans (final_y m c), (h c).2.1.trans (final_x m c), (h c).2.2⟩
  · refine (θ_run Cert.GateFwdReferenceIdeal.defs _ _).mono (fun r h c => ?_) (Cert.GateFwdReferenceIdeal.Value.run m' g')
    obtain ⟨a0, a1, a2⟩ := hargs c
    refine ⟨(h c).1.trans ?_, (h c).2.1.trans ?_, (h c).2.2⟩
    · rw [a0, a1]
      rfl
    · rw [a0, a1, a2]
      rfl

end Cert.GateFwdIdeal.Hand

end
-- ==== Proof.PostFwdValue.lean ====
/- An output projection with the norm and the sum after it: both arrays the rows' kernel writes, entry by entry, are those
   of the plain formula. -/
module

public import proofs.«01_k».proof.Defs
public import proofs.«01_k».proof.Proof.NormGrad
public import proofs.«01_k».proof.Proof.Gen.PostFwdIdeal.Value
public import proofs.«01_k».proof.Proof.Gen.PostFwdReferenceIdeal.Run
public import proofs.«01_k».proof.Proof.Gen.PostFwdReferenceIdeal.Read
public import Idealize.ShloMosaic.Lib.Pipeline.ValueKit.Geometry
public import Idealize.ShloMosaic.Lib.Pipeline.ValueKit.Acc
public import Idealize.ShloMosaic.Lib.Pointwise

@[expose] public section

noncomputable section

namespace Cert.PostFwdIdeal.Hand

open Cert.PostFwdIdeal Cert.PostFwdIdeal.Gen Cert.PostFwdReferenceIdeal.Read Cert.NormGrad Idealize.ShloMosaic Idealize.ShloMosaic.TcCoe Idealize.SL.Sem

variable (m : (ℓ : Loc nD τ sig) → Buf (Elt Ideal) ℓ) (ρ : Dev nD → PrngReg)

/-- One block of rows' product at an entry. -/
theorem rows_apply (a : Vec Ideal S512x1024 .bf16) (b : Vec Ideal S1024x1024 .bf16) (y : S512x1024.Idx) :
    k0_pay1 (F := Ideal) a b y = ∑ k : Fin 1024, a (ix2 (y 0) k) * b (ix2 k (y 1)) := by
  pointwise [k0_pay1]

/-- The second output's block at an entry. -/
theorem post_apply (a : Vec Ideal S512x1024 .bf16) (b : Vec Ideal S1024x1024 .bf16) (x : Vec Ideal S512x1024 .f32)
    (g : Vec Ideal S1x1024 .f32) (y : S512x1024.Idx) :
    k0_pay2 (F := Ideal) a b x g y = x y + k0_pay1 (F := Ideal) a b y * scale (fun k => k0_pay1 (F := Ideal) a b (ix2 (y 0) k)) * g (ix2 0 (y 1)) := by
  unfold k0_pay2
  generalize k0_pay1 (F := Ideal) a b = p
  pointwise []

/-- The reference's second result at an entry, from its product. -/
theorem reference_apply (x0 : Vec Ideal S8192x1024 .bf16) (x1 : Vec Ideal S1024x1024 .bf16) (x2 : Vec Ideal S8192x1024 .f32)
    (x3 : Vec Ideal S1x1024 .f32) (i : S8192x1024.Idx) :
    val_main_v15 (F := Ideal) x0 x1 x2 x3 i = x2 i
      + val_main_v2 (F := Ideal) x0 x1 i * scale (fun k => val_main_v2 (F := Ideal) x0 x1 (ix2 (i 0) k)) * x3 (ix2 0 (i 1)) := by
  simp only [val_main_v15_apply, val_main_v14_apply, val_main_v13_apply, val_main_v12_apply, val_main_v11_apply, val_main_v10_apply,
    val_main_v9_apply, val_main_v8_apply, val_main_v7_apply, val_main_v6_apply, val_main_v5_apply, val_main_v4_apply, val_main_v3_apply]
  have e : ∀ k, idx_main_v4 (idx_main_v5 (idx_main_v11 i)) k = ix2 (i 0) k := fun k => funext fun a => by
    match a with
    | 0 => rfl
    | 1 => rfl
  have e' : idx_main_v13 i = ix2 0 (i 1) := funext fun a => by
    match a with
    | 0 => rfl
    | 1 => rfl
  rw [e']
  simp only [e, val_main_cst_apply, val_main_cst_0_apply, val_main_cst_1_apply]
  rw [show (FloatOps.ofBits .f32 0x00000000#32 : Ideal .f32) = 0 from Ideal.ofBits_zero_f32, zero_add]
  rfl

/-- Where the windows sit at a point: the block of rows, or the whole array. -/
theorem places : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- A block's product at an entry is the whole product at the entry's place. -/
theorem product_apply (c : Dev nD) (t : Fin cfg0.N) (z : S512x1024.Idx) (i : S8192x1024.Idx) (h0 : (i 0).val = t.val * 512 + (z 0).val)
    (h1 : (i 1).val = (z 1).val) : k0_pay1 (F := Ideal) (iblk m c 0 t) (iblk m c 1 t) z
      = val_main_v2 (F := Ideal) (m ((c : Thread nD τ).loc main_arg0)) (m ((c : Thread nD τ).loc main_arg1)) i := by
  obtain ⟨e0, e1, _⟩ := places t
  rw [rows_apply, val_main_v2_apply]
  refine Fin.sum_fin_congr fun k => ?_
  rw [val_main_v0_apply, val_main_v1_apply]
  congr 1
  · blk_ext [iblk, V, e0, h0]
  · blk_ext [iblk, V, e1, h1]

/-- After the run the first output is the reference's product. -/
theorem final_y (c : Dev nD) : (dats m 0 c).arrAt 4 cfg0.N
    = val_main_v2 (F := Ideal) (m ((c : Thread nD τ).loc main_arg0)) (m ((c : Thread nD τ).loc main_arg1)) := by
  refine (dats m 0 c).arrAt_eq_of_covers 4 _ (by decide +kernel) fun t hf y => ?_
  obtain ⟨_, _, _, _, e4, _⟩ := places t
  blk_simp
  rw [after0_4]
  frame_out
  refine product_apply m c t y _ ?_ ?_
  · blk_simp [e4]
  · blk_simp [e4]

/-- After the run the second output is the reference's. -/
theorem final_x (c : Dev nD) : (dats m 0 c).arrAt 5 cfg0.N
    = val_main_v15 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  obtain ⟨_, _, e2, e3, _, e5⟩ := places t
  have h0 : (((cfg0.win 5).blk t).view.emb y 0 : Fin 8192).val = t.val * 512 + (y 0).val := by blk_simp [e5]
  have h1 : (((cfg0.win 5).blk t).view.emb y 1 : Fin 1024).val = (y 1).val := by blk_simp [e5]
  generalize ((cfg0.win 5).blk t).view.emb y = i at h0 h1
  blk_simp
  rw [after0_5]
  frame_out
  rw [post_apply, reference_apply, product_apply m c t y i h0 h1]
  rw [show (fun k => k0_pay1 (F := Ideal) (iblk m c 0 t) (iblk m c 1 t) (ix2 (y 0) k)) = fun k => _ from
    funext fun k => product_apply m c t (ix2 (y 0) k) (ix2 (i 0) k) h0 rfl]
  congr 1
  · blk_ext [iblk, V, e2, h0, h1]
  · congr 1
    blk_ext [iblk, V, e3, h1]

/-- The kernel and the plain formula end with equal arrays. -/
theorem equal : Cert.algebraic_PostFwdIdeal_PostFwdReferenceIdeal (hPostFwdIdeal := Cert.PostFwdIdeal.Gen.facts)
    (hPostFwdReferenceIdeal := Cert.PostFwdReferenceIdeal.Gen.facts) := by
  intro m g m' g' _ hargs
  refine ⟨fun c => val_main_v2 (F := Ideal) (m ((c : Thread nD τ).loc main_arg0)) (m ((c : Thread nD τ).loc main_arg1)),
    fun c => val_main_v15 (F := Ideal) (m ((c : Thread nD τ).loc main_arg0)) (m ((c : Thread nD τ).loc main_arg1))
      (m ((c : Thread nD τ).loc main_arg2)) (m ((c : Thread nD τ).loc main_arg3)), ?_, ?_⟩
  · refine (θ_run defs _ _).mono (fun r h c => ?_) (Cert.PostFwdIdeal.Value.run_blocks m g)
    exact ⟨(h c).1.trans (final_y m c), (h c).2.1.trans (final_x m c), (h c).2.2⟩
  · refine (θ_run Cert.PostFwdReferenceIdeal.defs _ _).mono (fun r h c => ?_) (Cert.PostFwdReferenceIdeal.Value.run m' g')
    obtain ⟨a0, a1, a2, a3⟩ := hargs c
    refine ⟨(h c).1.trans ?_, (h c).2.1.trans ?_, (h c).2.2⟩
    · rw [a0, a1]
      rfl
    · rw [a0, a1, a2, a3]
      rfl

end Cert.PostFwdIdeal.Hand

end
-- ==== Proof.ConvDgradValue.lean ====
/- The gradient through the convolution branch's input product and norm: both arrays the kernel writes, entry by entry, are
   those of the plain formula's derivative. -/
module

public import proofs.«01_k».proof.Defs
public import proofs.«01_k».proof.Proof.NormGrad
public import proofs.«01_k».proof.Proof.Gen.ConvDgradIdeal.Value
public import proofs.«01_k».proof.Proof.Gen.ConvDgradReferenceIdeal.Run
public import proofs.«01_k».proof.Proof.Gen.ConvDgradReferenceIdeal.Read
public import Idealize.ShloMosaic.Lib.Pipeline.ValueKit.Geometry
public import Idealize.ShloMosaic.Lib.Pipeline.ValueKit.Acc
public import Idealize.ShloMosaic.Lib.Pipeline.ReadBack
public import Idealize.ShloMosaic.Lib.Pointwise

@[expose] public section

noncomputable section

namespace Cert.ConvDgradIdeal.Hand

open Cert.ConvDgradIdeal Cert.ConvDgradIdeal.Gen Cert.ConvDgradReferenceIdeal.Read Cert.NormGrad Idealize.ShloMosaic Idealize.ShloMosaic.TcCoe Idealize.SL.Sem

variable (m : (ℓ : Loc nD τ sig) → Buf (Elt Ideal) ℓ) (ρ : Dev nD → PrngReg)

/-- A block's gradient of the normed rows at an entry. -/
theorem rows_apply (a : Vec Ideal S512x2048 .bf16) (b : Vec Ideal S1024x2048 .bf16) (d : Vec Ideal S512x1024 .f32) (y : S512x1024.Idx) :
    k0_pay3 (F := Ideal) a b d y = (∑ k : Fin 2048, a (ix2 (y 0) k) * b (ix2 (y 1) k)) + d y := by
  pointwise [k0_pay3]

theorem scale_apply (x : Vec Ideal S512x1024 .f32) (y : S512x1.Idx) :
    k0_pay4 (F := Ideal) x y = scale (fun k => x (ix2 (y 0) k)) := by
  pointwise [k0_pay4]

/-- A normed entry. -/
abbrev normed (x : Vec Ideal S512x1024 .f32) (y : S512x1024.Idx) : EReal := x y * scale (fun k => x (ix2 (y 0) k))

theorem normed_apply (x : Vec Ideal S512x1024 .f32) (y : S512x1024.Idx) :
    k0_pay5 (F := Ideal) x y = x y * scale (fun k => x (ix2 (y 0) k)) := by
  unfold k0_pay5
  pointwise [scale_apply]

theorem zero_apply (y : S1x1024.Idx) : k0_pay2 (F := Ideal) y = 0 := by
  pointwise [k0_pay2]

/-- The sum over a block's rows added to what was there. -/
theorem sums_apply (a : Vec Ideal S512x2048 .bf16) (b : Vec Ideal S1024x2048 .bf16) (d x : Vec Ideal S512x1024 .f32) (s : Vec Ideal S1x1024 .f32) (y : S1x1024.Idx) :
    k0_pay6 (F := Ideal) a b d x s y = s y + ∑ r : Fin 512, k0_pay3 (F := Ideal) a b d (ix2 r (y 1)) * (x (ix2 r (y 1)) * scale (fun k => x (ix2 r k))) := by
  unfold k0_pay6
  generalize k0_pay3 (F := Ideal) a b d = p
  pointwise [normed_apply]

/-- The gradient of the rows at an entry. -/
theorem dx_apply (a : Vec Ideal S512x2048 .bf16) (b : Vec Ideal S1024x2048 .bf16) (d x : Vec Ideal S512x1024 .f32) (g : Vec Ideal S1x1024 .f32)
    (e : Vec Ideal S512x1024 .f32) (y : S512x1024.Idx) :
    k0_pay1 (F := Ideal) (k0_pay4 (F := Ideal) x) (k0_pay5 (F := Ideal) x) (k0_pay7 (F := Ideal) a b d g) e y
      = e y + scale (fun k => x (ix2 (y 0) k)) * (k0_pay3 (F := Ideal) a b d y * g (ix2 0 (y 1)) - x y * scale (fun k => x (ix2 (y 0) k))
        * Ideal.div (∑ k, k0_pay3 (F := Ideal) a b d (ix2 (y 0) k) * g (ix2 0 k) * (x (ix2 (y 0) k) * scale (fun k => x (ix2 (y 0) k)))) width) := by
  unfold k0_pay7 k0_pay1
  generalize k0_pay3 (F := Ideal) a b d = p
  pointwise [normed_apply, scale_apply]

/-- Where the windows sit at a point: the block of rows, or the whole array. -/
theorem places : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

section
variable (x0 : Vec Ideal S8192x2048 .bf16) (x1 : Vec Ideal S1024x2048 .bf16) (x2 : Vec Ideal S8192x1024 .f32) (x3 : Vec Ideal S1x1024 .f32)
  (x4 x5 : Vec Ideal S8192x1024 .f32)

theorem reference_meanSq (i : Cert.ConvDgradReferenceIdeal.S8192x1.Idx) : val_main_v8 (F := Ideal) x2 i = meanSq (fun k => x2 (ix2 (i 0) k)) := by
  have e : ∀ k, idx_main_v3 (idx_main_v4 i) k = ix2 (i 0) k := fun k => funext fun a => by
    match a with
    | 0 => rfl
    | 1 => rfl
  simp only [val_main_v8_apply, val_main_v7_apply, val_main_v6_apply, val_main_v5_apply, val_main_v4_apply, val_main_v3_apply, val_main_v0_apply,
    val_main_cst_0_apply, val_main_cst_1_apply, val_main_cst_2_apply, e]
  rw [show (FloatOps.ofBits .f32 0x00000000#32 : Ideal .f32) = 0 from Ideal.ofBits_zero_f32, zero_add]
  rfl

theorem reference_scale (i : Cert.ConvDgradReferenceIdeal.S8192x1.Idx) : val_main_v9 (F := Ideal) x2 i = scale (fun k => x2 (ix2 (i 0) k)) := by
  rw [val_main_v9_apply, reference_meanSq]
  rfl

theorem reference_sums (q : Fin 1024) : val_main_v24 (F := Ideal) x0 x1 x2 x5 (ix2 0 q)
    = ∑ r : Fin 8192, val_main_v21 (F := Ideal) x0 x1 x5 (ix2 r q) * (x2 (ix2 r q) * scale (fun k => x2 (ix2 r k))) := by
  have e : ∀ k, idx_main_v23 (idx_main_v24 (ix2 0 q)) k = ix2 k q := fun k => funext fun a => by
    match a with
    | 0 => rfl
    | 1 => exact Fin.ext (by show 0 * 1024 + q.val = q.val; omega)
  rw [val_main_v24_apply, val_main_v23_apply, val_main_cst_4_apply,
    show (FloatOps.ofBits .f32 0x00000000#32 : Ideal .f32) = 0 from Ideal.ofBits_zero_f32, zero_add]
  refine Fin.sum_fin_congr fun r => ?_
  rw [e, val_main_v22_apply, val_main_v14_apply, val_main_v13_apply, reference_scale]
  exact mul_comm _ _

theorem reference_dx (p : Fin 8192) (q : Fin 1024) : val_main_v39 (F := Ideal) x0 x1 x2 x3 x4 x5 (ix2 p q)
    = x4 (ix2 p q) + scale (fun k => x2 (ix2 p k)) * (val_main_v21 (F := Ideal) x0 x1 x5 (ix2 p q) * x3 (ix2 0 q) - x2 (ix2 p q) * scale (fun k => x2 (ix2 p k))
        * Ideal.div (∑ k, val_main_v21 (F := Ideal) x0 x1 x5 (ix2 p k) * x3 (ix2 0 k) * (x2 (ix2 p k) * scale (fun k => x2 (ix2 p k)))) width) := by
  have e : ∀ s k, idx_main_v28 (idx_main_v29 (idx_main_v35 (idx_main_v36 (ix2 p q)) s)) k = ix2 p k := fun s k => funext fun a => by
    match a with
    | 0 => exact Fin.ext (by have h : s.val < 1 := s.isLt; show p.val * 1 + s.val = p.val; omega)
    | 1 => rfl
  have e' : ∀ j, idx_main_v25 j = ix2 0 (j 1) := fun j => funext fun a => by
    match a with
    | 0 => rfl
    | 1 => rfl
  rw [grad_eq (fun k => x2 (ix2 p k)) (fun k => val_main_v21 (F := Ideal) x0 x1 x5 (ix2 p k) * x3 (ix2 0 k)) q]
  simp only [val_main_v39_apply, val_main_v38_apply, val_main_v37_apply, val_main_v36_apply, val_main_v35_apply, val_main_v34_apply, val_main_v33_apply,
    val_main_v32_apply, val_main_v31_apply, val_main_v30_apply, val_main_v29_apply, val_main_v28_apply, val_main_v27_apply, val_main_v26_apply,
    val_main_v25_apply, val_main_v12_apply, val_main_v11_apply, val_main_v10_apply, val_main_v2_apply, val_main_v1_apply, reference_scale, reference_meanSq,
    val_main_cst_apply, val_main_cst_3_apply, val_main_cst_5_apply, val_main_cst_6_apply, val_main_cst_7_apply, e, e']
  rw [show (FloatOps.ofBits .f32 0x00000000#32 : Ideal .f32) = 0 from Ideal.ofBits_zero_f32, zero_add, zero_add, Fin.sum_univ_one]
  rfl

end

/-- A block's gradient of the normed rows at an entry is the whole one at the entry's place. -/
theorem rows_at (c : Dev nD) (t : Fin cfg0.N) (z : S512x1024.Idx) (i : S8192x1024.Idx) (h0 : (i 0).val = t.val * 512 + (z 0).val)
    (h1 : (i 1).val = (z 1).val) : k0_pay3 (F := Ideal) (iblk m c 0 t) (iblk m c 1 t) (iblk m c 5 t) z
      = val_main_v21 (F := Ideal) (m ((c : Thread nD τ).loc main_arg0)) (m ((c : Thread nD τ).loc main_arg1)) (m ((c : Thread nD τ).loc main_arg5)) i := by
  obtain ⟨e0, e1, _, _, _, e5, _⟩ := places t
  rw [rows_apply, val_main_v21_apply, val_main_v20_apply]
  refine (add_comm _ _).trans ?_
  congr 1
  · blk_ext [iblk, V, e5, h0, h1]
  · refine Fin.sum_fin_congr fun k => ?_
    rw [val_main_v19_apply, val_main_v17_apply]
    congr 1
    · blk_ext [iblk, V, e0, h0]
    · blk_ext [iblk, V, e1, h1]

/-- A block of the saved rows at an entry is the whole array at the entry's place. -/
theorem saved_at (c : Dev nD) (t : Fin cfg0.N) (z : S512x1024.Idx) (i : S8192x1024.Idx) (h0 : (i 0).val = t.val * 512 + (z 0).val)
    (h1 : (i 1).val = (z 1).val) : (iblk m c 2 t : Vec Ideal S512x1024 .f32) z = m ((c : Thread nD τ).loc main_arg2) i := by
  obtain ⟨_, _, e2, _⟩ := places t
  blk_ext [iblk, V, e2, h0, h1]

/-- After the run the first output is the reference's gradient of the rows. -/
theorem final_dx (c : Dev nD) : (dats m 0 c).arrAt 6 cfg0.N
    = val_main_v39 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  obtain ⟨_, _, _, e3, e4, _, e6, _⟩ := places t
  have h0 : (((cfg0.win 6).blk t).view.emb y 0 : Fin 8192).val = t.val * 512 + (y 0).val := by blk_simp [e6]
  have h1 : (((cfg0.win 6).blk t).view.emb y 1 : Fin 1024).val = (y 1).val := by blk_simp [e6]
  generalize ((cfg0.win 6).blk t).view.emb y = i at h0 h1
  blk_simp
  rw [after0_6]
  refine (show (outsAt0 m c t.val t.isLt).1 y = k0_pay1 (F := Ideal) (k0_pay4 (F := Ideal) (iblk m c 2 t)) (k0_pay5 (F := Ideal) (iblk m c 2 t))
      (k0_pay7 (F := Ideal) (iblk m c 0 t) (iblk m c 1 t) (iblk m c 5 t) (iblk m c 3 t)) (iblk m c 4 t) y from ?_).trans ?_
  · by_cases h : t.val % 16 = 0
    · rw [outsAt0_A m c t h]
      frame_out
    · rw [outsAt0_B m c t h]
      frame_out
  obtain ⟨p, q, rfl⟩ : ∃ (p : Fin 8192) (q : Fin 1024), i = ix2 p q := ⟨i 0, i 1, funext fun a => by
    match a with
    | 0 => rfl
    | 1 => rfl⟩
  have er : ∀ k, k0_pay3 (F := Ideal) (iblk m c 0 t) (iblk m c 1 t) (iblk m c 5 t) (ix2 (y 0) k)
      = val_main_v21 (F := Ideal) (m ((c : Thread nD τ).loc main_arg0)) (m ((c : Thread nD τ).loc main_arg1)) (m ((c : Thread nD τ).loc main_arg5)) (ix2 p k) :=
    fun k => rows_at m c t (ix2 (y 0) k) (ix2 p k) h0 rfl
  have es : ∀ k, (iblk m c 2 t : Vec Ideal S512x1024 .f32) (ix2 (y 0) k) = m ((c : Thread nD τ).loc main_arg2) (ix2 p k) :=
    fun k => saved_at m c t (ix2 (y 0) k) (ix2 p k) h0 rfl
  have eg : ∀ k k' : Fin 1024, k.val = k'.val → (iblk m c 3 t : Vec Ideal S1x1024 .f32) (ix2 0 k) = m ((c : Thread nD τ).loc main_arg3) (ix2 0 k') := fun k k' hk => by
    blk_ext [iblk, V, e3, hk]
  rw [dx_apply, reference_dx, rows_at m c t y (ix2 p q) h0 h1, saved_at m c t y (ix2 p q) h0 h1, eg (y 1) q h1.symm]
  simp only [er, es, eg _ _ rfl]
  congr 1
  blk_ext [iblk, V, e4, h0, h1]

/-- What a point adds to the column sums. -/
abbrev part (m : (ℓ : Loc nD τ sig) → Buf (Elt Ideal) ℓ) (c : Dev nD) (t : Fin cfg0.N) (y : S1x1024.Idx) : EReal :=
  ∑ r : Fin 512, k0_pay3 (F := Ideal) (iblk m c 0 t) (iblk m c 1 t) (iblk m c 5 t) (ix2 r (y 1))
    * (normed (iblk m c 2 t) (ix2 r (y 1)))

theorem summed_first (c : Dev nD) (t : Fin cfg0.N) (h : t.val % 16 = 0) (y : S1x1024.Idx) :
    (outsAt0 m c t.val t.isLt).2 y = 0 + part m c t y := by
  rw [outsAt0_A m c t h]
  frame_out
  rw [sums_apply, zero_apply]
  rfl

theorem summed_later (c : Dev nD) (t : Fin cfg0.N) (h : ¬t.val % 16 = 0) (y : S1x1024.Idx) :
    (outsAt0 m c t.val t.isLt).2 y = (outsAt0 m c (t.val - 1) (Nat.lt_of_le_of_lt (Nat.sub_le _ _) t.isLt)).2 y + part m c t y := by
  rw [outsAt0_B m c t h]
  frame_out
  rw [sums_apply]
  rfl

/-- After the run the second output is the reference's gradient of the norm's factors. -/
theorem final_dg (c : Dev nD) : (dats m 0 c).arrAt 7 cfg0.N
    = val_main_v24 (F := Ideal) (m ((c : Thread nD τ).loc main_arg0)) (m ((c : Thread nD τ).loc main_arg1)) (m ((c : Thread nD τ).loc main_arg2))
        (m ((c : Thread nD τ).loc main_arg5)) := by
  refine (dats m 0 c).arrAt_eq_of_covers 7 _ (by decide +kernel) fun t hf y => ?_
  have hm : t.val % 16 = 15 := (flush0_7 t).mp hf
  obtain ⟨_, _, _, _, _, _, _, e7⟩ := places t
  have h1 : (((cfg0.win 7).blk t).view.emb y 1 : Fin 1024).val = (y 1).val := by blk_simp [e7]
  generalize ((cfg0.win 7).blk t).view.emb y = i at h1
  obtain ⟨q, rfl⟩ : ∃ q : Fin 1024, i = ix2 0 q := ⟨i 1, funext fun a => by
    match a with
    | 0 => exact Fin.ext (by have h : (i 0).val < 1 := (i 0).isLt; show (i 0).val = 0; omega)
    | 1 => rfl⟩
  blk_simp
  rw [after0_7]
  refine (Pipeline.eq_sum_fin_of_reset_step_apply_of_flush (fun n h => (outsAt0 m c n h).2) 16 (fun _ => 0)
      (fun t y => part m c t y) (summed_first m c) (summed_later m c) t hm y).trans ?_
  rw [zero_add, reference_sums]
  refine Fin.sum_mul_add_congr fun s r hl => ?_
  have hp := Pipeline.run_point_lt_of_flush t hm s
  have hr : s.val * 512 + r.val = (16 * (t.val / 16) + s.val) * 512 + r.val := by
    have : t.val < 16 := t.isLt
    omega
  rw [rows_at m c ⟨16 * (t.val / 16) + s.val, hp⟩ (ix2 r (y 1)) (ix2 ⟨s.val * 512 + r.val, hl⟩ q) hr h1]
  congr 1
  have hs : ∀ k k' : Fin 1024, k'.val = k.val → (iblk m c 2 ⟨16 * (t.val / 16) + s.val, hp⟩ : Vec Ideal S512x1024 .f32) (ix2 r k)
      = m ((c : Thread nD τ).loc main_arg2) (ix2 ⟨s.val * 512 + r.val, hl⟩ k') := fun k k' hk =>
    saved_at m c ⟨16 * (t.val / 16) + s.val, hp⟩ (ix2 r k) (ix2 ⟨s.val * 512 + r.val, hl⟩ k') hr hk
  refine congrArg₂ (· * ·) (hs (y 1) q h1) (congrArg scale (funext fun k => hs k k rfl))

/-- The kernel and the plain formula end with equal arrays. -/
theorem equal : Cert.algebraic_ConvDgradIdeal_ConvDgradReferenceIdeal (hConvDgradIdeal := Cert.ConvDgradIdeal.Gen.facts)
    (hConvDgradReferenceIdeal := Cert.ConvDgradReferenceIdeal.Gen.facts) := by
  intro m g m' g' _ hargs
  refine ⟨fun c => val_main_v39 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)),
    fun c => val_main_v24 (F := Ideal) (m ((c : Thread nD τ).loc main_arg0)) (m ((c : Thread nD τ).loc main_arg1)) (m ((c : Thread nD τ).loc main_arg2))
        (m ((c : Thread nD τ).loc main_arg5)), ?_, ?_⟩
  · refine (θ_run defs _ _).mono (fun r h c => ?_) (Cert.ConvDgradIdeal.Value.run_blocks m g)
    exact ⟨(h c).1.trans (final_dx m c), (h c).2.1.trans (final_dg m c), (h c).2.2⟩
  · refine (θ_run Cert.ConvDgradReferenceIdeal.defs _ _).mono (fun r h c => ?_) (Cert.ConvDgradReferenceIdeal.Value.run m' g')
    obtain ⟨a0, a1, a2, a3, a4, a5⟩ := hargs c
    refine ⟨(h c).1.trans ?_, (h c).2.1.trans ?_, (h c).2.2⟩
    · rw [a0, a1, a2, a3, a4, a5]
      rfl
    · rw [a0, a1, a2, a5]
      rfl

end Cert.ConvDgradIdeal.Hand

end
-- ==== Proof.PlePostValue.lean ====
/- The gradient through the gated per-layer embedding and the branch's last norm: the five arrays the kernel writes, entry by
   entry, are those of the plain formula's derivative. -/
module

public import proofs.«01_k».proof.Defs
public import proofs.«01_k».proof.Proof.NormGrad
public import proofs.«01_k».proof.Proof.Logistic
public import proofs.«01_k».proof.Proof.Gen.PlePostIdeal.Value
public import proofs.«01_k».proof.Proof.Gen.PlePostReferenceIdeal.Run
public import proofs.«01_k».proof.Proof.Gen.PlePostReferenceIdeal.Read
public import Idealize.ShloMosaic.Lib.Pipeline.ValueKit.Geometry
public import Idealize.ShloMosaic.Lib.Pipeline.ValueKit.Acc
public import Idealize.ShloMosaic.Lib.Pipeline.ReadBack
public import Idealize.ShloMosaic.Lib.Pointwise

@[expose] public section

noncomputable section

namespace Cert.PlePostIdeal.Hand

open Cert.PlePostIdeal Cert.PlePostIdeal.Gen Cert.PlePostReferenceIdeal.Read Cert.NormGrad Cert.Logistic Idealize.ShloMosaic Idealize.ShloMosaic.TcCoe Idealize.SL.Sem

variable (m : (ℓ : Loc nD τ sig) → Buf (Elt Ideal) ℓ) (ρ : Dev nD → PrngReg)

/-- The gate of a block at an entry. -/
theorem gate_apply (l : Vec Ideal S512x1024 .f32) (y : S512x1024.Idx) : k0_pay6 (F := Ideal) l y = logistic (l y) := by
  unfold k0_pay6
  pointwise []
  rw [zero_sub]
  rfl

theorem embed_apply (d l : Vec Ideal S512x1024 .f32) (y : S512x1024.Idx) : k0_pay7 (F := Ideal) d l y = d y * logistic (l y) := by
  unfold k0_pay7
  pointwise [gate_apply]

theorem logit_apply (d l e : Vec Ideal S512x1024 .f32) (y : S512x1024.Idx) :
    k0_pay8 (F := Ideal) d l e y = e y * d y * (logistic (l y) * (1 - logistic (l y))) := by
  rw [← mul_assoc, mul_comm (e y)]
  unfold k0_pay8
  pointwise [gate_apply]

/-- A block's gradient before the gate at an entry. -/
theorem rows_apply (d l e : Vec Ideal S512x1024 .f32) (w : Vec Ideal S1024x1024 .bf16) (y : S512x1024.Idx) :
    k0_pay9 (F := Ideal) d l e w y = d y + ∑ k : Fin 1024, k0_pay8 (F := Ideal) d l e (ix2 (y 0) k) * w (ix2 (y 1) k) := by
  unfold k0_pay9
  generalize k0_pay8 (F := Ideal) d l e = p
  pointwise []

theorem scale_apply (x : Vec Ideal S512x1024 .f32) (y : S512x1.Idx) :
    k0_pay1 (F := Ideal) (k0_pay10 (F := Ideal) x) y = scale (fun k => x (ix2 (y 0) k)) := by
  pointwise [k0_pay1, k0_pay10]

/-- A normed entry. -/
abbrev normed (x : Vec Ideal S512x1024 .f32) (y : S512x1024.Idx) : EReal := x y * scale (fun k => x (ix2 (y 0) k))

theorem normed_apply (x : Vec Ideal S512x1024 .f32) (y : S512x1024.Idx) :
    k0_pay2 (F := Ideal) x (k0_pay10 (F := Ideal) x) y = x y * scale (fun k => x (ix2 (y 0) k)) := by
  unfold k0_pay2
  pointwise [scale_apply]

theorem zero_apply (y : S1x1024.Idx) : k0_pay5 (F := Ideal) y = 0 := by
  pointwise [k0_pay5]

/-- The sum over a block's rows added to what was there. -/
theorem sums_apply (p x : Vec Ideal S512x1024 .f32) (s : Vec Ideal S1x1024 .f32) (y : S1x1024.Idx) :
    k0_pay3 (F := Ideal) p x (k0_pay10 (F := Ideal) x) s y = s y + ∑ r : Fin 512, p (ix2 r (y 1)) * (x (ix2 r (y 1)) * scale (fun k => x (ix2 r k))) := by
  unfold k0_pay3
  pointwise [normed_apply]

/-- The gradient of the normed rows at an entry. -/
theorem dy_apply (p x : Vec Ideal S512x1024 .f32) (g : Vec Ideal S1x1024 .f32) (y : S512x1024.Idx) :
    k0_pay4 (F := Ideal) p x (k0_pay10 (F := Ideal) x) g y
      = scale (fun k => x (ix2 (y 0) k)) * (p y * g (ix2 0 (y 1)) - x y * scale (fun k => x (ix2 (y 0) k))
        * Ideal.div (∑ k, p (ix2 (y 0) k) * g (ix2 0 k) * (x (ix2 (y 0) k) * scale (fun k => x (ix2 (y 0) k)))) width) := by
  unfold k0_pay4
  pointwise [normed_apply, scale_apply]

/-- Where the windows sit at a point: the block of rows, or the whole array. -/
theorem places : ∀ t : Fin cfg0.N, (win0_0.index t = ![t.val, 0] ∧ win0_1.index t = ![t.val, 0] ∧ win0_2.index t = ![t.val, 0]
    ∧ win0_3.index t = ![0, 0] ∧ win0_4.index t = ![t.val, 0] ∧ win0_5.index t = ![0, 0]) ∧ win0_6.index t = ![t.val, 0]
    ∧ win0_7.index t = ![t.val, 0] ∧ win0_8.index t = ![t.val, 0] ∧ win0_9.index t = ![t.val, 0] ∧ win0_10.index t = ![0, 0] :=
  (by decide +kernel : ∀ t : Fin grid0.N, _)

section
variable (x0 x1 x2 : Vec Ideal S8192x1024 .f32) (x3 : Vec Ideal S1024x1024 .bf16) (x4 : Vec Ideal S8192x1024 .f32) (x5 : Vec Ideal S1x1024 .f32)

theorem reference_gate (i : S8192x1024.Idx) : val_main_v5 (F := Ideal) x2 i = logistic (x2 i) := by
  simp only [val_main_v5_apply, val_main_v4_apply, val_main_v3_apply, val_main_v2_apply, val_main_v1_apply, val_main_v0_apply, val_main_cst_apply,
    val_main_cst_0_apply]
  rw [show (FloatOps.ofBits .f32 0x3F800000#32 : Ideal .f32) = 1 from Ideal.ofBits_one_f32]
  rfl

theorem reference_logit (i : S8192x1024.Idx) :
    val_main_v12 (F := Ideal) x0 x1 x2 i = x1 i * x0 i * (logistic (x2 i) * (1 - logistic (x2 i))) := by
  simp only [val_main_v12_apply, val_main_v10_apply, val_main_v8_apply, val_main_v7_apply, val_main_v6_apply, val_main_cst_1_apply, reference_gate]
  rw [show (FloatOps.ofBits .f32 0x3F800000#32 : Ideal .f32) = 1 from Ideal.ofBits_one_f32]
  rfl

theorem reference_meanSq (i : Cert.PlePostReferenceIdeal.S8192x1.Idx) : val_main_v28 (F := Ideal) x4 i = meanSq (fun k => x4 (ix2 (i 0) k)) := by
  have e : ∀ k, idx_main_v23 (idx_main_v24 i) k = ix2 (i 0) k := fun k => funext fun a => by
    match a with
    | 0 => rfl
    | 1 => rfl
  simp only [val_main_v28_apply, val_main_v27_apply, val_main_v26_apply, val_main_v25_apply, val_main_v24_apply, val_main_v23_apply, val_main_v20_apply,
    val_main_cst_4_apply, val_main_cst_5_apply, val_main_cst_6_apply, e]
  rw [show (FloatOps.ofBits .f32 0x00000000#32 : Ideal .f32) = 0 from Ideal.ofBits_zero_f32, zero_add]
  rfl

theorem reference_scale (i : Cert.PlePostReferenceIdeal.S8192x1.Idx) : val_main_v29 (F := Ideal) x4 i = scale (fun k => x4 (ix2 (i 0) k)) := by
  rw [val_main_v29_apply, reference_meanSq]
  rfl

theorem reference_sums (q : Fin 1024) : val_main_v39 (F := Ideal) x0 x1 x2 x3 x4 (ix2 0 q)
    = ∑ r : Fin 8192, val_main_v19 (F := Ideal) x0 x1 x2 x3 (ix2 r q) * (x4 (ix2 r q) * scale (fun k => x4 (ix2 r k))) := by
  have e : ∀ k, idx_main_v38 (idx_main_v39 (ix2 0 q)) k = ix2 k q := fun k => funext fun a => by
    match a with
    | 0 => rfl
    | 1 => exact Fin.ext (by show 0 * 1024 + q.val = q.val; omega)
  rw [val_main_v39_apply, val_main_v38_apply, val_main_cst_8_apply,
    show (FloatOps.ofBits .f32 0x00000000#32 : Ideal .f32) = 0 from Ideal.ofBits_zero_f32, zero_add]
  refine Fin.sum_fin_congr fun r => ?_
  rw [e, val_main_v37_apply, val_main_v34_apply, val_main_v33_apply, reference_scale]
  exact mul_comm _ _

theorem reference_dy (p : Fin 8192) (q : Fin 1024) : val_main_v53 (F := Ideal) x0 x1 x2 x3 x4 x5 (ix2 p q)
    = scale (fun k => x4 (ix2 p k)) * (val_main_v19 (F := Ideal) x0 x1 x2 x3 (ix2 p q) * x5 (ix2 0 q) - x4 (ix2 p q) * scale (fun k => x4 (ix2 p k))
        * Ideal.div (∑ k, val_main_v19 (F := Ideal) x0 x1 x2 x3 (ix2 p k) * x5 (ix2 0 k) * (x4 (ix2 p k) * scale (fun k => x4 (ix2 p k)))) width) := by
  have e : ∀ s k, idx_main_v43 (idx_main_v44 (idx_main_v50 (idx_main_v51 (ix2 p q)) s)) k = ix2 p k := fun s k => funext fun a => by
    match a with
    | 0 => exact Fin.ext (by have h : s.val < 1 := s.isLt; show p.val * 1 + s.val = p.val; omega)
    | 1 => rfl
  have e' : ∀ j, idx_main_v40 j = ix2 0 (j 1) := fun j => funext fun a => by
    match a with
    | 0 => rfl
    | 1 => rfl
  rw [grad_eq (fun k => x4 (ix2 p k)) (fun k => val_main_v19 (F := Ideal) x0 x1 x2 x3 (ix2 p k) * x5 (ix2 0 k)) q]
  simp only [val_main_v53_apply, val_main_v52_apply, val_main_v51_apply, val_main_v50_apply, val_main_v49_apply, val_main_v48_apply, val_main_v47_apply,
    val_main_v46_apply, val_main_v45_apply, val_main_v44_apply, val_main_v43_apply, val_main_v42_apply, val_main_v41_apply, val_main_v40_apply,
    val_main_v32_apply, val_main_v31_apply, val_main_v30_apply, val_main_v22_apply, val_main_v21_apply, reference_scale, reference_meanSq,
    val_main_cst_3_apply, val_main_cst_7_apply, val_main_cst_9_apply, val_main_cst_10_apply, val_main_cst_11_apply, e, e']
  rw [show (FloatOps.ofBits .f32 0x00000000#32 : Ideal .f32) = 0 from Ideal.ofBits_zero_f32, zero_add, zero_add, Fin.sum_univ_one]
  rfl

end

/-- The blocks of rows at an entry are the whole arrays at the entry's place. -/
theorem inputs_at (c : Dev nD) (t : Fin cfg0.N) (z : S512x1024.Idx) (i : S8192x1024.Idx) (h0 : (i 0).val = t.val * 512 + (z 0).val)
    (h1 : (i 1).val = (z 1).val) : (iblk m c 0 t : Vec Ideal S512x1024 .f32) z = m ((c : Thread nD τ).loc main_arg0) i
      ∧ (iblk m c 1 t : Vec Ideal S512x1024 .f32) z = m ((c : Thread nD τ).loc main_arg1) i
      ∧ (iblk m c 2 t : Vec Ideal S512x1024 .f32) z = m ((c : Thread nD τ).loc main_arg2) i
      ∧ (iblk m c 4 t : Vec Ideal S512x1024 .f32) z = m ((c : Thread nD τ).loc main_arg4) i := by
  obtain ⟨⟨e0, e1, e2, _, e4, _⟩, _⟩ := places t
  refine ⟨?_, ?_, ?_, ?_⟩
  · blk_ext [iblk, V, e0, h0, h1]
  · blk_ext [iblk, V, e1, h0, h1]
  · blk_ext [iblk, V, e2, h0, h1]
  · blk_ext [iblk, V, e4, h0, h1]

theorem embed_at (c : Dev nD) (t : Fin cfg0.N) (z : S512x1024.Idx) (i : S8192x1024.Idx) (h0 : (i 0).val = t.val * 512 + (z 0).val)
    (h1 : (i 1).val = (z 1).val) : k0_pay7 (F := Ideal) (iblk m c 0 t) (iblk m c 2 t) z = val_main_v11 (F := Ideal) (m ((c : Thread nD τ).loc main_arg0)) (m ((c : Thread nD τ).loc main_arg2)) i := by
  obtain ⟨a0, _, a2, _⟩ := inputs_at m c t z i h0 h1
  rw [embed_apply, val_main_v11_apply, reference_gate, a0, a2]
  rfl

theorem logit_at (c : Dev nD) (t : Fin cfg0.N) (z : S512x1024.Idx) (i : S8192x1024.Idx) (h0 : (i 0).val = t.val * 512 + (z 0).val)
    (h1 : (i 1).val = (z 1).val) : k0_pay8 (F := Ideal) (iblk m c 0 t) (iblk m c 2 t) (iblk m c 1 t) z = val_main_v12 (F := Ideal) (m ((c : Thread nD τ).loc main_arg0)) (m ((c : Thread nD τ).loc main_arg1)) (m ((c : Thread nD τ).loc main_arg2)) i := by
  obtain ⟨a0, a1, a2, _⟩ := inputs_at m c t z i h0 h1
  rw [logit_apply, reference_logit, a0, a1, a2]

/-- A block's gradient before the gate at an entry is the whole one at the entry's place. -/
theorem rows_at (c : Dev nD) (t : Fin cfg0.N) (z : S512x1024.Idx) (i : S8192x1024.Idx) (h0 : (i 0).val = t.val * 512 + (z 0).val)
    (h1 : (i 1).val = (z 1).val) : k0_pay9 (F := Ideal) (iblk m c 0 t) (iblk m c 2 t) (iblk m c 1 t) (iblk m c 3 t) z
      = val_main_v19 (F := Ideal) (m ((c : Thread nD τ).loc main_arg0)) (m ((c : Thread nD τ).loc main_arg1)) (m ((c : Thread nD τ).loc main_arg2)) (m ((c : Thread nD τ).loc main_arg3)) i := by
  obtain ⟨⟨_, _, _, e3, _⟩, _⟩ := places t
  rw [rows_apply, val_main_v19_apply, val_main_v18_apply]
  refine congrArg₂ (· + ·) (inputs_at m c t z i h0 h1).1 (Fin.sum_fin_congr fun k => ?_)
  rw [val_main_v14_apply]
  refine congrArg₂ (· * ·) (logit_at m c t _ _ h0 rfl) ?_
  blk_ext [iblk, V, e3, h1]

/-- After the run the first output is the reference's gradient of the embedding. -/
theorem final_dpe (c : Dev nD) : (dats m 0 c).arrAt 6 cfg0.N
    = val_main_v54 (F := Ideal) (m ((c : Thread nD τ).loc main_arg0)) (m ((c : Thread nD τ).loc main_arg2)) := by
  refine (dats m 0 c).arrAt_eq_of_covers 6 _ (by decide +kernel) fun t hf y => ?_
  obtain ⟨_, e6, e7, e8, e9, _⟩ := places t
  have h0 : (((cfg0.win 6).blk t).view.emb y 0 : Fin 8192).val = t.val * 512 + (y 0).val := by blk_simp [e6]
  have h1 : (((cfg0.win 6).blk t).view.emb y 1 : Fin 1024).val = (y 1).val := by blk_simp [e6]
  generalize ((cfg0.win 6).blk t).view.emb y = i at h0 h1
  blk_simp
  rw [after0_6]
  refine (show (outsAt0 m c t.val t.isLt).1 y = k0_pay7 (F := Ideal) (iblk m c 0 t) (iblk m c 2 t) y from ?_).trans ?_
  · by_cases h : t.val % 16 = 0
    · rw [outsAt0_A m c t h]
      frame_out
    · rw [outsAt0_B m c t h]
      frame_out
  exact embed_at m c t y i h0 h1

/-- After the run the second output is the reference's gradient of the gate's argument. -/
theorem final_dgl (c : Dev nD) : (dats m 0 c).arrAt 7 cfg0.N
    = val_main_v55 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  obtain ⟨_, e6, e7, e8, e9, _⟩ := places t
  have h0 : (((cfg0.win 7).blk t).view.emb y 0 : Fin 8192).val = t.val * 512 + (y 0).val := by blk_simp [e7]
  have h1 : (((cfg0.win 7).blk t).view.emb y 1 : Fin 1024).val = (y 1).val := by blk_simp [e7]
  generalize ((cfg0.win 7).blk t).view.emb y = i at h0 h1
  blk_simp
  rw [after0_7]
  refine (show (outsAt0 m c t.val t.isLt).2.1 y = k0_pay8 (F := Ideal) (iblk m c 0 t) (iblk m c 2 t) (iblk m c 1 t) y from ?_).trans ?_
  · by_cases h : t.val % 16 = 0
    · rw [outsAt0_A m c t h]
      frame_out
    · rw [outsAt0_B m c t h]
      frame_out
  exact logit_at m c t y i h0 h1

/-- After the run the third output is the reference's gradient of the rows before the gate. -/
theorem final_dx1 (c : Dev nD) : (dats m 0 c).arrAt 8 cfg0.N
    = val_main_v19 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  obtain ⟨_, e6, e7, e8, e9, _⟩ := places t
  have h0 : (((cfg0.win 8).blk t).view.emb y 0 : Fin 8192).val = t.val * 512 + (y 0).val := by blk_simp [e8]
  have h1 : (((cfg0.win 8).blk t).view.emb y 1 : Fin 1024).val = (y 1).val := by blk_simp [e8]
  generalize ((cfg0.win 8).blk t).view.emb y = i at h0 h1
  blk_simp
  rw [after0_8]
  refine (show (outsAt0 m c t.val t.isLt).2.2.1 y = k0_pay9 (F := Ideal) (iblk m c 0 t) (iblk m c 2 t) (iblk m c 1 t) (iblk m c 3 t) y from ?_).trans ?_
  · by_cases h : t.val % 16 = 0
    · rw [outsAt0_A m c t h]
      frame_out
    · rw [outsAt0_B m c t h]
      frame_out
  exact rows_at m c t y i h0 h1

/-- After the run the fourth output is the reference's gradient of the normed rows. -/
theorem final_dy (c : Dev nD) : (dats m 0 c).arrAt 9 cfg0.N
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  obtain ⟨_, e6, e7, e8, e9, _⟩ := places t
  have h0 : (((cfg0.win 9).blk t).view.emb y 0 : Fin 8192).val = t.val * 512 + (y 0).val := by blk_simp [e9]
  have h1 : (((cfg0.win 9).blk t).view.emb y 1 : Fin 1024).val = (y 1).val := by blk_simp [e9]
  generalize ((cfg0.win 9).blk t).view.emb y = i at h0 h1
  blk_simp
  rw [after0_9]
  refine (show (outsAt0 m c t.val t.isLt).2.2.2.1 y = k0_pay4 (F := Ideal) (k0_pay9 (F := Ideal) (iblk m c 0 t) (iblk m c 2 t) (iblk m c 1 t) (iblk m c 3 t)) (iblk m c 4 t) (k0_pay10 (F := Ideal) (iblk m c 4 t)) (iblk m c 5 t) y from ?_).trans ?_
  · by_cases h : t.val % 16 = 0
    · rw [outsAt0_A m c t h]
      frame_out
    · rw [outsAt0_B m c t h]
      frame_out
  obtain ⟨⟨_, _, _, _, _, e5⟩, _⟩ := places t
  obtain ⟨p, q, rfl⟩ : ∃ (p : Fin 8192) (q : Fin 1024), i = ix2 p q := ⟨i 0, i 1, funext fun a => by
    match a with
    | 0 => rfl
    | 1 => rfl⟩
  have er : ∀ k, k0_pay9 (F := Ideal) (iblk m c 0 t) (iblk m c 2 t) (iblk m c 1 t) (iblk m c 3 t) (ix2 (y 0) k)
      = val_main_v19 (F := Ideal) (m ((c : Thread nD τ).loc main_arg0)) (m ((c : Thread nD τ).loc main_arg1)) (m ((c : Thread nD τ).loc main_arg2)) (m ((c : Thread nD τ).loc main_arg3)) (ix2 p k) :=
    fun k => rows_at m c t (ix2 (y 0) k) (ix2 p k) h0 rfl
  have es : ∀ k, (iblk m c 4 t : Vec Ideal S512x1024 .f32) (ix2 (y 0) k) = m ((c : Thread nD τ).loc main_arg4) (ix2 p k) :=
    fun k => (inputs_at m c t (ix2 (y 0) k) (ix2 p k) h0 rfl).2.2.2
  have eg : ∀ k k' : Fin 1024, k.val = k'.val → (iblk m c 5 t : Vec Ideal S1x1024 .f32) (ix2 0 k) = m ((c : Thread nD τ).loc main_arg5) (ix2 0 k') := fun k k' hk => by
    blk_ext [iblk, V, e5, hk]
  refine Eq.trans ?_ (reference_dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) p q).symm
  rw [dy_apply, rows_at m c t y (ix2 p q) h0 h1, (inputs_at m c t y (ix2 p q) h0 h1).2.2.2, eg (y 1) q h1.symm]
  simp only [er, es, eg _ _ rfl]

/-- What a point adds to the column sums. -/
abbrev part (m : (ℓ : Loc nD τ sig) → Buf (Elt Ideal) ℓ) (c : Dev nD) (t : Fin cfg0.N) (y : S1x1024.Idx) : EReal :=
  ∑ r : Fin 512, k0_pay9 (F := Ideal) (iblk m c 0 t) (iblk m c 2 t) (iblk m c 1 t) (iblk m c 3 t) (ix2 r (y 1))
    * (normed (iblk m c 4 t) (ix2 r (y 1)))

theorem summed_first (c : Dev nD) (t : Fin cfg0.N) (h : t.val % 16 = 0) (y : S1x1024.Idx) :
    (outsAt0 m c t.val t.isLt).2.2.2.2 y = 0 + part m c t y := by
  rw [outsAt0_A m c t h]
  frame_out
  rw [sums_apply, zero_apply]
  rfl

theorem summed_later (c : Dev nD) (t : Fin cfg0.N) (h : ¬t.val % 16 = 0) (y : S1x1024.Idx) :
    (outsAt0 m c t.val t.isLt).2.2.2.2 y = (outsAt0 m c (t.val - 1) (Nat.lt_of_le_of_lt (Nat.sub_le _ _) t.isLt)).2.2.2.2 y + part m c t y := by
  rw [outsAt0_B m c t h]
  frame_out
  rw [sums_apply]
  rfl

/-- After the run the fifth output is the reference's gradient of the norm's factors. -/
theorem final_dg (c : Dev nD) : (dats m 0 c).arrAt 10 cfg0.N
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  have hm : t.val % 16 = 15 := (flush0_10 t).mp hf
  obtain ⟨_, _, _, _, _, e10⟩ := places t
  have h1 : (((cfg0.win 10).blk t).view.emb y 1 : Fin 1024).val = (y 1).val := by blk_simp [e10]
  generalize ((cfg0.win 10).blk t).view.emb y = i at h1
  obtain ⟨q, rfl⟩ : ∃ q : Fin 1024, i = ix2 0 q := ⟨i 1, funext fun a => by
    match a with
    | 0 => exact Fin.ext (by have h : (i 0).val < 1 := (i 0).isLt; show (i 0).val = 0; omega)
    | 1 => rfl⟩
  blk_simp
  rw [after0_10]
  refine (Pipeline.eq_sum_fin_of_reset_step_apply_of_flush (fun n h => (outsAt0 m c n h).2.2.2.2) 16 (fun _ => 0)
      (fun t y => part m c t y) (summed_first m c) (summed_later m c) t hm y).trans ?_
  rw [zero_add, reference_sums]
  refine Fin.sum_mul_add_congr fun s r hl => ?_
  have hp := Pipeline.run_point_lt_of_flush t hm s
  have hr : s.val * 512 + r.val = (16 * (t.val / 16) + s.val) * 512 + r.val := by
    have : t.val < 16 := t.isLt
    omega
  rw [rows_at m c ⟨16 * (t.val / 16) + s.val, hp⟩ (ix2 r (y 1)) (ix2 ⟨s.val * 512 + r.val, hl⟩ q) hr h1]
  congr 1
  have hs : ∀ k k' : Fin 1024, k'.val = k.val → (iblk m c 4 ⟨16 * (t.val / 16) + s.val, hp⟩ : Vec Ideal S512x1024 .f32) (ix2 r k)
      = m ((c : Thread nD τ).loc main_arg4) (ix2 ⟨s.val * 512 + r.val, hl⟩ k') := fun k k' hk =>
    (inputs_at m c ⟨16 * (t.val / 16) + s.val, hp⟩ (ix2 r k) (ix2 ⟨s.val * 512 + r.val, hl⟩ k') hr hk).2.2.2
  refine congrArg₂ (· * ·) (hs (y 1) q h1) (congrArg scale (funext fun k => hs k k rfl))

/-- The kernel and the plain formula end with equal arrays. -/
theorem equal : Cert.algebraic_PlePostIdeal_PlePostReferenceIdeal (hPlePostIdeal := Cert.PlePostIdeal.Gen.facts)
    (hPlePostReferenceIdeal := Cert.PlePostReferenceIdeal.Gen.facts) := by
  intro m g m' g' _ hargs
  refine ⟨fun c => val_main_v54 (F := Ideal) (m ((c : Thread nD τ).loc main_arg0)) (m ((c : Thread nD τ).loc main_arg2)),
    fun c => val_main_v55 (F := Ideal) (m ((c : Thread nD τ).loc main_arg0)) (m ((c : Thread nD τ).loc main_arg1)) (m ((c : Thread nD τ).loc main_arg2)),
    fun c => val_main_v19 (F := Ideal) (m ((c : Thread nD τ).loc main_arg0)) (m ((c : Thread nD τ).loc main_arg1)) (m ((c : Thread nD τ).loc main_arg2)) (m ((c : Thread nD τ).loc main_arg3)),
    fun c => val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run defs _ _).mono (fun r h c => ?_) (Cert.PlePostIdeal.Value.run_blocks m g)
    obtain ⟨h1, h2, h3, h4, h5, h6⟩ := h c
    exact ⟨h1.trans (final_dpe m c), h2.trans (final_dgl m c), h3.trans (final_dx1 m c), h4.trans (final_dy m c), h5.trans (final_dg m c), h6⟩
  · refine (θ_run Cert.PlePostReferenceIdeal.defs _ _).mono (fun r h c => ?_) (Cert.PlePostReferenceIdeal.Value.run m' g')
    obtain ⟨a0, a1, a2, a3, a4, a5⟩ := hargs c
    obtain ⟨h1, h2, h3, h4, h5, h6⟩ := h c
    refine ⟨h1.trans ?_, h2.trans ?_, h3.trans ?_, h4.trans ?_, h5.trans ?_, h6⟩
    · rw [a0, a2]
      rfl
    · rw [a0, a1, a2]
      rfl
    · rw [a0, a1, a2, a3]
      rfl
    · rw [a0, a1, a2, a3, a4, a5]
      rfl
    · rw [a0, a1, a2, a3, a4]
      rfl

end Cert.PlePostIdeal.Hand

end
-- ==== Proof.LossValue.lean ====
/- The loss head: the sum of squared errors the kernel gathers block by block, and the gradient of the rows, are those of
the plain formula. -/
module

public import proofs.«01_k».proof.Defs
public import proofs.«01_k».proof.Proof.Gen.LossIdeal.Value
public import proofs.«01_k».proof.Proof.Gen.LossReferenceIdeal.Run
public import proofs.«01_k».proof.Proof.Gen.LossReferenceIdeal.Read
public import Idealize.ShloMosaic.Lib.Pipeline.ValueKit.Geometry
public import Idealize.ShloMosaic.Lib.Pipeline.ValueKit.Acc
public import Idealize.ShloMosaic.Lib.Pointwise

@[expose] public section

noncomputable section

namespace Cert.LossIdeal.Hand

open Cert.LossIdeal Cert.LossIdeal.Gen Cert.LossReferenceIdeal.Read Idealize.ShloMosaic Idealize.ShloMosaic.TcCoe Idealize.SL.Sem

variable (m : (ℓ : Loc nD τ sig) → Buf (Elt Ideal) ℓ) (ρ : Dev nD → PrngReg)

/-- The squared error of an entry. -/
abbrev squared {s : Shape} (a b : Vec Ideal s .f32) (i : s.Idx) : EReal := (a i - b i) * (a i - b i)

theorem zero_apply (y : S1x1.Idx) : k0_pay1 (F := Ideal) y = 0 := by
  pointwise [k0_pay1]

/-- A block's squared errors added to what was there. -/
theorem sum_apply (a b : Vec Ideal S512x1024 .f32) (s : Vec Ideal S1x1 .f32) (y : S1x1.Idx) :
    k0_pay3 (F := Ideal) a b s y = s y + ∑ r : Fin 512, ∑ k : Fin 1024, squared a b (ix2 r k) := by
  pointwise [k0_pay3, k0_pay2]

theorem grad_apply (a b : Vec Ideal S512x1024 .f32) (y : S512x1024.Idx) :
    k0_pay4 (F := Ideal) a b y = (a y - b y) * Ideal.ofBits .f32 0x3A800000#32 := by
  pointwise [k0_pay4, k0_pay2]

/-- Where the windows sit at a point: the block of rows, or the one cell. -/
theorem places : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- The plain gradient's factor: half of one part in 1024, of twice the error. -/
theorem factor : Ideal.div (Ideal.ofBits .f32 0x3F000000#32 * Ideal.ofBits .f32 0x3F800000#32) (Ideal.ofBits .f32 0x44800000#32)
    * Ideal.ofBits .f32 0x40000000#32 = Ideal.ofBits .f32 0x3A800000#32 := by
  rw [Ideal.ofBits_one_f32, mul_one,
    show Ideal.ofBits .f32 0x3F000000#32 = ((1 / 2 : ℝ) : EReal) by simp [Ideal.ofBits, Ideal.ieee]; rw [← EReal.coe_mul]; norm_num,
    show Ideal.ofBits .f32 0x44800000#32 = ((1024 : ℝ) : EReal) by simp [Ideal.ofBits, Ideal.ieee]; rw [← EReal.coe_mul]; norm_num,
    show Ideal.ofBits .f32 0x40000000#32 = ((2 : ℝ) : EReal) by simp [Ideal.ofBits, Ideal.ieee]; rw [← EReal.coe_mul]; norm_num,
    show Ideal.ofBits .f32 0x3A800000#32 = ((1 / 1024 : ℝ) : EReal) by simp [Ideal.ofBits, Ideal.ieee]; rw [← EReal.coe_mul]; norm_num,
    Ideal.div_coe (by norm_num), ← EReal.coe_mul, ← EReal.coe_mul]
  norm_num

section
variable (x0 x1 : Vec Ideal S8192x1024 .f32)

theorem reference_sum (y : S1x1.Idx) : val_main_v3 (F := Ideal) x0 x1 y = ∑ r : Fin 8192, ∑ k : Fin 1024, squared x0 x1 (ix2 r k) := by
  show val_main_v2 (F := Ideal) x0 x1 _ = _
  rw [val_main_v2_apply, val_main_cst_apply, show (FloatOps.ofBits .f32 0x00000000#32 : Ideal .f32) = 0 from Ideal.ofBits_zero_f32, zero_add,
    sum_idx2]
  rfl

theorem reference_grad (i : S8192x1024.Idx) : val_main_v18 (F := Ideal) x0 x1 i = (x0 i - x1 i) * Ideal.ofBits .f32 0x3A800000#32 := by
  simp only [val_main_v18_apply, val_main_v17_apply, val_main_v16_apply, val_main_v15_apply, val_main_v14_apply, val_main_v13_apply,
    val_main_v7_apply, val_main_v6_apply, val_main_v4_apply, val_main_cst_0_apply, val_main_cst_5_apply, val_main_cst_6_apply, val_main_cst_7_apply]
  rw [← factor]
  refine (mul_assoc _ _ _).symm.trans ?_
  exact mul_comm _ _

end

/-- A block of either argument at an entry is the whole array at the entry's place. -/
theorem block_at (c : Dev nD) (t : Fin cfg0.N) (z : S512x1024.Idx) (i : S8192x1024.Idx) (h0 : (i 0).val = t.val * 512 + (z 0).val)
    (h1 : (i 1).val = (z 1).val) : (iblk m c 0 t : Vec Ideal S512x1024 .f32) z = m ((c : Thread nD τ).loc main_arg0) i
      ∧ (iblk m c 1 t : Vec Ideal S512x1024 .f32) z = m ((c : Thread nD τ).loc main_arg1) i := by
  obtain ⟨e0, e1, _⟩ := places t
  constructor
  · blk_ext [iblk, V, e0, h0, h1]
  · blk_ext [iblk, V, e1, h0, h1]

/-- After the run the second output is the reference's gradient. -/
theorem final_grad (c : Dev nD) : (dats m 0 c).arrAt 3 cfg0.N
    = val_main_v18 (F := Ideal) (m ((c : Thread nD τ).loc main_arg0)) (m ((c : Thread nD τ).loc main_arg1)) := by
  refine (dats m 0 c).arrAt_eq_of_covers 3 _ (by decide +kernel) fun t hf y => ?_
  obtain ⟨_, _, _, e3⟩ := places t
  have h0 : (((cfg0.win 3).blk t).view.emb y 0 : Fin 8192).val = t.val * 512 + (y 0).val := by blk_simp [e3]
  have h1 : (((cfg0.win 3).blk t).view.emb y 1 : Fin 1024).val = (y 1).val := by blk_simp [e3]
  generalize ((cfg0.win 3).blk t).view.emb y = i at h0 h1
  blk_simp
  rw [after0_3]
  refine (show (outsAt0 m c t.val t.isLt).2 y = k0_pay4 (F := Ideal) (iblk m c 0 t) (iblk m c 1 t) y from ?_).trans ?_
  · by_cases h : t.val % 16 = 0
    · rw [outsAt0_A m c t h]
      frame_out
    · rw [outsAt0_B m c t h]
      frame_out
  obtain ⟨ea, eb⟩ := block_at m c t y i h0 h1
  rw [grad_apply, reference_grad, ea, eb]

/-- What a point adds to the sum. -/
abbrev part (m : (ℓ : Loc nD τ sig) → Buf (Elt Ideal) ℓ) (c : Dev nD) (t : Fin cfg0.N) : EReal :=
  ∑ r : Fin 512, ∑ k : Fin 1024, squared (iblk m c 0 t : Vec Ideal S512x1024 .f32) (iblk m c 1 t) (ix2 r k)

theorem summed_first (c : Dev nD) (t : Fin cfg0.N) (h : t.val % 16 = 0) (y : S1x1.Idx) :
    (outsAt0 m c t.val t.isLt).1 y = 0 + part m c t := by
  rw [outsAt0_A m c t h]
  frame_out
  rw [sum_apply, zero_apply]

theorem summed_later (c : Dev nD) (t : Fin cfg0.N) (h : ¬t.val % 16 = 0) (y : S1x1.Idx) :
    (outsAt0 m c t.val t.isLt).1 y = (outsAt0 m c (t.val - 1) (Nat.lt_of_le_of_lt (Nat.sub_le _ _) t.isLt)).1 y + part m c t := by
  rw [outsAt0_B m c t h]
  frame_out
  rw [sum_apply]

/-- After the run the first output is the reference's sum of squared errors. -/
theorem final_sum (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  have hm : t.val % 16 = 15 := (flush0_2 t).mp hf
  generalize ((cfg0.win 2).blk t).view.emb y = i
  blk_simp
  rw [after0_2]
  refine (Pipeline.eq_sum_fin_of_reset_step_apply_of_flush (fun n h => (outsAt0 m c n h).1) 16 (fun _ => 0)
      (fun t _ => part m c t) (summed_first m c) (summed_later m c) t hm y).trans ?_
  rw [zero_add, reference_sum]
  refine Fin.sum_mul_add_congr fun s r hl => ?_
  have hp := Pipeline.run_point_lt_of_flush t hm s
  have hr : s.val * 512 + r.val = (16 * (t.val / 16) + s.val) * 512 + r.val := by
    have : t.val < 16 := t.isLt
    omega
  refine Fin.sum_fin_congr fun k => ?_
  obtain ⟨ea, eb⟩ := block_at m c ⟨16 * (t.val / 16) + s.val, hp⟩ (ix2 r k) (ix2 ⟨s.val * 512 + r.val, hl⟩ k) hr rfl
  show squared _ _ _ = squared _ _ _
  unfold squared
  rw [ea, eb]

/-- The kernel and the plain formula end with equal arrays. -/
theorem equal : Cert.algebraic_LossIdeal_LossReferenceIdeal (hLossIdeal := Cert.LossIdeal.Gen.facts)
    (hLossReferenceIdeal := Cert.LossReferenceIdeal.Gen.facts) := by
  intro m g m' g' _ hargs
  refine ⟨fun c => val_main_v3 (F := Ideal) (m ((c : Thread nD τ).loc main_arg0)) (m ((c : Thread nD τ).loc main_arg1)),
    fun c => val_main_v18 (F := Ideal) (m ((c : Thread nD τ).loc main_arg0)) (m ((c : Thread nD τ).loc main_arg1)), ?_, ?_⟩
  · refine (θ_run defs _ _).mono (fun r h c => ?_) (Cert.LossIdeal.Value.run_blocks m g)
    exact ⟨(h c).1.trans (final_sum m c), (h c).2.1.trans (final_grad m c), (h c).2.2⟩
  · refine (θ_run Cert.LossReferenceIdeal.defs _ _).mono (fun r h c => ?_) (Cert.LossReferenceIdeal.Value.run m' g')
    obtain ⟨a0, a1⟩ := hargs c
    refine ⟨(h c).1.trans ?_, (h c).2.1.trans ?_, (h c).2.2⟩
    · rw [a0, a1]
      rfl
    · rw [a0, a1]
      rfl

end Cert.LossIdeal.Hand

end
-- ==== Proof.AdamValue.lean ====
/- The step of Adam with decayed weights, at every shape the weights have: the update and the two moments the kernel
writes are those of the plain formula. The kernel's arrays and the plain ones are the same chain of operations at
each entry, so one comparison per array is enough. -/
module

public import proofs.«01_k».proof.Defs
public import proofs.«01_k».proof.Proof.Gen.AdamNormIdeal.Value
public import proofs.«01_k».proof.Proof.Gen.AdamNormReferenceIdeal.Run
public import proofs.«01_k».proof.Proof.Gen.AdamNormReferenceIdeal.Read
public import proofs.«01_k».proof.Proof.Gen.AdamAttnInIdeal.Value
public import proofs.«01_k».proof.Proof.Gen.AdamAttnInReferenceIdeal.Run
public import proofs.«01_k».proof.Proof.Gen.AdamAttnInReferenceIdeal.Read
public import proofs.«01_k».proof.Proof.Gen.AdamOutIdeal.Value
public import proofs.«01_k».proof.Proof.Gen.AdamOutReferenceIdeal.Run
public import proofs.«01_k».proof.Proof.Gen.AdamOutReferenceIdeal.Read
public import proofs.«01_k».proof.Proof.Gen.AdamConvInIdeal.Value
public import proofs.«01_k».proof.Proof.Gen.AdamConvInReferenceIdeal.Run
public import proofs.«01_k».proof.Proof.Gen.AdamConvInReferenceIdeal.Read
public import proofs.«01_k».proof.Proof.Gen.AdamConvTapsIdeal.Value
public import proofs.«01_k».proof.Proof.Gen.AdamConvTapsReferenceIdeal.Run
public import proofs.«01_k».proof.Proof.Gen.AdamConvTapsReferenceIdeal.Read
public import proofs.«01_k».proof.Proof.Gen.AdamConvRowIdeal.Value
public import proofs.«01_k».proof.Proof.Gen.AdamConvRowReferenceIdeal.Run
public import proofs.«01_k».proof.Proof.Gen.AdamConvRowReferenceIdeal.Read
public import proofs.«01_k».proof.Proof.Gen.AdamPleProjIdeal.Value
public import proofs.«01_k».proof.Proof.Gen.AdamPleProjReferenceIdeal.Run
public import proofs.«01_k».proof.Proof.Gen.AdamPleProjReferenceIdeal.Read
public import proofs.«01_k».proof.Proof.Gen.AdamPleGateIdeal.Value
public import proofs.«01_k».proof.Proof.Gen.AdamPleGateReferenceIdeal.Run
public import proofs.«01_k».proof.Proof.Gen.AdamPleGateReferenceIdeal.Read

@[expose] public section

noncomputable section

open Idealize.ShloMosaic Idealize.ShloMosaic.TcCoe Idealize.SL.Sem

namespace Cert.AdamNormIdeal.Hand

open Cert.AdamNormIdeal Cert.AdamNormIdeal.Value Cert.AdamNormReferenceIdeal.Read

/-- The kernel and the plain formula end with equal arrays. -/
theorem equal : Cert.algebraic_AdamNormIdeal_AdamNormReferenceIdeal (hAdamNormIdeal := Cert.AdamNormIdeal.Gen.facts)
    (hAdamNormReferenceIdeal := Cert.AdamNormReferenceIdeal.Gen.facts) := by
  intro m g m' g' _ hargs
  refine ⟨_, _, _, Cert.AdamNormIdeal.Value.run m g, (θ_run Cert.AdamNormReferenceIdeal.defs _ _).mono (fun r h c => ?_)
    (Cert.AdamNormReferenceIdeal.Value.run m' g')⟩
  obtain ⟨a0, a1, a2, a3⟩ := hargs c
  refine ⟨(h c).1.trans ?_, (h c).2.1.trans ?_, (h c).2.2.1.trans ?_, (h c).2.2.2⟩
  · rw [a0, a1, a2, a3]
    rfl
  · rw [a1, a2]
    rfl
  · rw [a1, a3]
    rfl

end Cert.AdamNormIdeal.Hand

namespace Cert.AdamAttnInIdeal.Hand

open Cert.AdamAttnInIdeal Cert.AdamAttnInIdeal.Value Cert.AdamAttnInReferenceIdeal.Read

/-- The kernel and the plain formula end with equal arrays. -/
theorem equal : Cert.algebraic_AdamAttnInIdeal_AdamAttnInReferenceIdeal (hAdamAttnInIdeal := Cert.AdamAttnInIdeal.Gen.facts)
    (hAdamAttnInReferenceIdeal := Cert.AdamAttnInReferenceIdeal.Gen.facts) := by
  intro m g m' g' _ hargs
  refine ⟨_, _, _, Cert.AdamAttnInIdeal.Value.run m g, (θ_run Cert.AdamAttnInReferenceIdeal.defs _ _).mono (fun r h c => ?_)
    (Cert.AdamAttnInReferenceIdeal.Value.run m' g')⟩
  obtain ⟨a0, a1, a2, a3⟩ := hargs c
  refine ⟨(h c).1.trans ?_, (h c).2.1.trans ?_, (h c).2.2.1.trans ?_, (h c).2.2.2⟩
  · rw [a0, a1, a2, a3]
    rfl
  · rw [a1, a2]
    rfl
  · rw [a1, a3]
    rfl

end Cert.AdamAttnInIdeal.Hand

namespace Cert.AdamOutIdeal.Hand

open Cert.AdamOutIdeal Cert.AdamOutIdeal.Value Cert.AdamOutReferenceIdeal.Read

/-- The kernel and the plain formula end with equal arrays. -/
theorem equal : Cert.algebraic_AdamOutIdeal_AdamOutReferenceIdeal (hAdamOutIdeal := Cert.AdamOutIdeal.Gen.facts)
    (hAdamOutReferenceIdeal := Cert.AdamOutReferenceIdeal.Gen.facts) := by
  intro m g m' g' _ hargs
  refine ⟨_, _, _, Cert.AdamOutIdeal.Value.run m g, (θ_run Cert.AdamOutReferenceIdeal.defs _ _).mono (fun r h c => ?_)
    (Cert.AdamOutReferenceIdeal.Value.run m' g')⟩
  obtain ⟨a0, a1, a2, a3⟩ := hargs c
  refine ⟨(h c).1.trans ?_, (h c).2.1.trans ?_, (h c).2.2.1.trans ?_, (h c).2.2.2⟩
  · rw [a0, a1, a2, a3]
    rfl
  · rw [a1, a2]
    rfl
  · rw [a1, a3]
    rfl

end Cert.AdamOutIdeal.Hand

namespace Cert.AdamConvInIdeal.Hand

open Cert.AdamConvInIdeal Cert.AdamConvInIdeal.Value Cert.AdamConvInReferenceIdeal.Read

/-- The kernel and the plain formula end with equal arrays. -/
theorem equal : Cert.algebraic_AdamConvInIdeal_AdamConvInReferenceIdeal (hAdamConvInIdeal := Cert.AdamConvInIdeal.Gen.facts)
    (hAdamConvInReferenceIdeal := Cert.AdamConvInReferenceIdeal.Gen.facts) := by
  intro m g m' g' _ hargs
  refine ⟨_, _, _, Cert.AdamConvInIdeal.Value.run m g, (θ_run Cert.AdamConvInReferenceIdeal.defs _ _).mono (fun r h c => ?_)
    (Cert.AdamConvInReferenceIdeal.Value.run m' g')⟩
  obtain ⟨a0, a1, a2, a3⟩ := hargs c
  refine ⟨(h c).1.trans ?_, (h c).2.1.trans ?_, (h c).2.2.1.trans ?_, (h c).2.2.2⟩
  · rw [a0, a1, a2, a3]
    rfl
  · rw [a1, a2]
    rfl
  · rw [a1, a3]
    rfl

end Cert.AdamConvInIdeal.Hand

namespace Cert.AdamConvTapsIdeal.Hand

open Cert.AdamConvTapsIdeal Cert.AdamConvTapsIdeal.Value Cert.AdamConvTapsReferenceIdeal.Read

/-- The kernel and the plain formula end with equal arrays. -/
theorem equal : Cert.algebraic_AdamConvTapsIdeal_AdamConvTapsReferenceIdeal (hAdamConvTapsIdeal := Cert.AdamConvTapsIdeal.Gen.facts)
    (hAdamConvTapsReferenceIdeal := Cert.AdamConvTapsReferenceIdeal.Gen.facts) := by
  intro m g m' g' _ hargs
  refine ⟨_, _, _, Cert.AdamConvTapsIdeal.Value.run m g, (θ_run Cert.AdamConvTapsReferenceIdeal.defs _ _).mono (fun r h c => ?_)
    (Cert.AdamConvTapsReferenceIdeal.Value.run m' g')⟩
  obtain ⟨a0, a1, a2, a3⟩ := hargs c
  refine ⟨(h c).1.trans ?_, (h c).2.1.trans ?_, (h c).2.2.1.trans ?_, (h c).2.2.2⟩
  · rw [a0, a1, a2, a3]
    rfl
  · rw [a1, a2]
    rfl
  · rw [a1, a3]
    rfl

end Cert.AdamConvTapsIdeal.Hand

namespace Cert.AdamConvRowIdeal.Hand

open Cert.AdamConvRowIdeal Cert.AdamConvRowIdeal.Value Cert.AdamConvRowReferenceIdeal.Read

/-- The kernel and the plain formula end with equal arrays. -/
theorem equal : Cert.algebraic_AdamConvRowIdeal_AdamConvRowReferenceIdeal (hAdamConvRowIdeal := Cert.AdamConvRowIdeal.Gen.facts)
    (hAdamConvRowReferenceIdeal := Cert.AdamConvRowReferenceIdeal.Gen.facts) := by
  intro m g m' g' _ hargs
  refine ⟨_, _, _, Cert.AdamConvRowIdeal.Value.run m g, (θ_run Cert.AdamConvRowReferenceIdeal.defs _ _).mono (fun r h c => ?_)
    (Cert.AdamConvRowReferenceIdeal.Value.run m' g')⟩
  obtain ⟨a0, a1, a2, a3⟩ := hargs c
  refine ⟨(h c).1.trans ?_, (h c).2.1.trans ?_, (h c).2.2.1.trans ?_, (h c).2.2.2⟩
  · rw [a0, a1, a2, a3]
    rfl
  · rw [a1, a2]
    rfl
  · rw [a1, a3]
    rfl

end Cert.AdamConvRowIdeal.Hand

namespace Cert.AdamPleProjIdeal.Hand

open Cert.AdamPleProjIdeal Cert.AdamPleProjIdeal.Value Cert.AdamPleProjReferenceIdeal.Read

/-- The kernel and the plain formula end with equal arrays. -/
theorem equal : Cert.algebraic_AdamPleProjIdeal_AdamPleProjReferenceIdeal (hAdamPleProjIdeal := Cert.AdamPleProjIdeal.Gen.facts)
    (hAdamPleProjReferenceIdeal := Cert.AdamPleProjReferenceIdeal.Gen.facts) := by
  intro m g m' g' _ hargs
  refine ⟨_, _, _, Cert.AdamPleProjIdeal.Value.run m g, (θ_run Cert.AdamPleProjReferenceIdeal.defs _ _).mono (fun r h c => ?_)
    (Cert.AdamPleProjReferenceIdeal.Value.run m' g')⟩
  obtain ⟨a0, a1, a2, a3⟩ := hargs c
  refine ⟨(h c).1.trans ?_, (h c).2.1.trans ?_, (h c).2.2.1.trans ?_, (h c).2.2.2⟩
  · rw [a0, a1, a2, a3]
    rfl
  · rw [a1, a2]
    rfl
  · rw [a1, a3]
    rfl

end Cert.AdamPleProjIdeal.Hand

namespace Cert.AdamPleGateIdeal.Hand

open Cert.AdamPleGateIdeal Cert.AdamPleGateIdeal.Value Cert.AdamPleGateReferenceIdeal.Read

/-- The kernel and the plain formula end with equal arrays. -/
theorem equal : Cert.algebraic_AdamPleGateIdeal_AdamPleGateReferenceIdeal (hAdamPleGateIdeal := Cert.AdamPleGateIdeal.Gen.facts)
    (hAdamPleGateReferenceIdeal := Cert.AdamPleGateReferenceIdeal.Gen.facts) := by
  intro m g m' g' _ hargs
  refine ⟨_, _, _, Cert.AdamPleGateIdeal.Value.run m g, (θ_run Cert.AdamPleGateReferenceIdeal.defs _ _).mono (fun r h c => ?_)
    (Cert.AdamPleGateReferenceIdeal.Value.run m' g')⟩
  obtain ⟨a0, a1, a2, a3⟩ := hargs c
  refine ⟨(h c).1.trans ?_, (h c).2.1.trans ?_, (h c).2.2.1.trans ?_, (h c).2.2.2⟩
  · rw [a0, a1, a2, a3]
    rfl
  · rw [a1, a2]
    rfl
  · rw [a1, a3]
    rfl

end Cert.AdamPleGateIdeal.Hand

end
-- ==== Proof.PleProjValue.lean ====
/- The per-layer embedding's projection: the array the tiled product writes, entry by entry, is the product of
   the two argument arrays. -/
module

public import proofs.«01_k».proof.Defs
public import proofs.«01_k».proof.Proof.Gen.PleProjIdeal.Value
public import proofs.«01_k».proof.Proof.Gen.PleProjReferenceIdeal.Run
public import proofs.«01_k».proof.Proof.Gen.PleProjReferenceIdeal.Read
public import Idealize.ShloMosaic.Lib.Pipeline.ValueKit.Geometry
public import Idealize.ShloMosaic.Lib.Pipeline.ValueKit.Acc
public import Idealize.ShloMosaic.Lib.Pointwise

@[expose] public section

noncomputable section

namespace Cert.PleProjIdeal.Hand

open Cert.PleProjIdeal Cert.PleProjIdeal.Gen Idealize.ShloMosaic Idealize.ShloMosaic.TcCoe Idealize.SL.Sem

variable (m : (ℓ : Loc nD τ sig) → Buf (Elt Ideal) ℓ) (ρ : Dev nD → PrngReg)

/-- One tile's product at an entry. -/
theorem tile_apply (a : Vec Ideal S1024x256 .f32) (b : Vec Ideal S256x1024 .bf16) (y : S1024x1024.Idx) :
    k0_pay1 (F := Ideal) a b y = ∑ k : Fin 256, a (ix2 (y 0) k) * b (ix2 k (y 1)) := by
  pointwise [k0_pay1]

/-- Where the three windows sit at a point: the row block, the column block, and both. -/
theorem places : ∀ t : Fin cfg0.N, win0_0.index t = ![t.val, 0] ∧ win0_1.index t = ![0, 0]
    ∧ win0_2.index t = ![t.val, 0] :=
  (by decide +kernel : ∀ t : Fin grid0.N, _)

/-- After the run the output array is the product of the argument arrays. -/
theorem final (c : Dev nD) : (dats m 0 c).arrAt 2 cfg0.N
    = Cert.PleProjReferenceIdeal.Read.val_main_v1 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := places t
  blk_simp
  rw [after0_2]
  frame_out
  rw [tile_apply, Cert.PleProjReferenceIdeal.Read.val_main_v1_apply]
  refine Fin.sum_fin_congr fun k => ?_
  rw [Cert.PleProjReferenceIdeal.Read.val_main_v0_apply]
  congr 1
  · blk_ext [iblk, V, e0, e2]
  · blk_ext [iblk, V, e1, e2]

/-- The kernel and the plain product end with equal arrays. -/
theorem equal : Cert.algebraic_PleProjIdeal_PleProjReferenceIdeal (hPleProjIdeal := Cert.PleProjIdeal.Gen.facts)
    (hPleProjReferenceIdeal := Cert.PleProjReferenceIdeal.Gen.facts) := by
  intro m g m' g' _ hargs
  refine ⟨fun c => Cert.PleProjReferenceIdeal.Read.val_main_v1 (F := Ideal) (m ((c : Thread nD τ).loc main_arg0)) (m ((c : Thread nD τ).loc main_arg1)), ?_, ?_⟩
  · refine (θ_run defs _ _).mono (fun r h c => ?_) (Cert.PleProjIdeal.Value.run_blocks m g)
    exact ⟨(h c).1.trans (final m c), (h c).2⟩
  · refine (θ_run Cert.PleProjReferenceIdeal.defs _ _).mono (fun r h c => ?_) (Cert.PleProjReferenceIdeal.Value.run m' g')
    refine ⟨(h c).1.trans ?_, (h c).2⟩
    rw [(hargs c).1, (hargs c).2]
    rfl

end Cert.PleProjIdeal.Hand

end
-- ==== Proof.PleWgradValue.lean ====
/- The gradient of the per-layer embedding's projection: the accumulated tile products, entry by entry, are the product
of the transposed embeddings and the gradient rows. -/
module

public import proofs.«01_k».proof.Defs
public import proofs.«01_k».proof.Proof.Gen.PleWgradIdeal.Value
public import proofs.«01_k».proof.Proof.Gen.PleWgradReferenceIdeal.Run
public import proofs.«01_k».proof.Proof.Gen.PleWgradReferenceIdeal.Read
public import Idealize.ShloMosaic.Lib.Pipeline.ValueKit.Geometry
public import Idealize.ShloMosaic.Lib.Pipeline.ValueKit.Acc
public import Idealize.ShloMosaic.Lib.Pipeline.ReadBack
public import Idealize.ShloMosaic.Lib.Pointwise

@[expose] public section

noncomputable section

namespace Cert.PleWgradIdeal.Hand

open Cert.PleWgradIdeal Cert.PleWgradIdeal.Gen Idealize.ShloMosaic Idealize.ShloMosaic.TcCoe Idealize.SL.Sem

variable (m : (ℓ : Loc nD τ sig) → Buf (Elt Ideal) ℓ) (ρ : Dev nD → PrngReg)

/-- The product of one pair of blocks at an entry. -/
abbrev part (a : Vec Ideal S1024x256 .f32) (b : Vec Ideal S1024x1024 .bf16) (y : S256x1024.Idx) : EReal :=
  ∑ k : Fin 1024, a (ix2 k (y 0)) * b (ix2 k (y 1))

theorem tile_apply (a : Vec Ideal S1024x256 .f32) (b : Vec Ideal S1024x1024 .bf16) (y : S256x1024.Idx) :
    k0_pay1 (F := Ideal) a b y = part a b y := by
  pointwise [k0_pay1]

theorem first_apply (a : Vec Ideal S1024x256 .f32) (b : Vec Ideal S1024x1024 .bf16) (y : S256x1024.Idx) :
    k0_pay2 (F := Ideal) a b y = part a b y := by
  unfold k0_pay2
  pointwise [tile_apply]

theorem later_apply (a : Vec Ideal S1024x256 .f32) (b : Vec Ideal S1024x1024 .bf16) (s : Vec Ideal S256x1024 .f32) (y : S256x1024.Idx) :
    k0_pay3 (F := Ideal) a b s y = s y + part a b y := by
  unfold k0_pay3
  pointwise [tile_apply]

theorem last_apply (a : Vec Ideal S1024x256 .f32) (b : Vec Ideal S1024x1024 .bf16) (s : Vec Ideal S256x1024 .f32) (y : S256x1024.Idx) :
    k0_pay4 (F := Ideal) a b s y = s y + part a b y := by
  unfold k0_pay4
  pointwise [tile_apply]

/-- Where the three windows sit at a point: the block of rows summed over, the column block, and the latter. -/
theorem places : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The block being summed after a point: the output's at the last point of a run, the carried one before. -/
def summed (c : Dev nD) (n : ℕ) (h : n < cfg0.N) : Vec Ideal S256x1024 .f32 :=
  if n % 8 = 7 then (outsAt0 m c n h).1 else (outsAt0 m c n h).2

theorem summed_first (c : Dev nD) (t : Fin cfg0.N) (h : t.val % 8 = 0) (y : S256x1024.Idx) :
    summed m c t.val t.isLt y = 0 + part (iblk m c 0 t) (iblk m c 1 t) y := by
  unfold summed
  rw [if_neg (by omega), outsAt0_A m c t h (by omega) (by omega)]
  frame_out
  rw [first_apply, zero_add]

theorem summed_later (c : Dev nD) (t : Fin cfg0.N) (h : ¬t.val % 8 = 0) (y : S256x1024.Idx) :
    summed m c t.val t.isLt y = summed m c (t.val - 1) (Nat.lt_of_le_of_lt (Nat.sub_le _ _) t.isLt) y
      + part (iblk m c 0 t) (iblk m c 1 t) y := by
  unfold summed
  rw [if_neg (show ¬(t.val - 1) % 8 = 7 by omega)]
  by_cases h7 : t.val % 8 = 7
  · rw [if_pos h7, outsAt0_C m c t h (by omega) h7]
    frame_out
    rw [last_apply, read_unread_whole]
  · rw [if_neg h7, outsAt0_B m c t h (by omega) h7]
    frame_out
    rw [later_apply, read_unread_whole]

/-- After the run the output array is the product of the transposed first argument and the second. -/
theorem final (c : Dev nD) : (dats m 0 c).arrAt 2 cfg0.N
    = Cert.PleWgradReferenceIdeal.Read.val_main_v4 (F := Ideal) (m ((c : Thread nD τ).loc main_arg0)) (m ((c : Thread nD τ).loc main_arg1)) := by
  refine (dats m 0 c).arrAt_eq_of_covers 2 _ (by decide +kernel) fun t hf y => ?_
  have hm : t.val % 8 = 7 := (flush0_2 t).mp hf
  blk_simp
  rw [after0_2]
  refine ((congrFun (if_pos hm : summed m c t.val t.isLt = (outsAt0 m c t.val t.isLt).1) y).symm.trans
    (Pipeline.eq_sum_fin_of_reset_step_apply_of_flush (fun n h => summed m c n h) 8 (fun _ => 0)
      (fun t y => part (iblk m c 0 t) (iblk m c 1 t) y) (summed_first m c) (summed_later m c) t hm y)).trans ?_
  rw [zero_add, Cert.PleWgradReferenceIdeal.Read.val_main_v4_apply, Cert.PleWgradReferenceIdeal.Read.val_main_v3_apply]
  refine Fin.sum_mul_add_congr fun s k hl => ?_
  obtain ⟨e0, e1, _⟩ := places ⟨8 * (t.val / 8) + s.val, Pipeline.run_point_lt_of_flush t hm s⟩
  obtain ⟨_, _, e2⟩ := places t
  rw [Cert.PleWgradReferenceIdeal.Read.val_main_v2_apply]
  refine (mul_comm _ _).trans ?_
  congr 1
  · blk_ext [iblk, V, e1, e2]
  · blk_ext [iblk, V, e0, e2]

/-- The kernel and the plain product end with equal arrays. -/
theorem equal : Cert.algebraic_PleWgradIdeal_PleWgradReferenceIdeal (hPleWgradIdeal := Cert.PleWgradIdeal.Gen.facts)
    (hPleWgradReferenceIdeal := Cert.PleWgradReferenceIdeal.Gen.facts) := by
  intro m g m' g' _ hargs
  refine ⟨fun c => Cert.PleWgradReferenceIdeal.Read.val_main_v4 (F := Ideal) (m ((c : Thread nD τ).loc main_arg0)) (m ((c : Thread nD τ).loc main_arg1)), ?_, ?_⟩
  · refine (θ_run defs _ _).mono (fun r h c => ?_) (Cert.PleWgradIdeal.Value.run_blocks m g)
    exact ⟨(h c).1.trans (final m c), (h c).2⟩
  · refine (θ_run Cert.PleWgradReferenceIdeal.defs _ _).mono (fun r h c => ?_) (Cert.PleWgradReferenceIdeal.Value.run m' g')
    refine ⟨(h c).1.trans ?_, (h c).2⟩
    rw [(hargs c).1, (hargs c).2]
    rfl

end Cert.PleWgradIdeal.Hand

end
-- ==== Proof.RmsNormValue.lean ====
/- The norm before a branch: the rows the kernel writes are those of the plain formula. -/
module

public import proofs.«01_k».proof.Defs
public import proofs.«01_k».proof.Proof.NormGrad
public import proofs.«01_k».proof.Proof.Gen.RmsNormIdeal.Value
public import proofs.«01_k».proof.Proof.Gen.RmsNormReferenceIdeal.Run
public import proofs.«01_k».proof.Proof.Gen.RmsNormReferenceIdeal.Read
public import Idealize.ShloMosaic.Lib.Pipeline.ValueKit.Geometry
public import Idealize.ShloMosaic.Lib.Pipeline.ValueKit.Acc
public import Idealize.ShloMosaic.Lib.Pointwise

@[expose] public section

noncomputable section

namespace Cert.RmsNormIdeal.Hand

open Cert.RmsNormIdeal Cert.RmsNormIdeal.Gen Cert.RmsNormReferenceIdeal.Read Cert.NormGrad Idealize.ShloMosaic Idealize.ShloMosaic.TcCoe Idealize.SL.Sem

variable (m : (ℓ : Loc nD τ sig) → Buf (Elt Ideal) ℓ) (ρ : Dev nD → PrngReg)

/-- A block's normed row at an entry. -/
theorem normed_apply (x : Vec Ideal S512x1024 .f32) (g : Vec Ideal S1x1024 .f32) (y : S512x1024.Idx) :
    k0_pay1 (F := Ideal) x g y = x y * scale (fun k => x (ix2 (y 0) k)) * g (ix2 0 (y 1)) := by
  pointwise [k0_pay1]

theorem reference_apply (x0 : Vec Ideal S8192x1024 .f32) (x1 : Vec Ideal S1x1024 .f32) (i : S8192x1024.Idx) :
    val_main_v12 (F := Ideal) x0 x1 i = x0 i * scale (fun k => x0 (ix2 (i 0) k)) * x1 (ix2 0 (i 1)) := by
  have e : ∀ k, idx_main_v1 (idx_main_v2 (idx_main_v8 i)) k = ix2 (i 0) k := fun k => funext fun a => by
    match a with
    | 0 => rfl
    | 1 => rfl
  have e' : idx_main_v10 i = ix2 0 (i 1) := funext fun a => by
    match a with
    | 0 => rfl
    | 1 => rfl
  simp only [val_main_v12_apply, val_main_v11_apply, val_main_v10_apply, val_main_v9_apply, val_main_v8_apply, val_main_v7_apply,
    val_main_v6_apply, val_main_v5_apply, val_main_v4_apply, val_main_v3_apply, val_main_v2_apply, val_main_v1_apply, val_main_v0_apply,
    val_main_cst_apply, val_main_cst_0_apply, val_main_cst_1_apply, e, e']
  rw [show (FloatOps.ofBits .f32 0x00000000#32 : Ideal .f32) = 0 from Ideal.ofBits_zero_f32, zero_add]
  rfl

/-- Where the windows sit at a point: the block of rows, or the whole array. -/
theorem places : ∀ t : Fin cfg0.N, win0_0.index t = ![t.val, 0] ∧ win0_1.index t = ![0, 0] ∧ win0_2.index t = ![t.val, 0] :=
  (by decide +kernel : ∀ t : Fin grid0.N, _)

/-- After the run the output is the reference's normed rows. -/
theorem final (c : Dev nD) : (dats m 0 c).arrAt 2 cfg0.N
    = val_main_v12 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := places t
  have h0 : (((cfg0.win 2).blk t).view.emb y 0 : Fin 8192).val = t.val * 512 + (y 0).val := by blk_simp [e2]
  have h1 : (((cfg0.win 2).blk t).view.emb y 1 : Fin 1024).val = (y 1).val := by blk_simp [e2]
  generalize ((cfg0.win 2).blk t).view.emb y = i at h0 h1
  blk_simp
  rw [after0_2]
  frame_out
  have es : ∀ (z : S512x1024.Idx) (i' : S8192x1024.Idx), (i' 0).val = t.val * 512 + (z 0).val → (i' 1).val = (z 1).val →
      (iblk m c 0 t : Vec Ideal S512x1024 .f32) z = m ((c : Thread nD τ).loc main_arg0) i' := fun z i' k0 k1 => by
    blk_ext [iblk, V, e0, k0, k1]
  rw [normed_apply, reference_apply, es y i h0 h1]
  congr 1
  · refine congrArg (_ * scale ·) (funext fun k => es (ix2 (y 0) k) (ix2 (i 0) k) h0 rfl)
  · blk_ext [iblk, V, e1, h1]

/-- The kernel and the plain formula end with equal arrays. -/
theorem equal : Cert.algebraic_RmsNormIdeal_RmsNormReferenceIdeal (hRmsNormIdeal := Cert.RmsNormIdeal.Gen.facts)
    (hRmsNormReferenceIdeal := Cert.RmsNormReferenceIdeal.Gen.facts) := by
  intro m g m' g' _ hargs
  refine ⟨fun c => val_main_v12 (F := Ideal) (m ((c : Thread nD τ).loc main_arg0)) (m ((c : Thread nD τ).loc main_arg1)), ?_, ?_⟩
  · refine (θ_run defs _ _).mono (fun r h c => ?_) (Cert.RmsNormIdeal.Value.run_blocks m g)
    exact ⟨(h c).1.trans (final m c), (h c).2⟩
  · refine (θ_run Cert.RmsNormReferenceIdeal.defs _ _).mono (fun r h c => ?_) (Cert.RmsNormReferenceIdeal.Value.run m' g')
    refine ⟨(h c).1.trans ?_, (h c).2⟩
    rw [(hargs c).1, (hargs c).2]
    rfl

end Cert.RmsNormIdeal.Hand

end
-- ==== Proof.LossSumRun.lean ====
/- The sum of the loss over the devices: the run of the program at any float values. Each device's kernel gathers its own
rows' squared errors block by block, the line after it scales the sum, and the all-reduce adds the devices' sums. -/
module

public import proofs.«01_k».proof.Defs
public import proofs.«01_k».proof.Proof.Gen.LossSumIdeal.Regions
public import proofs.«01_k».proof.Proof.Gen.LossSumIdeal.Skeleton
public import proofs.«01_k».proof.Proof.Gen.LossSumIdeal.Points
public import Idealize.ShloMosaic.Lib.Pipeline.RegionArraysS
public import Idealize.ShloMosaic.Lib.Pipeline.FrameBody
public import Idealize.ShloMosaic.Lib.Pipeline.ValueKit.Acc
public import Idealize.ShloMosaic.Lib.WordCmp
public import Idealize.ShloMosaic.Lib.Tactic

@[expose] public section

noncomputable section

namespace Cert.LossSumIdeal.Hand

open Cert.LossSumIdeal Cert.LossSumIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The pipeline's copy of the rounds algebra, and the all-reduce's. -/
abbrev UU : Type := UR sig nD τ × Sites.UC

local notation "𝕄" => MT nD τ sig ℕ (Elt F) ℕ UU ℕ

abbrev EP : Emb (UR sig nD τ) (MT nD τ sig ℕ (Elt F) ℕ UU ℕ) := embL
abbrev EA : Emb Sites.UC (MT nD τ sig ℕ (Elt F) ℕ UU ℕ) := embR

variable (m : (ℓ : Loc nD τ sig) → Buf (Elt F) ℓ) (ρ : Dev nD → PrngReg)

/-! ## What the kernel leaves -/

/-- An input window's block at a point, as launched. -/
def blockAt (c : Dev nD) (w : Fin cfg0.W) (t : Fin cfg0.N) : ((cfg0.win w).xblock (cfg0.grid.coords t)).Idx → Elt F (cfg0.win w).elt :=
  ((cfg0.win w).blk t).view.read (Elt F) (V0 m c (Pipeline.arrRef spec0 w))

/-- The sum after a point: from the zero of the first point on, each point adds its block. -/
def summed (c : Dev nD) : (n : ℕ) → n < cfg0.N → Vec F S1x1 .f32
  | 0, h => k0_pay3 (blockAt m c 0 ⟨0, h⟩) (blockAt m c 1 ⟨0, h⟩) k0_pay1
  | n + 1, h => k0_pay3 (blockAt m c 0 ⟨n + 1, h⟩) (blockAt m c 1 ⟨n + 1, h⟩) (summed c n (Nat.lt_of_succ_lt h))

theorem summed_zero (c : Dev nD) (t : Fin cfg0.N) (h : t.val = 0) :
    summed m c t.val t.isLt = k0_pay3 (blockAt m c 0 t) (blockAt m c 1 t) k0_pay1 := by
  obtain ⟨n, hn⟩ := t
  obtain rfl : n = 0 := h
  rfl

theorem summed_succ (c : Dev nD) (t : Fin cfg0.N) (h : ¬t.val = 0) : summed m c t.val t.isLt
    = k0_pay3 (blockAt m c 0 t) (blockAt m c 1 t) (summed m c (t.val - 1) (Nat.lt_of_le_of_lt (Nat.sub_le _ _) t.isLt)) := by
  obtain ⟨n, hn⟩ := t
  cases n with
  | zero => exact absurd rfl h
  | succ n => rfl

/-- The region's proof data: arrays as launched, the all-reduce's dues owed throughout. -/
def dat0 (c : Dev nD) : Dat τ (Elt F) ℕ ℕ UU ℕ cfg0 c where
  A w := V0 m c (Pipeline.arrRef spec0 w)
  after w t := match w with
    | ⟨0, _⟩ => blockAt m c 0 t
    | ⟨1, _⟩ => blockAt m c 1 t
    | ⟨2, _⟩ => summed m c t.val t.isLt
    | ⟨3, _⟩ => k0_pay4 (blockAt m c 0 t) (blockAt m c 1 t)
  Φ _ := Pipeline.scopedRest spec0 c
  q _ := fullShare
  owed _ := Sites.O0 (F := F) c

abbrev pdats : (p : Fin 1) → (c : Dev nD) → Dat τ (Elt F) ℕ ℕ UU ℕ (cfgs p) c
  | 0 => dat0 m

theorem before_0 (c : Dev nD) (t : Fin cfg0.N) (d) : (dat0 m c).before 0 t d = blockAt m c 0 t :=
  ((dat0 m c).before_in_eq_fetched 0 rfl (fun _ => rfl) (fun _ _ _ => rfl) (fun _ => rfl) t d).trans rfl
theorem before_1 (c : Dev nD) (t : Fin cfg0.N) (d) : (dat0 m c).before 1 t d = blockAt m c 1 t :=
  ((dat0 m c).before_in_eq_fetched 1 rfl (fun _ => rfl) (fun _ _ _ => rfl) (fun _ => rfl) t d).trans rfl
theorem before_2 (c : Dev nD) (t : Fin cfg0.N) (h : ¬t.val = 0) (d) :
    (dat0 m c).before 2 t d = summed m c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body -/

/-- The body's test. -/
abbrev isFirst (i : grid0.Coords) : Prop := (Scalar.cmpi .ne (Scalar.extui (Scalar.cmpi .eq (BitVec.ofNat 32 (i 0).val) 0#32)) 0#32) = 1#1

/-- It picks the first point. -/
theorem isFirst_iff (t : Fin cfg0.N) : isFirst (grid0.coords t) ↔ t.val = 0 := by
  have ht : t.val < 16 := Nat.lt_of_lt_of_eq t.isLt N_0
  have e0 : (grid0.coords t 0).val = t.val / 1 % 16 := Pipeline.Grid.coords_val t 0 (by decide) rfl
  simp only [isFirst, e0]
  rw [show t.val = 0 ↔ t.val % 16 = 0 by omega]
  word_cmp

section Body

variable (c : Dev nD) (i : grid0.Coords) {M0 : Memref sig .tc .vmem S512x1024 .f32} (h0 : M0.IsWhole) {M1 : Memref sig .tc .vmem S512x1024 .f32} (h1 : M1.IsWhole)
  {M2 : Memref sig .tc .vmem S1x1 .f32} (h2 : M2.IsWhole) {M3 : Memref sig .tc .vmem S512x1024 .f32} (h3 : M3.IsWhole)
  (a b : Vec F S512x1024 .f32)

/-- What the four staging buffers hold: the two blocks, the sum, the gradient. -/
abbrev held4 (s : Vec F S1x1 .f32) (g : Vec F S512x1024 .f32) : sProp 𝕄 :=
  iprop(owns (c : Thread nD τ) M0 fullShare a ∗ owns (c : Thread nD τ) M1 fullShare b ∗ owns (c : Thread nD τ) M2 fullShare s ∗ owns (c : Thread nD τ) M3 fullShare g)

theorem body_first (hi : isFirst i) (s : Vec F S1x1 .f32) (g : Vec F S512x1024 .f32) (K : PUnit → sProp 𝕄) :
    iprop(held4 (M0 := M0) (M1 := M1) (M2 := M2) (M3 := M3) c a b s g
        ∗ (held4 (M0 := M0) (M1 := M1) (M2 := M2) (M3 := M3) c a b (k0_pay3 a b k0_pay1) (k0_pay4 a b) -∗ K ⟨⟩))
      ⊢ wp frame (wpE (defs₀ (F := F)) Variants.none c none) Set.univ (cc0_loss i M0 h0 M1 h1 M2 h2 M3 h3) K := by
  simp only [cc0_loss_eq_skeleton]; unfold cc0_loss_skel held4
  unfold owns
  iintro ⟨⟨⟨%f0, %hf0, H0⟩, ⟨%f1, %hf1, H1⟩, ⟨%f2, -, H2⟩, ⟨%f3, -, H3⟩⟩, Hk⟩
  obtain rfl := h0.eq_unread hf0; obtain rfl := h1.eq_unread hf1
  sl_exec! (disch := first | sl_exact hi)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; swap; · iexact H2
    ipureintro; frame_out
  · iexists _; isplitr; swap; · iexact H3
    ipureintro; frame_out

theorem body_later (hi : ¬isFirst i) (s : Vec F S1x1 .f32) (g : Vec F S512x1024 .f32) (K : PUnit → sProp 𝕄) :
    iprop(held4 (M0 := M0) (M1 := M1) (M2 := M2) (M3 := M3) c a b s g
        ∗ (held4 (M0 := M0) (M1 := M1) (M2 := M2) (M3 := M3) c a b (k0_pay3 a b s) (k0_pay4 a b) -∗ K ⟨⟩))
      ⊢ wp frame (wpE (defs₀ (F := F)) Variants.none c none) Set.univ (cc0_loss i M0 h0 M1 h1 M2 h2 M3 h3) K := by
  simp only [cc0_loss_eq_skeleton]; unfold cc0_loss_skel held4
  unfold owns
  iintro ⟨⟨⟨%f0, %hf0, H0⟩, ⟨%f1, %hf1, H1⟩, ⟨%f2, %hf2, H2⟩, ⟨%f3, -, H3⟩⟩, Hk⟩
  obtain rfl := h0.eq_unread hf0; obtain rfl := h1.eq_unread hf1; obtain rfl := h2.eq_unread hf2
  sl_exec! (disch := first | sl_exact hi)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; swap; · iexact H2
    ipureintro; frame_out
  · iexists _; isplitr; swap; · iexact H3
    ipureintro; frame_out

end Body

theorem body_obligation (c : Dev nD) : BodyObligation (dat0 (F := F) m c) (defs₀ (F := F)) Variants.none Sites.ιp Set.univ := fun t => by
  rw [bigSep_W0, bigSep_W0, show (defs₀ (F := F) .tc cfg0.body (cfg0.bodyArgs t (cfg0.slots t))) = bodyAt0 t from by unfold defs₀; rw [Defs.onTc_tc]]
  simp only [before_0, before_1]
  rw [show (dat0 m c).Φ t.succ = (dat0 m c).Φ t.castSucc from rfl,
    show (dat0 m c).owesAt Sites.ιp t.succ = (dat0 m c).owesAt Sites.ιp t.castSucc from rfl]
  by_cases h : t.val = 0
  · iintro ⟨HΦ, Ho, ⟨%d0, H0⟩, ⟨%d1, H1⟩, ⟨%d2, H2⟩, ⟨%d3, H3⟩⟩
    iapply (body_first c (grid0.coords t) _ _ _ _ (blockAt m c 0 t) (blockAt m c 1 t) ((isFirst_iff t).mpr h) _ _ _)
    isplitl [H0 H1 H2 H3]
    · isplitl [H0]; · iexact H0
      isplitl [H1]; · iexact H1
      isplitl [H2]; · iexact H2
      iexact H3
    rw [← summed_zero m c t h]
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before_2 m c t h]
    iintro ⟨HΦ, Ho, ⟨%d0, H0⟩, ⟨%d1, H1⟩, ⟨%d2, H2⟩, ⟨%d3, H3⟩⟩
    iapply (body_later c (grid0.coords t) _ _ _ _ (blockAt m c 0 t) (blockAt m c 1 t) (fun hi => h ((isFirst_iff t).mp hi)) _ _ _)
    isplitl [H0 H1 H2 H3]
    · isplitl [H0]; · iexact H0
      isplitl [H1]; · iexact H1
      isplitl [H2]; · iexact H2
      iexact H3
    rw [← summed_succ m c t h]
    iintro ⟨H0, H1, H2, H3⟩
    isplitl [HΦ]; · iexact HΦ
    isplitl [Ho]; · iexact Ho
    isplitl [H0]; · iexact H0
    isplitl [H1]; · iexact H1
    isplitl [H2]; · iexact H2
    iexact H3

/-! ## The three statements of the program -/

/-- A device's buffers after the kernel, after the scaling, and after the all-reduce. -/
abbrev afterLoss (c : Dev nD) : Valuation τ sig (Elt F) := Pipeline.afterRegion (dat0 m c) (V0 m c)
abbrev afterScale (c : Dev nD) : Valuation τ sig (Elt F) := StableHlo.after hostOps1 (afterLoss m c)
abbrev afterAll (c : Dev nD) : Valuation τ sig (Elt F) := (ar0 (F := F)).after₀ (afterScale m) c

theorem cut : Pipeline.LevelCut (pcfgs (F := F)) adm Sites.ιp Sites.L Sites.lv 0 (Sites.O0 (F := F)) (fun _ => 0) where
  hι c w s := Sites.mem_L _ _ (by decide)
  hιb _ _ _ := le_refl 0
  hD _ _ _ h := ⟨(Sites.O0_pos h).1, (Sites.O0_pos h).2⟩

theorem arrays_unscoped : Pipeline.arrRefs (τ := τ) (pcfgs (F := F) 0).spec ⊆ Pipeline.ucRefs τ sig :=
  Pipeline.arrRefs_sub_ucRefs spec0 (by decide)

/-- What rides past the kernel: the generator register and the all-reduce's launch state. -/
abbrev riding (c : Dev nD) : sProp 𝕄 := iprop((∃ r, prngReg c r) ∗ Sites.rides0 EA (afterScale m) c)

theorem scoped_in (c : Dev nD) : iprop(Pipeline.scopedRest spec0 c ∗ emp) ⊢ (Pipeline.scopedRest spec0 c : sProp 𝕄) := by
  iintro ⟨H, -⟩; iexact H
theorem scoped_out (c : Dev nD) : (Pipeline.scopedRest spec0 c : sProp 𝕄) ⊢ iprop(Pipeline.scopedRest spec0 c ∗ emp) := by
  iintro H; isplitl [H]; · iexact H
  iempintro

def region : Pipeline.RegionSeg (pcfgs (F := F)) adm (pdats m) Sites.ιp defs₀ Variants.none Sites.L Sites.lv 0 :=
  .ofHeldIn _ _ _ _ _ _ _ _ 0 (Sites.O0 (F := F)) (Pipeline.ucRefs τ sig) (fun _ => iprop(emp)) (fun _ => iprop(emp)) launch0.toP rfl
    (fun c => (body_obligation m c).loose) (fun _ _ => rfl) (fun _ => rfl) (fun c => (dat0 m c).share_full fun _ => rfl)
    (fun c => scoped_in c) (fun c => scoped_out c)
    (fun _ => 0) cut (riding m) (V0 m) (fun _ _ => rfl)

/-- The record that the all-reduce's cells are under their invariants. -/
abbrev invs (_ : Dev nD) : sProp 𝕄 :=
  iprop(∃ κ, (AllReduce.Dat.once (Ix := ℕ) (Name := ℕ) (U := UU) (Lvl := ℕ) (ar0 (F := F)) (afterScale m)).cellInvs EA κ)

def scaling : Pipeline.HostSeg (Ix := ℕ) (Name := ℕ) (U := UU) (Lvl := ℕ) (pcfgs (F := F)) defs₀ Variants.none Sites.L Sites.lv :=
  .ofOps _ _ _ _ _ (Pipeline.ucRefs τ sig) hostOps1 (fun op h => Pipeline.sub_ucRefs op ((List.forall_iff_forall_mem.mp hostOps1_sub) op h))
    (fun op h => (List.forall_iff_forall_mem.mp hostOps1_fresh) op h) (afterLoss m) (Sites.Es EA (afterScale m) 0)

abbrev adding : Pipeline.HostSeg (Ix := ℕ) (Name := ℕ) (U := UU) (Lvl := ℕ) (pcfgs (F := F)) defs₀ Variants.none Sites.L Sites.lv :=
  Sites.seg0 EA Variants.none (afterScale m) (Sites.Rest0 (afterScale m) (invs m))

abbrev first (c : Dev nD) : sProp 𝕄 := iprop(StableHlo.held (c : Thread nD τ) (Pipeline.ucRefs τ sig) (V0 m c) ∗ Sites.Es EA (afterScale m) 0 c)
abbrev last (c : Dev nD) : sProp 𝕄 := iprop(StableHlo.held (c : Thread nD τ) (Pipeline.ucRefs τ sig) (afterAll m c) ∗ (invs m c ∗ Sites.Ghost0 EA c))

theorem enter (c : Dev nD) : first m c ⊢ (region m).pre c := by
  refine BI.Entails.trans ?_ (Pipeline.RegionSeg.ofHeldIn_pre arrays_unscoped c)
  unfold first
  rw [Sites.Es_0]
  show (_ : sProp 𝕄) ⊢ _
  iintro ⟨Hh, HO, Hr⟩
  isplitl [Hh]; · iexact Hh
  isplitl [HO]; · iexact HO
  isplitr; · iempintro
  iexact Hr

theorem leave (c : Dev nD) : (region m).post c ⊢ (scaling m).pre c := by
  refine (Pipeline.RegionSeg.ofHeldIn_post arrays_unscoped c).trans ?_
  dsimp only [scaling, Pipeline.HostSeg.ofOps]
  rw [Sites.Es_0]
  iintro ⟨Hh, HO, -, Hr⟩
  isplitl [Hh]; · iexact Hh
  isplitl [HO]; · iexact HO
  iexact Hr

theorem meet (c : Dev nD) : (scaling m).post c ⊢ (adding m).pre c := by
  refine BI.Entails.trans ?_ (Sites.pre0 EA Variants.none (afterScale m) (invs m) c)
  dsimp only [scaling, Pipeline.HostSeg.ofOps]
  rw [Sites.Es_0]
  show (_ : sProp 𝕄) ⊢ _
  iintro ⟨Hh, HO, Hp, Hr⟩
  ihave #Hi := (show Sites.rides0 EA (afterScale m) c ⊢ invs m c from by unfold Sites.rides0 AllReduce.Dat.rides; iintro ⟨Hi, -⟩; iexact Hi) $$ Hr
  isplitl [Hh]; · iexact Hh
  isplitl [HO Hp Hr]
  · isplitl [HO]; · iexact HO
    isplitl [Hp]; · iexact Hp
    iexact Hr
  iexact Hi

theorem finish (c : Dev nD) : (adding m).post c ⊢ iprop(last m c ∗ ∃ W, owes (c : Thread nD τ) (0 : CellTallies nD τ sig ℕ) W) := by
  refine (Sites.post0 EA Variants.none (afterScale m) (invs m) c).trans ?_
  iintro ⟨Hh, HE, Hg, Hi⟩
  isplitr [HE]
  · isplitl [Hh]; · iexact Hh
    isplitl [Hi]; · iexact Hi
    iexact Hg
  iapply (Sites.hE_last EA (afterScale m) c)
  iexact HE

/-! ## The run -/

def u₀ : UU :=
  (initOf (Pipeline.cells cfgs cellOf_inj) (Pipeline.launchToks cfgs cellOf_inj), Sites.uC (U := UU) (afterScale m))

theorem launched : iprop((bigSep Finset.univ fun c : Dev nD => iprop(unscopedBufs c (fun b => m ((c.tc : Thread nD τ).loc b)) ∗ unscopedSems0 c
      ∗ owes (c.tc : Thread nD τ) (Sites.O0 (F := F) c) ∅ ∗ Pipeline.launchCred (Sites.O0 (F := F)) c ∗ prngReg c (ρ c) ∗ Sites.G EA (afterScale m) c)) ∗ levAts Sites.L Sites.lv)
    ⊢ (|={Set.univ}=> bigSep Finset.univ (first m) : sProp 𝕄) := by
  have hsplit : (bigSep Finset.univ fun c : Dev nD => iprop(unscopedBufs c (fun b => m ((c.tc : Thread nD τ).loc b)) ∗ unscopedSems0 c
        ∗ owes (c.tc : Thread nD τ) (Sites.O0 (F := F) c) ∅ ∗ Pipeline.launchCred (Sites.O0 (F := F)) c ∗ prngReg c (ρ c) ∗ Sites.G EA (afterScale m) c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (Sites.O0 (F := F) c) ∅
            ∗ Pipeline.launchCred (Sites.O0 (F := F)) c ∗ prngReg c (ρ c) ∗ Sites.G EA (afterScale m) c)) : sProp 𝕄) := by
    rw [← bigSep_sep']
    exact bigSep_mono fun c _ => by rw [← Pipeline.unscopedBufs_held (Ix := ℕ) (Name := ℕ) (U := UU) (Lvl := ℕ) c (V0 m c)]; exact BI.Entails.refl _
  iintro ⟨H, Hl⟩
  ihave H' := hsplit $$ H
  icases H' with ⟨Hh, Hr⟩
  imod (Sites.hE0 EA (afterScale m) ρ) $$ [Hr Hl] with HE
  · isplitl [Hr]; · iexact Hr
    iexact Hl
  imodintro
  unfold first
  rw [bigSep_sep']
  isplitl [Hh]; · iexact Hh
  iexact HE

set_option backward.isDefEq.respectTransparency.types false in
/-- Every weakly fair execution of the eight devices terminates, with each device's buffers as computed and every
semaphore counter at zero. -/
theorem run_main : θ_run defs (onTc (τ := τ) (main (F := F))) (s₀ m ρ)
    (fun r => (∀ c : Dev nD, ∀ b ∈ Pipeline.ucRefs τ sig, r.2.mem (c, b) = afterAll m c b) ∧ r.2.sem = fun _ => 0) :=
  Pipeline.θ_run_regions_kit_sems (pcfgs (F := F)) adm (pdats m) Sites.ιp cellOf_inj EP defs₀ Variants.none Sites.L Sites.lv m ρ main
    [.region (region m), .host (scaling m), .host (adding m)]
    (fun c Q => by rw [main_segs adm (pdats m) Sites.ιp Variants.none Sites.L Sites.lv (scaling m) (adding m) (region m) rfl rfl c])
    (by simp only [Pipeline.Seg.pipes_host, Pipeline.Seg.pipes_region, Pipeline.Seg.pipes_nil]; decide)
    (O₀ := Sites.O0 (F := F)) (hL := Sites.hL) (G := Sites.G EA (afterScale m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := first m) (Tₙ := last m) (hch := ⟨enter m, leave m, meet m, finish m⟩) (hinit := launched m ρ)
    (QY := fun c s => (∀ b ∈ Pipeline.ucRefs τ sig, s.mem (c, b) = afterAll m c b)
      ∧ s.sem ((ar0 (F := F)).barrierCell c) = 0 ∧ s.sem ((ar0 (F := F)).recvCell c) = 0 ∧ s.sem ((ar0 (F := F)).sendCell c) = 0)
    (hfin := fun c s' => by
      unfold last StableHlo.held
      iintro ⟨⟨Hh, He⟩, HSI⟩
      ihave Hr := (pointsTo_read_all (Pipeline.ucRefs τ sig) (fun b => ((c : Thread nD τ).1, b)) (afterAll m c) s') $$ [Hh HSI]
      · isplitl [Hh] <;> iassumption
      icases Hr with ⟨%h, HSI⟩
      imod ((AllReduce.Dat.once (Ix := ℕ) (Name := ℕ) (U := UU) (Lvl := ℕ) (ar0 (F := F)) (afterScale m)).ghostAfter_read EA c (k := 0) le_rfl s') $$ [He HSI] with ⟨%hz, HSI⟩
      · isplitl [He] <;> iassumption
      imodintro
      isplitr; · ipureintro; exact ⟨h, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-- A buffer that is none of the arrays the kernel, the scaling and the all-reduce write ends as launched. -/
theorem kept (c : Dev nD) (r : Ref sig .tc) (h3 : r ≠ main_v4 ∧ r ≠ main_v3 ∧ ∀ j : Fin 8, r ≠ ar0_stage j) (h2 : r ∉ hostOps1_W)
    (h1 : ∀ w, Pipeline.arrRef cfg0.spec w = r → (cfg0.win w).isOut = false) : afterAll m c r = m ((c : Thread nD τ).loc r) :=
  ((ar0 (F := F)).after₀_off_siteRefs (afterScale m) c fun h => by
    rcases (ar0 (F := F)).mem_siteRefs.mp h with h | h | ⟨j, h⟩
    · exact h3.1 (Proc.devRef_injective _ h)
    · exact h3.2.1 (Proc.devRef_injective _ h)
    · exact h3.2.2 j (Proc.devRef_injective _ h)).trans ((StableHlo.after_of_writes_sub hostOps1 _ hostOps1_writes h2).trans
    (Pipeline.afterRegion_keeps (dat0 m c) (V0 m c) launch0.win.arr_inj (fun _ => rfl) r h1))

theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- Every execution ends with the arguments as launched, every counter at zero and the result at the all-reduce's. -/
theorem run_args : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
    ∧ (r.2.sem = fun _ => 0) ∧ ∀ c : Dev nD, r.2.mem ((c.tc : Thread nD τ).loc main_v4) = afterAll m c main_v4) :=
  (θ_run defs _ _).mono (fun r h => ⟨fun c => ⟨(h.1 c _ (mem_uc main_arg0 (by decide))).trans (kept m c main_arg0 (by decide) (by decide) (by decide)),
    (h.1 c _ (mem_uc main_arg1 (by decide))).trans (kept m c main_arg1 (by decide) (by decide) (by decide))⟩, h.2,
    fun c => h.1 c _ (mem_uc main_v4 (by decide))⟩) (run_main m ρ)

/-- The frame at any float values. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨h.1, h.2.1⟩) (run_args m ρ)

end Cert.LossSumIdeal.Hand

end
-- ==== Proof.LossSumValue.lean ====
/- The sum of the loss over the devices: the all-reduce leaves on every device the plain formula's loss of the whole arrays. -/
module

public import proofs.«01_k».proof.Defs
public import proofs.«01_k».proof.Proof.LossSumRun
public import proofs.«01_k».proof.Proof.Gen.LossSumReferenceIdeal.Run
public import proofs.«01_k».proof.Proof.Gen.LossSumReferenceIdeal.Read
public import Idealize.ShloMosaic.Lib.Pipeline.ValueKit.Geometry
public import Idealize.ShloMosaic.Lib.Pipeline.ValueKit.Acc
public import Idealize.ShloMosaic.Lib.StableHlo.AllReduceFold
public import Idealize.ShloMosaic.Lib.Pointwise

@[expose] public section

noncomputable section

namespace Cert.LossSumIdeal.Hand

open Cert.LossSumReferenceIdeal (S65536x1024 S65536)
open Cert.LossSumIdeal Cert.LossSumIdeal.Gen Cert.LossSumReferenceIdeal.Read Idealize.ShloMosaic Idealize.ShloMosaic.TcCoe Idealize.SL.Sem

variable (m : (ℓ : Loc nD τ sig) → Buf (Elt Ideal) ℓ) (ρ : Dev nD → PrngReg)

/-- The squared error of an entry. -/
abbrev squared {s : Shape} (a b : Vec Ideal s .f32) (i : s.Idx) : EReal := (a i - b i) * (a i - b i)

theorem squared_nonneg {s : Shape} (a b : Vec Ideal s .f32) (i : s.Idx) : 0 ≤ squared a b i := by
  unfold squared
  generalize (a i - b i : EReal) = e
  rcases le_total 0 e with h | h
  · exact mul_nonneg h h
  · rw [← neg_mul_neg]
    exact mul_nonneg (EReal.neg_nonneg.mpr h) (EReal.neg_nonneg.mpr h)

/-- A factor goes over a sum of terms that are not negative. -/
theorem sum_mul_nonneg {ι : Type} (s : Finset ι) (f : ι → EReal) (hf : ∀ i, 0 ≤ f i) (k : EReal) : ∑ i ∈ s, f i * k = (∑ i ∈ s, f i) * k := by
  classical
  induction s using Finset.induction_on with
  | empty => simp
  | insert a s ha ih =>
    rw [Finset.sum_insert ha, Finset.sum_insert ha, ih, EReal.right_distrib_of_nonneg (hf a) (Finset.sum_nonneg fun i _ => hf i)]

/-! ## One device -/

theorem zero_apply (y : S1x1.Idx) : k0_pay1 (F := Ideal) y = 0 := by
  pointwise [k0_pay1]

/-- A block's squared errors added to what was there. -/
theorem sum_apply (a b : Vec Ideal S512x1024 .f32) (s : Vec Ideal S1x1 .f32) (y : S1x1.Idx) :
    k0_pay3 (F := Ideal) a b s y = s y + ∑ r : Fin 512, ∑ k : Fin 1024, squared a b (ix2 r k) := by
  pointwise [k0_pay3, k0_pay2]

/-- Where the windows sit at a point. -/
theorem places : ∀ t : Fin cfg0.N, win0_0.index t = ![t.val, 0] ∧ win0_1.index t = ![t.val, 0] ∧ win0_2.index t = ![0, 0] :=
  (by decide +kernel : ∀ t : Fin grid0.N, _)

/-- A block of either argument at an entry is the device's array at the entry's place. -/
theorem block_at (c : Dev nD) (t : Fin cfg0.N) (z : S512x1024.Idx) (i : S8192x1024.Idx) (h0 : (i 0).val = t.val * 512 + (z 0).val)
    (h1 : (i 1).val = (z 1).val) : (blockAt m c 0 t : Vec Ideal S512x1024 .f32) z = m ((c : Thread nD τ).loc main_arg0) i
      ∧ (blockAt m c 1 t : Vec Ideal S512x1024 .f32) z = m ((c : Thread nD τ).loc main_arg1) i := by
  obtain ⟨e0, e1, _⟩ := places t
  constructor
  · blk_ext [blockAt, V0, e0, h0, h1]
  · blk_ext [blockAt, V0, e1, h0, h1]

/-- What a point adds to the sum. -/
abbrev part (m : (ℓ : Loc nD τ sig) → Buf (Elt Ideal) ℓ) (c : Dev nD) (t : Fin cfg0.N) : EReal :=
  ∑ r : Fin 512, ∑ k : Fin 1024, squared (blockAt m c 0 t : Vec Ideal S512x1024 .f32) (blockAt m c 1 t) (ix2 r k)

theorem summed_first (c : Dev nD) (t : Fin cfg0.N) (h : t.val % 16 = 0) (y : S1x1.Idx) : summed m c t.val t.isLt y = 0 + part m c t := by
  have ht : t.val < 16 := t.isLt
  rw [summed_zero m c t (by omega), sum_apply, zero_apply]

theorem summed_later (c : Dev nD) (t : Fin cfg0.N) (h : ¬t.val % 16 = 0) (y : S1x1.Idx) :
    summed m c t.val t.isLt y = summed m c (t.val - 1) (Nat.lt_of_le_of_lt (Nat.sub_le _ _) t.isLt) y + part m c t := by
  rw [summed_succ m c t (by omega), sum_apply]

/-- The sum of the squared errors of a device's rows. -/
abbrev ownSum (c : Dev nD) : EReal :=
  ∑ r : Fin 8192, ∑ k : Fin 1024, squared (m ((c : Thread nD τ).loc main_arg0) : Vec Ideal S8192x1024 .f32) (m ((c : Thread nD τ).loc main_arg1)) (ix2 r k)

/-- The kernel leaves the sum over its device's rows. -/
theorem final_sum (c : Dev nD) : (dat0 m c).arrAt 2 cfg0.N = fun _ => ownSum m c := by
  refine (dat0 m c).arrAt_eq_of_covers 2 _ (by decide +kernel) fun t hf y => ?_
  have hm : t.val % 16 = 15 := by
    have := (flush0_2 t).mp hf
    omega
  generalize ((cfg0.win 2).blk t).view.emb y = i
  blk_simp
  refine (show _ = summed m c t.val t.isLt y from rfl).trans ?_
  refine (Pipeline.eq_sum_fin_of_reset_step_apply_of_flush (summed m c) 16 (fun _ => 0)
      (fun t _ => part m c t) (summed_first m c) (summed_later m c) t hm y).trans ?_
  rw [zero_add]
  refine Fin.sum_mul_add_congr fun s r hl => ?_
  have hp := Pipeline.run_point_lt_of_flush t hm s
  have hr : s.val * 512 + r.val = (16 * (t.val / 16) + s.val) * 512 + r.val := by
    have : t.val < 16 := t.isLt
    omega
  refine Fin.sum_fin_congr fun k => ?_
  obtain ⟨ea, eb⟩ := block_at m c ⟨16 * (t.val / 16) + s.val, hp⟩ (ix2 r k) (ix2 ⟨s.val * 512 + r.val, hl⟩ k) hr rfl
  show squared _ _ _ = squared _ _ _
  unfold squared
  rw [ea, eb]

/-- The line after the kernel scales what it left. -/
theorem scaled (V : Valuation τ sig (Elt Ideal)) (s : EReal) (h : (V main_v1_0 : S1x1.Idx → EReal) = fun _ => s) :
    (StableHlo.after hostOps1 V main_v3 : S_.Idx → EReal) = fun _ => s * Ideal.ofBits .f32 0x3A000000#32 := by
  after_results
  exact funext fun i => congrArg (fun e : EReal => e * Ideal.ofBits .f32 0x3A000000#32) (congrFun h _)

/-- What a device sends into the all-reduce: its sum, scaled. -/
theorem sent (c : Dev nD) : (afterScale m c main_v3 : S_.Idx → EReal) = fun _ => ownSum m c * Ideal.ofBits .f32 0x3A000000#32 :=
  scaled _ _ ((Pipeline.afterRegion_arr (dat0 m c) (V0 m c) launch0.win.arr_inj 2).trans (final_sum m c))

/-! ## The eight devices -/

theorem peer_eq : ∀ c j : Fin 8, (ar0 (F := Ideal)).peer c j = j := by decide +kernel

/-- The all-reduce leaves the fold of what the devices sent. -/
theorem reduced_fold (c : Dev nD) : afterAll m c main_v4
    = (ar0 (F := Ideal)).foldGroup fun j => afterScale m ((ar0 (F := Ideal)).peer c j) main_v3 :=
  eq_of_heq ((heq_of_eq ((ar0 (F := Ideal)).after₀_result (afterScale m) c)).trans (cast_heq _ _))

theorem fold_sum (v : Fin 8 → S_.Idx → EReal) (i : S_.Idx) :
    @Eq EReal ((ar0 (F := Ideal)).foldGroup v i) (∑ j : Fin 8, v j i) :=
  (ar0 (F := Ideal)).foldGroup_graded (M := EReal) (Grading.ofHom (f := (ar0 (F := Ideal)).f) (fun e : EReal => e) fun _ _ => rfl)
    v i 0 (fun j => v j i) fun _ => rfl

/-- That is the sum. -/
theorem reduced (c : Dev nD) (i : S_.Idx) : (afterAll m c main_v4 : S_.Idx → EReal) i
    = ∑ j : Fin 8, ownSum m j * Ideal.ofBits .f32 0x3A000000#32 := by
  rw [reduced_fold]
  refine (fold_sum _ i).trans (Finset.sum_congr rfl fun j _ => ?_)
  rw [peer_eq c j]
  exact congrFun (sent m j) i

/-! ## The plain formula -/

theorem half : Ideal.ofBits .f32 0x3F000000#32 = ((1 / 2 : ℝ) : EReal) := by
  simp [Ideal.ofBits, Ideal.ieee]; rw [← EReal.coe_mul]; norm_num
theorem width : Ideal.ofBits .f32 0x44800000#32 = ((1024 : ℝ) : EReal) := by
  simp [Ideal.ofBits, Ideal.ieee]; rw [← EReal.coe_mul]; norm_num
theorem scale : Ideal.ofBits .f32 0x3A000000#32 = ((1 / 2048 : ℝ) : EReal) := by
  simp [Ideal.ofBits, Ideal.ieee]; rw [← EReal.coe_mul]; norm_num

section
variable (x0 x1 : Vec Ideal S65536x1024 .f32)

theorem reference_row (r : Fin 65536) : val_main_v4 (F := Ideal) x0 x1 (ix1 r)
    = (∑ k : Fin 1024, squared x0 x1 (ix2 r k)) * ((1 / 1024 : ℝ) : EReal) := by
  rw [val_main_v4_apply, val_main_v3_apply, val_main_cst_0_apply]
  refine (show _ = Ideal.div (val_main_v2 (F := Ideal) x0 x1 (ix1 r)) (Ideal.ofBits .f32 0x44800000#32) from rfl).trans ?_
  rw [width, Ideal.div_coe (by norm_num), val_main_v2_apply, val_main_cst_apply,
    show (FloatOps.ofBits .f32 0x00000000#32 : Ideal .f32) = 0 from Ideal.ofBits_zero_f32, zero_add]
  refine congrArg (· * _) (Fin.sum_fin_congr fun k => ?_)
  show squared x0 x1 _ = squared x0 x1 _
  refine congrArg (squared x0 x1) (funext fun a => ?_)
  match a with
  | ⟨0, _⟩ => rfl
  | ⟨1, _⟩ => rfl

/-- Half the mean of the rows' squared errors, summed, is the sum of all squared errors over 2048. -/
theorem reference_sum (i : S_.Idx) : val_main_v6 (F := Ideal) x0 x1 i
    = (∑ r : Fin 65536, ∑ k : Fin 1024, squared x0 x1 (ix2 r k)) * ((1 / 2048 : ℝ) : EReal) := by
  rw [val_main_v6_apply, val_main_cst_2_apply, val_main_v5_apply, val_main_cst_1_apply,
    show (FloatOps.ofBits .f32 0x00000000#32 : Ideal .f32) = 0 from Ideal.ofBits_zero_f32, zero_add]
  refine (show _ = Ideal.ofBits .f32 0x3F000000#32 * ∑ j : S65536.Idx, val_main_v4 (F := Ideal) x0 x1 j from rfl).trans ?_
  rw [half, sum_idx1, Finset.sum_congr rfl fun r _ => reference_row x0 x1 r,
    sum_mul_nonneg _ _ (fun r => Finset.sum_nonneg fun k _ => squared_nonneg x0 x1 _), mul_comm, mul_assoc, ← EReal.coe_mul]
  norm_num

end

/-- The devices' scaled sums add up to the plain formula's loss of the arrays that their blocks make up. -/
theorem together (x0 x1 : Vec Ideal S65536x1024 .f32)
    (h0 : ∀ c : Fin 8, m ((c : Thread nD τ).loc main_arg0) = Layout.block S8192x1024 S65536x1024 0 8 c x0)
    (h1 : ∀ c : Fin 8, m ((c : Thread nD τ).loc main_arg1) = Layout.block S8192x1024 S65536x1024 0 8 c x1) (i : S_.Idx) :
    ∑ j : Fin 8, ownSum m j * Ideal.ofBits .f32 0x3A000000#32 = val_main_v6 (F := Ideal) x0 x1 i := by
  have hs : ∑ j : Fin 8, ownSum m j = ∑ r : Fin 65536, ∑ k : Fin 1024, squared x0 x1 (ix2 r k) := by
    refine Fin.sum_mul_add_congr (L := 65536) (S := 8) (n := 8192) (fun c r hl => Fin.sum_fin_congr fun k => ?_) (by norm_num)
    have e : Layout.Tiles.idx (S := S8192x1024) (T := S65536x1024) (a := 0) (k := 8) (by decide) c (ix2 r k)
        = ix2 ⟨c.val * 8192 + r.val, hl⟩ k := by
      funext a
      match a with
      | ⟨0, _⟩ => rfl
      | ⟨1, _⟩ => rfl
    rw [h0, h1, ← e]
    rfl
  rw [reference_sum, scale, ← hs, sum_mul_nonneg _ _ fun c => Finset.sum_nonneg fun r _ => Finset.sum_nonneg fun k _ => squared_nonneg _ _ _]

/-- The kernels, the all-reduce and the plain formula end with the same number. -/
theorem equal : Cert.algebraic_LossSumIdeal_LossSumReferenceIdeal (hLossSumIdeal := Cert.LossSumIdeal.Gen.facts)
    (hLossSumReferenceIdeal := Cert.LossSumReferenceIdeal.Gen.facts) := by
  intro m g m' g' _ hargs
  refine ⟨val_main_v6 (F := Ideal) (m' (((0 : Dev Cert.LossSumReferenceIdeal.nD).tc : Thread Cert.LossSumReferenceIdeal.nD Cert.LossSumReferenceIdeal.τ).loc Cert.LossSumReferenceIdeal.main_arg0))
    (m' (((0 : Dev Cert.LossSumReferenceIdeal.nD).tc : Thread Cert.LossSumReferenceIdeal.nD Cert.LossSumReferenceIdeal.τ).loc Cert.LossSumReferenceIdeal.main_arg1)), ?_, ?_⟩
  · refine (θ_run defs _ _).mono (fun r h c => ⟨?_, h.1 c⟩) (run_args m g)
    exact (h.2.2 c).trans (funext fun i => (reduced m c i).trans (together m _ _ (fun c => (hargs c).1) (fun c => (hargs c).2) i))
  · exact (θ_run Cert.LossSumReferenceIdeal.defs _ _).mono (fun r h => h 0) (Cert.LossSumReferenceIdeal.Value.run m' g')

end Cert.LossSumIdeal.Hand

end
-- ==== Proof.LossSumFrame.lean ====
/- The frame of the sum of the loss at the program's first reading: its lines are those of the other reading, which has it at
any float values. -/
module

public import proofs.«01_k».proof.Proof.Gen.LossSum
public import proofs.«01_k».proof.Proof.LossSumRun

@[expose] public section

noncomputable section

namespace Cert.LossSum.Hand

open Idealize.ShloMosaic Idealize.ShloMosaic.TcCoe Idealize.SL.Sem

variable {F : FTy → Type} [FloatOps F]

/-- The two readings' kernels. -/
theorem kernels_eq : Cert.LossSum.defs₀ (F := F) = Cert.LossSumIdeal.defs₀ (F := F) := by
  refine congrArg Defs.onTc ?_
  funext l
  match l with
  | 0 => exact funext fun ⟨_, _⟩ => rfl

/-- The two readings' body tables. -/
theorem defs_eq : Cert.LossSum.defs (F := F) = Cert.LossSumIdeal.defs (F := F) :=
  congrArg (Pipeline.defs (Cert.LossSum.pcfgs (F := F))) kernels_eq

/-- The two readings' host programs. -/
theorem main_eq : Cert.LossSum.main (F := F) = Cert.LossSumIdeal.main (F := F) := rfl

open Cert.LossSum in
/-- The frame at any float values. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  rw [defs_eq, main_eq]
  exact Cert.LossSumIdeal.Hand.frame m ρ

end Cert.LossSum.Hand
-- ==== Proof.lean ====
module

public import proofs.«01_k».proof.Proof.AttnInValue
public import proofs.«01_k».proof.Proof.GateBwdValue
public import proofs.«01_k».proof.Proof.Gen.GateBwdReferenceIdeal.Run
public import proofs.«01_k».proof.Proof.Gen.GateBwdReferenceIdeal.Read
public import proofs.«01_k».proof.Proof.ConvNormBwdValue
public import proofs.«01_k».proof.Proof.Gen.ConvNormBwdIdeal.Value
public import proofs.«01_k».proof.Proof.Gen.ConvNormBwdReferenceIdeal.Run
public import proofs.«01_k».proof.Proof.Gen.ConvNormBwdReferenceIdeal.Read
public import proofs.«01_k».proof.Proof.AttnCombineValue
public import proofs.«01_k».proof.Proof.Gen.AttnCombineIdeal.Value
public import proofs.«01_k».proof.Proof.Gen.AttnCombineReferenceIdeal.Run
public import proofs.«01_k».proof.Proof.Gen.AttnCombineReferenceIdeal.Read
public import proofs.«01_k».proof.Proof.Gen.Pre_finite_logsums
public import proofs.«01_k».proof.Proof.Gen.AttnInIdeal.Value
public import proofs.«01_k».proof.Proof.Gen.AttnInReferenceIdeal.Run
public import proofs.«01_k».proof.Proof.Gen.AttnInReferenceIdeal.Read
public import proofs.«01_k».proof.Proof.AttnWgradValue
public import proofs.«01_k».proof.Proof.Gen.AttnWgradIdeal.Value
public import proofs.«01_k».proof.Proof.Gen.AttnWgradReferenceIdeal.Run
public import proofs.«01_k».proof.Proof.Gen.AttnWgradReferenceIdeal.Read
public import proofs.«01_k».proof.Proof.AttnDgradValue
public import proofs.«01_k».proof.Proof.Gen.AttnDgradIdeal.Value
public import proofs.«01_k».proof.Proof.Gen.AttnDgradReferenceIdeal.Run
public import proofs.«01_k».proof.Proof.Gen.AttnDgradReferenceIdeal.Read
public import proofs.«01_k».proof.Proof.ConvAbValue
public import proofs.«01_k».proof.Proof.Gen.ConvAbIdeal.Value
public import proofs.«01_k».proof.Proof.Gen.ConvAbReferenceIdeal.Run
public import proofs.«01_k».proof.Proof.Gen.ConvAbReferenceIdeal.Read
public import proofs.«01_k».proof.Proof.ConvZValue
public import proofs.«01_k».proof.Proof.Gen.ConvZIdeal.Value
public import proofs.«01_k».proof.Proof.Gen.ConvZReferenceIdeal.Run
public import proofs.«01_k».proof.Proof.Gen.ConvZReferenceIdeal.Read
public import proofs.«01_k».proof.Proof.OutDgradValue
public import proofs.«01_k».proof.Proof.Gen.OutDgradIdeal.Value
public import proofs.«01_k».proof.Proof.Gen.OutDgradReferenceIdeal.Run
public import proofs.«01_k».proof.Proof.Gen.OutDgradReferenceIdeal.Read
public import proofs.«01_k».proof.Proof.OutWgradValue
public import proofs.«01_k».proof.Proof.Gen.OutWgradIdeal.Value
public import proofs.«01_k».proof.Proof.Gen.OutWgradReferenceIdeal.Run
public import proofs.«01_k».proof.Proof.Gen.OutWgradReferenceIdeal.Read
public import proofs.«01_k».proof.Proof.AbWgradValue
public import proofs.«01_k».proof.Proof.Gen.AbWgradIdeal.Value
public import proofs.«01_k».proof.Proof.Gen.AbWgradReferenceIdeal.Run
public import proofs.«01_k».proof.Proof.Gen.AbWgradReferenceIdeal.Read
public import proofs.«01_k».proof.Proof.GateWgradValue
public import proofs.«01_k».proof.Proof.Gen.GateWgradIdeal.Value
public import proofs.«01_k».proof.Proof.Gen.GateWgradReferenceIdeal.Run
public import proofs.«01_k».proof.Proof.Gen.GateWgradReferenceIdeal.Read
public import proofs.«01_k».proof.Proof.GateFwdValue
public import proofs.«01_k».proof.Proof.Gen.GateFwdIdeal.Value
public import proofs.«01_k».proof.Proof.Gen.GateFwdReferenceIdeal.Run
public import proofs.«01_k».proof.Proof.Gen.GateFwdReferenceIdeal.Read
public import proofs.«01_k».proof.Proof.PostFwdValue
public import proofs.«01_k».proof.Proof.Gen.PostFwdIdeal.Value
public import proofs.«01_k».proof.Proof.Gen.PostFwdReferenceIdeal.Run
public import proofs.«01_k».proof.Proof.Gen.PostFwdReferenceIdeal.Read
public import proofs.«01_k».proof.Proof.ConvDgradValue
public import proofs.«01_k».proof.Proof.Gen.ConvDgradIdeal.Value
public import proofs.«01_k».proof.Proof.Gen.ConvDgradReferenceIdeal.Run
public import proofs.«01_k».proof.Proof.Gen.ConvDgradReferenceIdeal.Read
public import proofs.«01_k».proof.Proof.PlePostValue
public import proofs.«01_k».proof.Proof.Gen.PlePostIdeal.Value
public import proofs.«01_k».proof.Proof.Gen.PlePostReferenceIdeal.Run
public import proofs.«01_k».proof.Proof.Gen.PlePostReferenceIdeal.Read
public import proofs.«01_k».proof.Proof.LossValue
public import proofs.«01_k».proof.Proof.Gen.LossIdeal.Value
public import proofs.«01_k».proof.Proof.Gen.LossReferenceIdeal.Run
public import proofs.«01_k».proof.Proof.Gen.LossReferenceIdeal.Read
public import proofs.«01_k».proof.Proof.AdamValue
public import proofs.«01_k».proof.Proof.Gen.AdamNormIdeal.Value
public import proofs.«01_k».proof.Proof.Gen.AdamNormReferenceIdeal.Run
public import proofs.«01_k».proof.Proof.Gen.AdamNormReferenceIdeal.Read
public import proofs.«01_k».proof.Proof.Gen.AdamAttnInIdeal.Value
public import proofs.«01_k».proof.Proof.Gen.AdamAttnInReferenceIdeal.Run
public import proofs.«01_k».proof.Proof.Gen.AdamAttnInReferenceIdeal.Read
public import proofs.«01_k».proof.Proof.Gen.AdamOutIdeal.Value
public import proofs.«01_k».proof.Proof.Gen.AdamOutReferenceIdeal.Run
public import proofs.«01_k».proof.Proof.Gen.AdamOutReferenceIdeal.Read
public import proofs.«01_k».proof.Proof.Gen.AdamConvInIdeal.Value
public import proofs.«01_k».proof.Proof.Gen.AdamConvInReferenceIdeal.Run
public import proofs.«01_k».proof.Proof.Gen.AdamConvInReferenceIdeal.Read
public import proofs.«01_k».proof.Proof.Gen.AdamConvTapsIdeal.Value
public import proofs.«01_k».proof.Proof.Gen.AdamConvTapsReferenceIdeal.Run
public import proofs.«01_k».proof.Proof.Gen.AdamConvTapsReferenceIdeal.Read
public import proofs.«01_k».proof.Proof.Gen.AdamConvRowIdeal.Value
public import proofs.«01_k».proof.Proof.Gen.AdamConvRowReferenceIdeal.Run
public import proofs.«01_k».proof.Proof.Gen.AdamConvRowReferenceIdeal.Read
public import proofs.«01_k».proof.Proof.Gen.AdamPleProjIdeal.Value
public import proofs.«01_k».proof.Proof.Gen.AdamPleProjReferenceIdeal.Run
public import proofs.«01_k».proof.Proof.Gen.AdamPleProjReferenceIdeal.Read
public import proofs.«01_k».proof.Proof.Gen.AdamPleGateIdeal.Value
public import proofs.«01_k».proof.Proof.Gen.AdamPleGateReferenceIdeal.Run
public import proofs.«01_k».proof.Proof.Gen.AdamPleGateReferenceIdeal.Read
public import proofs.«01_k».proof.Proof.PleProjValue
public import proofs.«01_k».proof.Proof.Gen.PleProjIdeal.Value
public import proofs.«01_k».proof.Proof.Gen.PleProjReferenceIdeal.Run
public import proofs.«01_k».proof.Proof.Gen.PleProjReferenceIdeal.Read
public import proofs.«01_k».proof.Proof.PleWgradValue
public import proofs.«01_k».proof.Proof.Gen.PleWgradIdeal.Value
public import proofs.«01_k».proof.Proof.Gen.PleWgradReferenceIdeal.Run
public import proofs.«01_k».proof.Proof.Gen.PleWgradReferenceIdeal.Read
public import proofs.«01_k».proof.Proof.RmsNormValue
public import proofs.«01_k».proof.Proof.Gen.RmsNormIdeal.Value
public import proofs.«01_k».proof.Proof.Gen.RmsNormReferenceIdeal.Run
public import proofs.«01_k».proof.Proof.Gen.RmsNormReferenceIdeal.Read
public import proofs.«01_k».proof.Proof.LossSumValue
public import proofs.«01_k».proof.Proof.LossSumFrame
public import proofs.«01_k».proof.Proof.Gen.LossSumReferenceIdeal.Run
public import proofs.«01_k».proof.Proof.Gen.LossSumReferenceIdeal.Read
public import proofs.«01_k».proof.Defs
public import proofs.«01_k».proof.Proof.Gen.AttnIn
public import proofs.«01_k».proof.Proof.Gen.AttnIn.Skeleton
public import proofs.«01_k».proof.Proof.Gen.AttnIn.Launch
public import proofs.«01_k».proof.Proof.Gen.AttnIn.Points
public import proofs.«01_k».proof.Proof.Gen.AttnIn.Frame
public import proofs.«01_k».proof.Proof.Gen.AttnInIdeal
public import proofs.«01_k».proof.Proof.Gen.AttnInIdeal.Skeleton
public import proofs.«01_k».proof.Proof.Gen.AttnInIdeal.Launch
public import proofs.«01_k».proof.Proof.Gen.AttnInIdeal.Points
public import proofs.«01_k».proof.Proof.Gen.AttnInIdeal.Frame
public import proofs.«01_k».proof.Proof.Gen.AttnInReferenceIdeal
public import proofs.«01_k».proof.Proof.Gen.AttnWgrad
public import proofs.«01_k».proof.Proof.Gen.AttnWgrad.Skeleton
public import proofs.«01_k».proof.Proof.Gen.AttnWgrad.Launch
public import proofs.«01_k».proof.Proof.Gen.AttnWgrad.Points
public import proofs.«01_k».proof.Proof.Gen.AttnWgrad.Frame
public import proofs.«01_k».proof.Proof.Gen.AttnWgradIdeal
public import proofs.«01_k».proof.Proof.Gen.AttnWgradIdeal.Skeleton
public import proofs.«01_k».proof.Proof.Gen.AttnWgradIdeal.Launch
public import proofs.«01_k».proof.Proof.Gen.AttnWgradIdeal.Points
public import proofs.«01_k».proof.Proof.Gen.AttnWgradIdeal.Frame
public import proofs.«01_k».proof.Proof.Gen.AttnWgradReferenceIdeal
public import proofs.«01_k».proof.Proof.Gen.AttnDgrad
public import proofs.«01_k».proof.Proof.Gen.AttnDgrad.Skeleton
public import proofs.«01_k».proof.Proof.Gen.AttnDgrad.Launch
public import proofs.«01_k».proof.Proof.Gen.AttnDgrad.Points
public import proofs.«01_k».proof.Proof.Gen.AttnDgrad.Frame
public import proofs.«01_k».proof.Proof.Gen.AttnDgradIdeal
public import proofs.«01_k».proof.Proof.Gen.AttnDgradIdeal.Skeleton
public import proofs.«01_k».proof.Proof.Gen.AttnDgradIdeal.Launch
public import proofs.«01_k».proof.Proof.Gen.AttnDgradIdeal.Points
public import proofs.«01_k».proof.Proof.Gen.AttnDgradIdeal.Frame
public import proofs.«01_k».proof.Proof.Gen.AttnDgradReferenceIdeal
public import proofs.«01_k».proof.Proof.Gen.ConvAb
public import proofs.«01_k».proof.Proof.Gen.ConvAb.Skeleton
public import proofs.«01_k».proof.Proof.Gen.ConvAb.Launch
public import proofs.«01_k».proof.Proof.Gen.ConvAb.Points
public import proofs.«01_k».proof.Proof.Gen.ConvAb.Frame
public import proofs.«01_k».proof.Proof.Gen.ConvAbIdeal
public import proofs.«01_k».proof.Proof.Gen.ConvAbIdeal.Skeleton
public import proofs.«01_k».proof.Proof.Gen.ConvAbIdeal.Launch
public import proofs.«01_k».proof.Proof.Gen.ConvAbIdeal.Points
public import proofs.«01_k».proof.Proof.Gen.ConvAbIdeal.Frame
public import proofs.«01_k».proof.Proof.Gen.ConvAbReferenceIdeal
public import proofs.«01_k».proof.Proof.Gen.ConvZ
public import proofs.«01_k».proof.Proof.Gen.ConvZ.Skeleton
public import proofs.«01_k».proof.Proof.Gen.ConvZ.Launch
public import proofs.«01_k».proof.Proof.Gen.ConvZ.Points
public import proofs.«01_k».proof.Proof.Gen.ConvZ.Frame
public import proofs.«01_k».proof.Proof.Gen.ConvZIdeal
public import proofs.«01_k».proof.Proof.Gen.ConvZIdeal.Skeleton
public import proofs.«01_k».proof.Proof.Gen.ConvZIdeal.Launch
public import proofs.«01_k».proof.Proof.Gen.ConvZIdeal.Points
public import proofs.«01_k».proof.Proof.Gen.ConvZIdeal.Frame
public import proofs.«01_k».proof.Proof.Gen.ConvZReferenceIdeal
public import proofs.«01_k».proof.Proof.Gen.OutDgrad
public import proofs.«01_k».proof.Proof.Gen.OutDgrad.Skeleton
public import proofs.«01_k».proof.Proof.Gen.OutDgrad.Launch
public import proofs.«01_k».proof.Proof.Gen.OutDgrad.Points
public import proofs.«01_k».proof.Proof.Gen.OutDgrad.Frame
public import proofs.«01_k».proof.Proof.Gen.OutDgradIdeal
public import proofs.«01_k».proof.Proof.Gen.OutDgradIdeal.Skeleton
public import proofs.«01_k».proof.Proof.Gen.OutDgradIdeal.Launch
public import proofs.«01_k».proof.Proof.Gen.OutDgradIdeal.Points
public import proofs.«01_k».proof.Proof.Gen.OutDgradIdeal.Frame
public import proofs.«01_k».proof.Proof.Gen.OutDgradReferenceIdeal
public import proofs.«01_k».proof.Proof.Gen.OutWgrad
public import proofs.«01_k».proof.Proof.Gen.OutWgrad.Skeleton
public import proofs.«01_k».proof.Proof.Gen.OutWgrad.Launch
public import proofs.«01_k».proof.Proof.Gen.OutWgrad.Points
public import proofs.«01_k».proof.Proof.Gen.OutWgrad.Frame
public import proofs.«01_k».proof.Proof.Gen.OutWgradIdeal
public import proofs.«01_k».proof.Proof.Gen.OutWgradIdeal.Skeleton
public import proofs.«01_k».proof.Proof.Gen.OutWgradIdeal.Launch
public import proofs.«01_k».proof.Proof.Gen.OutWgradIdeal.Points
public import proofs.«01_k».proof.Proof.Gen.OutWgradIdeal.Frame
public import proofs.«01_k».proof.Proof.Gen.OutWgradReferenceIdeal
public import proofs.«01_k».proof.Proof.Gen.AbWgrad
public import proofs.«01_k».proof.Proof.Gen.AbWgrad.Skeleton
public import proofs.«01_k».proof.Proof.Gen.AbWgrad.Launch
public import proofs.«01_k».proof.Proof.Gen.AbWgrad.Points
public import proofs.«01_k».proof.Proof.Gen.AbWgrad.Frame
public import proofs.«01_k».proof.Proof.Gen.AbWgradIdeal
public import proofs.«01_k».proof.Proof.Gen.AbWgradIdeal.Skeleton
public import proofs.«01_k».proof.Proof.Gen.AbWgradIdeal.Launch
public import proofs.«01_k».proof.Proof.Gen.AbWgradIdeal.Points
public import proofs.«01_k».proof.Proof.Gen.AbWgradIdeal.Frame
public import proofs.«01_k».proof.Proof.Gen.AbWgradReferenceIdeal
public import proofs.«01_k».proof.Proof.Gen.GateWgrad
public import proofs.«01_k».proof.Proof.Gen.GateWgrad.Skeleton
public import proofs.«01_k».proof.Proof.Gen.GateWgrad.Launch
public import proofs.«01_k».proof.Proof.Gen.GateWgrad.Points
public import proofs.«01_k».proof.Proof.Gen.GateWgrad.Frame
public import proofs.«01_k».proof.Proof.Gen.GateWgradIdeal
public import proofs.«01_k».proof.Proof.Gen.GateWgradIdeal.Skeleton
public import proofs.«01_k».proof.Proof.Gen.GateWgradIdeal.Launch
public import proofs.«01_k».proof.Proof.Gen.GateWgradIdeal.Points
public import proofs.«01_k».proof.Proof.Gen.GateWgradIdeal.Frame
public import proofs.«01_k».proof.Proof.Gen.GateWgradReferenceIdeal
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdReferenceIdeal
public import proofs.«01_k».proof.Proof.Gen.PostFwd
public import proofs.«01_k».proof.Proof.Gen.PostFwd.Skeleton
public import proofs.«01_k».proof.Proof.Gen.PostFwd.Launch
public import proofs.«01_k».proof.Proof.Gen.PostFwd.Points
public import proofs.«01_k».proof.Proof.Gen.PostFwd.Frame
public import proofs.«01_k».proof.Proof.Gen.PostFwdIdeal
public import proofs.«01_k».proof.Proof.Gen.PostFwdIdeal.Skeleton
public import proofs.«01_k».proof.Proof.Gen.PostFwdIdeal.Launch
public import proofs.«01_k».proof.Proof.Gen.PostFwdIdeal.Points
public import proofs.«01_k».proof.Proof.Gen.PostFwdIdeal.Frame
public import proofs.«01_k».proof.Proof.Gen.PostFwdReferenceIdeal
public import proofs.«01_k».proof.Proof.Gen.ConvDgrad
public import proofs.«01_k».proof.Proof.Gen.ConvDgrad.Skeleton
public import proofs.«01_k».proof.Proof.Gen.ConvDgrad.Launch
public import proofs.«01_k».proof.Proof.Gen.ConvDgrad.Points
public import proofs.«01_k».proof.Proof.Gen.ConvDgrad.Frame
public import proofs.«01_k».proof.Proof.Gen.ConvDgradIdeal
public import proofs.«01_k».proof.Proof.Gen.ConvDgradIdeal.Skeleton
public import proofs.«01_k».proof.Proof.Gen.ConvDgradIdeal.Launch
public import proofs.«01_k».proof.Proof.Gen.ConvDgradIdeal.Points
public import proofs.«01_k».proof.Proof.Gen.ConvDgradIdeal.Frame
public import proofs.«01_k».proof.Proof.Gen.ConvDgradReferenceIdeal
public import proofs.«01_k».proof.Proof.Gen.PlePost
public import proofs.«01_k».proof.Proof.Gen.PlePost.Skeleton
public import proofs.«01_k».proof.Proof.Gen.PlePost.Launch
public import proofs.«01_k».proof.Proof.Gen.PlePost.Points
public import proofs.«01_k».proof.Proof.Gen.PlePost.Frame
public import proofs.«01_k».proof.Proof.Gen.PlePostIdeal
public import proofs.«01_k».proof.Proof.Gen.PlePostIdeal.Skeleton
public import proofs.«01_k».proof.Proof.Gen.PlePostIdeal.Launch
public import proofs.«01_k».proof.Proof.Gen.PlePostIdeal.Points
public import proofs.«01_k».proof.Proof.Gen.PlePostIdeal.Frame
public import proofs.«01_k».proof.Proof.Gen.PlePostReferenceIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossReferenceIdeal
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormReferenceIdeal
public import proofs.«01_k».proof.Proof.Gen.AdamAttnIn
public import proofs.«01_k».proof.Proof.Gen.AdamAttnIn.Skeleton
public import proofs.«01_k».proof.Proof.Gen.AdamAttnIn.Launch
public import proofs.«01_k».proof.Proof.Gen.AdamAttnIn.Points
public import proofs.«01_k».proof.Proof.Gen.AdamAttnIn.Frame
public import proofs.«01_k».proof.Proof.Gen.AdamAttnInIdeal
public import proofs.«01_k».proof.Proof.Gen.AdamAttnInIdeal.Skeleton
public import proofs.«01_k».proof.Proof.Gen.AdamAttnInIdeal.Launch
public import proofs.«01_k».proof.Proof.Gen.AdamAttnInIdeal.Points
public import proofs.«01_k».proof.Proof.Gen.AdamAttnInIdeal.Frame
public import proofs.«01_k».proof.Proof.Gen.AdamAttnInReferenceIdeal
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutReferenceIdeal
public import proofs.«01_k».proof.Proof.Gen.AdamConvIn
public import proofs.«01_k».proof.Proof.Gen.AdamConvIn.Skeleton
public import proofs.«01_k».proof.Proof.Gen.AdamConvIn.Launch
public import proofs.«01_k».proof.Proof.Gen.AdamConvIn.Points
public import proofs.«01_k».proof.Proof.Gen.AdamConvIn.Frame
public import proofs.«01_k».proof.Proof.Gen.AdamConvInIdeal
public import proofs.«01_k».proof.Proof.Gen.AdamConvInIdeal.Skeleton
public import proofs.«01_k».proof.Proof.Gen.AdamConvInIdeal.Launch
public import proofs.«01_k».proof.Proof.Gen.AdamConvInIdeal.Points
public import proofs.«01_k».proof.Proof.Gen.AdamConvInIdeal.Frame
public import proofs.«01_k».proof.Proof.Gen.AdamConvInReferenceIdeal
public import proofs.«01_k».proof.Proof.Gen.AdamConvTaps
public import proofs.«01_k».proof.Proof.Gen.AdamConvTaps.Skeleton
public import proofs.«01_k».proof.Proof.Gen.AdamConvTaps.Launch
public import proofs.«01_k».proof.Proof.Gen.AdamConvTaps.Points
public import proofs.«01_k».proof.Proof.Gen.AdamConvTaps.Frame
public import proofs.«01_k».proof.Proof.Gen.AdamConvTapsIdeal
public import proofs.«01_k».proof.Proof.Gen.AdamConvTapsIdeal.Skeleton
public import proofs.«01_k».proof.Proof.Gen.AdamConvTapsIdeal.Launch
public import proofs.«01_k».proof.Proof.Gen.AdamConvTapsIdeal.Points
public import proofs.«01_k».proof.Proof.Gen.AdamConvTapsIdeal.Frame
public import proofs.«01_k».proof.Proof.Gen.AdamConvTapsReferenceIdeal
public import proofs.«01_k».proof.Proof.Gen.AdamConvRow
public import proofs.«01_k».proof.Proof.Gen.AdamConvRow.Skeleton
public import proofs.«01_k».proof.Proof.Gen.AdamConvRow.Launch
public import proofs.«01_k».proof.Proof.Gen.AdamConvRow.Points
public import proofs.«01_k».proof.Proof.Gen.AdamConvRow.Frame
public import proofs.«01_k».proof.Proof.Gen.AdamConvRowIdeal
public import proofs.«01_k».proof.Proof.Gen.AdamConvRowIdeal.Skeleton
public import proofs.«01_k».proof.Proof.Gen.AdamConvRowIdeal.Launch
public import proofs.«01_k».proof.Proof.Gen.AdamConvRowIdeal.Points
public import proofs.«01_k».proof.Proof.Gen.AdamConvRowIdeal.Frame
public import proofs.«01_k».proof.Proof.Gen.AdamConvRowReferenceIdeal
public import proofs.«01_k».proof.Proof.Gen.AdamPleProj
public import proofs.«01_k».proof.Proof.Gen.AdamPleProj.Skeleton
public import proofs.«01_k».proof.Proof.Gen.AdamPleProj.Launch
public import proofs.«01_k».proof.Proof.Gen.AdamPleProj.Points
public import proofs.«01_k».proof.Proof.Gen.AdamPleProj.Frame
public import proofs.«01_k».proof.Proof.Gen.AdamPleProjIdeal
public import proofs.«01_k».proof.Proof.Gen.AdamPleProjIdeal.Skeleton
public import proofs.«01_k».proof.Proof.Gen.AdamPleProjIdeal.Launch
public import proofs.«01_k».proof.Proof.Gen.AdamPleProjIdeal.Points
public import proofs.«01_k».proof.Proof.Gen.AdamPleProjIdeal.Frame
public import proofs.«01_k».proof.Proof.Gen.AdamPleProjReferenceIdeal
public import proofs.«01_k».proof.Proof.Gen.AdamPleGate
public import proofs.«01_k».proof.Proof.Gen.AdamPleGate.Skeleton
public import proofs.«01_k».proof.Proof.Gen.AdamPleGate.Launch
public import proofs.«01_k».proof.Proof.Gen.AdamPleGate.Points
public import proofs.«01_k».proof.Proof.Gen.AdamPleGate.Frame
public import proofs.«01_k».proof.Proof.Gen.AdamPleGateIdeal
public import proofs.«01_k».proof.Proof.Gen.AdamPleGateIdeal.Skeleton
public import proofs.«01_k».proof.Proof.Gen.AdamPleGateIdeal.Launch
public import proofs.«01_k».proof.Proof.Gen.AdamPleGateIdeal.Points
public import proofs.«01_k».proof.Proof.Gen.AdamPleGateIdeal.Frame
public import proofs.«01_k».proof.Proof.Gen.AdamPleGateReferenceIdeal
public import proofs.«01_k».proof.Proof.Gen.PleProj
public import proofs.«01_k».proof.Proof.Gen.PleProj.Skeleton
public import proofs.«01_k».proof.Proof.Gen.PleProj.Launch
public import proofs.«01_k».proof.Proof.Gen.PleProj.Points
public import proofs.«01_k».proof.Proof.Gen.PleProj.Frame
public import proofs.«01_k».proof.Proof.Gen.PleProjIdeal
public import proofs.«01_k».proof.Proof.Gen.PleProjIdeal.Skeleton
public import proofs.«01_k».proof.Proof.Gen.PleProjIdeal.Launch
public import proofs.«01_k».proof.Proof.Gen.PleProjIdeal.Points
public import proofs.«01_k».proof.Proof.Gen.PleProjIdeal.Frame
public import proofs.«01_k».proof.Proof.Gen.PleProjReferenceIdeal
public import proofs.«01_k».proof.Proof.Gen.PleWgrad
public import proofs.«01_k».proof.Proof.Gen.PleWgrad.Skeleton
public import proofs.«01_k».proof.Proof.Gen.PleWgrad.Launch
public import proofs.«01_k».proof.Proof.Gen.PleWgrad.Points
public import proofs.«01_k».proof.Proof.Gen.PleWgrad.Frame
public import proofs.«01_k».proof.Proof.Gen.PleWgradIdeal
public import proofs.«01_k».proof.Proof.Gen.PleWgradIdeal.Skeleton
public import proofs.«01_k».proof.Proof.Gen.PleWgradIdeal.Launch
public import proofs.«01_k».proof.Proof.Gen.PleWgradIdeal.Points
public import proofs.«01_k».proof.Proof.Gen.PleWgradIdeal.Frame
public import proofs.«01_k».proof.Proof.Gen.PleWgradReferenceIdeal
public import proofs.«01_k».proof.Proof.Gen.RmsNorm
public import proofs.«01_k».proof.Proof.Gen.RmsNorm.Skeleton
public import proofs.«01_k».proof.Proof.Gen.RmsNorm.Launch
public import proofs.«01_k».proof.Proof.Gen.RmsNorm.Points
public import proofs.«01_k».proof.Proof.Gen.RmsNorm.Frame
public import proofs.«01_k».proof.Proof.Gen.RmsNormIdeal
public import proofs.«01_k».proof.Proof.Gen.RmsNormIdeal.Skeleton
public import proofs.«01_k».proof.Proof.Gen.RmsNormIdeal.Launch
public import proofs.«01_k».proof.Proof.Gen.RmsNormIdeal.Points
public import proofs.«01_k».proof.Proof.Gen.RmsNormIdeal.Frame
public import proofs.«01_k».proof.Proof.Gen.RmsNormReferenceIdeal
public import proofs.«01_k».proof.Proof.Gen.GateBwd
public import proofs.«01_k».proof.Proof.Gen.GateBwd.Frame
public import proofs.«01_k».proof.Proof.Gen.GateBwdIdeal.Frame
public import proofs.«01_k».proof.Proof.Gen.Pre_finite_product
public import proofs.«01_k».proof.Proof.Gen.ConvNormBwd
public import proofs.«01_k».proof.Proof.Gen.ConvNormBwd.Frame
public import proofs.«01_k».proof.Proof.Gen.ConvNormBwdIdeal.Frame
public import proofs.«01_k».proof.Proof.Gen.Pre_finite_rows
public import proofs.«01_k».proof.Proof.Gen.AttnCombine
public import proofs.«01_k».proof.Proof.Gen.AttnCombine.Frame
public import proofs.«01_k».proof.Proof.Gen.AttnCombineIdeal.Frame
public import proofs.«01_k».proof.Proof.Gen.LossSum
public import proofs.«01_k».proof.Proof.Gen.LossSum.Skeleton
public import proofs.«01_k».proof.Proof.Gen.LossSum.Launch
public import proofs.«01_k».proof.Proof.Gen.LossSum.Points
public import proofs.«01_k».proof.Proof.Gen.LossSumIdeal
public import proofs.«01_k».proof.Proof.Gen.LossSumIdeal.Skeleton
public import proofs.«01_k».proof.Proof.Gen.LossSumIdeal.Launch
public import proofs.«01_k».proof.Proof.Gen.LossSumIdeal.Points
public import proofs.«01_k».proof.Proof.Gen.LossSumReferenceIdeal
public import Idealize.ShloMosaic.Adequacy
public import Idealize.ShloMosaic.Init

@[expose] public section

noncomputable section

namespace Cert.Proof

open Idealize.ShloMosaic Idealize.SL.Sem Cert.AttnIn

theorem claim : Cert.Claim := ⟨Cert.AttnIn.Gen.facts, Cert.AttnInIdeal.Gen.facts, Cert.AttnInReferenceIdeal.Gen.facts, Cert.AttnWgrad.Gen.facts, Cert.AttnWgradIdeal.Gen.facts, Cert.AttnWgradReferenceIdeal.Gen.facts, Cert.AttnDgrad.Gen.facts, Cert.AttnDgradIdeal.Gen.facts, Cert.AttnDgradReferenceIdeal.Gen.facts, Cert.ConvAb.Gen.facts, Cert.ConvAbIdeal.Gen.facts, Cert.ConvAbReferenceIdeal.Gen.facts, Cert.ConvZ.Gen.facts, Cert.ConvZIdeal.Gen.facts, Cert.ConvZReferenceIdeal.Gen.facts, Cert.OutDgrad.Gen.facts, Cert.OutDgradIdeal.Gen.facts, Cert.OutDgradReferenceIdeal.Gen.facts, Cert.OutWgrad.Gen.facts, Cert.OutWgradIdeal.Gen.facts, Cert.OutWgradReferenceIdeal.Gen.facts, Cert.AbWgrad.Gen.facts, Cert.AbWgradIdeal.Gen.facts, Cert.AbWgradReferenceIdeal.Gen.facts, Cert.GateWgrad.Gen.facts, Cert.GateWgradIdeal.Gen.facts, Cert.GateWgradReferenceIdeal.Gen.facts, Cert.GateFwd.Gen.facts, Cert.GateFwdIdeal.Gen.facts, Cert.GateFwdReferenceIdeal.Gen.facts, Cert.PostFwd.Gen.facts, Cert.PostFwdIdeal.Gen.facts, Cert.PostFwdReferenceIdeal.Gen.facts, Cert.ConvDgrad.Gen.facts, Cert.ConvDgradIdeal.Gen.facts, Cert.ConvDgradReferenceIdeal.Gen.facts, Cert.PlePost.Gen.facts, Cert.PlePostIdeal.Gen.facts, Cert.PlePostReferenceIdeal.Gen.facts, Cert.Loss.Gen.facts, Cert.LossIdeal.Gen.facts, Cert.LossReferenceIdeal.Gen.facts, Cert.AdamNorm.Gen.facts, Cert.AdamNormIdeal.Gen.facts, Cert.AdamNormReferenceIdeal.Gen.facts, Cert.AdamAttnIn.Gen.facts, Cert.AdamAttnInIdeal.Gen.facts, Cert.AdamAttnInReferenceIdeal.Gen.facts, Cert.AdamOut.Gen.facts, Cert.AdamOutIdeal.Gen.facts, Cert.AdamOutReferenceIdeal.Gen.facts, Cert.AdamConvIn.Gen.facts, Cert.AdamConvInIdeal.Gen.facts, Cert.AdamConvInReferenceIdeal.Gen.facts, Cert.AdamConvTaps.Gen.facts, Cert.AdamConvTapsIdeal.Gen.facts, Cert.AdamConvTapsReferenceIdeal.Gen.facts, Cert.AdamConvRow.Gen.facts, Cert.AdamConvRowIdeal.Gen.facts, Cert.AdamConvRowReferenceIdeal.Gen.facts, Cert.AdamPleProj.Gen.facts, Cert.AdamPleProjIdeal.Gen.facts, Cert.AdamPleProjReferenceIdeal.Gen.facts, Cert.AdamPleGate.Gen.facts, Cert.AdamPleGateIdeal.Gen.facts, Cert.AdamPleGateReferenceIdeal.Gen.facts, Cert.PleProj.Gen.facts, Cert.PleProjIdeal.Gen.facts, Cert.PleProjReferenceIdeal.Gen.facts, Cert.PleWgrad.Gen.facts, Cert.PleWgradIdeal.Gen.facts, Cert.PleWgradReferenceIdeal.Gen.facts, Cert.RmsNorm.Gen.facts, Cert.RmsNormIdeal.Gen.facts, Cert.RmsNormReferenceIdeal.Gen.facts, Cert.LossSum.Gen.facts, Cert.LossSumIdeal.Gen.facts, Cert.LossSumReferenceIdeal.Gen.facts, Cert.AttnCombine.Gen.facts, Cert.AttnCombineIdeal.Gen.facts, Cert.AttnCombineReferenceIdeal.Gen.facts, Cert.GateBwd.Gen.facts, Cert.GateBwdIdeal.Gen.facts, Cert.GateBwdReferenceIdeal.Gen.facts, Cert.ConvNormBwd.Gen.facts, Cert.ConvNormBwdIdeal.Gen.facts, Cert.ConvNormBwdReferenceIdeal.Gen.facts, Cert.Pre_finite_logsums.Gen.facts, Cert.Pre_finite_product.Gen.facts, Cert.Pre_finite_rows.Gen.facts,
    fun m ρ _ => Cert.AttnIn.Gen.frame m ρ,
    fun m ρ _ => Cert.AttnInIdeal.Gen.frame m ρ,
    fun m ρ _ => (θ_run Cert.AttnInReferenceIdeal.defs _ _).mono (fun r h => ⟨fun c => (h c).2, sem_eq_zero_of_no_sems (by decide) r.2⟩) (Cert.AttnInReferenceIdeal.Value.run m ρ),
    fun m ρ _ => Cert.AttnWgrad.Gen.frame m ρ,
    fun m ρ _ => Cert.AttnWgradIdeal.Gen.frame m ρ,
    fun m ρ _ => (θ_run Cert.AttnWgradReferenceIdeal.defs _ _).mono (fun r h => ⟨fun c => (h c).2, sem_eq_zero_of_no_sems (by decide) r.2⟩) (Cert.AttnWgradReferenceIdeal.Value.run m ρ),
    fun m ρ _ => Cert.AttnDgrad.Gen.frame m ρ,
    fun m ρ _ => Cert.AttnDgradIdeal.Gen.frame m ρ,
    fun m ρ _ => (θ_run Cert.AttnDgradReferenceIdeal.defs _ _).mono (fun r h => ⟨fun c => (h c).2.2, sem_eq_zero_of_no_sems (by decide) r.2⟩) (Cert.AttnDgradReferenceIdeal.Value.run m ρ),
    fun m ρ _ => Cert.ConvAb.Gen.frame m ρ,
    fun m ρ _ => Cert.ConvAbIdeal.Gen.frame m ρ,
    fun m ρ _ => (θ_run Cert.ConvAbReferenceIdeal.defs _ _).mono (fun r h => ⟨fun c => (h c).2, sem_eq_zero_of_no_sems (by decide) r.2⟩) (Cert.ConvAbReferenceIdeal.Value.run m ρ),
    fun m ρ _ => Cert.ConvZ.Gen.frame m ρ,
    fun m ρ _ => Cert.ConvZIdeal.Gen.frame m ρ,
    fun m ρ _ => (θ_run Cert.ConvZReferenceIdeal.defs _ _).mono (fun r h => ⟨fun c => (h c).2, sem_eq_zero_of_no_sems (by decide) r.2⟩) (Cert.ConvZReferenceIdeal.Value.run m ρ),
    fun m ρ _ => Cert.OutDgrad.Gen.frame m ρ,
    fun m ρ _ => Cert.OutDgradIdeal.Gen.frame m ρ,
    fun m ρ _ => (θ_run Cert.OutDgradReferenceIdeal.defs _ _).mono (fun r h => ⟨fun c => (h c).2, sem_eq_zero_of_no_sems (by decide) r.2⟩) (Cert.OutDgradReferenceIdeal.Value.run m ρ),
    fun m ρ _ => Cert.OutWgrad.Gen.frame m ρ,
    fun m ρ _ => Cert.OutWgradIdeal.Gen.frame m ρ,
    fun m ρ _ => (θ_run Cert.OutWgradReferenceIdeal.defs _ _).mono (fun r h => ⟨fun c => (h c).2, sem_eq_zero_of_no_sems (by decide) r.2⟩) (Cert.OutWgradReferenceIdeal.Value.run m ρ),
    fun m ρ _ => Cert.AbWgrad.Gen.frame m ρ,
    fun m ρ _ => Cert.AbWgradIdeal.Gen.frame m ρ,
    fun m ρ _ => (θ_run Cert.AbWgradReferenceIdeal.defs _ _).mono (fun r h => ⟨fun c => (h c).2, sem_eq_zero_of_no_sems (by decide) r.2⟩) (Cert.AbWgradReferenceIdeal.Value.run m ρ),
    fun m ρ _ => Cert.GateWgrad.Gen.frame m ρ,
    fun m ρ _ => Cert.GateWgradIdeal.Gen.frame m ρ,
    fun m ρ _ => (θ_run Cert.GateWgradReferenceIdeal.defs _ _).mono (fun r h => ⟨fun c => (h c).2, sem_eq_zero_of_no_sems (by decide) r.2⟩) (Cert.GateWgradReferenceIdeal.Value.run m ρ),
    fun m ρ _ => Cert.GateFwd.Gen.frame m ρ,
    fun m ρ _ => Cert.GateFwdIdeal.Gen.frame m ρ,
    fun m ρ _ => (θ_run Cert.GateFwdReferenceIdeal.defs _ _).mono (fun r h => ⟨fun c => (h c).2.2, sem_eq_zero_of_no_sems (by decide) r.2⟩) (Cert.GateFwdReferenceIdeal.Value.run m ρ),
    fun m ρ _ => Cert.PostFwd.Gen.frame m ρ,
    fun m ρ _ => Cert.PostFwdIdeal.Gen.frame m ρ,
    fun m ρ _ => (θ_run Cert.PostFwdReferenceIdeal.defs _ _).mono (fun r h => ⟨fun c => (h c).2.2, sem_eq_zero_of_no_sems (by decide) r.2⟩) (Cert.PostFwdReferenceIdeal.Value.run m ρ),
    fun m ρ _ => Cert.ConvDgrad.Gen.frame m ρ,
    fun m ρ _ => Cert.ConvDgradIdeal.Gen.frame m ρ,
    fun m ρ _ => (θ_run Cert.ConvDgradReferenceIdeal.defs _ _).mono (fun r h => ⟨fun c => (h c).2.2, sem_eq_zero_of_no_sems (by decide) r.2⟩) (Cert.ConvDgradReferenceIdeal.Value.run m ρ),
    fun m ρ _ => Cert.PlePost.Gen.frame m ρ,
    fun m ρ _ => Cert.PlePostIdeal.Gen.frame m ρ,
    fun m ρ _ => (θ_run Cert.PlePostReferenceIdeal.defs _ _).mono (fun r h => ⟨fun c => (h c).2.2.2.2.2, sem_eq_zero_of_no_sems (by decide) r.2⟩) (Cert.PlePostReferenceIdeal.Value.run m ρ),
    fun m ρ _ => Cert.Loss.Gen.frame m ρ,
    fun m ρ _ => Cert.LossIdeal.Gen.frame m ρ,
    fun m ρ _ => (θ_run Cert.LossReferenceIdeal.defs _ _).mono (fun r h => ⟨fun c => (h c).2.2, sem_eq_zero_of_no_sems (by decide) r.2⟩) (Cert.LossReferenceIdeal.Value.run m ρ),
    fun m ρ _ => Cert.AdamNorm.Gen.frame m ρ,
    fun m ρ _ => Cert.AdamNormIdeal.Gen.frame m ρ,
    fun m ρ _ => (θ_run Cert.AdamNormReferenceIdeal.defs _ _).mono (fun r h => ⟨fun c => (h c).2.2.2, sem_eq_zero_of_no_sems (by decide) r.2⟩) (Cert.AdamNormReferenceIdeal.Value.run m ρ),
    fun m ρ _ => Cert.AdamAttnIn.Gen.frame m ρ,
    fun m ρ _ => Cert.AdamAttnInIdeal.Gen.frame m ρ,
    fun m ρ _ => (θ_run Cert.AdamAttnInReferenceIdeal.defs _ _).mono (fun r h => ⟨fun c => (h c).2.2.2, sem_eq_zero_of_no_sems (by decide) r.2⟩) (Cert.AdamAttnInReferenceIdeal.Value.run m ρ),
    fun m ρ _ => Cert.AdamOut.Gen.frame m ρ,
    fun m ρ _ => Cert.AdamOutIdeal.Gen.frame m ρ,
    fun m ρ _ => (θ_run Cert.AdamOutReferenceIdeal.defs _ _).mono (fun r h => ⟨fun c => (h c).2.2.2, sem_eq_zero_of_no_sems (by decide) r.2⟩) (Cert.AdamOutReferenceIdeal.Value.run m ρ),
    fun m ρ _ => Cert.AdamConvIn.Gen.frame m ρ,
    fun m ρ _ => Cert.AdamConvInIdeal.Gen.frame m ρ,
    fun m ρ _ => (θ_run Cert.AdamConvInReferenceIdeal.defs _ _).mono (fun r h => ⟨fun c => (h c).2.2.2, sem_eq_zero_of_no_sems (by decide) r.2⟩) (Cert.AdamConvInReferenceIdeal.Value.run m ρ),
    fun m ρ _ => Cert.AdamConvTaps.Gen.frame m ρ,
    fun m ρ _ => Cert.AdamConvTapsIdeal.Gen.frame m ρ,
    fun m ρ _ => (θ_run Cert.AdamConvTapsReferenceIdeal.defs _ _).mono (fun r h => ⟨fun c => (h c).2.2.2, sem_eq_zero_of_no_sems (by decide) r.2⟩) (Cert.AdamConvTapsReferenceIdeal.Value.run m ρ),
    fun m ρ _ => Cert.AdamConvRow.Gen.frame m ρ,
    fun m ρ _ => Cert.AdamConvRowIdeal.Gen.frame m ρ,
    fun m ρ _ => (θ_run Cert.AdamConvRowReferenceIdeal.defs _ _).mono (fun r h => ⟨fun c => (h c).2.2.2, sem_eq_zero_of_no_sems (by decide) r.2⟩) (Cert.AdamConvRowReferenceIdeal.Value.run m ρ),
    fun m ρ _ => Cert.AdamPleProj.Gen.frame m ρ,
    fun m ρ _ => Cert.AdamPleProjIdeal.Gen.frame m ρ,
    fun m ρ _ => (θ_run Cert.AdamPleProjReferenceIdeal.defs _ _).mono (fun r h => ⟨fun c => (h c).2.2.2, sem_eq_zero_of_no_sems (by decide) r.2⟩) (Cert.AdamPleProjReferenceIdeal.Value.run m ρ),
    fun m ρ _ => Cert.AdamPleGate.Gen.frame m ρ,
    fun m ρ _ => Cert.AdamPleGateIdeal.Gen.frame m ρ,
    fun m ρ _ => (θ_run Cert.AdamPleGateReferenceIdeal.defs _ _).mono (fun r h => ⟨fun c => (h c).2.2.2, sem_eq_zero_of_no_sems (by decide) r.2⟩) (Cert.AdamPleGateReferenceIdeal.Value.run m ρ),
    fun m ρ _ => Cert.PleProj.Gen.frame m ρ,
    fun m ρ _ => Cert.PleProjIdeal.Gen.frame m ρ,
    fun m ρ _ => (θ_run Cert.PleProjReferenceIdeal.defs _ _).mono (fun r h => ⟨fun c => (h c).2, sem_eq_zero_of_no_sems (by decide) r.2⟩) (Cert.PleProjReferenceIdeal.Value.run m ρ),
    fun m ρ _ => Cert.PleWgrad.Gen.frame m ρ,
    fun m ρ _ => Cert.PleWgradIdeal.Gen.frame m ρ,
    fun m ρ _ => (θ_run Cert.PleWgradReferenceIdeal.defs _ _).mono (fun r h => ⟨fun c => (h c).2, sem_eq_zero_of_no_sems (by decide) r.2⟩) (Cert.PleWgradReferenceIdeal.Value.run m ρ),
    fun m ρ _ => Cert.RmsNorm.Gen.frame m ρ,
    fun m ρ _ => Cert.RmsNormIdeal.Gen.frame m ρ,
    fun m ρ _ => (θ_run Cert.RmsNormReferenceIdeal.defs _ _).mono (fun r h => ⟨fun c => (h c).2, sem_eq_zero_of_no_sems (by decide) r.2⟩) (Cert.RmsNormReferenceIdeal.Value.run m ρ),
    fun m ρ _ => Cert.LossSum.Hand.frame m ρ,
    fun m ρ _ => Cert.LossSumIdeal.Hand.frame m ρ,
    fun m ρ _ => (θ_run Cert.LossSumReferenceIdeal.defs _ _).mono (fun r h => ⟨fun c => (h c).2, sem_eq_zero_of_no_sems (by decide) r.2⟩) (Cert.LossSumReferenceIdeal.Value.run m ρ),
    fun m ρ _ => Cert.AttnCombine.Gen.frame m ρ,
    fun m ρ _ => Cert.AttnCombineIdeal.Gen.frame m ρ,
    fun m ρ _ => Cert.AttnCombineIdeal.Gen.frame m ρ,
    fun m ρ _ => (θ_run Cert.AttnCombineReferenceIdeal.defs _ _).mono (fun r h => ⟨fun c => (h c).2.2.2, sem_eq_zero_of_no_sems (by decide) r.2⟩) (Cert.AttnCombineReferenceIdeal.Value.run m ρ),
    fun m ρ _ => (θ_run Cert.AttnCombineReferenceIdeal.defs _ _).mono (fun r h => ⟨fun c => (h c).2.2.2, sem_eq_zero_of_no_sems (by decide) r.2⟩) (Cert.AttnCombineReferenceIdeal.Value.run m ρ),
    fun m ρ _ => Cert.GateBwd.Gen.frame m ρ,
    fun m ρ _ => Cert.GateBwdIdeal.Gen.frame m ρ,
    fun m ρ _ => Cert.GateBwdIdeal.Gen.frame m ρ,
    fun m ρ _ => (θ_run Cert.GateBwdReferenceIdeal.defs _ _).mono (fun r h => ⟨fun c => (h c).2.2, sem_eq_zero_of_no_sems (by decide) r.2⟩) (Cert.GateBwdReferenceIdeal.Value.run m ρ),
    fun m ρ _ => (θ_run Cert.GateBwdReferenceIdeal.defs _ _).mono (fun r h => ⟨fun c => (h c).2.2, sem_eq_zero_of_no_sems (by decide) r.2⟩) (Cert.GateBwdReferenceIdeal.Value.run m ρ),
    fun m ρ _ => Cert.ConvNormBwd.Gen.frame m ρ,
    fun m ρ _ => Cert.ConvNormBwdIdeal.Gen.frame m ρ,
    fun m ρ _ => Cert.ConvNormBwdIdeal.Gen.frame m ρ,
    fun m ρ _ => (θ_run Cert.ConvNormBwdReferenceIdeal.defs _ _).mono (fun r h => ⟨fun c => (h c).2.2.2.2, sem_eq_zero_of_no_sems (by decide) r.2⟩) (Cert.ConvNormBwdReferenceIdeal.Value.run m ρ),
    fun m ρ _ => (θ_run Cert.ConvNormBwdReferenceIdeal.defs _ _).mono (fun r h => ⟨fun c => (h c).2.2.2.2, sem_eq_zero_of_no_sems (by decide) r.2⟩) (Cert.ConvNormBwdReferenceIdeal.Value.run m ρ),
    trivial,
    Cert.AttnInIdeal.Hand.equal,
    trivial,
    Cert.AttnWgradIdeal.Hand.equal,
    trivial,
    Cert.AttnDgradIdeal.Hand.equal,
    trivial,
    Cert.ConvAbIdeal.Hand.equal,
    trivial,
    Cert.ConvZIdeal.Hand.equal,
    trivial,
    Cert.OutDgradIdeal.Hand.equal,
    trivial,
    Cert.OutWgradIdeal.Hand.equal,
    trivial,
    Cert.AbWgradIdeal.Hand.equal,
    trivial,
    Cert.GateWgradIdeal.Hand.equal,
    trivial,
    Cert.GateFwdIdeal.Hand.equal,
    trivial,
    Cert.PostFwdIdeal.Hand.equal,
    trivial,
    Cert.ConvDgradIdeal.Hand.equal,
    trivial,
    Cert.PlePostIdeal.Hand.equal,
    trivial,
    Cert.LossIdeal.Hand.equal,
    trivial,
    Cert.AdamNormIdeal.Hand.equal,
    trivial,
    Cert.AdamAttnInIdeal.Hand.equal,
    trivial,
    Cert.AdamOutIdeal.Hand.equal,
    trivial,
    Cert.AdamConvInIdeal.Hand.equal,
    trivial,
    Cert.AdamConvTapsIdeal.Hand.equal,
    trivial,
    Cert.AdamConvRowIdeal.Hand.equal,
    trivial,
    Cert.AdamPleProjIdeal.Hand.equal,
    trivial,
    Cert.AdamPleGateIdeal.Hand.equal,
    trivial,
    Cert.PleProjIdeal.Hand.equal,
    trivial,
    Cert.PleWgradIdeal.Hand.equal,
    trivial,
    Cert.RmsNormIdeal.Hand.equal,
    trivial,
    Cert.LossSumIdeal.Hand.equal,
    trivial,
    Cert.AttnCombineIdeal.Hand.equal,
    trivial,
    Cert.GateBwdIdeal.Hand.equal,
    trivial,
    Cert.ConvNormBwdIdeal.Hand.equal⟩

end Cert.Proof

end
